-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_in [hPre_finite_in : Cert.Pre_finite_in.Facts] (m : (ℓ : Loc Cert.InIdeal.nD Cert.InIdeal.τ Cert.InIdeal.sig) → Buf (Elt Ideal) ℓ) : Prop :=
  ∀ c : Dev Cert.InIdeal.nD,
    (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1))).1 = (fun _ => 1#1)
    ∧ (Cert.Pre_finite_in.fn (F := Ideal) (m ((c.tc : Thread Cert.InIdeal.nD Cert.InIdeal.τ).loc Cert.InIdeal.main_arg0)) (m ((c.tc : Thread Cert.InIdeal.nD Cert.InIdeal.τ).loc Cert.InIdeal.main_arg1))).2 = (fun _ => 1#1)

def Pre_InRefIdeal (m : (ℓ : Loc Cert.InRefIdeal.nD Cert.InRefIdeal.τ Cert.InRefIdeal.sig) → Buf (Elt Ideal) ℓ) : Prop :=
  True

def Pre_InRefIdeal_finite_in [hPre_finite_in : Cert.Pre_finite_in.Facts] (m : (ℓ : Loc Cert.InRefIdeal.nD Cert.InRefIdeal.τ Cert.InRefIdeal.sig) → Buf (Elt Ideal) ℓ) : Prop :=
  ∀ c : Dev Cert.InRefIdeal.nD,
    (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1))).1 = (fun _ => 1#1)
    ∧ (Cert.Pre_finite_in.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1))).2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaIdeal_finite_da [hPre_finite_da : Cert.Pre_finite_da.Facts] (m : (ℓ : Loc Cert.DaIdeal.nD Cert.DaIdeal.τ Cert.DaIdeal.sig) → Buf (Elt Ideal) ℓ) : Prop :=
  ∀ c : Dev Cert.DaIdeal.nD,
    (Cert.Pre_finite_da.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2))).1 = (fun _ => 1#1)
    ∧ (Cert.Pre_finite_da.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2))).2.1 = (fun _ => 1#1)
    ∧ (Cert.Pre_finite_da.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2))).2.2 = (fun _ => 1#1)

def Pre_DaRefIdeal (m : (ℓ : Loc Cert.DaRefIdeal.nD Cert.DaRefIdeal.τ Cert.DaRefIdeal.sig) → Buf (Elt Ideal) ℓ) : Prop :=
  True

def Pre_DaRefIdeal_finite_da [hPre_finite_da : Cert.Pre_finite_da.Facts] (m : (ℓ : Loc Cert.DaRefIdeal.nD Cert.DaRefIdeal.τ Cert.DaRefIdeal.sig) → Buf (Elt Ideal) ℓ) : Prop :=
  ∀ c : Dev Cert.DaRefIdeal.nD,
    (Cert.Pre_finite_da.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2))).1 = (fun _ => 1#1)
    ∧ (Cert.Pre_finite_da.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2))).2.1 = (fun _ => 1#1)
    ∧ (Cert.Pre_finite_da.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2))).2.2 = (fun _ => 1#1)

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_DwoutAdd (m : (ℓ : Loc Cert.DwoutAdd.nD Cert.DwoutAdd.τ Cert.DwoutAdd.sig) → Buf (Elt Bits) ℓ) : Prop :=
  True

def Pre_DwoutAddIdeal (m : (ℓ : Loc Cert.DwoutAddIdeal.nD Cert.DwoutAddIdeal.τ Cert.DwoutAddIdeal.sig) → Buf (Elt Ideal) ℓ) : Prop :=
  True

def Pre_DwoutAddRefIdeal (m : (ℓ : Loc Cert.DwoutAddRefIdeal.nD Cert.DwoutAddRefIdeal.τ Cert.DwoutAddRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_DwinAdd (m : (ℓ : Loc Cert.DwinAdd.nD Cert.DwinAdd.τ Cert.DwinAdd.sig) → Buf (Elt Bits) ℓ) : Prop :=
  True

def Pre_DwinAddIdeal (m : (ℓ : Loc Cert.DwinAddIdeal.nD Cert.DwinAddIdeal.τ Cert.DwinAddIdeal.sig) → Buf (Elt Ideal) ℓ) : Prop :=
  True

def Pre_DwinAddRefIdeal (m : (ℓ : Loc Cert.DwinAddRefIdeal.nD Cert.DwinAddRefIdeal.τ Cert.DwinAddRefIdeal.sig) → Buf (Elt Ideal) ℓ) : Prop :=
  True

def Pre_MixMm (m : (ℓ : Loc Cert.MixMm.nD Cert.MixMm.τ Cert.MixMm.sig) → Buf (Elt Bits) ℓ) : Prop :=
  True

def Pre_MixMmIdeal (m : (ℓ : Loc Cert.MixMmIdeal.nD Cert.MixMmIdeal.τ Cert.MixMmIdeal.sig) → Buf (Elt Ideal) ℓ) : Prop :=
  True

def Pre_MixMmRefIdeal (m : (ℓ : Loc Cert.MixMmRefIdeal.nD Cert.MixMmRefIdeal.τ Cert.MixMmRefIdeal.sig) → Buf (Elt Ideal) ℓ) : Prop :=
  True

def Pre_MixDh (m : (ℓ : Loc Cert.MixDh.nD Cert.MixDh.τ Cert.MixDh.sig) → Buf (Elt Bits) ℓ) : Prop :=
  True

def Pre_MixDhIdeal (m : (ℓ : Loc Cert.MixDhIdeal.nD Cert.MixDhIdeal.τ Cert.MixDhIdeal.sig) → Buf (Elt Ideal) ℓ) : Prop :=
  True

def Pre_MixDhRefIdeal (m : (ℓ : Loc Cert.MixDhRefIdeal.nD Cert.MixDhRefIdeal.τ Cert.MixDhRefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_MixoMm (m : (ℓ : Loc Cert.MixoMm.nD Cert.MixoMm.τ Cert.MixoMm.sig) → Buf (Elt Bits) ℓ) : Prop :=
  True

def Pre_MixoMmIdeal (m : (ℓ : Loc Cert.MixoMmIdeal.nD Cert.MixoMmIdeal.τ Cert.MixoMmIdeal.sig) → Buf (Elt Ideal) ℓ) : Prop :=
  True

def Pre_MixoMmRefIdeal (m : (ℓ : Loc Cert.MixoMmRefIdeal.nD Cert.MixoMmRefIdeal.τ Cert.MixoMmRefIdeal.sig) → Buf (Elt Ideal) ℓ) : Prop :=
  True

def Pre_MixoDa (m : (ℓ : Loc Cert.MixoDa.nD Cert.MixoDa.τ Cert.MixoDa.sig) → Buf (Elt Bits) ℓ) : Prop :=
  True

def Pre_MixoDaIdeal (m : (ℓ : Loc Cert.MixoDaIdeal.nD Cert.MixoDaIdeal.τ Cert.MixoDaIdeal.sig) → Buf (Elt Ideal) ℓ) : Prop :=
  True

def Pre_MixoDaRefIdeal (m : (ℓ : Loc Cert.MixoDaRefIdeal.nD Cert.MixoDaRefIdeal.τ Cert.MixoDaRefIdeal.sig) → Buf (Elt Ideal) ℓ) : Prop :=
  True

def Pre_MixoDw (m : (ℓ : Loc Cert.MixoDw.nD Cert.MixoDw.τ Cert.MixoDw.sig) → Buf (Elt Bits) ℓ) : Prop :=
  True

def Pre_MixoDwIdeal (m : (ℓ : Loc Cert.MixoDwIdeal.nD Cert.MixoDwIdeal.τ Cert.MixoDwIdeal.sig) → Buf (Elt Ideal) ℓ) : Prop :=
  True

def Pre_MixoDwRefIdeal (m : (ℓ : Loc Cert.MixoDwRefIdeal.nD Cert.MixoDwRefIdeal.τ Cert.MixoDwRefIdeal.sig) → Buf (Elt Ideal) ℓ) : Prop :=
  True

def Pre_UqMm (m : (ℓ : Loc Cert.UqMm.nD Cert.UqMm.τ Cert.UqMm.sig) → Buf (Elt Bits) ℓ) : Prop :=
  True

def Pre_UqMmIdeal (m : (ℓ : Loc Cert.UqMmIdeal.nD Cert.UqMmIdeal.τ Cert.UqMmIdeal.sig) → Buf (Elt Ideal) ℓ) : Prop :=
  True

def Pre_UqMmRefIdeal (m : (ℓ : Loc Cert.UqMmRefIdeal.nD Cert.UqMmRefIdeal.τ Cert.UqMmRefIdeal.sig) → Buf (Elt Ideal) ℓ) : Prop :=
  True

def Pre_UqDh (m : (ℓ : Loc Cert.UqDh.nD Cert.UqDh.τ Cert.UqDh.sig) → Buf (Elt Bits) ℓ) : Prop :=
  True

def Pre_UqDhIdeal (m : (ℓ : Loc Cert.UqDhIdeal.nD Cert.UqDhIdeal.τ Cert.UqDhIdeal.sig) → Buf (Elt Ideal) ℓ) : Prop :=
  True

def Pre_UqDhRefIdeal (m : (ℓ : Loc Cert.UqDhRefIdeal.nD Cert.UqDhRefIdeal.τ Cert.UqDhRefIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwRefIdeal (m : (ℓ : Loc Cert.UqDwRefIdeal.nD Cert.UqDwRefIdeal.τ Cert.UqDwRefIdeal.sig) → Buf (Elt Ideal) ℓ) : Prop :=
  True

def Pre_UkvMm (m : (ℓ : Loc Cert.UkvMm.nD Cert.UkvMm.τ Cert.UkvMm.sig) → Buf (Elt Bits) ℓ) : Prop :=
  True

def Pre_UkvMmIdeal (m : (ℓ : Loc Cert.UkvMmIdeal.nD Cert.UkvMmIdeal.τ Cert.UkvMmIdeal.sig) → Buf (Elt Ideal) ℓ) : Prop :=
  True

def Pre_UkvMmRefIdeal (m : (ℓ : Loc Cert.UkvMmRefIdeal.nD Cert.UkvMmRefIdeal.τ Cert.UkvMmRefIdeal.sig) → Buf (Elt Ideal) ℓ) : Prop :=
  True

def Pre_UkvDh (m : (ℓ : Loc Cert.UkvDh.nD Cert.UkvDh.τ Cert.UkvDh.sig) → Buf (Elt Bits) ℓ) : Prop :=
  True

def Pre_UkvDhIdeal (m : (ℓ : Loc Cert.UkvDhIdeal.nD Cert.UkvDhIdeal.τ Cert.UkvDhIdeal.sig) → Buf (Elt Ideal) ℓ) : Prop :=
  True

def Pre_UkvDhRefIdeal (m : (ℓ : Loc Cert.UkvDhRefIdeal.nD Cert.UkvDhRefIdeal.τ Cert.UkvDhRefIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwRefIdeal (m : (ℓ : Loc Cert.UkvDwRefIdeal.nD Cert.UkvDwRefIdeal.τ Cert.UkvDwRefIdeal.sig) → Buf (Elt Ideal) ℓ) : Prop :=
  True

def Pre_CtxIn (m : (ℓ : Loc Cert.CtxIn.nD Cert.CtxIn.τ Cert.CtxIn.sig) → Buf (Elt Bits) ℓ) : Prop :=
  True

def Pre_CtxInIdeal (m : (ℓ : Loc Cert.CtxInIdeal.nD Cert.CtxInIdeal.τ Cert.CtxInIdeal.sig) → Buf (Elt Ideal) ℓ) : Prop :=
  True

def Pre_CtxInIdeal_finite_ctx_in [hPre_finite_ctx_in : Cert.Pre_finite_ctx_in.Facts] (m : (ℓ : Loc Cert.CtxInIdeal.nD Cert.CtxInIdeal.τ Cert.CtxInIdeal.sig) → Buf (Elt Ideal) ℓ) : Prop :=
  ∀ c : Dev Cert.CtxInIdeal.nD,
    (Cert.Pre_finite_ctx_in.fn (F := Ideal) (m ((c.tc : Thread Cert.CtxInIdeal.nD Cert.CtxInIdeal.τ).loc Cert.CtxInIdeal.main_arg0)) (m ((c.tc : Thread Cert.CtxInIdeal.nD Cert.CtxInIdeal.τ).loc Cert.CtxInIdeal.main_arg1))).1 = (fun _ => 1#1)
    ∧ (Cert.Pre_finite_ctx_in.fn (F := Ideal) (m ((c.tc : Thread Cert.CtxInIdeal.nD Cert.CtxInIdeal.τ).loc Cert.CtxInIdeal.main_arg0)) (m ((c.tc : Thread Cert.CtxInIdeal.nD Cert.CtxInIdeal.τ).loc Cert.CtxInIdeal.main_arg1))).2 = (fun _ => 1#1)

def Pre_CtxInRefIdeal (m : (ℓ : Loc Cert.CtxInRefIdeal.nD Cert.CtxInRefIdeal.τ Cert.CtxInRefIdeal.sig) → Buf (Elt Ideal) ℓ) : Prop :=
  True

def Pre_CtxInRefIdeal_finite_ctx_in [hPre_finite_ctx_in : Cert.Pre_finite_ctx_in.Facts] (m : (ℓ : Loc Cert.CtxInRefIdeal.nD Cert.CtxInRefIdeal.τ Cert.CtxInRefIdeal.sig) → Buf (Elt Ideal) ℓ) : Prop :=
  ∀ c : Dev Cert.CtxInRefIdeal.nD,
    (Cert.Pre_finite_ctx_in.fn (F := Ideal) (m ((c.tc : Thread Cert.CtxInRefIdeal.nD Cert.CtxInRefIdeal.τ).loc Cert.CtxInRefIdeal.main_arg0)) (m ((c.tc : Thread Cert.CtxInRefIdeal.nD Cert.CtxInRefIdeal.τ).loc Cert.CtxInRefIdeal.main_arg1))).1 = (fun _ => 1#1)
    ∧ (Cert.Pre_finite_ctx_in.fn (F := Ideal) (m ((c.tc : Thread Cert.CtxInRefIdeal.nD Cert.CtxInRefIdeal.τ).loc Cert.CtxInRefIdeal.main_arg0)) (m ((c.tc : Thread Cert.CtxInRefIdeal.nD Cert.CtxInRefIdeal.τ).loc Cert.CtxInRefIdeal.main_arg1))).2 = (fun _ => 1#1)

def Pre_CtxOut (m : (ℓ : Loc Cert.CtxOut.nD Cert.CtxOut.τ Cert.CtxOut.sig) → Buf (Elt Bits) ℓ) : Prop :=
  True

def Pre_CtxOutIdeal (m : (ℓ : Loc Cert.CtxOutIdeal.nD Cert.CtxOutIdeal.τ Cert.CtxOutIdeal.sig) → Buf (Elt Ideal) ℓ) : Prop :=
  True

def Pre_CtxOutRefIdeal (m : (ℓ : Loc Cert.CtxOutRefIdeal.nD Cert.CtxOutRefIdeal.τ Cert.CtxOutRefIdeal.sig) → Buf (Elt Ideal) ℓ) : Prop :=
  True

def Pre_CtxDa (m : (ℓ : Loc Cert.CtxDa.nD Cert.CtxDa.τ Cert.CtxDa.sig) → Buf (Elt Bits) ℓ) : Prop :=
  True

def Pre_CtxDaIdeal (m : (ℓ : Loc Cert.CtxDaIdeal.nD Cert.CtxDaIdeal.τ Cert.CtxDaIdeal.sig) → Buf (Elt Ideal) ℓ) : Prop :=
  True

def Pre_CtxDaIdeal_finite_ctx_da [hPre_finite_ctx_da : Cert.Pre_finite_ctx_da.Facts] (m : (ℓ : Loc Cert.CtxDaIdeal.nD Cert.CtxDaIdeal.τ Cert.CtxDaIdeal.sig) → Buf (Elt Ideal) ℓ) : Prop :=
  ∀ c : Dev Cert.CtxDaIdeal.nD,
    (Cert.Pre_finite_ctx_da.fn (F := Ideal) (m ((c.tc : Thread Cert.CtxDaIdeal.nD Cert.CtxDaIdeal.τ).loc Cert.CtxDaIdeal.main_arg0)) (m ((c.tc : Thread Cert.CtxDaIdeal.nD Cert.CtxDaIdeal.τ).loc Cert.CtxDaIdeal.main_arg1)) (m ((c.tc : Thread Cert.CtxDaIdeal.nD Cert.CtxDaIdeal.τ).loc Cert.CtxDaIdeal.main_arg2))).1 = (fun _ => 1#1)
    ∧ (Cert.Pre_finite_ctx_da.fn (F := Ideal) (m ((c.tc : Thread Cert.CtxDaIdeal.nD Cert.CtxDaIdeal.τ).loc Cert.CtxDaIdeal.main_arg0)) (m ((c.tc : Thread Cert.CtxDaIdeal.nD Cert.CtxDaIdeal.τ).loc Cert.CtxDaIdeal.main_arg1)) (m ((c.tc : Thread Cert.CtxDaIdeal.nD Cert.CtxDaIdeal.τ).loc Cert.CtxDaIdeal.main_arg2))).2.1 = (fun _ => 1#1)
    ∧ (Cert.Pre_finite_ctx_da.fn (F := Ideal) (m ((c.tc : Thread Cert.CtxDaIdeal.nD Cert.CtxDaIdeal.τ).loc Cert.CtxDaIdeal.main_arg0)) (m ((c.tc : Thread Cert.CtxDaIdeal.nD Cert.CtxDaIdeal.τ).loc Cert.CtxDaIdeal.main_arg1)) (m ((c.tc : Thread Cert.CtxDaIdeal.nD Cert.CtxDaIdeal.τ).loc Cert.CtxDaIdeal.main_arg2))).2.2 = (fun _ => 1#1)

def Pre_CtxDaRefIdeal (m : (ℓ : Loc Cert.CtxDaRefIdeal.nD Cert.CtxDaRefIdeal.τ Cert.CtxDaRefIdeal.sig) → Buf (Elt Ideal) ℓ) : Prop :=
  True

def Pre_CtxDaRefIdeal_finite_ctx_da [hPre_finite_ctx_da : Cert.Pre_finite_ctx_da.Facts] (m : (ℓ : Loc Cert.CtxDaRefIdeal.nD Cert.CtxDaRefIdeal.τ Cert.CtxDaRefIdeal.sig) → Buf (Elt Ideal) ℓ) : Prop :=
  ∀ c : Dev Cert.CtxDaRefIdeal.nD,
    (Cert.Pre_finite_ctx_da.fn (F := Ideal) (m ((c.tc : Thread Cert.CtxDaRefIdeal.nD Cert.CtxDaRefIdeal.τ).loc Cert.CtxDaRefIdeal.main_arg0)) (m ((c.tc : Thread Cert.CtxDaRefIdeal.nD Cert.CtxDaRefIdeal.τ).loc Cert.CtxDaRefIdeal.main_arg1)) (m ((c.tc : Thread Cert.CtxDaRefIdeal.nD Cert.CtxDaRefIdeal.τ).loc Cert.CtxDaRefIdeal.main_arg2))).1 = (fun _ => 1#1)
    ∧ (Cert.Pre_finite_ctx_da.fn (F := Ideal) (m ((c.tc : Thread Cert.CtxDaRefIdeal.nD Cert.CtxDaRefIdeal.τ).loc Cert.CtxDaRefIdeal.main_arg0)) (m ((c.tc : Thread Cert.CtxDaRefIdeal.nD Cert.CtxDaRefIdeal.τ).loc Cert.CtxDaRefIdeal.main_arg1)) (m ((c.tc : Thread Cert.CtxDaRefIdeal.nD Cert.CtxDaRefIdeal.τ).loc Cert.CtxDaRefIdeal.main_arg2))).2.1 = (fun _ => 1#1)
    ∧ (Cert.Pre_finite_ctx_da.fn (F := Ideal) (m ((c.tc : Thread Cert.CtxDaRefIdeal.nD Cert.CtxDaRefIdeal.τ).loc Cert.CtxDaRefIdeal.main_arg0)) (m ((c.tc : Thread Cert.CtxDaRefIdeal.nD Cert.CtxDaRefIdeal.τ).loc Cert.CtxDaRefIdeal.main_arg1)) (m ((c.tc : Thread Cert.CtxDaRefIdeal.nD Cert.CtxDaRefIdeal.τ).loc Cert.CtxDaRefIdeal.main_arg2))).2.2 = (fun _ => 1#1)

def Pre_CtxDwout (m : (ℓ : Loc Cert.CtxDwout.nD Cert.CtxDwout.τ Cert.CtxDwout.sig) → Buf (Elt Bits) ℓ) : Prop :=
  True

def Pre_CtxDwoutIdeal (m : (ℓ : Loc Cert.CtxDwoutIdeal.nD Cert.CtxDwoutIdeal.τ Cert.CtxDwoutIdeal.sig) → Buf (Elt Ideal) ℓ) : Prop :=
  True

def Pre_CtxDwoutRefIdeal (m : (ℓ : Loc Cert.CtxDwoutRefIdeal.nD Cert.CtxDwoutRefIdeal.τ Cert.CtxDwoutRefIdeal.sig) → Buf (Elt Ideal) ℓ) : Prop :=
  True

def Pre_CtxDh (m : (ℓ : Loc Cert.CtxDh.nD Cert.CtxDh.τ Cert.CtxDh.sig) → Buf (Elt Bits) ℓ) : Prop :=
  True

def Pre_CtxDhIdeal (m : (ℓ : Loc Cert.CtxDhIdeal.nD Cert.CtxDhIdeal.τ Cert.CtxDhIdeal.sig) → Buf (Elt Ideal) ℓ) : Prop :=
  True

def Pre_CtxDhRefIdeal (m : (ℓ : Loc Cert.CtxDhRefIdeal.nD Cert.CtxDhRefIdeal.τ Cert.CtxDhRefIdeal.sig) → Buf (Elt Ideal) ℓ) : Prop :=
  True

def Pre_CtxDwin (m : (ℓ : Loc Cert.CtxDwin.nD Cert.CtxDwin.τ Cert.CtxDwin.sig) → Buf (Elt Bits) ℓ) : Prop :=
  True

def Pre_CtxDwinIdeal (m : (ℓ : Loc Cert.CtxDwinIdeal.nD Cert.CtxDwinIdeal.τ Cert.CtxDwinIdeal.sig) → Buf (Elt Ideal) ℓ) : Prop :=
  True

def Pre_CtxDwinRefIdeal (m : (ℓ : Loc Cert.CtxDwinRefIdeal.nD Cert.CtxDwinRefIdeal.τ Cert.CtxDwinRefIdeal.sig) → Buf (Elt Ideal) ℓ) : Prop :=
  True

def Pre_MixcMm (m : (ℓ : Loc Cert.MixcMm.nD Cert.MixcMm.τ Cert.MixcMm.sig) → Buf (Elt Bits) ℓ) : Prop :=
  True

def Pre_MixcMmIdeal (m : (ℓ : Loc Cert.MixcMmIdeal.nD Cert.MixcMmIdeal.τ Cert.MixcMmIdeal.sig) → Buf (Elt Ideal) ℓ) : Prop :=
  True

def Pre_MixcMmRefIdeal (m : (ℓ : Loc Cert.MixcMmRefIdeal.nD Cert.MixcMmRefIdeal.τ Cert.MixcMmRefIdeal.sig) → Buf (Elt Ideal) ℓ) : Prop :=
  True

def Pre_MixcDh (m : (ℓ : Loc Cert.MixcDh.nD Cert.MixcDh.τ Cert.MixcDh.sig) → Buf (Elt Bits) ℓ) : Prop :=
  True

def Pre_MixcDhIdeal (m : (ℓ : Loc Cert.MixcDhIdeal.nD Cert.MixcDhIdeal.τ Cert.MixcDhIdeal.sig) → Buf (Elt Ideal) ℓ) : Prop :=
  True

def Pre_MixcDhRefIdeal (m : (ℓ : Loc Cert.MixcDhRefIdeal.nD Cert.MixcDhRefIdeal.τ Cert.MixcDhRefIdeal.sig) → Buf (Elt Ideal) ℓ) : Prop :=
  True

def Pre_MixcDw (m : (ℓ : Loc Cert.MixcDw.nD Cert.MixcDw.τ Cert.MixcDw.sig) → Buf (Elt Bits) ℓ) : Prop :=
  True

def Pre_MixcDwIdeal (m : (ℓ : Loc Cert.MixcDwIdeal.nD Cert.MixcDwIdeal.τ Cert.MixcDwIdeal.sig) → Buf (Elt Ideal) ℓ) : Prop :=
  True

def Pre_MixcDwRefIdeal (m : (ℓ : Loc Cert.MixcDwRefIdeal.nD Cert.MixcDwRefIdeal.τ Cert.MixcDwRefIdeal.sig) → Buf (Elt Ideal) ℓ) : Prop :=
  True

def Pre_UkvcMm (m : (ℓ : Loc Cert.UkvcMm.nD Cert.UkvcMm.τ Cert.UkvcMm.sig) → Buf (Elt Bits) ℓ) : Prop :=
  True

def Pre_UkvcMmIdeal (m : (ℓ : Loc Cert.UkvcMmIdeal.nD Cert.UkvcMmIdeal.τ Cert.UkvcMmIdeal.sig) → Buf (Elt Ideal) ℓ) : Prop :=
  True

def Pre_UkvcMmRefIdeal (m : (ℓ : Loc Cert.UkvcMmRefIdeal.nD Cert.UkvcMmRefIdeal.τ Cert.UkvcMmRefIdeal.sig) → Buf (Elt Ideal) ℓ) : Prop :=
  True

def Pre_UkvcDh (m : (ℓ : Loc Cert.UkvcDh.nD Cert.UkvcDh.τ Cert.UkvcDh.sig) → Buf (Elt Bits) ℓ) : Prop :=
  True

def Pre_UkvcDhIdeal (m : (ℓ : Loc Cert.UkvcDhIdeal.nD Cert.UkvcDhIdeal.τ Cert.UkvcDhIdeal.sig) → Buf (Elt Ideal) ℓ) : Prop :=
  True

def Pre_UkvcDhRefIdeal (m : (ℓ : Loc Cert.UkvcDhRefIdeal.nD Cert.UkvcDhRefIdeal.τ Cert.UkvcDhRefIdeal.sig) → Buf (Elt Ideal) ℓ) : Prop :=
  True

def Pre_UkvcDw (m : (ℓ : Loc Cert.UkvcDw.nD Cert.UkvcDw.τ Cert.UkvcDw.sig) → Buf (Elt Bits) ℓ) : Prop :=
  True

def Pre_UkvcDwIdeal (m : (ℓ : Loc Cert.UkvcDwIdeal.nD Cert.UkvcDwIdeal.τ Cert.UkvcDwIdeal.sig) → Buf (Elt Ideal) ℓ) : Prop :=
  True

def Pre_UkvcDwRefIdeal (m : (ℓ : Loc Cert.UkvcDwRefIdeal.nD Cert.UkvcDwRefIdeal.τ Cert.UkvcDwRefIdeal.sig) → Buf (Elt Ideal) ℓ) : Prop :=
  True

def Pre_AdaMm (m : (ℓ : Loc Cert.AdaMm.nD Cert.AdaMm.τ Cert.AdaMm.sig) → Buf (Elt Bits) ℓ) : Prop :=
  True

def Pre_AdaMmIdeal (m : (ℓ : Loc Cert.AdaMmIdeal.nD Cert.AdaMmIdeal.τ Cert.AdaMmIdeal.sig) → Buf (Elt Ideal) ℓ) : Prop :=
  True

def Pre_AdaMmRefIdeal (m : (ℓ : Loc Cert.AdaMmRefIdeal.nD Cert.AdaMmRefIdeal.τ Cert.AdaMmRefIdeal.sig) → Buf (Elt Ideal) ℓ) : Prop :=
  True

def Pre_AdaDa (m : (ℓ : Loc Cert.AdaDa.nD Cert.AdaDa.τ Cert.AdaDa.sig) → Buf (Elt Bits) ℓ) : Prop :=
  True

def Pre_AdaDaIdeal (m : (ℓ : Loc Cert.AdaDaIdeal.nD Cert.AdaDaIdeal.τ Cert.AdaDaIdeal.sig) → Buf (Elt Ideal) ℓ) : Prop :=
  True

def Pre_AdaDaRefIdeal (m : (ℓ : Loc Cert.AdaDaRefIdeal.nD Cert.AdaDaRefIdeal.τ Cert.AdaDaRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_GateMix (m : (ℓ : Loc Cert.GateMix.nD Cert.GateMix.τ Cert.GateMix.sig) → Buf (Elt Bits) ℓ) : Prop :=
  True

def Pre_GateMixIdeal (m : (ℓ : Loc Cert.GateMixIdeal.nD Cert.GateMixIdeal.τ Cert.GateMixIdeal.sig) → Buf (Elt Ideal) ℓ) : Prop :=
  True

def Pre_GateMixRefIdeal (m : (ℓ : Loc Cert.GateMixRefIdeal.nD Cert.GateMixRefIdeal.τ Cert.GateMixRefIdeal.sig) → Buf (Elt Ideal) ℓ) : Prop :=
  True

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaRefIdeal (m : (ℓ : Loc Cert.DeltaRefIdeal.nD Cert.DeltaRefIdeal.τ Cert.DeltaRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutRefIdeal (m : (ℓ : Loc Cert.RetOutRefIdeal.nD Cert.RetOutRefIdeal.τ Cert.RetOutRefIdeal.sig) → Buf (Elt Ideal) ℓ) : Prop :=
  True

def Pre_RetDout (m : (ℓ : Loc Cert.RetDout.nD Cert.RetDout.τ Cert.RetDout.sig) → Buf (Elt Bits) ℓ) : Prop :=
  True

def Pre_RetDoutIdeal (m : (ℓ : Loc Cert.RetDoutIdeal.nD Cert.RetDoutIdeal.τ Cert.RetDoutIdeal.sig) → Buf (Elt Ideal) ℓ) : Prop :=
  True

def Pre_RetDoutRefIdeal (m : (ℓ : Loc Cert.RetDoutRefIdeal.nD Cert.RetDoutRefIdeal.τ Cert.RetDoutRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_CtxNorm (m : (ℓ : Loc Cert.CtxNorm.nD Cert.CtxNorm.τ Cert.CtxNorm.sig) → Buf (Elt Bits) ℓ) : Prop :=
  True

def Pre_CtxNormIdeal (m : (ℓ : Loc Cert.CtxNormIdeal.nD Cert.CtxNormIdeal.τ Cert.CtxNormIdeal.sig) → Buf (Elt Ideal) ℓ) : Prop :=
  True

def Pre_CtxNormRefIdeal (m : (ℓ : Loc Cert.CtxNormRefIdeal.nD Cert.CtxNormRefIdeal.τ Cert.CtxNormRefIdeal.sig) → Buf (Elt Ideal) ℓ) : Prop :=
  True

def Pre_CtxGate (m : (ℓ : Loc Cert.CtxGate.nD Cert.CtxGate.τ Cert.CtxGate.sig) → Buf (Elt Bits) ℓ) : Prop :=
  True

def Pre_CtxGateIdeal (m : (ℓ : Loc Cert.CtxGateIdeal.nD Cert.CtxGateIdeal.τ Cert.CtxGateIdeal.sig) → Buf (Elt Ideal) ℓ) : Prop :=
  True

def Pre_CtxGateRefIdeal (m : (ℓ : Loc Cert.CtxGateRefIdeal.nD Cert.CtxGateRefIdeal.τ Cert.CtxGateRefIdeal.sig) → Buf (Elt Ideal) ℓ) : Prop :=
  True

def Pre_CtxNormBwd (m : (ℓ : Loc Cert.CtxNormBwd.nD Cert.CtxNormBwd.τ Cert.CtxNormBwd.sig) → Buf (Elt Bits) ℓ) : Prop :=
  True

def Pre_CtxNormBwdIdeal (m : (ℓ : Loc Cert.CtxNormBwdIdeal.nD Cert.CtxNormBwdIdeal.τ Cert.CtxNormBwdIdeal.sig) → Buf (Elt Ideal) ℓ) : Prop :=
  True

def Pre_CtxNormBwdRefIdeal (m : (ℓ : Loc Cert.CtxNormBwdRefIdeal.nD Cert.CtxNormBwdRefIdeal.τ Cert.CtxNormBwdRefIdeal.sig) → Buf (Elt Ideal) ℓ) : Prop :=
  True

def Pre_MixcNormBwd (m : (ℓ : Loc Cert.MixcNormBwd.nD Cert.MixcNormBwd.τ Cert.MixcNormBwd.sig) → Buf (Elt Bits) ℓ) : Prop :=
  True

def Pre_MixcNormBwdIdeal (m : (ℓ : Loc Cert.MixcNormBwdIdeal.nD Cert.MixcNormBwdIdeal.τ Cert.MixcNormBwdIdeal.sig) → Buf (Elt Ideal) ℓ) : Prop :=
  True

def Pre_MixcNormBwdRefIdeal (m : (ℓ : Loc Cert.MixcNormBwdRefIdeal.nD Cert.MixcNormBwdRefIdeal.τ Cert.MixcNormBwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_qk [hPre_finite_qk : Cert.Pre_finite_qk.Facts] (m : (ℓ : Loc Cert.FwdIdeal.nD Cert.FwdIdeal.τ Cert.FwdIdeal.sig) → Buf (Elt Ideal) ℓ) : Prop :=
  ∀ c : Dev Cert.FwdIdeal.nD,
    (Cert.Pre_finite_qk.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).1 = (fun _ => 1#1)
    ∧ (Cert.Pre_finite_qk.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_qk [hPre_finite_qk : Cert.Pre_finite_qk.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_qk.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).1 = (fun _ => 1#1)
    ∧ (Cert.Pre_finite_qk.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InIdeal_pre_finite_in [hInIdeal : Cert.InIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg), Pre_InIdeal_finite_in m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InRefIdeal_pre_finite_in [hInRefIdeal : Cert.InRefIdeal.Facts] [hPre_finite_in : Cert.Pre_finite_in.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_in m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ r.2.sem = fun _ => 0)

def quiescent_DaIdeal_pre_finite_da [hDaIdeal : Cert.DaIdeal.Facts] [hPre_finite_da : Cert.Pre_finite_da.Facts] : Prop :=
  ∀ (m : (ℓ : Loc Cert.DaIdeal.nD Cert.DaIdeal.τ Cert.DaIdeal.sig) → Buf (Elt Ideal) ℓ) (g : Dev Cert.DaIdeal.nD → PrngReg), Pre_DaIdeal_finite_da m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2))
      ∧ r.2.sem = fun _ => 0)

def quiescent_DaRefIdeal_pre_finite_da [hDaRefIdeal : Cert.DaRefIdeal.Facts] [hPre_finite_da : Cert.Pre_finite_da.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal_finite_da m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_DwoutAdd [hDwoutAdd : Cert.DwoutAdd.Facts] : Prop :=
  ∀ (m : (ℓ : Loc Cert.DwoutAdd.nD Cert.DwoutAdd.τ Cert.DwoutAdd.sig) → Buf (Elt Bits) ℓ) (g : Dev Cert.DwoutAdd.nD → PrngReg), Pre_DwoutAdd m →
    θ_run (Cert.DwoutAdd.defs (F := Bits)) (onTc (τ := Cert.DwoutAdd.τ) (Cert.DwoutAdd.main (F := Bits))) ⟨m, fun _ => 0, g⟩ (fun r => (∀ c : Dev Cert.DwoutAdd.nD,
      r.2.mem ((c.tc : Thread Cert.DwoutAdd.nD Cert.DwoutAdd.τ).loc Cert.DwoutAdd.main_arg0) = m ((c.tc : Thread Cert.DwoutAdd.nD Cert.DwoutAdd.τ).loc Cert.DwoutAdd.main_arg0)
      ∧ r.2.mem ((c.tc : Thread Cert.DwoutAdd.nD Cert.DwoutAdd.τ).loc Cert.DwoutAdd.main_arg1) = m ((c.tc : Thread Cert.DwoutAdd.nD Cert.DwoutAdd.τ).loc Cert.DwoutAdd.main_arg1)
      ∧ r.2.mem ((c.tc : Thread Cert.DwoutAdd.nD Cert.DwoutAdd.τ).loc Cert.DwoutAdd.main_arg2) = m ((c.tc : Thread Cert.DwoutAdd.nD Cert.DwoutAdd.τ).loc Cert.DwoutAdd.main_arg2))
      ∧ r.2.sem = fun _ => 0)

def quiescent_DwoutAddIdeal [hDwoutAddIdeal : Cert.DwoutAddIdeal.Facts] : Prop :=
  ∀ (m : (ℓ : Loc Cert.DwoutAddIdeal.nD Cert.DwoutAddIdeal.τ Cert.DwoutAddIdeal.sig) → Buf (Elt Ideal) ℓ) (g : Dev Cert.DwoutAddIdeal.nD → PrngReg), Pre_DwoutAddIdeal m →
    θ_run (Cert.DwoutAddIdeal.defs (F := Ideal)) (onTc (τ := Cert.DwoutAddIdeal.τ) (Cert.DwoutAddIdeal.main (F := Ideal))) ⟨m, fun _ => 0, g⟩ (fun r => (∀ c : Dev Cert.DwoutAddIdeal.nD,
      r.2.mem ((c.tc : Thread Cert.DwoutAddIdeal.nD Cert.DwoutAddIdeal.τ).loc Cert.DwoutAddIdeal.main_arg0) = m ((c.tc : Thread Cert.DwoutAddIdeal.nD Cert.DwoutAddIdeal.τ).loc Cert.DwoutAddIdeal.main_arg0)
      ∧ r.2.mem ((c.tc : Thread Cert.DwoutAddIdeal.nD Cert.DwoutAddIdeal.τ).loc Cert.DwoutAddIdeal.main_arg1) = m ((c.tc : Thread Cert.DwoutAddIdeal.nD Cert.DwoutAddIdeal.τ).loc Cert.DwoutAddIdeal.main_arg1)
      ∧ r.2.mem ((c.tc : Thread Cert.DwoutAddIdeal.nD Cert.DwoutAddIdeal.τ).loc Cert.DwoutAddIdeal.main_arg2) = m ((c.tc : Thread Cert.DwoutAddIdeal.nD Cert.DwoutAddIdeal.τ).loc Cert.DwoutAddIdeal.main_arg2))
      ∧ r.2.sem = fun _ => 0)

def quiescent_DwoutAddRefIdeal [hDwoutAddRefIdeal : Cert.DwoutAddRefIdeal.Facts] : Prop :=
  ∀ (m : (ℓ : Loc Cert.DwoutAddRefIdeal.nD Cert.DwoutAddRefIdeal.τ Cert.DwoutAddRefIdeal.sig) → Buf (Elt Ideal) ℓ) (g : Dev Cert.DwoutAddRefIdeal.nD → PrngReg), Pre_DwoutAddRefIdeal m →
    θ_run (Cert.DwoutAddRefIdeal.defs (F := Ideal)) (onTc (τ := Cert.DwoutAddRefIdeal.τ) (Cert.DwoutAddRefIdeal.main (F := Ideal))) ⟨m, fun _ => 0, g⟩ (fun r => (∀ c : Dev Cert.DwoutAddRefIdeal.nD,
      r.2.mem ((c.tc : Thread Cert.DwoutAddRefIdeal.nD Cert.DwoutAddRefIdeal.τ).loc Cert.DwoutAddRefIdeal.main_arg0) = m ((c.tc : Thread Cert.DwoutAddRefIdeal.nD Cert.DwoutAddRefIdeal.τ).loc Cert.DwoutAddRefIdeal.main_arg0)
      ∧ r.2.mem ((c.tc : Thread Cert.DwoutAddRefIdeal.nD Cert.DwoutAddRefIdeal.τ).loc Cert.DwoutAddRefIdeal.main_arg1) = m ((c.tc : Thread Cert.DwoutAddRefIdeal.nD Cert.DwoutAddRefIdeal.τ).loc Cert.DwoutAddRefIdeal.main_arg1)
      ∧ r.2.mem ((c.tc : Thread Cert.DwoutAddRefIdeal.nD Cert.DwoutAddRefIdeal.τ).loc Cert.DwoutAddRefIdeal.main_arg2) = m ((c.tc : Thread Cert.DwoutAddRefIdeal.nD Cert.DwoutAddRefIdeal.τ).loc Cert.DwoutAddRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_DwinAdd [hDwinAdd : Cert.DwinAdd.Facts] : Prop :=
  ∀ (m : (ℓ : Loc Cert.DwinAdd.nD Cert.DwinAdd.τ Cert.DwinAdd.sig) → Buf (Elt Bits) ℓ) (g : Dev Cert.DwinAdd.nD → PrngReg), Pre_DwinAdd m →
    θ_run (Cert.DwinAdd.defs (F := Bits)) (onTc (τ := Cert.DwinAdd.τ) (Cert.DwinAdd.main (F := Bits))) ⟨m, fun _ => 0, g⟩ (fun r => (∀ c : Dev Cert.DwinAdd.nD,
      r.2.mem ((c.tc : Thread Cert.DwinAdd.nD Cert.DwinAdd.τ).loc Cert.DwinAdd.main_arg0) = m ((c.tc : Thread Cert.DwinAdd.nD Cert.DwinAdd.τ).loc Cert.DwinAdd.main_arg0)
      ∧ r.2.mem ((c.tc : Thread Cert.DwinAdd.nD Cert.DwinAdd.τ).loc Cert.DwinAdd.main_arg1) = m ((c.tc : Thread Cert.DwinAdd.nD Cert.DwinAdd.τ).loc Cert.DwinAdd.main_arg1)
      ∧ r.2.mem ((c.tc : Thread Cert.DwinAdd.nD Cert.DwinAdd.τ).loc Cert.DwinAdd.main_arg2) = m ((c.tc : Thread Cert.DwinAdd.nD Cert.DwinAdd.τ).loc Cert.DwinAdd.main_arg2))
      ∧ r.2.sem = fun _ => 0)

def quiescent_DwinAddIdeal [hDwinAddIdeal : Cert.DwinAddIdeal.Facts] : Prop :=
  ∀ (m : (ℓ : Loc Cert.DwinAddIdeal.nD Cert.DwinAddIdeal.τ Cert.DwinAddIdeal.sig) → Buf (Elt Ideal) ℓ) (g : Dev Cert.DwinAddIdeal.nD → PrngReg), Pre_DwinAddIdeal m →
    θ_run (Cert.DwinAddIdeal.defs (F := Ideal)) (onTc (τ := Cert.DwinAddIdeal.τ) (Cert.DwinAddIdeal.main (F := Ideal))) ⟨m, fun _ => 0, g⟩ (fun r => (∀ c : Dev Cert.DwinAddIdeal.nD,
      r.2.mem ((c.tc : Thread Cert.DwinAddIdeal.nD Cert.DwinAddIdeal.τ).loc Cert.DwinAddIdeal.main_arg0) = m ((c.tc : Thread Cert.DwinAddIdeal.nD Cert.DwinAddIdeal.τ).loc Cert.DwinAddIdeal.main_arg0)
      ∧ r.2.mem ((c.tc : Thread Cert.DwinAddIdeal.nD Cert.DwinAddIdeal.τ).loc Cert.DwinAddIdeal.main_arg1) = m ((c.tc : Thread Cert.DwinAddIdeal.nD Cert.DwinAddIdeal.τ).loc Cert.DwinAddIdeal.main_arg1)
      ∧ r.2.mem ((c.tc : Thread Cert.DwinAddIdeal.nD Cert.DwinAddIdeal.τ).loc Cert.DwinAddIdeal.main_arg2) = m ((c.tc : Thread Cert.DwinAddIdeal.nD Cert.DwinAddIdeal.τ).loc Cert.DwinAddIdeal.main_arg2))
      ∧ r.2.sem = fun _ => 0)

def quiescent_DwinAddRefIdeal [hDwinAddRefIdeal : Cert.DwinAddRefIdeal.Facts] : Prop :=
  ∀ (m : (ℓ : Loc Cert.DwinAddRefIdeal.nD Cert.DwinAddRefIdeal.τ Cert.DwinAddRefIdeal.sig) → Buf (Elt Ideal) ℓ) (g : Dev Cert.DwinAddRefIdeal.nD → PrngReg), Pre_DwinAddRefIdeal m →
    θ_run (Cert.DwinAddRefIdeal.defs (F := Ideal)) (onTc (τ := Cert.DwinAddRefIdeal.τ) (Cert.DwinAddRefIdeal.main (F := Ideal))) ⟨m, fun _ => 0, g⟩ (fun r => (∀ c : Dev Cert.DwinAddRefIdeal.nD,
      r.2.mem ((c.tc : Thread Cert.DwinAddRefIdeal.nD Cert.DwinAddRefIdeal.τ).loc Cert.DwinAddRefIdeal.main_arg0) = m ((c.tc : Thread Cert.DwinAddRefIdeal.nD Cert.DwinAddRefIdeal.τ).loc Cert.DwinAddRefIdeal.main_arg0)
      ∧ r.2.mem ((c.tc : Thread Cert.DwinAddRefIdeal.nD Cert.DwinAddRefIdeal.τ).loc Cert.DwinAddRefIdeal.main_arg1) = m ((c.tc : Thread Cert.DwinAddRefIdeal.nD Cert.DwinAddRefIdeal.τ).loc Cert.DwinAddRefIdeal.main_arg1)
      ∧ r.2.mem ((c.tc : Thread Cert.DwinAddRefIdeal.nD Cert.DwinAddRefIdeal.τ).loc Cert.DwinAddRefIdeal.main_arg2) = m ((c.tc : Thread Cert.DwinAddRefIdeal.nD Cert.DwinAddRefIdeal.τ).loc Cert.DwinAddRefIdeal.main_arg2))
      ∧ r.2.sem = fun _ => 0)

def quiescent_MixMm [hMixMm : Cert.MixMm.Facts] : Prop :=
  ∀ (m : (ℓ : Loc Cert.MixMm.nD Cert.MixMm.τ Cert.MixMm.sig) → Buf (Elt Bits) ℓ) (g : Dev Cert.MixMm.nD → PrngReg), Pre_MixMm m →
    θ_run (Cert.MixMm.defs (F := Bits)) (onTc (τ := Cert.MixMm.τ) (Cert.MixMm.main (F := Bits))) ⟨m, fun _ => 0, g⟩ (fun r => (∀ c : Dev Cert.MixMm.nD,
      r.2.mem ((c.tc : Thread Cert.MixMm.nD Cert.MixMm.τ).loc Cert.MixMm.main_arg0) = m ((c.tc : Thread Cert.MixMm.nD Cert.MixMm.τ).loc Cert.MixMm.main_arg0)
      ∧ r.2.mem ((c.tc : Thread Cert.MixMm.nD Cert.MixMm.τ).loc Cert.MixMm.main_arg1) = m ((c.tc : Thread Cert.MixMm.nD Cert.MixMm.τ).loc Cert.MixMm.main_arg1))
      ∧ r.2.sem = fun _ => 0)

def quiescent_MixMmIdeal [hMixMmIdeal : Cert.MixMmIdeal.Facts] : Prop :=
  ∀ (m : (ℓ : Loc Cert.MixMmIdeal.nD Cert.MixMmIdeal.τ Cert.MixMmIdeal.sig) → Buf (Elt Ideal) ℓ) (g : Dev Cert.MixMmIdeal.nD → PrngReg), Pre_MixMmIdeal m →
    θ_run (Cert.MixMmIdeal.defs (F := Ideal)) (onTc (τ := Cert.MixMmIdeal.τ) (Cert.MixMmIdeal.main (F := Ideal))) ⟨m, fun _ => 0, g⟩ (fun r => (∀ c : Dev Cert.MixMmIdeal.nD,
      r.2.mem ((c.tc : Thread Cert.MixMmIdeal.nD Cert.MixMmIdeal.τ).loc Cert.MixMmIdeal.main_arg0) = m ((c.tc : Thread Cert.MixMmIdeal.nD Cert.MixMmIdeal.τ).loc Cert.MixMmIdeal.main_arg0)
      ∧ r.2.mem ((c.tc : Thread Cert.MixMmIdeal.nD Cert.MixMmIdeal.τ).loc Cert.MixMmIdeal.main_arg1) = m ((c.tc : Thread Cert.MixMmIdeal.nD Cert.MixMmIdeal.τ).loc Cert.MixMmIdeal.main_arg1))
      ∧ r.2.sem = fun _ => 0)

def quiescent_MixMmRefIdeal [hMixMmRefIdeal : Cert.MixMmRefIdeal.Facts] : Prop :=
  ∀ (m : (ℓ : Loc Cert.MixMmRefIdeal.nD Cert.MixMmRefIdeal.τ Cert.MixMmRefIdeal.sig) → Buf (Elt Ideal) ℓ) (g : Dev Cert.MixMmRefIdeal.nD → PrngReg), Pre_MixMmRefIdeal m →
    θ_run (Cert.MixMmRefIdeal.defs (F := Ideal)) (onTc (τ := Cert.MixMmRefIdeal.τ) (Cert.MixMmRefIdeal.main (F := Ideal))) ⟨m, fun _ => 0, g⟩ (fun r => (∀ c : Dev Cert.MixMmRefIdeal.nD,
      r.2.mem ((c.tc : Thread Cert.MixMmRefIdeal.nD Cert.MixMmRefIdeal.τ).loc Cert.MixMmRefIdeal.main_arg0) = m ((c.tc : Thread Cert.MixMmRefIdeal.nD Cert.MixMmRefIdeal.τ).loc Cert.MixMmRefIdeal.main_arg0)
      ∧ r.2.mem ((c.tc : Thread Cert.MixMmRefIdeal.nD Cert.MixMmRefIdeal.τ).loc Cert.MixMmRefIdeal.main_arg1) = m ((c.tc : Thread Cert.MixMmRefIdeal.nD Cert.MixMmRefIdeal.τ).loc Cert.MixMmRefIdeal.main_arg1))
      ∧ r.2.sem = fun _ => 0)

def quiescent_MixDh [hMixDh : Cert.MixDh.Facts] : Prop :=
  ∀ (m : (ℓ : Loc Cert.MixDh.nD Cert.MixDh.τ Cert.MixDh.sig) → Buf (Elt Bits) ℓ) (g : Dev Cert.MixDh.nD → PrngReg), Pre_MixDh m →
    θ_run (Cert.MixDh.defs (F := Bits)) (onTc (τ := Cert.MixDh.τ) (Cert.MixDh.main (F := Bits))) ⟨m, fun _ => 0, g⟩ (fun r => (∀ c : Dev Cert.MixDh.nD,
      r.2.mem ((c.tc : Thread Cert.MixDh.nD Cert.MixDh.τ).loc Cert.MixDh.main_arg0) = m ((c.tc : Thread Cert.MixDh.nD Cert.MixDh.τ).loc Cert.MixDh.main_arg0)
      ∧ r.2.mem ((c.tc : Thread Cert.MixDh.nD Cert.MixDh.τ).loc Cert.MixDh.main_arg1) = m ((c.tc : Thread Cert.MixDh.nD Cert.MixDh.τ).loc Cert.MixDh.main_arg1))
      ∧ r.2.sem = fun _ => 0)

def quiescent_MixDhIdeal [hMixDhIdeal : Cert.MixDhIdeal.Facts] : Prop :=
  ∀ (m : (ℓ : Loc Cert.MixDhIdeal.nD Cert.MixDhIdeal.τ Cert.MixDhIdeal.sig) → Buf (Elt Ideal) ℓ) (g : Dev Cert.MixDhIdeal.nD → PrngReg), Pre_MixDhIdeal m →
    θ_run (Cert.MixDhIdeal.defs (F := Ideal)) (onTc (τ := Cert.MixDhIdeal.τ) (Cert.MixDhIdeal.main (F := Ideal))) ⟨m, fun _ => 0, g⟩ (fun r => (∀ c : Dev Cert.MixDhIdeal.nD,
      r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
      ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1))
      ∧ r.2.sem = fun _ => 0)

def quiescent_MixDhRefIdeal [hMixDhRefIdeal : Cert.MixDhRefIdeal.Facts] : Prop :=
  ∀ (m : (ℓ : Loc Cert.MixDhRefIdeal.nD Cert.MixDhRefIdeal.τ Cert.MixDhRefIdeal.sig) → Buf (Elt Ideal) ℓ) (g : Dev Cert.MixDhRefIdeal.nD → PrngReg), Pre_MixDhRefIdeal m →
    θ_run (Cert.MixDhRefIdeal.defs (F := Ideal)) (onTc (τ := Cert.MixDhRefIdeal.τ) (Cert.MixDhRefIdeal.main (F := Ideal))) ⟨m, fun _ => 0, g⟩ (fun r => (∀ c : Dev Cert.MixDhRefIdeal.nD,
      r.2.mem ((c.tc : Thread Cert.MixDhRefIdeal.nD Cert.MixDhRefIdeal.τ).loc Cert.MixDhRefIdeal.main_arg0) = m ((c.tc : Thread Cert.MixDhRefIdeal.nD Cert.MixDhRefIdeal.τ).loc Cert.MixDhRefIdeal.main_arg0)
      ∧ r.2.mem ((c.tc : Thread Cert.MixDhRefIdeal.nD Cert.MixDhRefIdeal.τ).loc Cert.MixDhRefIdeal.main_arg1) = m ((c.tc : Thread Cert.MixDhRefIdeal.nD Cert.MixDhRefIdeal.τ).loc Cert.MixDhRefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_MixoMm [hMixoMm : Cert.MixoMm.Facts] : Prop :=
  ∀ (m : (ℓ : Loc Cert.MixoMm.nD Cert.MixoMm.τ Cert.MixoMm.sig) → Buf (Elt Bits) ℓ) (g : Dev Cert.MixoMm.nD → PrngReg), Pre_MixoMm m →
    θ_run (Cert.MixoMm.defs (F := Bits)) (onTc (τ := Cert.MixoMm.τ) (Cert.MixoMm.main (F := Bits))) ⟨m, fun _ => 0, g⟩ (fun r => (∀ c : Dev Cert.MixoMm.nD,
      r.2.mem ((c.tc : Thread Cert.MixoMm.nD Cert.MixoMm.τ).loc Cert.MixoMm.main_arg0) = m ((c.tc : Thread Cert.MixoMm.nD Cert.MixoMm.τ).loc Cert.MixoMm.main_arg0)
      ∧ r.2.mem ((c.tc : Thread Cert.MixoMm.nD Cert.MixoMm.τ).loc Cert.MixoMm.main_arg1) = m ((c.tc : Thread Cert.MixoMm.nD Cert.MixoMm.τ).loc Cert.MixoMm.main_arg1)
      ∧ r.2.mem ((c.tc : Thread Cert.MixoMm.nD Cert.MixoMm.τ).loc Cert.MixoMm.main_arg2) = m ((c.tc : Thread Cert.MixoMm.nD Cert.MixoMm.τ).loc Cert.MixoMm.main_arg2)
      ∧ r.2.mem ((c.tc : Thread Cert.MixoMm.nD Cert.MixoMm.τ).loc Cert.MixoMm.main_arg3) = m ((c.tc : Thread Cert.MixoMm.nD Cert.MixoMm.τ).loc Cert.MixoMm.main_arg3))
      ∧ r.2.sem = fun _ => 0)

def quiescent_MixoMmIdeal [hMixoMmIdeal : Cert.MixoMmIdeal.Facts] : Prop :=
  ∀ (m : (ℓ : Loc Cert.MixoMmIdeal.nD Cert.MixoMmIdeal.τ Cert.MixoMmIdeal.sig) → Buf (Elt Ideal) ℓ) (g : Dev Cert.MixoMmIdeal.nD → PrngReg), Pre_MixoMmIdeal m →
    θ_run (Cert.MixoMmIdeal.defs (F := Ideal)) (onTc (τ := Cert.MixoMmIdeal.τ) (Cert.MixoMmIdeal.main (F := Ideal))) ⟨m, fun _ => 0, g⟩ (fun r => (∀ c : Dev Cert.MixoMmIdeal.nD,
      r.2.mem ((c.tc : Thread Cert.MixoMmIdeal.nD Cert.MixoMmIdeal.τ).loc Cert.MixoMmIdeal.main_arg0) = m ((c.tc : Thread Cert.MixoMmIdeal.nD Cert.MixoMmIdeal.τ).loc Cert.MixoMmIdeal.main_arg0)
      ∧ r.2.mem ((c.tc : Thread Cert.MixoMmIdeal.nD Cert.MixoMmIdeal.τ).loc Cert.MixoMmIdeal.main_arg1) = m ((c.tc : Thread Cert.MixoMmIdeal.nD Cert.MixoMmIdeal.τ).loc Cert.MixoMmIdeal.main_arg1)
      ∧ r.2.mem ((c.tc : Thread Cert.MixoMmIdeal.nD Cert.MixoMmIdeal.τ).loc Cert.MixoMmIdeal.main_arg2) = m ((c.tc : Thread Cert.MixoMmIdeal.nD Cert.MixoMmIdeal.τ).loc Cert.MixoMmIdeal.main_arg2)
      ∧ r.2.mem ((c.tc : Thread Cert.MixoMmIdeal.nD Cert.MixoMmIdeal.τ).loc Cert.MixoMmIdeal.main_arg3) = m ((c.tc : Thread Cert.MixoMmIdeal.nD Cert.MixoMmIdeal.τ).loc Cert.MixoMmIdeal.main_arg3))
      ∧ r.2.sem = fun _ => 0)

def quiescent_MixoMmRefIdeal [hMixoMmRefIdeal : Cert.MixoMmRefIdeal.Facts] : Prop :=
  ∀ (m : (ℓ : Loc Cert.MixoMmRefIdeal.nD Cert.MixoMmRefIdeal.τ Cert.MixoMmRefIdeal.sig) → Buf (Elt Ideal) ℓ) (g : Dev Cert.MixoMmRefIdeal.nD → PrngReg), Pre_MixoMmRefIdeal m →
    θ_run (Cert.MixoMmRefIdeal.defs (F := Ideal)) (onTc (τ := Cert.MixoMmRefIdeal.τ) (Cert.MixoMmRefIdeal.main (F := Ideal))) ⟨m, fun _ => 0, g⟩ (fun r => (∀ c : Dev Cert.MixoMmRefIdeal.nD,
      r.2.mem ((c.tc : Thread Cert.MixoMmRefIdeal.nD Cert.MixoMmRefIdeal.τ).loc Cert.MixoMmRefIdeal.main_arg0) = m ((c.tc : Thread Cert.MixoMmRefIdeal.nD Cert.MixoMmRefIdeal.τ).loc Cert.MixoMmRefIdeal.main_arg0)
      ∧ r.2.mem ((c.tc : Thread Cert.MixoMmRefIdeal.nD Cert.MixoMmRefIdeal.τ).loc Cert.MixoMmRefIdeal.main_arg1) = m ((c.tc : Thread Cert.MixoMmRefIdeal.nD Cert.MixoMmRefIdeal.τ).loc Cert.MixoMmRefIdeal.main_arg1)
      ∧ r.2.mem ((c.tc : Thread Cert.MixoMmRefIdeal.nD Cert.MixoMmRefIdeal.τ).loc Cert.MixoMmRefIdeal.main_arg2) = m ((c.tc : Thread Cert.MixoMmRefIdeal.nD Cert.MixoMmRefIdeal.τ).loc Cert.MixoMmRefIdeal.main_arg2)
      ∧ r.2.mem ((c.tc : Thread Cert.MixoMmRefIdeal.nD Cert.MixoMmRefIdeal.τ).loc Cert.MixoMmRefIdeal.main_arg3) = m ((c.tc : Thread Cert.MixoMmRefIdeal.nD Cert.MixoMmRefIdeal.τ).loc Cert.MixoMmRefIdeal.main_arg3))
      ∧ r.2.sem = fun _ => 0)

def quiescent_MixoDa [hMixoDa : Cert.MixoDa.Facts] : Prop :=
  ∀ (m : (ℓ : Loc Cert.MixoDa.nD Cert.MixoDa.τ Cert.MixoDa.sig) → Buf (Elt Bits) ℓ) (g : Dev Cert.MixoDa.nD → PrngReg), Pre_MixoDa m →
    θ_run (Cert.MixoDa.defs (F := Bits)) (onTc (τ := Cert.MixoDa.τ) (Cert.MixoDa.main (F := Bits))) ⟨m, fun _ => 0, g⟩ (fun r => (∀ c : Dev Cert.MixoDa.nD,
      r.2.mem ((c.tc : Thread Cert.MixoDa.nD Cert.MixoDa.τ).loc Cert.MixoDa.main_arg0) = m ((c.tc : Thread Cert.MixoDa.nD Cert.MixoDa.τ).loc Cert.MixoDa.main_arg0)
      ∧ r.2.mem ((c.tc : Thread Cert.MixoDa.nD Cert.MixoDa.τ).loc Cert.MixoDa.main_arg1) = m ((c.tc : Thread Cert.MixoDa.nD Cert.MixoDa.τ).loc Cert.MixoDa.main_arg1))
      ∧ r.2.sem = fun _ => 0)

def quiescent_MixoDaIdeal [hMixoDaIdeal : Cert.MixoDaIdeal.Facts] : Prop :=
  ∀ (m : (ℓ : Loc Cert.MixoDaIdeal.nD Cert.MixoDaIdeal.τ Cert.MixoDaIdeal.sig) → Buf (Elt Ideal) ℓ) (g : Dev Cert.MixoDaIdeal.nD → PrngReg), Pre_MixoDaIdeal m →
    θ_run (Cert.MixoDaIdeal.defs (F := Ideal)) (onTc (τ := Cert.MixoDaIdeal.τ) (Cert.MixoDaIdeal.main (F := Ideal))) ⟨m, fun _ => 0, g⟩ (fun r => (∀ c : Dev Cert.MixoDaIdeal.nD,
      r.2.mem ((c.tc : Thread Cert.MixoDaIdeal.nD Cert.MixoDaIdeal.τ).loc Cert.MixoDaIdeal.main_arg0) = m ((c.tc : Thread Cert.MixoDaIdeal.nD Cert.MixoDaIdeal.τ).loc Cert.MixoDaIdeal.main_arg0)
      ∧ r.2.mem ((c.tc : Thread Cert.MixoDaIdeal.nD Cert.MixoDaIdeal.τ).loc Cert.MixoDaIdeal.main_arg1) = m ((c.tc : Thread Cert.MixoDaIdeal.nD Cert.MixoDaIdeal.τ).loc Cert.MixoDaIdeal.main_arg1))
      ∧ r.2.sem = fun _ => 0)

def quiescent_MixoDaRefIdeal [hMixoDaRefIdeal : Cert.MixoDaRefIdeal.Facts] : Prop :=
  ∀ (m : (ℓ : Loc Cert.MixoDaRefIdeal.nD Cert.MixoDaRefIdeal.τ Cert.MixoDaRefIdeal.sig) → Buf (Elt Ideal) ℓ) (g : Dev Cert.MixoDaRefIdeal.nD → PrngReg), Pre_MixoDaRefIdeal m →
    θ_run (Cert.MixoDaRefIdeal.defs (F := Ideal)) (onTc (τ := Cert.MixoDaRefIdeal.τ) (Cert.MixoDaRefIdeal.main (F := Ideal))) ⟨m, fun _ => 0, g⟩ (fun r => (∀ c : Dev Cert.MixoDaRefIdeal.nD,
      r.2.mem ((c.tc : Thread Cert.MixoDaRefIdeal.nD Cert.MixoDaRefIdeal.τ).loc Cert.MixoDaRefIdeal.main_arg0) = m ((c.tc : Thread Cert.MixoDaRefIdeal.nD Cert.MixoDaRefIdeal.τ).loc Cert.MixoDaRefIdeal.main_arg0)
      ∧ r.2.mem ((c.tc : Thread Cert.MixoDaRefIdeal.nD Cert.MixoDaRefIdeal.τ).loc Cert.MixoDaRefIdeal.main_arg1) = m ((c.tc : Thread Cert.MixoDaRefIdeal.nD Cert.MixoDaRefIdeal.τ).loc Cert.MixoDaRefIdeal.main_arg1))
      ∧ r.2.sem = fun _ => 0)

def quiescent_MixoDw [hMixoDw : Cert.MixoDw.Facts] : Prop :=
  ∀ (m : (ℓ : Loc Cert.MixoDw.nD Cert.MixoDw.τ Cert.MixoDw.sig) → Buf (Elt Bits) ℓ) (g : Dev Cert.MixoDw.nD → PrngReg), Pre_MixoDw m →
    θ_run (Cert.MixoDw.defs (F := Bits)) (onTc (τ := Cert.MixoDw.τ) (Cert.MixoDw.main (F := Bits))) ⟨m, fun _ => 0, g⟩ (fun r => (∀ c : Dev Cert.MixoDw.nD,
      r.2.mem ((c.tc : Thread Cert.MixoDw.nD Cert.MixoDw.τ).loc Cert.MixoDw.main_arg0) = m ((c.tc : Thread Cert.MixoDw.nD Cert.MixoDw.τ).loc Cert.MixoDw.main_arg0)
      ∧ r.2.mem ((c.tc : Thread Cert.MixoDw.nD Cert.MixoDw.τ).loc Cert.MixoDw.main_arg1) = m ((c.tc : Thread Cert.MixoDw.nD Cert.MixoDw.τ).loc Cert.MixoDw.main_arg1))
      ∧ r.2.sem = fun _ => 0)

def quiescent_MixoDwIdeal [hMixoDwIdeal : Cert.MixoDwIdeal.Facts] : Prop :=
  ∀ (m : (ℓ : Loc Cert.MixoDwIdeal.nD Cert.MixoDwIdeal.τ Cert.MixoDwIdeal.sig) → Buf (Elt Ideal) ℓ) (g : Dev Cert.MixoDwIdeal.nD → PrngReg), Pre_MixoDwIdeal m →
    θ_run (Cert.MixoDwIdeal.defs (F := Ideal)) (onTc (τ := Cert.MixoDwIdeal.τ) (Cert.MixoDwIdeal.main (F := Ideal))) ⟨m, fun _ => 0, g⟩ (fun r => (∀ c : Dev Cert.MixoDwIdeal.nD,
      r.2.mem ((c.tc : Thread Cert.MixoDwIdeal.nD Cert.MixoDwIdeal.τ).loc Cert.MixoDwIdeal.main_arg0) = m ((c.tc : Thread Cert.MixoDwIdeal.nD Cert.MixoDwIdeal.τ).loc Cert.MixoDwIdeal.main_arg0)
      ∧ r.2.mem ((c.tc : Thread Cert.MixoDwIdeal.nD Cert.MixoDwIdeal.τ).loc Cert.MixoDwIdeal.main_arg1) = m ((c.tc : Thread Cert.MixoDwIdeal.nD Cert.MixoDwIdeal.τ).loc Cert.MixoDwIdeal.main_arg1))
      ∧ r.2.sem = fun _ => 0)

def quiescent_MixoDwRefIdeal [hMixoDwRefIdeal : Cert.MixoDwRefIdeal.Facts] : Prop :=
  ∀ (m : (ℓ : Loc Cert.MixoDwRefIdeal.nD Cert.MixoDwRefIdeal.τ Cert.MixoDwRefIdeal.sig) → Buf (Elt Ideal) ℓ) (g : Dev Cert.MixoDwRefIdeal.nD → PrngReg), Pre_MixoDwRefIdeal m →
    θ_run (Cert.MixoDwRefIdeal.defs (F := Ideal)) (onTc (τ := Cert.MixoDwRefIdeal.τ) (Cert.MixoDwRefIdeal.main (F := Ideal))) ⟨m, fun _ => 0, g⟩ (fun r => (∀ c : Dev Cert.MixoDwRefIdeal.nD,
      r.2.mem ((c.tc : Thread Cert.MixoDwRefIdeal.nD Cert.MixoDwRefIdeal.τ).loc Cert.MixoDwRefIdeal.main_arg0) = m ((c.tc : Thread Cert.MixoDwRefIdeal.nD Cert.MixoDwRefIdeal.τ).loc Cert.MixoDwRefIdeal.main_arg0)
      ∧ r.2.mem ((c.tc : Thread Cert.MixoDwRefIdeal.nD Cert.MixoDwRefIdeal.τ).loc Cert.MixoDwRefIdeal.main_arg1) = m ((c.tc : Thread Cert.MixoDwRefIdeal.nD Cert.MixoDwRefIdeal.τ).loc Cert.MixoDwRefIdeal.main_arg1))
      ∧ r.2.sem = fun _ => 0)

def quiescent_UqMm [hUqMm : Cert.UqMm.Facts] : Prop :=
  ∀ (m : (ℓ : Loc Cert.UqMm.nD Cert.UqMm.τ Cert.UqMm.sig) → Buf (Elt Bits) ℓ) (g : Dev Cert.UqMm.nD → PrngReg), Pre_UqMm m →
    θ_run (Cert.UqMm.defs (F := Bits)) (onTc (τ := Cert.UqMm.τ) (Cert.UqMm.main (F := Bits))) ⟨m, fun _ => 0, g⟩ (fun r => (∀ c : Dev Cert.UqMm.nD,
      r.2.mem ((c.tc : Thread Cert.UqMm.nD Cert.UqMm.τ).loc Cert.UqMm.main_arg0) = m ((c.tc : Thread Cert.UqMm.nD Cert.UqMm.τ).loc Cert.UqMm.main_arg0)
      ∧ r.2.mem ((c.tc : Thread Cert.UqMm.nD Cert.UqMm.τ).loc Cert.UqMm.main_arg1) = m ((c.tc : Thread Cert.UqMm.nD Cert.UqMm.τ).loc Cert.UqMm.main_arg1))
      ∧ r.2.sem = fun _ => 0)

def quiescent_UqMmIdeal [hUqMmIdeal : Cert.UqMmIdeal.Facts] : Prop :=
  ∀ (m : (ℓ : Loc Cert.UqMmIdeal.nD Cert.UqMmIdeal.τ Cert.UqMmIdeal.sig) → Buf (Elt Ideal) ℓ) (g : Dev Cert.UqMmIdeal.nD → PrngReg), Pre_UqMmIdeal m →
    θ_run (Cert.UqMmIdeal.defs (F := Ideal)) (onTc (τ := Cert.UqMmIdeal.τ) (Cert.UqMmIdeal.main (F := Ideal))) ⟨m, fun _ => 0, g⟩ (fun r => (∀ c : Dev Cert.UqMmIdeal.nD,
      r.2.mem ((c.tc : Thread Cert.UqMmIdeal.nD Cert.UqMmIdeal.τ).loc Cert.UqMmIdeal.main_arg0) = m ((c.tc : Thread Cert.UqMmIdeal.nD Cert.UqMmIdeal.τ).loc Cert.UqMmIdeal.main_arg0)
      ∧ r.2.mem ((c.tc : Thread Cert.UqMmIdeal.nD Cert.UqMmIdeal.τ).loc Cert.UqMmIdeal.main_arg1) = m ((c.tc : Thread Cert.UqMmIdeal.nD Cert.UqMmIdeal.τ).loc Cert.UqMmIdeal.main_arg1))
      ∧ r.2.sem = fun _ => 0)

def quiescent_UqMmRefIdeal [hUqMmRefIdeal : Cert.UqMmRefIdeal.Facts] : Prop :=
  ∀ (m : (ℓ : Loc Cert.UqMmRefIdeal.nD Cert.UqMmRefIdeal.τ Cert.UqMmRefIdeal.sig) → Buf (Elt Ideal) ℓ) (g : Dev Cert.UqMmRefIdeal.nD → PrngReg), Pre_UqMmRefIdeal m →
    θ_run (Cert.UqMmRefIdeal.defs (F := Ideal)) (onTc (τ := Cert.UqMmRefIdeal.τ) (Cert.UqMmRefIdeal.main (F := Ideal))) ⟨m, fun _ => 0, g⟩ (fun r => (∀ c : Dev Cert.UqMmRefIdeal.nD,
      r.2.mem ((c.tc : Thread Cert.UqMmRefIdeal.nD Cert.UqMmRefIdeal.τ).loc Cert.UqMmRefIdeal.main_arg0) = m ((c.tc : Thread Cert.UqMmRefIdeal.nD Cert.UqMmRefIdeal.τ).loc Cert.UqMmRefIdeal.main_arg0)
      ∧ r.2.mem ((c.tc : Thread Cert.UqMmRefIdeal.nD Cert.UqMmRefIdeal.τ).loc Cert.UqMmRefIdeal.main_arg1) = m ((c.tc : Thread Cert.UqMmRefIdeal.nD Cert.UqMmRefIdeal.τ).loc Cert.UqMmRefIdeal.main_arg1))
      ∧ r.2.sem = fun _ => 0)

def quiescent_UqDh [hUqDh : Cert.UqDh.Facts] : Prop :=
  ∀ (m : (ℓ : Loc Cert.UqDh.nD Cert.UqDh.τ Cert.UqDh.sig) → Buf (Elt Bits) ℓ) (g : Dev Cert.UqDh.nD → PrngReg), Pre_UqDh m →
    θ_run (Cert.UqDh.defs (F := Bits)) (onTc (τ := Cert.UqDh.τ) (Cert.UqDh.main (F := Bits))) ⟨m, fun _ => 0, g⟩ (fun r => (∀ c : Dev Cert.UqDh.nD,
      r.2.mem ((c.tc : Thread Cert.UqDh.nD Cert.UqDh.τ).loc Cert.UqDh.main_arg0) = m ((c.tc : Thread Cert.UqDh.nD Cert.UqDh.τ).loc Cert.UqDh.main_arg0)
      ∧ r.2.mem ((c.tc : Thread Cert.UqDh.nD Cert.UqDh.τ).loc Cert.UqDh.main_arg1) = m ((c.tc : Thread Cert.UqDh.nD Cert.UqDh.τ).loc Cert.UqDh.main_arg1))
      ∧ r.2.sem = fun _ => 0)

def quiescent_UqDhIdeal [hUqDhIdeal : Cert.UqDhIdeal.Facts] : Prop :=
  ∀ (m : (ℓ : Loc Cert.UqDhIdeal.nD Cert.UqDhIdeal.τ Cert.UqDhIdeal.sig) → Buf (Elt Ideal) ℓ) (g : Dev Cert.UqDhIdeal.nD → PrngReg), Pre_UqDhIdeal m →
    θ_run (Cert.UqDhIdeal.defs (F := Ideal)) (onTc (τ := Cert.UqDhIdeal.τ) (Cert.UqDhIdeal.main (F := Ideal))) ⟨m, fun _ => 0, g⟩ (fun r => (∀ c : Dev Cert.UqDhIdeal.nD,
      r.2.mem ((c.tc : Thread Cert.UqDhIdeal.nD Cert.UqDhIdeal.τ).loc Cert.UqDhIdeal.main_arg0) = m ((c.tc : Thread Cert.UqDhIdeal.nD Cert.UqDhIdeal.τ).loc Cert.UqDhIdeal.main_arg0)
      ∧ r.2.mem ((c.tc : Thread Cert.UqDhIdeal.nD Cert.UqDhIdeal.τ).loc Cert.UqDhIdeal.main_arg1) = m ((c.tc : Thread Cert.UqDhIdeal.nD Cert.UqDhIdeal.τ).loc Cert.UqDhIdeal.main_arg1))
      ∧ r.2.sem = fun _ => 0)

def quiescent_UqDhRefIdeal [hUqDhRefIdeal : Cert.UqDhRefIdeal.Facts] : Prop :=
  ∀ (m : (ℓ : Loc Cert.UqDhRefIdeal.nD Cert.UqDhRefIdeal.τ Cert.UqDhRefIdeal.sig) → Buf (Elt Ideal) ℓ) (g : Dev Cert.UqDhRefIdeal.nD → PrngReg), Pre_UqDhRefIdeal m →
    θ_run (Cert.UqDhRefIdeal.defs (F := Ideal)) (onTc (τ := Cert.UqDhRefIdeal.τ) (Cert.UqDhRefIdeal.main (F := Ideal))) ⟨m, fun _ => 0, g⟩ (fun r => (∀ c : Dev Cert.UqDhRefIdeal.nD,
      r.2.mem ((c.tc : Thread Cert.UqDhRefIdeal.nD Cert.UqDhRefIdeal.τ).loc Cert.UqDhRefIdeal.main_arg0) = m ((c.tc : Thread Cert.UqDhRefIdeal.nD Cert.UqDhRefIdeal.τ).loc Cert.UqDhRefIdeal.main_arg0)
      ∧ r.2.mem ((c.tc : Thread Cert.UqDhRefIdeal.nD Cert.UqDhRefIdeal.τ).loc Cert.UqDhRefIdeal.main_arg1) = m ((c.tc : Thread Cert.UqDhRefIdeal.nD Cert.UqDhRefIdeal.τ).loc Cert.UqDhRefIdeal.main_arg1))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ r.2.sem = fun _ => 0)

def quiescent_UqDwRefIdeal [hUqDwRefIdeal : Cert.UqDwRefIdeal.Facts] : Prop :=
  ∀ (m : (ℓ : Loc Cert.UqDwRefIdeal.nD Cert.UqDwRefIdeal.τ Cert.UqDwRefIdeal.sig) → Buf (Elt Ideal) ℓ) (g : Dev Cert.UqDwRefIdeal.nD → PrngReg), Pre_UqDwRefIdeal m →
    θ_run (Cert.UqDwRefIdeal.defs (F := Ideal)) (onTc (τ := Cert.UqDwRefIdeal.τ) (Cert.UqDwRefIdeal.main (F := Ideal))) ⟨m, fun _ => 0, g⟩ (fun r => (∀ c : Dev Cert.UqDwRefIdeal.nD,
      r.2.mem ((c.tc : Thread Cert.UqDwRefIdeal.nD Cert.UqDwRefIdeal.τ).loc Cert.UqDwRefIdeal.main_arg0) = m ((c.tc : Thread Cert.UqDwRefIdeal.nD Cert.UqDwRefIdeal.τ).loc Cert.UqDwRefIdeal.main_arg0)
      ∧ r.2.mem ((c.tc : Thread Cert.UqDwRefIdeal.nD Cert.UqDwRefIdeal.τ).loc Cert.UqDwRefIdeal.main_arg1) = m ((c.tc : Thread Cert.UqDwRefIdeal.nD Cert.UqDwRefIdeal.τ).loc Cert.UqDwRefIdeal.main_arg1))
      ∧ r.2.sem = fun _ => 0)

def quiescent_UkvMm [hUkvMm : Cert.UkvMm.Facts] : Prop :=
  ∀ (m : (ℓ : Loc Cert.UkvMm.nD Cert.UkvMm.τ Cert.UkvMm.sig) → Buf (Elt Bits) ℓ) (g : Dev Cert.UkvMm.nD → PrngReg), Pre_UkvMm m →
    θ_run (Cert.UkvMm.defs (F := Bits)) (onTc (τ := Cert.UkvMm.τ) (Cert.UkvMm.main (F := Bits))) ⟨m, fun _ => 0, g⟩ (fun r => (∀ c : Dev Cert.UkvMm.nD,
      r.2.mem ((c.tc : Thread Cert.UkvMm.nD Cert.UkvMm.τ).loc Cert.UkvMm.main_arg0) = m ((c.tc : Thread Cert.UkvMm.nD Cert.UkvMm.τ).loc Cert.UkvMm.main_arg0)
      ∧ r.2.mem ((c.tc : Thread Cert.UkvMm.nD Cert.UkvMm.τ).loc Cert.UkvMm.main_arg1) = m ((c.tc : Thread Cert.UkvMm.nD Cert.UkvMm.τ).loc Cert.UkvMm.main_arg1))
      ∧ r.2.sem = fun _ => 0)

def quiescent_UkvMmIdeal [hUkvMmIdeal : Cert.UkvMmIdeal.Facts] : Prop :=
  ∀ (m : (ℓ : Loc Cert.UkvMmIdeal.nD Cert.UkvMmIdeal.τ Cert.UkvMmIdeal.sig) → Buf (Elt Ideal) ℓ) (g : Dev Cert.UkvMmIdeal.nD → PrngReg), Pre_UkvMmIdeal m →
    θ_run (Cert.UkvMmIdeal.defs (F := Ideal)) (onTc (τ := Cert.UkvMmIdeal.τ) (Cert.UkvMmIdeal.main (F := Ideal))) ⟨m, fun _ => 0, g⟩ (fun r => (∀ c : Dev Cert.UkvMmIdeal.nD,
      r.2.mem ((c.tc : Thread Cert.UkvMmIdeal.nD Cert.UkvMmIdeal.τ).loc Cert.UkvMmIdeal.main_arg0) = m ((c.tc : Thread Cert.UkvMmIdeal.nD Cert.UkvMmIdeal.τ).loc Cert.UkvMmIdeal.main_arg0)
      ∧ r.2.mem ((c.tc : Thread Cert.UkvMmIdeal.nD Cert.UkvMmIdeal.τ).loc Cert.UkvMmIdeal.main_arg1) = m ((c.tc : Thread Cert.UkvMmIdeal.nD Cert.UkvMmIdeal.τ).loc Cert.UkvMmIdeal.main_arg1))
      ∧ r.2.sem = fun _ => 0)

def quiescent_UkvMmRefIdeal [hUkvMmRefIdeal : Cert.UkvMmRefIdeal.Facts] : Prop :=
  ∀ (m : (ℓ : Loc Cert.UkvMmRefIdeal.nD Cert.UkvMmRefIdeal.τ Cert.UkvMmRefIdeal.sig) → Buf (Elt Ideal) ℓ) (g : Dev Cert.UkvMmRefIdeal.nD → PrngReg), Pre_UkvMmRefIdeal m →
    θ_run (Cert.UkvMmRefIdeal.defs (F := Ideal)) (onTc (τ := Cert.UkvMmRefIdeal.τ) (Cert.UkvMmRefIdeal.main (F := Ideal))) ⟨m, fun _ => 0, g⟩ (fun r => (∀ c : Dev Cert.UkvMmRefIdeal.nD,
      r.2.mem ((c.tc : Thread Cert.UkvMmRefIdeal.nD Cert.UkvMmRefIdeal.τ).loc Cert.UkvMmRefIdeal.main_arg0) = m ((c.tc : Thread Cert.UkvMmRefIdeal.nD Cert.UkvMmRefIdeal.τ).loc Cert.UkvMmRefIdeal.main_arg0)
      ∧ r.2.mem ((c.tc : Thread Cert.UkvMmRefIdeal.nD Cert.UkvMmRefIdeal.τ).loc Cert.UkvMmRefIdeal.main_arg1) = m ((c.tc : Thread Cert.UkvMmRefIdeal.nD Cert.UkvMmRefIdeal.τ).loc Cert.UkvMmRefIdeal.main_arg1))
      ∧ r.2.sem = fun _ => 0)

def quiescent_UkvDh [hUkvDh : Cert.UkvDh.Facts] : Prop :=
  ∀ (m : (ℓ : Loc Cert.UkvDh.nD Cert.UkvDh.τ Cert.UkvDh.sig) → Buf (Elt Bits) ℓ) (g : Dev Cert.UkvDh.nD → PrngReg), Pre_UkvDh m →
    θ_run (Cert.UkvDh.defs (F := Bits)) (onTc (τ := Cert.UkvDh.τ) (Cert.UkvDh.main (F := Bits))) ⟨m, fun _ => 0, g⟩ (fun r => (∀ c : Dev Cert.UkvDh.nD,
      r.2.mem ((c.tc : Thread Cert.UkvDh.nD Cert.UkvDh.τ).loc Cert.UkvDh.main_arg0) = m ((c.tc : Thread Cert.UkvDh.nD Cert.UkvDh.τ).loc Cert.UkvDh.main_arg0)
      ∧ r.2.mem ((c.tc : Thread Cert.UkvDh.nD Cert.UkvDh.τ).loc Cert.UkvDh.main_arg1) = m ((c.tc : Thread Cert.UkvDh.nD Cert.UkvDh.τ).loc Cert.UkvDh.main_arg1))
      ∧ r.2.sem = fun _ => 0)

def quiescent_UkvDhIdeal [hUkvDhIdeal : Cert.UkvDhIdeal.Facts] : Prop :=
  ∀ (m : (ℓ : Loc Cert.UkvDhIdeal.nD Cert.UkvDhIdeal.τ Cert.UkvDhIdeal.sig) → Buf (Elt Ideal) ℓ) (g : Dev Cert.UkvDhIdeal.nD → PrngReg), Pre_UkvDhIdeal m →
    θ_run (Cert.UkvDhIdeal.defs (F := Ideal)) (onTc (τ := Cert.UkvDhIdeal.τ) (Cert.UkvDhIdeal.main (F := Ideal))) ⟨m, fun _ => 0, g⟩ (fun r => (∀ c : Dev Cert.UkvDhIdeal.nD,
      r.2.mem ((c.tc : Thread Cert.UkvDhIdeal.nD Cert.UkvDhIdeal.τ).loc Cert.UkvDhIdeal.main_arg0) = m ((c.tc : Thread Cert.UkvDhIdeal.nD Cert.UkvDhIdeal.τ).loc Cert.UkvDhIdeal.main_arg0)
      ∧ r.2.mem ((c.tc : Thread Cert.UkvDhIdeal.nD Cert.UkvDhIdeal.τ).loc Cert.UkvDhIdeal.main_arg1) = m ((c.tc : Thread Cert.UkvDhIdeal.nD Cert.UkvDhIdeal.τ).loc Cert.UkvDhIdeal.main_arg1))
      ∧ r.2.sem = fun _ => 0)

def quiescent_UkvDhRefIdeal [hUkvDhRefIdeal : Cert.UkvDhRefIdeal.Facts] : Prop :=
  ∀ (m : (ℓ : Loc Cert.UkvDhRefIdeal.nD Cert.UkvDhRefIdeal.τ Cert.UkvDhRefIdeal.sig) → Buf (Elt Ideal) ℓ) (g : Dev Cert.UkvDhRefIdeal.nD → PrngReg), Pre_UkvDhRefIdeal m →
    θ_run (Cert.UkvDhRefIdeal.defs (F := Ideal)) (onTc (τ := Cert.UkvDhRefIdeal.τ) (Cert.UkvDhRefIdeal.main (F := Ideal))) ⟨m, fun _ => 0, g⟩ (fun r => (∀ c : Dev Cert.UkvDhRefIdeal.nD,
      r.2.mem ((c.tc : Thread Cert.UkvDhRefIdeal.nD Cert.UkvDhRefIdeal.τ).loc Cert.UkvDhRefIdeal.main_arg0) = m ((c.tc : Thread Cert.UkvDhRefIdeal.nD Cert.UkvDhRefIdeal.τ).loc Cert.UkvDhRefIdeal.main_arg0)
      ∧ r.2.mem ((c.tc : Thread Cert.UkvDhRefIdeal.nD Cert.UkvDhRefIdeal.τ).loc Cert.UkvDhRefIdeal.main_arg1) = m ((c.tc : Thread Cert.UkvDhRefIdeal.nD Cert.UkvDhRefIdeal.τ).loc Cert.UkvDhRefIdeal.main_arg1))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ r.2.sem = fun _ => 0)

def quiescent_UkvDwRefIdeal [hUkvDwRefIdeal : Cert.UkvDwRefIdeal.Facts] : Prop :=
  ∀ (m : (ℓ : Loc Cert.UkvDwRefIdeal.nD Cert.UkvDwRefIdeal.τ Cert.UkvDwRefIdeal.sig) → Buf (Elt Ideal) ℓ) (g : Dev Cert.UkvDwRefIdeal.nD → PrngReg), Pre_UkvDwRefIdeal m →
    θ_run (Cert.UkvDwRefIdeal.defs (F := Ideal)) (onTc (τ := Cert.UkvDwRefIdeal.τ) (Cert.UkvDwRefIdeal.main (F := Ideal))) ⟨m, fun _ => 0, g⟩ (fun r => (∀ c : Dev Cert.UkvDwRefIdeal.nD,
      r.2.mem ((c.tc : Thread Cert.UkvDwRefIdeal.nD Cert.UkvDwRefIdeal.τ).loc Cert.UkvDwRefIdeal.main_arg0) = m ((c.tc : Thread Cert.UkvDwRefIdeal.nD Cert.UkvDwRefIdeal.τ).loc Cert.UkvDwRefIdeal.main_arg0)
      ∧ r.2.mem ((c.tc : Thread Cert.UkvDwRefIdeal.nD Cert.UkvDwRefIdeal.τ).loc Cert.UkvDwRefIdeal.main_arg1) = m ((c.tc : Thread Cert.UkvDwRefIdeal.nD Cert.UkvDwRefIdeal.τ).loc Cert.UkvDwRefIdeal.main_arg1))
      ∧ r.2.sem = fun _ => 0)

def quiescent_CtxIn [hCtxIn : Cert.CtxIn.Facts] : Prop :=
  ∀ (m : (ℓ : Loc Cert.CtxIn.nD Cert.CtxIn.τ Cert.CtxIn.sig) → Buf (Elt Bits) ℓ) (g : Dev Cert.CtxIn.nD → PrngReg), Pre_CtxIn m →
    θ_run (Cert.CtxIn.defs (F := Bits)) (onTc (τ := Cert.CtxIn.τ) (Cert.CtxIn.main (F := Bits))) ⟨m, fun _ => 0, g⟩ (fun r => (∀ c : Dev Cert.CtxIn.nD,
      r.2.mem ((c.tc : Thread Cert.CtxIn.nD Cert.CtxIn.τ).loc Cert.CtxIn.main_arg0) = m ((c.tc : Thread Cert.CtxIn.nD Cert.CtxIn.τ).loc Cert.CtxIn.main_arg0)
      ∧ r.2.mem ((c.tc : Thread Cert.CtxIn.nD Cert.CtxIn.τ).loc Cert.CtxIn.main_arg1) = m ((c.tc : Thread Cert.CtxIn.nD Cert.CtxIn.τ).loc Cert.CtxIn.main_arg1))
      ∧ r.2.sem = fun _ => 0)

def quiescent_CtxInIdeal [hCtxInIdeal : Cert.CtxInIdeal.Facts] : Prop :=
  ∀ (m : (ℓ : Loc Cert.CtxInIdeal.nD Cert.CtxInIdeal.τ Cert.CtxInIdeal.sig) → Buf (Elt Ideal) ℓ) (g : Dev Cert.CtxInIdeal.nD → PrngReg), Pre_CtxInIdeal m →
    θ_run (Cert.CtxInIdeal.defs (F := Ideal)) (onTc (τ := Cert.CtxInIdeal.τ) (Cert.CtxInIdeal.main (F := Ideal))) ⟨m, fun _ => 0, g⟩ (fun r => (∀ c : Dev Cert.CtxInIdeal.nD,
      r.2.mem ((c.tc : Thread Cert.CtxInIdeal.nD Cert.CtxInIdeal.τ).loc Cert.CtxInIdeal.main_arg0) = m ((c.tc : Thread Cert.CtxInIdeal.nD Cert.CtxInIdeal.τ).loc Cert.CtxInIdeal.main_arg0)
      ∧ r.2.mem ((c.tc : Thread Cert.CtxInIdeal.nD Cert.CtxInIdeal.τ).loc Cert.CtxInIdeal.main_arg1) = m ((c.tc : Thread Cert.CtxInIdeal.nD Cert.CtxInIdeal.τ).loc Cert.CtxInIdeal.main_arg1))
      ∧ r.2.sem = fun _ => 0)

def quiescent_CtxInIdeal_pre_finite_ctx_in [hCtxInIdeal : Cert.CtxInIdeal.Facts] [hPre_finite_ctx_in : Cert.Pre_finite_ctx_in.Facts] : Prop :=
  ∀ (m : (ℓ : Loc Cert.CtxInIdeal.nD Cert.CtxInIdeal.τ Cert.CtxInIdeal.sig) → Buf (Elt Ideal) ℓ) (g : Dev Cert.CtxInIdeal.nD → PrngReg), Pre_CtxInIdeal_finite_ctx_in m →
    θ_run (Cert.CtxInIdeal.defs (F := Ideal)) (onTc (τ := Cert.CtxInIdeal.τ) (Cert.CtxInIdeal.main (F := Ideal))) ⟨m, fun _ => 0, g⟩ (fun r => (∀ c : Dev Cert.CtxInIdeal.nD,
      r.2.mem ((c.tc : Thread Cert.CtxInIdeal.nD Cert.CtxInIdeal.τ).loc Cert.CtxInIdeal.main_arg0) = m ((c.tc : Thread Cert.CtxInIdeal.nD Cert.CtxInIdeal.τ).loc Cert.CtxInIdeal.main_arg0)
      ∧ r.2.mem ((c.tc : Thread Cert.CtxInIdeal.nD Cert.CtxInIdeal.τ).loc Cert.CtxInIdeal.main_arg1) = m ((c.tc : Thread Cert.CtxInIdeal.nD Cert.CtxInIdeal.τ).loc Cert.CtxInIdeal.main_arg1))
      ∧ r.2.sem = fun _ => 0)

def quiescent_CtxInRefIdeal [hCtxInRefIdeal : Cert.CtxInRefIdeal.Facts] : Prop :=
  ∀ (m : (ℓ : Loc Cert.CtxInRefIdeal.nD Cert.CtxInRefIdeal.τ Cert.CtxInRefIdeal.sig) → Buf (Elt Ideal) ℓ) (g : Dev Cert.CtxInRefIdeal.nD → PrngReg), Pre_CtxInRefIdeal m →
    θ_run (Cert.CtxInRefIdeal.defs (F := Ideal)) (onTc (τ := Cert.CtxInRefIdeal.τ) (Cert.CtxInRefIdeal.main (F := Ideal))) ⟨m, fun _ => 0, g⟩ (fun r => (∀ c : Dev Cert.CtxInRefIdeal.nD,
      r.2.mem ((c.tc : Thread Cert.CtxInRefIdeal.nD Cert.CtxInRefIdeal.τ).loc Cert.CtxInRefIdeal.main_arg0) = m ((c.tc : Thread Cert.CtxInRefIdeal.nD Cert.CtxInRefIdeal.τ).loc Cert.CtxInRefIdeal.main_arg0)
      ∧ r.2.mem ((c.tc : Thread Cert.CtxInRefIdeal.nD Cert.CtxInRefIdeal.τ).loc Cert.CtxInRefIdeal.main_arg1) = m ((c.tc : Thread Cert.CtxInRefIdeal.nD Cert.CtxInRefIdeal.τ).loc Cert.CtxInRefIdeal.main_arg1))
      ∧ r.2.sem = fun _ => 0)

def quiescent_CtxInRefIdeal_pre_finite_ctx_in [hCtxInRefIdeal : Cert.CtxInRefIdeal.Facts] [hPre_finite_ctx_in : Cert.Pre_finite_ctx_in.Facts] : Prop :=
  ∀ (m : (ℓ : Loc Cert.CtxInRefIdeal.nD Cert.CtxInRefIdeal.τ Cert.CtxInRefIdeal.sig) → Buf (Elt Ideal) ℓ) (g : Dev Cert.CtxInRefIdeal.nD → PrngReg), Pre_CtxInRefIdeal_finite_ctx_in m →
    θ_run (Cert.CtxInRefIdeal.defs (F := Ideal)) (onTc (τ := Cert.CtxInRefIdeal.τ) (Cert.CtxInRefIdeal.main (F := Ideal))) ⟨m, fun _ => 0, g⟩ (fun r => (∀ c : Dev Cert.CtxInRefIdeal.nD,
      r.2.mem ((c.tc : Thread Cert.CtxInRefIdeal.nD Cert.CtxInRefIdeal.τ).loc Cert.CtxInRefIdeal.main_arg0) = m ((c.tc : Thread Cert.CtxInRefIdeal.nD Cert.CtxInRefIdeal.τ).loc Cert.CtxInRefIdeal.main_arg0)
      ∧ r.2.mem ((c.tc : Thread Cert.CtxInRefIdeal.nD Cert.CtxInRefIdeal.τ).loc Cert.CtxInRefIdeal.main_arg1) = m ((c.tc : Thread Cert.CtxInRefIdeal.nD Cert.CtxInRefIdeal.τ).loc Cert.CtxInRefIdeal.main_arg1))
      ∧ r.2.sem = fun _ => 0)

def quiescent_CtxOut [hCtxOut : Cert.CtxOut.Facts] : Prop :=
  ∀ (m : (ℓ : Loc Cert.CtxOut.nD Cert.CtxOut.τ Cert.CtxOut.sig) → Buf (Elt Bits) ℓ) (g : Dev Cert.CtxOut.nD → PrngReg), Pre_CtxOut m →
    θ_run (Cert.CtxOut.defs (F := Bits)) (onTc (τ := Cert.CtxOut.τ) (Cert.CtxOut.main (F := Bits))) ⟨m, fun _ => 0, g⟩ (fun r => (∀ c : Dev Cert.CtxOut.nD,
      r.2.mem ((c.tc : Thread Cert.CtxOut.nD Cert.CtxOut.τ).loc Cert.CtxOut.main_arg0) = m ((c.tc : Thread Cert.CtxOut.nD Cert.CtxOut.τ).loc Cert.CtxOut.main_arg0)
      ∧ r.2.mem ((c.tc : Thread Cert.CtxOut.nD Cert.CtxOut.τ).loc Cert.CtxOut.main_arg1) = m ((c.tc : Thread Cert.CtxOut.nD Cert.CtxOut.τ).loc Cert.CtxOut.main_arg1)
      ∧ r.2.mem ((c.tc : Thread Cert.CtxOut.nD Cert.CtxOut.τ).loc Cert.CtxOut.main_arg2) = m ((c.tc : Thread Cert.CtxOut.nD Cert.CtxOut.τ).loc Cert.CtxOut.main_arg2)
      ∧ r.2.mem ((c.tc : Thread Cert.CtxOut.nD Cert.CtxOut.τ).loc Cert.CtxOut.main_arg3) = m ((c.tc : Thread Cert.CtxOut.nD Cert.CtxOut.τ).loc Cert.CtxOut.main_arg3))
      ∧ r.2.sem = fun _ => 0)

def quiescent_CtxOutIdeal [hCtxOutIdeal : Cert.CtxOutIdeal.Facts] : Prop :=
  ∀ (m : (ℓ : Loc Cert.CtxOutIdeal.nD Cert.CtxOutIdeal.τ Cert.CtxOutIdeal.sig) → Buf (Elt Ideal) ℓ) (g : Dev Cert.CtxOutIdeal.nD → PrngReg), Pre_CtxOutIdeal m →
    θ_run (Cert.CtxOutIdeal.defs (F := Ideal)) (onTc (τ := Cert.CtxOutIdeal.τ) (Cert.CtxOutIdeal.main (F := Ideal))) ⟨m, fun _ => 0, g⟩ (fun r => (∀ c : Dev Cert.CtxOutIdeal.nD,
      r.2.mem ((c.tc : Thread Cert.CtxOutIdeal.nD Cert.CtxOutIdeal.τ).loc Cert.CtxOutIdeal.main_arg0) = m ((c.tc : Thread Cert.CtxOutIdeal.nD Cert.CtxOutIdeal.τ).loc Cert.CtxOutIdeal.main_arg0)
      ∧ r.2.mem ((c.tc : Thread Cert.CtxOutIdeal.nD Cert.CtxOutIdeal.τ).loc Cert.CtxOutIdeal.main_arg1) = m ((c.tc : Thread Cert.CtxOutIdeal.nD Cert.CtxOutIdeal.τ).loc Cert.CtxOutIdeal.main_arg1)
      ∧ r.2.mem ((c.tc : Thread Cert.CtxOutIdeal.nD Cert.CtxOutIdeal.τ).loc Cert.CtxOutIdeal.main_arg2) = m ((c.tc : Thread Cert.CtxOutIdeal.nD Cert.CtxOutIdeal.τ).loc Cert.CtxOutIdeal.main_arg2)
      ∧ r.2.mem ((c.tc : Thread Cert.CtxOutIdeal.nD Cert.CtxOutIdeal.τ).loc Cert.CtxOutIdeal.main_arg3) = m ((c.tc : Thread Cert.CtxOutIdeal.nD Cert.CtxOutIdeal.τ).loc Cert.CtxOutIdeal.main_arg3))
      ∧ r.2.sem = fun _ => 0)

def quiescent_CtxOutRefIdeal [hCtxOutRefIdeal : Cert.CtxOutRefIdeal.Facts] : Prop :=
  ∀ (m : (ℓ : Loc Cert.CtxOutRefIdeal.nD Cert.CtxOutRefIdeal.τ Cert.CtxOutRefIdeal.sig) → Buf (Elt Ideal) ℓ) (g : Dev Cert.CtxOutRefIdeal.nD → PrngReg), Pre_CtxOutRefIdeal m →
    θ_run (Cert.CtxOutRefIdeal.defs (F := Ideal)) (onTc (τ := Cert.CtxOutRefIdeal.τ) (Cert.CtxOutRefIdeal.main (F := Ideal))) ⟨m, fun _ => 0, g⟩ (fun r => (∀ c : Dev Cert.CtxOutRefIdeal.nD,
      r.2.mem ((c.tc : Thread Cert.CtxOutRefIdeal.nD Cert.CtxOutRefIdeal.τ).loc Cert.CtxOutRefIdeal.main_arg0) = m ((c.tc : Thread Cert.CtxOutRefIdeal.nD Cert.CtxOutRefIdeal.τ).loc Cert.CtxOutRefIdeal.main_arg0)
      ∧ r.2.mem ((c.tc : Thread Cert.CtxOutRefIdeal.nD Cert.CtxOutRefIdeal.τ).loc Cert.CtxOutRefIdeal.main_arg1) = m ((c.tc : Thread Cert.CtxOutRefIdeal.nD Cert.CtxOutRefIdeal.τ).loc Cert.CtxOutRefIdeal.main_arg1)
      ∧ r.2.mem ((c.tc : Thread Cert.CtxOutRefIdeal.nD Cert.CtxOutRefIdeal.τ).loc Cert.CtxOutRefIdeal.main_arg2) = m ((c.tc : Thread Cert.CtxOutRefIdeal.nD Cert.CtxOutRefIdeal.τ).loc Cert.CtxOutRefIdeal.main_arg2)
      ∧ r.2.mem ((c.tc : Thread Cert.CtxOutRefIdeal.nD Cert.CtxOutRefIdeal.τ).loc Cert.CtxOutRefIdeal.main_arg3) = m ((c.tc : Thread Cert.CtxOutRefIdeal.nD Cert.CtxOutRefIdeal.τ).loc Cert.CtxOutRefIdeal.main_arg3))
      ∧ r.2.sem = fun _ => 0)

def quiescent_CtxDa [hCtxDa : Cert.CtxDa.Facts] : Prop :=
  ∀ (m : (ℓ : Loc Cert.CtxDa.nD Cert.CtxDa.τ Cert.CtxDa.sig) → Buf (Elt Bits) ℓ) (g : Dev Cert.CtxDa.nD → PrngReg), Pre_CtxDa m →
    θ_run (Cert.CtxDa.defs (F := Bits)) (onTc (τ := Cert.CtxDa.τ) (Cert.CtxDa.main (F := Bits))) ⟨m, fun _ => 0, g⟩ (fun r => (∀ c : Dev Cert.CtxDa.nD,
      r.2.mem ((c.tc : Thread Cert.CtxDa.nD Cert.CtxDa.τ).loc Cert.CtxDa.main_arg0) = m ((c.tc : Thread Cert.CtxDa.nD Cert.CtxDa.τ).loc Cert.CtxDa.main_arg0)
      ∧ r.2.mem ((c.tc : Thread Cert.CtxDa.nD Cert.CtxDa.τ).loc Cert.CtxDa.main_arg1) = m ((c.tc : Thread Cert.CtxDa.nD Cert.CtxDa.τ).loc Cert.CtxDa.main_arg1)
      ∧ r.2.mem ((c.tc : Thread Cert.CtxDa.nD Cert.CtxDa.τ).loc Cert.CtxDa.main_arg2) = m ((c.tc : Thread Cert.CtxDa.nD Cert.CtxDa.τ).loc Cert.CtxDa.main_arg2))
      ∧ r.2.sem = fun _ => 0)

def quiescent_CtxDaIdeal [hCtxDaIdeal : Cert.CtxDaIdeal.Facts] : Prop :=
  ∀ (m : (ℓ : Loc Cert.CtxDaIdeal.nD Cert.CtxDaIdeal.τ Cert.CtxDaIdeal.sig) → Buf (Elt Ideal) ℓ) (g : Dev Cert.CtxDaIdeal.nD → PrngReg), Pre_CtxDaIdeal m →
    θ_run (Cert.CtxDaIdeal.defs (F := Ideal)) (onTc (τ := Cert.CtxDaIdeal.τ) (Cert.CtxDaIdeal.main (F := Ideal))) ⟨m, fun _ => 0, g⟩ (fun r => (∀ c : Dev Cert.CtxDaIdeal.nD,
      r.2.mem ((c.tc : Thread Cert.CtxDaIdeal.nD Cert.CtxDaIdeal.τ).loc Cert.CtxDaIdeal.main_arg0) = m ((c.tc : Thread Cert.CtxDaIdeal.nD Cert.CtxDaIdeal.τ).loc Cert.CtxDaIdeal.main_arg0)
      ∧ r.2.mem ((c.tc : Thread Cert.CtxDaIdeal.nD Cert.CtxDaIdeal.τ).loc Cert.CtxDaIdeal.main_arg1) = m ((c.tc : Thread Cert.CtxDaIdeal.nD Cert.CtxDaIdeal.τ).loc Cert.CtxDaIdeal.main_arg1)
      ∧ r.2.mem ((c.tc : Thread Cert.CtxDaIdeal.nD Cert.CtxDaIdeal.τ).loc Cert.CtxDaIdeal.main_arg2) = m ((c.tc : Thread Cert.CtxDaIdeal.nD Cert.CtxDaIdeal.τ).loc Cert.CtxDaIdeal.main_arg2))
      ∧ r.2.sem = fun _ => 0)

def quiescent_CtxDaIdeal_pre_finite_ctx_da [hCtxDaIdeal : Cert.CtxDaIdeal.Facts] [hPre_finite_ctx_da : Cert.Pre_finite_ctx_da.Facts] : Prop :=
  ∀ (m : (ℓ : Loc Cert.CtxDaIdeal.nD Cert.CtxDaIdeal.τ Cert.CtxDaIdeal.sig) → Buf (Elt Ideal) ℓ) (g : Dev Cert.CtxDaIdeal.nD → PrngReg), Pre_CtxDaIdeal_finite_ctx_da m →
    θ_run (Cert.CtxDaIdeal.defs (F := Ideal)) (onTc (τ := Cert.CtxDaIdeal.τ) (Cert.CtxDaIdeal.main (F := Ideal))) ⟨m, fun _ => 0, g⟩ (fun r => (∀ c : Dev Cert.CtxDaIdeal.nD,
      r.2.mem ((c.tc : Thread Cert.CtxDaIdeal.nD Cert.CtxDaIdeal.τ).loc Cert.CtxDaIdeal.main_arg0) = m ((c.tc : Thread Cert.CtxDaIdeal.nD Cert.CtxDaIdeal.τ).loc Cert.CtxDaIdeal.main_arg0)
      ∧ r.2.mem ((c.tc : Thread Cert.CtxDaIdeal.nD Cert.CtxDaIdeal.τ).loc Cert.CtxDaIdeal.main_arg1) = m ((c.tc : Thread Cert.CtxDaIdeal.nD Cert.CtxDaIdeal.τ).loc Cert.CtxDaIdeal.main_arg1)
      ∧ r.2.mem ((c.tc : Thread Cert.CtxDaIdeal.nD Cert.CtxDaIdeal.τ).loc Cert.CtxDaIdeal.main_arg2) = m ((c.tc : Thread Cert.CtxDaIdeal.nD Cert.CtxDaIdeal.τ).loc Cert.CtxDaIdeal.main_arg2))
      ∧ r.2.sem = fun _ => 0)

def quiescent_CtxDaRefIdeal [hCtxDaRefIdeal : Cert.CtxDaRefIdeal.Facts] : Prop :=
  ∀ (m : (ℓ : Loc Cert.CtxDaRefIdeal.nD Cert.CtxDaRefIdeal.τ Cert.CtxDaRefIdeal.sig) → Buf (Elt Ideal) ℓ) (g : Dev Cert.CtxDaRefIdeal.nD → PrngReg), Pre_CtxDaRefIdeal m →
    θ_run (Cert.CtxDaRefIdeal.defs (F := Ideal)) (onTc (τ := Cert.CtxDaRefIdeal.τ) (Cert.CtxDaRefIdeal.main (F := Ideal))) ⟨m, fun _ => 0, g⟩ (fun r => (∀ c : Dev Cert.CtxDaRefIdeal.nD,
      r.2.mem ((c.tc : Thread Cert.CtxDaRefIdeal.nD Cert.CtxDaRefIdeal.τ).loc Cert.CtxDaRefIdeal.main_arg0) = m ((c.tc : Thread Cert.CtxDaRefIdeal.nD Cert.CtxDaRefIdeal.τ).loc Cert.CtxDaRefIdeal.main_arg0)
      ∧ r.2.mem ((c.tc : Thread Cert.CtxDaRefIdeal.nD Cert.CtxDaRefIdeal.τ).loc Cert.CtxDaRefIdeal.main_arg1) = m ((c.tc : Thread Cert.CtxDaRefIdeal.nD Cert.CtxDaRefIdeal.τ).loc Cert.CtxDaRefIdeal.main_arg1)
      ∧ r.2.mem ((c.tc : Thread Cert.CtxDaRefIdeal.nD Cert.CtxDaRefIdeal.τ).loc Cert.CtxDaRefIdeal.main_arg2) = m ((c.tc : Thread Cert.CtxDaRefIdeal.nD Cert.CtxDaRefIdeal.τ).loc Cert.CtxDaRefIdeal.main_arg2))
      ∧ r.2.sem = fun _ => 0)

def quiescent_CtxDaRefIdeal_pre_finite_ctx_da [hCtxDaRefIdeal : Cert.CtxDaRefIdeal.Facts] [hPre_finite_ctx_da : Cert.Pre_finite_ctx_da.Facts] : Prop :=
  ∀ (m : (ℓ : Loc Cert.CtxDaRefIdeal.nD Cert.CtxDaRefIdeal.τ Cert.CtxDaRefIdeal.sig) → Buf (Elt Ideal) ℓ) (g : Dev Cert.CtxDaRefIdeal.nD → PrngReg), Pre_CtxDaRefIdeal_finite_ctx_da m →
    θ_run (Cert.CtxDaRefIdeal.defs (F := Ideal)) (onTc (τ := Cert.CtxDaRefIdeal.τ) (Cert.CtxDaRefIdeal.main (F := Ideal))) ⟨m, fun _ => 0, g⟩ (fun r => (∀ c : Dev Cert.CtxDaRefIdeal.nD,
      r.2.mem ((c.tc : Thread Cert.CtxDaRefIdeal.nD Cert.CtxDaRefIdeal.τ).loc Cert.CtxDaRefIdeal.main_arg0) = m ((c.tc : Thread Cert.CtxDaRefIdeal.nD Cert.CtxDaRefIdeal.τ).loc Cert.CtxDaRefIdeal.main_arg0)
      ∧ r.2.mem ((c.tc : Thread Cert.CtxDaRefIdeal.nD Cert.CtxDaRefIdeal.τ).loc Cert.CtxDaRefIdeal.main_arg1) = m ((c.tc : Thread Cert.CtxDaRefIdeal.nD Cert.CtxDaRefIdeal.τ).loc Cert.CtxDaRefIdeal.main_arg1)
      ∧ r.2.mem ((c.tc : Thread Cert.CtxDaRefIdeal.nD Cert.CtxDaRefIdeal.τ).loc Cert.CtxDaRefIdeal.main_arg2) = m ((c.tc : Thread Cert.CtxDaRefIdeal.nD Cert.CtxDaRefIdeal.τ).loc Cert.CtxDaRefIdeal.main_arg2))
      ∧ r.2.sem = fun _ => 0)

def quiescent_CtxDwout [hCtxDwout : Cert.CtxDwout.Facts] : Prop :=
  ∀ (m : (ℓ : Loc Cert.CtxDwout.nD Cert.CtxDwout.τ Cert.CtxDwout.sig) → Buf (Elt Bits) ℓ) (g : Dev Cert.CtxDwout.nD → PrngReg), Pre_CtxDwout m →
    θ_run (Cert.CtxDwout.defs (F := Bits)) (onTc (τ := Cert.CtxDwout.τ) (Cert.CtxDwout.main (F := Bits))) ⟨m, fun _ => 0, g⟩ (fun r => (∀ c : Dev Cert.CtxDwout.nD,
      r.2.mem ((c.tc : Thread Cert.CtxDwout.nD Cert.CtxDwout.τ).loc Cert.CtxDwout.main_arg0) = m ((c.tc : Thread Cert.CtxDwout.nD Cert.CtxDwout.τ).loc Cert.CtxDwout.main_arg0)
      ∧ r.2.mem ((c.tc : Thread Cert.CtxDwout.nD Cert.CtxDwout.τ).loc Cert.CtxDwout.main_arg1) = m ((c.tc : Thread Cert.CtxDwout.nD Cert.CtxDwout.τ).loc Cert.CtxDwout.main_arg1))
      ∧ r.2.sem = fun _ => 0)

def quiescent_CtxDwoutIdeal [hCtxDwoutIdeal : Cert.CtxDwoutIdeal.Facts] : Prop :=
  ∀ (m : (ℓ : Loc Cert.CtxDwoutIdeal.nD Cert.CtxDwoutIdeal.τ Cert.CtxDwoutIdeal.sig) → Buf (Elt Ideal) ℓ) (g : Dev Cert.CtxDwoutIdeal.nD → PrngReg), Pre_CtxDwoutIdeal m →
    θ_run (Cert.CtxDwoutIdeal.defs (F := Ideal)) (onTc (τ := Cert.CtxDwoutIdeal.τ) (Cert.CtxDwoutIdeal.main (F := Ideal))) ⟨m, fun _ => 0, g⟩ (fun r => (∀ c : Dev Cert.CtxDwoutIdeal.nD,
      r.2.mem ((c.tc : Thread Cert.CtxDwoutIdeal.nD Cert.CtxDwoutIdeal.τ).loc Cert.CtxDwoutIdeal.main_arg0) = m ((c.tc : Thread Cert.CtxDwoutIdeal.nD Cert.CtxDwoutIdeal.τ).loc Cert.CtxDwoutIdeal.main_arg0)
      ∧ r.2.mem ((c.tc : Thread Cert.CtxDwoutIdeal.nD Cert.CtxDwoutIdeal.τ).loc Cert.CtxDwoutIdeal.main_arg1) = m ((c.tc : Thread Cert.CtxDwoutIdeal.nD Cert.CtxDwoutIdeal.τ).loc Cert.CtxDwoutIdeal.main_arg1))
      ∧ r.2.sem = fun _ => 0)

def quiescent_CtxDwoutRefIdeal [hCtxDwoutRefIdeal : Cert.CtxDwoutRefIdeal.Facts] : Prop :=
  ∀ (m : (ℓ : Loc Cert.CtxDwoutRefIdeal.nD Cert.CtxDwoutRefIdeal.τ Cert.CtxDwoutRefIdeal.sig) → Buf (Elt Ideal) ℓ) (g : Dev Cert.CtxDwoutRefIdeal.nD → PrngReg), Pre_CtxDwoutRefIdeal m →
    θ_run (Cert.CtxDwoutRefIdeal.defs (F := Ideal)) (onTc (τ := Cert.CtxDwoutRefIdeal.τ) (Cert.CtxDwoutRefIdeal.main (F := Ideal))) ⟨m, fun _ => 0, g⟩ (fun r => (∀ c : Dev Cert.CtxDwoutRefIdeal.nD,
      r.2.mem ((c.tc : Thread Cert.CtxDwoutRefIdeal.nD Cert.CtxDwoutRefIdeal.τ).loc Cert.CtxDwoutRefIdeal.main_arg0) = m ((c.tc : Thread Cert.CtxDwoutRefIdeal.nD Cert.CtxDwoutRefIdeal.τ).loc Cert.CtxDwoutRefIdeal.main_arg0)
      ∧ r.2.mem ((c.tc : Thread Cert.CtxDwoutRefIdeal.nD Cert.CtxDwoutRefIdeal.τ).loc Cert.CtxDwoutRefIdeal.main_arg1) = m ((c.tc : Thread Cert.CtxDwoutRefIdeal.nD Cert.CtxDwoutRefIdeal.τ).loc Cert.CtxDwoutRefIdeal.main_arg1))
      ∧ r.2.sem = fun _ => 0)

def quiescent_CtxDh [hCtxDh : Cert.CtxDh.Facts] : Prop :=
  ∀ (m : (ℓ : Loc Cert.CtxDh.nD Cert.CtxDh.τ Cert.CtxDh.sig) → Buf (Elt Bits) ℓ) (g : Dev Cert.CtxDh.nD → PrngReg), Pre_CtxDh m →
    θ_run (Cert.CtxDh.defs (F := Bits)) (onTc (τ := Cert.CtxDh.τ) (Cert.CtxDh.main (F := Bits))) ⟨m, fun _ => 0, g⟩ (fun r => (∀ c : Dev Cert.CtxDh.nD,
      r.2.mem ((c.tc : Thread Cert.CtxDh.nD Cert.CtxDh.τ).loc Cert.CtxDh.main_arg0) = m ((c.tc : Thread Cert.CtxDh.nD Cert.CtxDh.τ).loc Cert.CtxDh.main_arg0)
      ∧ r.2.mem ((c.tc : Thread Cert.CtxDh.nD Cert.CtxDh.τ).loc Cert.CtxDh.main_arg1) = m ((c.tc : Thread Cert.CtxDh.nD Cert.CtxDh.τ).loc Cert.CtxDh.main_arg1))
      ∧ r.2.sem = fun _ => 0)

def quiescent_CtxDhIdeal [hCtxDhIdeal : Cert.CtxDhIdeal.Facts] : Prop :=
  ∀ (m : (ℓ : Loc Cert.CtxDhIdeal.nD Cert.CtxDhIdeal.τ Cert.CtxDhIdeal.sig) → Buf (Elt Ideal) ℓ) (g : Dev Cert.CtxDhIdeal.nD → PrngReg), Pre_CtxDhIdeal m →
    θ_run (Cert.CtxDhIdeal.defs (F := Ideal)) (onTc (τ := Cert.CtxDhIdeal.τ) (Cert.CtxDhIdeal.main (F := Ideal))) ⟨m, fun _ => 0, g⟩ (fun r => (∀ c : Dev Cert.CtxDhIdeal.nD,
      r.2.mem ((c.tc : Thread Cert.CtxDhIdeal.nD Cert.CtxDhIdeal.τ).loc Cert.CtxDhIdeal.main_arg0) = m ((c.tc : Thread Cert.CtxDhIdeal.nD Cert.CtxDhIdeal.τ).loc Cert.CtxDhIdeal.main_arg0)
      ∧ r.2.mem ((c.tc : Thread Cert.CtxDhIdeal.nD Cert.CtxDhIdeal.τ).loc Cert.CtxDhIdeal.main_arg1) = m ((c.tc : Thread Cert.CtxDhIdeal.nD Cert.CtxDhIdeal.τ).loc Cert.CtxDhIdeal.main_arg1))
      ∧ r.2.sem = fun _ => 0)

def quiescent_CtxDhRefIdeal [hCtxDhRefIdeal : Cert.CtxDhRefIdeal.Facts] : Prop :=
  ∀ (m : (ℓ : Loc Cert.CtxDhRefIdeal.nD Cert.CtxDhRefIdeal.τ Cert.CtxDhRefIdeal.sig) → Buf (Elt Ideal) ℓ) (g : Dev Cert.CtxDhRefIdeal.nD → PrngReg), Pre_CtxDhRefIdeal m →
    θ_run (Cert.CtxDhRefIdeal.defs (F := Ideal)) (onTc (τ := Cert.CtxDhRefIdeal.τ) (Cert.CtxDhRefIdeal.main (F := Ideal))) ⟨m, fun _ => 0, g⟩ (fun r => (∀ c : Dev Cert.CtxDhRefIdeal.nD,
      r.2.mem ((c.tc : Thread Cert.CtxDhRefIdeal.nD Cert.CtxDhRefIdeal.τ).loc Cert.CtxDhRefIdeal.main_arg0) = m ((c.tc : Thread Cert.CtxDhRefIdeal.nD Cert.CtxDhRefIdeal.τ).loc Cert.CtxDhRefIdeal.main_arg0)
      ∧ r.2.mem ((c.tc : Thread Cert.CtxDhRefIdeal.nD Cert.CtxDhRefIdeal.τ).loc Cert.CtxDhRefIdeal.main_arg1) = m ((c.tc : Thread Cert.CtxDhRefIdeal.nD Cert.CtxDhRefIdeal.τ).loc Cert.CtxDhRefIdeal.main_arg1))
      ∧ r.2.sem = fun _ => 0)

def quiescent_CtxDwin [hCtxDwin : Cert.CtxDwin.Facts] : Prop :=
  ∀ (m : (ℓ : Loc Cert.CtxDwin.nD Cert.CtxDwin.τ Cert.CtxDwin.sig) → Buf (Elt Bits) ℓ) (g : Dev Cert.CtxDwin.nD → PrngReg), Pre_CtxDwin m →
    θ_run (Cert.CtxDwin.defs (F := Bits)) (onTc (τ := Cert.CtxDwin.τ) (Cert.CtxDwin.main (F := Bits))) ⟨m, fun _ => 0, g⟩ (fun r => (∀ c : Dev Cert.CtxDwin.nD,
      r.2.mem ((c.tc : Thread Cert.CtxDwin.nD Cert.CtxDwin.τ).loc Cert.CtxDwin.main_arg0) = m ((c.tc : Thread Cert.CtxDwin.nD Cert.CtxDwin.τ).loc Cert.CtxDwin.main_arg0)
      ∧ r.2.mem ((c.tc : Thread Cert.CtxDwin.nD Cert.CtxDwin.τ).loc Cert.CtxDwin.main_arg1) = m ((c.tc : Thread Cert.CtxDwin.nD Cert.CtxDwin.τ).loc Cert.CtxDwin.main_arg1))
      ∧ r.2.sem = fun _ => 0)

def quiescent_CtxDwinIdeal [hCtxDwinIdeal : Cert.CtxDwinIdeal.Facts] : Prop :=
  ∀ (m : (ℓ : Loc Cert.CtxDwinIdeal.nD Cert.CtxDwinIdeal.τ Cert.CtxDwinIdeal.sig) → Buf (Elt Ideal) ℓ) (g : Dev Cert.CtxDwinIdeal.nD → PrngReg), Pre_CtxDwinIdeal m →
    θ_run (Cert.CtxDwinIdeal.defs (F := Ideal)) (onTc (τ := Cert.CtxDwinIdeal.τ) (Cert.CtxDwinIdeal.main (F := Ideal))) ⟨m, fun _ => 0, g⟩ (fun r => (∀ c : Dev Cert.CtxDwinIdeal.nD,
      r.2.mem ((c.tc : Thread Cert.CtxDwinIdeal.nD Cert.CtxDwinIdeal.τ).loc Cert.CtxDwinIdeal.main_arg0) = m ((c.tc : Thread Cert.CtxDwinIdeal.nD Cert.CtxDwinIdeal.τ).loc Cert.CtxDwinIdeal.main_arg0)
      ∧ r.2.mem ((c.tc : Thread Cert.CtxDwinIdeal.nD Cert.CtxDwinIdeal.τ).loc Cert.CtxDwinIdeal.main_arg1) = m ((c.tc : Thread Cert.CtxDwinIdeal.nD Cert.CtxDwinIdeal.τ).loc Cert.CtxDwinIdeal.main_arg1))
      ∧ r.2.sem = fun _ => 0)

def quiescent_CtxDwinRefIdeal [hCtxDwinRefIdeal : Cert.CtxDwinRefIdeal.Facts] : Prop :=
  ∀ (m : (ℓ : Loc Cert.CtxDwinRefIdeal.nD Cert.CtxDwinRefIdeal.τ Cert.CtxDwinRefIdeal.sig) → Buf (Elt Ideal) ℓ) (g : Dev Cert.CtxDwinRefIdeal.nD → PrngReg), Pre_CtxDwinRefIdeal m →
    θ_run (Cert.CtxDwinRefIdeal.defs (F := Ideal)) (onTc (τ := Cert.CtxDwinRefIdeal.τ) (Cert.CtxDwinRefIdeal.main (F := Ideal))) ⟨m, fun _ => 0, g⟩ (fun r => (∀ c : Dev Cert.CtxDwinRefIdeal.nD,
      r.2.mem ((c.tc : Thread Cert.CtxDwinRefIdeal.nD Cert.CtxDwinRefIdeal.τ).loc Cert.CtxDwinRefIdeal.main_arg0) = m ((c.tc : Thread Cert.CtxDwinRefIdeal.nD Cert.CtxDwinRefIdeal.τ).loc Cert.CtxDwinRefIdeal.main_arg0)
      ∧ r.2.mem ((c.tc : Thread Cert.CtxDwinRefIdeal.nD Cert.CtxDwinRefIdeal.τ).loc Cert.CtxDwinRefIdeal.main_arg1) = m ((c.tc : Thread Cert.CtxDwinRefIdeal.nD Cert.CtxDwinRefIdeal.τ).loc Cert.CtxDwinRefIdeal.main_arg1))
      ∧ r.2.sem = fun _ => 0)

def quiescent_MixcMm [hMixcMm : Cert.MixcMm.Facts] : Prop :=
  ∀ (m : (ℓ : Loc Cert.MixcMm.nD Cert.MixcMm.τ Cert.MixcMm.sig) → Buf (Elt Bits) ℓ) (g : Dev Cert.MixcMm.nD → PrngReg), Pre_MixcMm m →
    θ_run (Cert.MixcMm.defs (F := Bits)) (onTc (τ := Cert.MixcMm.τ) (Cert.MixcMm.main (F := Bits))) ⟨m, fun _ => 0, g⟩ (fun r => (∀ c : Dev Cert.MixcMm.nD,
      r.2.mem ((c.tc : Thread Cert.MixcMm.nD Cert.MixcMm.τ).loc Cert.MixcMm.main_arg0) = m ((c.tc : Thread Cert.MixcMm.nD Cert.MixcMm.τ).loc Cert.MixcMm.main_arg0)
      ∧ r.2.mem ((c.tc : Thread Cert.MixcMm.nD Cert.MixcMm.τ).loc Cert.MixcMm.main_arg1) = m ((c.tc : Thread Cert.MixcMm.nD Cert.MixcMm.τ).loc Cert.MixcMm.main_arg1))
      ∧ r.2.sem = fun _ => 0)

def quiescent_MixcMmIdeal [hMixcMmIdeal : Cert.MixcMmIdeal.Facts] : Prop :=
  ∀ (m : (ℓ : Loc Cert.MixcMmIdeal.nD Cert.MixcMmIdeal.τ Cert.MixcMmIdeal.sig) → Buf (Elt Ideal) ℓ) (g : Dev Cert.MixcMmIdeal.nD → PrngReg), Pre_MixcMmIdeal m →
    θ_run (Cert.MixcMmIdeal.defs (F := Ideal)) (onTc (τ := Cert.MixcMmIdeal.τ) (Cert.MixcMmIdeal.main (F := Ideal))) ⟨m, fun _ => 0, g⟩ (fun r => (∀ c : Dev Cert.MixcMmIdeal.nD,
      r.2.mem ((c.tc : Thread Cert.MixcMmIdeal.nD Cert.MixcMmIdeal.τ).loc Cert.MixcMmIdeal.main_arg0) = m ((c.tc : Thread Cert.MixcMmIdeal.nD Cert.MixcMmIdeal.τ).loc Cert.MixcMmIdeal.main_arg0)
      ∧ r.2.mem ((c.tc : Thread Cert.MixcMmIdeal.nD Cert.MixcMmIdeal.τ).loc Cert.MixcMmIdeal.main_arg1) = m ((c.tc : Thread Cert.MixcMmIdeal.nD Cert.MixcMmIdeal.τ).loc Cert.MixcMmIdeal.main_arg1))
      ∧ r.2.sem = fun _ => 0)

def quiescent_MixcMmRefIdeal [hMixcMmRefIdeal : Cert.MixcMmRefIdeal.Facts] : Prop :=
  ∀ (m : (ℓ : Loc Cert.MixcMmRefIdeal.nD Cert.MixcMmRefIdeal.τ Cert.MixcMmRefIdeal.sig) → Buf (Elt Ideal) ℓ) (g : Dev Cert.MixcMmRefIdeal.nD → PrngReg), Pre_MixcMmRefIdeal m →
    θ_run (Cert.MixcMmRefIdeal.defs (F := Ideal)) (onTc (τ := Cert.MixcMmRefIdeal.τ) (Cert.MixcMmRefIdeal.main (F := Ideal))) ⟨m, fun _ => 0, g⟩ (fun r => (∀ c : Dev Cert.MixcMmRefIdeal.nD,
      r.2.mem ((c.tc : Thread Cert.MixcMmRefIdeal.nD Cert.MixcMmRefIdeal.τ).loc Cert.MixcMmRefIdeal.main_arg0) = m ((c.tc : Thread Cert.MixcMmRefIdeal.nD Cert.MixcMmRefIdeal.τ).loc Cert.MixcMmRefIdeal.main_arg0)
      ∧ r.2.mem ((c.tc : Thread Cert.MixcMmRefIdeal.nD Cert.MixcMmRefIdeal.τ).loc Cert.MixcMmRefIdeal.main_arg1) = m ((c.tc : Thread Cert.MixcMmRefIdeal.nD Cert.MixcMmRefIdeal.τ).loc Cert.MixcMmRefIdeal.main_arg1))
      ∧ r.2.sem = fun _ => 0)

def quiescent_MixcDh [hMixcDh : Cert.MixcDh.Facts] : Prop :=
  ∀ (m : (ℓ : Loc Cert.MixcDh.nD Cert.MixcDh.τ Cert.MixcDh.sig) → Buf (Elt Bits) ℓ) (g : Dev Cert.MixcDh.nD → PrngReg), Pre_MixcDh m →
    θ_run (Cert.MixcDh.defs (F := Bits)) (onTc (τ := Cert.MixcDh.τ) (Cert.MixcDh.main (F := Bits))) ⟨m, fun _ => 0, g⟩ (fun r => (∀ c : Dev Cert.MixcDh.nD,
      r.2.mem ((c.tc : Thread Cert.MixcDh.nD Cert.MixcDh.τ).loc Cert.MixcDh.main_arg0) = m ((c.tc : Thread Cert.MixcDh.nD Cert.MixcDh.τ).loc Cert.MixcDh.main_arg0)
      ∧ r.2.mem ((c.tc : Thread Cert.MixcDh.nD Cert.MixcDh.τ).loc Cert.MixcDh.main_arg1) = m ((c.tc : Thread Cert.MixcDh.nD Cert.MixcDh.τ).loc Cert.MixcDh.main_arg1))
      ∧ r.2.sem = fun _ => 0)

def quiescent_MixcDhIdeal [hMixcDhIdeal : Cert.MixcDhIdeal.Facts] : Prop :=
  ∀ (m : (ℓ : Loc Cert.MixcDhIdeal.nD Cert.MixcDhIdeal.τ Cert.MixcDhIdeal.sig) → Buf (Elt Ideal) ℓ) (g : Dev Cert.MixcDhIdeal.nD → PrngReg), Pre_MixcDhIdeal m →
    θ_run (Cert.MixcDhIdeal.defs (F := Ideal)) (onTc (τ := Cert.MixcDhIdeal.τ) (Cert.MixcDhIdeal.main (F := Ideal))) ⟨m, fun _ => 0, g⟩ (fun r => (∀ c : Dev Cert.MixcDhIdeal.nD,
      r.2.mem ((c.tc : Thread Cert.MixcDhIdeal.nD Cert.MixcDhIdeal.τ).loc Cert.MixcDhIdeal.main_arg0) = m ((c.tc : Thread Cert.MixcDhIdeal.nD Cert.MixcDhIdeal.τ).loc Cert.MixcDhIdeal.main_arg0)
      ∧ r.2.mem ((c.tc : Thread Cert.MixcDhIdeal.nD Cert.MixcDhIdeal.τ).loc Cert.MixcDhIdeal.main_arg1) = m ((c.tc : Thread Cert.MixcDhIdeal.nD Cert.MixcDhIdeal.τ).loc Cert.MixcDhIdeal.main_arg1))
      ∧ r.2.sem = fun _ => 0)

def quiescent_MixcDhRefIdeal [hMixcDhRefIdeal : Cert.MixcDhRefIdeal.Facts] : Prop :=
  ∀ (m : (ℓ : Loc Cert.MixcDhRefIdeal.nD Cert.MixcDhRefIdeal.τ Cert.MixcDhRefIdeal.sig) → Buf (Elt Ideal) ℓ) (g : Dev Cert.MixcDhRefIdeal.nD → PrngReg), Pre_MixcDhRefIdeal m →
    θ_run (Cert.MixcDhRefIdeal.defs (F := Ideal)) (onTc (τ := Cert.MixcDhRefIdeal.τ) (Cert.MixcDhRefIdeal.main (F := Ideal))) ⟨m, fun _ => 0, g⟩ (fun r => (∀ c : Dev Cert.MixcDhRefIdeal.nD,
      r.2.mem ((c.tc : Thread Cert.MixcDhRefIdeal.nD Cert.MixcDhRefIdeal.τ).loc Cert.MixcDhRefIdeal.main_arg0) = m ((c.tc : Thread Cert.MixcDhRefIdeal.nD Cert.MixcDhRefIdeal.τ).loc Cert.MixcDhRefIdeal.main_arg0)
      ∧ r.2.mem ((c.tc : Thread Cert.MixcDhRefIdeal.nD Cert.MixcDhRefIdeal.τ).loc Cert.MixcDhRefIdeal.main_arg1) = m ((c.tc : Thread Cert.MixcDhRefIdeal.nD Cert.MixcDhRefIdeal.τ).loc Cert.MixcDhRefIdeal.main_arg1))
      ∧ r.2.sem = fun _ => 0)

def quiescent_MixcDw [hMixcDw : Cert.MixcDw.Facts] : Prop :=
  ∀ (m : (ℓ : Loc Cert.MixcDw.nD Cert.MixcDw.τ Cert.MixcDw.sig) → Buf (Elt Bits) ℓ) (g : Dev Cert.MixcDw.nD → PrngReg), Pre_MixcDw m →
    θ_run (Cert.MixcDw.defs (F := Bits)) (onTc (τ := Cert.MixcDw.τ) (Cert.MixcDw.main (F := Bits))) ⟨m, fun _ => 0, g⟩ (fun r => (∀ c : Dev Cert.MixcDw.nD,
      r.2.mem ((c.tc : Thread Cert.MixcDw.nD Cert.MixcDw.τ).loc Cert.MixcDw.main_arg0) = m ((c.tc : Thread Cert.MixcDw.nD Cert.MixcDw.τ).loc Cert.MixcDw.main_arg0)
      ∧ r.2.mem ((c.tc : Thread Cert.MixcDw.nD Cert.MixcDw.τ).loc Cert.MixcDw.main_arg1) = m ((c.tc : Thread Cert.MixcDw.nD Cert.MixcDw.τ).loc Cert.MixcDw.main_arg1))
      ∧ r.2.sem = fun _ => 0)

def quiescent_MixcDwIdeal [hMixcDwIdeal : Cert.MixcDwIdeal.Facts] : Prop :=
  ∀ (m : (ℓ : Loc Cert.MixcDwIdeal.nD Cert.MixcDwIdeal.τ Cert.MixcDwIdeal.sig) → Buf (Elt Ideal) ℓ) (g : Dev Cert.MixcDwIdeal.nD → PrngReg), Pre_MixcDwIdeal m →
    θ_run (Cert.MixcDwIdeal.defs (F := Ideal)) (onTc (τ := Cert.MixcDwIdeal.τ) (Cert.MixcDwIdeal.main (F := Ideal))) ⟨m, fun _ => 0, g⟩ (fun r => (∀ c : Dev Cert.MixcDwIdeal.nD,
      r.2.mem ((c.tc : Thread Cert.MixcDwIdeal.nD Cert.MixcDwIdeal.τ).loc Cert.MixcDwIdeal.main_arg0) = m ((c.tc : Thread Cert.MixcDwIdeal.nD Cert.MixcDwIdeal.τ).loc Cert.MixcDwIdeal.main_arg0)
      ∧ r.2.mem ((c.tc : Thread Cert.MixcDwIdeal.nD Cert.MixcDwIdeal.τ).loc Cert.MixcDwIdeal.main_arg1) = m ((c.tc : Thread Cert.MixcDwIdeal.nD Cert.MixcDwIdeal.τ).loc Cert.MixcDwIdeal.main_arg1))
      ∧ r.2.sem = fun _ => 0)

def quiescent_MixcDwRefIdeal [hMixcDwRefIdeal : Cert.MixcDwRefIdeal.Facts] : Prop :=
  ∀ (m : (ℓ : Loc Cert.MixcDwRefIdeal.nD Cert.MixcDwRefIdeal.τ Cert.MixcDwRefIdeal.sig) → Buf (Elt Ideal) ℓ) (g : Dev Cert.MixcDwRefIdeal.nD → PrngReg), Pre_MixcDwRefIdeal m →
    θ_run (Cert.MixcDwRefIdeal.defs (F := Ideal)) (onTc (τ := Cert.MixcDwRefIdeal.τ) (Cert.MixcDwRefIdeal.main (F := Ideal))) ⟨m, fun _ => 0, g⟩ (fun r => (∀ c : Dev Cert.MixcDwRefIdeal.nD,
      r.2.mem ((c.tc : Thread Cert.MixcDwRefIdeal.nD Cert.MixcDwRefIdeal.τ).loc Cert.MixcDwRefIdeal.main_arg0) = m ((c.tc : Thread Cert.MixcDwRefIdeal.nD Cert.MixcDwRefIdeal.τ).loc Cert.MixcDwRefIdeal.main_arg0)
      ∧ r.2.mem ((c.tc : Thread Cert.MixcDwRefIdeal.nD Cert.MixcDwRefIdeal.τ).loc Cert.MixcDwRefIdeal.main_arg1) = m ((c.tc : Thread Cert.MixcDwRefIdeal.nD Cert.MixcDwRefIdeal.τ).loc Cert.MixcDwRefIdeal.main_arg1))
      ∧ r.2.sem = fun _ => 0)

def quiescent_UkvcMm [hUkvcMm : Cert.UkvcMm.Facts] : Prop :=
  ∀ (m : (ℓ : Loc Cert.UkvcMm.nD Cert.UkvcMm.τ Cert.UkvcMm.sig) → Buf (Elt Bits) ℓ) (g : Dev Cert.UkvcMm.nD → PrngReg), Pre_UkvcMm m →
    θ_run (Cert.UkvcMm.defs (F := Bits)) (onTc (τ := Cert.UkvcMm.τ) (Cert.UkvcMm.main (F := Bits))) ⟨m, fun _ => 0, g⟩ (fun r => (∀ c : Dev Cert.UkvcMm.nD,
      r.2.mem ((c.tc : Thread Cert.UkvcMm.nD Cert.UkvcMm.τ).loc Cert.UkvcMm.main_arg0) = m ((c.tc : Thread Cert.UkvcMm.nD Cert.UkvcMm.τ).loc Cert.UkvcMm.main_arg0)
      ∧ r.2.mem ((c.tc : Thread Cert.UkvcMm.nD Cert.UkvcMm.τ).loc Cert.UkvcMm.main_arg1) = m ((c.tc : Thread Cert.UkvcMm.nD Cert.UkvcMm.τ).loc Cert.UkvcMm.main_arg1))
      ∧ r.2.sem = fun _ => 0)

def quiescent_UkvcMmIdeal [hUkvcMmIdeal : Cert.UkvcMmIdeal.Facts] : Prop :=
  ∀ (m : (ℓ : Loc Cert.UkvcMmIdeal.nD Cert.UkvcMmIdeal.τ Cert.UkvcMmIdeal.sig) → Buf (Elt Ideal) ℓ) (g : Dev Cert.UkvcMmIdeal.nD → PrngReg), Pre_UkvcMmIdeal m →
    θ_run (Cert.UkvcMmIdeal.defs (F := Ideal)) (onTc (τ := Cert.UkvcMmIdeal.τ) (Cert.UkvcMmIdeal.main (F := Ideal))) ⟨m, fun _ => 0, g⟩ (fun r => (∀ c : Dev Cert.UkvcMmIdeal.nD,
      r.2.mem ((c.tc : Thread Cert.UkvcMmIdeal.nD Cert.UkvcMmIdeal.τ).loc Cert.UkvcMmIdeal.main_arg0) = m ((c.tc : Thread Cert.UkvcMmIdeal.nD Cert.UkvcMmIdeal.τ).loc Cert.UkvcMmIdeal.main_arg0)
      ∧ r.2.mem ((c.tc : Thread Cert.UkvcMmIdeal.nD Cert.UkvcMmIdeal.τ).loc Cert.UkvcMmIdeal.main_arg1) = m ((c.tc : Thread Cert.UkvcMmIdeal.nD Cert.UkvcMmIdeal.τ).loc Cert.UkvcMmIdeal.main_arg1))
      ∧ r.2.sem = fun _ => 0)

def quiescent_UkvcMmRefIdeal [hUkvcMmRefIdeal : Cert.UkvcMmRefIdeal.Facts] : Prop :=
  ∀ (m : (ℓ : Loc Cert.UkvcMmRefIdeal.nD Cert.UkvcMmRefIdeal.τ Cert.UkvcMmRefIdeal.sig) → Buf (Elt Ideal) ℓ) (g : Dev Cert.UkvcMmRefIdeal.nD → PrngReg), Pre_UkvcMmRefIdeal m →
    θ_run (Cert.UkvcMmRefIdeal.defs (F := Ideal)) (onTc (τ := Cert.UkvcMmRefIdeal.τ) (Cert.UkvcMmRefIdeal.main (F := Ideal))) ⟨m, fun _ => 0, g⟩ (fun r => (∀ c : Dev Cert.UkvcMmRefIdeal.nD,
      r.2.mem ((c.tc : Thread Cert.UkvcMmRefIdeal.nD Cert.UkvcMmRefIdeal.τ).loc Cert.UkvcMmRefIdeal.main_arg0) = m ((c.tc : Thread Cert.UkvcMmRefIdeal.nD Cert.UkvcMmRefIdeal.τ).loc Cert.UkvcMmRefIdeal.main_arg0)
      ∧ r.2.mem ((c.tc : Thread Cert.UkvcMmRefIdeal.nD Cert.UkvcMmRefIdeal.τ).loc Cert.UkvcMmRefIdeal.main_arg1) = m ((c.tc : Thread Cert.UkvcMmRefIdeal.nD Cert.UkvcMmRefIdeal.τ).loc Cert.UkvcMmRefIdeal.main_arg1))
      ∧ r.2.sem = fun _ => 0)

def quiescent_UkvcDh [hUkvcDh : Cert.UkvcDh.Facts] : Prop :=
  ∀ (m : (ℓ : Loc Cert.UkvcDh.nD Cert.UkvcDh.τ Cert.UkvcDh.sig) → Buf (Elt Bits) ℓ) (g : Dev Cert.UkvcDh.nD → PrngReg), Pre_UkvcDh m →
    θ_run (Cert.UkvcDh.defs (F := Bits)) (onTc (τ := Cert.UkvcDh.τ) (Cert.UkvcDh.main (F := Bits))) ⟨m, fun _ => 0, g⟩ (fun r => (∀ c : Dev Cert.UkvcDh.nD,
      r.2.mem ((c.tc : Thread Cert.UkvcDh.nD Cert.UkvcDh.τ).loc Cert.UkvcDh.main_arg0) = m ((c.tc : Thread Cert.UkvcDh.nD Cert.UkvcDh.τ).loc Cert.UkvcDh.main_arg0)
      ∧ r.2.mem ((c.tc : Thread Cert.UkvcDh.nD Cert.UkvcDh.τ).loc Cert.UkvcDh.main_arg1) = m ((c.tc : Thread Cert.UkvcDh.nD Cert.UkvcDh.τ).loc Cert.UkvcDh.main_arg1))
      ∧ r.2.sem = fun _ => 0)

def quiescent_UkvcDhIdeal [hUkvcDhIdeal : Cert.UkvcDhIdeal.Facts] : Prop :=
  ∀ (m : (ℓ : Loc Cert.UkvcDhIdeal.nD Cert.UkvcDhIdeal.τ Cert.UkvcDhIdeal.sig) → Buf (Elt Ideal) ℓ) (g : Dev Cert.UkvcDhIdeal.nD → PrngReg), Pre_UkvcDhIdeal m →
    θ_run (Cert.UkvcDhIdeal.defs (F := Ideal)) (onTc (τ := Cert.UkvcDhIdeal.τ) (Cert.UkvcDhIdeal.main (F := Ideal))) ⟨m, fun _ => 0, g⟩ (fun r => (∀ c : Dev Cert.UkvcDhIdeal.nD,
      r.2.mem ((c.tc : Thread Cert.UkvcDhIdeal.nD Cert.UkvcDhIdeal.τ).loc Cert.UkvcDhIdeal.main_arg0) = m ((c.tc : Thread Cert.UkvcDhIdeal.nD Cert.UkvcDhIdeal.τ).loc Cert.UkvcDhIdeal.main_arg0)
      ∧ r.2.mem ((c.tc : Thread Cert.UkvcDhIdeal.nD Cert.UkvcDhIdeal.τ).loc Cert.UkvcDhIdeal.main_arg1) = m ((c.tc : Thread Cert.UkvcDhIdeal.nD Cert.UkvcDhIdeal.τ).loc Cert.UkvcDhIdeal.main_arg1))
      ∧ r.2.sem = fun _ => 0)

def quiescent_UkvcDhRefIdeal [hUkvcDhRefIdeal : Cert.UkvcDhRefIdeal.Facts] : Prop :=
  ∀ (m : (ℓ : Loc Cert.UkvcDhRefIdeal.nD Cert.UkvcDhRefIdeal.τ Cert.UkvcDhRefIdeal.sig) → Buf (Elt Ideal) ℓ) (g : Dev Cert.UkvcDhRefIdeal.nD → PrngReg), Pre_UkvcDhRefIdeal m →
    θ_run (Cert.UkvcDhRefIdeal.defs (F := Ideal)) (onTc (τ := Cert.UkvcDhRefIdeal.τ) (Cert.UkvcDhRefIdeal.main (F := Ideal))) ⟨m, fun _ => 0, g⟩ (fun r => (∀ c : Dev Cert.UkvcDhRefIdeal.nD,
      r.2.mem ((c.tc : Thread Cert.UkvcDhRefIdeal.nD Cert.UkvcDhRefIdeal.τ).loc Cert.UkvcDhRefIdeal.main_arg0) = m ((c.tc : Thread Cert.UkvcDhRefIdeal.nD Cert.UkvcDhRefIdeal.τ).loc Cert.UkvcDhRefIdeal.main_arg0)
      ∧ r.2.mem ((c.tc : Thread Cert.UkvcDhRefIdeal.nD Cert.UkvcDhRefIdeal.τ).loc Cert.UkvcDhRefIdeal.main_arg1) = m ((c.tc : Thread Cert.UkvcDhRefIdeal.nD Cert.UkvcDhRefIdeal.τ).loc Cert.UkvcDhRefIdeal.main_arg1))
      ∧ r.2.sem = fun _ => 0)

def quiescent_UkvcDw [hUkvcDw : Cert.UkvcDw.Facts] : Prop :=
  ∀ (m : (ℓ : Loc Cert.UkvcDw.nD Cert.UkvcDw.τ Cert.UkvcDw.sig) → Buf (Elt Bits) ℓ) (g : Dev Cert.UkvcDw.nD → PrngReg), Pre_UkvcDw m →
    θ_run (Cert.UkvcDw.defs (F := Bits)) (onTc (τ := Cert.UkvcDw.τ) (Cert.UkvcDw.main (F := Bits))) ⟨m, fun _ => 0, g⟩ (fun r => (∀ c : Dev Cert.UkvcDw.nD,
      r.2.mem ((c.tc : Thread Cert.UkvcDw.nD Cert.UkvcDw.τ).loc Cert.UkvcDw.main_arg0) = m ((c.tc : Thread Cert.UkvcDw.nD Cert.UkvcDw.τ).loc Cert.UkvcDw.main_arg0)
      ∧ r.2.mem ((c.tc : Thread Cert.UkvcDw.nD Cert.UkvcDw.τ).loc Cert.UkvcDw.main_arg1) = m ((c.tc : Thread Cert.UkvcDw.nD Cert.UkvcDw.τ).loc Cert.UkvcDw.main_arg1))
      ∧ r.2.sem = fun _ => 0)

def quiescent_UkvcDwIdeal [hUkvcDwIdeal : Cert.UkvcDwIdeal.Facts] : Prop :=
  ∀ (m : (ℓ : Loc Cert.UkvcDwIdeal.nD Cert.UkvcDwIdeal.τ Cert.UkvcDwIdeal.sig) → Buf (Elt Ideal) ℓ) (g : Dev Cert.UkvcDwIdeal.nD → PrngReg), Pre_UkvcDwIdeal m →
    θ_run (Cert.UkvcDwIdeal.defs (F := Ideal)) (onTc (τ := Cert.UkvcDwIdeal.τ) (Cert.UkvcDwIdeal.main (F := Ideal))) ⟨m, fun _ => 0, g⟩ (fun r => (∀ c : Dev Cert.UkvcDwIdeal.nD,
      r.2.mem ((c.tc : Thread Cert.UkvcDwIdeal.nD Cert.UkvcDwIdeal.τ).loc Cert.UkvcDwIdeal.main_arg0) = m ((c.tc : Thread Cert.UkvcDwIdeal.nD Cert.UkvcDwIdeal.τ).loc Cert.UkvcDwIdeal.main_arg0)
      ∧ r.2.mem ((c.tc : Thread Cert.UkvcDwIdeal.nD Cert.UkvcDwIdeal.τ).loc Cert.UkvcDwIdeal.main_arg1) = m ((c.tc : Thread Cert.UkvcDwIdeal.nD Cert.UkvcDwIdeal.τ).loc Cert.UkvcDwIdeal.main_arg1))
      ∧ r.2.sem = fun _ => 0)

def quiescent_UkvcDwRefIdeal [hUkvcDwRefIdeal : Cert.UkvcDwRefIdeal.Facts] : Prop :=
  ∀ (m : (ℓ : Loc Cert.UkvcDwRefIdeal.nD Cert.UkvcDwRefIdeal.τ Cert.UkvcDwRefIdeal.sig) → Buf (Elt Ideal) ℓ) (g : Dev Cert.UkvcDwRefIdeal.nD → PrngReg), Pre_UkvcDwRefIdeal m →
    θ_run (Cert.UkvcDwRefIdeal.defs (F := Ideal)) (onTc (τ := Cert.UkvcDwRefIdeal.τ) (Cert.UkvcDwRefIdeal.main (F := Ideal))) ⟨m, fun _ => 0, g⟩ (fun r => (∀ c : Dev Cert.UkvcDwRefIdeal.nD,
      r.2.mem ((c.tc : Thread Cert.UkvcDwRefIdeal.nD Cert.UkvcDwRefIdeal.τ).loc Cert.UkvcDwRefIdeal.main_arg0) = m ((c.tc : Thread Cert.UkvcDwRefIdeal.nD Cert.UkvcDwRefIdeal.τ).loc Cert.UkvcDwRefIdeal.main_arg0)
      ∧ r.2.mem ((c.tc : Thread Cert.UkvcDwRefIdeal.nD Cert.UkvcDwRefIdeal.τ).loc Cert.UkvcDwRefIdeal.main_arg1) = m ((c.tc : Thread Cert.UkvcDwRefIdeal.nD Cert.UkvcDwRefIdeal.τ).loc Cert.UkvcDwRefIdeal.main_arg1))
      ∧ r.2.sem = fun _ => 0)

def quiescent_AdaMm [hAdaMm : Cert.AdaMm.Facts] : Prop :=
  ∀ (m : (ℓ : Loc Cert.AdaMm.nD Cert.AdaMm.τ Cert.AdaMm.sig) → Buf (Elt Bits) ℓ) (g : Dev Cert.AdaMm.nD → PrngReg), Pre_AdaMm m →
    θ_run (Cert.AdaMm.defs (F := Bits)) (onTc (τ := Cert.AdaMm.τ) (Cert.AdaMm.main (F := Bits))) ⟨m, fun _ => 0, g⟩ (fun r => (∀ c : Dev Cert.AdaMm.nD,
      r.2.mem ((c.tc : Thread Cert.AdaMm.nD Cert.AdaMm.τ).loc Cert.AdaMm.main_arg0) = m ((c.tc : Thread Cert.AdaMm.nD Cert.AdaMm.τ).loc Cert.AdaMm.main_arg0)
      ∧ r.2.mem ((c.tc : Thread Cert.AdaMm.nD Cert.AdaMm.τ).loc Cert.AdaMm.main_arg1) = m ((c.tc : Thread Cert.AdaMm.nD Cert.AdaMm.τ).loc Cert.AdaMm.main_arg1))
      ∧ r.2.sem = fun _ => 0)

def quiescent_AdaMmIdeal [hAdaMmIdeal : Cert.AdaMmIdeal.Facts] : Prop :=
  ∀ (m : (ℓ : Loc Cert.AdaMmIdeal.nD Cert.AdaMmIdeal.τ Cert.AdaMmIdeal.sig) → Buf (Elt Ideal) ℓ) (g : Dev Cert.AdaMmIdeal.nD → PrngReg), Pre_AdaMmIdeal m →
    θ_run (Cert.AdaMmIdeal.defs (F := Ideal)) (onTc (τ := Cert.AdaMmIdeal.τ) (Cert.AdaMmIdeal.main (F := Ideal))) ⟨m, fun _ => 0, g⟩ (fun r => (∀ c : Dev Cert.AdaMmIdeal.nD,
      r.2.mem ((c.tc : Thread Cert.AdaMmIdeal.nD Cert.AdaMmIdeal.τ).loc Cert.AdaMmIdeal.main_arg0) = m ((c.tc : Thread Cert.AdaMmIdeal.nD Cert.AdaMmIdeal.τ).loc Cert.AdaMmIdeal.main_arg0)
      ∧ r.2.mem ((c.tc : Thread Cert.AdaMmIdeal.nD Cert.AdaMmIdeal.τ).loc Cert.AdaMmIdeal.main_arg1) = m ((c.tc : Thread Cert.AdaMmIdeal.nD Cert.AdaMmIdeal.τ).loc Cert.AdaMmIdeal.main_arg1))
      ∧ r.2.sem = fun _ => 0)

def quiescent_AdaMmRefIdeal [hAdaMmRefIdeal : Cert.AdaMmRefIdeal.Facts] : Prop :=
  ∀ (m : (ℓ : Loc Cert.AdaMmRefIdeal.nD Cert.AdaMmRefIdeal.τ Cert.AdaMmRefIdeal.sig) → Buf (Elt Ideal) ℓ) (g : Dev Cert.AdaMmRefIdeal.nD → PrngReg), Pre_AdaMmRefIdeal m →
    θ_run (Cert.AdaMmRefIdeal.defs (F := Ideal)) (onTc (τ := Cert.AdaMmRefIdeal.τ) (Cert.AdaMmRefIdeal.main (F := Ideal))) ⟨m, fun _ => 0, g⟩ (fun r => (∀ c : Dev Cert.AdaMmRefIdeal.nD,
      r.2.mem ((c.tc : Thread Cert.AdaMmRefIdeal.nD Cert.AdaMmRefIdeal.τ).loc Cert.AdaMmRefIdeal.main_arg0) = m ((c.tc : Thread Cert.AdaMmRefIdeal.nD Cert.AdaMmRefIdeal.τ).loc Cert.AdaMmRefIdeal.main_arg0)
      ∧ r.2.mem ((c.tc : Thread Cert.AdaMmRefIdeal.nD Cert.AdaMmRefIdeal.τ).loc Cert.AdaMmRefIdeal.main_arg1) = m ((c.tc : Thread Cert.AdaMmRefIdeal.nD Cert.AdaMmRefIdeal.τ).loc Cert.AdaMmRefIdeal.main_arg1))
      ∧ r.2.sem = fun _ => 0)

def quiescent_AdaDa [hAdaDa : Cert.AdaDa.Facts] : Prop :=
  ∀ (m : (ℓ : Loc Cert.AdaDa.nD Cert.AdaDa.τ Cert.AdaDa.sig) → Buf (Elt Bits) ℓ) (g : Dev Cert.AdaDa.nD → PrngReg), Pre_AdaDa m →
    θ_run (Cert.AdaDa.defs (F := Bits)) (onTc (τ := Cert.AdaDa.τ) (Cert.AdaDa.main (F := Bits))) ⟨m, fun _ => 0, g⟩ (fun r => (∀ c : Dev Cert.AdaDa.nD,
      r.2.mem ((c.tc : Thread Cert.AdaDa.nD Cert.AdaDa.τ).loc Cert.AdaDa.main_arg0) = m ((c.tc : Thread Cert.AdaDa.nD Cert.AdaDa.τ).loc Cert.AdaDa.main_arg0)
      ∧ r.2.mem ((c.tc : Thread Cert.AdaDa.nD Cert.AdaDa.τ).loc Cert.AdaDa.main_arg1) = m ((c.tc : Thread Cert.AdaDa.nD Cert.AdaDa.τ).loc Cert.AdaDa.main_arg1))
      ∧ r.2.sem = fun _ => 0)

def quiescent_AdaDaIdeal [hAdaDaIdeal : Cert.AdaDaIdeal.Facts] : Prop :=
  ∀ (m : (ℓ : Loc Cert.AdaDaIdeal.nD Cert.AdaDaIdeal.τ Cert.AdaDaIdeal.sig) → Buf (Elt Ideal) ℓ) (g : Dev Cert.AdaDaIdeal.nD → PrngReg), Pre_AdaDaIdeal m →
    θ_run (Cert.AdaDaIdeal.defs (F := Ideal)) (onTc (τ := Cert.AdaDaIdeal.τ) (Cert.AdaDaIdeal.main (F := Ideal))) ⟨m, fun _ => 0, g⟩ (fun r => (∀ c : Dev Cert.AdaDaIdeal.nD,
      r.2.mem ((c.tc : Thread Cert.AdaDaIdeal.nD Cert.AdaDaIdeal.τ).loc Cert.AdaDaIdeal.main_arg0) = m ((c.tc : Thread Cert.AdaDaIdeal.nD Cert.AdaDaIdeal.τ).loc Cert.AdaDaIdeal.main_arg0)
      ∧ r.2.mem ((c.tc : Thread Cert.AdaDaIdeal.nD Cert.AdaDaIdeal.τ).loc Cert.AdaDaIdeal.main_arg1) = m ((c.tc : Thread Cert.AdaDaIdeal.nD Cert.AdaDaIdeal.τ).loc Cert.AdaDaIdeal.main_arg1))
      ∧ r.2.sem = fun _ => 0)

def quiescent_AdaDaRefIdeal [hAdaDaRefIdeal : Cert.AdaDaRefIdeal.Facts] : Prop :=
  ∀ (m : (ℓ : Loc Cert.AdaDaRefIdeal.nD Cert.AdaDaRefIdeal.τ Cert.AdaDaRefIdeal.sig) → Buf (Elt Ideal) ℓ) (g : Dev Cert.AdaDaRefIdeal.nD → PrngReg), Pre_AdaDaRefIdeal m →
    θ_run (Cert.AdaDaRefIdeal.defs (F := Ideal)) (onTc (τ := Cert.AdaDaRefIdeal.τ) (Cert.AdaDaRefIdeal.main (F := Ideal))) ⟨m, fun _ => 0, g⟩ (fun r => (∀ c : Dev Cert.AdaDaRefIdeal.nD,
      r.2.mem ((c.tc : Thread Cert.AdaDaRefIdeal.nD Cert.AdaDaRefIdeal.τ).loc Cert.AdaDaRefIdeal.main_arg0) = m ((c.tc : Thread Cert.AdaDaRefIdeal.nD Cert.AdaDaRefIdeal.τ).loc Cert.AdaDaRefIdeal.main_arg0)
      ∧ r.2.mem ((c.tc : Thread Cert.AdaDaRefIdeal.nD Cert.AdaDaRefIdeal.τ).loc Cert.AdaDaRefIdeal.main_arg1) = m ((c.tc : Thread Cert.AdaDaRefIdeal.nD Cert.AdaDaRefIdeal.τ).loc Cert.AdaDaRefIdeal.main_arg1))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_GateMix [hGateMix : Cert.GateMix.Facts] : Prop :=
  ∀ (m : (ℓ : Loc Cert.GateMix.nD Cert.GateMix.τ Cert.GateMix.sig) → Buf (Elt Bits) ℓ) (g : Dev Cert.GateMix.nD → PrngReg), Pre_GateMix m →
    θ_run (Cert.GateMix.defs (F := Bits)) (onTc (τ := Cert.GateMix.τ) (Cert.GateMix.main (F := Bits))) ⟨m, fun _ => 0, g⟩ (fun r => (∀ c : Dev Cert.GateMix.nD,
      r.2.mem ((c.tc : Thread Cert.GateMix.nD Cert.GateMix.τ).loc Cert.GateMix.main_arg0) = m ((c.tc : Thread Cert.GateMix.nD Cert.GateMix.τ).loc Cert.GateMix.main_arg0)
      ∧ r.2.mem ((c.tc : Thread Cert.GateMix.nD Cert.GateMix.τ).loc Cert.GateMix.main_arg1) = m ((c.tc : Thread Cert.GateMix.nD Cert.GateMix.τ).loc Cert.GateMix.main_arg1)
      ∧ r.2.mem ((c.tc : Thread Cert.GateMix.nD Cert.GateMix.τ).loc Cert.GateMix.main_arg2) = m ((c.tc : Thread Cert.GateMix.nD Cert.GateMix.τ).loc Cert.GateMix.main_arg2))
      ∧ r.2.sem = fun _ => 0)

def quiescent_GateMixIdeal [hGateMixIdeal : Cert.GateMixIdeal.Facts] : Prop :=
  ∀ (m : (ℓ : Loc Cert.GateMixIdeal.nD Cert.GateMixIdeal.τ Cert.GateMixIdeal.sig) → Buf (Elt Ideal) ℓ) (g : Dev Cert.GateMixIdeal.nD → PrngReg), Pre_GateMixIdeal m →
    θ_run (Cert.GateMixIdeal.defs (F := Ideal)) (onTc (τ := Cert.GateMixIdeal.τ) (Cert.GateMixIdeal.main (F := Ideal))) ⟨m, fun _ => 0, g⟩ (fun r => (∀ c : Dev Cert.GateMixIdeal.nD,
      r.2.mem ((c.tc : Thread Cert.GateMixIdeal.nD Cert.GateMixIdeal.τ).loc Cert.GateMixIdeal.main_arg0) = m ((c.tc : Thread Cert.GateMixIdeal.nD Cert.GateMixIdeal.τ).loc Cert.GateMixIdeal.main_arg0)
      ∧ r.2.mem ((c.tc : Thread Cert.GateMixIdeal.nD Cert.GateMixIdeal.τ).loc Cert.GateMixIdeal.main_arg1) = m ((c.tc : Thread Cert.GateMixIdeal.nD Cert.GateMixIdeal.τ).loc Cert.GateMixIdeal.main_arg1)
      ∧ r.2.mem ((c.tc : Thread Cert.GateMixIdeal.nD Cert.GateMixIdeal.τ).loc Cert.GateMixIdeal.main_arg2) = m ((c.tc : Thread Cert.GateMixIdeal.nD Cert.GateMixIdeal.τ).loc Cert.GateMixIdeal.main_arg2))
      ∧ r.2.sem = fun _ => 0)

def quiescent_GateMixRefIdeal [hGateMixRefIdeal : Cert.GateMixRefIdeal.Facts] : Prop :=
  ∀ (m : (ℓ : Loc Cert.GateMixRefIdeal.nD Cert.GateMixRefIdeal.τ Cert.GateMixRefIdeal.sig) → Buf (Elt Ideal) ℓ) (g : Dev Cert.GateMixRefIdeal.nD → PrngReg), Pre_GateMixRefIdeal m →
    θ_run (Cert.GateMixRefIdeal.defs (F := Ideal)) (onTc (τ := Cert.GateMixRefIdeal.τ) (Cert.GateMixRefIdeal.main (F := Ideal))) ⟨m, fun _ => 0, g⟩ (fun r => (∀ c : Dev Cert.GateMixRefIdeal.nD,
      r.2.mem ((c.tc : Thread Cert.GateMixRefIdeal.nD Cert.GateMixRefIdeal.τ).loc Cert.GateMixRefIdeal.main_arg0) = m ((c.tc : Thread Cert.GateMixRefIdeal.nD Cert.GateMixRefIdeal.τ).loc Cert.GateMixRefIdeal.main_arg0)
      ∧ r.2.mem ((c.tc : Thread Cert.GateMixRefIdeal.nD Cert.GateMixRefIdeal.τ).loc Cert.GateMixRefIdeal.main_arg1) = m ((c.tc : Thread Cert.GateMixRefIdeal.nD Cert.GateMixRefIdeal.τ).loc Cert.GateMixRefIdeal.main_arg1)
      ∧ r.2.mem ((c.tc : Thread Cert.GateMixRefIdeal.nD Cert.GateMixRefIdeal.τ).loc Cert.GateMixRefIdeal.main_arg2) = m ((c.tc : Thread Cert.GateMixRefIdeal.nD Cert.GateMixRefIdeal.τ).loc Cert.GateMixRefIdeal.main_arg2))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ r.2.sem = fun _ => 0)

def quiescent_RetOutRefIdeal [hRetOutRefIdeal : Cert.RetOutRefIdeal.Facts] : Prop :=
  ∀ (m : (ℓ : Loc Cert.RetOutRefIdeal.nD Cert.RetOutRefIdeal.τ Cert.RetOutRefIdeal.sig) → Buf (Elt Ideal) ℓ) (g : Dev Cert.RetOutRefIdeal.nD → PrngReg), Pre_RetOutRefIdeal m →
    θ_run (Cert.RetOutRefIdeal.defs (F := Ideal)) (onTc (τ := Cert.RetOutRefIdeal.τ) (Cert.RetOutRefIdeal.main (F := Ideal))) ⟨m, fun _ => 0, g⟩ (fun r => (∀ c : Dev Cert.RetOutRefIdeal.nD,
      r.2.mem ((c.tc : Thread Cert.RetOutRefIdeal.nD Cert.RetOutRefIdeal.τ).loc Cert.RetOutRefIdeal.main_arg0) = m ((c.tc : Thread Cert.RetOutRefIdeal.nD Cert.RetOutRefIdeal.τ).loc Cert.RetOutRefIdeal.main_arg0)
      ∧ r.2.mem ((c.tc : Thread Cert.RetOutRefIdeal.nD Cert.RetOutRefIdeal.τ).loc Cert.RetOutRefIdeal.main_arg1) = m ((c.tc : Thread Cert.RetOutRefIdeal.nD Cert.RetOutRefIdeal.τ).loc Cert.RetOutRefIdeal.main_arg1)
      ∧ r.2.mem ((c.tc : Thread Cert.RetOutRefIdeal.nD Cert.RetOutRefIdeal.τ).loc Cert.RetOutRefIdeal.main_arg2) = m ((c.tc : Thread Cert.RetOutRefIdeal.nD Cert.RetOutRefIdeal.τ).loc Cert.RetOutRefIdeal.main_arg2))
      ∧ r.2.sem = fun _ => 0)

def quiescent_RetDout [hRetDout : Cert.RetDout.Facts] : Prop :=
  ∀ (m : (ℓ : Loc Cert.RetDout.nD Cert.RetDout.τ Cert.RetDout.sig) → Buf (Elt Bits) ℓ) (g : Dev Cert.RetDout.nD → PrngReg), Pre_RetDout m →
    θ_run (Cert.RetDout.defs (F := Bits)) (onTc (τ := Cert.RetDout.τ) (Cert.RetDout.main (F := Bits))) ⟨m, fun _ => 0, g⟩ (fun r => (∀ c : Dev Cert.RetDout.nD,
      r.2.mem ((c.tc : Thread Cert.RetDout.nD Cert.RetDout.τ).loc Cert.RetDout.main_arg0) = m ((c.tc : Thread Cert.RetDout.nD Cert.RetDout.τ).loc Cert.RetDout.main_arg0)
      ∧ r.2.mem ((c.tc : Thread Cert.RetDout.nD Cert.RetDout.τ).loc Cert.RetDout.main_arg1) = m ((c.tc : Thread Cert.RetDout.nD Cert.RetDout.τ).loc Cert.RetDout.main_arg1)
      ∧ r.2.mem ((c.tc : Thread Cert.RetDout.nD Cert.RetDout.τ).loc Cert.RetDout.main_arg2) = m ((c.tc : Thread Cert.RetDout.nD Cert.RetDout.τ).loc Cert.RetDout.main_arg2)
      ∧ r.2.mem ((c.tc : Thread Cert.RetDout.nD Cert.RetDout.τ).loc Cert.RetDout.main_arg3) = m ((c.tc : Thread Cert.RetDout.nD Cert.RetDout.τ).loc Cert.RetDout.main_arg3))
      ∧ r.2.sem = fun _ => 0)

def quiescent_RetDoutIdeal [hRetDoutIdeal : Cert.RetDoutIdeal.Facts] : Prop :=
  ∀ (m : (ℓ : Loc Cert.RetDoutIdeal.nD Cert.RetDoutIdeal.τ Cert.RetDoutIdeal.sig) → Buf (Elt Ideal) ℓ) (g : Dev Cert.RetDoutIdeal.nD → PrngReg), Pre_RetDoutIdeal m →
    θ_run (Cert.RetDoutIdeal.defs (F := Ideal)) (onTc (τ := Cert.RetDoutIdeal.τ) (Cert.RetDoutIdeal.main (F := Ideal))) ⟨m, fun _ => 0, g⟩ (fun r => (∀ c : Dev Cert.RetDoutIdeal.nD,
      r.2.mem ((c.tc : Thread Cert.RetDoutIdeal.nD Cert.RetDoutIdeal.τ).loc Cert.RetDoutIdeal.main_arg0) = m ((c.tc : Thread Cert.RetDoutIdeal.nD Cert.RetDoutIdeal.τ).loc Cert.RetDoutIdeal.main_arg0)
      ∧ r.2.mem ((c.tc : Thread Cert.RetDoutIdeal.nD Cert.RetDoutIdeal.τ).loc Cert.RetDoutIdeal.main_arg1) = m ((c.tc : Thread Cert.RetDoutIdeal.nD Cert.RetDoutIdeal.τ).loc Cert.RetDoutIdeal.main_arg1)
      ∧ r.2.mem ((c.tc : Thread Cert.RetDoutIdeal.nD Cert.RetDoutIdeal.τ).loc Cert.RetDoutIdeal.main_arg2) = m ((c.tc : Thread Cert.RetDoutIdeal.nD Cert.RetDoutIdeal.τ).loc Cert.RetDoutIdeal.main_arg2)
      ∧ r.2.mem ((c.tc : Thread Cert.RetDoutIdeal.nD Cert.RetDoutIdeal.τ).loc Cert.RetDoutIdeal.main_arg3) = m ((c.tc : Thread Cert.RetDoutIdeal.nD Cert.RetDoutIdeal.τ).loc Cert.RetDoutIdeal.main_arg3))
      ∧ r.2.sem = fun _ => 0)

def quiescent_RetDoutRefIdeal [hRetDoutRefIdeal : Cert.RetDoutRefIdeal.Facts] : Prop :=
  ∀ (m : (ℓ : Loc Cert.RetDoutRefIdeal.nD Cert.RetDoutRefIdeal.τ Cert.RetDoutRefIdeal.sig) → Buf (Elt Ideal) ℓ) (g : Dev Cert.RetDoutRefIdeal.nD → PrngReg), Pre_RetDoutRefIdeal m →
    θ_run (Cert.RetDoutRefIdeal.defs (F := Ideal)) (onTc (τ := Cert.RetDoutRefIdeal.τ) (Cert.RetDoutRefIdeal.main (F := Ideal))) ⟨m, fun _ => 0, g⟩ (fun r => (∀ c : Dev Cert.RetDoutRefIdeal.nD,
      r.2.mem ((c.tc : Thread Cert.RetDoutRefIdeal.nD Cert.RetDoutRefIdeal.τ).loc Cert.RetDoutRefIdeal.main_arg0) = m ((c.tc : Thread Cert.RetDoutRefIdeal.nD Cert.RetDoutRefIdeal.τ).loc Cert.RetDoutRefIdeal.main_arg0)
      ∧ r.2.mem ((c.tc : Thread Cert.RetDoutRefIdeal.nD Cert.RetDoutRefIdeal.τ).loc Cert.RetDoutRefIdeal.main_arg1) = m ((c.tc : Thread Cert.RetDoutRefIdeal.nD Cert.RetDoutRefIdeal.τ).loc Cert.RetDoutRefIdeal.main_arg1)
      ∧ r.2.mem ((c.tc : Thread Cert.RetDoutRefIdeal.nD Cert.RetDoutRefIdeal.τ).loc Cert.RetDoutRefIdeal.main_arg2) = m ((c.tc : Thread Cert.RetDoutRefIdeal.nD Cert.RetDoutRefIdeal.τ).loc Cert.RetDoutRefIdeal.main_arg2)
      ∧ r.2.mem ((c.tc : Thread Cert.RetDoutRefIdeal.nD Cert.RetDoutRefIdeal.τ).loc Cert.RetDoutRefIdeal.main_arg3) = m ((c.tc : Thread Cert.RetDoutRefIdeal.nD Cert.RetDoutRefIdeal.τ).loc Cert.RetDoutRefIdeal.main_arg3))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_CtxNorm [hCtxNorm : Cert.CtxNorm.Facts] : Prop :=
  ∀ (m : (ℓ : Loc Cert.CtxNorm.nD Cert.CtxNorm.τ Cert.CtxNorm.sig) → Buf (Elt Bits) ℓ) (g : Dev Cert.CtxNorm.nD → PrngReg), Pre_CtxNorm m →
    θ_run (Cert.CtxNorm.defs (F := Bits)) (onTc (τ := Cert.CtxNorm.τ) (Cert.CtxNorm.main (F := Bits))) ⟨m, fun _ => 0, g⟩ (fun r => (∀ c : Dev Cert.CtxNorm.nD,
      r.2.mem ((c.tc : Thread Cert.CtxNorm.nD Cert.CtxNorm.τ).loc Cert.CtxNorm.main_arg0) = m ((c.tc : Thread Cert.CtxNorm.nD Cert.CtxNorm.τ).loc Cert.CtxNorm.main_arg0)
      ∧ r.2.mem ((c.tc : Thread Cert.CtxNorm.nD Cert.CtxNorm.τ).loc Cert.CtxNorm.main_arg1) = m ((c.tc : Thread Cert.CtxNorm.nD Cert.CtxNorm.τ).loc Cert.CtxNorm.main_arg1)
      ∧ r.2.mem ((c.tc : Thread Cert.CtxNorm.nD Cert.CtxNorm.τ).loc Cert.CtxNorm.main_arg2) = m ((c.tc : Thread Cert.CtxNorm.nD Cert.CtxNorm.τ).loc Cert.CtxNorm.main_arg2)
      ∧ r.2.mem ((c.tc : Thread Cert.CtxNorm.nD Cert.CtxNorm.τ).loc Cert.CtxNorm.main_arg3) = m ((c.tc : Thread Cert.CtxNorm.nD Cert.CtxNorm.τ).loc Cert.CtxNorm.main_arg3))
      ∧ r.2.sem = fun _ => 0)

def quiescent_CtxNormIdeal [hCtxNormIdeal : Cert.CtxNormIdeal.Facts] : Prop :=
  ∀ (m : (ℓ : Loc Cert.CtxNormIdeal.nD Cert.CtxNormIdeal.τ Cert.CtxNormIdeal.sig) → Buf (Elt Ideal) ℓ) (g : Dev Cert.CtxNormIdeal.nD → PrngReg), Pre_CtxNormIdeal m →
    θ_run (Cert.CtxNormIdeal.defs (F := Ideal)) (onTc (τ := Cert.CtxNormIdeal.τ) (Cert.CtxNormIdeal.main (F := Ideal))) ⟨m, fun _ => 0, g⟩ (fun r => (∀ c : Dev Cert.CtxNormIdeal.nD,
      r.2.mem ((c.tc : Thread Cert.CtxNormIdeal.nD Cert.CtxNormIdeal.τ).loc Cert.CtxNormIdeal.main_arg0) = m ((c.tc : Thread Cert.CtxNormIdeal.nD Cert.CtxNormIdeal.τ).loc Cert.CtxNormIdeal.main_arg0)
      ∧ r.2.mem ((c.tc : Thread Cert.CtxNormIdeal.nD Cert.CtxNormIdeal.τ).loc Cert.CtxNormIdeal.main_arg1) = m ((c.tc : Thread Cert.CtxNormIdeal.nD Cert.CtxNormIdeal.τ).loc Cert.CtxNormIdeal.main_arg1)
      ∧ r.2.mem ((c.tc : Thread Cert.CtxNormIdeal.nD Cert.CtxNormIdeal.τ).loc Cert.CtxNormIdeal.main_arg2) = m ((c.tc : Thread Cert.CtxNormIdeal.nD Cert.CtxNormIdeal.τ).loc Cert.CtxNormIdeal.main_arg2)
      ∧ r.2.mem ((c.tc : Thread Cert.CtxNormIdeal.nD Cert.CtxNormIdeal.τ).loc Cert.CtxNormIdeal.main_arg3) = m ((c.tc : Thread Cert.CtxNormIdeal.nD Cert.CtxNormIdeal.τ).loc Cert.CtxNormIdeal.main_arg3))
      ∧ r.2.sem = fun _ => 0)

def quiescent_CtxNormRefIdeal [hCtxNormRefIdeal : Cert.CtxNormRefIdeal.Facts] : Prop :=
  ∀ (m : (ℓ : Loc Cert.CtxNormRefIdeal.nD Cert.CtxNormRefIdeal.τ Cert.CtxNormRefIdeal.sig) → Buf (Elt Ideal) ℓ) (g : Dev Cert.CtxNormRefIdeal.nD → PrngReg), Pre_CtxNormRefIdeal m →
    θ_run (Cert.CtxNormRefIdeal.defs (F := Ideal)) (onTc (τ := Cert.CtxNormRefIdeal.τ) (Cert.CtxNormRefIdeal.main (F := Ideal))) ⟨m, fun _ => 0, g⟩ (fun r => (∀ c : Dev Cert.CtxNormRefIdeal.nD,
      r.2.mem ((c.tc : Thread Cert.CtxNormRefIdeal.nD Cert.CtxNormRefIdeal.τ).loc Cert.CtxNormRefIdeal.main_arg0) = m ((c.tc : Thread Cert.CtxNormRefIdeal.nD Cert.CtxNormRefIdeal.τ).loc Cert.CtxNormRefIdeal.main_arg0)
      ∧ r.2.mem ((c.tc : Thread Cert.CtxNormRefIdeal.nD Cert.CtxNormRefIdeal.τ).loc Cert.CtxNormRefIdeal.main_arg1) = m ((c.tc : Thread Cert.CtxNormRefIdeal.nD Cert.CtxNormRefIdeal.τ).loc Cert.CtxNormRefIdeal.main_arg1)
      ∧ r.2.mem ((c.tc : Thread Cert.CtxNormRefIdeal.nD Cert.CtxNormRefIdeal.τ).loc Cert.CtxNormRefIdeal.main_arg2) = m ((c.tc : Thread Cert.CtxNormRefIdeal.nD Cert.CtxNormRefIdeal.τ).loc Cert.CtxNormRefIdeal.main_arg2)
      ∧ r.2.mem ((c.tc : Thread Cert.CtxNormRefIdeal.nD Cert.CtxNormRefIdeal.τ).loc Cert.CtxNormRefIdeal.main_arg3) = m ((c.tc : Thread Cert.CtxNormRefIdeal.nD Cert.CtxNormRefIdeal.τ).loc Cert.CtxNormRefIdeal.main_arg3))
      ∧ r.2.sem = fun _ => 0)

def quiescent_CtxGate [hCtxGate : Cert.CtxGate.Facts] : Prop :=
  ∀ (m : (ℓ : Loc Cert.CtxGate.nD Cert.CtxGate.τ Cert.CtxGate.sig) → Buf (Elt Bits) ℓ) (g : Dev Cert.CtxGate.nD → PrngReg), Pre_CtxGate m →
    θ_run (Cert.CtxGate.defs (F := Bits)) (onTc (τ := Cert.CtxGate.τ) (Cert.CtxGate.main (F := Bits))) ⟨m, fun _ => 0, g⟩ (fun r => (∀ c : Dev Cert.CtxGate.nD,
      r.2.mem ((c.tc : Thread Cert.CtxGate.nD Cert.CtxGate.τ).loc Cert.CtxGate.main_arg0) = m ((c.tc : Thread Cert.CtxGate.nD Cert.CtxGate.τ).loc Cert.CtxGate.main_arg0)
      ∧ r.2.mem ((c.tc : Thread Cert.CtxGate.nD Cert.CtxGate.τ).loc Cert.CtxGate.main_arg1) = m ((c.tc : Thread Cert.CtxGate.nD Cert.CtxGate.τ).loc Cert.CtxGate.main_arg1)
      ∧ r.2.mem ((c.tc : Thread Cert.CtxGate.nD Cert.CtxGate.τ).loc Cert.CtxGate.main_arg2) = m ((c.tc : Thread Cert.CtxGate.nD Cert.CtxGate.τ).loc Cert.CtxGate.main_arg2))
      ∧ r.2.sem = fun _ => 0)

def quiescent_CtxGateIdeal [hCtxGateIdeal : Cert.CtxGateIdeal.Facts] : Prop :=
  ∀ (m : (ℓ : Loc Cert.CtxGateIdeal.nD Cert.CtxGateIdeal.τ Cert.CtxGateIdeal.sig) → Buf (Elt Ideal) ℓ) (g : Dev Cert.CtxGateIdeal.nD → PrngReg), Pre_CtxGateIdeal m →
    θ_run (Cert.CtxGateIdeal.defs (F := Ideal)) (onTc (τ := Cert.CtxGateIdeal.τ) (Cert.CtxGateIdeal.main (F := Ideal))) ⟨m, fun _ => 0, g⟩ (fun r => (∀ c : Dev Cert.CtxGateIdeal.nD,
      r.2.mem ((c.tc : Thread Cert.CtxGateIdeal.nD Cert.CtxGateIdeal.τ).loc Cert.CtxGateIdeal.main_arg0) = m ((c.tc : Thread Cert.CtxGateIdeal.nD Cert.CtxGateIdeal.τ).loc Cert.CtxGateIdeal.main_arg0)
      ∧ r.2.mem ((c.tc : Thread Cert.CtxGateIdeal.nD Cert.CtxGateIdeal.τ).loc Cert.CtxGateIdeal.main_arg1) = m ((c.tc : Thread Cert.CtxGateIdeal.nD Cert.CtxGateIdeal.τ).loc Cert.CtxGateIdeal.main_arg1)
      ∧ r.2.mem ((c.tc : Thread Cert.CtxGateIdeal.nD Cert.CtxGateIdeal.τ).loc Cert.CtxGateIdeal.main_arg2) = m ((c.tc : Thread Cert.CtxGateIdeal.nD Cert.CtxGateIdeal.τ).loc Cert.CtxGateIdeal.main_arg2))
      ∧ r.2.sem = fun _ => 0)

def quiescent_CtxGateRefIdeal [hCtxGateRefIdeal : Cert.CtxGateRefIdeal.Facts] : Prop :=
  ∀ (m : (ℓ : Loc Cert.CtxGateRefIdeal.nD Cert.CtxGateRefIdeal.τ Cert.CtxGateRefIdeal.sig) → Buf (Elt Ideal) ℓ) (g : Dev Cert.CtxGateRefIdeal.nD → PrngReg), Pre_CtxGateRefIdeal m →
    θ_run (Cert.CtxGateRefIdeal.defs (F := Ideal)) (onTc (τ := Cert.CtxGateRefIdeal.τ) (Cert.CtxGateRefIdeal.main (F := Ideal))) ⟨m, fun _ => 0, g⟩ (fun r => (∀ c : Dev Cert.CtxGateRefIdeal.nD,
      r.2.mem ((c.tc : Thread Cert.CtxGateRefIdeal.nD Cert.CtxGateRefIdeal.τ).loc Cert.CtxGateRefIdeal.main_arg0) = m ((c.tc : Thread Cert.CtxGateRefIdeal.nD Cert.CtxGateRefIdeal.τ).loc Cert.CtxGateRefIdeal.main_arg0)
      ∧ r.2.mem ((c.tc : Thread Cert.CtxGateRefIdeal.nD Cert.CtxGateRefIdeal.τ).loc Cert.CtxGateRefIdeal.main_arg1) = m ((c.tc : Thread Cert.CtxGateRefIdeal.nD Cert.CtxGateRefIdeal.τ).loc Cert.CtxGateRefIdeal.main_arg1)
      ∧ r.2.mem ((c.tc : Thread Cert.CtxGateRefIdeal.nD Cert.CtxGateRefIdeal.τ).loc Cert.CtxGateRefIdeal.main_arg2) = m ((c.tc : Thread Cert.CtxGateRefIdeal.nD Cert.CtxGateRefIdeal.τ).loc Cert.CtxGateRefIdeal.main_arg2))
      ∧ r.2.sem = fun _ => 0)

def quiescent_CtxNormBwd [hCtxNormBwd : Cert.CtxNormBwd.Facts] : Prop :=
  ∀ (m : (ℓ : Loc Cert.CtxNormBwd.nD Cert.CtxNormBwd.τ Cert.CtxNormBwd.sig) → Buf (Elt Bits) ℓ) (g : Dev Cert.CtxNormBwd.nD → PrngReg), Pre_CtxNormBwd m →
    θ_run (Cert.CtxNormBwd.defs (F := Bits)) (onTc (τ := Cert.CtxNormBwd.τ) (Cert.CtxNormBwd.main (F := Bits))) ⟨m, fun _ => 0, g⟩ (fun r => (∀ c : Dev Cert.CtxNormBwd.nD,
      r.2.mem ((c.tc : Thread Cert.CtxNormBwd.nD Cert.CtxNormBwd.τ).loc Cert.CtxNormBwd.main_arg0) = m ((c.tc : Thread Cert.CtxNormBwd.nD Cert.CtxNormBwd.τ).loc Cert.CtxNormBwd.main_arg0)
      ∧ r.2.mem ((c.tc : Thread Cert.CtxNormBwd.nD Cert.CtxNormBwd.τ).loc Cert.CtxNormBwd.main_arg1) = m ((c.tc : Thread Cert.CtxNormBwd.nD Cert.CtxNormBwd.τ).loc Cert.CtxNormBwd.main_arg1)
      ∧ r.2.mem ((c.tc : Thread Cert.CtxNormBwd.nD Cert.CtxNormBwd.τ).loc Cert.CtxNormBwd.main_arg2) = m ((c.tc : Thread Cert.CtxNormBwd.nD Cert.CtxNormBwd.τ).loc Cert.CtxNormBwd.main_arg2)
      ∧ r.2.mem ((c.tc : Thread Cert.CtxNormBwd.nD Cert.CtxNormBwd.τ).loc Cert.CtxNormBwd.main_arg3) = m ((c.tc : Thread Cert.CtxNormBwd.nD Cert.CtxNormBwd.τ).loc Cert.CtxNormBwd.main_arg3)
      ∧ r.2.mem ((c.tc : Thread Cert.CtxNormBwd.nD Cert.CtxNormBwd.τ).loc Cert.CtxNormBwd.main_arg4) = m ((c.tc : Thread Cert.CtxNormBwd.nD Cert.CtxNormBwd.τ).loc Cert.CtxNormBwd.main_arg4)
      ∧ r.2.mem ((c.tc : Thread Cert.CtxNormBwd.nD Cert.CtxNormBwd.τ).loc Cert.CtxNormBwd.main_arg5) = m ((c.tc : Thread Cert.CtxNormBwd.nD Cert.CtxNormBwd.τ).loc Cert.CtxNormBwd.main_arg5))
      ∧ r.2.sem = fun _ => 0)

def quiescent_CtxNormBwdIdeal [hCtxNormBwdIdeal : Cert.CtxNormBwdIdeal.Facts] : Prop :=
  ∀ (m : (ℓ : Loc Cert.CtxNormBwdIdeal.nD Cert.CtxNormBwdIdeal.τ Cert.CtxNormBwdIdeal.sig) → Buf (Elt Ideal) ℓ) (g : Dev Cert.CtxNormBwdIdeal.nD → PrngReg), Pre_CtxNormBwdIdeal m →
    θ_run (Cert.CtxNormBwdIdeal.defs (F := Ideal)) (onTc (τ := Cert.CtxNormBwdIdeal.τ) (Cert.CtxNormBwdIdeal.main (F := Ideal))) ⟨m, fun _ => 0, g⟩ (fun r => (∀ c : Dev Cert.CtxNormBwdIdeal.nD,
      r.2.mem ((c.tc : Thread Cert.CtxNormBwdIdeal.nD Cert.CtxNormBwdIdeal.τ).loc Cert.CtxNormBwdIdeal.main_arg0) = m ((c.tc : Thread Cert.CtxNormBwdIdeal.nD Cert.CtxNormBwdIdeal.τ).loc Cert.CtxNormBwdIdeal.main_arg0)
      ∧ r.2.mem ((c.tc : Thread Cert.CtxNormBwdIdeal.nD Cert.CtxNormBwdIdeal.τ).loc Cert.CtxNormBwdIdeal.main_arg1) = m ((c.tc : Thread Cert.CtxNormBwdIdeal.nD Cert.CtxNormBwdIdeal.τ).loc Cert.CtxNormBwdIdeal.main_arg1)
      ∧ r.2.mem ((c.tc : Thread Cert.CtxNormBwdIdeal.nD Cert.CtxNormBwdIdeal.τ).loc Cert.CtxNormBwdIdeal.main_arg2) = m ((c.tc : Thread Cert.CtxNormBwdIdeal.nD Cert.CtxNormBwdIdeal.τ).loc Cert.CtxNormBwdIdeal.main_arg2)
      ∧ r.2.mem ((c.tc : Thread Cert.CtxNormBwdIdeal.nD Cert.CtxNormBwdIdeal.τ).loc Cert.CtxNormBwdIdeal.main_arg3) = m ((c.tc : Thread Cert.CtxNormBwdIdeal.nD Cert.CtxNormBwdIdeal.τ).loc Cert.CtxNormBwdIdeal.main_arg3)
      ∧ r.2.mem ((c.tc : Thread Cert.CtxNormBwdIdeal.nD Cert.CtxNormBwdIdeal.τ).loc Cert.CtxNormBwdIdeal.main_arg4) = m ((c.tc : Thread Cert.CtxNormBwdIdeal.nD Cert.CtxNormBwdIdeal.τ).loc Cert.CtxNormBwdIdeal.main_arg4)
      ∧ r.2.mem ((c.tc : Thread Cert.CtxNormBwdIdeal.nD Cert.CtxNormBwdIdeal.τ).loc Cert.CtxNormBwdIdeal.main_arg5) = m ((c.tc : Thread Cert.CtxNormBwdIdeal.nD Cert.CtxNormBwdIdeal.τ).loc Cert.CtxNormBwdIdeal.main_arg5))
      ∧ r.2.sem = fun _ => 0)

def quiescent_CtxNormBwdRefIdeal [hCtxNormBwdRefIdeal : Cert.CtxNormBwdRefIdeal.Facts] : Prop :=
  ∀ (m : (ℓ : Loc Cert.CtxNormBwdRefIdeal.nD Cert.CtxNormBwdRefIdeal.τ Cert.CtxNormBwdRefIdeal.sig) → Buf (Elt Ideal) ℓ) (g : Dev Cert.CtxNormBwdRefIdeal.nD → PrngReg), Pre_CtxNormBwdRefIdeal m →
    θ_run (Cert.CtxNormBwdRefIdeal.defs (F := Ideal)) (onTc (τ := Cert.CtxNormBwdRefIdeal.τ) (Cert.CtxNormBwdRefIdeal.main (F := Ideal))) ⟨m, fun _ => 0, g⟩ (fun r => (∀ c : Dev Cert.CtxNormBwdRefIdeal.nD,
      r.2.mem ((c.tc : Thread Cert.CtxNormBwdRefIdeal.nD Cert.CtxNormBwdRefIdeal.τ).loc Cert.CtxNormBwdRefIdeal.main_arg0) = m ((c.tc : Thread Cert.CtxNormBwdRefIdeal.nD Cert.CtxNormBwdRefIdeal.τ).loc Cert.CtxNormBwdRefIdeal.main_arg0)
      ∧ r.2.mem ((c.tc : Thread Cert.CtxNormBwdRefIdeal.nD Cert.CtxNormBwdRefIdeal.τ).loc Cert.CtxNormBwdRefIdeal.main_arg1) = m ((c.tc : Thread Cert.CtxNormBwdRefIdeal.nD Cert.CtxNormBwdRefIdeal.τ).loc Cert.CtxNormBwdRefIdeal.main_arg1)
      ∧ r.2.mem ((c.tc : Thread Cert.CtxNormBwdRefIdeal.nD Cert.CtxNormBwdRefIdeal.τ).loc Cert.CtxNormBwdRefIdeal.main_arg2) = m ((c.tc : Thread Cert.CtxNormBwdRefIdeal.nD Cert.CtxNormBwdRefIdeal.τ).loc Cert.CtxNormBwdRefIdeal.main_arg2)
      ∧ r.2.mem ((c.tc : Thread Cert.CtxNormBwdRefIdeal.nD Cert.CtxNormBwdRefIdeal.τ).loc Cert.CtxNormBwdRefIdeal.main_arg3) = m ((c.tc : Thread Cert.CtxNormBwdRefIdeal.nD Cert.CtxNormBwdRefIdeal.τ).loc Cert.CtxNormBwdRefIdeal.main_arg3)
      ∧ r.2.mem ((c.tc : Thread Cert.CtxNormBwdRefIdeal.nD Cert.CtxNormBwdRefIdeal.τ).loc Cert.CtxNormBwdRefIdeal.main_arg4) = m ((c.tc : Thread Cert.CtxNormBwdRefIdeal.nD Cert.CtxNormBwdRefIdeal.τ).loc Cert.CtxNormBwdRefIdeal.main_arg4)
      ∧ r.2.mem ((c.tc : Thread Cert.CtxNormBwdRefIdeal.nD Cert.CtxNormBwdRefIdeal.τ).loc Cert.CtxNormBwdRefIdeal.main_arg5) = m ((c.tc : Thread Cert.CtxNormBwdRefIdeal.nD Cert.CtxNormBwdRefIdeal.τ).loc Cert.CtxNormBwdRefIdeal.main_arg5))
      ∧ r.2.sem = fun _ => 0)

def quiescent_MixcNormBwd [hMixcNormBwd : Cert.MixcNormBwd.Facts] : Prop :=
  ∀ (m : (ℓ : Loc Cert.MixcNormBwd.nD Cert.MixcNormBwd.τ Cert.MixcNormBwd.sig) → Buf (Elt Bits) ℓ) (g : Dev Cert.MixcNormBwd.nD → PrngReg), Pre_MixcNormBwd m →
    θ_run (Cert.MixcNormBwd.defs (F := Bits)) (onTc (τ := Cert.MixcNormBwd.τ) (Cert.MixcNormBwd.main (F := Bits))) ⟨m, fun _ => 0, g⟩ (fun r => (∀ c : Dev Cert.MixcNormBwd.nD,
      r.2.mem ((c.tc : Thread Cert.MixcNormBwd.nD Cert.MixcNormBwd.τ).loc Cert.MixcNormBwd.main_arg0) = m ((c.tc : Thread Cert.MixcNormBwd.nD Cert.MixcNormBwd.τ).loc Cert.MixcNormBwd.main_arg0)
      ∧ r.2.mem ((c.tc : Thread Cert.MixcNormBwd.nD Cert.MixcNormBwd.τ).loc Cert.MixcNormBwd.main_arg1) = m ((c.tc : Thread Cert.MixcNormBwd.nD Cert.MixcNormBwd.τ).loc Cert.MixcNormBwd.main_arg1)
      ∧ r.2.mem ((c.tc : Thread Cert.MixcNormBwd.nD Cert.MixcNormBwd.τ).loc Cert.MixcNormBwd.main_arg2) = m ((c.tc : Thread Cert.MixcNormBwd.nD Cert.MixcNormBwd.τ).loc Cert.MixcNormBwd.main_arg2)
      ∧ r.2.mem ((c.tc : Thread Cert.MixcNormBwd.nD Cert.MixcNormBwd.τ).loc Cert.MixcNormBwd.main_arg3) = m ((c.tc : Thread Cert.MixcNormBwd.nD Cert.MixcNormBwd.τ).loc Cert.MixcNormBwd.main_arg3)
      ∧ r.2.mem ((c.tc : Thread Cert.MixcNormBwd.nD Cert.MixcNormBwd.τ).loc Cert.MixcNormBwd.main_arg4) = m ((c.tc : Thread Cert.MixcNormBwd.nD Cert.MixcNormBwd.τ).loc Cert.MixcNormBwd.main_arg4))
      ∧ r.2.sem = fun _ => 0)

def quiescent_MixcNormBwdIdeal [hMixcNormBwdIdeal : Cert.MixcNormBwdIdeal.Facts] : Prop :=
  ∀ (m : (ℓ : Loc Cert.MixcNormBwdIdeal.nD Cert.MixcNormBwdIdeal.τ Cert.MixcNormBwdIdeal.sig) → Buf (Elt Ideal) ℓ) (g : Dev Cert.MixcNormBwdIdeal.nD → PrngReg), Pre_MixcNormBwdIdeal m →
    θ_run (Cert.MixcNormBwdIdeal.defs (F := Ideal)) (onTc (τ := Cert.MixcNormBwdIdeal.τ) (Cert.MixcNormBwdIdeal.main (F := Ideal))) ⟨m, fun _ => 0, g⟩ (fun r => (∀ c : Dev Cert.MixcNormBwdIdeal.nD,
      r.2.mem ((c.tc : Thread Cert.MixcNormBwdIdeal.nD Cert.MixcNormBwdIdeal.τ).loc Cert.MixcNormBwdIdeal.main_arg0) = m ((c.tc : Thread Cert.MixcNormBwdIdeal.nD Cert.MixcNormBwdIdeal.τ).loc Cert.MixcNormBwdIdeal.main_arg0)
      ∧ r.2.mem ((c.tc : Thread Cert.MixcNormBwdIdeal.nD Cert.MixcNormBwdIdeal.τ).loc Cert.MixcNormBwdIdeal.main_arg1) = m ((c.tc : Thread Cert.MixcNormBwdIdeal.nD Cert.MixcNormBwdIdeal.τ).loc Cert.MixcNormBwdIdeal.main_arg1)
      ∧ r.2.mem ((c.tc : Thread Cert.MixcNormBwdIdeal.nD Cert.MixcNormBwdIdeal.τ).loc Cert.MixcNormBwdIdeal.main_arg2) = m ((c.tc : Thread Cert.MixcNormBwdIdeal.nD Cert.MixcNormBwdIdeal.τ).loc Cert.MixcNormBwdIdeal.main_arg2)
      ∧ r.2.mem ((c.tc : Thread Cert.MixcNormBwdIdeal.nD Cert.MixcNormBwdIdeal.τ).loc Cert.MixcNormBwdIdeal.main_arg3) = m ((c.tc : Thread Cert.MixcNormBwdIdeal.nD Cert.MixcNormBwdIdeal.τ).loc Cert.MixcNormBwdIdeal.main_arg3)
      ∧ r.2.mem ((c.tc : Thread Cert.MixcNormBwdIdeal.nD Cert.MixcNormBwdIdeal.τ).loc Cert.MixcNormBwdIdeal.main_arg4) = m ((c.tc : Thread Cert.MixcNormBwdIdeal.nD Cert.MixcNormBwdIdeal.τ).loc Cert.MixcNormBwdIdeal.main_arg4))
      ∧ r.2.sem = fun _ => 0)

def quiescent_MixcNormBwdRefIdeal [hMixcNormBwdRefIdeal : Cert.MixcNormBwdRefIdeal.Facts] : Prop :=
  ∀ (m : (ℓ : Loc Cert.MixcNormBwdRefIdeal.nD Cert.MixcNormBwdRefIdeal.τ Cert.MixcNormBwdRefIdeal.sig) → Buf (Elt Ideal) ℓ) (g : Dev Cert.MixcNormBwdRefIdeal.nD → PrngReg), Pre_MixcNormBwdRefIdeal m →
    θ_run (Cert.MixcNormBwdRefIdeal.defs (F := Ideal)) (onTc (τ := Cert.MixcNormBwdRefIdeal.τ) (Cert.MixcNormBwdRefIdeal.main (F := Ideal))) ⟨m, fun _ => 0, g⟩ (fun r => (∀ c : Dev Cert.MixcNormBwdRefIdeal.nD,
      r.2.mem ((c.tc : Thread Cert.MixcNormBwdRefIdeal.nD Cert.MixcNormBwdRefIdeal.τ).loc Cert.MixcNormBwdRefIdeal.main_arg0) = m ((c.tc : Thread Cert.MixcNormBwdRefIdeal.nD Cert.MixcNormBwdRefIdeal.τ).loc Cert.MixcNormBwdRefIdeal.main_arg0)
      ∧ r.2.mem ((c.tc : Thread Cert.MixcNormBwdRefIdeal.nD Cert.MixcNormBwdRefIdeal.τ).loc Cert.MixcNormBwdRefIdeal.main_arg1) = m ((c.tc : Thread Cert.MixcNormBwdRefIdeal.nD Cert.MixcNormBwdRefIdeal.τ).loc Cert.MixcNormBwdRefIdeal.main_arg1)
      ∧ r.2.mem ((c.tc : Thread Cert.MixcNormBwdRefIdeal.nD Cert.MixcNormBwdRefIdeal.τ).loc Cert.MixcNormBwdRefIdeal.main_arg2) = m ((c.tc : Thread Cert.MixcNormBwdRefIdeal.nD Cert.MixcNormBwdRefIdeal.τ).loc Cert.MixcNormBwdRefIdeal.main_arg2)
      ∧ r.2.mem ((c.tc : Thread Cert.MixcNormBwdRefIdeal.nD Cert.MixcNormBwdRefIdeal.τ).loc Cert.MixcNormBwdRefIdeal.main_arg3) = m ((c.tc : Thread Cert.MixcNormBwdRefIdeal.nD Cert.MixcNormBwdRefIdeal.τ).loc Cert.MixcNormBwdRefIdeal.main_arg3)
      ∧ r.2.mem ((c.tc : Thread Cert.MixcNormBwdRefIdeal.nD Cert.MixcNormBwdRefIdeal.τ).loc Cert.MixcNormBwdRefIdeal.main_arg4) = m ((c.tc : Thread Cert.MixcNormBwdRefIdeal.nD Cert.MixcNormBwdRefIdeal.τ).loc Cert.MixcNormBwdRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_qk [hFwdIdeal : Cert.FwdIdeal.Facts] [hPre_finite_qk : Cert.Pre_finite_qk.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_qk m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_qk [hFwdRefIdeal : Cert.FwdRefIdeal.Facts] [hPre_finite_qk : Cert.Pre_finite_qk.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_qk m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "scale_log2e" .f32 0x3DD53B95#32 (((Real.sqrt 192)⁻¹ * (Real.log 2)⁻¹ : ℝ) : EReal)
  ∧ IdealRules.named_const.Statement Cert.KernelIdeal.κ "scale" .f32 0x3D93CD3A#32 (((Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)) (v2 : (c : Dev Cert.KernelIdeal.nD) → Buf (Elt Ideal) ((c.tc : Thread Cert.KernelIdeal.nD Cert.KernelIdeal.τ).loc Cert.KernelIdeal.main_v42_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_v42_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_In_InIdeal : Prop :=
  True

def algebraic_InIdeal_InRefIdeal_pre_finite_in [hInIdeal : Cert.InIdeal.Facts] [hInRefIdeal : Cert.InRefIdeal.Facts] [hPre_finite_in : Cert.Pre_finite_in.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_finite_in m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v4_0)) (v1 : (c : Dev Cert.InIdeal.nD) → Buf (Elt Ideal) ((c.tc : Thread Cert.InIdeal.nD Cert.InIdeal.τ).loc Cert.InIdeal.main_v4_1)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v4_0) = v0 c
          ∧ r.2.mem ((c.tc : Thread Cert.InIdeal.nD Cert.InIdeal.τ).loc Cert.InIdeal.main_v4_1) = v1 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v13) = v0 c
          ∧ r.2.mem ((c.tc : Thread Cert.InRefIdeal.nD Cert.InRefIdeal.τ).loc Cert.InRefIdeal.main_v17) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_v6) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Da_DaIdeal : Prop :=
  True

def algebraic_DaIdeal_DaRefIdeal_pre_finite_da [hDaIdeal : Cert.DaIdeal.Facts] [hDaRefIdeal : Cert.DaRefIdeal.Facts] [hPre_finite_da : Cert.Pre_finite_da.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal_finite_da m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)) →
    ∃ (v0 : (c : Dev Cert.DaIdeal.nD) → Buf (Elt Ideal) ((c.tc : Thread Cert.DaIdeal.nD Cert.DaIdeal.τ).loc Cert.DaIdeal.main_v14)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v14) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v12) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v6)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v6) = v0 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v8) = v0 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_DwoutAdd_DwoutAddIdeal : Prop :=
  True

def algebraic_DwoutAddIdeal_DwoutAddRefIdeal [hDwoutAddIdeal : Cert.DwoutAddIdeal.Facts] [hDwoutAddRefIdeal : Cert.DwoutAddRefIdeal.Facts] : Prop :=
  ∀ (m : (ℓ : Loc Cert.DwoutAddIdeal.nD Cert.DwoutAddIdeal.τ Cert.DwoutAddIdeal.sig) → Buf (Elt Ideal) ℓ) (g : Dev Cert.DwoutAddIdeal.nD → PrngReg)
    (m' : (ℓ : Loc Cert.DwoutAddRefIdeal.nD Cert.DwoutAddRefIdeal.τ Cert.DwoutAddRefIdeal.sig) → Buf (Elt Ideal) ℓ) (g' : Dev Cert.DwoutAddRefIdeal.nD → PrngReg), Pre_DwoutAddIdeal m →
    (∀ c : Dev Cert.DwoutAddIdeal.nD,
      m' ((c.tc : Thread Cert.DwoutAddRefIdeal.nD Cert.DwoutAddRefIdeal.τ).loc Cert.DwoutAddRefIdeal.main_arg0) = m ((c.tc : Thread Cert.DwoutAddIdeal.nD Cert.DwoutAddIdeal.τ).loc Cert.DwoutAddIdeal.main_arg0)
      ∧ m' ((c.tc : Thread Cert.DwoutAddRefIdeal.nD Cert.DwoutAddRefIdeal.τ).loc Cert.DwoutAddRefIdeal.main_arg1) = m ((c.tc : Thread Cert.DwoutAddIdeal.nD Cert.DwoutAddIdeal.τ).loc Cert.DwoutAddIdeal.main_arg1)
      ∧ m' ((c.tc : Thread Cert.DwoutAddRefIdeal.nD Cert.DwoutAddRefIdeal.τ).loc Cert.DwoutAddRefIdeal.main_arg2) = m ((c.tc : Thread Cert.DwoutAddIdeal.nD Cert.DwoutAddIdeal.τ).loc Cert.DwoutAddIdeal.main_arg2)) →
    ∃ (v0 : (c : Dev Cert.DwoutAddIdeal.nD) → Buf (Elt Ideal) ((c.tc : Thread Cert.DwoutAddIdeal.nD Cert.DwoutAddIdeal.τ).loc Cert.DwoutAddIdeal.main_v7)),
      θ_run (Cert.DwoutAddIdeal.defs (F := Ideal)) (onTc (τ := Cert.DwoutAddIdeal.τ) (Cert.DwoutAddIdeal.main (F := Ideal))) ⟨m, fun _ => 0, g⟩ (fun r => ∀ c : Dev Cert.DwoutAddIdeal.nD,
          r.2.mem ((c.tc : Thread Cert.DwoutAddIdeal.nD Cert.DwoutAddIdeal.τ).loc Cert.DwoutAddIdeal.main_v7) = v0 c
          ∧ r.2.mem ((c.tc : Thread Cert.DwoutAddIdeal.nD Cert.DwoutAddIdeal.τ).loc Cert.DwoutAddIdeal.main_arg0) = m ((c.tc : Thread Cert.DwoutAddIdeal.nD Cert.DwoutAddIdeal.τ).loc Cert.DwoutAddIdeal.main_arg0)
          ∧ r.2.mem ((c.tc : Thread Cert.DwoutAddIdeal.nD Cert.DwoutAddIdeal.τ).loc Cert.DwoutAddIdeal.main_arg1) = m ((c.tc : Thread Cert.DwoutAddIdeal.nD Cert.DwoutAddIdeal.τ).loc Cert.DwoutAddIdeal.main_arg1)
          ∧ r.2.mem ((c.tc : Thread Cert.DwoutAddIdeal.nD Cert.DwoutAddIdeal.τ).loc Cert.DwoutAddIdeal.main_arg2) = m ((c.tc : Thread Cert.DwoutAddIdeal.nD Cert.DwoutAddIdeal.τ).loc Cert.DwoutAddIdeal.main_arg2))
      ∧ θ_run (Cert.DwoutAddRefIdeal.defs (F := Ideal)) (onTc (τ := Cert.DwoutAddRefIdeal.τ) (Cert.DwoutAddRefIdeal.main (F := Ideal))) ⟨m', fun _ => 0, g'⟩ (fun r => ∀ c : Dev Cert.DwoutAddRefIdeal.nD,
          r.2.mem ((c.tc : Thread Cert.DwoutAddRefIdeal.nD Cert.DwoutAddRefIdeal.τ).loc Cert.DwoutAddRefIdeal.main_v9) = v0 c
          ∧ r.2.mem ((c.tc : Thread Cert.DwoutAddRefIdeal.nD Cert.DwoutAddRefIdeal.τ).loc Cert.DwoutAddRefIdeal.main_arg0) = m' ((c.tc : Thread Cert.DwoutAddRefIdeal.nD Cert.DwoutAddRefIdeal.τ).loc Cert.DwoutAddRefIdeal.main_arg0)
          ∧ r.2.mem ((c.tc : Thread Cert.DwoutAddRefIdeal.nD Cert.DwoutAddRefIdeal.τ).loc Cert.DwoutAddRefIdeal.main_arg1) = m' ((c.tc : Thread Cert.DwoutAddRefIdeal.nD Cert.DwoutAddRefIdeal.τ).loc Cert.DwoutAddRefIdeal.main_arg1)
          ∧ r.2.mem ((c.tc : Thread Cert.DwoutAddRefIdeal.nD Cert.DwoutAddRefIdeal.τ).loc Cert.DwoutAddRefIdeal.main_arg2) = m' ((c.tc : Thread Cert.DwoutAddRefIdeal.nD Cert.DwoutAddRefIdeal.τ).loc Cert.DwoutAddRefIdeal.main_arg2))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v6)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v6) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v2) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v4)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v4) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v6) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_DwinAdd_DwinAddIdeal : Prop :=
  True

def algebraic_DwinAddIdeal_DwinAddRefIdeal [hDwinAddIdeal : Cert.DwinAddIdeal.Facts] [hDwinAddRefIdeal : Cert.DwinAddRefIdeal.Facts] : Prop :=
  ∀ (m : (ℓ : Loc Cert.DwinAddIdeal.nD Cert.DwinAddIdeal.τ Cert.DwinAddIdeal.sig) → Buf (Elt Ideal) ℓ) (g : Dev Cert.DwinAddIdeal.nD → PrngReg)
    (m' : (ℓ : Loc Cert.DwinAddRefIdeal.nD Cert.DwinAddRefIdeal.τ Cert.DwinAddRefIdeal.sig) → Buf (Elt Ideal) ℓ) (g' : Dev Cert.DwinAddRefIdeal.nD → PrngReg), Pre_DwinAddIdeal m →
    (∀ c : Dev Cert.DwinAddIdeal.nD,
      m' ((c.tc : Thread Cert.DwinAddRefIdeal.nD Cert.DwinAddRefIdeal.τ).loc Cert.DwinAddRefIdeal.main_arg0) = m ((c.tc : Thread Cert.DwinAddIdeal.nD Cert.DwinAddIdeal.τ).loc Cert.DwinAddIdeal.main_arg0)
      ∧ m' ((c.tc : Thread Cert.DwinAddRefIdeal.nD Cert.DwinAddRefIdeal.τ).loc Cert.DwinAddRefIdeal.main_arg1) = m ((c.tc : Thread Cert.DwinAddIdeal.nD Cert.DwinAddIdeal.τ).loc Cert.DwinAddIdeal.main_arg1)
      ∧ m' ((c.tc : Thread Cert.DwinAddRefIdeal.nD Cert.DwinAddRefIdeal.τ).loc Cert.DwinAddRefIdeal.main_arg2) = m ((c.tc : Thread Cert.DwinAddIdeal.nD Cert.DwinAddIdeal.τ).loc Cert.DwinAddIdeal.main_arg2)) →
    ∃ (v0 : (c : Dev Cert.DwinAddIdeal.nD) → Buf (Elt Ideal) ((c.tc : Thread Cert.DwinAddIdeal.nD Cert.DwinAddIdeal.τ).loc Cert.DwinAddIdeal.main_v7)),
      θ_run (Cert.DwinAddIdeal.defs (F := Ideal)) (onTc (τ := Cert.DwinAddIdeal.τ) (Cert.DwinAddIdeal.main (F := Ideal))) ⟨m, fun _ => 0, g⟩ (fun r => ∀ c : Dev Cert.DwinAddIdeal.nD,
          r.2.mem ((c.tc : Thread Cert.DwinAddIdeal.nD Cert.DwinAddIdeal.τ).loc Cert.DwinAddIdeal.main_v7) = v0 c
          ∧ r.2.mem ((c.tc : Thread Cert.DwinAddIdeal.nD Cert.DwinAddIdeal.τ).loc Cert.DwinAddIdeal.main_arg0) = m ((c.tc : Thread Cert.DwinAddIdeal.nD Cert.DwinAddIdeal.τ).loc Cert.DwinAddIdeal.main_arg0)
          ∧ r.2.mem ((c.tc : Thread Cert.DwinAddIdeal.nD Cert.DwinAddIdeal.τ).loc Cert.DwinAddIdeal.main_arg1) = m ((c.tc : Thread Cert.DwinAddIdeal.nD Cert.DwinAddIdeal.τ).loc Cert.DwinAddIdeal.main_arg1)
          ∧ r.2.mem ((c.tc : Thread Cert.DwinAddIdeal.nD Cert.DwinAddIdeal.τ).loc Cert.DwinAddIdeal.main_arg2) = m ((c.tc : Thread Cert.DwinAddIdeal.nD Cert.DwinAddIdeal.τ).loc Cert.DwinAddIdeal.main_arg2))
      ∧ θ_run (Cert.DwinAddRefIdeal.defs (F := Ideal)) (onTc (τ := Cert.DwinAddRefIdeal.τ) (Cert.DwinAddRefIdeal.main (F := Ideal))) ⟨m', fun _ => 0, g'⟩ (fun r => ∀ c : Dev Cert.DwinAddRefIdeal.nD,
          r.2.mem ((c.tc : Thread Cert.DwinAddRefIdeal.nD Cert.DwinAddRefIdeal.τ).loc Cert.DwinAddRefIdeal.main_v7) = v0 c
          ∧ r.2.mem ((c.tc : Thread Cert.DwinAddRefIdeal.nD Cert.DwinAddRefIdeal.τ).loc Cert.DwinAddRefIdeal.main_arg0) = m' ((c.tc : Thread Cert.DwinAddRefIdeal.nD Cert.DwinAddRefIdeal.τ).loc Cert.DwinAddRefIdeal.main_arg0)
          ∧ r.2.mem ((c.tc : Thread Cert.DwinAddRefIdeal.nD Cert.DwinAddRefIdeal.τ).loc Cert.DwinAddRefIdeal.main_arg1) = m' ((c.tc : Thread Cert.DwinAddRefIdeal.nD Cert.DwinAddRefIdeal.τ).loc Cert.DwinAddRefIdeal.main_arg1)
          ∧ r.2.mem ((c.tc : Thread Cert.DwinAddRefIdeal.nD Cert.DwinAddRefIdeal.τ).loc Cert.DwinAddRefIdeal.main_arg2) = m' ((c.tc : Thread Cert.DwinAddRefIdeal.nD Cert.DwinAddRefIdeal.τ).loc Cert.DwinAddRefIdeal.main_arg2))

def preserves_MixMm_MixMmIdeal : Prop :=
  True

def algebraic_MixMmIdeal_MixMmRefIdeal [hMixMmIdeal : Cert.MixMmIdeal.Facts] [hMixMmRefIdeal : Cert.MixMmRefIdeal.Facts] : Prop :=
  ∀ (m : (ℓ : Loc Cert.MixMmIdeal.nD Cert.MixMmIdeal.τ Cert.MixMmIdeal.sig) → Buf (Elt Ideal) ℓ) (g : Dev Cert.MixMmIdeal.nD → PrngReg)
    (m' : (ℓ : Loc Cert.MixMmRefIdeal.nD Cert.MixMmRefIdeal.τ Cert.MixMmRefIdeal.sig) → Buf (Elt Ideal) ℓ) (g' : Dev Cert.MixMmRefIdeal.nD → PrngReg), Pre_MixMmIdeal m →
    (∀ c : Dev Cert.MixMmIdeal.nD,
      m' ((c.tc : Thread Cert.MixMmRefIdeal.nD Cert.MixMmRefIdeal.τ).loc Cert.MixMmRefIdeal.main_arg0) = m ((c.tc : Thread Cert.MixMmIdeal.nD Cert.MixMmIdeal.τ).loc Cert.MixMmIdeal.main_arg0)
      ∧ m' ((c.tc : Thread Cert.MixMmRefIdeal.nD Cert.MixMmRefIdeal.τ).loc Cert.MixMmRefIdeal.main_arg1) = m ((c.tc : Thread Cert.MixMmIdeal.nD Cert.MixMmIdeal.τ).loc Cert.MixMmIdeal.main_arg1)) →
    ∃ (v0 : (c : Dev Cert.MixMmIdeal.nD) → Buf (Elt Ideal) ((c.tc : Thread Cert.MixMmIdeal.nD Cert.MixMmIdeal.τ).loc Cert.MixMmIdeal.main_v2)),
      θ_run (Cert.MixMmIdeal.defs (F := Ideal)) (onTc (τ := Cert.MixMmIdeal.τ) (Cert.MixMmIdeal.main (F := Ideal))) ⟨m, fun _ => 0, g⟩ (fun r => ∀ c : Dev Cert.MixMmIdeal.nD,
          r.2.mem ((c.tc : Thread Cert.MixMmIdeal.nD Cert.MixMmIdeal.τ).loc Cert.MixMmIdeal.main_v2) = v0 c
          ∧ r.2.mem ((c.tc : Thread Cert.MixMmIdeal.nD Cert.MixMmIdeal.τ).loc Cert.MixMmIdeal.main_arg0) = m ((c.tc : Thread Cert.MixMmIdeal.nD Cert.MixMmIdeal.τ).loc Cert.MixMmIdeal.main_arg0)
          ∧ r.2.mem ((c.tc : Thread Cert.MixMmIdeal.nD Cert.MixMmIdeal.τ).loc Cert.MixMmIdeal.main_arg1) = m ((c.tc : Thread Cert.MixMmIdeal.nD Cert.MixMmIdeal.τ).loc Cert.MixMmIdeal.main_arg1))
      ∧ θ_run (Cert.MixMmRefIdeal.defs (F := Ideal)) (onTc (τ := Cert.MixMmRefIdeal.τ) (Cert.MixMmRefIdeal.main (F := Ideal))) ⟨m', fun _ => 0, g'⟩ (fun r => ∀ c : Dev Cert.MixMmRefIdeal.nD,
          r.2.mem ((c.tc : Thread Cert.MixMmRefIdeal.nD Cert.MixMmRefIdeal.τ).loc Cert.MixMmRefIdeal.main_v0) = v0 c
          ∧ r.2.mem ((c.tc : Thread Cert.MixMmRefIdeal.nD Cert.MixMmRefIdeal.τ).loc Cert.MixMmRefIdeal.main_arg0) = m' ((c.tc : Thread Cert.MixMmRefIdeal.nD Cert.MixMmRefIdeal.τ).loc Cert.MixMmRefIdeal.main_arg0)
          ∧ r.2.mem ((c.tc : Thread Cert.MixMmRefIdeal.nD Cert.MixMmRefIdeal.τ).loc Cert.MixMmRefIdeal.main_arg1) = m' ((c.tc : Thread Cert.MixMmRefIdeal.nD Cert.MixMmRefIdeal.τ).loc Cert.MixMmRefIdeal.main_arg1))

def preserves_MixDh_MixDhIdeal : Prop :=
  True

def algebraic_MixDhIdeal_MixDhRefIdeal [hMixDhIdeal : Cert.MixDhIdeal.Facts] [hMixDhRefIdeal : Cert.MixDhRefIdeal.Facts] : Prop :=
  ∀ (m : (ℓ : Loc Cert.MixDhIdeal.nD Cert.MixDhIdeal.τ Cert.MixDhIdeal.sig) → Buf (Elt Ideal) ℓ) (g : Dev Cert.MixDhIdeal.nD → PrngReg)
    (m' : (ℓ : Loc Cert.MixDhRefIdeal.nD Cert.MixDhRefIdeal.τ Cert.MixDhRefIdeal.sig) → Buf (Elt Ideal) ℓ) (g' : Dev Cert.MixDhRefIdeal.nD → PrngReg), Pre_MixDhIdeal m →
    (∀ c : Dev Cert.MixDhIdeal.nD,
      m' ((c.tc : Thread Cert.MixDhRefIdeal.nD Cert.MixDhRefIdeal.τ).loc Cert.MixDhRefIdeal.main_arg0) = m ((c.tc : Thread Cert.MixDhIdeal.nD Cert.MixDhIdeal.τ).loc Cert.MixDhIdeal.main_arg0)
      ∧ m' ((c.tc : Thread Cert.MixDhRefIdeal.nD Cert.MixDhRefIdeal.τ).loc Cert.MixDhRefIdeal.main_arg1) = m ((c.tc : Thread Cert.MixDhIdeal.nD Cert.MixDhIdeal.τ).loc Cert.MixDhIdeal.main_arg1)) →
    ∃ (v0 : (c : Dev Cert.MixDhIdeal.nD) → Buf (Elt Ideal) ((c.tc : Thread Cert.MixDhIdeal.nD Cert.MixDhIdeal.τ).loc Cert.MixDhIdeal.main_v1)),
      θ_run (Cert.MixDhIdeal.defs (F := Ideal)) (onTc (τ := Cert.MixDhIdeal.τ) (Cert.MixDhIdeal.main (F := Ideal))) ⟨m, fun _ => 0, g⟩ (fun r => ∀ c : Dev Cert.MixDhIdeal.nD,
          r.2.mem ((c.tc : Thread Cert.MixDhIdeal.nD Cert.MixDhIdeal.τ).loc Cert.MixDhIdeal.main_v1) = v0 c
          ∧ r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
          ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1))
      ∧ θ_run (Cert.MixDhRefIdeal.defs (F := Ideal)) (onTc (τ := Cert.MixDhRefIdeal.τ) (Cert.MixDhRefIdeal.main (F := Ideal))) ⟨m', fun _ => 0, g'⟩ (fun r => ∀ c : Dev Cert.MixDhRefIdeal.nD,
          r.2.mem ((c.tc : Thread Cert.MixDhRefIdeal.nD Cert.MixDhRefIdeal.τ).loc Cert.MixDhRefIdeal.main_v2) = v0 c
          ∧ r.2.mem ((c.tc : Thread Cert.MixDhRefIdeal.nD Cert.MixDhRefIdeal.τ).loc Cert.MixDhRefIdeal.main_arg0) = m' ((c.tc : Thread Cert.MixDhRefIdeal.nD Cert.MixDhRefIdeal.τ).loc Cert.MixDhRefIdeal.main_arg0)
          ∧ r.2.mem ((c.tc : Thread Cert.MixDhRefIdeal.nD Cert.MixDhRefIdeal.τ).loc Cert.MixDhRefIdeal.main_arg1) = m' ((c.tc : Thread Cert.MixDhRefIdeal.nD Cert.MixDhRefIdeal.τ).loc Cert.MixDhRefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v1)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v1) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v4) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_MixoMm_MixoMmIdeal : Prop :=
  True

def algebraic_MixoMmIdeal_MixoMmRefIdeal [hMixoMmIdeal : Cert.MixoMmIdeal.Facts] [hMixoMmRefIdeal : Cert.MixoMmRefIdeal.Facts] : Prop :=
  ∀ (m : (ℓ : Loc Cert.MixoMmIdeal.nD Cert.MixoMmIdeal.τ Cert.MixoMmIdeal.sig) → Buf (Elt Ideal) ℓ) (g : Dev Cert.MixoMmIdeal.nD → PrngReg)
    (m' : (ℓ : Loc Cert.MixoMmRefIdeal.nD Cert.MixoMmRefIdeal.τ Cert.MixoMmRefIdeal.sig) → Buf (Elt Ideal) ℓ) (g' : Dev Cert.MixoMmRefIdeal.nD → PrngReg), Pre_MixoMmIdeal m →
    (∀ c : Dev Cert.MixoMmIdeal.nD,
      m' ((c.tc : Thread Cert.MixoMmRefIdeal.nD Cert.MixoMmRefIdeal.τ).loc Cert.MixoMmRefIdeal.main_arg0) = m ((c.tc : Thread Cert.MixoMmIdeal.nD Cert.MixoMmIdeal.τ).loc Cert.MixoMmIdeal.main_arg0)
      ∧ m' ((c.tc : Thread Cert.MixoMmRefIdeal.nD Cert.MixoMmRefIdeal.τ).loc Cert.MixoMmRefIdeal.main_arg1) = m ((c.tc : Thread Cert.MixoMmIdeal.nD Cert.MixoMmIdeal.τ).loc Cert.MixoMmIdeal.main_arg1)
      ∧ m' ((c.tc : Thread Cert.MixoMmRefIdeal.nD Cert.MixoMmRefIdeal.τ).loc Cert.MixoMmRefIdeal.main_arg2) = m ((c.tc : Thread Cert.MixoMmIdeal.nD Cert.MixoMmIdeal.τ).loc Cert.MixoMmIdeal.main_arg2)
      ∧ m' ((c.tc : Thread Cert.MixoMmRefIdeal.nD Cert.MixoMmRefIdeal.τ).loc Cert.MixoMmRefIdeal.main_arg3) = m ((c.tc : Thread Cert.MixoMmIdeal.nD Cert.MixoMmIdeal.τ).loc Cert.MixoMmIdeal.main_arg3)) →
    ∃ (v0 : (c : Dev Cert.MixoMmIdeal.nD) → Buf (Elt Ideal) ((c.tc : Thread Cert.MixoMmIdeal.nD Cert.MixoMmIdeal.τ).loc Cert.MixoMmIdeal.main_v2_0)) (v1 : (c : Dev Cert.MixoMmIdeal.nD) → Buf (Elt Ideal) ((c.tc : Thread Cert.MixoMmIdeal.nD Cert.MixoMmIdeal.τ).loc Cert.MixoMmIdeal.main_v2_1)),
      θ_run (Cert.MixoMmIdeal.defs (F := Ideal)) (onTc (τ := Cert.MixoMmIdeal.τ) (Cert.MixoMmIdeal.main (F := Ideal))) ⟨m, fun _ => 0, g⟩ (fun r => ∀ c : Dev Cert.MixoMmIdeal.nD,
          r.2.mem ((c.tc : Thread Cert.MixoMmIdeal.nD Cert.MixoMmIdeal.τ).loc Cert.MixoMmIdeal.main_v2_0) = v0 c
          ∧ r.2.mem ((c.tc : Thread Cert.MixoMmIdeal.nD Cert.MixoMmIdeal.τ).loc Cert.MixoMmIdeal.main_v2_1) = v1 c
          ∧ r.2.mem ((c.tc : Thread Cert.MixoMmIdeal.nD Cert.MixoMmIdeal.τ).loc Cert.MixoMmIdeal.main_arg0) = m ((c.tc : Thread Cert.MixoMmIdeal.nD Cert.MixoMmIdeal.τ).loc Cert.MixoMmIdeal.main_arg0)
          ∧ r.2.mem ((c.tc : Thread Cert.MixoMmIdeal.nD Cert.MixoMmIdeal.τ).loc Cert.MixoMmIdeal.main_arg1) = m ((c.tc : Thread Cert.MixoMmIdeal.nD Cert.MixoMmIdeal.τ).loc Cert.MixoMmIdeal.main_arg1)
          ∧ r.2.mem ((c.tc : Thread Cert.MixoMmIdeal.nD Cert.MixoMmIdeal.τ).loc Cert.MixoMmIdeal.main_arg2) = m ((c.tc : Thread Cert.MixoMmIdeal.nD Cert.MixoMmIdeal.τ).loc Cert.MixoMmIdeal.main_arg2)
          ∧ r.2.mem ((c.tc : Thread Cert.MixoMmIdeal.nD Cert.MixoMmIdeal.τ).loc Cert.MixoMmIdeal.main_arg3) = m ((c.tc : Thread Cert.MixoMmIdeal.nD Cert.MixoMmIdeal.τ).loc Cert.MixoMmIdeal.main_arg3))
      ∧ θ_run (Cert.MixoMmRefIdeal.defs (F := Ideal)) (onTc (τ := Cert.MixoMmRefIdeal.τ) (Cert.MixoMmRefIdeal.main (F := Ideal))) ⟨m', fun _ => 0, g'⟩ (fun r => ∀ c : Dev Cert.MixoMmRefIdeal.nD,
          r.2.mem ((c.tc : Thread Cert.MixoMmRefIdeal.nD Cert.MixoMmRefIdeal.τ).loc Cert.MixoMmRefIdeal.main_v3) = v0 c
          ∧ r.2.mem ((c.tc : Thread Cert.MixoMmRefIdeal.nD Cert.MixoMmRefIdeal.τ).loc Cert.MixoMmRefIdeal.main_v4) = v1 c
          ∧ r.2.mem ((c.tc : Thread Cert.MixoMmRefIdeal.nD Cert.MixoMmRefIdeal.τ).loc Cert.MixoMmRefIdeal.main_arg0) = m' ((c.tc : Thread Cert.MixoMmRefIdeal.nD Cert.MixoMmRefIdeal.τ).loc Cert.MixoMmRefIdeal.main_arg0)
          ∧ r.2.mem ((c.tc : Thread Cert.MixoMmRefIdeal.nD Cert.MixoMmRefIdeal.τ).loc Cert.MixoMmRefIdeal.main_arg1) = m' ((c.tc : Thread Cert.MixoMmRefIdeal.nD Cert.MixoMmRefIdeal.τ).loc Cert.MixoMmRefIdeal.main_arg1)
          ∧ r.2.mem ((c.tc : Thread Cert.MixoMmRefIdeal.nD Cert.MixoMmRefIdeal.τ).loc Cert.MixoMmRefIdeal.main_arg2) = m' ((c.tc : Thread Cert.MixoMmRefIdeal.nD Cert.MixoMmRefIdeal.τ).loc Cert.MixoMmRefIdeal.main_arg2)
          ∧ r.2.mem ((c.tc : Thread Cert.MixoMmRefIdeal.nD Cert.MixoMmRefIdeal.τ).loc Cert.MixoMmRefIdeal.main_arg3) = m' ((c.tc : Thread Cert.MixoMmRefIdeal.nD Cert.MixoMmRefIdeal.τ).loc Cert.MixoMmRefIdeal.main_arg3))

def preserves_MixoDa_MixoDaIdeal : Prop :=
  True

def algebraic_MixoDaIdeal_MixoDaRefIdeal [hMixoDaIdeal : Cert.MixoDaIdeal.Facts] [hMixoDaRefIdeal : Cert.MixoDaRefIdeal.Facts] : Prop :=
  ∀ (m : (ℓ : Loc Cert.MixoDaIdeal.nD Cert.MixoDaIdeal.τ Cert.MixoDaIdeal.sig) → Buf (Elt Ideal) ℓ) (g : Dev Cert.MixoDaIdeal.nD → PrngReg)
    (m' : (ℓ : Loc Cert.MixoDaRefIdeal.nD Cert.MixoDaRefIdeal.τ Cert.MixoDaRefIdeal.sig) → Buf (Elt Ideal) ℓ) (g' : Dev Cert.MixoDaRefIdeal.nD → PrngReg), Pre_MixoDaIdeal m →
    (∀ c : Dev Cert.MixoDaIdeal.nD,
      m' ((c.tc : Thread Cert.MixoDaRefIdeal.nD Cert.MixoDaRefIdeal.τ).loc Cert.MixoDaRefIdeal.main_arg0) = m ((c.tc : Thread Cert.MixoDaIdeal.nD Cert.MixoDaIdeal.τ).loc Cert.MixoDaIdeal.main_arg0)
      ∧ m' ((c.tc : Thread Cert.MixoDaRefIdeal.nD Cert.MixoDaRefIdeal.τ).loc Cert.MixoDaRefIdeal.main_arg1) = m ((c.tc : Thread Cert.MixoDaIdeal.nD Cert.MixoDaIdeal.τ).loc Cert.MixoDaIdeal.main_arg1)) →
    ∃ (v0 : (c : Dev Cert.MixoDaIdeal.nD) → Buf (Elt Ideal) ((c.tc : Thread Cert.MixoDaIdeal.nD Cert.MixoDaIdeal.τ).loc Cert.MixoDaIdeal.main_v2)),
      θ_run (Cert.MixoDaIdeal.defs (F := Ideal)) (onTc (τ := Cert.MixoDaIdeal.τ) (Cert.MixoDaIdeal.main (F := Ideal))) ⟨m, fun _ => 0, g⟩ (fun r => ∀ c : Dev Cert.MixoDaIdeal.nD,
          r.2.mem ((c.tc : Thread Cert.MixoDaIdeal.nD Cert.MixoDaIdeal.τ).loc Cert.MixoDaIdeal.main_v2) = v0 c
          ∧ r.2.mem ((c.tc : Thread Cert.MixoDaIdeal.nD Cert.MixoDaIdeal.τ).loc Cert.MixoDaIdeal.main_arg0) = m ((c.tc : Thread Cert.MixoDaIdeal.nD Cert.MixoDaIdeal.τ).loc Cert.MixoDaIdeal.main_arg0)
          ∧ r.2.mem ((c.tc : Thread Cert.MixoDaIdeal.nD Cert.MixoDaIdeal.τ).loc Cert.MixoDaIdeal.main_arg1) = m ((c.tc : Thread Cert.MixoDaIdeal.nD Cert.MixoDaIdeal.τ).loc Cert.MixoDaIdeal.main_arg1))
      ∧ θ_run (Cert.MixoDaRefIdeal.defs (F := Ideal)) (onTc (τ := Cert.MixoDaRefIdeal.τ) (Cert.MixoDaRefIdeal.main (F := Ideal))) ⟨m', fun _ => 0, g'⟩ (fun r => ∀ c : Dev Cert.MixoDaRefIdeal.nD,
          r.2.mem ((c.tc : Thread Cert.MixoDaRefIdeal.nD Cert.MixoDaRefIdeal.τ).loc Cert.MixoDaRefIdeal.main_v3) = v0 c
          ∧ r.2.mem ((c.tc : Thread Cert.MixoDaRefIdeal.nD Cert.MixoDaRefIdeal.τ).loc Cert.MixoDaRefIdeal.main_arg0) = m' ((c.tc : Thread Cert.MixoDaRefIdeal.nD Cert.MixoDaRefIdeal.τ).loc Cert.MixoDaRefIdeal.main_arg0)
          ∧ r.2.mem ((c.tc : Thread Cert.MixoDaRefIdeal.nD Cert.MixoDaRefIdeal.τ).loc Cert.MixoDaRefIdeal.main_arg1) = m' ((c.tc : Thread Cert.MixoDaRefIdeal.nD Cert.MixoDaRefIdeal.τ).loc Cert.MixoDaRefIdeal.main_arg1))

def preserves_MixoDw_MixoDwIdeal : Prop :=
  True

def algebraic_MixoDwIdeal_MixoDwRefIdeal [hMixoDwIdeal : Cert.MixoDwIdeal.Facts] [hMixoDwRefIdeal : Cert.MixoDwRefIdeal.Facts] : Prop :=
  ∀ (m : (ℓ : Loc Cert.MixoDwIdeal.nD Cert.MixoDwIdeal.τ Cert.MixoDwIdeal.sig) → Buf (Elt Ideal) ℓ) (g : Dev Cert.MixoDwIdeal.nD → PrngReg)
    (m' : (ℓ : Loc Cert.MixoDwRefIdeal.nD Cert.MixoDwRefIdeal.τ Cert.MixoDwRefIdeal.sig) → Buf (Elt Ideal) ℓ) (g' : Dev Cert.MixoDwRefIdeal.nD → PrngReg), Pre_MixoDwIdeal m →
    (∀ c : Dev Cert.MixoDwIdeal.nD,
      m' ((c.tc : Thread Cert.MixoDwRefIdeal.nD Cert.MixoDwRefIdeal.τ).loc Cert.MixoDwRefIdeal.main_arg0) = m ((c.tc : Thread Cert.MixoDwIdeal.nD Cert.MixoDwIdeal.τ).loc Cert.MixoDwIdeal.main_arg0)
      ∧ m' ((c.tc : Thread Cert.MixoDwRefIdeal.nD Cert.MixoDwRefIdeal.τ).loc Cert.MixoDwRefIdeal.main_arg1) = m ((c.tc : Thread Cert.MixoDwIdeal.nD Cert.MixoDwIdeal.τ).loc Cert.MixoDwIdeal.main_arg1)) →
    ∃ (v0 : (c : Dev Cert.MixoDwIdeal.nD) → Buf (Elt Ideal) ((c.tc : Thread Cert.MixoDwIdeal.nD Cert.MixoDwIdeal.τ).loc Cert.MixoDwIdeal.main_v2)),
      θ_run (Cert.MixoDwIdeal.defs (F := Ideal)) (onTc (τ := Cert.MixoDwIdeal.τ) (Cert.MixoDwIdeal.main (F := Ideal))) ⟨m, fun _ => 0, g⟩ (fun r => ∀ c : Dev Cert.MixoDwIdeal.nD,
          r.2.mem ((c.tc : Thread Cert.MixoDwIdeal.nD Cert.MixoDwIdeal.τ).loc Cert.MixoDwIdeal.main_v2) = v0 c
          ∧ r.2.mem ((c.tc : Thread Cert.MixoDwIdeal.nD Cert.MixoDwIdeal.τ).loc Cert.MixoDwIdeal.main_arg0) = m ((c.tc : Thread Cert.MixoDwIdeal.nD Cert.MixoDwIdeal.τ).loc Cert.MixoDwIdeal.main_arg0)
          ∧ r.2.mem ((c.tc : Thread Cert.MixoDwIdeal.nD Cert.MixoDwIdeal.τ).loc Cert.MixoDwIdeal.main_arg1) = m ((c.tc : Thread Cert.MixoDwIdeal.nD Cert.MixoDwIdeal.τ).loc Cert.MixoDwIdeal.main_arg1))
      ∧ θ_run (Cert.MixoDwRefIdeal.defs (F := Ideal)) (onTc (τ := Cert.MixoDwRefIdeal.τ) (Cert.MixoDwRefIdeal.main (F := Ideal))) ⟨m', fun _ => 0, g'⟩ (fun r => ∀ c : Dev Cert.MixoDwRefIdeal.nD,
          r.2.mem ((c.tc : Thread Cert.MixoDwRefIdeal.nD Cert.MixoDwRefIdeal.τ).loc Cert.MixoDwRefIdeal.main_v4) = v0 c
          ∧ r.2.mem ((c.tc : Thread Cert.MixoDwRefIdeal.nD Cert.MixoDwRefIdeal.τ).loc Cert.MixoDwRefIdeal.main_arg0) = m' ((c.tc : Thread Cert.MixoDwRefIdeal.nD Cert.MixoDwRefIdeal.τ).loc Cert.MixoDwRefIdeal.main_arg0)
          ∧ r.2.mem ((c.tc : Thread Cert.MixoDwRefIdeal.nD Cert.MixoDwRefIdeal.τ).loc Cert.MixoDwRefIdeal.main_arg1) = m' ((c.tc : Thread Cert.MixoDwRefIdeal.nD Cert.MixoDwRefIdeal.τ).loc Cert.MixoDwRefIdeal.main_arg1))

def preserves_UqMm_UqMmIdeal : Prop :=
  True

def algebraic_UqMmIdeal_UqMmRefIdeal [hUqMmIdeal : Cert.UqMmIdeal.Facts] [hUqMmRefIdeal : Cert.UqMmRefIdeal.Facts] : Prop :=
  ∀ (m : (ℓ : Loc Cert.UqMmIdeal.nD Cert.UqMmIdeal.τ Cert.UqMmIdeal.sig) → Buf (Elt Ideal) ℓ) (g : Dev Cert.UqMmIdeal.nD → PrngReg)
    (m' : (ℓ : Loc Cert.UqMmRefIdeal.nD Cert.UqMmRefIdeal.τ Cert.UqMmRefIdeal.sig) → Buf (Elt Ideal) ℓ) (g' : Dev Cert.UqMmRefIdeal.nD → PrngReg), Pre_UqMmIdeal m →
    (∀ c : Dev Cert.UqMmIdeal.nD,
      m' ((c.tc : Thread Cert.UqMmRefIdeal.nD Cert.UqMmRefIdeal.τ).loc Cert.UqMmRefIdeal.main_arg0) = m ((c.tc : Thread Cert.UqMmIdeal.nD Cert.UqMmIdeal.τ).loc Cert.UqMmIdeal.main_arg0)
      ∧ m' ((c.tc : Thread Cert.UqMmRefIdeal.nD Cert.UqMmRefIdeal.τ).loc Cert.UqMmRefIdeal.main_arg1) = m ((c.tc : Thread Cert.UqMmIdeal.nD Cert.UqMmIdeal.τ).loc Cert.UqMmIdeal.main_arg1)) →
    ∃ (v0 : (c : Dev Cert.UqMmIdeal.nD) → Buf (Elt Ideal) ((c.tc : Thread Cert.UqMmIdeal.nD Cert.UqMmIdeal.τ).loc Cert.UqMmIdeal.main_v2)),
      θ_run (Cert.UqMmIdeal.defs (F := Ideal)) (onTc (τ := Cert.UqMmIdeal.τ) (Cert.UqMmIdeal.main (F := Ideal))) ⟨m, fun _ => 0, g⟩ (fun r => ∀ c : Dev Cert.UqMmIdeal.nD,
          r.2.mem ((c.tc : Thread Cert.UqMmIdeal.nD Cert.UqMmIdeal.τ).loc Cert.UqMmIdeal.main_v2) = v0 c
          ∧ r.2.mem ((c.tc : Thread Cert.UqMmIdeal.nD Cert.UqMmIdeal.τ).loc Cert.UqMmIdeal.main_arg0) = m ((c.tc : Thread Cert.UqMmIdeal.nD Cert.UqMmIdeal.τ).loc Cert.UqMmIdeal.main_arg0)
          ∧ r.2.mem ((c.tc : Thread Cert.UqMmIdeal.nD Cert.UqMmIdeal.τ).loc Cert.UqMmIdeal.main_arg1) = m ((c.tc : Thread Cert.UqMmIdeal.nD Cert.UqMmIdeal.τ).loc Cert.UqMmIdeal.main_arg1))
      ∧ θ_run (Cert.UqMmRefIdeal.defs (F := Ideal)) (onTc (τ := Cert.UqMmRefIdeal.τ) (Cert.UqMmRefIdeal.main (F := Ideal))) ⟨m', fun _ => 0, g'⟩ (fun r => ∀ c : Dev Cert.UqMmRefIdeal.nD,
          r.2.mem ((c.tc : Thread Cert.UqMmRefIdeal.nD Cert.UqMmRefIdeal.τ).loc Cert.UqMmRefIdeal.main_v0) = v0 c
          ∧ r.2.mem ((c.tc : Thread Cert.UqMmRefIdeal.nD Cert.UqMmRefIdeal.τ).loc Cert.UqMmRefIdeal.main_arg0) = m' ((c.tc : Thread Cert.UqMmRefIdeal.nD Cert.UqMmRefIdeal.τ).loc Cert.UqMmRefIdeal.main_arg0)
          ∧ r.2.mem ((c.tc : Thread Cert.UqMmRefIdeal.nD Cert.UqMmRefIdeal.τ).loc Cert.UqMmRefIdeal.main_arg1) = m' ((c.tc : Thread Cert.UqMmRefIdeal.nD Cert.UqMmRefIdeal.τ).loc Cert.UqMmRefIdeal.main_arg1))

def preserves_UqDh_UqDhIdeal : Prop :=
  True

def algebraic_UqDhIdeal_UqDhRefIdeal [hUqDhIdeal : Cert.UqDhIdeal.Facts] [hUqDhRefIdeal : Cert.UqDhRefIdeal.Facts] : Prop :=
  ∀ (m : (ℓ : Loc Cert.UqDhIdeal.nD Cert.UqDhIdeal.τ Cert.UqDhIdeal.sig) → Buf (Elt Ideal) ℓ) (g : Dev Cert.UqDhIdeal.nD → PrngReg)
    (m' : (ℓ : Loc Cert.UqDhRefIdeal.nD Cert.UqDhRefIdeal.τ Cert.UqDhRefIdeal.sig) → Buf (Elt Ideal) ℓ) (g' : Dev Cert.UqDhRefIdeal.nD → PrngReg), Pre_UqDhIdeal m →
    (∀ c : Dev Cert.UqDhIdeal.nD,
      m' ((c.tc : Thread Cert.UqDhRefIdeal.nD Cert.UqDhRefIdeal.τ).loc Cert.UqDhRefIdeal.main_arg0) = m ((c.tc : Thread Cert.UqDhIdeal.nD Cert.UqDhIdeal.τ).loc Cert.UqDhIdeal.main_arg0)
      ∧ m' ((c.tc : Thread Cert.UqDhRefIdeal.nD Cert.UqDhRefIdeal.τ).loc Cert.UqDhRefIdeal.main_arg1) = m ((c.tc : Thread Cert.UqDhIdeal.nD Cert.UqDhIdeal.τ).loc Cert.UqDhIdeal.main_arg1)) →
    ∃ (v0 : (c : Dev Cert.UqDhIdeal.nD) → Buf (Elt Ideal) ((c.tc : Thread Cert.UqDhIdeal.nD Cert.UqDhIdeal.τ).loc Cert.UqDhIdeal.main_v1)),
      θ_run (Cert.UqDhIdeal.defs (F := Ideal)) (onTc (τ := Cert.UqDhIdeal.τ) (Cert.UqDhIdeal.main (F := Ideal))) ⟨m, fun _ => 0, g⟩ (fun r => ∀ c : Dev Cert.UqDhIdeal.nD,
          r.2.mem ((c.tc : Thread Cert.UqDhIdeal.nD Cert.UqDhIdeal.τ).loc Cert.UqDhIdeal.main_v1) = v0 c
          ∧ r.2.mem ((c.tc : Thread Cert.UqDhIdeal.nD Cert.UqDhIdeal.τ).loc Cert.UqDhIdeal.main_arg0) = m ((c.tc : Thread Cert.UqDhIdeal.nD Cert.UqDhIdeal.τ).loc Cert.UqDhIdeal.main_arg0)
          ∧ r.2.mem ((c.tc : Thread Cert.UqDhIdeal.nD Cert.UqDhIdeal.τ).loc Cert.UqDhIdeal.main_arg1) = m ((c.tc : Thread Cert.UqDhIdeal.nD Cert.UqDhIdeal.τ).loc Cert.UqDhIdeal.main_arg1))
      ∧ θ_run (Cert.UqDhRefIdeal.defs (F := Ideal)) (onTc (τ := Cert.UqDhRefIdeal.τ) (Cert.UqDhRefIdeal.main (F := Ideal))) ⟨m', fun _ => 0, g'⟩ (fun r => ∀ c : Dev Cert.UqDhRefIdeal.nD,
          r.2.mem ((c.tc : Thread Cert.UqDhRefIdeal.nD Cert.UqDhRefIdeal.τ).loc Cert.UqDhRefIdeal.main_v2) = v0 c
          ∧ r.2.mem ((c.tc : Thread Cert.UqDhRefIdeal.nD Cert.UqDhRefIdeal.τ).loc Cert.UqDhRefIdeal.main_arg0) = m' ((c.tc : Thread Cert.UqDhRefIdeal.nD Cert.UqDhRefIdeal.τ).loc Cert.UqDhRefIdeal.main_arg0)
          ∧ r.2.mem ((c.tc : Thread Cert.UqDhRefIdeal.nD Cert.UqDhRefIdeal.τ).loc Cert.UqDhRefIdeal.main_arg1) = m' ((c.tc : Thread Cert.UqDhRefIdeal.nD Cert.UqDhRefIdeal.τ).loc Cert.UqDhRefIdeal.main_arg1))

def preserves_UqDw_UqDwIdeal : Prop :=
  True

def algebraic_UqDwIdeal_UqDwRefIdeal [hUqDwIdeal : Cert.UqDwIdeal.Facts] [hUqDwRefIdeal : Cert.UqDwRefIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwRefIdeal.nD Cert.UqDwRefIdeal.τ Cert.UqDwRefIdeal.sig) → Buf (Elt Ideal) ℓ) (g' : Dev Cert.UqDwRefIdeal.nD → PrngReg), Pre_UqDwIdeal m →
    (∀ c : Dev Cert.UqDwIdeal.nD,
      m' ((c.tc : Thread Cert.UqDwRefIdeal.nD Cert.UqDwRefIdeal.τ).loc Cert.UqDwRefIdeal.main_arg0) = m ((c.tc : Thread Cert.UqDwIdeal.nD Cert.UqDwIdeal.τ).loc Cert.UqDwIdeal.main_arg0)
      ∧ m' ((c.tc : Thread Cert.UqDwRefIdeal.nD Cert.UqDwRefIdeal.τ).loc Cert.UqDwRefIdeal.main_arg1) = m ((c.tc : Thread Cert.UqDwIdeal.nD Cert.UqDwIdeal.τ).loc Cert.UqDwIdeal.main_arg1)) →
    ∃ (v0 : (c : Dev Cert.UqDwIdeal.nD) → Buf (Elt Ideal) ((c.tc : Thread Cert.UqDwIdeal.nD Cert.UqDwIdeal.τ).loc Cert.UqDwIdeal.main_v1)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v1) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ θ_run (Cert.UqDwRefIdeal.defs (F := Ideal)) (onTc (τ := Cert.UqDwRefIdeal.τ) (Cert.UqDwRefIdeal.main (F := Ideal))) ⟨m', fun _ => 0, g'⟩ (fun r => ∀ c : Dev Cert.UqDwRefIdeal.nD,
          r.2.mem ((c.tc : Thread Cert.UqDwRefIdeal.nD Cert.UqDwRefIdeal.τ).loc Cert.UqDwRefIdeal.main_v4) = v0 c
          ∧ r.2.mem ((c.tc : Thread Cert.UqDwRefIdeal.nD Cert.UqDwRefIdeal.τ).loc Cert.UqDwRefIdeal.main_arg0) = m' ((c.tc : Thread Cert.UqDwRefIdeal.nD Cert.UqDwRefIdeal.τ).loc Cert.UqDwRefIdeal.main_arg0)
          ∧ r.2.mem ((c.tc : Thread Cert.UqDwRefIdeal.nD Cert.UqDwRefIdeal.τ).loc Cert.UqDwRefIdeal.main_arg1) = m' ((c.tc : Thread Cert.UqDwRefIdeal.nD Cert.UqDwRefIdeal.τ).loc Cert.UqDwRefIdeal.main_arg1))

def preserves_UkvMm_UkvMmIdeal : Prop :=
  True

def algebraic_UkvMmIdeal_UkvMmRefIdeal [hUkvMmIdeal : Cert.UkvMmIdeal.Facts] [hUkvMmRefIdeal : Cert.UkvMmRefIdeal.Facts] : Prop :=
  ∀ (m : (ℓ : Loc Cert.UkvMmIdeal.nD Cert.UkvMmIdeal.τ Cert.UkvMmIdeal.sig) → Buf (Elt Ideal) ℓ) (g : Dev Cert.UkvMmIdeal.nD → PrngReg)
    (m' : (ℓ : Loc Cert.UkvMmRefIdeal.nD Cert.UkvMmRefIdeal.τ Cert.UkvMmRefIdeal.sig) → Buf (Elt Ideal) ℓ) (g' : Dev Cert.UkvMmRefIdeal.nD → PrngReg), Pre_UkvMmIdeal m →
    (∀ c : Dev Cert.UkvMmIdeal.nD,
      m' ((c.tc : Thread Cert.UkvMmRefIdeal.nD Cert.UkvMmRefIdeal.τ).loc Cert.UkvMmRefIdeal.main_arg0) = m ((c.tc : Thread Cert.UkvMmIdeal.nD Cert.UkvMmIdeal.τ).loc Cert.UkvMmIdeal.main_arg0)
      ∧ m' ((c.tc : Thread Cert.UkvMmRefIdeal.nD Cert.UkvMmRefIdeal.τ).loc Cert.UkvMmRefIdeal.main_arg1) = m ((c.tc : Thread Cert.UkvMmIdeal.nD Cert.UkvMmIdeal.τ).loc Cert.UkvMmIdeal.main_arg1)) →
    ∃ (v0 : (c : Dev Cert.UkvMmIdeal.nD) → Buf (Elt Ideal) ((c.tc : Thread Cert.UkvMmIdeal.nD Cert.UkvMmIdeal.τ).loc Cert.UkvMmIdeal.main_v2)),
      θ_run (Cert.UkvMmIdeal.defs (F := Ideal)) (onTc (τ := Cert.UkvMmIdeal.τ) (Cert.UkvMmIdeal.main (F := Ideal))) ⟨m, fun _ => 0, g⟩ (fun r => ∀ c : Dev Cert.UkvMmIdeal.nD,
          r.2.mem ((c.tc : Thread Cert.UkvMmIdeal.nD Cert.UkvMmIdeal.τ).loc Cert.UkvMmIdeal.main_v2) = v0 c
          ∧ r.2.mem ((c.tc : Thread Cert.UkvMmIdeal.nD Cert.UkvMmIdeal.τ).loc Cert.UkvMmIdeal.main_arg0) = m ((c.tc : Thread Cert.UkvMmIdeal.nD Cert.UkvMmIdeal.τ).loc Cert.UkvMmIdeal.main_arg0)
          ∧ r.2.mem ((c.tc : Thread Cert.UkvMmIdeal.nD Cert.UkvMmIdeal.τ).loc Cert.UkvMmIdeal.main_arg1) = m ((c.tc : Thread Cert.UkvMmIdeal.nD Cert.UkvMmIdeal.τ).loc Cert.UkvMmIdeal.main_arg1))
      ∧ θ_run (Cert.UkvMmRefIdeal.defs (F := Ideal)) (onTc (τ := Cert.UkvMmRefIdeal.τ) (Cert.UkvMmRefIdeal.main (F := Ideal))) ⟨m', fun _ => 0, g'⟩ (fun r => ∀ c : Dev Cert.UkvMmRefIdeal.nD,
          r.2.mem ((c.tc : Thread Cert.UkvMmRefIdeal.nD Cert.UkvMmRefIdeal.τ).loc Cert.UkvMmRefIdeal.main_v0) = v0 c
          ∧ r.2.mem ((c.tc : Thread Cert.UkvMmRefIdeal.nD Cert.UkvMmRefIdeal.τ).loc Cert.UkvMmRefIdeal.main_arg0) = m' ((c.tc : Thread Cert.UkvMmRefIdeal.nD Cert.UkvMmRefIdeal.τ).loc Cert.UkvMmRefIdeal.main_arg0)
          ∧ r.2.mem ((c.tc : Thread Cert.UkvMmRefIdeal.nD Cert.UkvMmRefIdeal.τ).loc Cert.UkvMmRefIdeal.main_arg1) = m' ((c.tc : Thread Cert.UkvMmRefIdeal.nD Cert.UkvMmRefIdeal.τ).loc Cert.UkvMmRefIdeal.main_arg1))

def preserves_UkvDh_UkvDhIdeal : Prop :=
  True

def algebraic_UkvDhIdeal_UkvDhRefIdeal [hUkvDhIdeal : Cert.UkvDhIdeal.Facts] [hUkvDhRefIdeal : Cert.UkvDhRefIdeal.Facts] : Prop :=
  ∀ (m : (ℓ : Loc Cert.UkvDhIdeal.nD Cert.UkvDhIdeal.τ Cert.UkvDhIdeal.sig) → Buf (Elt Ideal) ℓ) (g : Dev Cert.UkvDhIdeal.nD → PrngReg)
    (m' : (ℓ : Loc Cert.UkvDhRefIdeal.nD Cert.UkvDhRefIdeal.τ Cert.UkvDhRefIdeal.sig) → Buf (Elt Ideal) ℓ) (g' : Dev Cert.UkvDhRefIdeal.nD → PrngReg), Pre_UkvDhIdeal m →
    (∀ c : Dev Cert.UkvDhIdeal.nD,
      m' ((c.tc : Thread Cert.UkvDhRefIdeal.nD Cert.UkvDhRefIdeal.τ).loc Cert.UkvDhRefIdeal.main_arg0) = m ((c.tc : Thread Cert.UkvDhIdeal.nD Cert.UkvDhIdeal.τ).loc Cert.UkvDhIdeal.main_arg0)
      ∧ m' ((c.tc : Thread Cert.UkvDhRefIdeal.nD Cert.UkvDhRefIdeal.τ).loc Cert.UkvDhRefIdeal.main_arg1) = m ((c.tc : Thread Cert.UkvDhIdeal.nD Cert.UkvDhIdeal.τ).loc Cert.UkvDhIdeal.main_arg1)) →
    ∃ (v0 : (c : Dev Cert.UkvDhIdeal.nD) → Buf (Elt Ideal) ((c.tc : Thread Cert.UkvDhIdeal.nD Cert.UkvDhIdeal.τ).loc Cert.UkvDhIdeal.main_v1)),
      θ_run (Cert.UkvDhIdeal.defs (F := Ideal)) (onTc (τ := Cert.UkvDhIdeal.τ) (Cert.UkvDhIdeal.main (F := Ideal))) ⟨m, fun _ => 0, g⟩ (fun r => ∀ c : Dev Cert.UkvDhIdeal.nD,
          r.2.mem ((c.tc : Thread Cert.UkvDhIdeal.nD Cert.UkvDhIdeal.τ).loc Cert.UkvDhIdeal.main_v1) = v0 c
          ∧ r.2.mem ((c.tc : Thread Cert.UkvDhIdeal.nD Cert.UkvDhIdeal.τ).loc Cert.UkvDhIdeal.main_arg0) = m ((c.tc : Thread Cert.UkvDhIdeal.nD Cert.UkvDhIdeal.τ).loc Cert.UkvDhIdeal.main_arg0)
          ∧ r.2.mem ((c.tc : Thread Cert.UkvDhIdeal.nD Cert.UkvDhIdeal.τ).loc Cert.UkvDhIdeal.main_arg1) = m ((c.tc : Thread Cert.UkvDhIdeal.nD Cert.UkvDhIdeal.τ).loc Cert.UkvDhIdeal.main_arg1))
      ∧ θ_run (Cert.UkvDhRefIdeal.defs (F := Ideal)) (onTc (τ := Cert.UkvDhRefIdeal.τ) (Cert.UkvDhRefIdeal.main (F := Ideal))) ⟨m', fun _ => 0, g'⟩ (fun r => ∀ c : Dev Cert.UkvDhRefIdeal.nD,
          r.2.mem ((c.tc : Thread Cert.UkvDhRefIdeal.nD Cert.UkvDhRefIdeal.τ).loc Cert.UkvDhRefIdeal.main_v2) = v0 c
          ∧ r.2.mem ((c.tc : Thread Cert.UkvDhRefIdeal.nD Cert.UkvDhRefIdeal.τ).loc Cert.UkvDhRefIdeal.main_arg0) = m' ((c.tc : Thread Cert.UkvDhRefIdeal.nD Cert.UkvDhRefIdeal.τ).loc Cert.UkvDhRefIdeal.main_arg0)
          ∧ r.2.mem ((c.tc : Thread Cert.UkvDhRefIdeal.nD Cert.UkvDhRefIdeal.τ).loc Cert.UkvDhRefIdeal.main_arg1) = m' ((c.tc : Thread Cert.UkvDhRefIdeal.nD Cert.UkvDhRefIdeal.τ).loc Cert.UkvDhRefIdeal.main_arg1))

def preserves_UkvDw_UkvDwIdeal : Prop :=
  True

def algebraic_UkvDwIdeal_UkvDwRefIdeal [hUkvDwIdeal : Cert.UkvDwIdeal.Facts] [hUkvDwRefIdeal : Cert.UkvDwRefIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwRefIdeal.nD Cert.UkvDwRefIdeal.τ Cert.UkvDwRefIdeal.sig) → Buf (Elt Ideal) ℓ) (g' : Dev Cert.UkvDwRefIdeal.nD → PrngReg), Pre_UkvDwIdeal m →
    (∀ c : Dev Cert.UkvDwIdeal.nD,
      m' ((c.tc : Thread Cert.UkvDwRefIdeal.nD Cert.UkvDwRefIdeal.τ).loc Cert.UkvDwRefIdeal.main_arg0) = m ((c.tc : Thread Cert.UkvDwIdeal.nD Cert.UkvDwIdeal.τ).loc Cert.UkvDwIdeal.main_arg0)
      ∧ m' ((c.tc : Thread Cert.UkvDwRefIdeal.nD Cert.UkvDwRefIdeal.τ).loc Cert.UkvDwRefIdeal.main_arg1) = m ((c.tc : Thread Cert.UkvDwIdeal.nD Cert.UkvDwIdeal.τ).loc Cert.UkvDwIdeal.main_arg1)) →
    ∃ (v0 : (c : Dev Cert.UkvDwIdeal.nD) → Buf (Elt Ideal) ((c.tc : Thread Cert.UkvDwIdeal.nD Cert.UkvDwIdeal.τ).loc Cert.UkvDwIdeal.main_v1)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v1) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ θ_run (Cert.UkvDwRefIdeal.defs (F := Ideal)) (onTc (τ := Cert.UkvDwRefIdeal.τ) (Cert.UkvDwRefIdeal.main (F := Ideal))) ⟨m', fun _ => 0, g'⟩ (fun r => ∀ c : Dev Cert.UkvDwRefIdeal.nD,
          r.2.mem ((c.tc : Thread Cert.UkvDwRefIdeal.nD Cert.UkvDwRefIdeal.τ).loc Cert.UkvDwRefIdeal.main_v4) = v0 c
          ∧ r.2.mem ((c.tc : Thread Cert.UkvDwRefIdeal.nD Cert.UkvDwRefIdeal.τ).loc Cert.UkvDwRefIdeal.main_arg0) = m' ((c.tc : Thread Cert.UkvDwRefIdeal.nD Cert.UkvDwRefIdeal.τ).loc Cert.UkvDwRefIdeal.main_arg0)
          ∧ r.2.mem ((c.tc : Thread Cert.UkvDwRefIdeal.nD Cert.UkvDwRefIdeal.τ).loc Cert.UkvDwRefIdeal.main_arg1) = m' ((c.tc : Thread Cert.UkvDwRefIdeal.nD Cert.UkvDwRefIdeal.τ).loc Cert.UkvDwRefIdeal.main_arg1))

def preserves_CtxIn_CtxInIdeal : Prop :=
  True

def algebraic_CtxInIdeal_CtxInRefIdeal_pre_finite_ctx_in [hCtxInIdeal : Cert.CtxInIdeal.Facts] [hCtxInRefIdeal : Cert.CtxInRefIdeal.Facts] [hPre_finite_ctx_in : Cert.Pre_finite_ctx_in.Facts] : Prop :=
  ∀ (m : (ℓ : Loc Cert.CtxInIdeal.nD Cert.CtxInIdeal.τ Cert.CtxInIdeal.sig) → Buf (Elt Ideal) ℓ) (g : Dev Cert.CtxInIdeal.nD → PrngReg)
    (m' : (ℓ : Loc Cert.CtxInRefIdeal.nD Cert.CtxInRefIdeal.τ Cert.CtxInRefIdeal.sig) → Buf (Elt Ideal) ℓ) (g' : Dev Cert.CtxInRefIdeal.nD → PrngReg), Pre_CtxInIdeal_finite_ctx_in m →
    (∀ c : Dev Cert.CtxInIdeal.nD,
      m' ((c.tc : Thread Cert.CtxInRefIdeal.nD Cert.CtxInRefIdeal.τ).loc Cert.CtxInRefIdeal.main_arg0) = m ((c.tc : Thread Cert.CtxInIdeal.nD Cert.CtxInIdeal.τ).loc Cert.CtxInIdeal.main_arg0)
      ∧ m' ((c.tc : Thread Cert.CtxInRefIdeal.nD Cert.CtxInRefIdeal.τ).loc Cert.CtxInRefIdeal.main_arg1) = m ((c.tc : Thread Cert.CtxInIdeal.nD Cert.CtxInIdeal.τ).loc Cert.CtxInIdeal.main_arg1)) →
    ∃ (v0 : (c : Dev Cert.CtxInIdeal.nD) → Buf (Elt Ideal) ((c.tc : Thread Cert.CtxInIdeal.nD Cert.CtxInIdeal.τ).loc Cert.CtxInIdeal.main_v4_0)) (v1 : (c : Dev Cert.CtxInIdeal.nD) → Buf (Elt Ideal) ((c.tc : Thread Cert.CtxInIdeal.nD Cert.CtxInIdeal.τ).loc Cert.CtxInIdeal.main_v4_1)),
      θ_run (Cert.CtxInIdeal.defs (F := Ideal)) (onTc (τ := Cert.CtxInIdeal.τ) (Cert.CtxInIdeal.main (F := Ideal))) ⟨m, fun _ => 0, g⟩ (fun r => ∀ c : Dev Cert.CtxInIdeal.nD,
          r.2.mem ((c.tc : Thread Cert.CtxInIdeal.nD Cert.CtxInIdeal.τ).loc Cert.CtxInIdeal.main_v4_0) = v0 c
          ∧ r.2.mem ((c.tc : Thread Cert.CtxInIdeal.nD Cert.CtxInIdeal.τ).loc Cert.CtxInIdeal.main_v4_1) = v1 c
          ∧ r.2.mem ((c.tc : Thread Cert.CtxInIdeal.nD Cert.CtxInIdeal.τ).loc Cert.CtxInIdeal.main_arg0) = m ((c.tc : Thread Cert.CtxInIdeal.nD Cert.CtxInIdeal.τ).loc Cert.CtxInIdeal.main_arg0)
          ∧ r.2.mem ((c.tc : Thread Cert.CtxInIdeal.nD Cert.CtxInIdeal.τ).loc Cert.CtxInIdeal.main_arg1) = m ((c.tc : Thread Cert.CtxInIdeal.nD Cert.CtxInIdeal.τ).loc Cert.CtxInIdeal.main_arg1))
      ∧ θ_run (Cert.CtxInRefIdeal.defs (F := Ideal)) (onTc (τ := Cert.CtxInRefIdeal.τ) (Cert.CtxInRefIdeal.main (F := Ideal))) ⟨m', fun _ => 0, g'⟩ (fun r => ∀ c : Dev Cert.CtxInRefIdeal.nD,
          r.2.mem ((c.tc : Thread Cert.CtxInRefIdeal.nD Cert.CtxInRefIdeal.τ).loc Cert.CtxInRefIdeal.main_v13) = v0 c
          ∧ r.2.mem ((c.tc : Thread Cert.CtxInRefIdeal.nD Cert.CtxInRefIdeal.τ).loc Cert.CtxInRefIdeal.main_v17) = v1 c
          ∧ r.2.mem ((c.tc : Thread Cert.CtxInRefIdeal.nD Cert.CtxInRefIdeal.τ).loc Cert.CtxInRefIdeal.main_arg0) = m' ((c.tc : Thread Cert.CtxInRefIdeal.nD Cert.CtxInRefIdeal.τ).loc Cert.CtxInRefIdeal.main_arg0)
          ∧ r.2.mem ((c.tc : Thread Cert.CtxInRefIdeal.nD Cert.CtxInRefIdeal.τ).loc Cert.CtxInRefIdeal.main_arg1) = m' ((c.tc : Thread Cert.CtxInRefIdeal.nD Cert.CtxInRefIdeal.τ).loc Cert.CtxInRefIdeal.main_arg1))

def preserves_CtxOut_CtxOutIdeal : Prop :=
  True

def algebraic_CtxOutIdeal_CtxOutRefIdeal [hCtxOutIdeal : Cert.CtxOutIdeal.Facts] [hCtxOutRefIdeal : Cert.CtxOutRefIdeal.Facts] : Prop :=
  ∀ (m : (ℓ : Loc Cert.CtxOutIdeal.nD Cert.CtxOutIdeal.τ Cert.CtxOutIdeal.sig) → Buf (Elt Ideal) ℓ) (g : Dev Cert.CtxOutIdeal.nD → PrngReg)
    (m' : (ℓ : Loc Cert.CtxOutRefIdeal.nD Cert.CtxOutRefIdeal.τ Cert.CtxOutRefIdeal.sig) → Buf (Elt Ideal) ℓ) (g' : Dev Cert.CtxOutRefIdeal.nD → PrngReg), Pre_CtxOutIdeal m →
    (∀ c : Dev Cert.CtxOutIdeal.nD,
      m' ((c.tc : Thread Cert.CtxOutRefIdeal.nD Cert.CtxOutRefIdeal.τ).loc Cert.CtxOutRefIdeal.main_arg0) = m ((c.tc : Thread Cert.CtxOutIdeal.nD Cert.CtxOutIdeal.τ).loc Cert.CtxOutIdeal.main_arg0)
      ∧ m' ((c.tc : Thread Cert.CtxOutRefIdeal.nD Cert.CtxOutRefIdeal.τ).loc Cert.CtxOutRefIdeal.main_arg1) = m ((c.tc : Thread Cert.CtxOutIdeal.nD Cert.CtxOutIdeal.τ).loc Cert.CtxOutIdeal.main_arg1)
      ∧ m' ((c.tc : Thread Cert.CtxOutRefIdeal.nD Cert.CtxOutRefIdeal.τ).loc Cert.CtxOutRefIdeal.main_arg2) = m ((c.tc : Thread Cert.CtxOutIdeal.nD Cert.CtxOutIdeal.τ).loc Cert.CtxOutIdeal.main_arg2)
      ∧ m' ((c.tc : Thread Cert.CtxOutRefIdeal.nD Cert.CtxOutRefIdeal.τ).loc Cert.CtxOutRefIdeal.main_arg3) = m ((c.tc : Thread Cert.CtxOutIdeal.nD Cert.CtxOutIdeal.τ).loc Cert.CtxOutIdeal.main_arg3)) →
    ∃ (v0 : (c : Dev Cert.CtxOutIdeal.nD) → Buf (Elt Ideal) ((c.tc : Thread Cert.CtxOutIdeal.nD Cert.CtxOutIdeal.τ).loc Cert.CtxOutIdeal.main_v2_0)) (v1 : (c : Dev Cert.CtxOutIdeal.nD) → Buf (Elt Ideal) ((c.tc : Thread Cert.CtxOutIdeal.nD Cert.CtxOutIdeal.τ).loc Cert.CtxOutIdeal.main_v2_1)),
      θ_run (Cert.CtxOutIdeal.defs (F := Ideal)) (onTc (τ := Cert.CtxOutIdeal.τ) (Cert.CtxOutIdeal.main (F := Ideal))) ⟨m, fun _ => 0, g⟩ (fun r => ∀ c : Dev Cert.CtxOutIdeal.nD,
          r.2.mem ((c.tc : Thread Cert.CtxOutIdeal.nD Cert.CtxOutIdeal.τ).loc Cert.CtxOutIdeal.main_v2_0) = v0 c
          ∧ r.2.mem ((c.tc : Thread Cert.CtxOutIdeal.nD Cert.CtxOutIdeal.τ).loc Cert.CtxOutIdeal.main_v2_1) = v1 c
          ∧ r.2.mem ((c.tc : Thread Cert.CtxOutIdeal.nD Cert.CtxOutIdeal.τ).loc Cert.CtxOutIdeal.main_arg0) = m ((c.tc : Thread Cert.CtxOutIdeal.nD Cert.CtxOutIdeal.τ).loc Cert.CtxOutIdeal.main_arg0)
          ∧ r.2.mem ((c.tc : Thread Cert.CtxOutIdeal.nD Cert.CtxOutIdeal.τ).loc Cert.CtxOutIdeal.main_arg1) = m ((c.tc : Thread Cert.CtxOutIdeal.nD Cert.CtxOutIdeal.τ).loc Cert.CtxOutIdeal.main_arg1)
          ∧ r.2.mem ((c.tc : Thread Cert.CtxOutIdeal.nD Cert.CtxOutIdeal.τ).loc Cert.CtxOutIdeal.main_arg2) = m ((c.tc : Thread Cert.CtxOutIdeal.nD Cert.CtxOutIdeal.τ).loc Cert.CtxOutIdeal.main_arg2)
          ∧ r.2.mem ((c.tc : Thread Cert.CtxOutIdeal.nD Cert.CtxOutIdeal.τ).loc Cert.CtxOutIdeal.main_arg3) = m ((c.tc : Thread Cert.CtxOutIdeal.nD Cert.CtxOutIdeal.τ).loc Cert.CtxOutIdeal.main_arg3))
      ∧ θ_run (Cert.CtxOutRefIdeal.defs (F := Ideal)) (onTc (τ := Cert.CtxOutRefIdeal.τ) (Cert.CtxOutRefIdeal.main (F := Ideal))) ⟨m', fun _ => 0, g'⟩ (fun r => ∀ c : Dev Cert.CtxOutRefIdeal.nD,
          r.2.mem ((c.tc : Thread Cert.CtxOutRefIdeal.nD Cert.CtxOutRefIdeal.τ).loc Cert.CtxOutRefIdeal.main_v5) = v0 c
          ∧ r.2.mem ((c.tc : Thread Cert.CtxOutRefIdeal.nD Cert.CtxOutRefIdeal.τ).loc Cert.CtxOutRefIdeal.main_v6) = v1 c
          ∧ r.2.mem ((c.tc : Thread Cert.CtxOutRefIdeal.nD Cert.CtxOutRefIdeal.τ).loc Cert.CtxOutRefIdeal.main_arg0) = m' ((c.tc : Thread Cert.CtxOutRefIdeal.nD Cert.CtxOutRefIdeal.τ).loc Cert.CtxOutRefIdeal.main_arg0)
          ∧ r.2.mem ((c.tc : Thread Cert.CtxOutRefIdeal.nD Cert.CtxOutRefIdeal.τ).loc Cert.CtxOutRefIdeal.main_arg1) = m' ((c.tc : Thread Cert.CtxOutRefIdeal.nD Cert.CtxOutRefIdeal.τ).loc Cert.CtxOutRefIdeal.main_arg1)
          ∧ r.2.mem ((c.tc : Thread Cert.CtxOutRefIdeal.nD Cert.CtxOutRefIdeal.τ).loc Cert.CtxOutRefIdeal.main_arg2) = m' ((c.tc : Thread Cert.CtxOutRefIdeal.nD Cert.CtxOutRefIdeal.τ).loc Cert.CtxOutRefIdeal.main_arg2)
          ∧ r.2.mem ((c.tc : Thread Cert.CtxOutRefIdeal.nD Cert.CtxOutRefIdeal.τ).loc Cert.CtxOutRefIdeal.main_arg3) = m' ((c.tc : Thread Cert.CtxOutRefIdeal.nD Cert.CtxOutRefIdeal.τ).loc Cert.CtxOutRefIdeal.main_arg3))

def preserves_CtxDa_CtxDaIdeal : Prop :=
  True

def algebraic_CtxDaIdeal_CtxDaRefIdeal_pre_finite_ctx_da [hCtxDaIdeal : Cert.CtxDaIdeal.Facts] [hCtxDaRefIdeal : Cert.CtxDaRefIdeal.Facts] [hPre_finite_ctx_da : Cert.Pre_finite_ctx_da.Facts] : Prop :=
  ∀ (m : (ℓ : Loc Cert.CtxDaIdeal.nD Cert.CtxDaIdeal.τ Cert.CtxDaIdeal.sig) → Buf (Elt Ideal) ℓ) (g : Dev Cert.CtxDaIdeal.nD → PrngReg)
    (m' : (ℓ : Loc Cert.CtxDaRefIdeal.nD Cert.CtxDaRefIdeal.τ Cert.CtxDaRefIdeal.sig) → Buf (Elt Ideal) ℓ) (g' : Dev Cert.CtxDaRefIdeal.nD → PrngReg), Pre_CtxDaIdeal_finite_ctx_da m →
    (∀ c : Dev Cert.CtxDaIdeal.nD,
      m' ((c.tc : Thread Cert.CtxDaRefIdeal.nD Cert.CtxDaRefIdeal.τ).loc Cert.CtxDaRefIdeal.main_arg0) = m ((c.tc : Thread Cert.CtxDaIdeal.nD Cert.CtxDaIdeal.τ).loc Cert.CtxDaIdeal.main_arg0)
      ∧ m' ((c.tc : Thread Cert.CtxDaRefIdeal.nD Cert.CtxDaRefIdeal.τ).loc Cert.CtxDaRefIdeal.main_arg1) = m ((c.tc : Thread Cert.CtxDaIdeal.nD Cert.CtxDaIdeal.τ).loc Cert.CtxDaIdeal.main_arg1)
      ∧ m' ((c.tc : Thread Cert.CtxDaRefIdeal.nD Cert.CtxDaRefIdeal.τ).loc Cert.CtxDaRefIdeal.main_arg2) = m ((c.tc : Thread Cert.CtxDaIdeal.nD Cert.CtxDaIdeal.τ).loc Cert.CtxDaIdeal.main_arg2)) →
    ∃ (v0 : (c : Dev Cert.CtxDaIdeal.nD) → Buf (Elt Ideal) ((c.tc : Thread Cert.CtxDaIdeal.nD Cert.CtxDaIdeal.τ).loc Cert.CtxDaIdeal.main_v14)),
      θ_run (Cert.CtxDaIdeal.defs (F := Ideal)) (onTc (τ := Cert.CtxDaIdeal.τ) (Cert.CtxDaIdeal.main (F := Ideal))) ⟨m, fun _ => 0, g⟩ (fun r => ∀ c : Dev Cert.CtxDaIdeal.nD,
          r.2.mem ((c.tc : Thread Cert.CtxDaIdeal.nD Cert.CtxDaIdeal.τ).loc Cert.CtxDaIdeal.main_v14) = v0 c
          ∧ r.2.mem ((c.tc : Thread Cert.CtxDaIdeal.nD Cert.CtxDaIdeal.τ).loc Cert.CtxDaIdeal.main_arg0) = m ((c.tc : Thread Cert.CtxDaIdeal.nD Cert.CtxDaIdeal.τ).loc Cert.CtxDaIdeal.main_arg0)
          ∧ r.2.mem ((c.tc : Thread Cert.CtxDaIdeal.nD Cert.CtxDaIdeal.τ).loc Cert.CtxDaIdeal.main_arg1) = m ((c.tc : Thread Cert.CtxDaIdeal.nD Cert.CtxDaIdeal.τ).loc Cert.CtxDaIdeal.main_arg1)
          ∧ r.2.mem ((c.tc : Thread Cert.CtxDaIdeal.nD Cert.CtxDaIdeal.τ).loc Cert.CtxDaIdeal.main_arg2) = m ((c.tc : Thread Cert.CtxDaIdeal.nD Cert.CtxDaIdeal.τ).loc Cert.CtxDaIdeal.main_arg2))
      ∧ θ_run (Cert.CtxDaRefIdeal.defs (F := Ideal)) (onTc (τ := Cert.CtxDaRefIdeal.τ) (Cert.CtxDaRefIdeal.main (F := Ideal))) ⟨m', fun _ => 0, g'⟩ (fun r => ∀ c : Dev Cert.CtxDaRefIdeal.nD,
          r.2.mem ((c.tc : Thread Cert.CtxDaRefIdeal.nD Cert.CtxDaRefIdeal.τ).loc Cert.CtxDaRefIdeal.main_v12) = v0 c
          ∧ r.2.mem ((c.tc : Thread Cert.CtxDaRefIdeal.nD Cert.CtxDaRefIdeal.τ).loc Cert.CtxDaRefIdeal.main_arg0) = m' ((c.tc : Thread Cert.CtxDaRefIdeal.nD Cert.CtxDaRefIdeal.τ).loc Cert.CtxDaRefIdeal.main_arg0)
          ∧ r.2.mem ((c.tc : Thread Cert.CtxDaRefIdeal.nD Cert.CtxDaRefIdeal.τ).loc Cert.CtxDaRefIdeal.main_arg1) = m' ((c.tc : Thread Cert.CtxDaRefIdeal.nD Cert.CtxDaRefIdeal.τ).loc Cert.CtxDaRefIdeal.main_arg1)
          ∧ r.2.mem ((c.tc : Thread Cert.CtxDaRefIdeal.nD Cert.CtxDaRefIdeal.τ).loc Cert.CtxDaRefIdeal.main_arg2) = m' ((c.tc : Thread Cert.CtxDaRefIdeal.nD Cert.CtxDaRefIdeal.τ).loc Cert.CtxDaRefIdeal.main_arg2))

def preserves_CtxDwout_CtxDwoutIdeal : Prop :=
  True

def algebraic_CtxDwoutIdeal_CtxDwoutRefIdeal [hCtxDwoutIdeal : Cert.CtxDwoutIdeal.Facts] [hCtxDwoutRefIdeal : Cert.CtxDwoutRefIdeal.Facts] : Prop :=
  ∀ (m : (ℓ : Loc Cert.CtxDwoutIdeal.nD Cert.CtxDwoutIdeal.τ Cert.CtxDwoutIdeal.sig) → Buf (Elt Ideal) ℓ) (g : Dev Cert.CtxDwoutIdeal.nD → PrngReg)
    (m' : (ℓ : Loc Cert.CtxDwoutRefIdeal.nD Cert.CtxDwoutRefIdeal.τ Cert.CtxDwoutRefIdeal.sig) → Buf (Elt Ideal) ℓ) (g' : Dev Cert.CtxDwoutRefIdeal.nD → PrngReg), Pre_CtxDwoutIdeal m →
    (∀ c : Dev Cert.CtxDwoutIdeal.nD,
      m' ((c.tc : Thread Cert.CtxDwoutRefIdeal.nD Cert.CtxDwoutRefIdeal.τ).loc Cert.CtxDwoutRefIdeal.main_arg0) = m ((c.tc : Thread Cert.CtxDwoutIdeal.nD Cert.CtxDwoutIdeal.τ).loc Cert.CtxDwoutIdeal.main_arg0)
      ∧ m' ((c.tc : Thread Cert.CtxDwoutRefIdeal.nD Cert.CtxDwoutRefIdeal.τ).loc Cert.CtxDwoutRefIdeal.main_arg1) = m ((c.tc : Thread Cert.CtxDwoutIdeal.nD Cert.CtxDwoutIdeal.τ).loc Cert.CtxDwoutIdeal.main_arg1)) →
    ∃ (v0 : (c : Dev Cert.CtxDwoutIdeal.nD) → Buf (Elt Ideal) ((c.tc : Thread Cert.CtxDwoutIdeal.nD Cert.CtxDwoutIdeal.τ).loc Cert.CtxDwoutIdeal.main_v6)),
      θ_run (Cert.CtxDwoutIdeal.defs (F := Ideal)) (onTc (τ := Cert.CtxDwoutIdeal.τ) (Cert.CtxDwoutIdeal.main (F := Ideal))) ⟨m, fun _ => 0, g⟩ (fun r => ∀ c : Dev Cert.CtxDwoutIdeal.nD,
          r.2.mem ((c.tc : Thread Cert.CtxDwoutIdeal.nD Cert.CtxDwoutIdeal.τ).loc Cert.CtxDwoutIdeal.main_v6) = v0 c
          ∧ r.2.mem ((c.tc : Thread Cert.CtxDwoutIdeal.nD Cert.CtxDwoutIdeal.τ).loc Cert.CtxDwoutIdeal.main_arg0) = m ((c.tc : Thread Cert.CtxDwoutIdeal.nD Cert.CtxDwoutIdeal.τ).loc Cert.CtxDwoutIdeal.main_arg0)
          ∧ r.2.mem ((c.tc : Thread Cert.CtxDwoutIdeal.nD Cert.CtxDwoutIdeal.τ).loc Cert.CtxDwoutIdeal.main_arg1) = m ((c.tc : Thread Cert.CtxDwoutIdeal.nD Cert.CtxDwoutIdeal.τ).loc Cert.CtxDwoutIdeal.main_arg1))
      ∧ θ_run (Cert.CtxDwoutRefIdeal.defs (F := Ideal)) (onTc (τ := Cert.CtxDwoutRefIdeal.τ) (Cert.CtxDwoutRefIdeal.main (F := Ideal))) ⟨m', fun _ => 0, g'⟩ (fun r => ∀ c : Dev Cert.CtxDwoutRefIdeal.nD,
          r.2.mem ((c.tc : Thread Cert.CtxDwoutRefIdeal.nD Cert.CtxDwoutRefIdeal.τ).loc Cert.CtxDwoutRefIdeal.main_v8) = v0 c
          ∧ r.2.mem ((c.tc : Thread Cert.CtxDwoutRefIdeal.nD Cert.CtxDwoutRefIdeal.τ).loc Cert.CtxDwoutRefIdeal.main_arg0) = m' ((c.tc : Thread Cert.CtxDwoutRefIdeal.nD Cert.CtxDwoutRefIdeal.τ).loc Cert.CtxDwoutRefIdeal.main_arg0)
          ∧ r.2.mem ((c.tc : Thread Cert.CtxDwoutRefIdeal.nD Cert.CtxDwoutRefIdeal.τ).loc Cert.CtxDwoutRefIdeal.main_arg1) = m' ((c.tc : Thread Cert.CtxDwoutRefIdeal.nD Cert.CtxDwoutRefIdeal.τ).loc Cert.CtxDwoutRefIdeal.main_arg1))

def preserves_CtxDh_CtxDhIdeal : Prop :=
  True

def algebraic_CtxDhIdeal_CtxDhRefIdeal [hCtxDhIdeal : Cert.CtxDhIdeal.Facts] [hCtxDhRefIdeal : Cert.CtxDhRefIdeal.Facts] : Prop :=
  ∀ (m : (ℓ : Loc Cert.CtxDhIdeal.nD Cert.CtxDhIdeal.τ Cert.CtxDhIdeal.sig) → Buf (Elt Ideal) ℓ) (g : Dev Cert.CtxDhIdeal.nD → PrngReg)
    (m' : (ℓ : Loc Cert.CtxDhRefIdeal.nD Cert.CtxDhRefIdeal.τ Cert.CtxDhRefIdeal.sig) → Buf (Elt Ideal) ℓ) (g' : Dev Cert.CtxDhRefIdeal.nD → PrngReg), Pre_CtxDhIdeal m →
    (∀ c : Dev Cert.CtxDhIdeal.nD,
      m' ((c.tc : Thread Cert.CtxDhRefIdeal.nD Cert.CtxDhRefIdeal.τ).loc Cert.CtxDhRefIdeal.main_arg0) = m ((c.tc : Thread Cert.CtxDhIdeal.nD Cert.CtxDhIdeal.τ).loc Cert.CtxDhIdeal.main_arg0)
      ∧ m' ((c.tc : Thread Cert.CtxDhRefIdeal.nD Cert.CtxDhRefIdeal.τ).loc Cert.CtxDhRefIdeal.main_arg1) = m ((c.tc : Thread Cert.CtxDhIdeal.nD Cert.CtxDhIdeal.τ).loc Cert.CtxDhIdeal.main_arg1)) →
    ∃ (v0 : (c : Dev Cert.CtxDhIdeal.nD) → Buf (Elt Ideal) ((c.tc : Thread Cert.CtxDhIdeal.nD Cert.CtxDhIdeal.τ).loc Cert.CtxDhIdeal.main_v6)),
      θ_run (Cert.CtxDhIdeal.defs (F := Ideal)) (onTc (τ := Cert.CtxDhIdeal.τ) (Cert.CtxDhIdeal.main (F := Ideal))) ⟨m, fun _ => 0, g⟩ (fun r => ∀ c : Dev Cert.CtxDhIdeal.nD,
          r.2.mem ((c.tc : Thread Cert.CtxDhIdeal.nD Cert.CtxDhIdeal.τ).loc Cert.CtxDhIdeal.main_v6) = v0 c
          ∧ r.2.mem ((c.tc : Thread Cert.CtxDhIdeal.nD Cert.CtxDhIdeal.τ).loc Cert.CtxDhIdeal.main_arg0) = m ((c.tc : Thread Cert.CtxDhIdeal.nD Cert.CtxDhIdeal.τ).loc Cert.CtxDhIdeal.main_arg0)
          ∧ r.2.mem ((c.tc : Thread Cert.CtxDhIdeal.nD Cert.CtxDhIdeal.τ).loc Cert.CtxDhIdeal.main_arg1) = m ((c.tc : Thread Cert.CtxDhIdeal.nD Cert.CtxDhIdeal.τ).loc Cert.CtxDhIdeal.main_arg1))
      ∧ θ_run (Cert.CtxDhRefIdeal.defs (F := Ideal)) (onTc (τ := Cert.CtxDhRefIdeal.τ) (Cert.CtxDhRefIdeal.main (F := Ideal))) ⟨m', fun _ => 0, g'⟩ (fun r => ∀ c : Dev Cert.CtxDhRefIdeal.nD,
          r.2.mem ((c.tc : Thread Cert.CtxDhRefIdeal.nD Cert.CtxDhRefIdeal.τ).loc Cert.CtxDhRefIdeal.main_v2) = v0 c
          ∧ r.2.mem ((c.tc : Thread Cert.CtxDhRefIdeal.nD Cert.CtxDhRefIdeal.τ).loc Cert.CtxDhRefIdeal.main_arg0) = m' ((c.tc : Thread Cert.CtxDhRefIdeal.nD Cert.CtxDhRefIdeal.τ).loc Cert.CtxDhRefIdeal.main_arg0)
          ∧ r.2.mem ((c.tc : Thread Cert.CtxDhRefIdeal.nD Cert.CtxDhRefIdeal.τ).loc Cert.CtxDhRefIdeal.main_arg1) = m' ((c.tc : Thread Cert.CtxDhRefIdeal.nD Cert.CtxDhRefIdeal.τ).loc Cert.CtxDhRefIdeal.main_arg1))

def preserves_CtxDwin_CtxDwinIdeal : Prop :=
  True

def algebraic_CtxDwinIdeal_CtxDwinRefIdeal [hCtxDwinIdeal : Cert.CtxDwinIdeal.Facts] [hCtxDwinRefIdeal : Cert.CtxDwinRefIdeal.Facts] : Prop :=
  ∀ (m : (ℓ : Loc Cert.CtxDwinIdeal.nD Cert.CtxDwinIdeal.τ Cert.CtxDwinIdeal.sig) → Buf (Elt Ideal) ℓ) (g : Dev Cert.CtxDwinIdeal.nD → PrngReg)
    (m' : (ℓ : Loc Cert.CtxDwinRefIdeal.nD Cert.CtxDwinRefIdeal.τ Cert.CtxDwinRefIdeal.sig) → Buf (Elt Ideal) ℓ) (g' : Dev Cert.CtxDwinRefIdeal.nD → PrngReg), Pre_CtxDwinIdeal m →
    (∀ c : Dev Cert.CtxDwinIdeal.nD,
      m' ((c.tc : Thread Cert.CtxDwinRefIdeal.nD Cert.CtxDwinRefIdeal.τ).loc Cert.CtxDwinRefIdeal.main_arg0) = m ((c.tc : Thread Cert.CtxDwinIdeal.nD Cert.CtxDwinIdeal.τ).loc Cert.CtxDwinIdeal.main_arg0)
      ∧ m' ((c.tc : Thread Cert.CtxDwinRefIdeal.nD Cert.CtxDwinRefIdeal.τ).loc Cert.CtxDwinRefIdeal.main_arg1) = m ((c.tc : Thread Cert.CtxDwinIdeal.nD Cert.CtxDwinIdeal.τ).loc Cert.CtxDwinIdeal.main_arg1)) →
    ∃ (v0 : (c : Dev Cert.CtxDwinIdeal.nD) → Buf (Elt Ideal) ((c.tc : Thread Cert.CtxDwinIdeal.nD Cert.CtxDwinIdeal.τ).loc Cert.CtxDwinIdeal.main_v4)),
      θ_run (Cert.CtxDwinIdeal.defs (F := Ideal)) (onTc (τ := Cert.CtxDwinIdeal.τ) (Cert.CtxDwinIdeal.main (F := Ideal))) ⟨m, fun _ => 0, g⟩ (fun r => ∀ c : Dev Cert.CtxDwinIdeal.nD,
          r.2.mem ((c.tc : Thread Cert.CtxDwinIdeal.nD Cert.CtxDwinIdeal.τ).loc Cert.CtxDwinIdeal.main_v4) = v0 c
          ∧ r.2.mem ((c.tc : Thread Cert.CtxDwinIdeal.nD Cert.CtxDwinIdeal.τ).loc Cert.CtxDwinIdeal.main_arg0) = m ((c.tc : Thread Cert.CtxDwinIdeal.nD Cert.CtxDwinIdeal.τ).loc Cert.CtxDwinIdeal.main_arg0)
          ∧ r.2.mem ((c.tc : Thread Cert.CtxDwinIdeal.nD Cert.CtxDwinIdeal.τ).loc Cert.CtxDwinIdeal.main_arg1) = m ((c.tc : Thread Cert.CtxDwinIdeal.nD Cert.CtxDwinIdeal.τ).loc Cert.CtxDwinIdeal.main_arg1))
      ∧ θ_run (Cert.CtxDwinRefIdeal.defs (F := Ideal)) (onTc (τ := Cert.CtxDwinRefIdeal.τ) (Cert.CtxDwinRefIdeal.main (F := Ideal))) ⟨m', fun _ => 0, g'⟩ (fun r => ∀ c : Dev Cert.CtxDwinRefIdeal.nD,
          r.2.mem ((c.tc : Thread Cert.CtxDwinRefIdeal.nD Cert.CtxDwinRefIdeal.τ).loc Cert.CtxDwinRefIdeal.main_v6) = v0 c
          ∧ r.2.mem ((c.tc : Thread Cert.CtxDwinRefIdeal.nD Cert.CtxDwinRefIdeal.τ).loc Cert.CtxDwinRefIdeal.main_arg0) = m' ((c.tc : Thread Cert.CtxDwinRefIdeal.nD Cert.CtxDwinRefIdeal.τ).loc Cert.CtxDwinRefIdeal.main_arg0)
          ∧ r.2.mem ((c.tc : Thread Cert.CtxDwinRefIdeal.nD Cert.CtxDwinRefIdeal.τ).loc Cert.CtxDwinRefIdeal.main_arg1) = m' ((c.tc : Thread Cert.CtxDwinRefIdeal.nD Cert.CtxDwinRefIdeal.τ).loc Cert.CtxDwinRefIdeal.main_arg1))

def preserves_MixcMm_MixcMmIdeal : Prop :=
  True

def algebraic_MixcMmIdeal_MixcMmRefIdeal [hMixcMmIdeal : Cert.MixcMmIdeal.Facts] [hMixcMmRefIdeal : Cert.MixcMmRefIdeal.Facts] : Prop :=
  ∀ (m : (ℓ : Loc Cert.MixcMmIdeal.nD Cert.MixcMmIdeal.τ Cert.MixcMmIdeal.sig) → Buf (Elt Ideal) ℓ) (g : Dev Cert.MixcMmIdeal.nD → PrngReg)
    (m' : (ℓ : Loc Cert.MixcMmRefIdeal.nD Cert.MixcMmRefIdeal.τ Cert.MixcMmRefIdeal.sig) → Buf (Elt Ideal) ℓ) (g' : Dev Cert.MixcMmRefIdeal.nD → PrngReg), Pre_MixcMmIdeal m →
    (∀ c : Dev Cert.MixcMmIdeal.nD,
      m' ((c.tc : Thread Cert.MixcMmRefIdeal.nD Cert.MixcMmRefIdeal.τ).loc Cert.MixcMmRefIdeal.main_arg0) = m ((c.tc : Thread Cert.MixcMmIdeal.nD Cert.MixcMmIdeal.τ).loc Cert.MixcMmIdeal.main_arg0)
      ∧ m' ((c.tc : Thread Cert.MixcMmRefIdeal.nD Cert.MixcMmRefIdeal.τ).loc Cert.MixcMmRefIdeal.main_arg1) = m ((c.tc : Thread Cert.MixcMmIdeal.nD Cert.MixcMmIdeal.τ).loc Cert.MixcMmIdeal.main_arg1)) →
    ∃ (v0 : (c : Dev Cert.MixcMmIdeal.nD) → Buf (Elt Ideal) ((c.tc : Thread Cert.MixcMmIdeal.nD Cert.MixcMmIdeal.τ).loc Cert.MixcMmIdeal.main_v2)),
      θ_run (Cert.MixcMmIdeal.defs (F := Ideal)) (onTc (τ := Cert.MixcMmIdeal.τ) (Cert.MixcMmIdeal.main (F := Ideal))) ⟨m, fun _ => 0, g⟩ (fun r => ∀ c : Dev Cert.MixcMmIdeal.nD,
          r.2.mem ((c.tc : Thread Cert.MixcMmIdeal.nD Cert.MixcMmIdeal.τ).loc Cert.MixcMmIdeal.main_v2) = v0 c
          ∧ r.2.mem ((c.tc : Thread Cert.MixcMmIdeal.nD Cert.MixcMmIdeal.τ).loc Cert.MixcMmIdeal.main_arg0) = m ((c.tc : Thread Cert.MixcMmIdeal.nD Cert.MixcMmIdeal.τ).loc Cert.MixcMmIdeal.main_arg0)
          ∧ r.2.mem ((c.tc : Thread Cert.MixcMmIdeal.nD Cert.MixcMmIdeal.τ).loc Cert.MixcMmIdeal.main_arg1) = m ((c.tc : Thread Cert.MixcMmIdeal.nD Cert.MixcMmIdeal.τ).loc Cert.MixcMmIdeal.main_arg1))
      ∧ θ_run (Cert.MixcMmRefIdeal.defs (F := Ideal)) (onTc (τ := Cert.MixcMmRefIdeal.τ) (Cert.MixcMmRefIdeal.main (F := Ideal))) ⟨m', fun _ => 0, g'⟩ (fun r => ∀ c : Dev Cert.MixcMmRefIdeal.nD,
          r.2.mem ((c.tc : Thread Cert.MixcMmRefIdeal.nD Cert.MixcMmRefIdeal.τ).loc Cert.MixcMmRefIdeal.main_v0) = v0 c
          ∧ r.2.mem ((c.tc : Thread Cert.MixcMmRefIdeal.nD Cert.MixcMmRefIdeal.τ).loc Cert.MixcMmRefIdeal.main_arg0) = m' ((c.tc : Thread Cert.MixcMmRefIdeal.nD Cert.MixcMmRefIdeal.τ).loc Cert.MixcMmRefIdeal.main_arg0)
          ∧ r.2.mem ((c.tc : Thread Cert.MixcMmRefIdeal.nD Cert.MixcMmRefIdeal.τ).loc Cert.MixcMmRefIdeal.main_arg1) = m' ((c.tc : Thread Cert.MixcMmRefIdeal.nD Cert.MixcMmRefIdeal.τ).loc Cert.MixcMmRefIdeal.main_arg1))

def preserves_MixcDh_MixcDhIdeal : Prop :=
  True

def algebraic_MixcDhIdeal_MixcDhRefIdeal [hMixcDhIdeal : Cert.MixcDhIdeal.Facts] [hMixcDhRefIdeal : Cert.MixcDhRefIdeal.Facts] : Prop :=
  ∀ (m : (ℓ : Loc Cert.MixcDhIdeal.nD Cert.MixcDhIdeal.τ Cert.MixcDhIdeal.sig) → Buf (Elt Ideal) ℓ) (g : Dev Cert.MixcDhIdeal.nD → PrngReg)
    (m' : (ℓ : Loc Cert.MixcDhRefIdeal.nD Cert.MixcDhRefIdeal.τ Cert.MixcDhRefIdeal.sig) → Buf (Elt Ideal) ℓ) (g' : Dev Cert.MixcDhRefIdeal.nD → PrngReg), Pre_MixcDhIdeal m →
    (∀ c : Dev Cert.MixcDhIdeal.nD,
      m' ((c.tc : Thread Cert.MixcDhRefIdeal.nD Cert.MixcDhRefIdeal.τ).loc Cert.MixcDhRefIdeal.main_arg0) = m ((c.tc : Thread Cert.MixcDhIdeal.nD Cert.MixcDhIdeal.τ).loc Cert.MixcDhIdeal.main_arg0)
      ∧ m' ((c.tc : Thread Cert.MixcDhRefIdeal.nD Cert.MixcDhRefIdeal.τ).loc Cert.MixcDhRefIdeal.main_arg1) = m ((c.tc : Thread Cert.MixcDhIdeal.nD Cert.MixcDhIdeal.τ).loc Cert.MixcDhIdeal.main_arg1)) →
    ∃ (v0 : (c : Dev Cert.MixcDhIdeal.nD) → Buf (Elt Ideal) ((c.tc : Thread Cert.MixcDhIdeal.nD Cert.MixcDhIdeal.τ).loc Cert.MixcDhIdeal.main_v1)),
      θ_run (Cert.MixcDhIdeal.defs (F := Ideal)) (onTc (τ := Cert.MixcDhIdeal.τ) (Cert.MixcDhIdeal.main (F := Ideal))) ⟨m, fun _ => 0, g⟩ (fun r => ∀ c : Dev Cert.MixcDhIdeal.nD,
          r.2.mem ((c.tc : Thread Cert.MixcDhIdeal.nD Cert.MixcDhIdeal.τ).loc Cert.MixcDhIdeal.main_v1) = v0 c
          ∧ r.2.mem ((c.tc : Thread Cert.MixcDhIdeal.nD Cert.MixcDhIdeal.τ).loc Cert.MixcDhIdeal.main_arg0) = m ((c.tc : Thread Cert.MixcDhIdeal.nD Cert.MixcDhIdeal.τ).loc Cert.MixcDhIdeal.main_arg0)
          ∧ r.2.mem ((c.tc : Thread Cert.MixcDhIdeal.nD Cert.MixcDhIdeal.τ).loc Cert.MixcDhIdeal.main_arg1) = m ((c.tc : Thread Cert.MixcDhIdeal.nD Cert.MixcDhIdeal.τ).loc Cert.MixcDhIdeal.main_arg1))
      ∧ θ_run (Cert.MixcDhRefIdeal.defs (F := Ideal)) (onTc (τ := Cert.MixcDhRefIdeal.τ) (Cert.MixcDhRefIdeal.main (F := Ideal))) ⟨m', fun _ => 0, g'⟩ (fun r => ∀ c : Dev Cert.MixcDhRefIdeal.nD,
          r.2.mem ((c.tc : Thread Cert.MixcDhRefIdeal.nD Cert.MixcDhRefIdeal.τ).loc Cert.MixcDhRefIdeal.main_v2) = v0 c
          ∧ r.2.mem ((c.tc : Thread Cert.MixcDhRefIdeal.nD Cert.MixcDhRefIdeal.τ).loc Cert.MixcDhRefIdeal.main_arg0) = m' ((c.tc : Thread Cert.MixcDhRefIdeal.nD Cert.MixcDhRefIdeal.τ).loc Cert.MixcDhRefIdeal.main_arg0)
          ∧ r.2.mem ((c.tc : Thread Cert.MixcDhRefIdeal.nD Cert.MixcDhRefIdeal.τ).loc Cert.MixcDhRefIdeal.main_arg1) = m' ((c.tc : Thread Cert.MixcDhRefIdeal.nD Cert.MixcDhRefIdeal.τ).loc Cert.MixcDhRefIdeal.main_arg1))

def preserves_MixcDw_MixcDwIdeal : Prop :=
  True

def algebraic_MixcDwIdeal_MixcDwRefIdeal [hMixcDwIdeal : Cert.MixcDwIdeal.Facts] [hMixcDwRefIdeal : Cert.MixcDwRefIdeal.Facts] : Prop :=
  ∀ (m : (ℓ : Loc Cert.MixcDwIdeal.nD Cert.MixcDwIdeal.τ Cert.MixcDwIdeal.sig) → Buf (Elt Ideal) ℓ) (g : Dev Cert.MixcDwIdeal.nD → PrngReg)
    (m' : (ℓ : Loc Cert.MixcDwRefIdeal.nD Cert.MixcDwRefIdeal.τ Cert.MixcDwRefIdeal.sig) → Buf (Elt Ideal) ℓ) (g' : Dev Cert.MixcDwRefIdeal.nD → PrngReg), Pre_MixcDwIdeal m →
    (∀ c : Dev Cert.MixcDwIdeal.nD,
      m' ((c.tc : Thread Cert.MixcDwRefIdeal.nD Cert.MixcDwRefIdeal.τ).loc Cert.MixcDwRefIdeal.main_arg0) = m ((c.tc : Thread Cert.MixcDwIdeal.nD Cert.MixcDwIdeal.τ).loc Cert.MixcDwIdeal.main_arg0)
      ∧ m' ((c.tc : Thread Cert.MixcDwRefIdeal.nD Cert.MixcDwRefIdeal.τ).loc Cert.MixcDwRefIdeal.main_arg1) = m ((c.tc : Thread Cert.MixcDwIdeal.nD Cert.MixcDwIdeal.τ).loc Cert.MixcDwIdeal.main_arg1)) →
    ∃ (v0 : (c : Dev Cert.MixcDwIdeal.nD) → Buf (Elt Ideal) ((c.tc : Thread Cert.MixcDwIdeal.nD Cert.MixcDwIdeal.τ).loc Cert.MixcDwIdeal.main_v1)),
      θ_run (Cert.MixcDwIdeal.defs (F := Ideal)) (onTc (τ := Cert.MixcDwIdeal.τ) (Cert.MixcDwIdeal.main (F := Ideal))) ⟨m, fun _ => 0, g⟩ (fun r => ∀ c : Dev Cert.MixcDwIdeal.nD,
          r.2.mem ((c.tc : Thread Cert.MixcDwIdeal.nD Cert.MixcDwIdeal.τ).loc Cert.MixcDwIdeal.main_v1) = v0 c
          ∧ r.2.mem ((c.tc : Thread Cert.MixcDwIdeal.nD Cert.MixcDwIdeal.τ).loc Cert.MixcDwIdeal.main_arg0) = m ((c.tc : Thread Cert.MixcDwIdeal.nD Cert.MixcDwIdeal.τ).loc Cert.MixcDwIdeal.main_arg0)
          ∧ r.2.mem ((c.tc : Thread Cert.MixcDwIdeal.nD Cert.MixcDwIdeal.τ).loc Cert.MixcDwIdeal.main_arg1) = m ((c.tc : Thread Cert.MixcDwIdeal.nD Cert.MixcDwIdeal.τ).loc Cert.MixcDwIdeal.main_arg1))
      ∧ θ_run (Cert.MixcDwRefIdeal.defs (F := Ideal)) (onTc (τ := Cert.MixcDwRefIdeal.τ) (Cert.MixcDwRefIdeal.main (F := Ideal))) ⟨m', fun _ => 0, g'⟩ (fun r => ∀ c : Dev Cert.MixcDwRefIdeal.nD,
          r.2.mem ((c.tc : Thread Cert.MixcDwRefIdeal.nD Cert.MixcDwRefIdeal.τ).loc Cert.MixcDwRefIdeal.main_v4) = v0 c
          ∧ r.2.mem ((c.tc : Thread Cert.MixcDwRefIdeal.nD Cert.MixcDwRefIdeal.τ).loc Cert.MixcDwRefIdeal.main_arg0) = m' ((c.tc : Thread Cert.MixcDwRefIdeal.nD Cert.MixcDwRefIdeal.τ).loc Cert.MixcDwRefIdeal.main_arg0)
          ∧ r.2.mem ((c.tc : Thread Cert.MixcDwRefIdeal.nD Cert.MixcDwRefIdeal.τ).loc Cert.MixcDwRefIdeal.main_arg1) = m' ((c.tc : Thread Cert.MixcDwRefIdeal.nD Cert.MixcDwRefIdeal.τ).loc Cert.MixcDwRefIdeal.main_arg1))

def preserves_UkvcMm_UkvcMmIdeal : Prop :=
  True

def algebraic_UkvcMmIdeal_UkvcMmRefIdeal [hUkvcMmIdeal : Cert.UkvcMmIdeal.Facts] [hUkvcMmRefIdeal : Cert.UkvcMmRefIdeal.Facts] : Prop :=
  ∀ (m : (ℓ : Loc Cert.UkvcMmIdeal.nD Cert.UkvcMmIdeal.τ Cert.UkvcMmIdeal.sig) → Buf (Elt Ideal) ℓ) (g : Dev Cert.UkvcMmIdeal.nD → PrngReg)
    (m' : (ℓ : Loc Cert.UkvcMmRefIdeal.nD Cert.UkvcMmRefIdeal.τ Cert.UkvcMmRefIdeal.sig) → Buf (Elt Ideal) ℓ) (g' : Dev Cert.UkvcMmRefIdeal.nD → PrngReg), Pre_UkvcMmIdeal m →
    (∀ c : Dev Cert.UkvcMmIdeal.nD,
      m' ((c.tc : Thread Cert.UkvcMmRefIdeal.nD Cert.UkvcMmRefIdeal.τ).loc Cert.UkvcMmRefIdeal.main_arg0) = m ((c.tc : Thread Cert.UkvcMmIdeal.nD Cert.UkvcMmIdeal.τ).loc Cert.UkvcMmIdeal.main_arg0)
      ∧ m' ((c.tc : Thread Cert.UkvcMmRefIdeal.nD Cert.UkvcMmRefIdeal.τ).loc Cert.UkvcMmRefIdeal.main_arg1) = m ((c.tc : Thread Cert.UkvcMmIdeal.nD Cert.UkvcMmIdeal.τ).loc Cert.UkvcMmIdeal.main_arg1)) →
    ∃ (v0 : (c : Dev Cert.UkvcMmIdeal.nD) → Buf (Elt Ideal) ((c.tc : Thread Cert.UkvcMmIdeal.nD Cert.UkvcMmIdeal.τ).loc Cert.UkvcMmIdeal.main_v2)),
      θ_run (Cert.UkvcMmIdeal.defs (F := Ideal)) (onTc (τ := Cert.UkvcMmIdeal.τ) (Cert.UkvcMmIdeal.main (F := Ideal))) ⟨m, fun _ => 0, g⟩ (fun r => ∀ c : Dev Cert.UkvcMmIdeal.nD,
          r.2.mem ((c.tc : Thread Cert.UkvcMmIdeal.nD Cert.UkvcMmIdeal.τ).loc Cert.UkvcMmIdeal.main_v2) = v0 c
          ∧ r.2.mem ((c.tc : Thread Cert.UkvcMmIdeal.nD Cert.UkvcMmIdeal.τ).loc Cert.UkvcMmIdeal.main_arg0) = m ((c.tc : Thread Cert.UkvcMmIdeal.nD Cert.UkvcMmIdeal.τ).loc Cert.UkvcMmIdeal.main_arg0)
          ∧ r.2.mem ((c.tc : Thread Cert.UkvcMmIdeal.nD Cert.UkvcMmIdeal.τ).loc Cert.UkvcMmIdeal.main_arg1) = m ((c.tc : Thread Cert.UkvcMmIdeal.nD Cert.UkvcMmIdeal.τ).loc Cert.UkvcMmIdeal.main_arg1))
      ∧ θ_run (Cert.UkvcMmRefIdeal.defs (F := Ideal)) (onTc (τ := Cert.UkvcMmRefIdeal.τ) (Cert.UkvcMmRefIdeal.main (F := Ideal))) ⟨m', fun _ => 0, g'⟩ (fun r => ∀ c : Dev Cert.UkvcMmRefIdeal.nD,
          r.2.mem ((c.tc : Thread Cert.UkvcMmRefIdeal.nD Cert.UkvcMmRefIdeal.τ).loc Cert.UkvcMmRefIdeal.main_v0) = v0 c
          ∧ r.2.mem ((c.tc : Thread Cert.UkvcMmRefIdeal.nD Cert.UkvcMmRefIdeal.τ).loc Cert.UkvcMmRefIdeal.main_arg0) = m' ((c.tc : Thread Cert.UkvcMmRefIdeal.nD Cert.UkvcMmRefIdeal.τ).loc Cert.UkvcMmRefIdeal.main_arg0)
          ∧ r.2.mem ((c.tc : Thread Cert.UkvcMmRefIdeal.nD Cert.UkvcMmRefIdeal.τ).loc Cert.UkvcMmRefIdeal.main_arg1) = m' ((c.tc : Thread Cert.UkvcMmRefIdeal.nD Cert.UkvcMmRefIdeal.τ).loc Cert.UkvcMmRefIdeal.main_arg1))

def preserves_UkvcDh_UkvcDhIdeal : Prop :=
  True

def algebraic_UkvcDhIdeal_UkvcDhRefIdeal [hUkvcDhIdeal : Cert.UkvcDhIdeal.Facts] [hUkvcDhRefIdeal : Cert.UkvcDhRefIdeal.Facts] : Prop :=
  ∀ (m : (ℓ : Loc Cert.UkvcDhIdeal.nD Cert.UkvcDhIdeal.τ Cert.UkvcDhIdeal.sig) → Buf (Elt Ideal) ℓ) (g : Dev Cert.UkvcDhIdeal.nD → PrngReg)
    (m' : (ℓ : Loc Cert.UkvcDhRefIdeal.nD Cert.UkvcDhRefIdeal.τ Cert.UkvcDhRefIdeal.sig) → Buf (Elt Ideal) ℓ) (g' : Dev Cert.UkvcDhRefIdeal.nD → PrngReg), Pre_UkvcDhIdeal m →
    (∀ c : Dev Cert.UkvcDhIdeal.nD,
      m' ((c.tc : Thread Cert.UkvcDhRefIdeal.nD Cert.UkvcDhRefIdeal.τ).loc Cert.UkvcDhRefIdeal.main_arg0) = m ((c.tc : Thread Cert.UkvcDhIdeal.nD Cert.UkvcDhIdeal.τ).loc Cert.UkvcDhIdeal.main_arg0)
      ∧ m' ((c.tc : Thread Cert.UkvcDhRefIdeal.nD Cert.UkvcDhRefIdeal.τ).loc Cert.UkvcDhRefIdeal.main_arg1) = m ((c.tc : Thread Cert.UkvcDhIdeal.nD Cert.UkvcDhIdeal.τ).loc Cert.UkvcDhIdeal.main_arg1)) →
    ∃ (v0 : (c : Dev Cert.UkvcDhIdeal.nD) → Buf (Elt Ideal) ((c.tc : Thread Cert.UkvcDhIdeal.nD Cert.UkvcDhIdeal.τ).loc Cert.UkvcDhIdeal.main_v1)),
      θ_run (Cert.UkvcDhIdeal.defs (F := Ideal)) (onTc (τ := Cert.UkvcDhIdeal.τ) (Cert.UkvcDhIdeal.main (F := Ideal))) ⟨m, fun _ => 0, g⟩ (fun r => ∀ c : Dev Cert.UkvcDhIdeal.nD,
          r.2.mem ((c.tc : Thread Cert.UkvcDhIdeal.nD Cert.UkvcDhIdeal.τ).loc Cert.UkvcDhIdeal.main_v1) = v0 c
          ∧ r.2.mem ((c.tc : Thread Cert.UkvcDhIdeal.nD Cert.UkvcDhIdeal.τ).loc Cert.UkvcDhIdeal.main_arg0) = m ((c.tc : Thread Cert.UkvcDhIdeal.nD Cert.UkvcDhIdeal.τ).loc Cert.UkvcDhIdeal.main_arg0)
          ∧ r.2.mem ((c.tc : Thread Cert.UkvcDhIdeal.nD Cert.UkvcDhIdeal.τ).loc Cert.UkvcDhIdeal.main_arg1) = m ((c.tc : Thread Cert.UkvcDhIdeal.nD Cert.UkvcDhIdeal.τ).loc Cert.UkvcDhIdeal.main_arg1))
      ∧ θ_run (Cert.UkvcDhRefIdeal.defs (F := Ideal)) (onTc (τ := Cert.UkvcDhRefIdeal.τ) (Cert.UkvcDhRefIdeal.main (F := Ideal))) ⟨m', fun _ => 0, g'⟩ (fun r => ∀ c : Dev Cert.UkvcDhRefIdeal.nD,
          r.2.mem ((c.tc : Thread Cert.UkvcDhRefIdeal.nD Cert.UkvcDhRefIdeal.τ).loc Cert.UkvcDhRefIdeal.main_v2) = v0 c
          ∧ r.2.mem ((c.tc : Thread Cert.UkvcDhRefIdeal.nD Cert.UkvcDhRefIdeal.τ).loc Cert.UkvcDhRefIdeal.main_arg0) = m' ((c.tc : Thread Cert.UkvcDhRefIdeal.nD Cert.UkvcDhRefIdeal.τ).loc Cert.UkvcDhRefIdeal.main_arg0)
          ∧ r.2.mem ((c.tc : Thread Cert.UkvcDhRefIdeal.nD Cert.UkvcDhRefIdeal.τ).loc Cert.UkvcDhRefIdeal.main_arg1) = m' ((c.tc : Thread Cert.UkvcDhRefIdeal.nD Cert.UkvcDhRefIdeal.τ).loc Cert.UkvcDhRefIdeal.main_arg1))

def preserves_UkvcDw_UkvcDwIdeal : Prop :=
  True

def algebraic_UkvcDwIdeal_UkvcDwRefIdeal [hUkvcDwIdeal : Cert.UkvcDwIdeal.Facts] [hUkvcDwRefIdeal : Cert.UkvcDwRefIdeal.Facts] : Prop :=
  ∀ (m : (ℓ : Loc Cert.UkvcDwIdeal.nD Cert.UkvcDwIdeal.τ Cert.UkvcDwIdeal.sig) → Buf (Elt Ideal) ℓ) (g : Dev Cert.UkvcDwIdeal.nD → PrngReg)
    (m' : (ℓ : Loc Cert.UkvcDwRefIdeal.nD Cert.UkvcDwRefIdeal.τ Cert.UkvcDwRefIdeal.sig) → Buf (Elt Ideal) ℓ) (g' : Dev Cert.UkvcDwRefIdeal.nD → PrngReg), Pre_UkvcDwIdeal m →
    (∀ c : Dev Cert.UkvcDwIdeal.nD,
      m' ((c.tc : Thread Cert.UkvcDwRefIdeal.nD Cert.UkvcDwRefIdeal.τ).loc Cert.UkvcDwRefIdeal.main_arg0) = m ((c.tc : Thread Cert.UkvcDwIdeal.nD Cert.UkvcDwIdeal.τ).loc Cert.UkvcDwIdeal.main_arg0)
      ∧ m' ((c.tc : Thread Cert.UkvcDwRefIdeal.nD Cert.UkvcDwRefIdeal.τ).loc Cert.UkvcDwRefIdeal.main_arg1) = m ((c.tc : Thread Cert.UkvcDwIdeal.nD Cert.UkvcDwIdeal.τ).loc Cert.UkvcDwIdeal.main_arg1)) →
    ∃ (v0 : (c : Dev Cert.UkvcDwIdeal.nD) → Buf (Elt Ideal) ((c.tc : Thread Cert.UkvcDwIdeal.nD Cert.UkvcDwIdeal.τ).loc Cert.UkvcDwIdeal.main_v1)),
      θ_run (Cert.UkvcDwIdeal.defs (F := Ideal)) (onTc (τ := Cert.UkvcDwIdeal.τ) (Cert.UkvcDwIdeal.main (F := Ideal))) ⟨m, fun _ => 0, g⟩ (fun r => ∀ c : Dev Cert.UkvcDwIdeal.nD,
          r.2.mem ((c.tc : Thread Cert.UkvcDwIdeal.nD Cert.UkvcDwIdeal.τ).loc Cert.UkvcDwIdeal.main_v1) = v0 c
          ∧ r.2.mem ((c.tc : Thread Cert.UkvcDwIdeal.nD Cert.UkvcDwIdeal.τ).loc Cert.UkvcDwIdeal.main_arg0) = m ((c.tc : Thread Cert.UkvcDwIdeal.nD Cert.UkvcDwIdeal.τ).loc Cert.UkvcDwIdeal.main_arg0)
          ∧ r.2.mem ((c.tc : Thread Cert.UkvcDwIdeal.nD Cert.UkvcDwIdeal.τ).loc Cert.UkvcDwIdeal.main_arg1) = m ((c.tc : Thread Cert.UkvcDwIdeal.nD Cert.UkvcDwIdeal.τ).loc Cert.UkvcDwIdeal.main_arg1))
      ∧ θ_run (Cert.UkvcDwRefIdeal.defs (F := Ideal)) (onTc (τ := Cert.UkvcDwRefIdeal.τ) (Cert.UkvcDwRefIdeal.main (F := Ideal))) ⟨m', fun _ => 0, g'⟩ (fun r => ∀ c : Dev Cert.UkvcDwRefIdeal.nD,
          r.2.mem ((c.tc : Thread Cert.UkvcDwRefIdeal.nD Cert.UkvcDwRefIdeal.τ).loc Cert.UkvcDwRefIdeal.main_v4) = v0 c
          ∧ r.2.mem ((c.tc : Thread Cert.UkvcDwRefIdeal.nD Cert.UkvcDwRefIdeal.τ).loc Cert.UkvcDwRefIdeal.main_arg0) = m' ((c.tc : Thread Cert.UkvcDwRefIdeal.nD Cert.UkvcDwRefIdeal.τ).loc Cert.UkvcDwRefIdeal.main_arg0)
          ∧ r.2.mem ((c.tc : Thread Cert.UkvcDwRefIdeal.nD Cert.UkvcDwRefIdeal.τ).loc Cert.UkvcDwRefIdeal.main_arg1) = m' ((c.tc : Thread Cert.UkvcDwRefIdeal.nD Cert.UkvcDwRefIdeal.τ).loc Cert.UkvcDwRefIdeal.main_arg1))

def preserves_AdaMm_AdaMmIdeal : Prop :=
  True

def algebraic_AdaMmIdeal_AdaMmRefIdeal [hAdaMmIdeal : Cert.AdaMmIdeal.Facts] [hAdaMmRefIdeal : Cert.AdaMmRefIdeal.Facts] : Prop :=
  ∀ (m : (ℓ : Loc Cert.AdaMmIdeal.nD Cert.AdaMmIdeal.τ Cert.AdaMmIdeal.sig) → Buf (Elt Ideal) ℓ) (g : Dev Cert.AdaMmIdeal.nD → PrngReg)
    (m' : (ℓ : Loc Cert.AdaMmRefIdeal.nD Cert.AdaMmRefIdeal.τ Cert.AdaMmRefIdeal.sig) → Buf (Elt Ideal) ℓ) (g' : Dev Cert.AdaMmRefIdeal.nD → PrngReg), Pre_AdaMmIdeal m →
    (∀ c : Dev Cert.AdaMmIdeal.nD,
      m' ((c.tc : Thread Cert.AdaMmRefIdeal.nD Cert.AdaMmRefIdeal.τ).loc Cert.AdaMmRefIdeal.main_arg0) = m ((c.tc : Thread Cert.AdaMmIdeal.nD Cert.AdaMmIdeal.τ).loc Cert.AdaMmIdeal.main_arg0)
      ∧ m' ((c.tc : Thread Cert.AdaMmRefIdeal.nD Cert.AdaMmRefIdeal.τ).loc Cert.AdaMmRefIdeal.main_arg1) = m ((c.tc : Thread Cert.AdaMmIdeal.nD Cert.AdaMmIdeal.τ).loc Cert.AdaMmIdeal.main_arg1)) →
    ∃ (v0 : (c : Dev Cert.AdaMmIdeal.nD) → Buf (Elt Ideal) ((c.tc : Thread Cert.AdaMmIdeal.nD Cert.AdaMmIdeal.τ).loc Cert.AdaMmIdeal.main_v0)),
      θ_run (Cert.AdaMmIdeal.defs (F := Ideal)) (onTc (τ := Cert.AdaMmIdeal.τ) (Cert.AdaMmIdeal.main (F := Ideal))) ⟨m, fun _ => 0, g⟩ (fun r => ∀ c : Dev Cert.AdaMmIdeal.nD,
          r.2.mem ((c.tc : Thread Cert.AdaMmIdeal.nD Cert.AdaMmIdeal.τ).loc Cert.AdaMmIdeal.main_v0) = v0 c
          ∧ r.2.mem ((c.tc : Thread Cert.AdaMmIdeal.nD Cert.AdaMmIdeal.τ).loc Cert.AdaMmIdeal.main_arg0) = m ((c.tc : Thread Cert.AdaMmIdeal.nD Cert.AdaMmIdeal.τ).loc Cert.AdaMmIdeal.main_arg0)
          ∧ r.2.mem ((c.tc : Thread Cert.AdaMmIdeal.nD Cert.AdaMmIdeal.τ).loc Cert.AdaMmIdeal.main_arg1) = m ((c.tc : Thread Cert.AdaMmIdeal.nD Cert.AdaMmIdeal.τ).loc Cert.AdaMmIdeal.main_arg1))
      ∧ θ_run (Cert.AdaMmRefIdeal.defs (F := Ideal)) (onTc (τ := Cert.AdaMmRefIdeal.τ) (Cert.AdaMmRefIdeal.main (F := Ideal))) ⟨m', fun _ => 0, g'⟩ (fun r => ∀ c : Dev Cert.AdaMmRefIdeal.nD,
          r.2.mem ((c.tc : Thread Cert.AdaMmRefIdeal.nD Cert.AdaMmRefIdeal.τ).loc Cert.AdaMmRefIdeal.main_v0) = v0 c
          ∧ r.2.mem ((c.tc : Thread Cert.AdaMmRefIdeal.nD Cert.AdaMmRefIdeal.τ).loc Cert.AdaMmRefIdeal.main_arg0) = m' ((c.tc : Thread Cert.AdaMmRefIdeal.nD Cert.AdaMmRefIdeal.τ).loc Cert.AdaMmRefIdeal.main_arg0)
          ∧ r.2.mem ((c.tc : Thread Cert.AdaMmRefIdeal.nD Cert.AdaMmRefIdeal.τ).loc Cert.AdaMmRefIdeal.main_arg1) = m' ((c.tc : Thread Cert.AdaMmRefIdeal.nD Cert.AdaMmRefIdeal.τ).loc Cert.AdaMmRefIdeal.main_arg1))

def preserves_AdaDa_AdaDaIdeal : Prop :=
  True

def algebraic_AdaDaIdeal_AdaDaRefIdeal [hAdaDaIdeal : Cert.AdaDaIdeal.Facts] [hAdaDaRefIdeal : Cert.AdaDaRefIdeal.Facts] : Prop :=
  ∀ (m : (ℓ : Loc Cert.AdaDaIdeal.nD Cert.AdaDaIdeal.τ Cert.AdaDaIdeal.sig) → Buf (Elt Ideal) ℓ) (g : Dev Cert.AdaDaIdeal.nD → PrngReg)
    (m' : (ℓ : Loc Cert.AdaDaRefIdeal.nD Cert.AdaDaRefIdeal.τ Cert.AdaDaRefIdeal.sig) → Buf (Elt Ideal) ℓ) (g' : Dev Cert.AdaDaRefIdeal.nD → PrngReg), Pre_AdaDaIdeal m →
    (∀ c : Dev Cert.AdaDaIdeal.nD,
      m' ((c.tc : Thread Cert.AdaDaRefIdeal.nD Cert.AdaDaRefIdeal.τ).loc Cert.AdaDaRefIdeal.main_arg0) = m ((c.tc : Thread Cert.AdaDaIdeal.nD Cert.AdaDaIdeal.τ).loc Cert.AdaDaIdeal.main_arg0)
      ∧ m' ((c.tc : Thread Cert.AdaDaRefIdeal.nD Cert.AdaDaRefIdeal.τ).loc Cert.AdaDaRefIdeal.main_arg1) = m ((c.tc : Thread Cert.AdaDaIdeal.nD Cert.AdaDaIdeal.τ).loc Cert.AdaDaIdeal.main_arg1)) →
    ∃ (v0 : (c : Dev Cert.AdaDaIdeal.nD) → Buf (Elt Ideal) ((c.tc : Thread Cert.AdaDaIdeal.nD Cert.AdaDaIdeal.τ).loc Cert.AdaDaIdeal.main_v0)),
      θ_run (Cert.AdaDaIdeal.defs (F := Ideal)) (onTc (τ := Cert.AdaDaIdeal.τ) (Cert.AdaDaIdeal.main (F := Ideal))) ⟨m, fun _ => 0, g⟩ (fun r => ∀ c : Dev Cert.AdaDaIdeal.nD,
          r.2.mem ((c.tc : Thread Cert.AdaDaIdeal.nD Cert.AdaDaIdeal.τ).loc Cert.AdaDaIdeal.main_v0) = v0 c
          ∧ r.2.mem ((c.tc : Thread Cert.AdaDaIdeal.nD Cert.AdaDaIdeal.τ).loc Cert.AdaDaIdeal.main_arg0) = m ((c.tc : Thread Cert.AdaDaIdeal.nD Cert.AdaDaIdeal.τ).loc Cert.AdaDaIdeal.main_arg0)
          ∧ r.2.mem ((c.tc : Thread Cert.AdaDaIdeal.nD Cert.AdaDaIdeal.τ).loc Cert.AdaDaIdeal.main_arg1) = m ((c.tc : Thread Cert.AdaDaIdeal.nD Cert.AdaDaIdeal.τ).loc Cert.AdaDaIdeal.main_arg1))
      ∧ θ_run (Cert.AdaDaRefIdeal.defs (F := Ideal)) (onTc (τ := Cert.AdaDaRefIdeal.τ) (Cert.AdaDaRefIdeal.main (F := Ideal))) ⟨m', fun _ => 0, g'⟩ (fun r => ∀ c : Dev Cert.AdaDaRefIdeal.nD,
          r.2.mem ((c.tc : Thread Cert.AdaDaRefIdeal.nD Cert.AdaDaRefIdeal.τ).loc Cert.AdaDaRefIdeal.main_v2) = v0 c
          ∧ r.2.mem ((c.tc : Thread Cert.AdaDaRefIdeal.nD Cert.AdaDaRefIdeal.τ).loc Cert.AdaDaRefIdeal.main_arg0) = m' ((c.tc : Thread Cert.AdaDaRefIdeal.nD Cert.AdaDaRefIdeal.τ).loc Cert.AdaDaRefIdeal.main_arg0)
          ∧ r.2.mem ((c.tc : Thread Cert.AdaDaRefIdeal.nD Cert.AdaDaRefIdeal.τ).loc Cert.AdaDaRefIdeal.main_arg1) = m' ((c.tc : Thread Cert.AdaDaRefIdeal.nD Cert.AdaDaRefIdeal.τ).loc Cert.AdaDaRefIdeal.main_arg1))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v3) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v18) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v1_0)) (v1 : (c : Dev Cert.GateIdeal.nD) → Buf (Elt Ideal) ((c.tc : Thread Cert.GateIdeal.nD Cert.GateIdeal.τ).loc Cert.GateIdeal.main_v1_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1_0) = v0 c
          ∧ r.2.mem ((c.tc : Thread Cert.GateIdeal.nD Cert.GateIdeal.τ).loc Cert.GateIdeal.main_v1_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v11) = v0 c
          ∧ r.2.mem ((c.tc : Thread Cert.GateRefIdeal.nD Cert.GateRefIdeal.τ).loc Cert.GateRefIdeal.main_v10) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_GateMix_GateMixIdeal : Prop :=
  True

def algebraic_GateMixIdeal_GateMixRefIdeal [hGateMixIdeal : Cert.GateMixIdeal.Facts] [hGateMixRefIdeal : Cert.GateMixRefIdeal.Facts] : Prop :=
  ∀ (m : (ℓ : Loc Cert.GateMixIdeal.nD Cert.GateMixIdeal.τ Cert.GateMixIdeal.sig) → Buf (Elt Ideal) ℓ) (g : Dev Cert.GateMixIdeal.nD → PrngReg)
    (m' : (ℓ : Loc Cert.GateMixRefIdeal.nD Cert.GateMixRefIdeal.τ Cert.GateMixRefIdeal.sig) → Buf (Elt Ideal) ℓ) (g' : Dev Cert.GateMixRefIdeal.nD → PrngReg), Pre_GateMixIdeal m →
    (∀ c : Dev Cert.GateMixIdeal.nD,
      m' ((c.tc : Thread Cert.GateMixRefIdeal.nD Cert.GateMixRefIdeal.τ).loc Cert.GateMixRefIdeal.main_arg0) = m ((c.tc : Thread Cert.GateMixIdeal.nD Cert.GateMixIdeal.τ).loc Cert.GateMixIdeal.main_arg0)
      ∧ m' ((c.tc : Thread Cert.GateMixRefIdeal.nD Cert.GateMixRefIdeal.τ).loc Cert.GateMixRefIdeal.main_arg1) = m ((c.tc : Thread Cert.GateMixIdeal.nD Cert.GateMixIdeal.τ).loc Cert.GateMixIdeal.main_arg1)
      ∧ m' ((c.tc : Thread Cert.GateMixRefIdeal.nD Cert.GateMixRefIdeal.τ).loc Cert.GateMixRefIdeal.main_arg2) = m ((c.tc : Thread Cert.GateMixIdeal.nD Cert.GateMixIdeal.τ).loc Cert.GateMixIdeal.main_arg2)) →
    ∃ (v0 : (c : Dev Cert.GateMixIdeal.nD) → Buf (Elt Ideal) ((c.tc : Thread Cert.GateMixIdeal.nD Cert.GateMixIdeal.τ).loc Cert.GateMixIdeal.main_v1_0)) (v1 : (c : Dev Cert.GateMixIdeal.nD) → Buf (Elt Ideal) ((c.tc : Thread Cert.GateMixIdeal.nD Cert.GateMixIdeal.τ).loc Cert.GateMixIdeal.main_v1_1)),
      θ_run (Cert.GateMixIdeal.defs (F := Ideal)) (onTc (τ := Cert.GateMixIdeal.τ) (Cert.GateMixIdeal.main (F := Ideal))) ⟨m, fun _ => 0, g⟩ (fun r => ∀ c : Dev Cert.GateMixIdeal.nD,
          r.2.mem ((c.tc : Thread Cert.GateMixIdeal.nD Cert.GateMixIdeal.τ).loc Cert.GateMixIdeal.main_v1_0) = v0 c
          ∧ r.2.mem ((c.tc : Thread Cert.GateMixIdeal.nD Cert.GateMixIdeal.τ).loc Cert.GateMixIdeal.main_v1_1) = v1 c
          ∧ r.2.mem ((c.tc : Thread Cert.GateMixIdeal.nD Cert.GateMixIdeal.τ).loc Cert.GateMixIdeal.main_arg0) = m ((c.tc : Thread Cert.GateMixIdeal.nD Cert.GateMixIdeal.τ).loc Cert.GateMixIdeal.main_arg0)
          ∧ r.2.mem ((c.tc : Thread Cert.GateMixIdeal.nD Cert.GateMixIdeal.τ).loc Cert.GateMixIdeal.main_arg1) = m ((c.tc : Thread Cert.GateMixIdeal.nD Cert.GateMixIdeal.τ).loc Cert.GateMixIdeal.main_arg1)
          ∧ r.2.mem ((c.tc : Thread Cert.GateMixIdeal.nD Cert.GateMixIdeal.τ).loc Cert.GateMixIdeal.main_arg2) = m ((c.tc : Thread Cert.GateMixIdeal.nD Cert.GateMixIdeal.τ).loc Cert.GateMixIdeal.main_arg2))
      ∧ θ_run (Cert.GateMixRefIdeal.defs (F := Ideal)) (onTc (τ := Cert.GateMixRefIdeal.τ) (Cert.GateMixRefIdeal.main (F := Ideal))) ⟨m', fun _ => 0, g'⟩ (fun r => ∀ c : Dev Cert.GateMixRefIdeal.nD,
          r.2.mem ((c.tc : Thread Cert.GateMixRefIdeal.nD Cert.GateMixRefIdeal.τ).loc Cert.GateMixRefIdeal.main_v7) = v0 c
          ∧ r.2.mem ((c.tc : Thread Cert.GateMixRefIdeal.nD Cert.GateMixRefIdeal.τ).loc Cert.GateMixRefIdeal.main_v6) = v1 c
          ∧ r.2.mem ((c.tc : Thread Cert.GateMixRefIdeal.nD Cert.GateMixRefIdeal.τ).loc Cert.GateMixRefIdeal.main_arg0) = m' ((c.tc : Thread Cert.GateMixRefIdeal.nD Cert.GateMixRefIdeal.τ).loc Cert.GateMixRefIdeal.main_arg0)
          ∧ r.2.mem ((c.tc : Thread Cert.GateMixRefIdeal.nD Cert.GateMixRefIdeal.τ).loc Cert.GateMixRefIdeal.main_arg1) = m' ((c.tc : Thread Cert.GateMixRefIdeal.nD Cert.GateMixRefIdeal.τ).loc Cert.GateMixRefIdeal.main_arg1)
          ∧ r.2.mem ((c.tc : Thread Cert.GateMixRefIdeal.nD Cert.GateMixRefIdeal.τ).loc Cert.GateMixRefIdeal.main_arg2) = m' ((c.tc : Thread Cert.GateMixRefIdeal.nD Cert.GateMixRefIdeal.τ).loc Cert.GateMixRefIdeal.main_arg2))

def preserves_Delta_DeltaIdeal : Prop :=
  True

def algebraic_DeltaIdeal_DeltaRefIdeal [hDeltaIdeal : Cert.DeltaIdeal.Facts] [hDeltaRefIdeal : Cert.DeltaRefIdeal.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)) →
    ∃ (v0 : (c : Dev Cert.DeltaIdeal.nD) → Buf (Elt Ideal) ((c.tc : Thread Cert.DeltaIdeal.nD Cert.DeltaIdeal.τ).loc Cert.DeltaIdeal.main_v2)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v2) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v4) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v48) = v0 c
          ∧ r.2.mem ((c.tc : Thread Cert.NormBwdRefIdeal.nD Cert.NormBwdRefIdeal.τ).loc Cert.NormBwdRefIdeal.main_v31) = v1 c
          ∧ r.2.mem ((c.tc : Thread Cert.NormBwdRefIdeal.nD Cert.NormBwdRefIdeal.τ).loc Cert.NormBwdRefIdeal.main_v26) = v2 c
          ∧ r.2.mem ((c.tc : Thread Cert.NormBwdRefIdeal.nD Cert.NormBwdRefIdeal.τ).loc Cert.NormBwdRefIdeal.main_v23) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_RetOut_RetOutIdeal : Prop :=
  True

def algebraic_RetOutIdeal_RetOutRefIdeal [hRetOutIdeal : Cert.RetOutIdeal.Facts] [hRetOutRefIdeal : Cert.RetOutRefIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutRefIdeal.nD Cert.RetOutRefIdeal.τ Cert.RetOutRefIdeal.sig) → Buf (Elt Ideal) ℓ) (g' : Dev Cert.RetOutRefIdeal.nD → PrngReg), Pre_RetOutIdeal m →
    (∀ c : Dev Cert.RetOutIdeal.nD,
      m' ((c.tc : Thread Cert.RetOutRefIdeal.nD Cert.RetOutRefIdeal.τ).loc Cert.RetOutRefIdeal.main_arg0) = m ((c.tc : Thread Cert.RetOutIdeal.nD Cert.RetOutIdeal.τ).loc Cert.RetOutIdeal.main_arg0)
      ∧ m' ((c.tc : Thread Cert.RetOutRefIdeal.nD Cert.RetOutRefIdeal.τ).loc Cert.RetOutRefIdeal.main_arg1) = m ((c.tc : Thread Cert.RetOutIdeal.nD Cert.RetOutIdeal.τ).loc Cert.RetOutIdeal.main_arg1)
      ∧ m' ((c.tc : Thread Cert.RetOutRefIdeal.nD Cert.RetOutRefIdeal.τ).loc Cert.RetOutRefIdeal.main_arg2) = m ((c.tc : Thread Cert.RetOutIdeal.nD Cert.RetOutIdeal.τ).loc Cert.RetOutIdeal.main_arg2)) →
    ∃ (v0 : (c : Dev Cert.RetOutIdeal.nD) → Buf (Elt Ideal) ((c.tc : Thread Cert.RetOutIdeal.nD Cert.RetOutIdeal.τ).loc Cert.RetOutIdeal.main_v0)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v0) = v0 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2))
      ∧ θ_run (Cert.RetOutRefIdeal.defs (F := Ideal)) (onTc (τ := Cert.RetOutRefIdeal.τ) (Cert.RetOutRefIdeal.main (F := Ideal))) ⟨m', fun _ => 0, g'⟩ (fun r => ∀ c : Dev Cert.RetOutRefIdeal.nD,
          r.2.mem ((c.tc : Thread Cert.RetOutRefIdeal.nD Cert.RetOutRefIdeal.τ).loc Cert.RetOutRefIdeal.main_v23) = v0 c
          ∧ r.2.mem ((c.tc : Thread Cert.RetOutRefIdeal.nD Cert.RetOutRefIdeal.τ).loc Cert.RetOutRefIdeal.main_arg0) = m' ((c.tc : Thread Cert.RetOutRefIdeal.nD Cert.RetOutRefIdeal.τ).loc Cert.RetOutRefIdeal.main_arg0)
          ∧ r.2.mem ((c.tc : Thread Cert.RetOutRefIdeal.nD Cert.RetOutRefIdeal.τ).loc Cert.RetOutRefIdeal.main_arg1) = m' ((c.tc : Thread Cert.RetOutRefIdeal.nD Cert.RetOutRefIdeal.τ).loc Cert.RetOutRefIdeal.main_arg1)
          ∧ r.2.mem ((c.tc : Thread Cert.RetOutRefIdeal.nD Cert.RetOutRefIdeal.τ).loc Cert.RetOutRefIdeal.main_arg2) = m' ((c.tc : Thread Cert.RetOutRefIdeal.nD Cert.RetOutRefIdeal.τ).loc Cert.RetOutRefIdeal.main_arg2))

def preserves_RetDout_RetDoutIdeal : Prop :=
  True

def algebraic_RetDoutIdeal_RetDoutRefIdeal [hRetDoutIdeal : Cert.RetDoutIdeal.Facts] [hRetDoutRefIdeal : Cert.RetDoutRefIdeal.Facts] : Prop :=
  ∀ (m : (ℓ : Loc Cert.RetDoutIdeal.nD Cert.RetDoutIdeal.τ Cert.RetDoutIdeal.sig) → Buf (Elt Ideal) ℓ) (g : Dev Cert.RetDoutIdeal.nD → PrngReg)
    (m' : (ℓ : Loc Cert.RetDoutRefIdeal.nD Cert.RetDoutRefIdeal.τ Cert.RetDoutRefIdeal.sig) → Buf (Elt Ideal) ℓ) (g' : Dev Cert.RetDoutRefIdeal.nD → PrngReg), Pre_RetDoutIdeal m →
    (∀ c : Dev Cert.RetDoutIdeal.nD,
      m' ((c.tc : Thread Cert.RetDoutRefIdeal.nD Cert.RetDoutRefIdeal.τ).loc Cert.RetDoutRefIdeal.main_arg0) = m ((c.tc : Thread Cert.RetDoutIdeal.nD Cert.RetDoutIdeal.τ).loc Cert.RetDoutIdeal.main_arg0)
      ∧ m' ((c.tc : Thread Cert.RetDoutRefIdeal.nD Cert.RetDoutRefIdeal.τ).loc Cert.RetDoutRefIdeal.main_arg1) = m ((c.tc : Thread Cert.RetDoutIdeal.nD Cert.RetDoutIdeal.τ).loc Cert.RetDoutIdeal.main_arg1)
      ∧ m' ((c.tc : Thread Cert.RetDoutRefIdeal.nD Cert.RetDoutRefIdeal.τ).loc Cert.RetDoutRefIdeal.main_arg2) = m ((c.tc : Thread Cert.RetDoutIdeal.nD Cert.RetDoutIdeal.τ).loc Cert.RetDoutIdeal.main_arg2)
      ∧ m' ((c.tc : Thread Cert.RetDoutRefIdeal.nD Cert.RetDoutRefIdeal.τ).loc Cert.RetDoutRefIdeal.main_arg3) = m ((c.tc : Thread Cert.RetDoutIdeal.nD Cert.RetDoutIdeal.τ).loc Cert.RetDoutIdeal.main_arg3)) →
    ∃ (v0 : (c : Dev Cert.RetDoutIdeal.nD) → Buf (Elt Ideal) ((c.tc : Thread Cert.RetDoutIdeal.nD Cert.RetDoutIdeal.τ).loc Cert.RetDoutIdeal.main_v1_0)) (v1 : (c : Dev Cert.RetDoutIdeal.nD) → Buf (Elt Ideal) ((c.tc : Thread Cert.RetDoutIdeal.nD Cert.RetDoutIdeal.τ).loc Cert.RetDoutIdeal.main_v1_1)),
      θ_run (Cert.RetDoutIdeal.defs (F := Ideal)) (onTc (τ := Cert.RetDoutIdeal.τ) (Cert.RetDoutIdeal.main (F := Ideal))) ⟨m, fun _ => 0, g⟩ (fun r => ∀ c : Dev Cert.RetDoutIdeal.nD,
          r.2.mem ((c.tc : Thread Cert.RetDoutIdeal.nD Cert.RetDoutIdeal.τ).loc Cert.RetDoutIdeal.main_v1_0) = v0 c
          ∧ r.2.mem ((c.tc : Thread Cert.RetDoutIdeal.nD Cert.RetDoutIdeal.τ).loc Cert.RetDoutIdeal.main_v1_1) = v1 c
          ∧ r.2.mem ((c.tc : Thread Cert.RetDoutIdeal.nD Cert.RetDoutIdeal.τ).loc Cert.RetDoutIdeal.main_arg0) = m ((c.tc : Thread Cert.RetDoutIdeal.nD Cert.RetDoutIdeal.τ).loc Cert.RetDoutIdeal.main_arg0)
          ∧ r.2.mem ((c.tc : Thread Cert.RetDoutIdeal.nD Cert.RetDoutIdeal.τ).loc Cert.RetDoutIdeal.main_arg1) = m ((c.tc : Thread Cert.RetDoutIdeal.nD Cert.RetDoutIdeal.τ).loc Cert.RetDoutIdeal.main_arg1)
          ∧ r.2.mem ((c.tc : Thread Cert.RetDoutIdeal.nD Cert.RetDoutIdeal.τ).loc Cert.RetDoutIdeal.main_arg2) = m ((c.tc : Thread Cert.RetDoutIdeal.nD Cert.RetDoutIdeal.τ).loc Cert.RetDoutIdeal.main_arg2)
          ∧ r.2.mem ((c.tc : Thread Cert.RetDoutIdeal.nD Cert.RetDoutIdeal.τ).loc Cert.RetDoutIdeal.main_arg3) = m ((c.tc : Thread Cert.RetDoutIdeal.nD Cert.RetDoutIdeal.τ).loc Cert.RetDoutIdeal.main_arg3))
      ∧ θ_run (Cert.RetDoutRefIdeal.defs (F := Ideal)) (onTc (τ := Cert.RetDoutRefIdeal.τ) (Cert.RetDoutRefIdeal.main (F := Ideal))) ⟨m', fun _ => 0, g'⟩ (fun r => ∀ c : Dev Cert.RetDoutRefIdeal.nD,
          r.2.mem ((c.tc : Thread Cert.RetDoutRefIdeal.nD Cert.RetDoutRefIdeal.τ).loc Cert.RetDoutRefIdeal.main_v56) = v0 c
          ∧ r.2.mem ((c.tc : Thread Cert.RetDoutRefIdeal.nD Cert.RetDoutRefIdeal.τ).loc Cert.RetDoutRefIdeal.main_v32) = v1 c
          ∧ r.2.mem ((c.tc : Thread Cert.RetDoutRefIdeal.nD Cert.RetDoutRefIdeal.τ).loc Cert.RetDoutRefIdeal.main_arg0) = m' ((c.tc : Thread Cert.RetDoutRefIdeal.nD Cert.RetDoutRefIdeal.τ).loc Cert.RetDoutRefIdeal.main_arg0)
          ∧ r.2.mem ((c.tc : Thread Cert.RetDoutRefIdeal.nD Cert.RetDoutRefIdeal.τ).loc Cert.RetDoutRefIdeal.main_arg1) = m' ((c.tc : Thread Cert.RetDoutRefIdeal.nD Cert.RetDoutRefIdeal.τ).loc Cert.RetDoutRefIdeal.main_arg1)
          ∧ r.2.mem ((c.tc : Thread Cert.RetDoutRefIdeal.nD Cert.RetDoutRefIdeal.τ).loc Cert.RetDoutRefIdeal.main_arg2) = m' ((c.tc : Thread Cert.RetDoutRefIdeal.nD Cert.RetDoutRefIdeal.τ).loc Cert.RetDoutRefIdeal.main_arg2)
          ∧ r.2.mem ((c.tc : Thread Cert.RetDoutRefIdeal.nD Cert.RetDoutRefIdeal.τ).loc Cert.RetDoutRefIdeal.main_arg3) = m' ((c.tc : Thread Cert.RetDoutRefIdeal.nD Cert.RetDoutRefIdeal.τ).loc Cert.RetDoutRefIdeal.main_arg3))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v24) = v1 c
          ∧ r.2.mem ((c.tc : Thread Cert.AdamRefIdeal.nD Cert.AdamRefIdeal.τ).loc Cert.AdamRefIdeal.main_v5) = v2 c
          ∧ r.2.mem ((c.tc : Thread Cert.AdamRefIdeal.nD Cert.AdamRefIdeal.τ).loc Cert.AdamRefIdeal.main_v11) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_CtxNorm_CtxNormIdeal : Prop :=
  True

def algebraic_CtxNormIdeal_CtxNormRefIdeal [hCtxNormIdeal : Cert.CtxNormIdeal.Facts] [hCtxNormRefIdeal : Cert.CtxNormRefIdeal.Facts] : Prop :=
  ∀ (m : (ℓ : Loc Cert.CtxNormIdeal.nD Cert.CtxNormIdeal.τ Cert.CtxNormIdeal.sig) → Buf (Elt Ideal) ℓ) (g : Dev Cert.CtxNormIdeal.nD → PrngReg)
    (m' : (ℓ : Loc Cert.CtxNormRefIdeal.nD Cert.CtxNormRefIdeal.τ Cert.CtxNormRefIdeal.sig) → Buf (Elt Ideal) ℓ) (g' : Dev Cert.CtxNormRefIdeal.nD → PrngReg), Pre_CtxNormIdeal m →
    (∀ c : Dev Cert.CtxNormIdeal.nD,
      m' ((c.tc : Thread Cert.CtxNormRefIdeal.nD Cert.CtxNormRefIdeal.τ).loc Cert.CtxNormRefIdeal.main_arg0) = m ((c.tc : Thread Cert.CtxNormIdeal.nD Cert.CtxNormIdeal.τ).loc Cert.CtxNormIdeal.main_arg0)
      ∧ m' ((c.tc : Thread Cert.CtxNormRefIdeal.nD Cert.CtxNormRefIdeal.τ).loc Cert.CtxNormRefIdeal.main_arg1) = m ((c.tc : Thread Cert.CtxNormIdeal.nD Cert.CtxNormIdeal.τ).loc Cert.CtxNormIdeal.main_arg1)
      ∧ m' ((c.tc : Thread Cert.CtxNormRefIdeal.nD Cert.CtxNormRefIdeal.τ).loc Cert.CtxNormRefIdeal.main_arg2) = m ((c.tc : Thread Cert.CtxNormIdeal.nD Cert.CtxNormIdeal.τ).loc Cert.CtxNormIdeal.main_arg2)
      ∧ m' ((c.tc : Thread Cert.CtxNormRefIdeal.nD Cert.CtxNormRefIdeal.τ).loc Cert.CtxNormRefIdeal.main_arg3) = m ((c.tc : Thread Cert.CtxNormIdeal.nD Cert.CtxNormIdeal.τ).loc Cert.CtxNormIdeal.main_arg3)) →
    ∃ (v0 : (c : Dev Cert.CtxNormIdeal.nD) → Buf (Elt Ideal) ((c.tc : Thread Cert.CtxNormIdeal.nD Cert.CtxNormIdeal.τ).loc Cert.CtxNormIdeal.main_v0)),
      θ_run (Cert.CtxNormIdeal.defs (F := Ideal)) (onTc (τ := Cert.CtxNormIdeal.τ) (Cert.CtxNormIdeal.main (F := Ideal))) ⟨m, fun _ => 0, g⟩ (fun r => ∀ c : Dev Cert.CtxNormIdeal.nD,
          r.2.mem ((c.tc : Thread Cert.CtxNormIdeal.nD Cert.CtxNormIdeal.τ).loc Cert.CtxNormIdeal.main_v0) = v0 c
          ∧ r.2.mem ((c.tc : Thread Cert.CtxNormIdeal.nD Cert.CtxNormIdeal.τ).loc Cert.CtxNormIdeal.main_arg0) = m ((c.tc : Thread Cert.CtxNormIdeal.nD Cert.CtxNormIdeal.τ).loc Cert.CtxNormIdeal.main_arg0)
          ∧ r.2.mem ((c.tc : Thread Cert.CtxNormIdeal.nD Cert.CtxNormIdeal.τ).loc Cert.CtxNormIdeal.main_arg1) = m ((c.tc : Thread Cert.CtxNormIdeal.nD Cert.CtxNormIdeal.τ).loc Cert.CtxNormIdeal.main_arg1)
          ∧ r.2.mem ((c.tc : Thread Cert.CtxNormIdeal.nD Cert.CtxNormIdeal.τ).loc Cert.CtxNormIdeal.main_arg2) = m ((c.tc : Thread Cert.CtxNormIdeal.nD Cert.CtxNormIdeal.τ).loc Cert.CtxNormIdeal.main_arg2)
          ∧ r.2.mem ((c.tc : Thread Cert.CtxNormIdeal.nD Cert.CtxNormIdeal.τ).loc Cert.CtxNormIdeal.main_arg3) = m ((c.tc : Thread Cert.CtxNormIdeal.nD Cert.CtxNormIdeal.τ).loc Cert.CtxNormIdeal.main_arg3))
      ∧ θ_run (Cert.CtxNormRefIdeal.defs (F := Ideal)) (onTc (τ := Cert.CtxNormRefIdeal.τ) (Cert.CtxNormRefIdeal.main (F := Ideal))) ⟨m', fun _ => 0, g'⟩ (fun r => ∀ c : Dev Cert.CtxNormRefIdeal.nD,
          r.2.mem ((c.tc : Thread Cert.CtxNormRefIdeal.nD Cert.CtxNormRefIdeal.τ).loc Cert.CtxNormRefIdeal.main_v18) = v0 c
          ∧ r.2.mem ((c.tc : Thread Cert.CtxNormRefIdeal.nD Cert.CtxNormRefIdeal.τ).loc Cert.CtxNormRefIdeal.main_arg0) = m' ((c.tc : Thread Cert.CtxNormRefIdeal.nD Cert.CtxNormRefIdeal.τ).loc Cert.CtxNormRefIdeal.main_arg0)
          ∧ r.2.mem ((c.tc : Thread Cert.CtxNormRefIdeal.nD Cert.CtxNormRefIdeal.τ).loc Cert.CtxNormRefIdeal.main_arg1) = m' ((c.tc : Thread Cert.CtxNormRefIdeal.nD Cert.CtxNormRefIdeal.τ).loc Cert.CtxNormRefIdeal.main_arg1)
          ∧ r.2.mem ((c.tc : Thread Cert.CtxNormRefIdeal.nD Cert.CtxNormRefIdeal.τ).loc Cert.CtxNormRefIdeal.main_arg2) = m' ((c.tc : Thread Cert.CtxNormRefIdeal.nD Cert.CtxNormRefIdeal.τ).loc Cert.CtxNormRefIdeal.main_arg2)
          ∧ r.2.mem ((c.tc : Thread Cert.CtxNormRefIdeal.nD Cert.CtxNormRefIdeal.τ).loc Cert.CtxNormRefIdeal.main_arg3) = m' ((c.tc : Thread Cert.CtxNormRefIdeal.nD Cert.CtxNormRefIdeal.τ).loc Cert.CtxNormRefIdeal.main_arg3))

def preserves_CtxGate_CtxGateIdeal : Prop :=
  True

def algebraic_CtxGateIdeal_CtxGateRefIdeal [hCtxGateIdeal : Cert.CtxGateIdeal.Facts] [hCtxGateRefIdeal : Cert.CtxGateRefIdeal.Facts] : Prop :=
  ∀ (m : (ℓ : Loc Cert.CtxGateIdeal.nD Cert.CtxGateIdeal.τ Cert.CtxGateIdeal.sig) → Buf (Elt Ideal) ℓ) (g : Dev Cert.CtxGateIdeal.nD → PrngReg)
    (m' : (ℓ : Loc Cert.CtxGateRefIdeal.nD Cert.CtxGateRefIdeal.τ Cert.CtxGateRefIdeal.sig) → Buf (Elt Ideal) ℓ) (g' : Dev Cert.CtxGateRefIdeal.nD → PrngReg), Pre_CtxGateIdeal m →
    (∀ c : Dev Cert.CtxGateIdeal.nD,
      m' ((c.tc : Thread Cert.CtxGateRefIdeal.nD Cert.CtxGateRefIdeal.τ).loc Cert.CtxGateRefIdeal.main_arg0) = m ((c.tc : Thread Cert.CtxGateIdeal.nD Cert.CtxGateIdeal.τ).loc Cert.CtxGateIdeal.main_arg0)
      ∧ m' ((c.tc : Thread Cert.CtxGateRefIdeal.nD Cert.CtxGateRefIdeal.τ).loc Cert.CtxGateRefIdeal.main_arg1) = m ((c.tc : Thread Cert.CtxGateIdeal.nD Cert.CtxGateIdeal.τ).loc Cert.CtxGateIdeal.main_arg1)
      ∧ m' ((c.tc : Thread Cert.CtxGateRefIdeal.nD Cert.CtxGateRefIdeal.τ).loc Cert.CtxGateRefIdeal.main_arg2) = m ((c.tc : Thread Cert.CtxGateIdeal.nD Cert.CtxGateIdeal.τ).loc Cert.CtxGateIdeal.main_arg2)) →
    ∃ (v0 : (c : Dev Cert.CtxGateIdeal.nD) → Buf (Elt Ideal) ((c.tc : Thread Cert.CtxGateIdeal.nD Cert.CtxGateIdeal.τ).loc Cert.CtxGateIdeal.main_v1_0)) (v1 : (c : Dev Cert.CtxGateIdeal.nD) → Buf (Elt Ideal) ((c.tc : Thread Cert.CtxGateIdeal.nD Cert.CtxGateIdeal.τ).loc Cert.CtxGateIdeal.main_v1_1)),
      θ_run (Cert.CtxGateIdeal.defs (F := Ideal)) (onTc (τ := Cert.CtxGateIdeal.τ) (Cert.CtxGateIdeal.main (F := Ideal))) ⟨m, fun _ => 0, g⟩ (fun r => ∀ c : Dev Cert.CtxGateIdeal.nD,
          r.2.mem ((c.tc : Thread Cert.CtxGateIdeal.nD Cert.CtxGateIdeal.τ).loc Cert.CtxGateIdeal.main_v1_0) = v0 c
          ∧ r.2.mem ((c.tc : Thread Cert.CtxGateIdeal.nD Cert.CtxGateIdeal.τ).loc Cert.CtxGateIdeal.main_v1_1) = v1 c
          ∧ r.2.mem ((c.tc : Thread Cert.CtxGateIdeal.nD Cert.CtxGateIdeal.τ).loc Cert.CtxGateIdeal.main_arg0) = m ((c.tc : Thread Cert.CtxGateIdeal.nD Cert.CtxGateIdeal.τ).loc Cert.CtxGateIdeal.main_arg0)
          ∧ r.2.mem ((c.tc : Thread Cert.CtxGateIdeal.nD Cert.CtxGateIdeal.τ).loc Cert.CtxGateIdeal.main_arg1) = m ((c.tc : Thread Cert.CtxGateIdeal.nD Cert.CtxGateIdeal.τ).loc Cert.CtxGateIdeal.main_arg1)
          ∧ r.2.mem ((c.tc : Thread Cert.CtxGateIdeal.nD Cert.CtxGateIdeal.τ).loc Cert.CtxGateIdeal.main_arg2) = m ((c.tc : Thread Cert.CtxGateIdeal.nD Cert.CtxGateIdeal.τ).loc Cert.CtxGateIdeal.main_arg2))
      ∧ θ_run (Cert.CtxGateRefIdeal.defs (F := Ideal)) (onTc (τ := Cert.CtxGateRefIdeal.τ) (Cert.CtxGateRefIdeal.main (F := Ideal))) ⟨m', fun _ => 0, g'⟩ (fun r => ∀ c : Dev Cert.CtxGateRefIdeal.nD,
          r.2.mem ((c.tc : Thread Cert.CtxGateRefIdeal.nD Cert.CtxGateRefIdeal.τ).loc Cert.CtxGateRefIdeal.main_v11) = v0 c
          ∧ r.2.mem ((c.tc : Thread Cert.CtxGateRefIdeal.nD Cert.CtxGateRefIdeal.τ).loc Cert.CtxGateRefIdeal.main_v10) = v1 c
          ∧ r.2.mem ((c.tc : Thread Cert.CtxGateRefIdeal.nD Cert.CtxGateRefIdeal.τ).loc Cert.CtxGateRefIdeal.main_arg0) = m' ((c.tc : Thread Cert.CtxGateRefIdeal.nD Cert.CtxGateRefIdeal.τ).loc Cert.CtxGateRefIdeal.main_arg0)
          ∧ r.2.mem ((c.tc : Thread Cert.CtxGateRefIdeal.nD Cert.CtxGateRefIdeal.τ).loc Cert.CtxGateRefIdeal.main_arg1) = m' ((c.tc : Thread Cert.CtxGateRefIdeal.nD Cert.CtxGateRefIdeal.τ).loc Cert.CtxGateRefIdeal.main_arg1)
          ∧ r.2.mem ((c.tc : Thread Cert.CtxGateRefIdeal.nD Cert.CtxGateRefIdeal.τ).loc Cert.CtxGateRefIdeal.main_arg2) = m' ((c.tc : Thread Cert.CtxGateRefIdeal.nD Cert.CtxGateRefIdeal.τ).loc Cert.CtxGateRefIdeal.main_arg2))

def preserves_CtxNormBwd_CtxNormBwdIdeal : Prop :=
  True

def algebraic_CtxNormBwdIdeal_CtxNormBwdRefIdeal [hCtxNormBwdIdeal : Cert.CtxNormBwdIdeal.Facts] [hCtxNormBwdRefIdeal : Cert.CtxNormBwdRefIdeal.Facts] : Prop :=
  ∀ (m : (ℓ : Loc Cert.CtxNormBwdIdeal.nD Cert.CtxNormBwdIdeal.τ Cert.CtxNormBwdIdeal.sig) → Buf (Elt Ideal) ℓ) (g : Dev Cert.CtxNormBwdIdeal.nD → PrngReg)
    (m' : (ℓ : Loc Cert.CtxNormBwdRefIdeal.nD Cert.CtxNormBwdRefIdeal.τ Cert.CtxNormBwdRefIdeal.sig) → Buf (Elt Ideal) ℓ) (g' : Dev Cert.CtxNormBwdRefIdeal.nD → PrngReg), Pre_CtxNormBwdIdeal m →
    (∀ c : Dev Cert.CtxNormBwdIdeal.nD,
      m' ((c.tc : Thread Cert.CtxNormBwdRefIdeal.nD Cert.CtxNormBwdRefIdeal.τ).loc Cert.CtxNormBwdRefIdeal.main_arg0) = m ((c.tc : Thread Cert.CtxNormBwdIdeal.nD Cert.CtxNormBwdIdeal.τ).loc Cert.CtxNormBwdIdeal.main_arg0)
      ∧ m' ((c.tc : Thread Cert.CtxNormBwdRefIdeal.nD Cert.CtxNormBwdRefIdeal.τ).loc Cert.CtxNormBwdRefIdeal.main_arg1) = m ((c.tc : Thread Cert.CtxNormBwdIdeal.nD Cert.CtxNormBwdIdeal.τ).loc Cert.CtxNormBwdIdeal.main_arg1)
      ∧ m' ((c.tc : Thread Cert.CtxNormBwdRefIdeal.nD Cert.CtxNormBwdRefIdeal.τ).loc Cert.CtxNormBwdRefIdeal.main_arg2) = m ((c.tc : Thread Cert.CtxNormBwdIdeal.nD Cert.CtxNormBwdIdeal.τ).loc Cert.CtxNormBwdIdeal.main_arg2)
      ∧ m' ((c.tc : Thread Cert.CtxNormBwdRefIdeal.nD Cert.CtxNormBwdRefIdeal.τ).loc Cert.CtxNormBwdRefIdeal.main_arg3) = m ((c.tc : Thread Cert.CtxNormBwdIdeal.nD Cert.CtxNormBwdIdeal.τ).loc Cert.CtxNormBwdIdeal.main_arg3)
      ∧ m' ((c.tc : Thread Cert.CtxNormBwdRefIdeal.nD Cert.CtxNormBwdRefIdeal.τ).loc Cert.CtxNormBwdRefIdeal.main_arg4) = m ((c.tc : Thread Cert.CtxNormBwdIdeal.nD Cert.CtxNormBwdIdeal.τ).loc Cert.CtxNormBwdIdeal.main_arg4)
      ∧ m' ((c.tc : Thread Cert.CtxNormBwdRefIdeal.nD Cert.CtxNormBwdRefIdeal.τ).loc Cert.CtxNormBwdRefIdeal.main_arg5) = m ((c.tc : Thread Cert.CtxNormBwdIdeal.nD Cert.CtxNormBwdIdeal.τ).loc Cert.CtxNormBwdIdeal.main_arg5)) →
    ∃ (v0 : (c : Dev Cert.CtxNormBwdIdeal.nD) → Buf (Elt Ideal) ((c.tc : Thread Cert.CtxNormBwdIdeal.nD Cert.CtxNormBwdIdeal.τ).loc Cert.CtxNormBwdIdeal.main_v0_0)) (v1 : (c : Dev Cert.CtxNormBwdIdeal.nD) → Buf (Elt Ideal) ((c.tc : Thread Cert.CtxNormBwdIdeal.nD Cert.CtxNormBwdIdeal.τ).loc Cert.CtxNormBwdIdeal.main_v0_1)) (v2 : (c : Dev Cert.CtxNormBwdIdeal.nD) → Buf (Elt Ideal) ((c.tc : Thread Cert.CtxNormBwdIdeal.nD Cert.CtxNormBwdIdeal.τ).loc Cert.CtxNormBwdIdeal.main_v0_2)) (v3 : (c : Dev Cert.CtxNormBwdIdeal.nD) → Buf (Elt Ideal) ((c.tc : Thread Cert.CtxNormBwdIdeal.nD Cert.CtxNormBwdIdeal.τ).loc Cert.CtxNormBwdIdeal.main_v0_3)),
      θ_run (Cert.CtxNormBwdIdeal.defs (F := Ideal)) (onTc (τ := Cert.CtxNormBwdIdeal.τ) (Cert.CtxNormBwdIdeal.main (F := Ideal))) ⟨m, fun _ => 0, g⟩ (fun r => ∀ c : Dev Cert.CtxNormBwdIdeal.nD,
          r.2.mem ((c.tc : Thread Cert.CtxNormBwdIdeal.nD Cert.CtxNormBwdIdeal.τ).loc Cert.CtxNormBwdIdeal.main_v0_0) = v0 c
          ∧ r.2.mem ((c.tc : Thread Cert.CtxNormBwdIdeal.nD Cert.CtxNormBwdIdeal.τ).loc Cert.CtxNormBwdIdeal.main_v0_1) = v1 c
          ∧ r.2.mem ((c.tc : Thread Cert.CtxNormBwdIdeal.nD Cert.CtxNormBwdIdeal.τ).loc Cert.CtxNormBwdIdeal.main_v0_2) = v2 c
          ∧ r.2.mem ((c.tc : Thread Cert.CtxNormBwdIdeal.nD Cert.CtxNormBwdIdeal.τ).loc Cert.CtxNormBwdIdeal.main_v0_3) = v3 c
          ∧ r.2.mem ((c.tc : Thread Cert.CtxNormBwdIdeal.nD Cert.CtxNormBwdIdeal.τ).loc Cert.CtxNormBwdIdeal.main_arg0) = m ((c.tc : Thread Cert.CtxNormBwdIdeal.nD Cert.CtxNormBwdIdeal.τ).loc Cert.CtxNormBwdIdeal.main_arg0)
          ∧ r.2.mem ((c.tc : Thread Cert.CtxNormBwdIdeal.nD Cert.CtxNormBwdIdeal.τ).loc Cert.CtxNormBwdIdeal.main_arg1) = m ((c.tc : Thread Cert.CtxNormBwdIdeal.nD Cert.CtxNormBwdIdeal.τ).loc Cert.CtxNormBwdIdeal.main_arg1)
          ∧ r.2.mem ((c.tc : Thread Cert.CtxNormBwdIdeal.nD Cert.CtxNormBwdIdeal.τ).loc Cert.CtxNormBwdIdeal.main_arg2) = m ((c.tc : Thread Cert.CtxNormBwdIdeal.nD Cert.CtxNormBwdIdeal.τ).loc Cert.CtxNormBwdIdeal.main_arg2)
          ∧ r.2.mem ((c.tc : Thread Cert.CtxNormBwdIdeal.nD Cert.CtxNormBwdIdeal.τ).loc Cert.CtxNormBwdIdeal.main_arg3) = m ((c.tc : Thread Cert.CtxNormBwdIdeal.nD Cert.CtxNormBwdIdeal.τ).loc Cert.CtxNormBwdIdeal.main_arg3)
          ∧ r.2.mem ((c.tc : Thread Cert.CtxNormBwdIdeal.nD Cert.CtxNormBwdIdeal.τ).loc Cert.CtxNormBwdIdeal.main_arg4) = m ((c.tc : Thread Cert.CtxNormBwdIdeal.nD Cert.CtxNormBwdIdeal.τ).loc Cert.CtxNormBwdIdeal.main_arg4)
          ∧ r.2.mem ((c.tc : Thread Cert.CtxNormBwdIdeal.nD Cert.CtxNormBwdIdeal.τ).loc Cert.CtxNormBwdIdeal.main_arg5) = m ((c.tc : Thread Cert.CtxNormBwdIdeal.nD Cert.CtxNormBwdIdeal.τ).loc Cert.CtxNormBwdIdeal.main_arg5))
      ∧ θ_run (Cert.CtxNormBwdRefIdeal.defs (F := Ideal)) (onTc (τ := Cert.CtxNormBwdRefIdeal.τ) (Cert.CtxNormBwdRefIdeal.main (F := Ideal))) ⟨m', fun _ => 0, g'⟩ (fun r => ∀ c : Dev Cert.CtxNormBwdRefIdeal.nD,
          r.2.mem ((c.tc : Thread Cert.CtxNormBwdRefIdeal.nD Cert.CtxNormBwdRefIdeal.τ).loc Cert.CtxNormBwdRefIdeal.main_v48) = v0 c
          ∧ r.2.mem ((c.tc : Thread Cert.CtxNormBwdRefIdeal.nD Cert.CtxNormBwdRefIdeal.τ).loc Cert.CtxNormBwdRefIdeal.main_v31) = v1 c
          ∧ r.2.mem ((c.tc : Thread Cert.CtxNormBwdRefIdeal.nD Cert.CtxNormBwdRefIdeal.τ).loc Cert.CtxNormBwdRefIdeal.main_v26) = v2 c
          ∧ r.2.mem ((c.tc : Thread Cert.CtxNormBwdRefIdeal.nD Cert.CtxNormBwdRefIdeal.τ).loc Cert.CtxNormBwdRefIdeal.main_v23) = v3 c
          ∧ r.2.mem ((c.tc : Thread Cert.CtxNormBwdRefIdeal.nD Cert.CtxNormBwdRefIdeal.τ).loc Cert.CtxNormBwdRefIdeal.main_arg0) = m' ((c.tc : Thread Cert.CtxNormBwdRefIdeal.nD Cert.CtxNormBwdRefIdeal.τ).loc Cert.CtxNormBwdRefIdeal.main_arg0)
          ∧ r.2.mem ((c.tc : Thread Cert.CtxNormBwdRefIdeal.nD Cert.CtxNormBwdRefIdeal.τ).loc Cert.CtxNormBwdRefIdeal.main_arg1) = m' ((c.tc : Thread Cert.CtxNormBwdRefIdeal.nD Cert.CtxNormBwdRefIdeal.τ).loc Cert.CtxNormBwdRefIdeal.main_arg1)
          ∧ r.2.mem ((c.tc : Thread Cert.CtxNormBwdRefIdeal.nD Cert.CtxNormBwdRefIdeal.τ).loc Cert.CtxNormBwdRefIdeal.main_arg2) = m' ((c.tc : Thread Cert.CtxNormBwdRefIdeal.nD Cert.CtxNormBwdRefIdeal.τ).loc Cert.CtxNormBwdRefIdeal.main_arg2)
          ∧ r.2.mem ((c.tc : Thread Cert.CtxNormBwdRefIdeal.nD Cert.CtxNormBwdRefIdeal.τ).loc Cert.CtxNormBwdRefIdeal.main_arg3) = m' ((c.tc : Thread Cert.CtxNormBwdRefIdeal.nD Cert.CtxNormBwdRefIdeal.τ).loc Cert.CtxNormBwdRefIdeal.main_arg3)
          ∧ r.2.mem ((c.tc : Thread Cert.CtxNormBwdRefIdeal.nD Cert.CtxNormBwdRefIdeal.τ).loc Cert.CtxNormBwdRefIdeal.main_arg4) = m' ((c.tc : Thread Cert.CtxNormBwdRefIdeal.nD Cert.CtxNormBwdRefIdeal.τ).loc Cert.CtxNormBwdRefIdeal.main_arg4)
          ∧ r.2.mem ((c.tc : Thread Cert.CtxNormBwdRefIdeal.nD Cert.CtxNormBwdRefIdeal.τ).loc Cert.CtxNormBwdRefIdeal.main_arg5) = m' ((c.tc : Thread Cert.CtxNormBwdRefIdeal.nD Cert.CtxNormBwdRefIdeal.τ).loc Cert.CtxNormBwdRefIdeal.main_arg5))

def preserves_MixcNormBwd_MixcNormBwdIdeal : Prop :=
  True

def algebraic_MixcNormBwdIdeal_MixcNormBwdRefIdeal [hMixcNormBwdIdeal : Cert.MixcNormBwdIdeal.Facts] [hMixcNormBwdRefIdeal : Cert.MixcNormBwdRefIdeal.Facts] : Prop :=
  ∀ (m : (ℓ : Loc Cert.MixcNormBwdIdeal.nD Cert.MixcNormBwdIdeal.τ Cert.MixcNormBwdIdeal.sig) → Buf (Elt Ideal) ℓ) (g : Dev Cert.MixcNormBwdIdeal.nD → PrngReg)
    (m' : (ℓ : Loc Cert.MixcNormBwdRefIdeal.nD Cert.MixcNormBwdRefIdeal.τ Cert.MixcNormBwdRefIdeal.sig) → Buf (Elt Ideal) ℓ) (g' : Dev Cert.MixcNormBwdRefIdeal.nD → PrngReg), Pre_MixcNormBwdIdeal m →
    (∀ c : Dev Cert.MixcNormBwdIdeal.nD,
      m' ((c.tc : Thread Cert.MixcNormBwdRefIdeal.nD Cert.MixcNormBwdRefIdeal.τ).loc Cert.MixcNormBwdRefIdeal.main_arg0) = m ((c.tc : Thread Cert.MixcNormBwdIdeal.nD Cert.MixcNormBwdIdeal.τ).loc Cert.MixcNormBwdIdeal.main_arg0)
      ∧ m' ((c.tc : Thread Cert.MixcNormBwdRefIdeal.nD Cert.MixcNormBwdRefIdeal.τ).loc Cert.MixcNormBwdRefIdeal.main_arg1) = m ((c.tc : Thread Cert.MixcNormBwdIdeal.nD Cert.MixcNormBwdIdeal.τ).loc Cert.MixcNormBwdIdeal.main_arg1)
      ∧ m' ((c.tc : Thread Cert.MixcNormBwdRefIdeal.nD Cert.MixcNormBwdRefIdeal.τ).loc Cert.MixcNormBwdRefIdeal.main_arg2) = m ((c.tc : Thread Cert.MixcNormBwdIdeal.nD Cert.MixcNormBwdIdeal.τ).loc Cert.MixcNormBwdIdeal.main_arg2)
      ∧ m' ((c.tc : Thread Cert.MixcNormBwdRefIdeal.nD Cert.MixcNormBwdRefIdeal.τ).loc Cert.MixcNormBwdRefIdeal.main_arg3) = m ((c.tc : Thread Cert.MixcNormBwdIdeal.nD Cert.MixcNormBwdIdeal.τ).loc Cert.MixcNormBwdIdeal.main_arg3)
      ∧ m' ((c.tc : Thread Cert.MixcNormBwdRefIdeal.nD Cert.MixcNormBwdRefIdeal.τ).loc Cert.MixcNormBwdRefIdeal.main_arg4) = m ((c.tc : Thread Cert.MixcNormBwdIdeal.nD Cert.MixcNormBwdIdeal.τ).loc Cert.MixcNormBwdIdeal.main_arg4)) →
    ∃ (v0 : (c : Dev Cert.MixcNormBwdIdeal.nD) → Buf (Elt Ideal) ((c.tc : Thread Cert.MixcNormBwdIdeal.nD Cert.MixcNormBwdIdeal.τ).loc Cert.MixcNormBwdIdeal.main_v0_0)) (v1 : (c : Dev Cert.MixcNormBwdIdeal.nD) → Buf (Elt Ideal) ((c.tc : Thread Cert.MixcNormBwdIdeal.nD Cert.MixcNormBwdIdeal.τ).loc Cert.MixcNormBwdIdeal.main_v0_1)) (v2 : (c : Dev Cert.MixcNormBwdIdeal.nD) → Buf (Elt Ideal) ((c.tc : Thread Cert.MixcNormBwdIdeal.nD Cert.MixcNormBwdIdeal.τ).loc Cert.MixcNormBwdIdeal.main_v0_2)) (v3 : (c : Dev Cert.MixcNormBwdIdeal.nD) → Buf (Elt Ideal) ((c.tc : Thread Cert.MixcNormBwdIdeal.nD Cert.MixcNormBwdIdeal.τ).loc Cert.MixcNormBwdIdeal.main_v0_3)),
      θ_run (Cert.MixcNormBwdIdeal.defs (F := Ideal)) (onTc (τ := Cert.MixcNormBwdIdeal.τ) (Cert.MixcNormBwdIdeal.main (F := Ideal))) ⟨m, fun _ => 0, g⟩ (fun r => ∀ c : Dev Cert.MixcNormBwdIdeal.nD,
          r.2.mem ((c.tc : Thread Cert.MixcNormBwdIdeal.nD Cert.MixcNormBwdIdeal.τ).loc Cert.MixcNormBwdIdeal.main_v0_0) = v0 c
          ∧ r.2.mem ((c.tc : Thread Cert.MixcNormBwdIdeal.nD Cert.MixcNormBwdIdeal.τ).loc Cert.MixcNormBwdIdeal.main_v0_1) = v1 c
          ∧ r.2.mem ((c.tc : Thread Cert.MixcNormBwdIdeal.nD Cert.MixcNormBwdIdeal.τ).loc Cert.MixcNormBwdIdeal.main_v0_2) = v2 c
          ∧ r.2.mem ((c.tc : Thread Cert.MixcNormBwdIdeal.nD Cert.MixcNormBwdIdeal.τ).loc Cert.MixcNormBwdIdeal.main_v0_3) = v3 c
          ∧ r.2.mem ((c.tc : Thread Cert.MixcNormBwdIdeal.nD Cert.MixcNormBwdIdeal.τ).loc Cert.MixcNormBwdIdeal.main_arg0) = m ((c.tc : Thread Cert.MixcNormBwdIdeal.nD Cert.MixcNormBwdIdeal.τ).loc Cert.MixcNormBwdIdeal.main_arg0)
          ∧ r.2.mem ((c.tc : Thread Cert.MixcNormBwdIdeal.nD Cert.MixcNormBwdIdeal.τ).loc Cert.MixcNormBwdIdeal.main_arg1) = m ((c.tc : Thread Cert.MixcNormBwdIdeal.nD Cert.MixcNormBwdIdeal.τ).loc Cert.MixcNormBwdIdeal.main_arg1)
          ∧ r.2.mem ((c.tc : Thread Cert.MixcNormBwdIdeal.nD Cert.MixcNormBwdIdeal.τ).loc Cert.MixcNormBwdIdeal.main_arg2) = m ((c.tc : Thread Cert.MixcNormBwdIdeal.nD Cert.MixcNormBwdIdeal.τ).loc Cert.MixcNormBwdIdeal.main_arg2)
          ∧ r.2.mem ((c.tc : Thread Cert.MixcNormBwdIdeal.nD Cert.MixcNormBwdIdeal.τ).loc Cert.MixcNormBwdIdeal.main_arg3) = m ((c.tc : Thread Cert.MixcNormBwdIdeal.nD Cert.MixcNormBwdIdeal.τ).loc Cert.MixcNormBwdIdeal.main_arg3)
          ∧ r.2.mem ((c.tc : Thread Cert.MixcNormBwdIdeal.nD Cert.MixcNormBwdIdeal.τ).loc Cert.MixcNormBwdIdeal.main_arg4) = m ((c.tc : Thread Cert.MixcNormBwdIdeal.nD Cert.MixcNormBwdIdeal.τ).loc Cert.MixcNormBwdIdeal.main_arg4))
      ∧ θ_run (Cert.MixcNormBwdRefIdeal.defs (F := Ideal)) (onTc (τ := Cert.MixcNormBwdRefIdeal.τ) (Cert.MixcNormBwdRefIdeal.main (F := Ideal))) ⟨m', fun _ => 0, g'⟩ (fun r => ∀ c : Dev Cert.MixcNormBwdRefIdeal.nD,
          r.2.mem ((c.tc : Thread Cert.MixcNormBwdRefIdeal.nD Cert.MixcNormBwdRefIdeal.τ).loc Cert.MixcNormBwdRefIdeal.main_v47) = v0 c
          ∧ r.2.mem ((c.tc : Thread Cert.MixcNormBwdRefIdeal.nD Cert.MixcNormBwdRefIdeal.τ).loc Cert.MixcNormBwdRefIdeal.main_v31) = v1 c
          ∧ r.2.mem ((c.tc : Thread Cert.MixcNormBwdRefIdeal.nD Cert.MixcNormBwdRefIdeal.τ).loc Cert.MixcNormBwdRefIdeal.main_v26) = v2 c
          ∧ r.2.mem ((c.tc : Thread Cert.MixcNormBwdRefIdeal.nD Cert.MixcNormBwdRefIdeal.τ).loc Cert.MixcNormBwdRefIdeal.main_v23) = v3 c
          ∧ r.2.mem ((c.tc : Thread Cert.MixcNormBwdRefIdeal.nD Cert.MixcNormBwdRefIdeal.τ).loc Cert.MixcNormBwdRefIdeal.main_arg0) = m' ((c.tc : Thread Cert.MixcNormBwdRefIdeal.nD Cert.MixcNormBwdRefIdeal.τ).loc Cert.MixcNormBwdRefIdeal.main_arg0)
          ∧ r.2.mem ((c.tc : Thread Cert.MixcNormBwdRefIdeal.nD Cert.MixcNormBwdRefIdeal.τ).loc Cert.MixcNormBwdRefIdeal.main_arg1) = m' ((c.tc : Thread Cert.MixcNormBwdRefIdeal.nD Cert.MixcNormBwdRefIdeal.τ).loc Cert.MixcNormBwdRefIdeal.main_arg1)
          ∧ r.2.mem ((c.tc : Thread Cert.MixcNormBwdRefIdeal.nD Cert.MixcNormBwdRefIdeal.τ).loc Cert.MixcNormBwdRefIdeal.main_arg2) = m' ((c.tc : Thread Cert.MixcNormBwdRefIdeal.nD Cert.MixcNormBwdRefIdeal.τ).loc Cert.MixcNormBwdRefIdeal.main_arg2)
          ∧ r.2.mem ((c.tc : Thread Cert.MixcNormBwdRefIdeal.nD Cert.MixcNormBwdRefIdeal.τ).loc Cert.MixcNormBwdRefIdeal.main_arg3) = m' ((c.tc : Thread Cert.MixcNormBwdRefIdeal.nD Cert.MixcNormBwdRefIdeal.τ).loc Cert.MixcNormBwdRefIdeal.main_arg3)
          ∧ r.2.mem ((c.tc : Thread Cert.MixcNormBwdRefIdeal.nD Cert.MixcNormBwdRefIdeal.τ).loc Cert.MixcNormBwdRefIdeal.main_arg4) = m' ((c.tc : Thread Cert.MixcNormBwdRefIdeal.nD Cert.MixcNormBwdRefIdeal.τ).loc Cert.MixcNormBwdRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v71) = v0 c
          ∧ r.2.mem ((c.tc : Thread Cert.LossRefIdeal.nD Cert.LossRefIdeal.τ).loc Cert.LossRefIdeal.main_v69) = v1 c
          ∧ r.2.mem ((c.tc : Thread Cert.LossRefIdeal.nD Cert.LossRefIdeal.τ).loc Cert.LossRefIdeal.main_v53) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Fwd_FwdIdeal : Prop :=
  IdealRules.named_const.Statement Cert.FwdIdeal.κ "scale_log2e" .f32 0x3DD53B95#32 (((Real.sqrt 192)⁻¹ * (Real.log 2)⁻¹ : ℝ) : EReal)
  ∧ IdealRules.named_const.Statement Cert.FwdIdeal.κ "scale" .f32 0x3D93CD3A#32 (((Real.sqrt 192)⁻¹ : ℝ) : EReal)

def algebraic_FwdIdeal_FwdRefIdeal_pre_finite_qk [hFwdIdeal : Cert.FwdIdeal.Facts] [hFwdRefIdeal : Cert.FwdRefIdeal.Facts] [hPre_finite_qk : Cert.Pre_finite_qk.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_qk m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v8_0)) (v1 : (c : Dev Cert.FwdIdeal.nD) → Buf (Elt Ideal) ((c.tc : Thread Cert.FwdIdeal.nD Cert.FwdIdeal.τ).loc Cert.FwdIdeal.main_v8_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v8_0) = v0 c
          ∧ r.2.mem ((c.tc : Thread Cert.FwdIdeal.nD Cert.FwdIdeal.τ).loc Cert.FwdIdeal.main_v8_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v32) = v0 c
          ∧ r.2.mem ((c.tc : Thread Cert.FwdRefIdeal.nD Cert.FwdRefIdeal.τ).loc Cert.FwdRefIdeal.main_v13) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def Claim : Prop :=
  ∃ (hKernel : Cert.Kernel.Facts) (hKernelIdeal : Cert.KernelIdeal.Facts) (hReferenceIdeal : Cert.ReferenceIdeal.Facts) (hIn : Cert.In.Facts) (hInIdeal : Cert.InIdeal.Facts) (hInRefIdeal : Cert.InRefIdeal.Facts) (hOut : Cert.Out.Facts) (hOutIdeal : Cert.OutIdeal.Facts) (hOutRefIdeal : Cert.OutRefIdeal.Facts) (hDa : Cert.Da.Facts) (hDaIdeal : Cert.DaIdeal.Facts) (hDaRefIdeal : Cert.DaRefIdeal.Facts) (hDwout : Cert.Dwout.Facts) (hDwoutIdeal : Cert.DwoutIdeal.Facts) (hDwoutRefIdeal : Cert.DwoutRefIdeal.Facts) (hDwoutAdd : Cert.DwoutAdd.Facts) (hDwoutAddIdeal : Cert.DwoutAddIdeal.Facts) (hDwoutAddRefIdeal : Cert.DwoutAddRefIdeal.Facts) (hDh : Cert.Dh.Facts) (hDhIdeal : Cert.DhIdeal.Facts) (hDhRefIdeal : Cert.DhRefIdeal.Facts) (hDwin : Cert.Dwin.Facts) (hDwinIdeal : Cert.DwinIdeal.Facts) (hDwinRefIdeal : Cert.DwinRefIdeal.Facts) (hDwinAdd : Cert.DwinAdd.Facts) (hDwinAddIdeal : Cert.DwinAddIdeal.Facts) (hDwinAddRefIdeal : Cert.DwinAddRefIdeal.Facts) (hMixMm : Cert.MixMm.Facts) (hMixMmIdeal : Cert.MixMmIdeal.Facts) (hMixMmRefIdeal : Cert.MixMmRefIdeal.Facts) (hMixDh : Cert.MixDh.Facts) (hMixDhIdeal : Cert.MixDhIdeal.Facts) (hMixDhRefIdeal : Cert.MixDhRefIdeal.Facts) (hMixDw : Cert.MixDw.Facts) (hMixDwIdeal : Cert.MixDwIdeal.Facts) (hMixDwRefIdeal : Cert.MixDwRefIdeal.Facts) (hMixoMm : Cert.MixoMm.Facts) (hMixoMmIdeal : Cert.MixoMmIdeal.Facts) (hMixoMmRefIdeal : Cert.MixoMmRefIdeal.Facts) (hMixoDa : Cert.MixoDa.Facts) (hMixoDaIdeal : Cert.MixoDaIdeal.Facts) (hMixoDaRefIdeal : Cert.MixoDaRefIdeal.Facts) (hMixoDw : Cert.MixoDw.Facts) (hMixoDwIdeal : Cert.MixoDwIdeal.Facts) (hMixoDwRefIdeal : Cert.MixoDwRefIdeal.Facts) (hUqMm : Cert.UqMm.Facts) (hUqMmIdeal : Cert.UqMmIdeal.Facts) (hUqMmRefIdeal : Cert.UqMmRefIdeal.Facts) (hUqDh : Cert.UqDh.Facts) (hUqDhIdeal : Cert.UqDhIdeal.Facts) (hUqDhRefIdeal : Cert.UqDhRefIdeal.Facts) (hUqDw : Cert.UqDw.Facts) (hUqDwIdeal : Cert.UqDwIdeal.Facts) (hUqDwRefIdeal : Cert.UqDwRefIdeal.Facts) (hUkvMm : Cert.UkvMm.Facts) (hUkvMmIdeal : Cert.UkvMmIdeal.Facts) (hUkvMmRefIdeal : Cert.UkvMmRefIdeal.Facts) (hUkvDh : Cert.UkvDh.Facts) (hUkvDhIdeal : Cert.UkvDhIdeal.Facts) (hUkvDhRefIdeal : Cert.UkvDhRefIdeal.Facts) (hUkvDw : Cert.UkvDw.Facts) (hUkvDwIdeal : Cert.UkvDwIdeal.Facts) (hUkvDwRefIdeal : Cert.UkvDwRefIdeal.Facts) (hCtxIn : Cert.CtxIn.Facts) (hCtxInIdeal : Cert.CtxInIdeal.Facts) (hCtxInRefIdeal : Cert.CtxInRefIdeal.Facts) (hCtxOut : Cert.CtxOut.Facts) (hCtxOutIdeal : Cert.CtxOutIdeal.Facts) (hCtxOutRefIdeal : Cert.CtxOutRefIdeal.Facts) (hCtxDa : Cert.CtxDa.Facts) (hCtxDaIdeal : Cert.CtxDaIdeal.Facts) (hCtxDaRefIdeal : Cert.CtxDaRefIdeal.Facts) (hCtxDwout : Cert.CtxDwout.Facts) (hCtxDwoutIdeal : Cert.CtxDwoutIdeal.Facts) (hCtxDwoutRefIdeal : Cert.CtxDwoutRefIdeal.Facts) (hCtxDh : Cert.CtxDh.Facts) (hCtxDhIdeal : Cert.CtxDhIdeal.Facts) (hCtxDhRefIdeal : Cert.CtxDhRefIdeal.Facts) (hCtxDwin : Cert.CtxDwin.Facts) (hCtxDwinIdeal : Cert.CtxDwinIdeal.Facts) (hCtxDwinRefIdeal : Cert.CtxDwinRefIdeal.Facts) (hMixcMm : Cert.MixcMm.Facts) (hMixcMmIdeal : Cert.MixcMmIdeal.Facts) (hMixcMmRefIdeal : Cert.MixcMmRefIdeal.Facts) (hMixcDh : Cert.MixcDh.Facts) (hMixcDhIdeal : Cert.MixcDhIdeal.Facts) (hMixcDhRefIdeal : Cert.MixcDhRefIdeal.Facts) (hMixcDw : Cert.MixcDw.Facts) (hMixcDwIdeal : Cert.MixcDwIdeal.Facts) (hMixcDwRefIdeal : Cert.MixcDwRefIdeal.Facts) (hUkvcMm : Cert.UkvcMm.Facts) (hUkvcMmIdeal : Cert.UkvcMmIdeal.Facts) (hUkvcMmRefIdeal : Cert.UkvcMmRefIdeal.Facts) (hUkvcDh : Cert.UkvcDh.Facts) (hUkvcDhIdeal : Cert.UkvcDhIdeal.Facts) (hUkvcDhRefIdeal : Cert.UkvcDhRefIdeal.Facts) (hUkvcDw : Cert.UkvcDw.Facts) (hUkvcDwIdeal : Cert.UkvcDwIdeal.Facts) (hUkvcDwRefIdeal : Cert.UkvcDwRefIdeal.Facts) (hAdaMm : Cert.AdaMm.Facts) (hAdaMmIdeal : Cert.AdaMmIdeal.Facts) (hAdaMmRefIdeal : Cert.AdaMmRefIdeal.Facts) (hAdaDa : Cert.AdaDa.Facts) (hAdaDaIdeal : Cert.AdaDaIdeal.Facts) (hAdaDaRefIdeal : Cert.AdaDaRefIdeal.Facts) (hAdaDw : Cert.AdaDw.Facts) (hAdaDwIdeal : Cert.AdaDwIdeal.Facts) (hAdaDwRefIdeal : Cert.AdaDwRefIdeal.Facts) (hNorm : Cert.Norm.Facts) (hNormIdeal : Cert.NormIdeal.Facts) (hNormRefIdeal : Cert.NormRefIdeal.Facts) (hGate : Cert.Gate.Facts) (hGateIdeal : Cert.GateIdeal.Facts) (hGateRefIdeal : Cert.GateRefIdeal.Facts) (hGateMix : Cert.GateMix.Facts) (hGateMixIdeal : Cert.GateMixIdeal.Facts) (hGateMixRefIdeal : Cert.GateMixRefIdeal.Facts) (hDelta : Cert.Delta.Facts) (hDeltaIdeal : Cert.DeltaIdeal.Facts) (hDeltaRefIdeal : Cert.DeltaRefIdeal.Facts) (hNormBwd : Cert.NormBwd.Facts) (hNormBwdIdeal : Cert.NormBwdIdeal.Facts) (hNormBwdRefIdeal : Cert.NormBwdRefIdeal.Facts) (hRetOut : Cert.RetOut.Facts) (hRetOutIdeal : Cert.RetOutIdeal.Facts) (hRetOutRefIdeal : Cert.RetOutRefIdeal.Facts) (hRetDout : Cert.RetDout.Facts) (hRetDoutIdeal : Cert.RetDoutIdeal.Facts) (hRetDoutRefIdeal : Cert.RetDoutRefIdeal.Facts) (hAdam : Cert.Adam.Facts) (hAdamIdeal : Cert.AdamIdeal.Facts) (hAdamRefIdeal : Cert.AdamRefIdeal.Facts) (hCtxNorm : Cert.CtxNorm.Facts) (hCtxNormIdeal : Cert.CtxNormIdeal.Facts) (hCtxNormRefIdeal : Cert.CtxNormRefIdeal.Facts) (hCtxGate : Cert.CtxGate.Facts) (hCtxGateIdeal : Cert.CtxGateIdeal.Facts) (hCtxGateRefIdeal : Cert.CtxGateRefIdeal.Facts) (hCtxNormBwd : Cert.CtxNormBwd.Facts) (hCtxNormBwdIdeal : Cert.CtxNormBwdIdeal.Facts) (hCtxNormBwdRefIdeal : Cert.CtxNormBwdRefIdeal.Facts) (hMixcNormBwd : Cert.MixcNormBwd.Facts) (hMixcNormBwdIdeal : Cert.MixcNormBwdIdeal.Facts) (hMixcNormBwdRefIdeal : Cert.MixcNormBwdRefIdeal.Facts) (hLoss : Cert.Loss.Facts) (hLossIdeal : Cert.LossIdeal.Facts) (hLossRefIdeal : Cert.LossRefIdeal.Facts) (hFwd : Cert.Fwd.Facts) (hFwdIdeal : Cert.FwdIdeal.Facts) (hFwdRefIdeal : Cert.FwdRefIdeal.Facts) (hPre_finite : Cert.Pre_finite.Facts) (hPre_finite_in : Cert.Pre_finite_in.Facts) (hPre_finite_da : Cert.Pre_finite_da.Facts) (hPre_finite_ctx_in : Cert.Pre_finite_ctx_in.Facts) (hPre_finite_ctx_da : Cert.Pre_finite_ctx_da.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_In (hIn := hIn)
    ∧ quiescent_InIdeal (hInIdeal := hInIdeal)
    ∧ quiescent_InIdeal_pre_finite_in (hInIdeal := hInIdeal) (hPre_finite_in := hPre_finite_in)
    ∧ quiescent_InRefIdeal (hInRefIdeal := hInRefIdeal)
    ∧ quiescent_InRefIdeal_pre_finite_in (hInRefIdeal := hInRefIdeal) (hPre_finite_in := hPre_finite_in)
    ∧ quiescent_Out (hOut := hOut)
    ∧ quiescent_OutIdeal (hOutIdeal := hOutIdeal)
    ∧ quiescent_OutRefIdeal (hOutRefIdeal := hOutRefIdeal)
    ∧ quiescent_Da (hDa := hDa)
    ∧ quiescent_DaIdeal (hDaIdeal := hDaIdeal)
    ∧ quiescent_DaIdeal_pre_finite_da (hDaIdeal := hDaIdeal) (hPre_finite_da := hPre_finite_da)
    ∧ quiescent_DaRefIdeal (hDaRefIdeal := hDaRefIdeal)
    ∧ quiescent_DaRefIdeal_pre_finite_da (hDaRefIdeal := hDaRefIdeal) (hPre_finite_da := hPre_finite_da)
    ∧ quiescent_Dwout (hDwout := hDwout)
    ∧ quiescent_DwoutIdeal (hDwoutIdeal := hDwoutIdeal)
    ∧ quiescent_DwoutRefIdeal (hDwoutRefIdeal := hDwoutRefIdeal)
    ∧ quiescent_DwoutAdd (hDwoutAdd := hDwoutAdd)
    ∧ quiescent_DwoutAddIdeal (hDwoutAddIdeal := hDwoutAddIdeal)
    ∧ quiescent_DwoutAddRefIdeal (hDwoutAddRefIdeal := hDwoutAddRefIdeal)
    ∧ quiescent_Dh (hDh := hDh)
    ∧ quiescent_DhIdeal (hDhIdeal := hDhIdeal)
    ∧ quiescent_DhRefIdeal (hDhRefIdeal := hDhRefIdeal)
    ∧ quiescent_Dwin (hDwin := hDwin)
    ∧ quiescent_DwinIdeal (hDwinIdeal := hDwinIdeal)
    ∧ quiescent_DwinRefIdeal (hDwinRefIdeal := hDwinRefIdeal)
    ∧ quiescent_DwinAdd (hDwinAdd := hDwinAdd)
    ∧ quiescent_DwinAddIdeal (hDwinAddIdeal := hDwinAddIdeal)
    ∧ quiescent_DwinAddRefIdeal (hDwinAddRefIdeal := hDwinAddRefIdeal)
    ∧ quiescent_MixMm (hMixMm := hMixMm)
    ∧ quiescent_MixMmIdeal (hMixMmIdeal := hMixMmIdeal)
    ∧ quiescent_MixMmRefIdeal (hMixMmRefIdeal := hMixMmRefIdeal)
    ∧ quiescent_MixDh (hMixDh := hMixDh)
    ∧ quiescent_MixDhIdeal (hMixDhIdeal := hMixDhIdeal)
    ∧ quiescent_MixDhRefIdeal (hMixDhRefIdeal := hMixDhRefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_MixoMm (hMixoMm := hMixoMm)
    ∧ quiescent_MixoMmIdeal (hMixoMmIdeal := hMixoMmIdeal)
    ∧ quiescent_MixoMmRefIdeal (hMixoMmRefIdeal := hMixoMmRefIdeal)
    ∧ quiescent_MixoDa (hMixoDa := hMixoDa)
    ∧ quiescent_MixoDaIdeal (hMixoDaIdeal := hMixoDaIdeal)
    ∧ quiescent_MixoDaRefIdeal (hMixoDaRefIdeal := hMixoDaRefIdeal)
    ∧ quiescent_MixoDw (hMixoDw := hMixoDw)
    ∧ quiescent_MixoDwIdeal (hMixoDwIdeal := hMixoDwIdeal)
    ∧ quiescent_MixoDwRefIdeal (hMixoDwRefIdeal := hMixoDwRefIdeal)
    ∧ quiescent_UqMm (hUqMm := hUqMm)
    ∧ quiescent_UqMmIdeal (hUqMmIdeal := hUqMmIdeal)
    ∧ quiescent_UqMmRefIdeal (hUqMmRefIdeal := hUqMmRefIdeal)
    ∧ quiescent_UqDh (hUqDh := hUqDh)
    ∧ quiescent_UqDhIdeal (hUqDhIdeal := hUqDhIdeal)
    ∧ quiescent_UqDhRefIdeal (hUqDhRefIdeal := hUqDhRefIdeal)
    ∧ quiescent_UqDw (hUqDw := hUqDw)
    ∧ quiescent_UqDwIdeal (hUqDwIdeal := hUqDwIdeal)
    ∧ quiescent_UqDwRefIdeal (hUqDwRefIdeal := hUqDwRefIdeal)
    ∧ quiescent_UkvMm (hUkvMm := hUkvMm)
    ∧ quiescent_UkvMmIdeal (hUkvMmIdeal := hUkvMmIdeal)
    ∧ quiescent_UkvMmRefIdeal (hUkvMmRefIdeal := hUkvMmRefIdeal)
    ∧ quiescent_UkvDh (hUkvDh := hUkvDh)
    ∧ quiescent_UkvDhIdeal (hUkvDhIdeal := hUkvDhIdeal)
    ∧ quiescent_UkvDhRefIdeal (hUkvDhRefIdeal := hUkvDhRefIdeal)
    ∧ quiescent_UkvDw (hUkvDw := hUkvDw)
    ∧ quiescent_UkvDwIdeal (hUkvDwIdeal := hUkvDwIdeal)
    ∧ quiescent_UkvDwRefIdeal (hUkvDwRefIdeal := hUkvDwRefIdeal)
    ∧ quiescent_CtxIn (hCtxIn := hCtxIn)
    ∧ quiescent_CtxInIdeal (hCtxInIdeal := hCtxInIdeal)
    ∧ quiescent_CtxInIdeal_pre_finite_ctx_in (hCtxInIdeal := hCtxInIdeal) (hPre_finite_ctx_in := hPre_finite_ctx_in)
    ∧ quiescent_CtxInRefIdeal (hCtxInRefIdeal := hCtxInRefIdeal)
    ∧ quiescent_CtxInRefIdeal_pre_finite_ctx_in (hCtxInRefIdeal := hCtxInRefIdeal) (hPre_finite_ctx_in := hPre_finite_ctx_in)
    ∧ quiescent_CtxOut (hCtxOut := hCtxOut)
    ∧ quiescent_CtxOutIdeal (hCtxOutIdeal := hCtxOutIdeal)
    ∧ quiescent_CtxOutRefIdeal (hCtxOutRefIdeal := hCtxOutRefIdeal)
    ∧ quiescent_CtxDa (hCtxDa := hCtxDa)
    ∧ quiescent_CtxDaIdeal (hCtxDaIdeal := hCtxDaIdeal)
    ∧ quiescent_CtxDaIdeal_pre_finite_ctx_da (hCtxDaIdeal := hCtxDaIdeal) (hPre_finite_ctx_da := hPre_finite_ctx_da)
    ∧ quiescent_CtxDaRefIdeal (hCtxDaRefIdeal := hCtxDaRefIdeal)
    ∧ quiescent_CtxDaRefIdeal_pre_finite_ctx_da (hCtxDaRefIdeal := hCtxDaRefIdeal) (hPre_finite_ctx_da := hPre_finite_ctx_da)
    ∧ quiescent_CtxDwout (hCtxDwout := hCtxDwout)
    ∧ quiescent_CtxDwoutIdeal (hCtxDwoutIdeal := hCtxDwoutIdeal)
    ∧ quiescent_CtxDwoutRefIdeal (hCtxDwoutRefIdeal := hCtxDwoutRefIdeal)
    ∧ quiescent_CtxDh (hCtxDh := hCtxDh)
    ∧ quiescent_CtxDhIdeal (hCtxDhIdeal := hCtxDhIdeal)
    ∧ quiescent_CtxDhRefIdeal (hCtxDhRefIdeal := hCtxDhRefIdeal)
    ∧ quiescent_CtxDwin (hCtxDwin := hCtxDwin)
    ∧ quiescent_CtxDwinIdeal (hCtxDwinIdeal := hCtxDwinIdeal)
    ∧ quiescent_CtxDwinRefIdeal (hCtxDwinRefIdeal := hCtxDwinRefIdeal)
    ∧ quiescent_MixcMm (hMixcMm := hMixcMm)
    ∧ quiescent_MixcMmIdeal (hMixcMmIdeal := hMixcMmIdeal)
    ∧ quiescent_MixcMmRefIdeal (hMixcMmRefIdeal := hMixcMmRefIdeal)
    ∧ quiescent_MixcDh (hMixcDh := hMixcDh)
    ∧ quiescent_MixcDhIdeal (hMixcDhIdeal := hMixcDhIdeal)
    ∧ quiescent_MixcDhRefIdeal (hMixcDhRefIdeal := hMixcDhRefIdeal)
    ∧ quiescent_MixcDw (hMixcDw := hMixcDw)
    ∧ quiescent_MixcDwIdeal (hMixcDwIdeal := hMixcDwIdeal)
    ∧ quiescent_MixcDwRefIdeal (hMixcDwRefIdeal := hMixcDwRefIdeal)
    ∧ quiescent_UkvcMm (hUkvcMm := hUkvcMm)
    ∧ quiescent_UkvcMmIdeal (hUkvcMmIdeal := hUkvcMmIdeal)
    ∧ quiescent_UkvcMmRefIdeal (hUkvcMmRefIdeal := hUkvcMmRefIdeal)
    ∧ quiescent_UkvcDh (hUkvcDh := hUkvcDh)
    ∧ quiescent_UkvcDhIdeal (hUkvcDhIdeal := hUkvcDhIdeal)
    ∧ quiescent_UkvcDhRefIdeal (hUkvcDhRefIdeal := hUkvcDhRefIdeal)
    ∧ quiescent_UkvcDw (hUkvcDw := hUkvcDw)
    ∧ quiescent_UkvcDwIdeal (hUkvcDwIdeal := hUkvcDwIdeal)
    ∧ quiescent_UkvcDwRefIdeal (hUkvcDwRefIdeal := hUkvcDwRefIdeal)
    ∧ quiescent_AdaMm (hAdaMm := hAdaMm)
    ∧ quiescent_AdaMmIdeal (hAdaMmIdeal := hAdaMmIdeal)
    ∧ quiescent_AdaMmRefIdeal (hAdaMmRefIdeal := hAdaMmRefIdeal)
    ∧ quiescent_AdaDa (hAdaDa := hAdaDa)
    ∧ quiescent_AdaDaIdeal (hAdaDaIdeal := hAdaDaIdeal)
    ∧ quiescent_AdaDaRefIdeal (hAdaDaRefIdeal := hAdaDaRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_Norm (hNorm := hNorm)
    ∧ quiescent_NormIdeal (hNormIdeal := hNormIdeal)
    ∧ quiescent_NormRefIdeal (hNormRefIdeal := hNormRefIdeal)
    ∧ quiescent_Gate (hGate := hGate)
    ∧ quiescent_GateIdeal (hGateIdeal := hGateIdeal)
    ∧ quiescent_GateRefIdeal (hGateRefIdeal := hGateRefIdeal)
    ∧ quiescent_GateMix (hGateMix := hGateMix)
    ∧ quiescent_GateMixIdeal (hGateMixIdeal := hGateMixIdeal)
    ∧ quiescent_GateMixRefIdeal (hGateMixRefIdeal := hGateMixRefIdeal)
    ∧ quiescent_Delta (hDelta := hDelta)
    ∧ quiescent_DeltaIdeal (hDeltaIdeal := hDeltaIdeal)
    ∧ quiescent_DeltaRefIdeal (hDeltaRefIdeal := hDeltaRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_RetOut (hRetOut := hRetOut)
    ∧ quiescent_RetOutIdeal (hRetOutIdeal := hRetOutIdeal)
    ∧ quiescent_RetOutRefIdeal (hRetOutRefIdeal := hRetOutRefIdeal)
    ∧ quiescent_RetDout (hRetDout := hRetDout)
    ∧ quiescent_RetDoutIdeal (hRetDoutIdeal := hRetDoutIdeal)
    ∧ quiescent_RetDoutRefIdeal (hRetDoutRefIdeal := hRetDoutRefIdeal)
    ∧ quiescent_Adam (hAdam := hAdam)
    ∧ quiescent_AdamIdeal (hAdamIdeal := hAdamIdeal)
    ∧ quiescent_AdamRefIdeal (hAdamRefIdeal := hAdamRefIdeal)
    ∧ quiescent_CtxNorm (hCtxNorm := hCtxNorm)
    ∧ quiescent_CtxNormIdeal (hCtxNormIdeal := hCtxNormIdeal)
    ∧ quiescent_CtxNormRefIdeal (hCtxNormRefIdeal := hCtxNormRefIdeal)
    ∧ quiescent_CtxGate (hCtxGate := hCtxGate)
    ∧ quiescent_CtxGateIdeal (hCtxGateIdeal := hCtxGateIdeal)
    ∧ quiescent_CtxGateRefIdeal (hCtxGateRefIdeal := hCtxGateRefIdeal)
    ∧ quiescent_CtxNormBwd (hCtxNormBwd := hCtxNormBwd)
    ∧ quiescent_CtxNormBwdIdeal (hCtxNormBwdIdeal := hCtxNormBwdIdeal)
    ∧ quiescent_CtxNormBwdRefIdeal (hCtxNormBwdRefIdeal := hCtxNormBwdRefIdeal)
    ∧ quiescent_MixcNormBwd (hMixcNormBwd := hMixcNormBwd)
    ∧ quiescent_MixcNormBwdIdeal (hMixcNormBwdIdeal := hMixcNormBwdIdeal)
    ∧ quiescent_MixcNormBwdRefIdeal (hMixcNormBwdRefIdeal := hMixcNormBwdRefIdeal)
    ∧ quiescent_Loss (hLoss := hLoss)
    ∧ quiescent_LossIdeal (hLossIdeal := hLossIdeal)
    ∧ quiescent_LossRefIdeal (hLossRefIdeal := hLossRefIdeal)
    ∧ quiescent_Fwd (hFwd := hFwd)
    ∧ quiescent_FwdIdeal (hFwdIdeal := hFwdIdeal)
    ∧ quiescent_FwdIdeal_pre_finite_qk (hFwdIdeal := hFwdIdeal) (hPre_finite_qk := hPre_finite_qk)
    ∧ quiescent_FwdRefIdeal (hFwdRefIdeal := hFwdRefIdeal)
    ∧ quiescent_FwdRefIdeal_pre_finite_qk (hFwdRefIdeal := hFwdRefIdeal) (hPre_finite_qk := hPre_finite_qk)
    ∧ preserves_Kernel_KernelIdeal
    ∧ algebraic_KernelIdeal_ReferenceIdeal_pre_finite (hKernelIdeal := hKernelIdeal) (hReferenceIdeal := hReferenceIdeal) (hPre_finite := hPre_finite)
    ∧ preserves_In_InIdeal
    ∧ algebraic_InIdeal_InRefIdeal_pre_finite_in (hInIdeal := hInIdeal) (hInRefIdeal := hInRefIdeal) (hPre_finite_in := hPre_finite_in)
    ∧ preserves_Out_OutIdeal
    ∧ algebraic_OutIdeal_OutRefIdeal (hOutIdeal := hOutIdeal) (hOutRefIdeal := hOutRefIdeal)
    ∧ preserves_Da_DaIdeal
    ∧ algebraic_DaIdeal_DaRefIdeal_pre_finite_da (hDaIdeal := hDaIdeal) (hDaRefIdeal := hDaRefIdeal) (hPre_finite_da := hPre_finite_da)
    ∧ preserves_Dwout_DwoutIdeal
    ∧ algebraic_DwoutIdeal_DwoutRefIdeal (hDwoutIdeal := hDwoutIdeal) (hDwoutRefIdeal := hDwoutRefIdeal)
    ∧ preserves_DwoutAdd_DwoutAddIdeal
    ∧ algebraic_DwoutAddIdeal_DwoutAddRefIdeal (hDwoutAddIdeal := hDwoutAddIdeal) (hDwoutAddRefIdeal := hDwoutAddRefIdeal)
    ∧ preserves_Dh_DhIdeal
    ∧ algebraic_DhIdeal_DhRefIdeal (hDhIdeal := hDhIdeal) (hDhRefIdeal := hDhRefIdeal)
    ∧ preserves_Dwin_DwinIdeal
    ∧ algebraic_DwinIdeal_DwinRefIdeal (hDwinIdeal := hDwinIdeal) (hDwinRefIdeal := hDwinRefIdeal)
    ∧ preserves_DwinAdd_DwinAddIdeal
    ∧ algebraic_DwinAddIdeal_DwinAddRefIdeal (hDwinAddIdeal := hDwinAddIdeal) (hDwinAddRefIdeal := hDwinAddRefIdeal)
    ∧ preserves_MixMm_MixMmIdeal
    ∧ algebraic_MixMmIdeal_MixMmRefIdeal (hMixMmIdeal := hMixMmIdeal) (hMixMmRefIdeal := hMixMmRefIdeal)
    ∧ preserves_MixDh_MixDhIdeal
    ∧ algebraic_MixDhIdeal_MixDhRefIdeal (hMixDhIdeal := hMixDhIdeal) (hMixDhRefIdeal := hMixDhRefIdeal)
    ∧ preserves_MixDw_MixDwIdeal
    ∧ algebraic_MixDwIdeal_MixDwRefIdeal (hMixDwIdeal := hMixDwIdeal) (hMixDwRefIdeal := hMixDwRefIdeal)
    ∧ preserves_MixoMm_MixoMmIdeal
    ∧ algebraic_MixoMmIdeal_MixoMmRefIdeal (hMixoMmIdeal := hMixoMmIdeal) (hMixoMmRefIdeal := hMixoMmRefIdeal)
    ∧ preserves_MixoDa_MixoDaIdeal
    ∧ algebraic_MixoDaIdeal_MixoDaRefIdeal (hMixoDaIdeal := hMixoDaIdeal) (hMixoDaRefIdeal := hMixoDaRefIdeal)
    ∧ preserves_MixoDw_MixoDwIdeal
    ∧ algebraic_MixoDwIdeal_MixoDwRefIdeal (hMixoDwIdeal := hMixoDwIdeal) (hMixoDwRefIdeal := hMixoDwRefIdeal)
    ∧ preserves_UqMm_UqMmIdeal
    ∧ algebraic_UqMmIdeal_UqMmRefIdeal (hUqMmIdeal := hUqMmIdeal) (hUqMmRefIdeal := hUqMmRefIdeal)
    ∧ preserves_UqDh_UqDhIdeal
    ∧ algebraic_UqDhIdeal_UqDhRefIdeal (hUqDhIdeal := hUqDhIdeal) (hUqDhRefIdeal := hUqDhRefIdeal)
    ∧ preserves_UqDw_UqDwIdeal
    ∧ algebraic_UqDwIdeal_UqDwRefIdeal (hUqDwIdeal := hUqDwIdeal) (hUqDwRefIdeal := hUqDwRefIdeal)
    ∧ preserves_UkvMm_UkvMmIdeal
    ∧ algebraic_UkvMmIdeal_UkvMmRefIdeal (hUkvMmIdeal := hUkvMmIdeal) (hUkvMmRefIdeal := hUkvMmRefIdeal)
    ∧ preserves_UkvDh_UkvDhIdeal
    ∧ algebraic_UkvDhIdeal_UkvDhRefIdeal (hUkvDhIdeal := hUkvDhIdeal) (hUkvDhRefIdeal := hUkvDhRefIdeal)
    ∧ preserves_UkvDw_UkvDwIdeal
    ∧ algebraic_UkvDwIdeal_UkvDwRefIdeal (hUkvDwIdeal := hUkvDwIdeal) (hUkvDwRefIdeal := hUkvDwRefIdeal)
    ∧ preserves_CtxIn_CtxInIdeal
    ∧ algebraic_CtxInIdeal_CtxInRefIdeal_pre_finite_ctx_in (hCtxInIdeal := hCtxInIdeal) (hCtxInRefIdeal := hCtxInRefIdeal) (hPre_finite_ctx_in := hPre_finite_ctx_in)
    ∧ preserves_CtxOut_CtxOutIdeal
    ∧ algebraic_CtxOutIdeal_CtxOutRefIdeal (hCtxOutIdeal := hCtxOutIdeal) (hCtxOutRefIdeal := hCtxOutRefIdeal)
    ∧ preserves_CtxDa_CtxDaIdeal
    ∧ algebraic_CtxDaIdeal_CtxDaRefIdeal_pre_finite_ctx_da (hCtxDaIdeal := hCtxDaIdeal) (hCtxDaRefIdeal := hCtxDaRefIdeal) (hPre_finite_ctx_da := hPre_finite_ctx_da)
    ∧ preserves_CtxDwout_CtxDwoutIdeal
    ∧ algebraic_CtxDwoutIdeal_CtxDwoutRefIdeal (hCtxDwoutIdeal := hCtxDwoutIdeal) (hCtxDwoutRefIdeal := hCtxDwoutRefIdeal)
    ∧ preserves_CtxDh_CtxDhIdeal
    ∧ algebraic_CtxDhIdeal_CtxDhRefIdeal (hCtxDhIdeal := hCtxDhIdeal) (hCtxDhRefIdeal := hCtxDhRefIdeal)
    ∧ preserves_CtxDwin_CtxDwinIdeal
    ∧ algebraic_CtxDwinIdeal_CtxDwinRefIdeal (hCtxDwinIdeal := hCtxDwinIdeal) (hCtxDwinRefIdeal := hCtxDwinRefIdeal)
    ∧ preserves_MixcMm_MixcMmIdeal
    ∧ algebraic_MixcMmIdeal_MixcMmRefIdeal (hMixcMmIdeal := hMixcMmIdeal) (hMixcMmRefIdeal := hMixcMmRefIdeal)
    ∧ preserves_MixcDh_MixcDhIdeal
    ∧ algebraic_MixcDhIdeal_MixcDhRefIdeal (hMixcDhIdeal := hMixcDhIdeal) (hMixcDhRefIdeal := hMixcDhRefIdeal)
    ∧ preserves_MixcDw_MixcDwIdeal
    ∧ algebraic_MixcDwIdeal_MixcDwRefIdeal (hMixcDwIdeal := hMixcDwIdeal) (hMixcDwRefIdeal := hMixcDwRefIdeal)
    ∧ preserves_UkvcMm_UkvcMmIdeal
    ∧ algebraic_UkvcMmIdeal_UkvcMmRefIdeal (hUkvcMmIdeal := hUkvcMmIdeal) (hUkvcMmRefIdeal := hUkvcMmRefIdeal)
    ∧ preserves_UkvcDh_UkvcDhIdeal
    ∧ algebraic_UkvcDhIdeal_UkvcDhRefIdeal (hUkvcDhIdeal := hUkvcDhIdeal) (hUkvcDhRefIdeal := hUkvcDhRefIdeal)
    ∧ preserves_UkvcDw_UkvcDwIdeal
    ∧ algebraic_UkvcDwIdeal_UkvcDwRefIdeal (hUkvcDwIdeal := hUkvcDwIdeal) (hUkvcDwRefIdeal := hUkvcDwRefIdeal)
    ∧ preserves_AdaMm_AdaMmIdeal
    ∧ algebraic_AdaMmIdeal_AdaMmRefIdeal (hAdaMmIdeal := hAdaMmIdeal) (hAdaMmRefIdeal := hAdaMmRefIdeal)
    ∧ preserves_AdaDa_AdaDaIdeal
    ∧ algebraic_AdaDaIdeal_AdaDaRefIdeal (hAdaDaIdeal := hAdaDaIdeal) (hAdaDaRefIdeal := hAdaDaRefIdeal)
    ∧ preserves_AdaDw_AdaDwIdeal
    ∧ algebraic_AdaDwIdeal_AdaDwRefIdeal (hAdaDwIdeal := hAdaDwIdeal) (hAdaDwRefIdeal := hAdaDwRefIdeal)
    ∧ preserves_Norm_NormIdeal
    ∧ algebraic_NormIdeal_NormRefIdeal (hNormIdeal := hNormIdeal) (hNormRefIdeal := hNormRefIdeal)
    ∧ preserves_Gate_GateIdeal
    ∧ algebraic_GateIdeal_GateRefIdeal (hGateIdeal := hGateIdeal) (hGateRefIdeal := hGateRefIdeal)
    ∧ preserves_GateMix_GateMixIdeal
    ∧ algebraic_GateMixIdeal_GateMixRefIdeal (hGateMixIdeal := hGateMixIdeal) (hGateMixRefIdeal := hGateMixRefIdeal)
    ∧ preserves_Delta_DeltaIdeal
    ∧ algebraic_DeltaIdeal_DeltaRefIdeal (hDeltaIdeal := hDeltaIdeal) (hDeltaRefIdeal := hDeltaRefIdeal)
    ∧ preserves_NormBwd_NormBwdIdeal
    ∧ algebraic_NormBwdIdeal_NormBwdRefIdeal (hNormBwdIdeal := hNormBwdIdeal) (hNormBwdRefIdeal := hNormBwdRefIdeal)
    ∧ preserves_RetOut_RetOutIdeal
    ∧ algebraic_RetOutIdeal_RetOutRefIdeal (hRetOutIdeal := hRetOutIdeal) (hRetOutRefIdeal := hRetOutRefIdeal)
    ∧ preserves_RetDout_RetDoutIdeal
    ∧ algebraic_RetDoutIdeal_RetDoutRefIdeal (hRetDoutIdeal := hRetDoutIdeal) (hRetDoutRefIdeal := hRetDoutRefIdeal)
    ∧ preserves_Adam_AdamIdeal
    ∧ algebraic_AdamIdeal_AdamRefIdeal (hAdamIdeal := hAdamIdeal) (hAdamRefIdeal := hAdamRefIdeal)
    ∧ preserves_CtxNorm_CtxNormIdeal
    ∧ algebraic_CtxNormIdeal_CtxNormRefIdeal (hCtxNormIdeal := hCtxNormIdeal) (hCtxNormRefIdeal := hCtxNormRefIdeal)
    ∧ preserves_CtxGate_CtxGateIdeal
    ∧ algebraic_CtxGateIdeal_CtxGateRefIdeal (hCtxGateIdeal := hCtxGateIdeal) (hCtxGateRefIdeal := hCtxGateRefIdeal)
    ∧ preserves_CtxNormBwd_CtxNormBwdIdeal
    ∧ algebraic_CtxNormBwdIdeal_CtxNormBwdRefIdeal (hCtxNormBwdIdeal := hCtxNormBwdIdeal) (hCtxNormBwdRefIdeal := hCtxNormBwdRefIdeal)
    ∧ preserves_MixcNormBwd_MixcNormBwdIdeal
    ∧ algebraic_MixcNormBwdIdeal_MixcNormBwdRefIdeal (hMixcNormBwdIdeal := hMixcNormBwdIdeal) (hMixcNormBwdRefIdeal := hMixcNormBwdRefIdeal)
    ∧ preserves_Loss_LossIdeal
    ∧ algebraic_LossIdeal_LossRefIdeal (hLossIdeal := hLossIdeal) (hLossRefIdeal := hLossRefIdeal)
    ∧ preserves_Fwd_FwdIdeal
    ∧ algebraic_FwdIdeal_FwdRefIdeal_pre_finite_qk (hFwdIdeal := hFwdIdeal) (hFwdRefIdeal := hFwdRefIdeal) (hPre_finite_qk := hPre_finite_qk)
-- ==== Pre_finite.lean ====
abbrev S8192x8x192 : Shape := ⟨3, ![8192, 8, 192]⟩
abbrev S8448x8x192 : Shape := ⟨3, ![8448, 8, 192]⟩
abbrev S8448x8x128 : Shape := ⟨3, ![8448, 8, 128]⟩
abbrev S8192x1024 : Shape := ⟨2, ![8192, 1024]⟩
abbrev S_ : Shape := ⟨0, ![]⟩

class Facts : Prop where
  bcast_S_S8192x8x192 : S_.BroadcastsInDim S8192x8x192 (![] : Fin 0 → Fin S8192x8x192.rank)
  bcast_S_S8448x8x192 : S_.BroadcastsInDim S8448x8x192 (![] : Fin 0 → Fin S8448x8x192.rank)
  bcast_S_S8448x8x128 : S_.BroadcastsInDim S8448x8x128 (![] : Fin 0 → Fin S8448x8x128.rank)
  bcast_S_S8192x1024 : S_.BroadcastsInDim S8192x1024 (![] : Fin 0 → Fin S8192x1024.rank)

variable [Facts]

def fn {F : FTy → Type} [FloatOps F] (main_arg0 : FVec F S8192x8x192 .f32) (main_arg1 : FVec F S8448x8x192 .f32) (main_arg2 : FVec F S8448x8x128 .f32) (main_arg3 : FVec F S8192x1024 .f32) : IVec S8192x8x192 1 × IVec S8448x8x192 1 × IVec S8448x8x128 1 × IVec S8192x1024 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8448x8x192 .f32 := Host.absf main_arg1
  let main_cst_0 : FVec F S_ .f32 := constant S_ .f32 0x7F800000#32
  let main_v4 : FVec F S8448x8x192 .f32 := broadcastInDim S8448x8x192 ![] bcast_S_S8448x8x192 main_cst_0
  let main_v5 : IVec S8448x8x192 1 := cmpf .olt main_v3 main_v4
  let main_v6 : FVec F S8448x8x128 .f32 := Host.absf main_arg2
  let main_cst_1 : FVec F S_ .f32 := constant S_ .f32 0x7F800000#32
  let main_v7 : FVec F S8448x8x128 .f32 := broadcastInDim S8448x8x128 ![] bcast_S_S8448x8x128 main_cst_1
  let main_v8 : IVec S8448x8x128 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_finite_ctx_da.lean ====
abbrev S256x11264 : Shape := ⟨2, ![256, 11264]⟩
abbrev S5632x2048 : Shape := ⟨2, ![5632, 2048]⟩
abbrev S256x2048 : Shape := ⟨2, ![256, 2048]⟩
abbrev S_ : Shape := ⟨0, ![]⟩

class Facts : Prop where
  bcast_S_S256x11264 : S_.BroadcastsInDim S256x11264 (![] : Fin 0 → Fin S256x11264.rank)
  bcast_S_S5632x2048 : S_.BroadcastsInDim S5632x2048 (![] : Fin 0 → Fin S5632x2048.rank)
  bcast_S_S256x2048 : S_.BroadcastsInDim S256x2048 (![] : Fin 0 → Fin S256x2048.rank)

variable [Facts]

def fn {F : FTy → Type} [FloatOps F] (main_arg0 : FVec F S256x11264 .f32) (main_arg1 : FVec F S5632x2048 .f32) (main_arg2 : FVec F S256x2048 .f32) : IVec S256x11264 1 × IVec S5632x2048 1 × IVec S256x2048 1 :=
  let main_v0 : FVec F S256x11264 .f32 := Host.absf main_arg0
  let main_cst : FVec F S_ .f32 := constant S_ .f32 0x7F800000#32
  let main_v1 : FVec F S256x11264 .f32 := broadcastInDim S256x11264 ![] bcast_S_S256x11264 main_cst
  let main_v2 : IVec S256x11264 1 := cmpf .olt main_v0 main_v1
  let main_v3 : FVec F S5632x2048 .f32 := Host.absf main_arg1
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S256x2048 .f32 := Host.absf main_arg2
  let main_cst_1 : FVec F S_ .f32 := constant S_ .f32 0x7F800000#32
  let main_v7 : FVec F S256x2048 .f32 := broadcastInDim S256x2048 ![] bcast_S_S256x2048 main_cst_1
  let main_v8 : IVec S256x2048 1 := cmpf .olt main_v6 main_v7
  (main_v2, main_v5, main_v8)
-- ==== Pre_finite_ctx_in.lean ====
abbrev S256x2048 : Shape := ⟨2, ![256, 2048]⟩
abbrev S2048x11264 : Shape := ⟨2, ![2048, 11264]⟩
abbrev S_ : Shape := ⟨0, ![]⟩

class Facts : Prop where
  bcast_S_S256x2048 : S_.BroadcastsInDim S256x2048 (![] : Fin 0 → Fin S256x2048.rank)
  bcast_S_S2048x11264 : S_.BroadcastsInDim S2048x11264 (![] : Fin 0 → Fin S2048x11264.rank)

variable [Facts]

def fn {F : FTy → Type} [FloatOps F] (main_arg0 : FVec F S256x2048 .f32) (main_arg1 : FVec F S2048x11264 .f32) : IVec S256x2048 1 × IVec S2048x11264 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_v3 : FVec F S2048x11264 .f32 := Host.absf main_arg1
  let main_cst_0 : FVec F S_ .f32 := constant S_ .f32 0x7F800000#32
  let main_v4 : FVec F S2048x11264 .f32 := broadcastInDim S2048x11264 ![] bcast_S_S2048x11264 main_cst_0
  let main_v5 : IVec S2048x11264 1 := cmpf .olt main_v3 main_v4
  (main_v2, main_v5)
-- ==== Pre_finite_da.lean ====
abbrev S8192x11264 : Shape := ⟨2, ![8192, 11264]⟩
abbrev S5632x2048 : Shape := ⟨2, ![5632, 2048]⟩
abbrev S8192x2048 : Shape := ⟨2, ![8192, 2048]⟩
abbrev S_ : Shape := ⟨0, ![]⟩

class Facts : Prop where
  bcast_S_S8192x11264 : S_.BroadcastsInDim S8192x11264 (![] : Fin 0 → Fin S8192x11264.rank)
  bcast_S_S5632x2048 : S_.BroadcastsInDim S5632x2048 (![] : Fin 0 → Fin S5632x2048.rank)
  bcast_S_S8192x2048 : S_.BroadcastsInDim S8192x2048 (![] : Fin 0 → Fin S8192x2048.rank)

variable [Facts]

def fn {F : FTy → Type} [FloatOps F] (main_arg0 : FVec F S8192x11264 .f32) (main_arg1 : FVec F S5632x2048 .f32) (main_arg2 : FVec F S8192x2048 .f32) : IVec S8192x11264 1 × IVec S5632x2048 1 × IVec S8192x2048 1 :=
  let main_v0 : FVec F S8192x11264 .f32 := Host.absf main_arg0
  let main_cst : FVec F S_ .f32 := constant S_ .f32 0x7F800000#32
  let main_v1 : FVec F S8192x11264 .f32 := broadcastInDim S8192x11264 ![] bcast_S_S8192x11264 main_cst
  let main_v2 : IVec S8192x11264 1 := cmpf .olt main_v0 main_v1
  let main_v3 : FVec F S5632x2048 .f32 := Host.absf main_arg1
  let main_cst_0 : FVec F S_ .f32 := constant S_ .f32 0x7F800000#32
  let main_v4 : FVec F S5632x2048 .f32 := broadcastInDim S5632x2048 ![] bcast_S_S5632x2048 main_cst_0
  let main_v5 : IVec S5632x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  (main_v2, main_v5, main_v8)
-- ==== Pre_finite_in.lean ====
abbrev S8192x2048 : Shape := ⟨2, ![8192, 2048]⟩
abbrev S2048x11264 : Shape := ⟨2, ![2048, 11264]⟩
abbrev S_ : Shape := ⟨0, ![]⟩

class Facts : Prop where
  bcast_S_S8192x2048 : S_.BroadcastsInDim S8192x2048 (![] : Fin 0 → Fin S8192x2048.rank)
  bcast_S_S2048x11264 : S_.BroadcastsInDim S2048x11264 (![] : Fin 0 → Fin S2048x11264.rank)

variable [Facts]

def fn {F : FTy → Type} [FloatOps F] (main_arg0 : FVec F S8192x2048 .f32) (main_arg1 : FVec F S2048x11264 .f32) : IVec S8192x2048 1 × IVec S2048x11264 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048x11264 .f32 := Host.absf main_arg1
  let main_cst_0 : FVec F S_ .f32 := constant S_ .f32 0x7F800000#32
  let main_v4 : FVec F S2048x11264 .f32 := broadcastInDim S2048x11264 ![] bcast_S_S2048x11264 main_cst_0
  let main_v5 : IVec S2048x11264 1 := cmpf .olt main_v3 main_v4
  (main_v2, main_v5)
-- ==== Pre_finite_qk.lean ====
abbrev S8192x8x192 : Shape := ⟨3, ![8192, 8, 192]⟩
abbrev S8448x8x192 : Shape := ⟨3, ![8448, 8, 192]⟩
abbrev S8448x8x128 : Shape := ⟨3, ![8448, 8, 128]⟩
abbrev S_ : Shape := ⟨0, ![]⟩

class Facts : Prop where
  bcast_S_S8192x8x192 : S_.BroadcastsInDim S8192x8x192 (![] : Fin 0 → Fin S8192x8x192.rank)
  bcast_S_S8448x8x192 : S_.BroadcastsInDim S8448x8x192 (![] : Fin 0 → Fin S8448x8x192.rank)

variable [Facts]

def fn {F : FTy → Type} [FloatOps F] (main_arg0 : FVec F S8192x8x192 .f32) (main_arg1 : FVec F S8448x8x192 .f32) (main_arg2 : FVec F S8448x8x128 .f32) : IVec S8192x8x192 1 × IVec S8448x8x192 1 :=
  let main_v0 : FVec F S8192x8x192 .f32 := Host.absf main_arg0
  let main_cst : FVec F S_ .f32 := constant S_ .f32 0x7F800000#32
  let main_v1 : FVec F S8192x8x192 .f32 := broadcastInDim S8192x8x192 ![] bcast_S_S8192x8x192 main_cst
  let main_v2 : IVec S8192x8x192 1 := cmpf .olt main_v0 main_v1
  let main_v3 : FVec F S8448x8x192 .f32 := Host.absf main_arg1
  let main_cst_0 : FVec F S_ .f32 := constant S_ .f32 0x7F800000#32
  let main_v4 : FVec F S8448x8x192 .f32 := broadcastInDim S8448x8x192 ![] bcast_S_S8448x8x192 main_cst_0
  let main_v5 : IVec S8448x8x192 1 := cmpf .olt main_v3 main_v4
  (main_v2, main_v5)
-- ==== Kernel.lean ====
abbrev S8192x8x192 : Shape := ⟨3, ![8192, 8, 192]⟩
abbrev S8448x8x192 : Shape := ⟨3, ![8448, 8, 192]⟩
abbrev S8448x8x128 : Shape := ⟨3, ![8448, 8, 128]⟩
abbrev S8192x1024 : Shape := ⟨2, ![8192, 1024]⟩
abbrev S8x8192x192 : Shape := ⟨3, ![8, 8192, 192]⟩
abbrev S_ : Shape := ⟨0, ![]⟩
abbrev S8x8192x256 : Shape := ⟨3, ![8, 8192, 256]⟩
abbrev S8x8448x192 : Shape := ⟨3, ![8, 8448, 192]⟩
abbrev S8x8448x256 : Shape := ⟨3, ![8, 8448, 256]⟩
abbrev S8x8448x128 : Shape := ⟨3, ![8, 8448, 128]⟩
abbrev S8x8192x8448 : Shape := ⟨3, ![8, 8192, 8448]⟩
abbrev S8x8192 : Shape := ⟨2, ![8, 8192]⟩
abbrev S8x8192x1 : Shape := ⟨3, ![8, 8192, 1]⟩
abbrev S8x1x8192 : Shape := ⟨3, ![8, 1, 8192]⟩
abbrev S8x128x8192 : Shape := ⟨3, ![8, 128, 8192]⟩
abbrev S8192x8x128 : Shape := ⟨3, ![8192, 8, 128]⟩
abbrev S8192x8 : Shape := ⟨2, ![8192, 8]⟩
abbrev S8x256x8448 : Shape := ⟨3, ![8, 256, 8448]⟩
abbrev S8x256x8192 : Shape := ⟨3, ![8, 256, 8192]⟩
abbrev S1x2048x256 : Shape := ⟨3, ![1, 2048, 256]⟩
abbrev S1x1408x256 : Shape := ⟨3, ![1, 1408, 256]⟩
abbrev S1x256x1408 : Shape := ⟨3, ![1, 256, 1408]⟩
abbrev S1x1408x128 : Shape := ⟨3, ![1, 1408, 128]⟩
abbrev S2048x128 : Shape := ⟨2, ![2048, 128]⟩
abbrev S1x1x2048 : Shape := ⟨3, ![1, 1, 2048]⟩
abbrev S1x256x8192 : Shape := ⟨3, ![1, 256, 8192]⟩
abbrev S1408x256 : Shape := ⟨2, ![1408, 256]⟩
abbrev S1408x128 : Shape := ⟨2, ![1408, 128]⟩
abbrev S2048x256 : Shape := ⟨2, ![2048, 256]⟩
abbrev S1x2048 : Shape := ⟨2, ![1, 2048]⟩
abbrev S1408x2048 : Shape := ⟨2, ![1408, 2048]⟩
abbrev S1x192x1408 : Shape := ⟨3, ![1, 192, 1408]⟩
abbrev S192x1408 : Shape := ⟨2, ![192, 1408]⟩
abbrev S192x2048 : Shape := ⟨2, ![192, 2048]⟩
abbrev S1x192x2048 : Shape := ⟨3, ![1, 192, 2048]⟩
abbrev S64x2048 : Shape := ⟨2, ![64, 2048]⟩
abbrev S1x64x2048 : Shape := ⟨3, ![1, 64, 2048]⟩

abbrev nBuf : Space → Nat
  | .hbm => 60
  | .vmem => 22
  | .smem => 0
  | _ => 0

abbrev bufTy : (tb : Table) → Fin (tcTables nBuf tb) → BufTy
  | .hbm, ⟨0, _⟩ => ⟨S8192x8x192, .f32⟩
  | .hbm, ⟨1, _⟩ => ⟨S8448x8x192, .f32⟩
  | .hbm, ⟨2, _⟩ => ⟨S8448x8x128, .f32⟩
  | .hbm, ⟨3, _⟩ => ⟨S8192x1024, .f32⟩
  | .hbm, ⟨4, _⟩ => ⟨S8x8192x192, .f32⟩
  | .hbm, ⟨5, _⟩ => ⟨S_, .i32⟩
  | .hbm, ⟨6, _⟩ => ⟨S_, .f32⟩
  | .hbm, ⟨7, _⟩ => ⟨S8x8192x256, .f32⟩
  | .hbm, ⟨8, _⟩ => ⟨S8x8192x256, .bf16⟩
  | .hbm, ⟨9, _⟩ => ⟨S8x8448x192, .f32⟩
  | .hbm, ⟨10, _⟩ => ⟨S_, .i32⟩
  | .hbm, ⟨11, _⟩ => ⟨S_, .f32⟩
  | .hbm, ⟨12, _⟩ => ⟨S8x8448x256, .f32⟩
  | .hbm, ⟨13, _⟩ => ⟨S8x8448x256, .bf16⟩
  | .hbm, ⟨14, _⟩ => ⟨S8x8448x128, .f32⟩
  | .hbm, ⟨15, _⟩ => ⟨S8x8448x128, .bf16⟩
  | .hbm, ⟨16, _⟩ => ⟨S_, .f32⟩
  | .hbm, ⟨17, _⟩ => ⟨S_, .f32⟩
  | .hbm, ⟨18, _⟩ => ⟨S8192x8x192, .f32⟩
  | .hbm, ⟨19, _⟩ => ⟨S8192x8x192, .f32⟩
  | .hbm, ⟨20, _⟩ => ⟨S8x8192x8448, .f32⟩
  | .hbm, ⟨21, _⟩ => ⟨S_, .f32⟩
  | .hbm, ⟨22, _⟩ => ⟨S8x8192, .f32⟩
  | .hbm, ⟨23, _⟩ => ⟨S8x8192x1, .f32⟩
  | .hbm, ⟨24, _⟩ => ⟨S8x8192x8448, .f32⟩
  | .hbm, ⟨25, _⟩ => ⟨S8x8192x8448, .f32⟩
  | .hbm, ⟨26, _⟩ => ⟨S8x8192x8448, .f32⟩
  | .hbm, ⟨27, _⟩ => ⟨S_, .f32⟩
  | .hbm, ⟨28, _⟩ => ⟨S8x8192, .f32⟩
  | .hbm, ⟨29, _⟩ => ⟨S8x8192x1, .f32⟩
  | .hbm, ⟨30, _⟩ => ⟨S8x8192x1, .f32⟩
  | .hbm, ⟨31, _⟩ => ⟨S8x8192x1, .f32⟩
  | .hbm, ⟨32, _⟩ => ⟨S8x1x8192, .f32⟩
  | .hbm, ⟨33, _⟩ => ⟨S_, .f32⟩
  | .hbm, ⟨34, _⟩ => ⟨S8x8192, .f32⟩
  | .hbm, ⟨35, _⟩ => ⟨S_, .f32⟩
  | .hbm, ⟨36, _⟩ => ⟨S8x8192, .f32⟩
  | .hbm, ⟨37, _⟩ => ⟨S8x8192, .f32⟩
  | .hbm, ⟨38, _⟩ => ⟨S8x8192x1, .f32⟩
  | .hbm, ⟨39, _⟩ => ⟨S8x8192x8448, .f32⟩
  | .hbm, ⟨40, _⟩ => ⟨S8x8192x8448, .f32⟩
  | .hbm, ⟨41, _⟩ => ⟨S8x8192x8448, .f32⟩
  | .hbm, ⟨42, _⟩ => ⟨S_, .f32⟩
  | .hbm, ⟨43, _⟩ => ⟨S8x8192, .f32⟩
  | .hbm, ⟨44, _⟩ => ⟨S8x8192x1, .f32⟩
  | .hbm, ⟨45, _⟩ => ⟨S8x8192x8448, .f32⟩
  | .hbm, ⟨46, _⟩ => ⟨S8x8192x8448, .f32⟩
  | .hbm, ⟨47, _⟩ => ⟨S8x128x8192, .f32⟩
  | .hbm, ⟨48, _⟩ => ⟨S8192x8x128, .f32⟩
  | .hbm, ⟨49, _⟩ => ⟨S8192x8x128, .f32⟩
  | .hbm, ⟨50, _⟩ => ⟨S8192x8x128, .f32⟩
  | .hbm, ⟨51, _⟩ => ⟨S_, .f32⟩
  | .hbm, ⟨52, _⟩ => ⟨S8192x8, .f32⟩
  | .hbm, ⟨53, _⟩ => ⟨S8x8192, .f32⟩
  | .hbm, ⟨54, _⟩ => ⟨S8x1x8192, .f32⟩
  | .hbm, ⟨55, _⟩ => ⟨S8x256x8448, .bf16⟩
  | .hbm, ⟨56, _⟩ => ⟨S8192x1024, .bf16⟩
  | .hbm, ⟨57, _⟩ => ⟨S8x256x8192, .f32⟩
  | .hbm, ⟨58, _⟩ => ⟨S8x8448x256, .bf16⟩
  | .hbm, ⟨59, _⟩ => ⟨S8x8448x128, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x1408x256, .bf16⟩
  | .local _ .vmem, ⟨3, _⟩ => ⟨S1x1408x256, .bf16⟩
  | .local _ .vmem, ⟨4, _⟩ => ⟨S1x256x1408, .bf16⟩
  | .local _ .vmem, ⟨5, _⟩ => ⟨S1x256x1408, .bf16⟩
  | .local _ .vmem, ⟨6, _⟩ => ⟨S1x1408x128, .bf16⟩
  | .local _ .vmem, ⟨7, _⟩ => ⟨S1x1408x128, .bf16⟩
  | .local _ .vmem, ⟨8, _⟩ => ⟨S2048x128, .bf16⟩
  | .local _ .vmem, ⟨9, _⟩ => ⟨S2048x128, .bf16⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x256x8192, .f32⟩
  | .local _ .vmem, ⟨15, _⟩ => ⟨S1x256x8192, .f32⟩
  | .local _ .vmem, ⟨16, _⟩ => ⟨S1x1408x256, .bf16⟩
  | .local _ .vmem, ⟨17, _⟩ => ⟨S1x1408x256, .bf16⟩
  | .local _ .vmem, ⟨18, _⟩ => ⟨S1x1408x128, .bf16⟩
  | .local _ .vmem, ⟨19, _⟩ => ⟨S1x1408x128, .bf16⟩
  | .local _ .vmem, ⟨20, _⟩ => ⟨S1408x256, .f32⟩
  | .local _ .vmem, ⟨21, _⟩ => ⟨S1408x128, .f32⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42_0 : Ref sig .tc := ⟨.hbm, 57, rfl⟩
abbrev main_v42_1 : Ref sig .tc := ⟨.hbm, 58, rfl⟩
abbrev main_v42_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 6, 4], ![false, false, false]⟩

def k0_mult1 (i : grid0.Coords) : BitVec 32 :=
  let arg2 : BitVec 32 := BitVec.ofNat 32 (i 2).val
  let c2048_i32 : BitVec 32 := 2048#32
  let v45 : BitVec 32 := Scalar.muli arg2 c2048_i32
  v45
def k0_cond2 (i : grid0.Coords) : BitVec 1 :=
  let arg1 : BitVec 32 := BitVec.ofNat 32 (i 1).val
  let c0_i32_34 : BitVec 32 := 0#32
  let v47 : BitVec 1 := Scalar.cmpi .eq arg1 c0_i32_34
  let v48 : BitVec 32 := Scalar.extui v47
  let c0_i32_35 : BitVec 32 := 0#32
  let v49 : BitVec 1 := Scalar.cmpi .ne v48 c0_i32_35
  v49

def k0_off1 (i : grid0.Coords) : Fin 3 → Nat :=
  let c0_39 : Index := 0#32
  let c0_40 : Index := 0#32
  let arg2 : BitVec 32 := BitVec.ofNat 32 (i 2).val
  let c2048_i32 : BitVec 32 := 2048#32
  let v45 : BitVec 32 := Scalar.muli arg2 c2048_i32
  let v46 : BitVec 32 := v45
  let v56 : Index := Scalar.indexCast v46
  ![0, 0, v56.toNat]
def k0_off2 (i : grid0.Coords) : Fin 3 → Nat :=
  let c0_42 : Index := 0#32
  let c192 : Index := 192#32
  let arg2 : BitVec 32 := BitVec.ofNat 32 (i 2).val
  let c2048_i32 : BitVec 32 := 2048#32
  let v45 : BitVec 32 := Scalar.muli arg2 c2048_i32
  let v46 : BitVec 32 := v45
  let v61 : Index := Scalar.indexCast v46
  ![0, 192, v61.toNat]
def k0_cond3 (i : grid0.Coords) : BitVec 1 :=
  let arg1 : BitVec 32 := BitVec.ofNat 32 (i 1).val
  let c0_i32_36 : BitVec 32 := 0#32
  let v50 : BitVec 1 := Scalar.cmpi .sgt arg1 c0_i32_36
  let v51 : BitVec 32 := Scalar.extui v50
  let c0_i32_37 : BitVec 32 := 0#32
  let v52 : BitVec 1 := Scalar.cmpi .ne v51 c0_i32_37
  v52

def k0_off3 (i : grid0.Coords) : Fin 3 → Nat :=
  let c0_39 : Index := 0#32
  let c0_40 : Index := 0#32
  let arg2 : BitVec 32 := BitVec.ofNat 32 (i 2).val
  let c2048_i32 : BitVec 32 := 2048#32
  let v45 : BitVec 32 := Scalar.muli arg2 c2048_i32
  let v46 : BitVec 32 := v45
  let v56 : Index := Scalar.indexCast v46
  ![0, 0, v56.toNat]
def k0_cond4 (i : grid0.Coords) : BitVec 1 :=
  let arg2 : BitVec 32 := BitVec.ofNat 32 (i 2).val
  let c3_i32 : BitVec 32 := 3#32
  let v53 : BitVec 1 := Scalar.cmpi .eq arg2 c3_i32
  let v54 : BitVec 32 := Scalar.extui v53
  let c0_i32_38 : BitVec 32 := 0#32
  let v55 : BitVec 1 := Scalar.cmpi .ne v54 c0_i32_38
  v55

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1408x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x256x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1408x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1408x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== ReferenceIdeal.lean ====
abbrev S8192x8x192 : Shape := ⟨3, ![8192, 8, 192]⟩
abbrev S8448x8x192 : Shape := ⟨3, ![8448, 8, 192]⟩
abbrev S8448x8x128 : Shape := ⟨3, ![8448, 8, 128]⟩
abbrev S8192x1024 : Shape := ⟨2, ![8192, 1024]⟩
abbrev S_ : Shape := ⟨0, ![]⟩
abbrev S8x8192x8448 : Shape := ⟨3, ![8, 8192, 8448]⟩
abbrev S8x8192 : Shape := ⟨2, ![8, 8192]⟩
abbrev S8x8192x1 : Shape := ⟨3, ![8, 8192, 1]⟩
abbrev S8x128x8192 : Shape := ⟨3, ![8, 128, 8192]⟩
abbrev S8192x8x128 : Shape := ⟨3, ![8192, 8, 128]⟩
abbrev S8x128x8448 : Shape := ⟨3, ![8, 128, 8448]⟩
abbrev S8x8448x192 : Shape := ⟨3, ![8, 8448, 192]⟩
abbrev S8x8192x192 : Shape := ⟨3, ![8, 8192, 192]⟩
abbrev S8x8192x256 : Shape := ⟨3, ![8, 8192, 256]⟩
abbrev S8x256x8192 : Shape := ⟨3, ![8, 256, 8192]⟩
abbrev S8x8448x256 : Shape := ⟨3, ![8, 8448, 256]⟩
abbrev S8x8448x128 : Shape := ⟨3, ![8, 8448, 128]⟩

abbrev nBuf : Space → Nat
  | .hbm => 85
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8448x8x192, .f32⟩
  | .hbm, ⟨2, _⟩ => ⟨S8448x8x128, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S8192x8x192, .f32⟩
  | .hbm, ⟨7, _⟩ => ⟨S8192x8x192, .f32⟩
  | .hbm, ⟨8, _⟩ => ⟨S8x8192x8448, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S8x8192x8448, .f32⟩
  | .hbm, ⟨13, _⟩ => ⟨S8x8192x8448, .i1⟩
  | .hbm, ⟨14, _⟩ => ⟨S8x8192x8448, .f32⟩
  | .hbm, ⟨15, _⟩ => ⟨S_, .f32⟩
  | .hbm, ⟨16, _⟩ => ⟨S8x8192, .f32⟩
  | .hbm, ⟨17, _⟩ => ⟨S_, .f32⟩
  | .hbm, ⟨18, _⟩ => ⟨S8x8192, .f32⟩
  | .hbm, ⟨19, _⟩ => ⟨S8x8192, .f32⟩
  | .hbm, ⟨20, _⟩ => ⟨S_, .f32⟩
  | .hbm, ⟨21, _⟩ => ⟨S8x8192, .f32⟩
  | .hbm, ⟨22, _⟩ => ⟨S8x8192, .i1⟩
  | .hbm, ⟨23, _⟩ => ⟨S_, .f32⟩
  | .hbm, ⟨24, _⟩ => ⟨S8x8192, .f32⟩
  | .hbm, ⟨25, _⟩ => ⟨S8x8192, .i1⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S8x8192, .f32⟩
  | .hbm, ⟨34, _⟩ => ⟨S8x8192x1, .f32⟩
  | .hbm, ⟨35, _⟩ => ⟨S8x8192x8448, .f32⟩
  | .hbm, ⟨36, _⟩ => ⟨S8x8192x8448, .f32⟩
  | .hbm, ⟨37, _⟩ => ⟨S8x8192x8448, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x8448, .f32⟩
  | .hbm, ⟨42, _⟩ => ⟨S8x8192x8448, .f32⟩
  | .hbm, ⟨43, _⟩ => ⟨S8x8192x1, .f32⟩
  | .hbm, ⟨44, _⟩ => ⟨S_, .f32⟩
  | .hbm, ⟨45, _⟩ => ⟨S8x8192x1, .f32⟩
  | .hbm, ⟨46, _⟩ => ⟨S8x8192x1, .f32⟩
  | .hbm, ⟨47, _⟩ => ⟨S8x128x8192, .f32⟩
  | .hbm, ⟨48, _⟩ => ⟨S8192x8x128, .f32⟩
  | .hbm, ⟨49, _⟩ => ⟨S8192x1024, .f32⟩
  | .hbm, ⟨50, _⟩ => ⟨S8192x8x128, .f32⟩
  | .hbm, ⟨51, _⟩ => ⟨S8x128x8192, .f32⟩
  | .hbm, ⟨52, _⟩ => ⟨S8x8192x8448, .f32⟩
  | .hbm, ⟨53, _⟩ => ⟨S8x128x8448, .f32⟩
  | .hbm, ⟨54, _⟩ => ⟨S8448x8x128, .f32⟩
  | .hbm, ⟨55, _⟩ => ⟨S8x8192x8448, .f32⟩
  | .hbm, ⟨56, _⟩ => ⟨S8x8192x8448, .f32⟩
  | .hbm, ⟨57, _⟩ => ⟨S8x8192x8448, .f32⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S8x8192x1, .f32⟩
  | .hbm, ⟨62, _⟩ => ⟨S8x8192x8448, .f32⟩
  | .hbm, ⟨63, _⟩ => ⟨S8x8192x8448, .f32⟩
  | .hbm, ⟨64, _⟩ => ⟨S_, .f32⟩
  | .hbm, ⟨65, _⟩ => ⟨S8x8192, .f32⟩
  | .hbm, ⟨66, _⟩ => ⟨S8x8192x8448, .f32⟩
  | .hbm, ⟨67, _⟩ => ⟨S8x8192x8448, .f32⟩
  | .hbm, ⟨68, _⟩ => ⟨S8x8192x8448, .f32⟩
  | .hbm, ⟨69, _⟩ => ⟨S8x8448x192, .f32⟩
  | .hbm, ⟨70, _⟩ => ⟨S8448x8x192, .f32⟩
  | .hbm, ⟨71, _⟩ => ⟨S8x8192x192, .f32⟩
  | .hbm, ⟨72, _⟩ => ⟨S8192x8x192, .f32⟩
  | .hbm, ⟨73, _⟩ => ⟨S8x8192x192, .f32⟩
  | .hbm, ⟨74, _⟩ => ⟨S_, .i32⟩
  | .hbm, ⟨75, _⟩ => ⟨S_, .f32⟩
  | .hbm, ⟨76, _⟩ => ⟨S8x8192x256, .f32⟩
  | .hbm, ⟨77, _⟩ => ⟨S8x256x8192, .f32⟩
  | .hbm, ⟨78, _⟩ => ⟨S8x8448x192, .f32⟩
  | .hbm, ⟨79, _⟩ => ⟨S_, .i32⟩
  | .hbm, ⟨80, _⟩ => ⟨S_, .f32⟩
  | .hbm, ⟨81, _⟩ => ⟨S8x8448x256, .f32⟩
  | .hbm, ⟨82, _⟩ => ⟨S8x8448x256, .bf16⟩
  | .hbm, ⟨83, _⟩ => ⟨S8x8448x128, .f32⟩
  | .hbm, ⟨84, _⟩ => ⟨S8x8448x128, .bf16⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_11 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c : Ref sig .tc := ⟨.hbm, 74, rfl⟩
abbrev main_call0_v0 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_12 : Ref sig .tc := ⟨.hbm, 79, rfl⟩
abbrev main_call1_v0 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]
-- ==== In.lean ====
abbrev S8192x2048 : Shape := ⟨2, ![8192, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S8192x5632 : Shape := ⟨2, ![8192, 5632]⟩
abbrev S2x8192x5632 : Shape := ⟨3, ![2, 8192, 5632]⟩
abbrev S512x2048 : Shape := ⟨2, ![512, 2048]⟩
abbrev S1x2048x1408 : Shape := ⟨3, ![1, 2048, 1408]⟩
abbrev S512x1408 : Shape := ⟨2, ![512, 1408]⟩
abbrev S2x512x1408 : Shape := ⟨3, ![2, 512, 1408]⟩
abbrev S2048x1408 : Shape := ⟨2, ![2048, 1408]⟩
abbrev S1x512x1408 : Shape := ⟨3, ![1, 512, 1408]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x2048, .bf16⟩
  | .hbm, ⟨3, _⟩ => ⟨S2048x8x1408, .f32⟩
  | .hbm, ⟨4, _⟩ => ⟨S8x2048x1408, .f32⟩
  | .hbm, ⟨5, _⟩ => ⟨S8x2048x1408, .bf16⟩
  | .hbm, ⟨6, _⟩ => ⟨S8192x5632, .bf16⟩
  | .hbm, ⟨7, _⟩ => ⟨S2x8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S2x512x1408, .bf16⟩
  | .local _ .vmem, ⟨9, _⟩ => ⟨S2x512x1408, .bf16⟩
  | .local _ .vmem, ⟨10, _⟩ => ⟨S512x1408, .f32⟩
  | .local _ .vmem, ⟨11, _⟩ => ⟨S512x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 16, 1], ![false, false, false]⟩

def k0_cond2 (i : grid0.Coords) : BitVec 1 :=
  let arg2 : BitVec 32 := BitVec.ofNat 32 (i 2).val
  let c0_i32_19 : BitVec 32 := 0#32
  let v23 : BitVec 1 := Scalar.cmpi .eq arg2 c0_i32_19
  let v24 : BitVec 32 := Scalar.extui v23
  let c0_i32_20 : BitVec 32 := 0#32
  let v25 : BitVec 1 := Scalar.cmpi .ne v24 c0_i32_20
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== InRefIdeal.lean ====
abbrev S8192x2048 : Shape := ⟨2, ![8192, 2048]⟩
abbrev S2048x11264 : Shape := ⟨2, ![2048, 11264]⟩
abbrev S8192x11264 : Shape := ⟨2, ![8192, 11264]⟩
abbrev S8192x5632 : Shape := ⟨2, ![8192, 5632]⟩
abbrev S_ : Shape := ⟨0, ![]⟩
abbrev S1x8192x5632 : Shape := ⟨3, ![1, 8192, 5632]⟩
abbrev S2x8192x5632 : Shape := ⟨3, ![2, 8192, 5632]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x11264, .f32⟩
  | .hbm, ⟨2, _⟩ => ⟨S8192x11264, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S_, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .bf16⟩
  | .hbm, ⟨40, _⟩ => ⟨S1x8192x5632, .f32⟩
  | .hbm, ⟨41, _⟩ => ⟨S1x8192x5632, .f32⟩
  | .hbm, ⟨42, _⟩ => ⟨S2x8192x5632, .f32⟩
  | .hbm, ⟨43, _⟩ => ⟨S2x8192x5632, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call2_v0 : Ref sig .tc := ⟨.hbm, 29, rfl⟩
abbrev main_call2_v1 : Ref sig .tc := ⟨.hbm, 30, rfl⟩
abbrev main_call2_cst : Ref sig .tc := ⟨.hbm, 31, rfl⟩
abbrev main_call2_v2 : Ref sig .tc := ⟨.hbm, 32, rfl⟩
abbrev main_call2_v3 : Ref sig .tc := ⟨.hbm, 33, rfl⟩
abbrev main_call2_cst_0 : Ref sig .tc := ⟨.hbm, 34, rfl⟩
abbrev main_call2_v4 : Ref sig .tc := ⟨.hbm, 35, rfl⟩
abbrev main_call2_v5 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩

abbrev nD : Nat := 1
abbrev τ : Topo := Topo.v7x

variable {F : FTy → Type} [FloatOps F]
-- ==== Out.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S1024x2816 : Shape := ⟨2, ![1024, 2816]⟩
abbrev S2816x1024 : Shape := ⟨2, ![2816, 1024]⟩
abbrev S1024x1024 : Shape := ⟨2, ![1024, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S8192x5632, .bf16⟩
  | .hbm, ⟨5, _⟩ => ⟨S5632x2048, .bf16⟩
  | .hbm, ⟨6, _⟩ => ⟨S8192x2048, .f32⟩
  | .hbm, ⟨7, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Da.lean ====
abbrev S8192x11264 : Shape := ⟨2, ![8192, 11264]⟩
abbrev S5632x2048 : Shape := ⟨2, ![5632, 2048]⟩
abbrev S8192x2048 : Shape := ⟨2, ![8192, 2048]⟩
abbrev S8192x5632 : Shape := ⟨2, ![8192, 5632]⟩
abbrev S_ : Shape := ⟨0, ![]⟩
abbrev S1x8192x5632 : Shape := ⟨3, ![1, 8192, 5632]⟩
abbrev S2x8192x5632 : Shape := ⟨3, ![2, 8192, 5632]⟩
abbrev S512x2048 : Shape := ⟨2, ![512, 2048]⟩
abbrev S1408x2048 : Shape := ⟨2, ![1408, 2048]⟩
abbrev S2x512x1408 : Shape := ⟨3, ![2, 512, 1408]⟩
abbrev S512x512 : Shape := ⟨2, ![512, 512]⟩
abbrev S1x512x512 : Shape := ⟨3, ![1, 512, 512]⟩
abbrev S384x2048 : Shape := ⟨2, ![384, 2048]⟩
abbrev S512x384 : Shape := ⟨2, ![512, 384]⟩
abbrev S1x512x384 : Shape := ⟨3, ![1, 512, 384]⟩

abbrev nBuf : Space → Nat
  | .hbm => 34
  | .vmem => 8
  | .smem => 0
  | _ => 0

abbrev bufTy : (tb : Table) → Fin (tcTables nBuf tb) → BufTy
  | .hbm, ⟨0, _⟩ => ⟨S8192x11264, .f32⟩
  | .hbm, ⟨1, _⟩ => ⟨S5632x2048, .f32⟩
  | .hbm, ⟨2, _⟩ => ⟨S8192x2048, .f32⟩
  | .hbm, ⟨3, _⟩ => ⟨S8192x2048, .bf16⟩
  | .hbm, ⟨4, _⟩ => ⟨S5632x2048, .bf16⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S_, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1x8192x5632, .f32⟩
  | .hbm, ⟨30, _⟩ => ⟨S1x8192x5632, .f32⟩
  | .hbm, ⟨31, _⟩ => ⟨S2x8192x5632, .f32⟩
  | .hbm, ⟨32, _⟩ => ⟨S2x8192x5632, .bf16⟩
  | .hbm, ⟨33, _⟩ => ⟨S2x8192x5632, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DaRefIdeal.lean ====
abbrev S8192x11264 : Shape := ⟨2, ![8192, 11264]⟩
abbrev S5632x2048 : Shape := ⟨2, ![5632, 2048]⟩
abbrev S8192x2048 : Shape := ⟨2, ![8192, 2048]⟩
abbrev S8192x5632 : Shape := ⟨2, ![8192, 5632]⟩
abbrev S_ : Shape := ⟨0, ![]⟩
abbrev S8192x2x5632 : Shape := ⟨3, ![8192, 2, 5632]⟩
abbrev S2x8192x5632 : Shape := ⟨3, ![2, 8192, 5632]⟩

abbrev nBuf : Space → Nat
  | .hbm => 31
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S5632x2048, .f32⟩
  | .hbm, ⟨2, _⟩ => ⟨S8192x2048, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x2048, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x11264, .f32⟩
  | .hbm, ⟨28, _⟩ => ⟨S8192x2x5632, .f32⟩
  | .hbm, ⟨29, _⟩ => ⟨S2x8192x5632, .f32⟩
  | .hbm, ⟨30, _⟩ => ⟨S2x8192x5632, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Dwout.lean ====
abbrev S8192x11264 : Shape := ⟨2, ![8192, 11264]⟩
abbrev S8192x2048 : Shape := ⟨2, ![8192, 2048]⟩
abbrev S8192x5632 : Shape := ⟨2, ![8192, 5632]⟩
abbrev S_ : Shape := ⟨0, ![]⟩
abbrev S5632x2048 : Shape := ⟨2, ![5632, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 17
  | .vmem => 7
  | .smem => 0
  | _ => 0

abbrev bufTy : (tb : Table) → Fin (tcTables nBuf tb) → BufTy
  | .hbm, ⟨0, _⟩ => ⟨S8192x11264, .f32⟩
  | .hbm, ⟨1, _⟩ => ⟨S8192x2048, .f32⟩
  | .hbm, ⟨2, _⟩ => ⟨S8192x5632, .f32⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S8192x5632, .f32⟩
  | .hbm, ⟨13, _⟩ => ⟨S8192x5632, .f32⟩
  | .hbm, ⟨14, _⟩ => ⟨S8192x5632, .bf16⟩
  | .hbm, ⟨15, _⟩ => ⟨S8192x2048, .bf16⟩
  | .hbm, ⟨16, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoutRefIdeal.lean ====
abbrev S8192x11264 : Shape := ⟨2, ![8192, 11264]⟩
abbrev S8192x2048 : Shape := ⟨2, ![8192, 2048]⟩
abbrev S_ : Shape := ⟨0, ![]⟩
abbrev S5632x2048 : Shape := ⟨2, ![5632, 2048]⟩
abbrev S8192x5632 : Shape := ⟨2, ![8192, 5632]⟩
abbrev S2048x5632 : Shape := ⟨2, ![2048, 5632]⟩

abbrev nBuf : Space → Nat
  | .hbm => 20
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S8192x2048, .f32⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x2048, .f32⟩
  | .hbm, ⟨17, _⟩ => ⟨S2048x5632, .f32⟩
  | .hbm, ⟨18, _⟩ => ⟨S5632x2048, .f32⟩
  | .hbm, ⟨19, _⟩ => ⟨S5632x2048, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== DwoutAdd.lean ====
abbrev S8192x11264 : Shape := ⟨2, ![8192, 11264]⟩
abbrev S8192x2048 : Shape := ⟨2, ![8192, 2048]⟩
abbrev S5632x2048 : Shape := ⟨2, ![5632, 2048]⟩
abbrev S8192x5632 : Shape := ⟨2, ![8192, 5632]⟩
abbrev S_ : Shape := ⟨0, ![]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 19
  | .vmem => 9
  | .smem => 0
  | _ => 0

abbrev bufTy : (tb : Table) → Fin (tcTables nBuf tb) → BufTy
  | .hbm, ⟨0, _⟩ => ⟨S8192x11264, .f32⟩
  | .hbm, ⟨1, _⟩ => ⟨S8192x2048, .f32⟩
  | .hbm, ⟨2, _⟩ => ⟨S5632x2048, .f32⟩
  | .hbm, ⟨3, _⟩ => ⟨S5632x2048, .bf16⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S_, .f32⟩
  | .hbm, ⟨9, _⟩ => ⟨S8192x5632, .f32⟩
  | .hbm, ⟨10, _⟩ => ⟨S8192x5632, .f32⟩
  | .hbm, ⟨11, _⟩ => ⟨S_, .f32⟩
  | .hbm, ⟨12, _⟩ => ⟨S8192x5632, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .bf16⟩
  | .hbm, ⟨17, _⟩ => ⟨S8192x2048, .bf16⟩
  | .hbm, ⟨18, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .bf16⟩
  | .local _ .vmem, ⟨7, _⟩ => ⟨S1408x2048, .bf16⟩
  | .local _ .vmem, ⟨8, _⟩ => ⟨S1408x2048, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DwoutAddRefIdeal.lean ====
abbrev S8192x11264 : Shape := ⟨2, ![8192, 11264]⟩
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩
abbrev S2048x5632 : Shape := ⟨2, ![2048, 5632]⟩

abbrev nBuf : Space → Nat
  | .hbm => 22
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S8192x2048, .f32⟩
  | .hbm, ⟨2, _⟩ => ⟨S5632x2048, .f32⟩
  | .hbm, ⟨3, _⟩ => ⟨S_, .f32⟩
  | .hbm, ⟨4, _⟩ => ⟨S5632x2048, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x2048, .f32⟩
  | .hbm, ⟨18, _⟩ => ⟨S2048x5632, .f32⟩
  | .hbm, ⟨19, _⟩ => ⟨S5632x2048, .f32⟩
  | .hbm, ⟨20, _⟩ => ⟨S5632x2048, .f32⟩
  | .hbm, ⟨21, _⟩ => ⟨S5632x2048, .bf16⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Dh.lean ====
abbrev S8192x11264 : Shape := ⟨2, ![8192, 11264]⟩
abbrev S2048x11264 : Shape := ⟨2, ![2048, 11264]⟩
abbrev S8192x2x5632 : Shape := ⟨3, ![8192, 2, 5632]⟩
abbrev S2x8192x5632 : Shape := ⟨3, ![2, 8192, 5632]⟩
abbrev S2048x8x1408 : Shape := ⟨3, ![2048, 8, 1408]⟩
abbrev S8x2048x1408 : Shape := ⟨3, ![8, 2048, 1408]⟩
abbrev S8192x2048 : Shape := ⟨2, ![8192, 2048]⟩
abbrev S1x512x1408 : Shape := ⟨3, ![1, 512, 1408]⟩
abbrev S1x2048x1408 : Shape := ⟨3, ![1, 2048, 1408]⟩
abbrev S512x2048 : Shape := ⟨2, ![512, 2048]⟩
abbrev S512x1408 : Shape := ⟨2, ![512, 1408]⟩
abbrev S2048x1408 : Shape := ⟨2, ![2048, 1408]⟩

abbrev nBuf : Space → Nat
  | .hbm => 9
  | .vmem => 11
  | .smem => 0
  | _ => 0

abbrev bufTy : (tb : Table) → Fin (tcTables nBuf tb) → BufTy
  | .hbm, ⟨0, _⟩ => ⟨S8192x11264, .f32⟩
  | .hbm, ⟨1, _⟩ => ⟨S2048x11264, .f32⟩
  | .hbm, ⟨2, _⟩ => ⟨S8192x2x5632, .f32⟩
  | .hbm, ⟨3, _⟩ => ⟨S2x8192x5632, .f32⟩
  | .hbm, ⟨4, _⟩ => ⟨S2x8192x5632, .bf16⟩
  | .hbm, ⟨5, _⟩ => ⟨S2048x8x1408, .f32⟩
  | .hbm, ⟨6, _⟩ => ⟨S8x2048x1408, .f32⟩
  | .hbm, ⟨7, _⟩ => ⟨S8x2048x1408, .bf16⟩
  | .hbm, ⟨8, _⟩ => ⟨S8192x2048, .f32⟩
  | .local _ .vmem, ⟨0, _⟩ => ⟨S1x512x1408, .bf16⟩
  | .local _ .vmem, ⟨1, _⟩ => ⟨S1x512x1408, .bf16⟩
  | .local _ .vmem, ⟨2, _⟩ => ⟨S1x512x1408, .bf16⟩
  | .local _ .vmem, ⟨3, _⟩ => ⟨S1x512x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S8192x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 1, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_21 : BitVec 32 := 0#32
  let v25 : BitVec 1 := Scalar.cmpi .ne v24 c0_i32_21
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]
-- ==== DhRefIdeal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x11264, .f32⟩
  | .hbm, ⟨1, _⟩ => ⟨S2048x11264, .f32⟩
  | .hbm, ⟨2, _⟩ => ⟨S_, .f32⟩
  | .hbm, ⟨3, _⟩ => ⟨S8192x2048, .f32⟩
  | .hbm, ⟨4, _⟩ => ⟨S8192x11264, .f32⟩
  | .hbm, ⟨5, _⟩ => ⟨S8192x2048, .f32⟩
  | _, _ => ⟨S8192x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dwin.lean ====
abbrev S8192x2048 : Shape := ⟨2, ![8192, 2048]⟩
abbrev S8192x11264 : Shape := ⟨2, ![8192, 11264]⟩
abbrev S8192x2x5632 : Shape := ⟨3, ![8192, 2, 5632]⟩
abbrev S2x8192x5632 : Shape := ⟨3, ![2, 8192, 5632]⟩
abbrev S8x2048x1408 : Shape := ⟨3, ![8, 2048, 1408]⟩
abbrev S1024x2048 : Shape := ⟨2, ![1024, 2048]⟩
abbrev S1x1024x1408 : Shape := ⟨3, ![1, 1024, 1408]⟩
abbrev S1x2048x1408 : Shape := ⟨3, ![1, 2048, 1408]⟩
abbrev S2048x1408 : Shape := ⟨2, ![2048, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S8192x2048, .bf16⟩
  | .hbm, ⟨3, _⟩ => ⟨S8192x2x5632, .f32⟩
  | .hbm, ⟨4, _⟩ => ⟨S2x8192x5632, .f32⟩
  | .hbm, ⟨5, _⟩ => ⟨S2x8192x5632, .bf16⟩
  | .hbm, ⟨6, _⟩ => ⟨S8x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S2048x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwinRefIdeal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S_, .f32⟩
  | .hbm, ⟨3, _⟩ => ⟨S2048x11264, .f32⟩
  | .hbm, ⟨4, _⟩ => ⟨S8192x11264, .f32⟩
  | .hbm, ⟨5, _⟩ => ⟨S11264x2048, .f32⟩
  | .hbm, ⟨6, _⟩ => ⟨S2048x11264, .f32⟩
  | .hbm, ⟨7, _⟩ => ⟨S2048x8x1408, .f32⟩
  | .hbm, ⟨8, _⟩ => ⟨S8x2048x1408, .f32⟩
  | .hbm, ⟨9, _⟩ => ⟨S8x2048x1408, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwinAdd.lean ====
abbrev S8192x2048 : Shape := ⟨2, ![8192, 2048]⟩
abbrev S8192x11264 : Shape := ⟨2, ![8192, 11264]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S8192x2x5632 : Shape := ⟨3, ![8192, 2, 5632]⟩
abbrev S2x8192x5632 : Shape := ⟨3, ![2, 8192, 5632]⟩
abbrev S1024x2048 : Shape := ⟨2, ![1024, 2048]⟩
abbrev S1x1024x1408 : Shape := ⟨3, ![1, 1024, 1408]⟩
abbrev S1x2048x1408 : Shape := ⟨3, ![1, 2048, 1408]⟩
abbrev S2048x1408 : Shape := ⟨2, ![2048, 1408]⟩
abbrev S1024x1408 : Shape := ⟨2, ![1024, 1408]⟩

abbrev nBuf : Space → Nat
  | .hbm => 11
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S2048x11264, .f32⟩
  | .hbm, ⟨3, _⟩ => ⟨S2048x8x1408, .f32⟩
  | .hbm, ⟨4, _⟩ => ⟨S8x2048x1408, .f32⟩
  | .hbm, ⟨5, _⟩ => ⟨S8x2048x1408, .bf16⟩
  | .hbm, ⟨6, _⟩ => ⟨S8192x2048, .bf16⟩
  | .hbm, ⟨7, _⟩ => ⟨S8192x2x5632, .f32⟩
  | .hbm, ⟨8, _⟩ => ⟨S2x8192x5632, .f32⟩
  | .hbm, ⟨9, _⟩ => ⟨S2x8192x5632, .bf16⟩
  | .hbm, ⟨10, _⟩ => ⟨S8x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S2048x1408, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== DwinAddRefIdeal.lean ====
abbrev S8192x2048 : Shape := ⟨2, ![8192, 2048]⟩
abbrev S8192x11264 : Shape := ⟨2, ![8192, 11264]⟩
abbrev S2048x11264 : Shape := ⟨2, ![2048, 11264]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x11264, .f32⟩
  | .hbm, ⟨2, _⟩ => ⟨S2048x11264, .f32⟩
  | .hbm, ⟨3, _⟩ => ⟨S_, .f32⟩
  | .hbm, ⟨4, _⟩ => ⟨S2048x11264, .f32⟩
  | .hbm, ⟨5, _⟩ => ⟨S8192x11264, .f32⟩
  | .hbm, ⟨6, _⟩ => ⟨S11264x2048, .f32⟩
  | .hbm, ⟨7, _⟩ => ⟨S2048x11264, .f32⟩
  | .hbm, ⟨8, _⟩ => ⟨S2048x11264, .f32⟩
  | .hbm, ⟨9, _⟩ => ⟨S2048x8x1408, .f32⟩
  | .hbm, ⟨10, _⟩ => ⟨S8x2048x1408, .f32⟩
  | .hbm, ⟨11, _⟩ => ⟨S8x2048x1408, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== MixMm.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x2048, .bf16⟩
  | .hbm, ⟨3, _⟩ => ⟨S2048x4096, .bf16⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixMmRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixDh.lean ====
abbrev S8192x4096 : Shape := ⟨2, ![8192, 4096]⟩
abbrev S2048x4096 : Shape := ⟨2, ![2048, 4096]⟩
abbrev S8192x2048 : Shape := ⟨2, ![8192, 2048]⟩
abbrev S512x2048 : Shape := ⟨2, ![512, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S2048x4096, .bf16⟩
  | .hbm, ⟨3, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDhRefIdeal.lean ====
abbrev S8192x4096 : Shape := ⟨2, ![8192, 4096]⟩
abbrev S2048x4096 : Shape := ⟨2, ![2048, 4096]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2048x4096, .f32⟩
  | .hbm, ⟨2, _⟩ => ⟨S_, .f32⟩
  | .hbm, ⟨3, _⟩ => ⟨S8192x2048, .f32⟩
  | .hbm, ⟨4, _⟩ => ⟨S8192x4096, .f32⟩
  | .hbm, ⟨5, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixDw.lean ====
abbrev S8192x2048 : Shape := ⟨2, ![8192, 2048]⟩
abbrev S8192x4096 : Shape := ⟨2, ![8192, 4096]⟩
abbrev S2048x4096 : Shape := ⟨2, ![2048, 4096]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S8192x2048, .bf16⟩
  | .hbm, ⟨3, _⟩ => ⟨S2048x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwRefIdeal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S_, .f32⟩
  | .hbm, ⟨3, _⟩ => ⟨S2048x4096, .f32⟩
  | .hbm, ⟨4, _⟩ => ⟨S8192x4096, .f32⟩
  | .hbm, ⟨5, _⟩ => ⟨S4096x2048, .f32⟩
  | .hbm, ⟨6, _⟩ => ⟨S2048x4096, .f32⟩
  | .hbm, ⟨7, _⟩ => ⟨S2048x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixoMm.lean ====
abbrev S8192x2048 : Shape := ⟨2, ![8192, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S8192x2048, .bf16⟩
  | .hbm, ⟨5, _⟩ => ⟨S2048x2048, .bf16⟩
  | .hbm, ⟨6, _⟩ => ⟨S8192x2048, .f32⟩
  | .hbm, ⟨7, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixoMmRefIdeal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== MixoDa.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .bf16⟩
  | .hbm, ⟨3, _⟩ => ⟨S2048x2048, .bf16⟩
  | .hbm, ⟨4, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixoDaRefIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MixoDw.lean ====
abbrev S8192x2048 : Shape := ⟨2, ![8192, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .bf16⟩
  | .hbm, ⟨3, _⟩ => ⟨S8192x2048, .bf16⟩
  | .hbm, ⟨4, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixoDwRefIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UqMm.lean ====
abbrev S8192x512 : Shape := ⟨2, ![8192, 512]⟩
abbrev S512x1536 : Shape := ⟨2, ![512, 1536]⟩
abbrev S8192x1536 : Shape := ⟨2, ![8192, 1536]⟩
abbrev S1024x512 : Shape := ⟨2, ![1024, 512]⟩
abbrev S512x768 : Shape := ⟨2, ![512, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x512, .bf16⟩
  | .hbm, ⟨3, _⟩ => ⟨S512x1536, .bf16⟩
  | .hbm, ⟨4, _⟩ => ⟨S8192x1536, .f32⟩
  | .local _ .vmem, ⟨0, _⟩ => ⟨S1024x512, .bf16⟩
  | .local _ .vmem, ⟨1, _⟩ => ⟨S1024x512, .bf16⟩
  | .local _ .vmem, ⟨2, _⟩ => ⟨S512x768, .bf16⟩
  | .local _ .vmem, ⟨3, _⟩ => ⟨S512x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqMmRefIdeal.lean ====
abbrev S8192x512 : Shape := ⟨2, ![8192, 512]⟩
abbrev S512x1536 : Shape := ⟨2, ![512, 1536]⟩
abbrev S8192x1536 : Shape := ⟨2, ![8192, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1536, .f32⟩
  | .hbm, ⟨2, _⟩ => ⟨S8192x1536, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UqDh.lean ====
abbrev S8192x1536 : Shape := ⟨2, ![8192, 1536]⟩
abbrev S512x1536 : Shape := ⟨2, ![512, 1536]⟩
abbrev S8192x512 : Shape := ⟨2, ![8192, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1536, .f32⟩
  | .hbm, ⟨1, _⟩ => ⟨S512x1536, .f32⟩
  | .hbm, ⟨2, _⟩ => ⟨S512x1536, .bf16⟩
  | .hbm, ⟨3, _⟩ => ⟨S8192x512, .f32⟩
  | .local _ .vmem, ⟨0, _⟩ => ⟨S512x1536, .f32⟩
  | .local _ .vmem, ⟨1, _⟩ => ⟨S512x1536, .f32⟩
  | .local _ .vmem, ⟨2, _⟩ => ⟨S512x1536, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDhRefIdeal.lean ====
abbrev S8192x1536 : Shape := ⟨2, ![8192, 1536]⟩
abbrev S512x1536 : Shape := ⟨2, ![512, 1536]⟩
abbrev S_ : Shape := ⟨0, ![]⟩
abbrev S8192x512 : Shape := ⟨2, ![8192, 512]⟩

abbrev nBuf : Space → Nat
  | .hbm => 6
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S512x1536, .f32⟩
  | .hbm, ⟨2, _⟩ => ⟨S_, .f32⟩
  | .hbm, ⟨3, _⟩ => ⟨S8192x512, .f32⟩
  | .hbm, ⟨4, _⟩ => ⟨S8192x1536, .f32⟩
  | .hbm, ⟨5, _⟩ => ⟨S8192x512, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UqDw.lean ====
abbrev S8192x512 : Shape := ⟨2, ![8192, 512]⟩
abbrev S8192x1536 : Shape := ⟨2, ![8192, 1536]⟩
abbrev S512x1536 : Shape := ⟨2, ![512, 1536]⟩
abbrev S1024x512 : Shape := ⟨2, ![1024, 512]⟩
abbrev S1024x768 : Shape := ⟨2, ![1024, 768]⟩
abbrev S512x768 : Shape := ⟨2, ![512, 768]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x1536, .f32⟩
  | .hbm, ⟨2, _⟩ => ⟨S8192x512, .bf16⟩
  | .hbm, ⟨3, _⟩ => ⟨S512x1536, .bf16⟩
  | .local _ .vmem, ⟨0, _⟩ => ⟨S1024x512, .bf16⟩
  | .local _ .vmem, ⟨1, _⟩ => ⟨S1024x512, .bf16⟩
  | .local _ .vmem, ⟨2, _⟩ => ⟨S1024x768, .f32⟩
  | .local _ .vmem, ⟨3, _⟩ => ⟨S1024x768, .f32⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDwRefIdeal.lean ====
abbrev S8192x512 : Shape := ⟨2, ![8192, 512]⟩
abbrev S8192x1536 : Shape := ⟨2, ![8192, 1536]⟩
abbrev S_ : Shape := ⟨0, ![]⟩
abbrev S512x1536 : Shape := ⟨2, ![512, 1536]⟩
abbrev S1536x512 : Shape := ⟨2, ![1536, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1536, .f32⟩
  | .hbm, ⟨2, _⟩ => ⟨S_, .f32⟩
  | .hbm, ⟨3, _⟩ => ⟨S512x1536, .f32⟩
  | .hbm, ⟨4, _⟩ => ⟨S8192x1536, .f32⟩
  | .hbm, ⟨5, _⟩ => ⟨S1536x512, .f32⟩
  | .hbm, ⟨6, _⟩ => ⟨S512x1536, .f32⟩
  | .hbm, ⟨7, _⟩ => ⟨S512x1536, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UkvMm.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x256, .bf16⟩
  | .hbm, ⟨3, _⟩ => ⟨S256x2048, .bf16⟩
  | .hbm, ⟨4, _⟩ => ⟨S8192x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvMmRefIdeal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .f32⟩
  | .hbm, ⟨2, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UkvDh.lean ====
abbrev S8192x2048 : Shape := ⟨2, ![8192, 2048]⟩
abbrev S256x2048 : Shape := ⟨2, ![256, 2048]⟩
abbrev S8192x256 : Shape := ⟨2, ![8192, 256]⟩
abbrev S512x2048 : Shape := ⟨2, ![512, 2048]⟩
abbrev S512x256 : Shape := ⟨2, ![512, 256]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S256x2048, .bf16⟩
  | .hbm, ⟨3, _⟩ => ⟨S8192x256, .f32⟩
  | .local _ .vmem, ⟨0, _⟩ => ⟨S512x2048, .f32⟩
  | .local _ .vmem, ⟨1, _⟩ => ⟨S512x2048, .f32⟩
  | .local _ .vmem, ⟨2, _⟩ => ⟨S256x2048, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDhRefIdeal.lean ====
abbrev S8192x2048 : Shape := ⟨2, ![8192, 2048]⟩
abbrev S256x2048 : Shape := ⟨2, ![256, 2048]⟩
abbrev S_ : Shape := ⟨0, ![]⟩
abbrev S8192x256 : Shape := ⟨2, ![8192, 256]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S256x2048, .f32⟩
  | .hbm, ⟨2, _⟩ => ⟨S_, .f32⟩
  | .hbm, ⟨3, _⟩ => ⟨S8192x256, .f32⟩
  | .hbm, ⟨4, _⟩ => ⟨S8192x2048, .f32⟩
  | .hbm, ⟨5, _⟩ => ⟨S8192x256, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UkvDw.lean ====
abbrev S8192x256 : Shape := ⟨2, ![8192, 256]⟩
abbrev S8192x2048 : Shape := ⟨2, ![8192, 2048]⟩
abbrev S256x2048 : Shape := ⟨2, ![256, 2048]⟩
abbrev S1024x256 : Shape := ⟨2, ![1024, 256]⟩
abbrev S1024x1024 : Shape := ⟨2, ![1024, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S8192x256, .bf16⟩
  | .hbm, ⟨3, _⟩ => ⟨S256x2048, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .f32⟩
  | .local _ .vmem, ⟨3, _⟩ => ⟨S1024x1024, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDwRefIdeal.lean ====
abbrev S8192x256 : Shape := ⟨2, ![8192, 256]⟩
abbrev S8192x2048 : Shape := ⟨2, ![8192, 2048]⟩
abbrev S_ : Shape := ⟨0, ![]⟩
abbrev S256x2048 : Shape := ⟨2, ![256, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .f32⟩
  | .hbm, ⟨2, _⟩ => ⟨S_, .f32⟩
  | .hbm, ⟨3, _⟩ => ⟨S256x2048, .f32⟩
  | .hbm, ⟨4, _⟩ => ⟨S8192x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== CtxIn.lean ====
abbrev S256x2048 : Shape := ⟨2, ![256, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S256x5632 : Shape := ⟨2, ![256, 5632]⟩
abbrev S2x256x5632 : Shape := ⟨3, ![2, 256, 5632]⟩
abbrev S1x2048x1408 : Shape := ⟨3, ![1, 2048, 1408]⟩
abbrev S256x1408 : Shape := ⟨2, ![256, 1408]⟩
abbrev S2x256x1408 : Shape := ⟨3, ![2, 256, 1408]⟩
abbrev S2048x1408 : Shape := ⟨2, ![2048, 1408]⟩
abbrev S1x256x1408 : Shape := ⟨3, ![1, 256, 1408]⟩

abbrev nBuf : Space → Nat
  | .hbm => 8
  | .vmem => 11
  | .smem => 0
  | _ => 0

abbrev bufTy : (tb : Table) → Fin (tcTables nBuf tb) → BufTy
  | .hbm, ⟨0, _⟩ => ⟨S256x2048, .f32⟩
  | .hbm, ⟨1, _⟩ => ⟨S2048x11264, .f32⟩
  | .hbm, ⟨2, _⟩ => ⟨S256x2048, .bf16⟩
  | .hbm, ⟨3, _⟩ => ⟨S2048x8x1408, .f32⟩
  | .hbm, ⟨4, _⟩ => ⟨S8x2048x1408, .f32⟩
  | .hbm, ⟨5, _⟩ => ⟨S8x2048x1408, .bf16⟩
  | .hbm, ⟨6, _⟩ => ⟨S256x5632, .bf16⟩
  | .hbm, ⟨7, _⟩ => ⟨S2x256x5632, .bf16⟩
  | .local _ .vmem, ⟨0, _⟩ => ⟨S256x2048, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S256x1408, .bf16⟩
  | .local _ .vmem, ⟨6, _⟩ => ⟨S256x1408, .bf16⟩
  | .local _ .vmem, ⟨7, _⟩ => ⟨S2x256x1408, .bf16⟩
  | .local _ .vmem, ⟨8, _⟩ => ⟨S2x256x1408, .bf16⟩
  | .local _ .vmem, ⟨9, _⟩ => ⟨S256x1408, .f32⟩
  | .local _ .vmem, ⟨10, _⟩ => ⟨S256x1408, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_19 : BitVec 32 := 0#32
  let v23 : BitVec 1 := Scalar.cmpi .eq arg2 c0_i32_19
  let v24 : BitVec 32 := Scalar.extui v23
  let c0_i32_20 : BitVec 32 := 0#32
  let v25 : BitVec 1 := Scalar.cmpi .ne v24 c0_i32_20
  v25

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== CtxInRefIdeal.lean ====
abbrev S256x2048 : Shape := ⟨2, ![256, 2048]⟩
abbrev S2048x11264 : Shape := ⟨2, ![2048, 11264]⟩
abbrev S256x11264 : Shape := ⟨2, ![256, 11264]⟩
abbrev S256x5632 : Shape := ⟨2, ![256, 5632]⟩
abbrev S_ : Shape := ⟨0, ![]⟩
abbrev S1x256x5632 : Shape := ⟨3, ![1, 256, 5632]⟩
abbrev S2x256x5632 : Shape := ⟨3, ![2, 256, 5632]⟩

abbrev nBuf : Space → Nat
  | .hbm => 44
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x11264, .f32⟩
  | .hbm, ⟨2, _⟩ => ⟨S256x11264, .f32⟩
  | .hbm, ⟨3, _⟩ => ⟨S256x5632, .f32⟩
  | .hbm, ⟨4, _⟩ => ⟨S256x5632, .f32⟩
  | .hbm, ⟨5, _⟩ => ⟨S256x5632, .f32⟩
  | .hbm, ⟨6, _⟩ => ⟨S256x5632, .f32⟩
  | .hbm, ⟨7, _⟩ => ⟨S_, .f32⟩
  | .hbm, ⟨8, _⟩ => ⟨S256x5632, .f32⟩
  | .hbm, ⟨9, _⟩ => ⟨S256x5632, .f32⟩
  | .hbm, ⟨10, _⟩ => ⟨S_, .f32⟩
  | .hbm, ⟨11, _⟩ => ⟨S256x5632, .f32⟩
  | .hbm, ⟨12, _⟩ => ⟨S256x5632, .f32⟩
  | .hbm, ⟨13, _⟩ => ⟨S_, .f32⟩
  | .hbm, ⟨14, _⟩ => ⟨S256x5632, .f32⟩
  | .hbm, ⟨15, _⟩ => ⟨S256x5632, .f32⟩
  | .hbm, ⟨16, _⟩ => ⟨S256x5632, .f32⟩
  | .hbm, ⟨17, _⟩ => ⟨S256x5632, .f32⟩
  | .hbm, ⟨18, _⟩ => ⟨S256x5632, .f32⟩
  | .hbm, ⟨19, _⟩ => ⟨S_, .f32⟩
  | .hbm, ⟨20, _⟩ => ⟨S256x5632, .f32⟩
  | .hbm, ⟨21, _⟩ => ⟨S256x5632, .f32⟩
  | .hbm, ⟨22, _⟩ => ⟨S256x5632, .f32⟩
  | .hbm, ⟨23, _⟩ => ⟨S256x5632, .f32⟩
  | .hbm, ⟨24, _⟩ => ⟨S256x5632, .f32⟩
  | .hbm, ⟨25, _⟩ => ⟨S256x5632, .f32⟩
  | .hbm, ⟨26, _⟩ => ⟨S256x5632, .f32⟩
  | .hbm, ⟨27, _⟩ => ⟨S256x5632, .f32⟩
  | .hbm, ⟨28, _⟩ => ⟨S256x5632, .f32⟩
  | .hbm, ⟨29, _⟩ => ⟨S256x5632, .f32⟩
  | .hbm, ⟨30, _⟩ => ⟨S256x5632, .f32⟩
  | .hbm, ⟨31, _⟩ => ⟨S_, .f32⟩
  | .hbm, ⟨32, _⟩ => ⟨S256x5632, .f32⟩
  | .hbm, ⟨33, _⟩ => ⟨S256x5632, .f32⟩
  | .hbm, ⟨34, _⟩ => ⟨S_, .f32⟩
  | .hbm, ⟨35, _⟩ => ⟨S256x5632, .f32⟩
  | .hbm, ⟨36, _⟩ => ⟨S256x5632, .f32⟩
  | .hbm, ⟨37, _⟩ => ⟨S256x5632, .f32⟩
  | .hbm, ⟨38, _⟩ => ⟨S256x5632, .f32⟩
  | .hbm, ⟨39, _⟩ => ⟨S256x5632, .bf16⟩
  | .hbm, ⟨40, _⟩ => ⟨S1x256x5632, .f32⟩
  | .hbm, ⟨41, _⟩ => ⟨S1x256x5632, .f32⟩
  | .hbm, ⟨42, _⟩ => ⟨S2x256x5632, .f32⟩
  | .hbm, ⟨43, _⟩ => ⟨S2x256x5632, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v3_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v3_1 : Ref sig .tc := ⟨.hbm, 16, rfl⟩
abbrev main_v3_0 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_call2_v0 : Ref sig .tc := ⟨.hbm, 29, rfl⟩
abbrev main_call2_v1 : Ref sig .tc := ⟨.hbm, 30, rfl⟩
abbrev main_call2_cst : Ref sig .tc := ⟨.hbm, 31, rfl⟩
abbrev main_call2_v2 : Ref sig .tc := ⟨.hbm, 32, rfl⟩
abbrev main_call2_v3 : Ref sig .tc := ⟨.hbm, 33, rfl⟩
abbrev main_call2_cst_0 : Ref sig .tc := ⟨.hbm, 34, rfl⟩
abbrev main_call2_v4 : Ref sig .tc := ⟨.hbm, 35, rfl⟩
abbrev main_call2_v5 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩

abbrev nD : Nat := 1
abbrev τ : Topo := Topo.v7x

variable {F : FTy → Type} [FloatOps F]
-- ==== CtxOut.lean ====
abbrev S256x5632 : Shape := ⟨2, ![256, 5632]⟩
abbrev S5632x2048 : Shape := ⟨2, ![5632, 2048]⟩
abbrev S256x2048 : Shape := ⟨2, ![256, 2048]⟩
abbrev S1x2048 : Shape := ⟨2, ![1, 2048]⟩
abbrev S256x2816 : Shape := ⟨2, ![256, 2816]⟩
abbrev S2816x1024 : Shape := ⟨2, ![2816, 1024]⟩
abbrev S256x1024 : Shape := ⟨2, ![256, 1024]⟩
abbrev S1x1024 : Shape := ⟨2, ![1, 1024]⟩

abbrev nBuf : Space → Nat
  | .hbm => 8
  | .vmem => 13
  | .smem => 0
  | _ => 0

abbrev bufTy : (tb : Table) → Fin (tcTables nBuf tb) → BufTy
  | .hbm, ⟨0, _⟩ => ⟨S256x5632, .f32⟩
  | .hbm, ⟨1, _⟩ => ⟨S5632x2048, .f32⟩
  | .hbm, ⟨2, _⟩ => ⟨S256x2048, .f32⟩
  | .hbm, ⟨3, _⟩ => ⟨S1x2048, .f32⟩
  | .hbm, ⟨4, _⟩ => ⟨S256x5632, .bf16⟩
  | .hbm, ⟨5, _⟩ => ⟨S5632x2048, .bf16⟩
  | .hbm, ⟨6, _⟩ => ⟨S256x2048, .f32⟩
  | .hbm, ⟨7, _⟩ => ⟨S256x2048, .bf16⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S2816x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | _, _ => ⟨S256x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== CtxOutRefIdeal.lean ====
abbrev S256x5632 : Shape := ⟨2, ![256, 5632]⟩
abbrev S5632x2048 : Shape := ⟨2, ![5632, 2048]⟩
abbrev S256x2048 : Shape := ⟨2, ![256, 2048]⟩
abbrev S1x2048 : Shape := ⟨2, ![1, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S256x5632, .f32⟩
  | .hbm, ⟨1, _⟩ => ⟨S5632x2048, .f32⟩
  | .hbm, ⟨2, _⟩ => ⟨S256x2048, .f32⟩
  | .hbm, ⟨3, _⟩ => ⟨S1x2048, .f32⟩
  | .hbm, ⟨4, _⟩ => ⟨S256x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S256x2048, .bf16⟩
  | _, _ => ⟨S256x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== CtxDa.lean ====
abbrev S256x11264 : Shape := ⟨2, ![256, 11264]⟩
abbrev S5632x2048 : Shape := ⟨2, ![5632, 2048]⟩
abbrev S256x2048 : Shape := ⟨2, ![256, 2048]⟩
abbrev S256x5632 : Shape := ⟨2, ![256, 5632]⟩
abbrev S_ : Shape := ⟨0, ![]⟩
abbrev S1x256x5632 : Shape := ⟨3, ![1, 256, 5632]⟩
abbrev S2x256x5632 : Shape := ⟨3, ![2, 256, 5632]⟩
abbrev S1408x2048 : Shape := ⟨2, ![1408, 2048]⟩
abbrev S2x256x1408 : Shape := ⟨3, ![2, 256, 1408]⟩
abbrev S512x2048 : Shape := ⟨2, ![512, 2048]⟩
abbrev S256x512 : Shape := ⟨2, ![256, 512]⟩
abbrev S1x256x512 : Shape := ⟨3, ![1, 256, 512]⟩
abbrev S384x2048 : Shape := ⟨2, ![384, 2048]⟩
abbrev S256x384 : Shape := ⟨2, ![256, 384]⟩
abbrev S1x256x384 : Shape := ⟨3, ![1, 256, 384]⟩

abbrev nBuf : Space → Nat
  | .hbm => 34
  | .vmem => 7
  | .smem => 0
  | _ => 0

abbrev bufTy : (tb : Table) → Fin (tcTables nBuf tb) → BufTy
  | .hbm, ⟨0, _⟩ => ⟨S256x11264, .f32⟩
  | .hbm, ⟨1, _⟩ => ⟨S5632x2048, .f32⟩
  | .hbm, ⟨2, _⟩ => ⟨S256x2048, .f32⟩
  | .hbm, ⟨3, _⟩ => ⟨S256x2048, .bf16⟩
  | .hbm, ⟨4, _⟩ => ⟨S5632x2048, .bf16⟩
  | .hbm, ⟨5, _⟩ => ⟨S256x5632, .f32⟩
  | .hbm, ⟨6, _⟩ => ⟨S256x5632, .f32⟩
  | .hbm, ⟨7, _⟩ => ⟨S256x5632, .f32⟩
  | .hbm, ⟨8, _⟩ => ⟨S256x5632, .f32⟩
  | .hbm, ⟨9, _⟩ => ⟨S_, .f32⟩
  | .hbm, ⟨10, _⟩ => ⟨S256x5632, .f32⟩
  | .hbm, ⟨11, _⟩ => ⟨S256x5632, .f32⟩
  | .hbm, ⟨12, _⟩ => ⟨S_, .f32⟩
  | .hbm, ⟨13, _⟩ => ⟨S256x5632, .f32⟩
  | .hbm, ⟨14, _⟩ => ⟨S256x5632, .f32⟩
  | .hbm, ⟨15, _⟩ => ⟨S_, .f32⟩
  | .hbm, ⟨16, _⟩ => ⟨S256x5632, .f32⟩
  | .hbm, ⟨17, _⟩ => ⟨S256x5632, .f32⟩
  | .hbm, ⟨18, _⟩ => ⟨S256x5632, .f32⟩
  | .hbm, ⟨19, _⟩ => ⟨S256x5632, .f32⟩
  | .hbm, ⟨20, _⟩ => ⟨S256x5632, .f32⟩
  | .hbm, ⟨21, _⟩ => ⟨S_, .f32⟩
  | .hbm, ⟨22, _⟩ => ⟨S256x5632, .f32⟩
  | .hbm, ⟨23, _⟩ => ⟨S256x5632, .f32⟩
  | .hbm, ⟨24, _⟩ => ⟨S256x5632, .f32⟩
  | .hbm, ⟨25, _⟩ => ⟨S256x5632, .f32⟩
  | .hbm, ⟨26, _⟩ => ⟨S256x5632, .f32⟩
  | .hbm, ⟨27, _⟩ => ⟨S256x5632, .f32⟩
  | .hbm, ⟨28, _⟩ => ⟨S256x5632, .f32⟩
  | .hbm, ⟨29, _⟩ => ⟨S1x256x5632, .f32⟩
  | .hbm, ⟨30, _⟩ => ⟨S1x256x5632, .f32⟩
  | .hbm, ⟨31, _⟩ => ⟨S2x256x5632, .f32⟩
  | .hbm, ⟨32, _⟩ => ⟨S2x256x5632, .bf16⟩
  | .hbm, ⟨33, _⟩ => ⟨S2x256x5632, .bf16⟩
  | .local _ .vmem, ⟨0, _⟩ => ⟨S256x2048, .bf16⟩
  | .local _ .vmem, ⟨1, _⟩ => ⟨S1408x2048, .bf16⟩
  | .local _ .vmem, ⟨2, _⟩ => ⟨S1408x2048, .bf16⟩
  | .local _ .vmem, ⟨3, _⟩ => ⟨S2x256x1408, .bf16⟩
  | .local _ .vmem, ⟨4, _⟩ => ⟨S2x256x1408, .bf16⟩
  | .local _ .vmem, ⟨5, _⟩ => ⟨S2x256x1408, .bf16⟩
  | .local _ .vmem, ⟨6, _⟩ => ⟨S2x256x1408, .bf16⟩
  | _, _ => ⟨S256x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== CtxDaRefIdeal.lean ====
abbrev S256x11264 : Shape := ⟨2, ![256, 11264]⟩
abbrev S5632x2048 : Shape := ⟨2, ![5632, 2048]⟩
abbrev S256x2048 : Shape := ⟨2, ![256, 2048]⟩
abbrev S256x5632 : Shape := ⟨2, ![256, 5632]⟩
abbrev S_ : Shape := ⟨0, ![]⟩
abbrev S256x2x5632 : Shape := ⟨3, ![256, 2, 5632]⟩
abbrev S2x256x5632 : Shape := ⟨3, ![2, 256, 5632]⟩

abbrev nBuf : Space → Nat
  | .hbm => 31
  | .vmem => 0
  | .smem => 0
  | _ => 0

abbrev bufTy : (tb : Table) → Fin (tcTables nBuf tb) → BufTy
  | .hbm, ⟨0, _⟩ => ⟨S256x11264, .f32⟩
  | .hbm, ⟨1, _⟩ => ⟨S5632x2048, .f32⟩
  | .hbm, ⟨2, _⟩ => ⟨S256x2048, .f32⟩
  | .hbm, ⟨3, _⟩ => ⟨S256x5632, .f32⟩
  | .hbm, ⟨4, _⟩ => ⟨S256x5632, .f32⟩
  | .hbm, ⟨5, _⟩ => ⟨S256x5632, .f32⟩
  | .hbm, ⟨6, _⟩ => ⟨S256x5632, .f32⟩
  | .hbm, ⟨7, _⟩ => ⟨S_, .f32⟩
  | .hbm, ⟨8, _⟩ => ⟨S256x5632, .f32⟩
  | .hbm, ⟨9, _⟩ => ⟨S256x5632, .f32⟩
  | .hbm, ⟨10, _⟩ => ⟨S_, .f32⟩
  | .hbm, ⟨11, _⟩ => ⟨S256x5632, .f32⟩
  | .hbm, ⟨12, _⟩ => ⟨S256x5632, .f32⟩
  | .hbm, ⟨13, _⟩ => ⟨S_, .f32⟩
  | .hbm, ⟨14, _⟩ => ⟨S256x5632, .f32⟩
  | .hbm, ⟨15, _⟩ => ⟨S256x5632, .f32⟩
  | .hbm, ⟨16, _⟩ => ⟨S256x5632, .f32⟩
  | .hbm, ⟨17, _⟩ => ⟨S256x5632, .f32⟩
  | .hbm, ⟨18, _⟩ => ⟨S256x5632, .f32⟩
  | .hbm, ⟨19, _⟩ => ⟨S256x2048, .f32⟩
  | .hbm, ⟨20, _⟩ => ⟨S256x5632, .f32⟩
  | .hbm, ⟨21, _⟩ => ⟨S256x5632, .f32⟩
  | .hbm, ⟨22, _⟩ => ⟨S256x5632, .f32⟩
  | .hbm, ⟨23, _⟩ => ⟨S256x5632, .f32⟩
  | .hbm, ⟨24, _⟩ => ⟨S256x5632, .f32⟩
  | .hbm, ⟨25, _⟩ => ⟨S256x5632, .f32⟩
  | .hbm, ⟨26, _⟩ => ⟨S256x5632, .f32⟩
  | .hbm, ⟨27, _⟩ => ⟨S256x11264, .f32⟩
  | .hbm, ⟨28, _⟩ => ⟨S256x2x5632, .f32⟩
  | .hbm, ⟨29, _⟩ => ⟨S2x256x5632, .f32⟩
  | .hbm, ⟨30, _⟩ => ⟨S2x256x5632, .bf16⟩
  | _, _ => ⟨S256x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== CtxDwout.lean ====
abbrev S256x11264 : Shape := ⟨2, ![256, 11264]⟩
abbrev S256x2048 : Shape := ⟨2, ![256, 2048]⟩
abbrev S256x5632 : Shape := ⟨2, ![256, 5632]⟩
abbrev S_ : Shape := ⟨0, ![]⟩
abbrev S5632x2048 : Shape := ⟨2, ![5632, 2048]⟩
abbrev S256x1408 : Shape := ⟨2, ![256, 1408]⟩
abbrev S1408x2048 : Shape := ⟨2, ![1408, 2048]⟩

abbrev nBuf : Space → Nat
  | .hbm => 17
  | .vmem => 6
  | .smem => 0
  | _ => 0

abbrev bufTy : (tb : Table) → Fin (tcTables nBuf tb) → BufTy
  | .hbm, ⟨0, _⟩ => ⟨S256x11264, .f32⟩
  | .hbm, ⟨1, _⟩ => ⟨S256x2048, .f32⟩
  | .hbm, ⟨2, _⟩ => ⟨S256x5632, .f32⟩
  | .hbm, ⟨3, _⟩ => ⟨S256x5632, .f32⟩
  | .hbm, ⟨4, _⟩ => ⟨S256x5632, .f32⟩
  | .hbm, ⟨5, _⟩ => ⟨S256x5632, .f32⟩
  | .hbm, ⟨6, _⟩ => ⟨S_, .f32⟩
  | .hbm, ⟨7, _⟩ => ⟨S256x5632, .f32⟩
  | .hbm, ⟨8, _⟩ => ⟨S256x5632, .f32⟩
  | .hbm, ⟨9, _⟩ => ⟨S_, .f32⟩
  | .hbm, ⟨10, _⟩ => ⟨S256x5632, .f32⟩
  | .hbm, ⟨11, _⟩ => ⟨S256x5632, .f32⟩
  | .hbm, ⟨12, _⟩ => ⟨S256x5632, .f32⟩
  | .hbm, ⟨13, _⟩ => ⟨S256x5632, .f32⟩
  | .hbm, ⟨14, _⟩ => ⟨S256x5632, .bf16⟩
  | .hbm, ⟨15, _⟩ => ⟨S256x2048, .bf16⟩
  | .hbm, ⟨16, _⟩ => ⟨S5632x2048, .bf16⟩
  | .local _ .vmem, ⟨0, _⟩ => ⟨S256x1408, .bf16⟩
  | .local _ .vmem, ⟨1, _⟩ => ⟨S256x1408, .bf16⟩
  | .local _ .vmem, ⟨2, _⟩ => ⟨S256x2048, .bf16⟩
  | .local _ .vmem, ⟨3, _⟩ => ⟨S1408x2048, .bf16⟩
  | .local _ .vmem, ⟨4, _⟩ => ⟨S1408x2048, .bf16⟩
  | .local _ .vmem, ⟨5, _⟩ => ⟨S1408x2048, .f32⟩
  | _, _ => ⟨S256x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CtxDwoutRefIdeal.lean ====
abbrev S256x11264 : Shape := ⟨2, ![256, 11264]⟩
abbrev S256x2048 : Shape := ⟨2, ![256, 2048]⟩
abbrev S_ : Shape := ⟨0, ![]⟩
abbrev S5632x2048 : Shape := ⟨2, ![5632, 2048]⟩
abbrev S256x5632 : Shape := ⟨2, ![256, 5632]⟩
abbrev S2048x5632 : Shape := ⟨2, ![2048, 5632]⟩

abbrev nBuf : Space → Nat
  | .hbm => 20
  | .vmem => 0
  | .smem => 0
  | _ => 0

abbrev bufTy : (tb : Table) → Fin (tcTables nBuf tb) → BufTy
  | .hbm, ⟨0, _⟩ => ⟨S256x11264, .f32⟩
  | .hbm, ⟨1, _⟩ => ⟨S256x2048, .f32⟩
  | .hbm, ⟨2, _⟩ => ⟨S_, .f32⟩
  | .hbm, ⟨3, _⟩ => ⟨S5632x2048, .f32⟩
  | .hbm, ⟨4, _⟩ => ⟨S256x5632, .f32⟩
  | .hbm, ⟨5, _⟩ => ⟨S256x5632, .f32⟩
  | .hbm, ⟨6, _⟩ => ⟨S256x5632, .f32⟩
  | .hbm, ⟨7, _⟩ => ⟨S256x5632, .f32⟩
  | .hbm, ⟨8, _⟩ => ⟨S_, .f32⟩
  | .hbm, ⟨9, _⟩ => ⟨S256x5632, .f32⟩
  | .hbm, ⟨10, _⟩ => ⟨S256x5632, .f32⟩
  | .hbm, ⟨11, _⟩ => ⟨S_, .f32⟩
  | .hbm, ⟨12, _⟩ => ⟨S256x5632, .f32⟩
  | .hbm, ⟨13, _⟩ => ⟨S256x5632, .f32⟩
  | .hbm, ⟨14, _⟩ => ⟨S256x5632, .f32⟩
  | .hbm, ⟨15, _⟩ => ⟨S256x5632, .f32⟩
  | .hbm, ⟨16, _⟩ => ⟨S256x2048, .f32⟩
  | .hbm, ⟨17, _⟩ => ⟨S2048x5632, .f32⟩
  | .hbm, ⟨18, _⟩ => ⟨S5632x2048, .f32⟩
  | .hbm, ⟨19, _⟩ => ⟨S5632x2048, .bf16⟩
  | _, _ => ⟨S256x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== CtxDh.lean ====
abbrev S256x11264 : Shape := ⟨2, ![256, 11264]⟩
abbrev S2048x11264 : Shape := ⟨2, ![2048, 11264]⟩
abbrev S256x2x5632 : Shape := ⟨3, ![256, 2, 5632]⟩
abbrev S2x256x5632 : Shape := ⟨3, ![2, 256, 5632]⟩
abbrev S2048x8x1408 : Shape := ⟨3, ![2048, 8, 1408]⟩
abbrev S8x2048x1408 : Shape := ⟨3, ![8, 2048, 1408]⟩
abbrev S256x2048 : Shape := ⟨2, ![256, 2048]⟩
abbrev S1x256x1408 : Shape := ⟨3, ![1, 256, 1408]⟩
abbrev S1x2048x1408 : Shape := ⟨3, ![1, 2048, 1408]⟩
abbrev S256x1408 : Shape := ⟨2, ![256, 1408]⟩
abbrev S2048x1408 : Shape := ⟨2, ![2048, 1408]⟩

abbrev nBuf : Space → Nat
  | .hbm => 9
  | .vmem => 10
  | .smem => 0
  | _ => 0

abbrev bufTy : (tb : Table) → Fin (tcTables nBuf tb) → BufTy
  | .hbm, ⟨0, _⟩ => ⟨S256x11264, .f32⟩
  | .hbm, ⟨1, _⟩ => ⟨S2048x11264, .f32⟩
  | .hbm, ⟨2, _⟩ => ⟨S256x2x5632, .f32⟩
  | .hbm, ⟨3, _⟩ => ⟨S2x256x5632, .f32⟩
  | .hbm, ⟨4, _⟩ => ⟨S2x256x5632, .bf16⟩
  | .hbm, ⟨5, _⟩ => ⟨S2048x8x1408, .f32⟩
  | .hbm, ⟨6, _⟩ => ⟨S8x2048x1408, .f32⟩
  | .hbm, ⟨7, _⟩ => ⟨S8x2048x1408, .bf16⟩
  | .hbm, ⟨8, _⟩ => ⟨S256x2048, .f32⟩
  | .local _ .vmem, ⟨0, _⟩ => ⟨S1x256x1408, .bf16⟩
  | .local _ .vmem, ⟨1, _⟩ => ⟨S1x256x1408, .bf16⟩
  | .local _ .vmem, ⟨2, _⟩ => ⟨S1x256x1408, .bf16⟩
  | .local _ .vmem, ⟨3, _⟩ => ⟨S1x256x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S256x2048, .f32⟩
  | .local _ .vmem, ⟨9, _⟩ => ⟨S256x2048, .f32⟩
  | _, _ => ⟨S256x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_21 : BitVec 32 := 0#32
  let v25 : BitVec 1 := Scalar.cmpi .ne v24 c0_i32_21
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg2 c4_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, false]
-- ==== CtxDhRefIdeal.lean ====
abbrev S256x11264 : Shape := ⟨2, ![256, 11264]⟩
abbrev S2048x11264 : Shape := ⟨2, ![2048, 11264]⟩
abbrev S_ : Shape := ⟨0, ![]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x11264, .f32⟩
  | .hbm, ⟨1, _⟩ => ⟨S2048x11264, .f32⟩
  | .hbm, ⟨2, _⟩ => ⟨S_, .f32⟩
  | .hbm, ⟨3, _⟩ => ⟨S256x2048, .f32⟩
  | .hbm, ⟨4, _⟩ => ⟨S256x11264, .f32⟩
  | .hbm, ⟨5, _⟩ => ⟨S256x2048, .f32⟩
  | _, _ => ⟨S256x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== CtxDwin.lean ====
abbrev S256x2048 : Shape := ⟨2, ![256, 2048]⟩
abbrev S256x11264 : Shape := ⟨2, ![256, 11264]⟩
abbrev S256x2x5632 : Shape := ⟨3, ![256, 2, 5632]⟩
abbrev S2x256x5632 : Shape := ⟨3, ![2, 256, 5632]⟩
abbrev S8x2048x1408 : Shape := ⟨3, ![8, 2048, 1408]⟩
abbrev S1x256x1408 : Shape := ⟨3, ![1, 256, 1408]⟩
abbrev S1x2048x1408 : Shape := ⟨3, ![1, 2048, 1408]⟩
abbrev S2048x1408 : Shape := ⟨2, ![2048, 1408]⟩
abbrev S256x1408 : Shape := ⟨2, ![256, 1408]⟩

abbrev nBuf : Space → Nat
  | .hbm => 7
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S256x11264, .f32⟩
  | .hbm, ⟨2, _⟩ => ⟨S256x2048, .bf16⟩
  | .hbm, ⟨3, _⟩ => ⟨S256x2x5632, .f32⟩
  | .hbm, ⟨4, _⟩ => ⟨S2x256x5632, .f32⟩
  | .hbm, ⟨5, _⟩ => ⟨S2x256x5632, .bf16⟩
  | .hbm, ⟨6, _⟩ => ⟨S8x2048x1408, .bf16⟩
  | .local _ .vmem, ⟨0, _⟩ => ⟨S256x2048, .bf16⟩
  | .local _ .vmem, ⟨1, _⟩ => ⟨S1x256x1408, .bf16⟩
  | .local _ .vmem, ⟨2, _⟩ => ⟨S1x256x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S2048x1408, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S1x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== CtxDwinRefIdeal.lean ====
abbrev S256x2048 : Shape := ⟨2, ![256, 2048]⟩
abbrev S256x11264 : Shape := ⟨2, ![256, 11264]⟩
abbrev S_ : Shape := ⟨0, ![]⟩
abbrev S2048x11264 : Shape := ⟨2, ![2048, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x11264, .f32⟩
  | .hbm, ⟨2, _⟩ => ⟨S_, .f32⟩
  | .hbm, ⟨3, _⟩ => ⟨S2048x11264, .f32⟩
  | .hbm, ⟨4, _⟩ => ⟨S256x11264, .f32⟩
  | .hbm, ⟨5, _⟩ => ⟨S11264x2048, .f32⟩
  | .hbm, ⟨6, _⟩ => ⟨S2048x11264, .f32⟩
  | .hbm, ⟨7, _⟩ => ⟨S2048x8x1408, .f32⟩
  | .hbm, ⟨8, _⟩ => ⟨S8x2048x1408, .f32⟩
  | .hbm, ⟨9, _⟩ => ⟨S8x2048x1408, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixcMm.lean ====
abbrev S256x2048 : Shape := ⟨2, ![256, 2048]⟩
abbrev S2048x4096 : Shape := ⟨2, ![2048, 4096]⟩
abbrev S256x4096 : Shape := ⟨2, ![256, 4096]⟩
abbrev S2048x1024 : Shape := ⟨2, ![2048, 1024]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2048x4096, .f32⟩
  | .hbm, ⟨2, _⟩ => ⟨S256x2048, .bf16⟩
  | .hbm, ⟨3, _⟩ => ⟨S2048x4096, .bf16⟩
  | .hbm, ⟨4, _⟩ => ⟨S256x4096, .f32⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixcMmRefIdeal.lean ====
abbrev S256x2048 : Shape := ⟨2, ![256, 2048]⟩
abbrev S2048x4096 : Shape := ⟨2, ![2048, 4096]⟩
abbrev S256x4096 : Shape := ⟨2, ![256, 4096]⟩

abbrev nBuf : Space → Nat
  | .hbm => 3
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x4096, .f32⟩
  | .hbm, ⟨2, _⟩ => ⟨S256x4096, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MixcDh.lean ====
abbrev S256x4096 : Shape := ⟨2, ![256, 4096]⟩
abbrev S2048x4096 : Shape := ⟨2, ![2048, 4096]⟩
abbrev S256x2048 : Shape := ⟨2, ![256, 2048]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S256x4096, .f32⟩
  | .hbm, ⟨1, _⟩ => ⟨S2048x4096, .f32⟩
  | .hbm, ⟨2, _⟩ => ⟨S2048x4096, .bf16⟩
  | .hbm, ⟨3, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S256x2048, .f32⟩
  | .local _ .vmem, ⟨5, _⟩ => ⟨S256x2048, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixcDhRefIdeal.lean ====
abbrev S256x4096 : Shape := ⟨2, ![256, 4096]⟩
abbrev S2048x4096 : Shape := ⟨2, ![2048, 4096]⟩
abbrev S_ : Shape := ⟨0, ![]⟩
abbrev S256x2048 : Shape := ⟨2, ![256, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S2048x4096, .f32⟩
  | .hbm, ⟨2, _⟩ => ⟨S_, .f32⟩
  | .hbm, ⟨3, _⟩ => ⟨S256x2048, .f32⟩
  | .hbm, ⟨4, _⟩ => ⟨S256x4096, .f32⟩
  | .hbm, ⟨5, _⟩ => ⟨S256x2048, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixcDw.lean ====
abbrev S256x2048 : Shape := ⟨2, ![256, 2048]⟩
abbrev S256x4096 : Shape := ⟨2, ![256, 4096]⟩
abbrev S2048x4096 : Shape := ⟨2, ![2048, 4096]⟩
abbrev S256x1024 : Shape := ⟨2, ![256, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S256x4096, .f32⟩
  | .hbm, ⟨2, _⟩ => ⟨S256x2048, .bf16⟩
  | .hbm, ⟨3, _⟩ => ⟨S2048x4096, .bf16⟩
  | .local _ .vmem, ⟨0, _⟩ => ⟨S256x2048, .bf16⟩
  | .local _ .vmem, ⟨1, _⟩ => ⟨S256x1024, .f32⟩
  | .local _ .vmem, ⟨2, _⟩ => ⟨S256x1024, .f32⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixcDwRefIdeal.lean ====
abbrev S256x2048 : Shape := ⟨2, ![256, 2048]⟩
abbrev S256x4096 : Shape := ⟨2, ![256, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x4096, .f32⟩
  | .hbm, ⟨2, _⟩ => ⟨S_, .f32⟩
  | .hbm, ⟨3, _⟩ => ⟨S2048x4096, .f32⟩
  | .hbm, ⟨4, _⟩ => ⟨S256x4096, .f32⟩
  | .hbm, ⟨5, _⟩ => ⟨S4096x2048, .f32⟩
  | .hbm, ⟨6, _⟩ => ⟨S2048x4096, .f32⟩
  | .hbm, ⟨7, _⟩ => ⟨S2048x4096, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UkvcMm.lean ====
abbrev S256x256 : Shape := ⟨2, ![256, 256]⟩
abbrev S256x2048 : Shape := ⟨2, ![256, 2048]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S256x256, .bf16⟩
  | .hbm, ⟨3, _⟩ => ⟨S256x2048, .bf16⟩
  | .hbm, ⟨4, _⟩ => ⟨S256x2048, .f32⟩
  | .local _ .vmem, ⟨0, _⟩ => ⟨S256x256, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvcMmRefIdeal.lean ====
abbrev S256x256 : Shape := ⟨2, ![256, 256]⟩
abbrev S256x2048 : Shape := ⟨2, ![256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S256x2048, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UkvcDh.lean ====
abbrev S256x2048 : Shape := ⟨2, ![256, 2048]⟩
abbrev S256x256 : Shape := ⟨2, ![256, 256]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .bf16⟩
  | .hbm, ⟨3, _⟩ => ⟨S256x256, .f32⟩
  | .local _ .vmem, ⟨0, _⟩ => ⟨S256x2048, .f32⟩
  | .local _ .vmem, ⟨1, _⟩ => ⟨S256x2048, .bf16⟩
  | .local _ .vmem, ⟨2, _⟩ => ⟨S256x256, .f32⟩
  | .local _ .vmem, ⟨3, _⟩ => ⟨S256x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UkvcDhRefIdeal.lean ====
abbrev S256x2048 : Shape := ⟨2, ![256, 2048]⟩
abbrev S_ : Shape := ⟨0, ![]⟩
abbrev S256x256 : Shape := ⟨2, ![256, 256]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S_, .f32⟩
  | .hbm, ⟨3, _⟩ => ⟨S256x256, .f32⟩
  | .hbm, ⟨4, _⟩ => ⟨S256x2048, .f32⟩
  | .hbm, ⟨5, _⟩ => ⟨S256x256, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== UkvcDw.lean ====
abbrev S256x256 : Shape := ⟨2, ![256, 256]⟩
abbrev S256x2048 : Shape := ⟨2, ![256, 2048]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S256x256, .bf16⟩
  | .hbm, ⟨3, _⟩ => ⟨S256x2048, .bf16⟩
  | .local _ .vmem, ⟨0, _⟩ => ⟨S256x256, .bf16⟩
  | .local _ .vmem, ⟨1, _⟩ => ⟨S256x1024, .f32⟩
  | .local _ .vmem, ⟨2, _⟩ => ⟨S256x1024, .f32⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvcDwRefIdeal.lean ====
abbrev S256x256 : Shape := ⟨2, ![256, 256]⟩
abbrev S256x2048 : Shape := ⟨2, ![256, 2048]⟩
abbrev S_ : Shape := ⟨0, ![]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x2048, .f32⟩
  | .hbm, ⟨2, _⟩ => ⟨S_, .f32⟩
  | .hbm, ⟨3, _⟩ => ⟨S256x2048, .f32⟩
  | .hbm, ⟨4, _⟩ => ⟨S256x2048, .f32⟩
  | .hbm, ⟨5, _⟩ => ⟨S2048x256, .f32⟩
  | .hbm, ⟨6, _⟩ => ⟨S256x2048, .f32⟩
  | .hbm, ⟨7, _⟩ => ⟨S256x2048, .bf16⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AdaMm.lean ====
abbrev S16x2048 : Shape := ⟨2, ![16, 2048]⟩
abbrev S2048x2304 : Shape := ⟨2, ![2048, 2304]⟩
abbrev S16x2304 : Shape := ⟨2, ![16, 2304]⟩
abbrev S2048x768 : Shape := ⟨2, ![2048, 768]⟩
abbrev S16x768 : Shape := ⟨2, ![16, 768]⟩

abbrev nBuf : Space → Nat
  | .hbm => 3
  | .vmem => 6
  | .smem => 0
  | _ => 0

abbrev bufTy : (tb : Table) → Fin (tcTables nBuf tb) → BufTy
  | .hbm, ⟨0, _⟩ => ⟨S16x2048, .f32⟩
  | .hbm, ⟨1, _⟩ => ⟨S2048x2304, .f32⟩
  | .hbm, ⟨2, _⟩ => ⟨S16x2304, .f32⟩
  | .local _ .vmem, ⟨0, _⟩ => ⟨S16x2048, .f32⟩
  | .local _ .vmem, ⟨1, _⟩ => ⟨S2048x768, .f32⟩
  | .local _ .vmem, ⟨2, _⟩ => ⟨S2048x768, .f32⟩
  | .local _ .vmem, ⟨3, _⟩ => ⟨S16x768, .f32⟩
  | .local _ .vmem, ⟨4, _⟩ => ⟨S16x768, .f32⟩
  | .local _ .vmem, ⟨5, _⟩ => ⟨S16x768, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaMmRefIdeal.lean ====
abbrev S16x2048 : Shape := ⟨2, ![16, 2048]⟩
abbrev S2048x2304 : Shape := ⟨2, ![2048, 2304]⟩
abbrev S16x2304 : Shape := ⟨2, ![16, 2304]⟩

abbrev nBuf : Space → Nat
  | .hbm => 3
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2048x2304, .f32⟩
  | .hbm, ⟨2, _⟩ => ⟨S16x2304, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdaDa.lean ====
abbrev S16x2304 : Shape := ⟨2, ![16, 2304]⟩
abbrev S2048x2304 : Shape := ⟨2, ![2048, 2304]⟩
abbrev S16x2048 : Shape := ⟨2, ![16, 2048]⟩
abbrev S16x768 : Shape := ⟨2, ![16, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S16x2304, .f32⟩
  | .hbm, ⟨1, _⟩ => ⟨S2048x2304, .f32⟩
  | .hbm, ⟨2, _⟩ => ⟨S16x2048, .f32⟩
  | .local _ .vmem, ⟨0, _⟩ => ⟨S16x768, .f32⟩
  | .local _ .vmem, ⟨1, _⟩ => ⟨S16x768, .f32⟩
  | .local _ .vmem, ⟨2, _⟩ => ⟨S2048x768, .f32⟩
  | .local _ .vmem, ⟨3, _⟩ => ⟨S2048x768, .f32⟩
  | .local _ .vmem, ⟨4, _⟩ => ⟨S16x2048, .f32⟩
  | .local _ .vmem, ⟨5, _⟩ => ⟨S16x2048, .f32⟩
  | _, _ => ⟨S16x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S16x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AdaDaRefIdeal.lean ====
abbrev S16x2304 : Shape := ⟨2, ![16, 2304]⟩
abbrev S2048x2304 : Shape := ⟨2, ![2048, 2304]⟩
abbrev S_ : Shape := ⟨0, ![]⟩
abbrev S16x2048 : Shape := ⟨2, ![16, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16x2304, .f32⟩
  | .hbm, ⟨1, _⟩ => ⟨S2048x2304, .f32⟩
  | .hbm, ⟨2, _⟩ => ⟨S_, .f32⟩
  | .hbm, ⟨3, _⟩ => ⟨S16x2048, .f32⟩
  | .hbm, ⟨4, _⟩ => ⟨S16x2304, .f32⟩
  | .hbm, ⟨5, _⟩ => ⟨S16x2048, .f32⟩
  | _, _ => ⟨S16x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AdaDw.lean ====
abbrev S16x2048 : Shape := ⟨2, ![16, 2048]⟩
abbrev S16x2304 : Shape := ⟨2, ![16, 2304]⟩
abbrev S2048x2304 : Shape := ⟨2, ![2048, 2304]⟩
abbrev S16x1024 : Shape := ⟨2, ![16, 1024]⟩
abbrev S16x768 : Shape := ⟨2, ![16, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S16x2304, .f32⟩
  | .hbm, ⟨2, _⟩ => ⟨S2048x2304, .f32⟩
  | .local _ .vmem, ⟨0, _⟩ => ⟨S16x1024, .f32⟩
  | .local _ .vmem, ⟨1, _⟩ => ⟨S16x1024, .f32⟩
  | .local _ .vmem, ⟨2, _⟩ => ⟨S16x768, .f32⟩
  | .local _ .vmem, ⟨3, _⟩ => ⟨S16x768, .f32⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaDwRefIdeal.lean ====
abbrev S16x2048 : Shape := ⟨2, ![16, 2048]⟩
abbrev S16x2304 : Shape := ⟨2, ![16, 2304]⟩
abbrev S_ : Shape := ⟨0, ![]⟩
abbrev S2048x2304 : Shape := ⟨2, ![2048, 2304]⟩
abbrev S2304x2048 : Shape := ⟨2, ![2304, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S16x2304, .f32⟩
  | .hbm, ⟨2, _⟩ => ⟨S_, .f32⟩
  | .hbm, ⟨3, _⟩ => ⟨S2048x2304, .f32⟩
  | .hbm, ⟨4, _⟩ => ⟨S16x2304, .f32⟩
  | .hbm, ⟨5, _⟩ => ⟨S2304x2048, .f32⟩
  | .hbm, ⟨6, _⟩ => ⟨S2048x2304, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Norm.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Gate.lean ====
abbrev S8192x2048 : Shape := ⟨2, ![8192, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .bf16⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateRefIdeal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== GateMix.lean ====
abbrev S8192x2048 : Shape := ⟨2, ![8192, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .bf16⟩
  | .hbm, ⟨4, _⟩ => ⟨S8192x2048, .bf16⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GateMixRefIdeal.lean ====
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Delta.lean ====
abbrev S8192x1024 : Shape := ⟨2, ![8192, 1024]⟩
abbrev S8x1x8192 : Shape := ⟨3, ![8, 1, 8192]⟩
abbrev S1024x128 : Shape := ⟨2, ![1024, 128]⟩
abbrev S1x1x1024 : Shape := ⟨3, ![1, 1, 1024]⟩
abbrev S128x1024 : Shape := ⟨2, ![128, 1024]⟩
abbrev S1024 : Shape := ⟨1, ![1024]⟩
abbrev S1x1024 : Shape := ⟨2, ![1, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S8x1x8192, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1x1x1024, .f32⟩
  | .local _ .vmem, ⟨5, _⟩ => ⟨S1x1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DeltaRefIdeal.lean ====
abbrev S8192x1024 : Shape := ⟨2, ![8192, 1024]⟩
abbrev S8192x8x128 : Shape := ⟨3, ![8192, 8, 128]⟩
abbrev S_ : Shape := ⟨0, ![]⟩
abbrev S8192x8 : Shape := ⟨2, ![8192, 8]⟩
abbrev S8x8192 : Shape := ⟨2, ![8, 8192]⟩
abbrev S8x1x8192 : Shape := ⟨3, ![8, 1, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8x128, .f32⟩
  | .hbm, ⟨4, _⟩ => ⟨S_, .f32⟩
  | .hbm, ⟨5, _⟩ => ⟨S8192x8, .f32⟩
  | .hbm, ⟨6, _⟩ => ⟨S8x8192, .f32⟩
  | .hbm, ⟨7, _⟩ => ⟨S8x1x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormBwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== RetOut.lean ====
abbrev S8x8192x128 : Shape := ⟨3, ![8, 8192, 128]⟩
abbrev S8192x1024 : Shape := ⟨2, ![8192, 1024]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S8192x1024, .f32⟩
  | .hbm, ⟨3, _⟩ => ⟨S8192x1024, .bf16⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .bf16⟩
  | .local _ .vmem, ⟨7, _⟩ => ⟨S1024x128, .bf16⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RetOutRefIdeal.lean ====
abbrev S8x8192x128 : Shape := ⟨3, ![8, 8192, 128]⟩
abbrev S8192x1024 : Shape := ⟨2, ![8192, 1024]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩

abbrev nBuf : Space → Nat
  | .hbm => 40
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S8192x1024, .f32⟩
  | .hbm, ⟨3, _⟩ => ⟨S8x8192x128, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S8x8192x128, .f32⟩
  | .hbm, ⟨11, _⟩ => ⟨S8x8192x128, .f32⟩
  | .hbm, ⟨12, _⟩ => ⟨S8x8192x128, .f32⟩
  | .hbm, ⟨13, _⟩ => ⟨S_, .f32⟩
  | .hbm, ⟨14, _⟩ => ⟨S8x8192, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S8x8192x128, .f32⟩
  | .hbm, ⟨20, _⟩ => ⟨S8x8192x128, .f32⟩
  | .hbm, ⟨21, _⟩ => ⟨S_, .f32⟩
  | .hbm, ⟨22, _⟩ => ⟨S8x8192x1, .f32⟩
  | .hbm, ⟨23, _⟩ => ⟨S8x8192x1, .f32⟩
  | .hbm, ⟨24, _⟩ => ⟨S8x8192x1, .f32⟩
  | .hbm, ⟨25, _⟩ => ⟨S8x8192x128, .f32⟩
  | .hbm, ⟨26, _⟩ => ⟨S8x8192x128, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x8x128, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== RetDout.lean ====
abbrev S8x8192x128 : Shape := ⟨3, ![8, 8192, 128]⟩
abbrev S8192x1024 : Shape := ⟨2, ![8192, 1024]⟩
abbrev S1x1024x128 : Shape := ⟨3, ![1, 1024, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S8192x1024, .f32⟩
  | .hbm, ⟨3, _⟩ => ⟨S8192x1024, .f32⟩
  | .hbm, ⟨4, _⟩ => ⟨S8192x1024, .bf16⟩
  | .hbm, ⟨5, _⟩ => ⟨S8x8192x128, .f32⟩
  | .hbm, ⟨6, _⟩ => ⟨S8192x1024, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .bf16⟩
  | .local _ .vmem, ⟨7, _⟩ => ⟨S1024x128, .bf16⟩
  | .local _ .vmem, ⟨8, _⟩ => ⟨S1x1024x128, .f32⟩
  | .local _ .vmem, ⟨9, _⟩ => ⟨S1x1024x128, .f32⟩
  | .local _ .vmem, ⟨10, _⟩ => ⟨S1024x128, .f32⟩
  | .local _ .vmem, ⟨11, _⟩ => ⟨S1024x128, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RetDoutRefIdeal.lean ====
abbrev S8x8192x128 : Shape := ⟨3, ![8, 8192, 128]⟩
abbrev S8192x1024 : Shape := ⟨2, ![8192, 1024]⟩
abbrev S_ : Shape := ⟨0, ![]⟩
abbrev S8x8192 : Shape := ⟨2, ![8, 8192]⟩
abbrev S8x8192x1 : Shape := ⟨3, ![8, 8192, 1]⟩
abbrev S8192x8x128 : Shape := ⟨3, ![8192, 8, 128]⟩

abbrev nBuf : Space → Nat
  | .hbm => 90
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S8192x1024, .f32⟩
  | .hbm, ⟨3, _⟩ => ⟨S8192x1024, .f32⟩
  | .hbm, ⟨4, _⟩ => ⟨S8x8192x128, .f32⟩
  | .hbm, ⟨5, _⟩ => ⟨S_, .f32⟩
  | .hbm, ⟨6, _⟩ => ⟨S8x8192, .f32⟩
  | .hbm, ⟨7, _⟩ => ⟨S8x8192x1, .f32⟩
  | .hbm, ⟨8, _⟩ => ⟨S_, .f32⟩
  | .hbm, ⟨9, _⟩ => ⟨S8x8192x1, .f32⟩
  | .hbm, ⟨10, _⟩ => ⟨S8x8192x1, .f32⟩
  | .hbm, ⟨11, _⟩ => ⟨S8x8192x128, .f32⟩
  | .hbm, ⟨12, _⟩ => ⟨S8x8192x128, .f32⟩
  | .hbm, ⟨13, _⟩ => ⟨S8x8192x128, .f32⟩
  | .hbm, ⟨14, _⟩ => ⟨S_, .f32⟩
  | .hbm, ⟨15, _⟩ => ⟨S8x8192x128, .f32⟩
  | .hbm, ⟨16, _⟩ => ⟨S8x8192x128, .f32⟩
  | .hbm, ⟨17, _⟩ => ⟨S_, .f32⟩
  | .hbm, ⟨18, _⟩ => ⟨S8x8192, .f32⟩
  | .hbm, ⟨19, _⟩ => ⟨S8x8192x1, .f32⟩
  | .hbm, ⟨20, _⟩ => ⟨S_, .f32⟩
  | .hbm, ⟨21, _⟩ => ⟨S8x8192x1, .f32⟩
  | .hbm, ⟨22, _⟩ => ⟨S8x8192x1, .f32⟩
  | .hbm, ⟨23, _⟩ => ⟨S8x8192x128, .f32⟩
  | .hbm, ⟨24, _⟩ => ⟨S8x8192x128, .f32⟩
  | .hbm, ⟨25, _⟩ => ⟨S_, .f32⟩
  | .hbm, ⟨26, _⟩ => ⟨S8x8192x1, .f32⟩
  | .hbm, ⟨27, _⟩ => ⟨S8x8192x1, .f32⟩
  | .hbm, ⟨28, _⟩ => ⟨S8x8192x1, .f32⟩
  | .hbm, ⟨29, _⟩ => ⟨S8x8192x1, .f32⟩
  | .hbm, ⟨30, _⟩ => ⟨S_, .f32⟩
  | .hbm, ⟨31, _⟩ => ⟨S8x8192x1, .f32⟩
  | .hbm, ⟨32, _⟩ => ⟨S8x8192x1, .f32⟩
  | .hbm, ⟨33, _⟩ => ⟨S8x8192x128, .f32⟩
  | .hbm, ⟨34, _⟩ => ⟨S8x8192x128, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x8x128, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x8x128, .f32⟩
  | .hbm, ⟨54, _⟩ => ⟨S8x8192x128, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8x8192x128, .f32⟩
  | .hbm, ⟨60, _⟩ => ⟨S_, .f32⟩
  | .hbm, ⟨61, _⟩ => ⟨S8x8192, .f32⟩
  | .hbm, ⟨62, _⟩ => ⟨S8x8192x1, .f32⟩
  | .hbm, ⟨63, _⟩ => ⟨S8x8192x128, .f32⟩
  | .hbm, ⟨64, _⟩ => ⟨S8x8192x128, .f32⟩
  | .hbm, ⟨65, _⟩ => ⟨S8x8192x1, .f32⟩
  | .hbm, ⟨66, _⟩ => ⟨S8x8192x128, .f32⟩
  | .hbm, ⟨67, _⟩ => ⟨S_, .f32⟩
  | .hbm, ⟨68, _⟩ => ⟨S8x8192, .f32⟩
  | .hbm, ⟨69, _⟩ => ⟨S8x8192x1, .f32⟩
  | .hbm, ⟨70, _⟩ => ⟨S_, .f32⟩
  | .hbm, ⟨71, _⟩ => ⟨S8x8192x1, .f32⟩
  | .hbm, ⟨72, _⟩ => ⟨S8x8192x1, .f32⟩
  | .hbm, ⟨73, _⟩ => ⟨S_, .f32⟩
  | .hbm, ⟨74, _⟩ => ⟨S8x8192, .f32⟩
  | .hbm, ⟨75, _⟩ => ⟨S8x8192x128, .f32⟩
  | .hbm, ⟨76, _⟩ => ⟨S8x8192x128, .f32⟩
  | .hbm, ⟨77, _⟩ => ⟨S8x8192x128, .f32⟩
  | .hbm, ⟨78, _⟩ => ⟨S_, .f32⟩
  | .hbm, ⟨79, _⟩ => ⟨S8x8192, .f32⟩
  | .hbm, ⟨80, _⟩ => ⟨S8x8192x1, .f32⟩
  | .hbm, ⟨81, _⟩ => ⟨S8x8192x128, .f32⟩
  | .hbm, ⟨82, _⟩ => ⟨S8x8192x1, .f32⟩
  | .hbm, ⟨83, _⟩ => ⟨S_, .f32⟩
  | .hbm, ⟨84, _⟩ => ⟨S8x8192x1, .f32⟩
  | .hbm, ⟨85, _⟩ => ⟨S8x8192x1, .f32⟩
  | .hbm, ⟨86, _⟩ => ⟨S_, .f32⟩
  | .hbm, ⟨87, _⟩ => ⟨S8x8192, .f32⟩
  | .hbm, ⟨88, _⟩ => ⟨S8x8192x128, .f32⟩
  | .hbm, ⟨89, _⟩ => ⟨S8x8192x128, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v24_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v24_1 : Ref sig .tc := ⟨.hbm, 46, rfl⟩
abbrev main_v24_0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_v43 : Ref sig .tc := ⟨.hbm, 72, rfl⟩
abbrev main_cst_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_11 : Ref sig .tc := ⟨.hbm, 83, rfl⟩
abbrev main_v52 : Ref sig .tc := ⟨.hbm, 84, rfl⟩
abbrev main_v53 : Ref sig .tc := ⟨.hbm, 85, rfl⟩
abbrev main_cst_12 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩

abbrev nD : Nat := 1
abbrev τ : Topo := Topo.v7x

variable {F : FTy → Type} [FloatOps F]
-- ==== Adam.lean ====
abbrev S8x2048x1408 : Shape := ⟨3, ![8, 2048, 1408]⟩
abbrev S2048x1408 : Shape := ⟨2, ![2048, 1408]⟩
abbrev S8x256x1408 : Shape := ⟨3, ![8, 256, 1408]⟩
abbrev S256x1408 : Shape := ⟨2, ![256, 1408]⟩
abbrev S1x256x1408 : Shape := ⟨3, ![1, 256, 1408]⟩

abbrev nBuf : Space → Nat
  | .hbm => 9
  | .vmem => 16
  | .smem => 0
  | _ => 0

abbrev bufTy : (tb : Table) → Fin (tcTables nBuf tb) → BufTy
  | .hbm, ⟨0, _⟩ => ⟨S8x2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x2048x1408, .bf16⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S8x256x1408, .bf16⟩
  | .local _ .vmem, ⟨1, _⟩ => ⟨S8x256x1408, .bf16⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | _, _ => ⟨S8x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S8x2048x1408 : Shape := ⟨3, ![8, 2048, 1408]⟩
abbrev S2048x1408 : Shape := ⟨2, ![2048, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S8x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== CtxNorm.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== CtxNormRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 27
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== CtxGate.lean ====
abbrev S256x2048 : Shape := ⟨2, ![256, 2048]⟩
abbrev S1x2048 : Shape := ⟨2, ![1, 2048]⟩
abbrev S2048 : Shape := ⟨1, ![2048]⟩

abbrev nBuf : Space → Nat
  | .hbm => 6
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S256x2048, .bf16⟩
  | .hbm, ⟨4, _⟩ => ⟨S256x2048, .bf16⟩
  | .hbm, ⟨5, _⟩ => ⟨S1x2048, .f32⟩
  | .local _ .vmem, ⟨0, _⟩ => ⟨S256x2048, .f32⟩
  | .local _ .vmem, ⟨1, _⟩ => ⟨S256x2048, .bf16⟩
  | .local _ .vmem, ⟨2, _⟩ => ⟨S1x2048, .f32⟩
  | .local _ .vmem, ⟨3, _⟩ => ⟨S256x2048, .bf16⟩
  | .local _ .vmem, ⟨4, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== CtxGateRefIdeal.lean ====
abbrev S256x2048 : Shape := ⟨2, ![256, 2048]⟩
abbrev S1x2048 : Shape := ⟨2, ![1, 2048]⟩
abbrev S_ : Shape := ⟨0, ![]⟩
abbrev S2048 : Shape := ⟨1, ![2048]⟩

abbrev nBuf : Space → Nat
  | .hbm => 18
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S_, .f32⟩
  | .hbm, ⟨4, _⟩ => ⟨S1x2048, .f32⟩
  | .hbm, ⟨5, _⟩ => ⟨S1x2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S_, .f32⟩
  | .hbm, ⟨15, _⟩ => ⟨S1x2048, .f32⟩
  | .hbm, ⟨16, _⟩ => ⟨S1x2048, .f32⟩
  | .hbm, ⟨17, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== CtxNormBwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 10
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== CtxNormBwdRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 66
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S256x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S256x2048, .f32⟩
  | .hbm, ⟨47, _⟩ => ⟨S256x2048, .f32⟩
  | .hbm, ⟨48, _⟩ => ⟨S256x2048, .f32⟩
  | .hbm, ⟨49, _⟩ => ⟨S_, .f32⟩
  | .hbm, ⟨50, _⟩ => ⟨S256, .f32⟩
  | .hbm, ⟨51, _⟩ => ⟨S256x1, .f32⟩
  | .hbm, ⟨52, _⟩ => ⟨S256x2048, .f32⟩
  | .hbm, ⟨53, _⟩ => ⟨S256x2048, .f32⟩
  | .hbm, ⟨54, _⟩ => ⟨S256x2048, .f32⟩
  | .hbm, ⟨55, _⟩ => ⟨S256x1, .f32⟩
  | .hbm, ⟨56, _⟩ => ⟨S_, .f32⟩
  | .hbm, ⟨57, _⟩ => ⟨S256x1, .f32⟩
  | .hbm, ⟨58, _⟩ => ⟨S256x1, .f32⟩
  | .hbm, ⟨59, _⟩ => ⟨S_, .f32⟩
  | .hbm, ⟨60, _⟩ => ⟨S256, .f32⟩
  | .hbm, ⟨61, _⟩ => ⟨S256x2048, .f32⟩
  | .hbm, ⟨62, _⟩ => ⟨S256x2048, .f32⟩
  | .hbm, ⟨63, _⟩ => ⟨S256x2048, .f32⟩
  | .hbm, ⟨64, _⟩ => ⟨S256x2048, .f32⟩
  | .hbm, ⟨65, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_cst_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== MixcNormBwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 9
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S256x2048, .f32⟩
  | .hbm, ⟨5, _⟩ => ⟨S256x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MixcNormBwdRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 64
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S256x2048, .f32⟩
  | .hbm, ⟨5, _⟩ => ⟨S256x2048, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S_, .f32⟩
  | .hbm, ⟨18, _⟩ => ⟨S256x1, .f32⟩
  | .hbm, ⟨19, _⟩ => ⟨S256x1, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S256x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S_, .f32⟩
  | .hbm, ⟨49, _⟩ => ⟨S256, .f32⟩
  | .hbm, ⟨50, _⟩ => ⟨S256x1, .f32⟩
  | .hbm, ⟨51, _⟩ => ⟨S256x2048, .f32⟩
  | .hbm, ⟨52, _⟩ => ⟨S256x2048, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S_, .f32⟩
  | .hbm, ⟨58, _⟩ => ⟨S256, .f32⟩
  | .hbm, ⟨59, _⟩ => ⟨S256x2048, .f32⟩
  | .hbm, ⟨60, _⟩ => ⟨S256x2048, .f32⟩
  | .hbm, ⟨61, _⟩ => ⟨S256x2048, .f32⟩
  | .hbm, ⟨62, _⟩ => ⟨S256x2048, .f32⟩
  | .hbm, ⟨63, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Loss.lean ====
abbrev S8192x2048 : Shape := ⟨2, ![8192, 2048]⟩
abbrev S1x2048 : Shape := ⟨2, ![1, 2048]⟩
abbrev S32x1x128 : Shape := ⟨3, ![32, 1, 128]⟩
abbrev S256x2048 : Shape := ⟨2, ![256, 2048]⟩
abbrev S1x1x128 : Shape := ⟨3, ![1, 1, 128]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S2048 : Shape := ⟨1, ![2048]⟩
abbrev S1x128 : Shape := ⟨2, ![1, 128]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S32x1x128, .f32⟩
  | .hbm, ⟨4, _⟩ => ⟨S8192x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x1x128, .f32⟩
  | .local _ .vmem, ⟨6, _⟩ => ⟨S1x1x128, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S32x256 : Shape := ⟨2, ![32, 256]⟩
abbrev S32 : Shape := ⟨1, ![32]⟩
abbrev S2048 : Shape := ⟨1, ![2048]⟩
abbrev S32x1x1 : Shape := ⟨3, ![32, 1, 1]⟩
abbrev S32x1x128 : Shape := ⟨3, ![32, 1, 128]⟩

abbrev nBuf : Space → Nat
  | .hbm => 98
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S32x256, .f32⟩
  | .hbm, ⟨26, _⟩ => ⟨S_, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S_, .f32⟩
  | .hbm, ⟨75, _⟩ => ⟨S2048, .f32⟩
  | .hbm, ⟨76, _⟩ => ⟨S1x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S8192x2048, .f32⟩
  | .hbm, ⟨84, _⟩ => ⟨S8192x2048, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x2048, .f32⟩
  | .hbm, ⟨92, _⟩ => ⟨S8192x2048, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S32x1x1, .f32⟩
  | .hbm, ⟨97, _⟩ => ⟨S32x1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_cst_15 : Ref sig .tc := ⟨.hbm, 64, rfl⟩
abbrev main_cst_16 : Ref sig .tc := ⟨.hbm, 65, rfl⟩
abbrev main_v45 : Ref sig .tc := ⟨.hbm, 66, rfl⟩
abbrev main_v46 : Ref sig .tc := ⟨.hbm, 67, rfl⟩
abbrev main_cst_17 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_18 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_19 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_20 : Ref sig .tc := ⟨.hbm, 86, rfl⟩
abbrev main_v62 : Ref sig .tc := ⟨.hbm, 87, rfl⟩
abbrev main_v63 : Ref sig .tc := ⟨.hbm, 88, rfl⟩
abbrev main_cst_21 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== Fwd.lean ====
abbrev S8192x8x192 : Shape := ⟨3, ![8192, 8, 192]⟩
abbrev S8448x8x192 : Shape := ⟨3, ![8448, 8, 192]⟩
abbrev S8448x8x128 : Shape := ⟨3, ![8448, 8, 128]⟩
abbrev S8x8192x192 : Shape := ⟨3, ![8, 8192, 192]⟩
abbrev S_ : Shape := ⟨0, ![]⟩
abbrev S8x8192x256 : Shape := ⟨3, ![8, 8192, 256]⟩
abbrev S8x8448x192 : Shape := ⟨3, ![8, 8448, 192]⟩
abbrev S8x8448x256 : Shape := ⟨3, ![8, 8448, 256]⟩
abbrev S8x128x8448 : Shape := ⟨3, ![8, 128, 8448]⟩
abbrev S8192x1024 : Shape := ⟨2, ![8192, 1024]⟩
abbrev S8x1x8192 : Shape := ⟨3, ![8, 1, 8192]⟩
abbrev S1x2048x256 : Shape := ⟨3, ![1, 2048, 256]⟩
abbrev S1x1408x256 : Shape := ⟨3, ![1, 1408, 256]⟩
abbrev S1x128x1408 : Shape := ⟨3, ![1, 128, 1408]⟩
abbrev S2048x128 : Shape := ⟨2, ![2048, 128]⟩
abbrev S1x1x2048 : Shape := ⟨3, ![1, 1, 2048]⟩
abbrev S1x2048 : Shape := ⟨2, ![1, 2048]⟩
abbrev S128x2048 : Shape := ⟨2, ![128, 2048]⟩
abbrev S1408x2048 : Shape := ⟨2, ![1408, 2048]⟩
abbrev S2048x256 : Shape := ⟨2, ![2048, 256]⟩
abbrev S1408x256 : Shape := ⟨2, ![1408, 256]⟩
abbrev S2048 : Shape := ⟨1, ![2048]⟩
abbrev S128x1408 : Shape := ⟨2, ![128, 1408]⟩

abbrev nBuf : Space → Nat
  | .hbm => 17
  | .vmem => 15
  | .smem => 0
  | _ => 0

abbrev bufTy : (tb : Table) → Fin (tcTables nBuf tb) → BufTy
  | .hbm, ⟨0, _⟩ => ⟨S8192x8x192, .f32⟩
  | .hbm, ⟨1, _⟩ => ⟨S8448x8x192, .f32⟩
  | .hbm, ⟨2, _⟩ => ⟨S8448x8x128, .f32⟩
  | .hbm, ⟨3, _⟩ => ⟨S8x8192x192, .f32⟩
  | .hbm, ⟨4, _⟩ => ⟨S_, .i32⟩
  | .hbm, ⟨5, _⟩ => ⟨S_, .f32⟩
  | .hbm, ⟨6, _⟩ => ⟨S8x8192x256, .f32⟩
  | .hbm, ⟨7, _⟩ => ⟨S8x8192x256, .bf16⟩
  | .hbm, ⟨8, _⟩ => ⟨S8x8448x192, .f32⟩
  | .hbm, ⟨9, _⟩ => ⟨S_, .i32⟩
  | .hbm, ⟨10, _⟩ => ⟨S_, .f32⟩
  | .hbm, ⟨11, _⟩ => ⟨S8x8448x256, .f32⟩
  | .hbm, ⟨12, _⟩ => ⟨S8x8448x256, .bf16⟩
  | .hbm, ⟨13, _⟩ => ⟨S8x128x8448, .f32⟩
  | .hbm, ⟨14, _⟩ => ⟨S8x128x8448, .bf16⟩
  | .hbm, ⟨15, _⟩ => ⟨S8192x1024, .bf16⟩
  | .hbm, ⟨16, _⟩ => ⟨S8x1x8192, .f32⟩
  | .local _ .vmem, ⟨0, _⟩ => ⟨S1x2048x256, .bf16⟩
  | .local _ .vmem, ⟨1, _⟩ => ⟨S1x2048x256, .bf16⟩
  | .local _ .vmem, ⟨2, _⟩ => ⟨S1x1408x256, .bf16⟩
  | .local _ .vmem, ⟨3, _⟩ => ⟨S1x1408x256, .bf16⟩
  | .local _ .vmem, ⟨4, _⟩ => ⟨S1x128x1408, .bf16⟩
  | .local _ .vmem, ⟨5, _⟩ => ⟨S1x128x1408, .bf16⟩
  | .local _ .vmem, ⟨6, _⟩ => ⟨S2048x128, .bf16⟩
  | .local _ .vmem, ⟨7, _⟩ => ⟨S2048x128, .bf16⟩
  | .local _ .vmem, ⟨8, _⟩ => ⟨S1x1x2048, .f32⟩
  | .local _ .vmem, ⟨9, _⟩ => ⟨S1x1x2048, .f32⟩
  | .local _ .vmem, ⟨10, _⟩ => ⟨S1x2048, .f32⟩
  | .local _ .vmem, ⟨11, _⟩ => ⟨S1x2048, .f32⟩
  | .local _ .vmem, ⟨12, _⟩ => ⟨S128x2048, .f32⟩
  | .local _ .vmem, ⟨13, _⟩ => ⟨S1408x2048, .f32⟩
  | .local _ .vmem, ⟨14, _⟩ => ⟨S1408x2048, .bf16⟩
  | _, _ => ⟨S8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 6], ![false, false, false]⟩

def k0_cond2 (i : grid0.Coords) : BitVec 1 :=
  let arg2 : BitVec 32 := BitVec.ofNat 32 (i 2).val
  let c5_i32 : BitVec 32 := 5#32
  let v55 : BitVec 1 := Scalar.cmpi .eq arg2 c5_i32
  let v56 : BitVec 32 := Scalar.extui v55
  let c0_i32_36 : BitVec 32 := 0#32
  let v57 : BitVec 1 := Scalar.cmpi .ne v56 c0_i32_36
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1408x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FwdIdeal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale_log2e" => some (((Real.sqrt 192)⁻¹ * (Real.log 2)⁻¹ : ℝ) : EReal)
  | _ => none
-- ==== FwdRefIdeal.lean ====
abbrev S8192x8x192 : Shape := ⟨3, ![8192, 8, 192]⟩
abbrev S8448x8x192 : Shape := ⟨3, ![8448, 8, 192]⟩
abbrev S8448x8x128 : Shape := ⟨3, ![8448, 8, 128]⟩
abbrev S_ : Shape := ⟨0, ![]⟩
abbrev S8x8192x8448 : Shape := ⟨3, ![8, 8192, 8448]⟩
abbrev S8x8192 : Shape := ⟨2, ![8, 8192]⟩
abbrev S8x8192x1 : Shape := ⟨3, ![8, 8192, 1]⟩
abbrev S8x1x8192 : Shape := ⟨3, ![8, 1, 8192]⟩
abbrev S8x128x8192 : Shape := ⟨3, ![8, 128, 8192]⟩
abbrev S8192x8x128 : Shape := ⟨3, ![8192, 8, 128]⟩
abbrev S8192x1024 : Shape := ⟨2, ![8192, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x8x192, .f32⟩
  | .hbm, ⟨1, _⟩ => ⟨S8448x8x192, .f32⟩
  | .hbm, ⟨2, _⟩ => ⟨S8448x8x128, .f32⟩
  | .hbm, ⟨3, _⟩ => ⟨S_, .f32⟩
  | .hbm, ⟨4, _⟩ => ⟨S_, .f32⟩
  | .hbm, ⟨5, _⟩ => ⟨S8192x8x192, .f32⟩
  | .hbm, ⟨6, _⟩ => ⟨S8192x8x192, .f32⟩
  | .hbm, ⟨7, _⟩ => ⟨S8x8192x8448, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S8x8192x8448, .f32⟩
  | .hbm, ⟨12, _⟩ => ⟨S8x8192x8448, .f32⟩
  | .hbm, ⟨13, _⟩ => ⟨S8x8192x8448, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x1x8192, .f32⟩
  | .hbm, ⟨20, _⟩ => ⟨S_, .f32⟩
  | .hbm, ⟨21, _⟩ => ⟨S_, .f32⟩
  | .hbm, ⟨22, _⟩ => ⟨S8192x8x192, .f32⟩
  | .hbm, ⟨23, _⟩ => ⟨S8192x8x192, .f32⟩
  | .hbm, ⟨24, _⟩ => ⟨S8x8192x8448, .f32⟩
  | .hbm, ⟨25, _⟩ => ⟨S_, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S8x8192, .f32⟩
  | .hbm, ⟨30, _⟩ => ⟨S8x8192x1, .f32⟩
  | .hbm, ⟨31, _⟩ => ⟨S8x8192x8448, .f32⟩
  | .hbm, ⟨32, _⟩ => ⟨S8x8192x8448, .f32⟩
  | .hbm, ⟨33, _⟩ => ⟨S8x8192x8448, .f32⟩
  | .hbm, ⟨34, _⟩ => ⟨S_, .f32⟩
  | .hbm, ⟨35, _⟩ => ⟨S8x8192, .f32⟩
  | .hbm, ⟨36, _⟩ => ⟨S8x8192x1, .f32⟩
  | .hbm, ⟨37, _⟩ => ⟨S8x8192x8448, .f32⟩
  | .hbm, ⟨38, _⟩ => ⟨S8x8192x8448, .f32⟩
  | .hbm, ⟨39, _⟩ => ⟨S8x128x8192, .f32⟩
  | .hbm, ⟨40, _⟩ => ⟨S8192x8x128, .f32⟩
  | .hbm, ⟨41, _⟩ => ⟨S8192x1024, .f32⟩
  | .hbm, ⟨42, _⟩ => ⟨S8192x1024, .bf16⟩
  | _, _ => ⟨S8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Proof.AttnMath.lean ====
module

public import Idealize.ShloMosaic.PureOps.Ideal

@[expose] public section

/-! The gradient of attention over the reals: the scores, their softmax, and what the softmax's own gradient is. -/

noncomputable section

namespace Cert.AttnMath

open scoped BigOperators

/-- A finite sum of reals is the same sum taken in the extended reals. -/
theorem coe_sum {ι : Type*} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

/-- The greatest of finitely many reals is a real. -/
theorem fold_max_real {ι : Type*} [Fintype ι] [Nonempty ι] (f : ι → EReal) (hf : ∀ k, ∃ r : ℝ, f k = r) :
    ∃ r : ℝ, Finset.univ.fold max (⊥ : EReal) f = r := by
  have hb : (⊥ : EReal) < Finset.univ.fold max (⊥ : EReal) f := by
    obtain ⟨k⟩ := ‹Nonempty ι›
    obtain ⟨r, hr⟩ := hf k
    exact (Finset.lt_fold_max _).2 (.inr ⟨k, Finset.mem_univ _, hr ▸ EReal.bot_lt_coe _⟩)
  have ht : Finset.univ.fold max (⊥ : EReal) f < ⊤ :=
    (Finset.fold_max_lt _).2 ⟨bot_lt_top, fun k _ => by obtain ⟨r, hr⟩ := hf k; exact hr ▸ EReal.coe_lt_top _⟩
  exact ⟨_, (EReal.coe_toReal ht.ne hb.ne').symm⟩

variable {n : ℕ}

/-- The softmax of a row of scores. -/
def soft (s : Fin (n + 1) → ℝ) (j : Fin (n + 1)) : ℝ := Real.exp (s j) / ∑ j', Real.exp (s j')

/-- The sum of exponentials of a row is positive. -/
theorem sum_exp_pos (s : Fin (n + 1) → ℝ) : 0 < ∑ j, Real.exp (s j) :=
  Finset.sum_pos (fun _ _ => Real.exp_pos _) ⟨0, Finset.mem_univ _⟩

/-- The softmax does not change when one number is taken from every score. -/
theorem soft_shift (s : Fin (n + 1) → ℝ) (μ : ℝ) (j : Fin (n + 1)) :
    Real.exp (s j - μ) / ∑ j', Real.exp (s j' - μ) = soft s j := by
  unfold soft
  simp only [Real.exp_sub, ← Finset.sum_div]
  have := (Real.exp_pos μ).ne'
  have := (sum_exp_pos s).ne'
  field_simp

/-- The softmax from the logarithm of its sum, in base 2. -/
theorem soft_exp2 (s : Fin (n + 1) → ℝ) (μ : ℝ) (j : Fin (n + 1)) (x : ℝ) (hx : x = s j * (Real.log 2)⁻¹ - (Real.log (∑ j', Real.exp (s j' - μ)) + μ) * (Real.log 2)⁻¹) :
    Real.rpow 2 x = soft s j := by
  have h2 : Real.log 2 ≠ 0 := (Real.log_pos one_lt_two).ne'
  have hZ : 0 < ∑ j', Real.exp (s j' - μ) := sum_exp_pos fun j' => s j' - μ
  have e : Real.log 2 * x = (s j - μ) - Real.log (∑ j', Real.exp (s j' - μ)) := by rw [hx]; field_simp; ring
  show (2 : ℝ) ^ x = _
  rw [Real.rpow_def_of_pos two_pos, e, Real.exp_sub, Real.exp_log hZ, soft_shift]

/-- The gradient of a row of scores, `dp` being the gradient of its softmax. -/
def dsoft (s dp : Fin (n + 1) → ℝ) (j : Fin (n + 1)) : ℝ := soft s j * (dp j - ∑ j', soft s j' * dp j')

/-- The same from the exponentials and their sum, as the transposed derivative of the quotient has it. -/
theorem dsoft_quotient (s dp : Fin (n + 1) → ℝ) (μ : ℝ) (j : Fin (n + 1)) :
    (dp j / (∑ j', Real.exp (s j' - μ))
      + -(∑ j', dp j' * (1 / ((∑ j', Real.exp (s j' - μ)) * (∑ j', Real.exp (s j' - μ)))) * Real.exp (s j' - μ))) * Real.exp (s j - μ)
      = dsoft s dp j := by
  have hZ : (∑ j', Real.exp (s j' - μ)) ≠ 0 := (sum_exp_pos fun j' => s j' - μ).ne'
  unfold dsoft
  simp only [← soft_shift s μ]
  generalize (∑ j', Real.exp (s j' - μ)) = Z at hZ
  have e : (∑ j', dp j' * (1 / (Z * Z)) * Real.exp (s j' - μ)) = (∑ j', Real.exp (s j' - μ) / Z * dp j') / Z := by
    rw [Finset.sum_div]; refine Finset.sum_congr rfl fun j' _ => ?_
    field_simp
  rw [e]; field_simp; ring

/-! ## The arrays -/

variable (q : Fin 8192 → Fin 8 → Fin 192 → ℝ) (k : Fin 8448 → Fin 8 → Fin 192 → ℝ) (v : Fin 8448 → Fin 8 → Fin 128 → ℝ)
  (g : Fin 8192 → Fin 8 → Fin 128 → ℝ)

/-- The score of query `i` against key `j` in head `h`. -/
def score (h : Fin 8) (i : Fin 8192) (j : Fin 8448) : ℝ := ∑ d, q i h d / Real.sqrt 192 * k j h d

/-- The gradient of that score's softmax. -/
def dprob (h : Fin 8) (i : Fin 8192) (j : Fin 8448) : ℝ := ∑ e, g i h e * v j h e

/-- The softmax of a query's scores. -/
def prob (h : Fin 8) (i : Fin 8192) (j : Fin 8448) : ℝ := soft (n := 8447) (score q k h i) j

/-- The gradient of the score. -/
def dscore (h : Fin 8) (i : Fin 8192) (j : Fin 8448) : ℝ := dsoft (n := 8447) (score q k h i) (dprob v g h i) j

/-- The gradient of the scaled query. -/
def dquery (h : Fin 8) (d : Fin 192) (i : Fin 8192) : ℝ := ∑ j, dscore q k v g h i j * k j h d

/-- The gradient of the key. -/
def dkey (h : Fin 8) (j : Fin 8448) (d : Fin 192) : ℝ := ∑ i, dscore q k v g h i j * (q i h d / Real.sqrt 192)

/-- The gradient of the value. -/
def dvalue (h : Fin 8) (j : Fin 8448) (e : Fin 128) : ℝ := ∑ i, g i h e * prob q k h i j

end Cert.AttnMath

end
-- ==== Proof.AttnRef.lean ====
module

public import proofs.«01_k».proof.Proof.Gen.ReferenceIdeal.Run
public import proofs.«01_k».proof.Proof.AttnMath
public import Idealize.ShloMosaic.Lib.Pointwise

@[expose] public section

set_option maxRecDepth 16384

/-! The reference's intermediate arrays, each read at an index as a real number. -/

noncomputable section

namespace Cert.ReferenceIdeal.Attn

open Cert.ReferenceIdeal Cert.ReferenceIdeal.Gen Cert.AttnMath
open Idealize.ShloMosaic Idealize.ShloMosaic.TcCoe Idealize.SL.Sem Idealize.ShloMosaic.Pointwise
open scoped BigOperators

/-- The scaled query. -/
def qsA (x0 : FVec Ideal S8192x8x192 .f32) : FVec Ideal S8192x8x192 .f32 :=
  Host.divf x0 (broadcastInDim S8192x8x192 ![] bcast_S_S8192x8x192 (Host.sqrt (constant S_ .f32 0x43400000#32)))
/-- The scores. -/
def sA (x0 : FVec Ideal S8192x8x192 .f32) (x1 : FVec Ideal S8448x8x192 .f32) : FVec Ideal S8x8192x8448 .f32 :=
  Host.dotGeneral dot_S8192x8x192_S8448x8x192_S8x8192x8448_2_2_0_0_1_1 none (qsA x0) x1
/-- The greatest score of a query. -/
def mA (s : FVec Ideal S8x8192x8448 .f32) : FVec Ideal S8x8192 .f32 :=
  maximumf (broadcastInDim S8x8192 ![] bcast_S_S8x8192 (constant S_ .f32 0xFF800000#32))
    (Host.reduce FloatOps.maximumf s (constant S_ .f32 0xFF800000#32) reducesTo_S8x8192x8448_S8x8192_d2 h_S_)
/-- The exponentials of the scores less the greatest. -/
def eA (s : FVec Ideal S8x8192x8448 .f32) : FVec Ideal S8x8192x8448 .f32 :=
  Host.exp (subf s (broadcastInDim S8x8192x8448 ![0, 1, 2] bcast_S8x8192x1_S8x8192x8448_0_1_2 (broadcastInDim S8x8192x1 ![0, 1] bcast_S8x8192_S8x8192x1_0_1 (mA s))))
/-- A row's sum. -/
def sumA (e : FVec Ideal S8x8192x8448 .f32) : FVec Ideal S8x8192 .f32 :=
  Host.reduceAdd e (constant S_ .f32 0x00000000#32) reducesTo_S8x8192x8448_S8x8192_d2 h_S_
/-- A row's number at each of its keys. -/
def rowA (z : FVec Ideal S8x8192 .f32) : FVec Ideal S8x8192x8448 .f32 :=
  broadcastInDim S8x8192x8448 ![0, 1, 2] bcast_S8x8192x1_S8x8192x8448_0_1_2 (broadcastInDim S8x8192x1 ![0, 1] bcast_S8x8192_S8x8192x1_0_1 z)

theorem root_eq : Ideal.ofBits .f32 0x43400000#32 = ((192 : ℝ) : EReal) := by
  simp [Ideal.ofBits, Ideal.ieee, -EReal.coe_mul]; norm_num
theorem low_eq : Ideal.ofBits .f32 0xFF800000#32 = (⊥ : EReal) := by
  simp [Ideal.ofBits, Ideal.ieee]

variable {q : Fin 8192 → Fin 8 → Fin 192 → ℝ} {k : Fin 8448 → Fin 8 → Fin 192 → ℝ} {v : Fin 8448 → Fin 8 → Fin 128 → ℝ}
  {g : Fin 8192 → Fin 8 → Fin 128 → ℝ}
variable {x0 : FVec Ideal S8192x8x192 .f32} {x1 : FVec Ideal S8448x8x192 .f32} {x2 : FVec Ideal S8448x8x128 .f32}

theorem qsA_at (h0 : ∀ i h d, x0 (ix3 i h d) = (q i h d : EReal)) (i : Fin 8192) (h : Fin 8) (d : Fin 192) :
    qsA x0 (ix3 i h d) = ((q i h d / Real.sqrt 192 : ℝ) : EReal) := by
  pointwise [qsA]
  rw [h0, root_eq, Ideal.sqrt_coe, if_neg (by norm_num), Ideal.div_coe (by positivity), ← EReal.coe_mul, mul_one_div]

theorem sA_at (h0 : ∀ i h d, x0 (ix3 i h d) = (q i h d : EReal)) (h1 : ∀ j h d, x1 (ix3 j h d) = (k j h d : EReal)) (h : Fin 8) (i : Fin 8192) (j : Fin 8448) :
    sA x0 x1 (ix3 h i j) = (score q k h i j : EReal) := by
  pointwise [sA]
  simp only [qsA_at h0, h1, ← EReal.coe_mul, ← coe_sum, score]

theorem max_low_at (R : FVec Ideal S8x8192 .f32) (j : S8x8192.Idx) :
    maximumf (broadcastInDim S8x8192 ![] bcast_S_S8x8192 (constant S_ .f32 0xFF800000#32)) R j = R j := by
  pointwise
  rw [low_eq, max_eq_right bot_le]

/-- The greatest score of a query is a real. -/
theorem mA_real (s : FVec Ideal S8x8192x8448 .f32) (hs : ∀ h i j, ∃ r : ℝ, s (ix3 h i j) = r) (j : S8x8192.Idx) : ∃ r : ℝ, mA s j = r := by
  have hi : constant (F := Ideal) S_ .f32 0xFF800000#32 (Shape.Idx.first h_S_) = (⊥ : EReal) := low_eq
  rw [mA, max_low_at, Host.reduce_eq_fold_single FloatOps.maximumf s _ _ (by decide : S8x8192x8448.Reduces [2] S8x8192), hi]
  haveI : Nonempty (Fin (S8x8192x8448.size 2)) := ⟨⟨0, by decide⟩⟩
  refine fold_max_real _ fun x => ?_
  rw [Function.comp_apply, eq_ix3 (Shape.Reduces.lift _ j x)]
  exact hs _ _ _

theorem eA_at (s : FVec Ideal S8x8192x8448 .f32) (h : Fin 8) (i : Fin 8192) (j) :
    eA s (ix3 h i j) = Ideal.exp (s (ix3 h i j) - mA s (ix2 h i)) := by
  pointwise [eA]
theorem sumA_at (s : FVec Ideal S8x8192x8448 .f32) (h : Fin 8) (i : Fin 8192) :
    sumA s (ix2 h i) = ∑ j, s (ix3 h i j) := by
  pointwise [sumA]
theorem rowA_at (z : FVec Ideal S8x8192 .f32) (h : Fin 8) (i : Fin 8192) (j : Fin 8448) : rowA z (ix3 h i j) = z (ix2 h i) := by
  pointwise [rowA]

/-- The exponentials and their sum, every score being real: at some shift the same for a query's keys. -/
theorem eA_real {s : FVec Ideal S8x8192x8448 .f32} {σ : Fin 8 → Fin 8192 → Fin 8448 → ℝ} (hs : ∀ h i j, s (ix3 h i j) = (σ h i j : EReal)) (h : Fin 8) (i : Fin 8192) :
    ∃ μ : ℝ, mA s (ix2 h i) = μ ∧ (∀ j, eA s (ix3 h i j) = (Real.exp (σ h i j - μ) : EReal))
      ∧ sumA (eA s) (ix2 h i) = ((∑ j, Real.exp (σ h i j - μ) : ℝ) : EReal) := by
  obtain ⟨μ, hμ⟩ := mA_real s (fun h i j => ⟨_, hs h i j⟩) (ix2 h i)
  have he : ∀ j, eA s (ix3 h i j) = (Real.exp (σ h i j - μ) : EReal) := fun j => by
    rw [eA_at, hμ, hs, ← EReal.coe_sub, Ideal.exp_coe]
  exact ⟨μ, hμ, he, by rw [sumA_at, coe_sum]; exact Finset.sum_congr rfl fun j _ => he j⟩

/-- The softmax. -/
def pA (e : FVec Ideal S8x8192x8448 .f32) : FVec Ideal S8x8192x8448 .f32 := Host.divf e (rowA (sumA e))

theorem div_real {x y : EReal} {a b : ℝ} (hx : x = a) (hy : y = b) (hb : b ≠ 0) : Ideal.div x y = ((a / b : ℝ) : EReal) := by
  rw [hx, hy, Ideal.div_coe hb, ← EReal.coe_mul, mul_one_div]

theorem pA_at {s : FVec Ideal S8x8192x8448 .f32} {σ : Fin 8 → Fin 8192 → Fin 8448 → ℝ} (hs : ∀ h i j, s (ix3 h i j) = (σ h i j : EReal)) (h : Fin 8) (i : Fin 8192) (j : Fin 8448) :
    pA (eA s) (ix3 h i j) = (soft (n := 8447) (σ h i) j : EReal) := by
  obtain ⟨μ, -, he, hz⟩ := eA_real hs h i
  pointwise [pA]
  rw [rowA_at, div_real (he j) hz (sum_exp_pos (n := 8447) fun j => σ h i j - μ).ne']
  exact congrArg _ (soft_shift (n := 8447) (σ h i) μ j)

/-- The gradient by head. -/
def gA (x3 : FVec Ideal S8192x1024 .f32) : FVec Ideal S8x128x8192 .f32 :=
  transpose S8x128x8192 [1, 2, 0] (shapeCast _ x3 shapeCasts_S8192x1024_S8192x8x128) transposes_S8192x8x128_S8x128x8192_1_2_0
/-- The gradient of the softmax. -/
def dpA (x2 : FVec Ideal S8448x8x128 .f32) (x3 : FVec Ideal S8192x1024 .f32) : FVec Ideal S8x8192x8448 .f32 :=
  Host.dotGeneral dot_S8x128x8192_S8448x8x128_S8x8192x8448_1_2_2_0_0_1 none (gA x3) x2
/-- The gradient of the scores, from the gradient of the softmax and the exponentials. -/
def dsA (dp e : FVec Ideal S8x8192x8448 .f32) : FVec Ideal S8x8192x8448 .f32 :=
  mulf (addf (Host.divf dp (rowA (sumA e)))
    (broadcastInDim S8x8192x8448 ![0, 1] bcast_S8x8192_S8x8192x8448_0_1 (Host.reduceAdd (Host.negf (shapeCast _ (Host.reduceAdd
      (mulf (mulf dp (broadcastInDim S8x8192x8448 ![0, 1, 2] bcast_S8x8192x1_S8x8192x8448_0_1_2
        (Host.divf (broadcastInDim S8x8192x1 ![] bcast_S_S8x8192x1 (constant S_ .f32 0x3F800000#32))
          (mulf (broadcastInDim S8x8192x1 ![0, 1] bcast_S8x8192_S8x8192x1_0_1 (sumA e)) (broadcastInDim S8x8192x1 ![0, 1] bcast_S8x8192_S8x8192x1_0_1 (sumA e)))))) e)
      (constant S_ .f32 0x00000000#32) reducesTo_S8x8192x8448_S8x8192_d2 h_S_) shapeCasts_S8x8192_S8x8192x1))
      (constant S_ .f32 0x00000000#32) reducesTo_S8x8192x1_S8x8192_d2 h_S_))) e

variable {x3 : FVec Ideal S8192x1024 .f32}

theorem gA_at (h3 : ∀ i h e, x3 (ix2 i ⟨h.val * 128 + e.val, by omega⟩) = (g i h e : EReal)) (h : Fin 8) (e : Fin 128) (i : Fin 8192) :
    gA x3 (ix3 h e i) = (g i h e : EReal) := by
  pointwise [gA]
  exact h3 i h e

theorem dpA_at (h2 : ∀ j h e, x2 (ix3 j h e) = (v j h e : EReal)) (h3 : ∀ i h e, x3 (ix2 i ⟨h.val * 128 + e.val, by omega⟩) = (g i h e : EReal))
    (h : Fin 8) (i : Fin 8192) (j : Fin 8448) : dpA x2 x3 (ix3 h i j) = (dprob v g h i j : EReal) := by
  pointwise [dpA]
  simp only [gA_at h3, h2, ← EReal.coe_mul, ← coe_sum, dprob]

theorem dsA_at {s dp : FVec Ideal S8x8192x8448 .f32} {σ δ : Fin 8 → Fin 8192 → Fin 8448 → ℝ} (hs : ∀ h i j, s (ix3 h i j) = (σ h i j : EReal))
    (hd : ∀ h i j, dp (ix3 h i j) = (δ h i j : EReal)) (h : Fin 8) (i : Fin 8192) (j : Fin 8448) :
    dsA dp (eA s) (ix3 h i j) = (dsoft (n := 8447) (σ h i) (δ h i) j : EReal) := by
  obtain ⟨μ, -, he, hz⟩ := eA_real hs h i
  have hZ : (∑ j, Real.exp (σ h i j - μ)) ≠ 0 := (sum_exp_pos (n := 8447) fun j => σ h i j - μ).ne'
  pointwise [dsA]
  simp only [rowA_at, he, hz, hd, Fin.sum_univ_one]
  rw [div_real rfl rfl hZ]
  simp only [← EReal.coe_mul]
  rw [div_real EReal.coe_one.symm rfl (mul_ne_zero hZ hZ)]
  simp only [← EReal.coe_mul, ← coe_sum, ← EReal.coe_neg, ← EReal.coe_add]
  exact congrArg _ (dsoft_quotient (n := 8447) (σ h i) (δ h i) μ j)

/-! ## The results -/

theorem sitofp_zero : (FloatOps.sitofp (F := Ideal) .f32 (0#32) : Ideal .f32) = (0 : EReal) := by
  show (((0#32 : BitVec 32).toInt : ℝ) : EReal) = 0
  simp

/-- The query gradient, as the reference returns it. -/
def dqA (ds : FVec Ideal S8x8192x8448 .f32) (x1 : FVec Ideal S8448x8x192 .f32) : FVec Ideal S8x256x8192 .f32 :=
  transpose S8x256x8192 [0, 2, 1] (pad S8x8192x256 ![0, 0, 0] ![0, 0, 64] ![0, 0, 0] (transpose S8x8192x192 [1, 0, 2] (transpose S8192x8x192 [1, 0, 2]
    (Host.dotGeneral dot_S8x8192x8448_S8448x8x192_S8x8192x192_2_0_1_2_0_1 none ds x1) transposes_S8x8192x192_S8192x8x192_1_0_2) transposes_S8192x8x192_S8x8192x192_1_0_2)
    (sitofp .f32 (constantI S_ 32 0#32)) pads_S8x8192x192_S8x8192x256_000_000_0640 h_S_) transposes_S8x8192x256_S8x256x8192_0_2_1
/-- The key gradient, as the reference returns it. -/
def dkA (ds : FVec Ideal S8x8192x8448 .f32) (qs : FVec Ideal S8192x8x192 .f32) : FVec Ideal S8x8448x256 .bf16 :=
  truncf .bf16 (pad S8x8448x256 ![0, 0, 0] ![0, 0, 64] ![0, 0, 0] (transpose S8x8448x192 [1, 0, 2] (transpose S8448x8x192 [1, 0, 2]
    (Host.dotGeneral dot_S8x8192x8448_S8192x8x192_S8x8448x192_1_0_2_2_0_1 none ds qs) transposes_S8x8448x192_S8448x8x192_1_0_2) transposes_S8448x8x192_S8x8448x192_1_0_2)
    (sitofp .f32 (constantI S_ 32 0#32)) pads_S8x8448x192_S8x8448x256_000_000_0640 h_S_) bitsLt_bf16_f32
/-- The value gradient, as the reference returns it. -/
def dvA (p : FVec Ideal S8x8192x8448 .f32) (x3 : FVec Ideal S8192x1024 .f32) : FVec Ideal S8x8448x128 .bf16 :=
  truncf .bf16 (transpose S8x8448x128 [1, 0, 2] (transpose S8448x8x128 [2, 0, 1] (Host.dotGeneral dot_S8x128x8192_S8x8192x8448_S8x128x8448_2_1_1_2_0_0 none (gA x3) p)
    transposes_S8x128x8448_S8448x8x128_2_0_1) transposes_S8448x8x128_S8x8448x128_1_0_2) bitsLt_bf16_f32

section
variable (h0 : ∀ i h d, x0 (ix3 i h d) = (q i h d : EReal)) (h1 : ∀ j h d, x1 (ix3 j h d) = (k j h d : EReal))
  (h2 : ∀ j h e, x2 (ix3 j h e) = (v j h e : EReal)) (h3 : ∀ i h e, x3 (ix2 i ⟨h.val * 128 + e.val, by omega⟩) = (g i h e : EReal))
include h0 h1 h2 h3

theorem dqA_at (h : Fin 8) (d : Fin 256) (i : Fin 8192) :
    dqA (dsA (dpA x2 x3) (eA (sA x0 x1))) x1 (ix3 h d i) = if hd : d.val < 192 then (dquery q k v g h ⟨d.val, hd⟩ i : EReal) else 0 := by
  pointwise [dqA]
  simp only [dsA_at (sA_at h0 h1) (dpA_at h2 h3), h1, sitofp_zero, ← EReal.coe_mul, ← coe_sum]
  rfl

theorem dkA_at (h : Fin 8) (j : Fin 8448) (d : Fin 256) :
    dkA (dsA (dpA x2 x3) (eA (sA x0 x1))) (qsA x0) (ix3 h j d) = if hd : d.val < 192 then (dkey q k v g h j ⟨d.val, hd⟩ : EReal) else 0 := by
  pointwise [dkA]
  simp only [dsA_at (sA_at h0 h1) (dpA_at h2 h3), qsA_at h0, sitofp_zero, ← EReal.coe_mul, ← coe_sum]
  rfl

theorem dvA_at (h : Fin 8) (j : Fin 8448) (e : Fin 128) :
    dvA (pA (eA (sA x0 x1))) x3 (ix3 h j e) = (dvalue q k g h j e : EReal) := by
  pointwise [dvA]
  simp only [pA_at (sA_at h0 h1), gA_at h3, ← EReal.coe_mul, ← coe_sum]
  rfl
end

/-! ## The run's terms -/

open Cert.ReferenceIdeal.Value in
theorem res_dq (m : (ℓ : Loc nD τ sig) → Buf (Elt Ideal) ℓ) (c : Dev nD) :
    res_out0 m c = dqA (dsA (dpA (m ((c.tc : Thread nD τ).loc main_arg2)) (m ((c.tc : Thread nD τ).loc main_arg3)))
      (eA (sA (m ((c.tc : Thread nD τ).loc main_arg0)) (m ((c.tc : Thread nD τ).loc main_arg1))))) (m ((c.tc : Thread nD τ).loc main_arg1)) := rfl
open Cert.ReferenceIdeal.Value in
theorem res_dk (m : (ℓ : Loc nD τ sig) → Buf (Elt Ideal) ℓ) (c : Dev nD) :
    res_out1 m c = dkA (dsA (dpA (m ((c.tc : Thread nD τ).loc main_arg2)) (m ((c.tc : Thread nD τ).loc main_arg3)))
      (eA (sA (m ((c.tc : Thread nD τ).loc main_arg0)) (m ((c.tc : Thread nD τ).loc main_arg1))))) (qsA (m ((c.tc : Thread nD τ).loc main_arg0))) := rfl

open Cert.ReferenceIdeal.Value in
/-- The reference's run, its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v58) = dqA (dsA (dpA (m ((c.tc : Thread nD τ).loc main_arg2)) (m ((c.tc : Thread nD τ).loc main_arg3)))
          (eA (sA (m ((c.tc : Thread nD τ).loc main_arg0)) (m ((c.tc : Thread nD τ).loc main_arg1))))) (m ((c.tc : Thread nD τ).loc main_arg1))
      ∧ r.2.mem ((c.tc : Thread nD τ).loc main_v61) = dkA (dsA (dpA (m ((c.tc : Thread nD τ).loc main_arg2)) (m ((c.tc : Thread nD τ).loc main_arg3)))
          (eA (sA (m ((c.tc : Thread nD τ).loc main_arg0)) (m ((c.tc : Thread nD τ).loc main_arg1))))) (qsA (m ((c.tc : Thread nD τ).loc main_arg0)))
      ∧ r.2.mem ((c.tc : Thread nD τ).loc main_v63) = dvA (pA (eA (sA (m ((c.tc : Thread nD τ).loc main_arg0)) (m ((c.tc : Thread nD τ).loc main_arg1)))))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2.1, (h c).2.2.1, (h c).2.2.2⟩) (run m ρ)

end Cert.ReferenceIdeal.Attn

end
-- ==== Proof.AttnFinite.lean ====
module

public import proofs.«01_k».proof.Pre_finite
public import Idealize.ShloMosaic.Lib.Tactic
public import Idealize.ShloMosaic.Lib.Pointwise
public import Idealize.ShloMosaic.PureOps.Ideal.Laws

@[expose] public section

/-! The precondition read at one element: its magnitude is below infinity, so it is a real number. -/

noncomputable section

namespace Cert.Pre_finite

open Idealize.ShloMosaic Idealize.ShloMosaic.Pointwise

instance facts : Facts where
  bcast_S_S8192x8x192 := by decide
  bcast_S_S8448x8x192 := by decide
  bcast_S_S8448x8x128 := by decide
  bcast_S_S8192x1024 := by decide

theorem inf_eq : Ideal.ofBits .f32 0x7F800000#32 = (⊤ : EReal) := by
  simp [Ideal.ofBits, Ideal.ieee]

/-- An extended real below infinity in magnitude is a real. -/
theorem real_of_abs {a : EReal} (h : max a (-a) < ⊤) : ∃ r : ℝ, a = r := by
  have h1 : a ≠ ⊤ := fun e => absurd h (by simp [e])
  have h2 : a ≠ ⊥ := fun e => absurd h (by simp [e])
  exact ⟨a.toReal, (EReal.coe_toReal h1 h2).symm⟩

theorem real_of_olt {a b : Ideal .f32} (hb : b = (⊤ : EReal)) (h : FloatOps.cmpf .olt (FloatOps.absf a) b = 1#1) : ∃ r : ℝ, a = (r : EReal) := by
  refine real_of_abs ?_
  rw [Ideal.cmpf_def, Ideal.absf_def, hb] at h
  by_contra hn
  simp [Ideal.cmp, hn] at h

variable {x0 : FVec Ideal S8192x8x192 .f32} {x1 : FVec Ideal S8448x8x192 .f32} {x2 : FVec Ideal S8448x8x128 .f32} {x3 : FVec Ideal S8192x1024 .f32}

theorem real0 (h : (fn (F := Ideal) x0 x1 x2 x3).1 = fun _ => 1#1) (j) : ∃ r : ℝ, x0 j = (r : EReal) := real_of_olt inf_eq (congrFun h j)
theorem real1 (h : (fn (F := Ideal) x0 x1 x2 x3).2.1 = fun _ => 1#1) (j) : ∃ r : ℝ, x1 j = (r : EReal) := real_of_olt inf_eq (congrFun h j)
theorem real2 (h : (fn (F := Ideal) x0 x1 x2 x3).2.2.1 = fun _ => 1#1) (j) : ∃ r : ℝ, x2 j = (r : EReal) := real_of_olt inf_eq (congrFun h j)
theorem real3 (h : (fn (F := Ideal) x0 x1 x2 x3).2.2.2 = fun _ => 1#1) (j) : ∃ r : ℝ, x3 j = (r : EReal) := real_of_olt inf_eq (congrFun h j)

end Cert.Pre_finite

end
-- ==== Proof.AttnStep.lean ====
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.ValueKit
public import Idealize.ShloMosaic.Lib.VecWindow
public import Idealize.ShloMosaic.Lib.WordCmp
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The body's first branch: the query block is the first one. -/
abbrev isFirst (i : grid0.Coords) : Prop := (Scalar.cmpi .ne (Scalar.extui (Scalar.cmpi .eq (BitVec.ofNat 32 (i 2).val) 0#32)) 0#32) = 1#1

theorem isFirst_iff : ∀ i : grid0.Coords, isFirst i ↔ (i 2).val = 0 := by decide +kernel
theorem cond2_iff : ∀ i : grid0.Coords, k0_cond2 i = 1#1 ↔ (i 1).val = 0 := by decide +kernel
theorem cond3_iff : ∀ i : grid0.Coords, k0_cond3 i = 1#1 ↔ ¬ (i 1).val = 0 := by decide +kernel
theorem cond4_iff : ∀ i : grid0.Coords, k0_cond4 i = 1#1 ↔ (i 2).val = 3 := by decide +kernel

/-- The unnormalised gradient of the scores of one block of keys against one block of queries:
    the probabilities times (the gradient of the probabilities minus `delta`). -/
def dsBlk (q : Vec F S1x2048x256 .bf16) (k : Vec F S1x1408x256 .bf16) (v : Vec F S1x1408x128 .bf16) (g : Vec F S2048x128 .bf16)
    (lse delta : Vec F S1x1x2048 .f32) : FVec F S1408x2048 .f32 := k0_pay14 q g lse delta k v

/-- The 192 rows of the transposed key block that the query gradient multiplies. -/
def ktRows (kt : Vec F S1x256x1408 .bf16) : Vec F S1x192x1408 .bf16 :=
  VecWindow.window kt ![0, 0, 0] S1x192x1408.size inb_S1x256x1408_S1x192x1408_0_0_0

/-- The key accumulator after a block of queries. -/
def dkStep (q : Vec F S1x2048x256 .bf16) (k : Vec F S1x1408x256 .bf16) (v : Vec F S1x1408x128 .bf16) (g : Vec F S2048x128 .bf16)
    (lse delta : Vec F S1x1x2048 .f32) (a : Vec F S1408x256 .f32) : Vec F S1408x256 .f32 :=
  k0_pay2 (k0_pay11 q) (dsBlk q k v g lse delta) a

/-- The value accumulator after a block of queries. -/
def dvStep (q : Vec F S1x2048x256 .bf16) (k : Vec F S1x1408x256 .bf16) (g : Vec F S2048x128 .bf16)
    (lse : Vec F S1x1x2048 .f32) (a : Vec F S1408x128 .f32) : Vec F S1408x128 .f32 :=
  k0_pay1 a (k0_pay15 q g lse k)

theorem off_inb (i : grid0.Coords) : ∀ a, (![0, 0, 2048 * (i 2).val] : Fin 3 → ℕ) a + S1x192x2048.size a ≤ S1x256x8192.size a := by
  have h : (i 2).val < 4 := (i 2).isLt
  intro a
  fin_cases a
  · show 0 + 1 ≤ 1; omega
  · show 0 + 192 ≤ 256; omega
  · show 2048 * (i 2).val + 2048 ≤ 8192; omega

/-- The query gradient's window after the first block of keys: the block's columns stored, the rows past the head's
    192 zeroed. -/
def dqFirst (i : grid0.Coords) (ds : FVec F S1408x2048 .f32) (kt : Vec F S1x256x1408 .bf16) (x : Vec F S1x256x8192 .f32) : Vec F S1x256x8192 .f32 :=
  VecWindow.put (VecWindow.put x ![0, 0, 2048 * (i 2).val] S1x192x2048.size (k0_pay4 ds (ktRows kt)))
    ![0, 192, 2048 * (i 2).val] S1x64x2048.size (k0_pay5 (F := F))

/-- The query gradient's window after a later block of keys: the block's columns added to. -/
def dqLater (i : grid0.Coords) (ds : FVec F S1408x2048 .f32) (kt : Vec F S1x256x1408 .bf16) (x : Vec F S1x256x8192 .f32) : Vec F S1x256x8192 .f32 :=
  VecWindow.put x ![0, 0, 2048 * (i 2).val] S1x192x2048.size
    (k0_pay6 ds (ktRows kt) (VecWindow.window x ![0, 0, 2048 * (i 2).val] S1x192x2048.size (off_inb i)))

/-- The query gradient's window after the body. -/
def dqStep (i : grid0.Coords) (ds : FVec F S1408x2048 .f32) (kt : Vec F S1x256x1408 .bf16) (x : Vec F S1x256x8192 .f32) : Vec F S1x256x8192 .f32 :=
  if (i 1).val = 0 then dqFirst i ds kt x else dqLater i ds kt x

end Cert.KernelIdeal.Attn

end
-- ==== Proof.AttnRun.lean ====
module

public import proofs.«01_k».proof.Proof.AttnStep
public import proofs.«01_k».proof.Proof.Gen.KernelIdeal.Skeleton
public import proofs.«01_k».proof.Proof.Gen.KernelIdeal.Points
public import Idealize.ShloMosaic.Lib.Pipeline.ValueKit
public import Idealize.ShloMosaic.Lib.VecWindow
public import Idealize.ShloMosaic.Lib.WordCmp
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- A load of a whole buffer reads what the buffer holds. -/
theorem rd {sp : Space} {s : Shape} {e : EltTy} {m : Memref sig .tc sp s e} (h : m.IsWhole) (x : Vec F s e)
    {off : Fin s.rank → ℕ} (inb : ∀ a, off a + s.size a ≤ s.size a) :
    m.view.readAt (Elt F) (Rect.unit off s.size inb).toLoadRect (h.unread x) = x :=
  (View.readAt_full m.view _ inb).trans (h.read_unread x)

theorem dsBlk_of {q q' : Vec F S1x2048x256 .bf16} {k k' : Vec F S1x1408x256 .bf16} {v v' : Vec F S1x1408x128 .bf16}
    {g g' : Vec F S2048x128 .bf16} {l l' d d' : Vec F S1x1x2048 .f32} (hq : q = q') (hk : k = k') (hv : v = v') (hg : g = g')
    (hl : l = l') (hd : d = d') : k0_pay14 q g l d k v = dsBlk q' k' v' g' l' d' := by
  subst hq hk hv hg hl hd; rfl

theorem pay15_of {q q' : Vec F S1x2048x256 .bf16} {k k' : Vec F S1x1408x256 .bf16}
    {g g' : Vec F S2048x128 .bf16} {l l' : Vec F S1x1x2048 .f32} (hq : q = q') (hk : k = k') (hg : g = g')
    (hl : l = l') : k0_pay15 q g l k = k0_pay15 q' g' l' k' := by
  subst hq hk hg hl; rfl

theorem dkStep_of {q : Vec F S1x2048x256 .bf16} {k : Vec F S1x1408x256 .bf16} {v : Vec F S1x1408x128 .bf16}
    {g : Vec F S2048x128 .bf16} {l d : Vec F S1x1x2048 .f32} {p : FVec F S2048x256 .bf16} {ds : FVec F S1408x2048 .f32} {a a' : Vec F S1408x256 .f32}
    (hp : p = k0_pay11 q) (hds : ds = dsBlk q k v g l d) (ha : a = a') : k0_pay2 p ds a = dkStep q k v g l d a' := by
  subst hp hds ha; rfl

theorem dvStep_of {q : Vec F S1x2048x256 .bf16} {k : Vec F S1x1408x256 .bf16}
    {g : Vec F S2048x128 .bf16} {l : Vec F S1x1x2048 .f32} {p : FVec F S1408x128 .f32} {a a' : Vec F S1408x128 .f32}
    (hp : p = k0_pay15 q g l k) (ha : a = a') : k0_pay1 a p = dvStep q k g l a' := by
  subst hp ha; rfl

theorem ktRows_of {m : Memref sig .tc .vmem S1x256x1408 .bf16} (h : m.IsWhole) (x : Vec F S1x256x1408 .bf16) :
    m.view.readAt (Elt F) (Rect.unit (s := S1x256x1408) ![0, 0, 0] S1x192x1408.size inb_S1x256x1408_S1x192x1408_0_0_0).toLoadRect (h.unread x)
      = ktRows x := by
  rw [View.readAt_unit m.view _ _ rfl inb_S1x256x1408_S1x192x1408_0_0_0, h.read_unread]; rfl

/-- The stores of the first block of keys, read back. -/
theorem dqFirst_of {m : Memref sig .tc .vmem S1x256x8192 .f32} (h : m.IsWhole) (x : Vec F S1x256x8192 .f32) (i : grid0.Coords)
    (h2 : k0_cond2 i = 1#1) {ds ds' : FVec F S1408x2048 .f32} {kt : Vec F S1x192x1408 .bf16} {kt' : Vec F S1x256x1408 .bf16}
    (hds : ds = ds') (hkt : kt = ktRows kt') :
    m.view.read (Elt F) (m.view.writes (Elt F) (h.unread x)
      [⟨Rect.unit (s := S1x256x8192) (k0_off2 i) S1x64x2048.size (k0_off2_inb i h2), k0_pay5⟩,
       ⟨Rect.unit (s := S1x256x8192) (k0_off1 i) S1x192x2048.size (k0_off1_inb i h2), k0_pay4 ds kt⟩]) = dqFirst i ds' kt' x := by
  subst hds hkt
  rw [View.read_writes_cons_put m.view _ _ _ _ (k0_off2_eq i), View.read_writes_cons_put m.view _ _ _ _ (k0_off1_eq i), View.writes_nil,
    h.read_unread]
  rfl

/-- The store of a later block of keys, read back. -/
theorem dqLater_of {m : Memref sig .tc .vmem S1x256x8192 .f32} (h : m.IsWhole) (x : Vec F S1x256x8192 .f32) (i : grid0.Coords)
    (h2 : k0_cond3 i = 1#1) {ds ds' : FVec F S1408x2048 .f32} {kt : Vec F S1x192x1408 .bf16} {kt' : Vec F S1x256x1408 .bf16}
    (hds : ds = ds') (hkt : kt = ktRows kt') :
    m.view.read (Elt F) (m.view.writes (Elt F) (h.unread x)
      [⟨Rect.unit (s := S1x256x8192) (k0_off3 i) S1x192x2048.size (k0_off3_inb i h2),
        k0_pay6 ds kt (m.view.readAt (Elt F) (Rect.unit (s := S1x256x8192) (k0_off3 i) S1x192x2048.size (k0_off3_inb i h2)).toLoadRect (h.unread x))⟩])
      = dqLater i ds' kt' x := by
  subst hds hkt
  rw [View.read_writes_cons_put m.view _ _ _ _ (k0_off3_eq i), View.writes_nil, View.readAt_unit m.view _ _ (k0_off3_eq i) (off_inb i),
    h.read_unread]
  rfl

variable [∀ e, Nonempty (Elt F e)]

local notation "𝕄" => MT nD τ sig Unit (Elt F) ℕ (UR sig nD τ) ℕ

set_option maxHeartbeats 4000000 in
/-- One point of the grid: the body, on staging buffers holding the blocks, leaves the accumulators, the query gradient's
    window and (after the last block of queries) the key and value gradients' windows at the step's values. -/
theorem run (c : Dev nD) (i : grid0.Coords) (arg3 : Memref sig .tc .vmem S1x2048x256 .bf16) (harg3 : arg3.IsWhole) (arg4 : Memref sig .tc .vmem S1x1408x256 .bf16) (harg4 : arg4.IsWhole) (arg5 : Memref sig .tc .vmem S1x256x1408 .bf16) (harg5 : arg5.IsWhole) (arg6 : Memref sig .tc .vmem S1x1408x128 .bf16) (harg6 : arg6.IsWhole) (arg7 : Memref sig .tc .vmem S2048x128 .bf16) (harg7 : arg7.IsWhole) (arg8 : Memref sig .tc .vmem S1x1x2048 .f32) (harg8 : arg8.IsWhole) (arg9 : Memref sig .tc .vmem S1x1x2048 .f32) (harg9 : arg9.IsWhole) (arg10 : Memref sig .tc .vmem S1x256x8192 .f32) (harg10 : arg10.IsWhole) (arg11 : Memref sig .tc .vmem S1x1408x256 .bf16) (harg11 : arg11.IsWhole) (arg12 : Memref sig .tc .vmem S1x1408x128 .bf16) (harg12 : arg12.IsWhole) (arg13 : Memref sig .tc .vmem S1408x256 .f32) (harg13 : arg13.IsWhole) (arg14 : Memref sig .tc .vmem S1408x128 .f32) (harg14 : arg14.IsWhole)
    (x0 : Vec F S1x2048x256 .bf16) (x1 : Vec F S1x1408x256 .bf16) (x2 : Vec F S1x256x1408 .bf16) (x3 : Vec F S1x1408x128 .bf16) (x4 : Vec F S2048x128 .bf16) (x5 : Vec F S1x1x2048 .f32) (x6 : Vec F S1x1x2048 .f32) (x7 : Vec F S1x256x8192 .f32) (x8 : Vec F S1x1408x256 .bf16) (x9 : Vec F S1x1408x128 .bf16) (xs0 : Vec F S1408x256 .f32) (xs1 : Vec F S1408x128 .f32)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xs0 ∗ owns (c : Thread nD τ) arg14 fullShare xs1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (dqStep i (dsBlk x0 x1 x3 x4 x5 x6) x2 x7) ∗ owns (c : Thread nD τ) arg11 fullShare (if (i 2).val = 3 then k0_pay7 (dkStep x0 x1 x3 x4 x5 x6 (if (i 2).val = 0 then k0_pay9 else xs0)) else x8) ∗ owns (c : Thread nD τ) arg12 fullShare (if (i 2).val = 3 then k0_pay8 (dvStep x0 x1 x4 x5 (if (i 2).val = 0 then k0_pay10 else xs1)) else x9) ∗ owns (c : Thread nD τ) arg13 fullShare (dkStep x0 x1 x3 x4 x5 x6 (if (i 2).val = 0 then k0_pay9 else xs0)) ∗ owns (c : Thread nD τ) arg14 fullShare (dvStep x0 x1 x4 x5 (if (i 2).val = 0 then k0_pay10 else xs1))) -∗ K ⟨⟩))
      ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14) K := by
  have hcases : ((i 2).val = 0 ∧ ¬ (i 2).val = 3) ∨ (¬ (i 2).val = 0 ∧ ¬ (i 2).val = 3) ∨ (¬ (i 2).val = 0 ∧ (i 2).val = 3) := by omega
  have hcases' : ((i 1).val = 0 ∧ ¬ ¬ (i 1).val = 0) ∨ (¬ (i 1).val = 0 ∧ ¬ (i 1).val = 0) := by omega
  rcases hcases' with ⟨h1, h1'⟩ | ⟨h1, h1'⟩ <;> rcases hcases with ⟨h0, h3⟩ | ⟨h0, h3⟩ | ⟨h0, h3⟩ <;>
  (
    have hc0 := h0; have hc1 := h1; have hc2 := h1'; have hc3 := h3
    rw [← isFirst_iff i] at hc0; rw [← cond2_iff i] at hc1; rw [← cond3_iff i] at hc2; rw [← cond4_iff i] at hc3
    simp only [cc0_mla_bwd_eq_skeleton]; unfold cc0_mla_bwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, HS0⟩, ⟨%f11, %hf11, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; swap; · iexact H7
      ipureintro
      unfold dqStep
      first
        | rw [if_pos h1]; exact dqFirst_of harg10 x7 i hc1 (dsBlk_of (rd harg3 x0 _) (rd harg4 x1 _) (rd harg6 x3 _) (rd harg7 x4 _) (rd harg8 x5 _) (rd harg9 x6 _)) (ktRows_of harg5 x2)
        | rw [if_neg h1]; exact dqLater_of harg10 x7 i hc2 (dsBlk_of (rd harg3 x0 _) (rd harg4 x1 _) (rd harg6 x3 _) (rd harg7 x4 _) (rd harg8 x5 _) (rd harg9 x6 _)) (ktRows_of harg5 x2)
    isplitl [H8]
    · iexists _; isplitr; swap; · iexact H8
      ipureintro
      first
      | rw [if_pos h3]
        refine (View.read_writes_full _ _ _ _ _).trans (congrArg k0_pay7 ((View.readCov_full _ _ _ _ _).trans (dkStep_of (congrArg k0_pay11 (rd harg3 x0 _)) (dsBlk_of (rd harg3 x0 _) (rd harg4 x1 _) (rd harg6 x3 _) (rd harg7 x4 _) (rd harg8 x5 _) (rd harg9 x6 _)) ?_)))
        first | rw [if_pos h0]; exact View.readCov_full _ _ _ _ _ | rw [if_neg h0]; exact rd harg13 xs0 _
      | rw [if_neg h3]; exact harg11.read_unread _
    isplitl [H9]
    · iexists _; isplitr; swap; · iexact H9
      ipureintro
      first
      | rw [if_pos h3]
        refine (View.read_writes_full _ _ _ _ _).trans (congrArg k0_pay8 ((View.readCov_full _ _ _ _ _).trans (dvStep_of (pay15_of (rd harg3 x0 _) (rd harg4 x1 _) (rd harg7 x4 _) (rd harg8 x5 _)) ?_)))
        first | rw [if_pos h0]; exact View.readCov_full _ _ _ _ _ | rw [if_neg h0]; exact rd harg14 xs1 _
      | rw [if_neg h3]; exact harg12.read_unread _
    isplitl [HS0]
    · iexists _; isplitr; swap; · iexact HS0
      ipureintro
      refine (View.read_writes_full _ _ _ _ _).trans (dkStep_of (congrArg k0_pay11 (rd harg3 x0 _)) (dsBlk_of (rd harg3 x0 _) (rd harg4 x1 _) (rd harg6 x3 _) (rd harg7 x4 _) (rd harg8 x5 _) (rd harg9 x6 _)) ?_)
      first | rw [if_pos h0]; exact View.readCov_full _ _ _ _ _ | rw [if_neg h0]; exact rd harg13 xs0 _
    · iexists _; isplitr; swap; · iexact HS1
      ipureintro
      refine (View.read_writes_full _ _ _ _ _).trans (dvStep_of (pay15_of (rd harg3 x0 _) (rd harg4 x1 _) (rd harg7 x4 _) (rd harg8 x5 _)) ?_)
      first | rw [if_pos h0]; exact View.readCov_full _ _ _ _ _ | rw [if_neg h0]; exact rd harg14 xs1 _)

end Cert.KernelIdeal.Attn

end
-- ==== Proof.AttnBody.lean ====
module

public import proofs.«01_k».proof.Proof.AttnRun
public import proofs.«01_k».proof.Proof.Gen.KernelIdeal.Skeleton
public import proofs.«01_k».proof.Proof.Gen.KernelIdeal.Points
public import Idealize.ShloMosaic.Lib.Pipeline.ValueKit
public import Idealize.ShloMosaic.Lib.Pipeline.Frame
public import Idealize.ShloMosaic.Lib.Pipeline.ArrRel
public import Idealize.ShloMosaic.Lib.VecWindow
public import Idealize.ShloMosaic.Lib.WordCmp
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

abbrev ms0 (t : Fin cfg0.N) : Memref sig .tc .vmem S1x2048x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1408x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x1408 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1408x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2048x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256x8192 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x1408x256 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x1408x128 .bf16 := win0_9.stage (cfg0.slots t 9)
abbrev hs9 (t : Fin cfg0.N) : (ms9 t).IsWhole := hstage0_9 ((cfg0.slots t 9).cast nbuf0_9)
/-- The two accumulators the body carries from point to point. -/
abbrev sc0 : Memref sig .tc .vmem S1408x256 .f32 := Memref.whole cc0_scratch0
abbrev sc1 : Memref sig .tc .vmem S1408x128 .f32 := Memref.whole cc0_scratch1

/-- The gradient of the scores at a point, of the point's blocks. -/
def dsAt (c : Dev nD) (t : Fin cfg0.N) : FVec F S1408x2048 .f32 :=
  dsBlk (iblk m c 0 t) (iblk m c 1 t) (iblk m c 3 t) (iblk m c 4 t) (iblk m c 5 t) (iblk m c 6 t)

/-- The key accumulator after the points below `n`, a new sum begun at each fourth point. -/
def dkAcc (c : Dev nD) : ℕ → Vec F S1408x256 .f32
  | 0 => k0_pay9
  | n + 1 => if h : n < cfg0.N then
      dkStep (iblk m c 0 ⟨n, h⟩) (iblk m c 1 ⟨n, h⟩) (iblk m c 3 ⟨n, h⟩) (iblk m c 4 ⟨n, h⟩) (iblk m c 5 ⟨n, h⟩) (iblk m c 6 ⟨n, h⟩)
        (if n % 4 = 0 then k0_pay9 else dkAcc c n)
    else dkAcc c n

/-- The value accumulator after the points below `n`. -/
def dvAcc (c : Dev nD) : ℕ → Vec F S1408x128 .f32
  | 0 => k0_pay10
  | n + 1 => if h : n < cfg0.N then
      dvStep (iblk m c 0 ⟨n, h⟩) (iblk m c 1 ⟨n, h⟩) (iblk m c 4 ⟨n, h⟩) (iblk m c 5 ⟨n, h⟩)
        (if n % 4 = 0 then k0_pay10 else dvAcc c n)
    else dvAcc c n

theorem dkAcc_succ (c : Dev nD) (t : Fin cfg0.N) : dkAcc m c (t.val + 1)
    = dkStep (iblk m c 0 t) (iblk m c 1 t) (iblk m c 3 t) (iblk m c 4 t) (iblk m c 5 t) (iblk m c 6 t)
        (if t.val % 4 = 0 then k0_pay9 else dkAcc m c t.val) := by
  rw [dkAcc, dif_pos t.isLt]

theorem dvAcc_succ (c : Dev nD) (t : Fin cfg0.N) : dvAcc m c (t.val + 1)
    = dvStep (iblk m c 0 t) (iblk m c 1 t) (iblk m c 4 t) (iblk m c 5 t)
        (if t.val % 4 = 0 then k0_pay10 else dvAcc m c t.val) := by
  rw [dvAcc, dif_pos t.isLt]

/-- Between points: the two accumulators at the running sums (at anything where a new sum begins), the generator's
    register at some state. -/
def Phi (c : Dev nD) (n : ℕ) : sProp 𝕄 :=
  iprop(iprop((∃ d, ⌜n % 4 = 0 ∨ d = dkAcc m c n⌝ ∗ owns (c : Thread nD τ) sc0 fullShare d)
      ∗ (∃ d, ⌜n % 4 = 0 ∨ d = dvAcc m c n⌝ ∗ owns (c : Thread nD τ) sc1 fullShare d)) ∗ (∃ r, prngReg c r))

/-- The proof data with the outputs unnamed. -/
def base (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ t := Phi m c t.val
  q _ := fullShare
  owed _ := 0

/-- What the body does to the outputs: the query gradient's window changed by the point's step; the key and value
    gradients' windows, at a last block of queries, at the accumulators' final values. -/
def ovr (c : Dev nD) : (w : Fin cfg0.W) → Option (Fin cfg0.N → (Y X : (cfg0.win w).block.Idx → Elt F (cfg0.win w).elt) → Prop)
  | ⟨7, _⟩ => some fun t Y X => X = dqStep (grid0.coords t) (dsAt m c t) (iblk m c 2 t) Y
  | ⟨8, _⟩ => some fun t _ X => t.val % 4 = 3 → X = k0_pay7 (dkAcc m c (t.val + 1))
  | ⟨9, _⟩ => some fun t _ X => t.val % 4 = 3 → X = k0_pay8 (dvAcc m c (t.val + 1))
  | _ => none

/-- The relational proof data. -/
def rdat (c : Dev nD) : RDat τ (Elt F) Unit ℕ (UR sig nD τ) ℕ cfg0 c := (base m c).toR.override (ovr m c)

theorem base_A (c : Dev nD) (w : Fin cfg0.W) : (base m c).A w = V m c (Pipeline.arrRef spec0 w) := by dsimp only [base]
theorem rdat_A (c : Dev nD) (w : Fin cfg0.W) : (rdat m c).A w = V m c (Pipeline.arrRef spec0 w) := base_A m c w
theorem base_after0 (c : Dev nD) (t : Fin cfg0.N) : (base m c).after 0 t = iblk m c 0 t := by dsimp only [base]
theorem base_after1 (c : Dev nD) (t : Fin cfg0.N) : (base m c).after 1 t = iblk m c 1 t := by dsimp only [base]
theorem base_after2 (c : Dev nD) (t : Fin cfg0.N) : (base m c).after 2 t = iblk m c 2 t := by dsimp only [base]
theorem base_after3 (c : Dev nD) (t : Fin cfg0.N) : (base m c).after 3 t = iblk m c 3 t := by dsimp only [base]
theorem base_after4 (c : Dev nD) (t : Fin cfg0.N) : (base m c).after 4 t = iblk m c 4 t := by dsimp only [base]
theorem base_after5 (c : Dev nD) (t : Fin cfg0.N) : (base m c).after 5 t = iblk m c 5 t := by dsimp only [base]
theorem base_after6 (c : Dev nD) (t : Fin cfg0.N) : (base m c).after 6 t = iblk m c 6 t := by dsimp only [base]
theorem finds0 (c : Dev nD) (t : Fin cfg0.N) {Y} (h : (rdat m c).Finds 0 t Y) : Y = iblk m c 0 t := by
  obtain ⟨d, hd⟩ := (base m c).toR_finds 0 t Y (((base m c).toR.override_finds (ovr := ovr m c) (w := 0) rfl t Y).mp h)
  rw [hd]; exact before0_0_of m (base m c) (base_A m c 0) (base_after0 m c) t d
theorem finds1 (c : Dev nD) (t : Fin cfg0.N) {Y} (h : (rdat m c).Finds 1 t Y) : Y = iblk m c 1 t := by
  obtain ⟨d, hd⟩ := (base m c).toR_finds 1 t Y (((base m c).toR.override_finds (ovr := ovr m c) (w := 1) rfl t Y).mp h)
  rw [hd]; exact before0_1_of m (base m c) (base_A m c 1) (base_after1 m c) t d
theorem finds2 (c : Dev nD) (t : Fin cfg0.N) {Y} (h : (rdat m c).Finds 2 t Y) : Y = iblk m c 2 t := by
  obtain ⟨d, hd⟩ := (base m c).toR_finds 2 t Y (((base m c).toR.override_finds (ovr := ovr m c) (w := 2) rfl t Y).mp h)
  rw [hd]; exact before0_2_of m (base m c) (base_A m c 2) (base_after2 m c) t d
theorem finds3 (c : Dev nD) (t : Fin cfg0.N) {Y} (h : (rdat m c).Finds 3 t Y) : Y = iblk m c 3 t := by
  obtain ⟨d, hd⟩ := (base m c).toR_finds 3 t Y (((base m c).toR.override_finds (ovr := ovr m c) (w := 3) rfl t Y).mp h)
  rw [hd]; exact before0_3_of m (base m c) (base_A m c 3) (base_after3 m c) t d
theorem finds4 (c : Dev nD) (t : Fin cfg0.N) {Y} (h : (rdat m c).Finds 4 t Y) : Y = iblk m c 4 t := by
  obtain ⟨d, hd⟩ := (base m c).toR_finds 4 t Y (((base m c).toR.override_finds (ovr := ovr m c) (w := 4) rfl t Y).mp h)
  rw [hd]; exact before0_4_of m (base m c) (base_A m c 4) (base_after4 m c) t d
theorem finds5 (c : Dev nD) (t : Fin cfg0.N) {Y} (h : (rdat m c).Finds 5 t Y) : Y = iblk m c 5 t := by
  obtain ⟨d, hd⟩ := (base m c).toR_finds 5 t Y (((base m c).toR.override_finds (ovr := ovr m c) (w := 5) rfl t Y).mp h)
  rw [hd]; exact before0_5_of m (base m c) (base_A m c 5) (base_after5 m c) t d
theorem finds6 (c : Dev nD) (t : Fin cfg0.N) {Y} (h : (rdat m c).Finds 6 t Y) : Y = iblk m c 6 t := by
  obtain ⟨d, hd⟩ := (base m c).toR_finds 6 t Y (((base m c).toR.override_finds (ovr := ovr m c) (w := 6) rfl t Y).mp h)
  rw [hd]; exact before0_6_of m (base m c) (base_A m c 6) (base_after6 m c) t d
theorem keeps0 (c : Dev nD) (t : Fin cfg0.N) (Y) : (rdat m c).after 0 t Y (iblk m c 0 t) := by
  unfold rdat
  rw [RDat.override_after_of_eq_none (base m c).toR (ovr := ovr m c) (w := 0) rfl]
  show (base m c).Leaves 0 t _
  unfold Dat.Leaves
  rw [show cfg0.idle 0 (cfg0.grid.coords t) = false from rfl]
  exact (base_after0 m c t).symm
theorem keeps1 (c : Dev nD) (t : Fin cfg0.N) (Y) : (rdat m c).after 1 t Y (iblk m c 1 t) := by
  unfold rdat
  rw [RDat.override_after_of_eq_none (base m c).toR (ovr := ovr m c) (w := 1) rfl]
  show (base m c).Leaves 1 t _
  unfold Dat.Leaves
  rw [show cfg0.idle 1 (cfg0.grid.coords t) = false from rfl]
  exact (base_after1 m c t).symm
theorem keeps2 (c : Dev nD) (t : Fin cfg0.N) (Y) : (rdat m c).after 2 t Y (iblk m c 2 t) := by
  unfold rdat
  rw [RDat.override_after_of_eq_none (base m c).toR (ovr := ovr m c) (w := 2) rfl]
  show (base m c).Leaves 2 t _
  unfold Dat.Leaves
  rw [show cfg0.idle 2 (cfg0.grid.coords t) = false from rfl]
  exact (base_after2 m c t).symm
theorem keeps3 (c : Dev nD) (t : Fin cfg0.N) (Y) : (rdat m c).after 3 t Y (iblk m c 3 t) := by
  unfold rdat
  rw [RDat.override_after_of_eq_none (base m c).toR (ovr := ovr m c) (w := 3) rfl]
  show (base m c).Leaves 3 t _
  unfold Dat.Leaves
  rw [show cfg0.idle 3 (cfg0.grid.coords t) = false from rfl]
  exact (base_after3 m c t).symm
theorem keeps4 (c : Dev nD) (t : Fin cfg0.N) (Y) : (rdat m c).after 4 t Y (iblk m c 4 t) := by
  unfold rdat
  rw [RDat.override_after_of_eq_none (base m c).toR (ovr := ovr m c) (w := 4) rfl]
  show (base m c).Leaves 4 t _
  unfold Dat.Leaves
  rw [show cfg0.idle 4 (cfg0.grid.coords t) = false from rfl]
  exact (base_after4 m c t).symm
theorem keeps5 (c : Dev nD) (t : Fin cfg0.N) (Y) : (rdat m c).after 5 t Y (iblk m c 5 t) := by
  unfold rdat
  rw [RDat.override_after_of_eq_none (base m c).toR (ovr := ovr m c) (w := 5) rfl]
  show (base m c).Leaves 5 t _
  unfold Dat.Leaves
  rw [show cfg0.idle 5 (cfg0.grid.coords t) = false from rfl]
  exact (base_after5 m c t).symm
theorem keeps6 (c : Dev nD) (t : Fin cfg0.N) (Y) : (rdat m c).after 6 t Y (iblk m c 6 t) := by
  unfold rdat
  rw [RDat.override_after_of_eq_none (base m c).toR (ovr := ovr m c) (w := 6) rfl]
  show (base m c).Leaves 6 t _
  unfold Dat.Leaves
  rw [show cfg0.idle 6 (cfg0.grid.coords t) = false from rfl]
  exact (base_after6 m c t).symm

theorem after7 (c : Dev nD) : (rdat m c).after 7 = fun t Y X => X = dqStep (grid0.coords t) (dsAt m c t) (iblk m c 2 t) Y :=
  RDat.override_after_of_eq_some (base m c).toR (ovr := ovr m c) (w := 7) rfl
theorem after8 (c : Dev nD) : (rdat m c).after 8 = fun t _ X => t.val % 4 = 3 → X = k0_pay7 (dkAcc m c (t.val + 1)) :=
  RDat.override_after_of_eq_some (base m c).toR (ovr := ovr m c) (w := 8) rfl
theorem after9 (c : Dev nD) : (rdat m c).after 9 = fun t _ X => t.val % 4 = 3 → X = k0_pay8 (dvAcc m c (t.val + 1)) :=
  RDat.override_after_of_eq_some (base m c).toR (ovr := ovr m c) (w := 9) rfl

theorem coord1 (t : Fin cfg0.N) : (grid0.coords t 1).val = t.val / 4 % 6 := Pipeline.Grid.coords_val t 1 (by decide) rfl
theorem coord2 (t : Fin cfg0.N) : (grid0.coords t 2).val = t.val % 4 := by
  have e : (grid0.coords t 2).val = t.val / 1 % 4 := Pipeline.Grid.coords_val t 2 (by decide) rfl
  omega

theorem defs₀_row (t : Fin cfg0.N) : defs₀ (F := F) .tc cfg0.body (cfg0.bodyArgs t (cfg0.slots t)) = bodyAt0 t := by
  unfold defs₀; rw [Defs.onTc_tc]

/-- The triple of one point, over any contents of the outputs' windows. -/
theorem sound (c : Dev nD) (t : Fin cfg0.N) (Y : (w : Fin cfg0.W) → (cfg0.win w).block.Idx → Elt F (cfg0.win w).elt)
    (hY : ∀ w, (rdat m c).Finds w t (Y w)) :
    iprop(Phi m c t.val ∗ (rdat m c).owesAt () t.castSucc
        ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9))
      ⊢ wp frame (wpE (defs₀ (F := F)) Variants.none c none) Set.univ (bodyAt0 t) (fun _ =>
        iprop(Phi m c (t.val + 1) ∗ (rdat m c).owesAt () t.castSucc
        ∗ (∃ X, ⌜(rdat m c).after 0 t (Y 0) X⌝ ∗ owns (c : Thread nD τ) (ms0 t) fullShare X) ∗ (∃ X, ⌜(rdat m c).after 1 t (Y 1) X⌝ ∗ owns (c : Thread nD τ) (ms1 t) fullShare X) ∗ (∃ X, ⌜(rdat m c).after 2 t (Y 2) X⌝ ∗ owns (c : Thread nD τ) (ms2 t) fullShare X) ∗ (∃ X, ⌜(rdat m c).after 3 t (Y 3) X⌝ ∗ owns (c : Thread nD τ) (ms3 t) fullShare X) ∗ (∃ X, ⌜(rdat m c).after 4 t (Y 4) X⌝ ∗ owns (c : Thread nD τ) (ms4 t) fullShare X) ∗ (∃ X, ⌜(rdat m c).after 5 t (Y 5) X⌝ ∗ owns (c : Thread nD τ) (ms5 t) fullShare X) ∗ (∃ X, ⌜(rdat m c).after 6 t (Y 6) X⌝ ∗ owns (c : Thread nD τ) (ms6 t) fullShare X) ∗ (∃ X, ⌜(rdat m c).after 7 t (Y 7) X⌝ ∗ owns (c : Thread nD τ) (ms7 t) fullShare X) ∗ (∃ X, ⌜(rdat m c).after 8 t (Y 8) X⌝ ∗ owns (c : Thread nD τ) (ms8 t) fullShare X) ∗ (∃ X, ⌜(rdat m c).after 9 t (Y 9) X⌝ ∗ owns (c : Thread nD τ) (ms9 t) fullShare X))) := by
  rw [finds0 m c t (hY 0)]; rw [finds1 m c t (hY 1)]; rw [finds2 m c t (hY 2)]; rw [finds3 m c t (hY 3)]; rw [finds4 m c t (hY 4)]; rw [finds5 m c t (hY 5)]; rw [finds6 m c t (hY 6)]
  unfold bodyAt0
  unfold Phi
  iintro ⟨⟨⟨⟨%d0, %hd0, HS0⟩, ⟨%d1, %hd1, HS1⟩⟩, Hg⟩, Ho, H0, H1, H2, H3, H4, H5, H6, H7, H8, H9⟩
  iapply (run c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) (iblk m c 0 t) (iblk m c 1 t) (iblk m c 2 t) (iblk m c 3 t) (iblk m c 4 t) (iblk m c 5 t) (iblk m c 6 t) (Y 7) (Y 8) (Y 9) d0 d1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  iintro ⟨H0, H1, H2, H3, H4, H5, H6, H7, H8, H9, HS0, HS1⟩
  have e0 : (if (grid0.coords t 2).val = 0 then k0_pay9 else d0) = (if t.val % 4 = 0 then k0_pay9 else dkAcc m c t.val) := by
    rw [coord2]
    by_cases h : t.val % 4 = 0
    · rw [if_pos h, if_pos h]
    · rw [if_neg h, if_neg h]; exact hd0.resolve_left h
  have e1 : (if (grid0.coords t 2).val = 0 then k0_pay10 else d1) = (if t.val % 4 = 0 then k0_pay10 else dvAcc m c t.val) := by
    rw [coord2]
    by_cases h : t.val % 4 = 0
    · rw [if_pos h, if_pos h]
    · rw [if_neg h, if_neg h]; exact hd1.resolve_left h
  rw [e0, e1, ← dkAcc_succ, ← dvAcc_succ]
  isplitl [HS0 HS1 Hg]
  · isplitl [HS0 HS1]
    · isplitl [HS0]
      · iexists _; isplitr; swap; · iexact HS0
        ipureintro; exact Or.inr rfl
      · iexists _; isplitr; swap; · iexact HS1
        ipureintro; exact Or.inr rfl
    iexact Hg
  isplitl [Ho]; · iexact Ho
  isplitl [H0]
  · iexists _; isplitr; swap; · iexact H0
    ipureintro; exact keeps0 m c t _
  isplitl [H1]
  · iexists _; isplitr; swap; · iexact H1
    ipureintro; exact keeps1 m c t _
  isplitl [H2]
  · iexists _; isplitr; swap; · iexact H2
    ipureintro; exact keeps2 m c t _
  isplitl [H3]
  · iexists _; isplitr; swap; · iexact H3
    ipureintro; exact keeps3 m c t _
  isplitl [H4]
  · iexists _; isplitr; swap; · iexact H4
    ipureintro; exact keeps4 m c t _
  isplitl [H5]
  · iexists _; isplitr; swap; · iexact H5
    ipureintro; exact keeps5 m c t _
  isplitl [H6]
  · iexists _; isplitr; swap; · iexact H6
    ipureintro; exact keeps6 m c t _
  isplitl [H7]
  · iexists _; isplitr; swap; · iexact H7
    ipureintro; rw [after7]; rfl
  isplitl [H8]
  · iexists _; isplitr; swap; · iexact H8
    ipureintro; rw [after8]; exact fun h => if_pos ((coord2 t).trans h)
  · iexists _; isplitr; swap; · iexact H9
    ipureintro; rw [after9]; exact fun h => if_pos ((coord2 t).trans h)

theorem body_obligation (c : Dev nD) : (rdat (F := F) m c).BodyObligation (defs₀ (F := F)) Variants.none () Set.univ := fun t Y hY => by
  rw [bigSep_W0, bigSep_W0, defs₀_row]
  exact triple_restated (sound m c t Y hY) rfl .rfl fun _ => .rfl

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

theorem hin (c : Dev nD) : Pipeline.ΦA spec0 c ⊢ (rdat m c).Φ 0 := by
  show _ ⊢ Phi m c 0
  rw [PhiA_eq]; unfold Phi
  iintro ⟨⟨⟨%d0, HS0⟩, ⟨%d1, HS1⟩⟩, Hg⟩
  isplitl [HS0 HS1]
  · isplitl [HS0]
    · iexists d0; isplitr; swap; · iexact HS0
      ipureintro; exact Or.inl rfl
    · iexists d1; isplitr; swap; · iexact HS1
      ipureintro; exact Or.inl rfl
  iexact Hg

theorem hout (c : Dev nD) : (rdat m c).Φ (Fin.last cfg0.N) ⊢ Pipeline.ΦA spec0 c := by
  show Phi m c _ ⊢ _
  rw [PhiA_eq]; unfold Phi
  iintro ⟨⟨⟨%d0, -, HS0⟩, ⟨%d1, -, HS1⟩⟩, Hg⟩
  isplitl [HS0 HS1]
  · isplitl [HS0]
    · iexists d0; iexact HS0
    · iexists d1; iexact HS1
  iexact Hg

-- the launch theorem's implicit arguments are found by unifying its conclusion with this statement
set_option backward.isDefEq.respectTransparency.types false in
/-- The launch: every weakly fair execution ends, with the arrays at what the relational data allow and every counter at zero. -/
theorem run_main : θ_run defs (onTc (τ := τ) (main (F := F))) (s₀ m ρ)
    (fun r => Pipeline.RDat.FramePost (cfgs 0) (fun c => rdat m c) (V m) r ∧ r.2.sem = fun _ => 0) :=
  Pipeline.RDat.θ_run_frame_track (Q' := _) cfgs (0 : Fin 1) launch0 defs₀ Variants.none (fun c => rdat m c) m ρ main
    (hbody := body_obligation m) (hshare := fun c => (base m c).share_full fun _ => rfl)
    (howed := fun _ _ => rfl) (V := V m) (hmain := hmain m Variants.none) (hA := rdat_A m) (hin := hin m) (hout := hout m)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ)

end Cert.KernelIdeal.Attn

end
-- ==== Proof.AttnPay.lean ====
module

public import proofs.«01_k».proof.Proof.AttnStep
public import proofs.«01_k».proof.Proof.AttnMath
public import Idealize.ShloMosaic.Lib.Pointwise

@[expose] public section

set_option maxRecDepth 16384

/-! What the body computes from its blocks, read at an index over the extended reals. -/

noncomputable section

namespace Cert.KernelIdeal.Attn

open Cert.KernelIdeal Cert.KernelIdeal.Gen Cert.AttnMath
open Idealize.ShloMosaic Idealize.ShloMosaic.TcCoe Idealize.SL.Sem Idealize.ShloMosaic.Pointwise
open scoped BigOperators

theorem log2e_eq : Named.named (F := Ideal) κ "log2e" (φ := .f32) 0x3FB8AA3B#32 = (((Real.log 2)⁻¹ : ℝ) : EReal) := rfl
theorem scale_log2e_eq : Named.named (F := Ideal) κ "scale_log2e" (φ := .f32) 0x3DD53B95#32 = (((Real.sqrt 192)⁻¹ * (Real.log 2)⁻¹ : ℝ) : EReal) := rfl
theorem scale_eq : Named.named (F := Ideal) κ "scale" (φ := .f32) 0x3D93CD3A#32 = (((Real.sqrt 192)⁻¹ : ℝ) : EReal) := rfl

/-- A number read in the first 192 of 256 columns, zero in the others. -/
def ext (x : Fin 192 → ℝ) (d : Fin 256) : ℝ := if hd : d.val < 192 then x ⟨d.val, hd⟩ else 0

variable {q : Vec Ideal S1x2048x256 .bf16} {k : Vec Ideal S1x1408x256 .bf16} {v : Vec Ideal S1x1408x128 .bf16} {g : Vec Ideal S2048x128 .bf16}
  {lse delta : Vec Ideal S1x1x2048 .f32} {kt : Vec Ideal S1x256x1408 .bf16}
variable {qr : Fin 2048 → Fin 256 → ℝ} {kr : Fin 1408 → Fin 256 → ℝ} {vr : Fin 1408 → Fin 128 → ℝ} {gr : Fin 2048 → Fin 128 → ℝ} {lr er : Fin 2048 → ℝ}

theorem pay13_at (hq : ∀ i d, q (ix3 0 i d) = (qr i d : EReal)) (hk : ∀ j d, k (ix3 0 j d) = (kr j d : EReal)) (hl : ∀ i, lse (ix3 0 0 i) = (lr i : EReal))
    (j : Fin 1408) (i : Fin 2048) : k0_pay13 q lse k (ix2 j i)
      = ((Real.rpow 2 ((∑ d, kr j d * qr i d) * ((Real.sqrt 192)⁻¹ * (Real.log 2)⁻¹) - lr i * (Real.log 2)⁻¹) : ℝ) : EReal) := by
  pointwise [k0_pay13, k0_pay11]
  simp only [hq, hk, hl, log2e_eq, scale_log2e_eq, ← EReal.coe_mul, ← coe_sum, ← EReal.coe_sub]
  exact Ideal.exp2_coe _

theorem pay14_at {pr : Fin 1408 → Fin 2048 → ℝ} (hp : ∀ j i, k0_pay13 q lse k (ix2 j i) = (pr j i : EReal)) (hv : ∀ j e, v (ix3 0 j e) = (vr j e : EReal))
    (hg : ∀ i e, g (ix2 i e) = (gr i e : EReal)) (he : ∀ i, delta (ix3 0 0 i) = (er i : EReal)) (j : Fin 1408) (i : Fin 2048) :
    dsBlk q k v g lse delta (ix2 j i) = ((pr j i * ((∑ e, vr j e * gr i e) - er i) : ℝ) : EReal) := by
  pointwise [dsBlk, k0_pay14, k0_pay12]
  simp only [hp, hv, hg, he, ← EReal.coe_mul, ← coe_sum, ← EReal.coe_sub]

theorem pay15_at {pr : Fin 1408 → Fin 2048 → ℝ} (hp : ∀ j i, k0_pay13 q lse k (ix2 j i) = (pr j i : EReal))
    (hg : ∀ i e, g (ix2 i e) = (gr i e : EReal)) (a : Vec Ideal S1408x128 .f32) (j : Fin 1408) (e : Fin 128) :
    dvStep q k g lse a (ix2 j e) = a (ix2 j e) + ((∑ i, pr j i * gr i e : ℝ) : EReal) := by
  pointwise [dvStep, k0_pay1, k0_pay15, k0_pay12]
  simp only [hp, hg, ← EReal.coe_mul, ← coe_sum]

theorem pay2_at {dr : Fin 1408 → Fin 2048 → ℝ} (hd : ∀ j i, dsBlk q k v g lse delta (ix2 j i) = (dr j i : EReal))
    (hq : ∀ i d, q (ix3 0 i d) = (qr i d : EReal)) (a : Vec Ideal S1408x256 .f32) (j : Fin 1408) (d : Fin 256) :
    dkStep q k v g lse delta a (ix2 j d) = a (ix2 j d) + ((∑ i, dr j i * qr i d : ℝ) : EReal) := by
  pointwise [dkStep, k0_pay2, k0_pay11]
  simp only [hd, hq, ← EReal.coe_mul, ← coe_sum]

theorem pay7_at (a : Vec Ideal S1408x256 .f32) (j : Fin 1408) (d : Fin 256) :
    k0_pay7 a (ix3 0 j d) = a (ix2 j d) * (((Real.sqrt 192)⁻¹ : ℝ) : EReal) := by
  pointwise [k0_pay7]
  rw [scale_eq]

theorem pay8_at (a : Vec Ideal S1408x128 .f32) (j : Fin 1408) (e : Fin 128) : k0_pay8 a (ix3 0 j e) = a (ix2 j e) := by
  pointwise [k0_pay8]

theorem pay9_at (j : Fin 1408) (d : Fin 256) : k0_pay9 (F := Ideal) (ix2 j d) = (0 : EReal) := by
  pointwise [k0_pay9]
theorem pay10_at (j : Fin 1408) (d : Fin 128) : k0_pay10 (F := Ideal) (ix2 j d) = (0 : EReal) := by
  pointwise [k0_pay10]
theorem pay5_at (d : Fin 64) (i : Fin 2048) : k0_pay5 (F := Ideal) (ix3 0 d i) = (0 : EReal) := by
  pointwise [k0_pay5]

theorem ktRows_at (d : Fin 192) (j : Fin 1408) : ktRows kt (ix3 0 d j) = kt (ix3 0 ⟨d.val, by omega⟩ j) := by
  unfold ktRows VecWindow.window
  refine congrArg kt (funext fun a => Fin.ext ?_)
  fin_cases a <;> simp [Rect.emb, Rect.unit] <;> rfl

theorem pay4_at {ds : FVec Ideal S1408x2048 .f32} {w : Vec Ideal S1x192x1408 .bf16} {dr : Fin 1408 → Fin 2048 → ℝ} {wr : Fin 192 → Fin 1408 → ℝ} (hd : ∀ j i, ds (ix2 j i) = (dr j i : EReal))
    (hw : ∀ d j, w (ix3 0 d j) = (wr d j : EReal)) (d : Fin 192) (i : Fin 2048) :
    k0_pay4 ds w (ix3 0 d i) = ((∑ j, wr d j * dr j i : ℝ) : EReal) := by
  pointwise [k0_pay4, k0_pay3]
  simp only [hd, hw, ← EReal.coe_mul, ← coe_sum]

theorem pay6_at {ds : FVec Ideal S1408x2048 .f32} {w : Vec Ideal S1x192x1408 .bf16} {dr : Fin 1408 → Fin 2048 → ℝ} {wr : Fin 192 → Fin 1408 → ℝ} (hd : ∀ j i, ds (ix2 j i) = (dr j i : EReal))
    (hw : ∀ d j, w (ix3 0 d j) = (wr d j : EReal)) (x : Vec Ideal S1x192x2048 .f32) (d : Fin 192) (i : Fin 2048) :
    k0_pay6 ds w x (ix3 0 d i) = x (ix3 0 d i) + ((∑ j, wr d j * dr j i : ℝ) : EReal) := by
  pointwise [k0_pay6, k0_pay3]
  simp only [hd, hw, ← EReal.coe_mul, ← coe_sum]

end Cert.KernelIdeal.Attn

end
-- ==== Proof.AttnBlk.lean ====
module

public import proofs.«01_k».proof.Proof.Gen.KernelIdeal.Frame
public import Idealize.ShloMosaic.Lib.Pipeline.ValueKit.Point

@[expose] public section

set_option maxRecDepth 16384

/-! The blocks of a grid point: which elements of the arrays they hold. -/

noncomputable section

namespace Cert.KernelIdeal.Attn

open Cert.KernelIdeal Cert.KernelIdeal.Gen
open Idealize.ShloMosaic Idealize.ShloMosaic.TcCoe Idealize.SL.Sem Idealize.ShloMosaic.Pointwise

theorem points : cfg0.N = 192 := by decide +kernel

/-- The head of a point. -/
def hd (t : Fin cfg0.N) : Fin 8 := ⟨t.val / 24, by have := t.isLt.trans_eq points; omega⟩
/-- The query under row `i` of a point's block. -/
def qrow (t : Fin cfg0.N) (i : Fin 2048) : Fin 8192 := ⟨t.val % 4 * 2048 + i.val, by omega⟩
/-- The key under row `j` of a point's block. -/
def krow (t : Fin cfg0.N) (j : Fin 1408) : Fin 8448 := ⟨t.val / 4 % 6 * 1408 + j.val, by omega⟩

theorem idx0 : ∀ t : Fin cfg0.N, win0_0.index t = ![t.val / 24, t.val % 4, 0] := (by decide +kernel : ∀ t : Fin grid0.N, _)
theorem idx1 : ∀ t : Fin cfg0.N, win0_1.index t = ![t.val / 24, t.val / 4 % 6, 0] := (by decide +kernel : ∀ t : Fin grid0.N, _)
theorem idx2 : ∀ t : Fin cfg0.N, win0_2.index t = ![t.val / 24, 0, t.val / 4 % 6] := (by decide +kernel : ∀ t : Fin grid0.N, _)
theorem idx3 : ∀ t : Fin cfg0.N, win0_3.index t = ![t.val / 24, t.val / 4 % 6, 0] := (by decide +kernel : ∀ t : Fin grid0.N, _)
theorem idx4 : ∀ t : Fin cfg0.N, win0_4.index t = ![t.val % 4, t.val / 24] := (by decide +kernel : ∀ t : Fin grid0.N, _)
theorem idx5 : ∀ t : Fin cfg0.N, win0_5.index t = ![t.val / 24, 0, t.val % 4] := (by decide +kernel : ∀ t : Fin grid0.N, _)
theorem idx6 : ∀ t : Fin cfg0.N, win0_6.index t = ![t.val / 24, 0, t.val % 4] := (by decide +kernel : ∀ t : Fin grid0.N, _)
theorem idx7 : ∀ t : Fin cfg0.N, win0_7.index t = ![t.val / 24, 0, 0] := (by decide +kernel : ∀ t : Fin grid0.N, _)
theorem idx8 : ∀ t : Fin cfg0.N, win0_8.index t = ![t.val / 24, t.val / 4 % 6, 0] := (by decide +kernel : ∀ t : Fin grid0.N, _)
theorem idx9 : ∀ t : Fin cfg0.N, win0_9.index t = ![t.val / 24, t.val / 4 % 6, 0] := (by decide +kernel : ∀ t : Fin grid0.N, _)

variable (c : Dev nD) (t : Fin cfg0.N)

theorem emb0 (i : Fin 2048) (d : Fin 256) : ((cfg0.win 0).blk t).view.emb (ix3 0 i d) = (ix3 (hd t) (qrow t i) d) := by
  blk_ext [idx0, hd, qrow]
theorem emb1 (j : Fin 1408) (d : Fin 256) : ((cfg0.win 1).blk t).view.emb (ix3 0 j d) = (ix3 (hd t) (krow t j) d) := by
  blk_ext [idx1, hd, krow]
theorem emb2 (d : Fin 256) (j : Fin 1408) : ((cfg0.win 2).blk t).view.emb (ix3 0 d j) = (ix3 (hd t) d (krow t j)) := by
  blk_ext [idx2, hd, krow]
theorem emb3 (j : Fin 1408) (e : Fin 128) : ((cfg0.win 3).blk t).view.emb (ix3 0 j e) = (ix3 (hd t) (krow t j) e) := by
  blk_ext [idx3, hd, krow]
theorem emb4 (i : Fin 2048) (e : Fin 128) : ((cfg0.win 4).blk t).view.emb (ix2 i e) = (ix2 (qrow t i) ⟨(hd t).val * 128 + e.val, by omega⟩) := by
  blk_ext [idx4, hd, qrow]
theorem emb5 (i : Fin 2048) : ((cfg0.win 5).blk t).view.emb (ix3 0 0 i) = (ix3 (hd t) 0 (qrow t i)) := by
  blk_ext [idx5, hd, qrow]
theorem emb6 (i : Fin 2048) : ((cfg0.win 6).blk t).view.emb (ix3 0 0 i) = (ix3 (hd t) 0 (qrow t i)) := by
  blk_ext [idx6, hd, qrow]
theorem emb7 (d : Fin 256) (i : Fin 8192) : ((cfg0.win 7).blk t).view.emb (ix3 0 d i) = (ix3 (hd t) d i) := by
  blk_ext [idx7, hd]
theorem emb8 (j : Fin 1408) (d : Fin 256) : ((cfg0.win 8).blk t).view.emb (ix3 0 j d) = (ix3 (hd t) (krow t j) d) := by
  blk_ext [idx8, hd, krow]
theorem emb9 (j : Fin 1408) (e : Fin 128) : ((cfg0.win 9).blk t).view.emb (ix3 0 j e) = (ix3 (hd t) (krow t j) e) := by
  blk_ext [idx9, hd, krow]

variable (m : (ℓ : Loc nD τ sig) → Buf (Elt Ideal) ℓ)

/-- A block read off arrays `A`, one for each window. -/
def rblk (A : (w : Fin cfg0.W) → Buf (Elt Ideal) ((c.tc : Thread nD τ).loc (Pipeline.arrRef spec0 w))) (w : Fin cfg0.W) (t : Fin cfg0.N) :
    ((cfg0.win w).xblock (cfg0.grid.coords t)).Idx → Elt Ideal (cfg0.win w).elt := ((cfg0.win w).blk t).view.read (Elt Ideal) (A w)

variable (A : (w : Fin cfg0.W) → Buf (Elt Ideal) ((c.tc : Thread nD τ).loc (Pipeline.arrRef spec0 w)))

theorem rblk0 (i : Fin 2048) (d : Fin 256) : rblk c A 0 t (ix3 0 i d) = A 0 (ix3 (hd t) (qrow t i) d) := by
  unfold rblk
  rw [View.read_apply]
  exact congrArg (A 0) (emb0 t _ _)
theorem rblk1 (j : Fin 1408) (d : Fin 256) : rblk c A 1 t (ix3 0 j d) = A 1 (ix3 (hd t) (krow t j) d) := by
  unfold rblk
  rw [View.read_apply]
  exact congrArg (A 1) (emb1 t _ _)
theorem rblk2 (d : Fin 256) (j : Fin 1408) : rblk c A 2 t (ix3 0 d j) = A 2 (ix3 (hd t) d (krow t j)) := by
  unfold rblk
  rw [View.read_apply]
  exact congrArg (A 2) (emb2 t _ _)
theorem rblk3 (j : Fin 1408) (e : Fin 128) : rblk c A 3 t (ix3 0 j e) = A 3 (ix3 (hd t) (krow t j) e) := by
  unfold rblk
  rw [View.read_apply]
  exact congrArg (A 3) (emb3 t _ _)
theorem rblk4 (i : Fin 2048) (e : Fin 128) : rblk c A 4 t (ix2 i e) = A 4 (ix2 (qrow t i) ⟨(hd t).val * 128 + e.val, by omega⟩) := by
  unfold rblk
  rw [View.read_apply]
  exact congrArg (A 4) (emb4 t _ _)
theorem rblk5 (i : Fin 2048) : rblk c A 5 t (ix3 0 0 i) = A 5 (ix3 (hd t) 0 (qrow t i)) := by
  unfold rblk
  rw [View.read_apply]
  exact congrArg (A 5) (emb5 t _)
theorem rblk6 (i : Fin 2048) : rblk c A 6 t (ix3 0 0 i) = A 6 (ix3 (hd t) 0 (qrow t i)) := by
  unfold rblk
  rw [View.read_apply]
  exact congrArg (A 6) (emb6 t _)

theorem iblk_eq (w : Fin cfg0.W) : iblk m c w t = rblk c (fun w => V m c (Pipeline.arrRef spec0 w)) w t := rfl

end Cert.KernelIdeal.Attn

end
-- ==== Proof.AttnPoint.lean ====
module

public import proofs.«01_k».proof.Proof.AttnBody
public import proofs.«01_k».proof.Proof.AttnPay
public import proofs.«01_k».proof.Proof.AttnBlk

@[expose] public section

set_option maxRecDepth 16384

/-! The body's values at a grid point, and its two accumulators, as real numbers. -/

noncomputable section

namespace Cert.KernelIdeal.Attn

open Cert.KernelIdeal Cert.KernelIdeal.Gen Cert.AttnMath
open Idealize.ShloMosaic Idealize.ShloMosaic.TcCoe Idealize.SL.Sem Idealize.ShloMosaic.Pointwise
open scoped BigOperators

/-- A sum over 256 columns of which the last 64 hold zero. -/
theorem sum_ext (x : Fin 192 → ℝ) (f : Fin 256 → ℝ) : ∑ d, ext x d * f d = ∑ d : Fin 192, x d * f ⟨d.val, by omega⟩ := by
  rw [Fin.sum_univ_two_halves 192 64 rfl]
  have h : ∀ d : Fin 64, ext x ⟨192 + d.val, by omega⟩ = 0 := fun d => dif_neg (by simp)
  simp only [h, zero_mul, Finset.sum_const_zero, add_zero]
  refine Finset.sum_congr rfl fun d _ => ?_
  rw [show ext x ⟨d.val, by omega⟩ = x d from dif_pos d.isLt]

variable (m : (ℓ : Loc nD τ sig) → Buf (Elt Ideal) ℓ) (c : Dev nD)
  (q : Fin 8192 → Fin 8 → Fin 192 → ℝ) (k : Fin 8448 → Fin 8 → Fin 192 → ℝ) (v : Fin 8448 → Fin 8 → Fin 128 → ℝ)
  (g : Fin 8192 → Fin 8 → Fin 128 → ℝ)

/-- What the seven input windows hold: the query, key, value and gradient by head, the log-sum of the scores at some shift, and the
    softmax times its gradient, summed. -/
structure Reads (μ : Fin 8 → Fin 8192 → ℝ) : Prop where
  query : ∀ t i d, iblk m c 0 t (ix3 0 i d) = (ext (q (qrow t i) (hd t)) d : EReal)
  key : ∀ t j d, iblk m c 1 t (ix3 0 j d) = (ext (k (krow t j) (hd t)) d : EReal)
  keyT : ∀ t d j, iblk m c 2 t (ix3 0 d j) = (ext (k (krow t j) (hd t)) d : EReal)
  value : ∀ t j e, iblk m c 3 t (ix3 0 j e) = (v (krow t j) (hd t) e : EReal)
  grad : ∀ t i e, iblk m c 4 t (ix2 i e) = (g (qrow t i) (hd t) e : EReal)
  lse : ∀ t i, iblk m c 5 t (ix3 0 0 i)
    = ((Real.log (∑ j, Real.exp (score q k (hd t) (qrow t i) j - μ (hd t) (qrow t i))) + μ (hd t) (qrow t i) : ℝ) : EReal)
  delta : ∀ t i, iblk m c 6 t (ix3 0 0 i) = ((∑ j, prob q k (hd t) (qrow t i) j * dprob v g (hd t) (qrow t i) j : ℝ) : EReal)

variable {m c q k v g} {μ : Fin 8 → Fin 8192 → ℝ} (H : Reads m c q k v g μ)
include H

theorem prob_at (t : Fin cfg0.N) (j : Fin 1408) (i : Fin 2048) :
    k0_pay13 (iblk m c 0 t) (iblk m c 5 t) (iblk m c 1 t) (ix2 j i) = (prob q k (hd t) (qrow t i) (krow t j) : EReal) := by
  refine (pay13_at (H.query t) (H.key t) (H.lse t) j i).trans (congrArg _ ?_)
  refine soft_exp2 (n := 8447) (score q k (hd t) (qrow t i)) (μ (hd t) (qrow t i)) (krow t j) _ ?_
  rw [sum_ext, ← mul_assoc, score]
  refine congrArg (fun z => z * (Real.log 2)⁻¹ - _) ?_
  rw [Finset.sum_mul]
  refine Finset.sum_congr rfl fun d _ => ?_
  rw [show ext (q (qrow t i) (hd t)) ⟨d.val, by omega⟩ = q (qrow t i) (hd t) d from dif_pos d.isLt]
  ring

theorem dscore_at (t : Fin cfg0.N) (j : Fin 1408) (i : Fin 2048) :
    dsAt m c t (ix2 j i) = (dscore q k v g (hd t) (qrow t i) (krow t j) : EReal) := by
  refine (pay14_at (prob_at H t) (H.value t) (H.grad t) (H.delta t) j i).trans (congrArg _ ?_)
  have e : ∑ e, v (krow t j) (hd t) e * g (qrow t i) (hd t) e = dprob v g (hd t) (qrow t i) (krow t j) :=
    Finset.sum_congr rfl fun e _ => mul_comm _ _
  rw [e]; rfl

/-- A point's part of the key gradient, before its scale. -/
def dkPart (q : Fin 8192 → Fin 8 → Fin 192 → ℝ) (k : Fin 8448 → Fin 8 → Fin 192 → ℝ) (v : Fin 8448 → Fin 8 → Fin 128 → ℝ)
    (g : Fin 8192 → Fin 8 → Fin 128 → ℝ) (t : Fin cfg0.N) (j : Fin 1408) (d : Fin 256) : ℝ :=
  ∑ i, dscore q k v g (hd t) (qrow t i) (krow t j) * ext (q (qrow t i) (hd t)) d

/-- A point's part of the value gradient. -/
def dvPart (q : Fin 8192 → Fin 8 → Fin 192 → ℝ) (k : Fin 8448 → Fin 8 → Fin 192 → ℝ)
    (g : Fin 8192 → Fin 8 → Fin 128 → ℝ) (t : Fin cfg0.N) (j : Fin 1408) (e : Fin 128) : ℝ :=
  ∑ i, prob q k (hd t) (qrow t i) (krow t j) * g (qrow t i) (hd t) e

theorem dkAcc_first (t : Fin cfg0.N) (ht : t.val % 4 = 0) (j d) : dkAcc m c (t.val + 1) (ix2 j d) = (dkPart q k v g t j d : EReal) := by
  rw [dkAcc_succ, if_pos ht]
  refine (pay2_at (dscore_at H t) (H.query t) _ j d).trans ?_
  rw [pay9_at, zero_add]; rfl
theorem dkAcc_later (t : Fin cfg0.N) (ht : t.val % 4 ≠ 0) {x : ℝ} (j d) (h : dkAcc m c t.val (ix2 j d) = (x : EReal)) :
    dkAcc m c (t.val + 1) (ix2 j d) = ((x + dkPart q k v g t j d : ℝ) : EReal) := by
  rw [dkAcc_succ, if_neg ht]
  refine (pay2_at (dscore_at H t) (H.query t) _ j d).trans ?_
  rw [h, ← EReal.coe_add]; rfl
theorem dvAcc_first (t : Fin cfg0.N) (ht : t.val % 4 = 0) (j e) : dvAcc m c (t.val + 1) (ix2 j e) = (dvPart q k g t j e : EReal) := by
  rw [dvAcc_succ, if_pos ht]
  refine (pay15_at (prob_at H t) (H.grad t) _ j e).trans ?_
  rw [pay10_at, zero_add]; rfl
theorem dvAcc_later (t : Fin cfg0.N) (ht : t.val % 4 ≠ 0) {x : ℝ} (j e) (h : dvAcc m c t.val (ix2 j e) = (x : EReal)) :
    dvAcc m c (t.val + 1) (ix2 j e) = ((x + dvPart q k g t j e : ℝ) : EReal) := by
  rw [dvAcc_succ, if_neg ht]
  refine (pay15_at (prob_at H t) (H.grad t) _ j e).trans ?_
  rw [h, ← EReal.coe_add]; rfl

omit H in
/-- The point of the same head and keys whose query block is `s`. -/
def sib (t : Fin cfg0.N) (s : Fin 4) : Fin cfg0.N := ⟨t.val - t.val % 4 + s.val, by
  have := t.isLt.trans_eq points; refine lt_of_lt_of_eq ?_ points.symm; omega⟩

omit H in
theorem hd_sib (t : Fin cfg0.N) (s : Fin 4) : hd (sib t s) = hd t := Fin.ext (by show (t.val - t.val % 4 + s.val) / 24 = t.val / 24; omega)
omit H in
theorem krow_sib (t : Fin cfg0.N) (s : Fin 4) (j) : krow (sib t s) j = krow t j :=
  Fin.ext (by show (t.val - t.val % 4 + s.val) / 4 % 6 * 1408 + j.val = t.val / 4 % 6 * 1408 + j.val; omega)
omit H in
theorem qrow_sib (t : Fin cfg0.N) (s : Fin 4) (i : Fin 2048) : qrow (sib t s) i = ⟨s.val * 2048 + i.val, by omega⟩ :=
  Fin.ext (by show (t.val - t.val % 4 + s.val) % 4 * 2048 + i.val = s.val * 2048 + i.val; omega)

theorem dkAcc_last (t : Fin cfg0.N) (ht : t.val % 4 = 3) (j : Fin 1408) (d : Fin 256) :
    dkAcc m c (t.val + 1) (ix2 j d) = ((∑ i, dscore q k v g (hd t) i (krow t j) * ext (q i (hd t)) d : ℝ) : EReal) := by
  have e0 := dkAcc_first H (sib t 0) (by show (t.val - t.val % 4 + 0) % 4 = 0; omega) j d
  have e1 := dkAcc_later H (sib t 1) (by show (t.val - t.val % 4 + 1) % 4 ≠ 0; omega) j d e0
  have e2 := dkAcc_later H (sib t 2) (by show (t.val - t.val % 4 + 2) % 4 ≠ 0; omega) j d e1
  have e3 := dkAcc_later H (sib t 3) (by show (t.val - t.val % 4 + 3) % 4 ≠ 0; omega) j d e2
  have et : (sib t 3).val = t.val := by show t.val - t.val % 4 + 3 = t.val; omega
  rw [et] at e3
  rw [e3, Fin.sum_univ_tiles 4 2048 rfl, Fin.sum_univ_four]
  simp only [dkPart, hd_sib, krow_sib, qrow_sib]

theorem dvAcc_last (t : Fin cfg0.N) (ht : t.val % 4 = 3) (j : Fin 1408) (e : Fin 128) :
    dvAcc m c (t.val + 1) (ix2 j e) = (dvalue q k g (hd t) (krow t j) e : EReal) := by
  have e0 := dvAcc_first H (sib t 0) (by show (t.val - t.val % 4 + 0) % 4 = 0; omega) j e
  have e1 := dvAcc_later H (sib t 1) (by show (t.val - t.val % 4 + 1) % 4 ≠ 0; omega) j e e0
  have e2 := dvAcc_later H (sib t 2) (by show (t.val - t.val % 4 + 2) % 4 ≠ 0; omega) j e e1
  have e3 := dvAcc_later H (sib t 3) (by show (t.val - t.val % 4 + 3) % 4 ≠ 0; omega) j e e2
  have et : (sib t 3).val = t.val := by show t.val - t.val % 4 + 3 = t.val; omega
  rw [et] at e3
  rw [e3, dvalue, Fin.sum_univ_tiles 4 2048 rfl, Fin.sum_univ_four]
  simp only [dvPart, hd_sib, krow_sib, qrow_sib, mul_comm (g _ _ _)]

/-- The key gradient's block at the last query block. -/
theorem dk_block (t : Fin cfg0.N) (ht : t.val % 4 = 3) (j : Fin 1408) (d : Fin 256) :
    k0_pay7 (dkAcc m c (t.val + 1)) (ix3 0 j d) = (ext (dkey q k v g (hd t) (krow t j)) d : EReal) := by
  rw [pay7_at, dkAcc_last H t ht, ← EReal.coe_mul]
  refine congrArg _ ?_
  unfold ext
  by_cases hd' : d.val < 192
  · simp only [dif_pos hd', dkey, Finset.sum_mul]
    exact Finset.sum_congr rfl fun i _ => by rw [div_eq_mul_inv, mul_assoc]
  · simp only [dif_neg hd', mul_zero, Finset.sum_const_zero, zero_mul]

/-- The value gradient's block at the last query block. -/
theorem dv_block (t : Fin cfg0.N) (ht : t.val % 4 = 3) (j : Fin 1408) (e : Fin 128) :
    k0_pay8 (dvAcc m c (t.val + 1)) (ix3 0 j e) = (dvalue q k g (hd t) (krow t j) e : EReal) := by
  rw [pay8_at, dvAcc_last H t ht]

end Cert.KernelIdeal.Attn

end
-- ==== Proof.AttnQuery.lean ====
module

public import proofs.«01_k».proof.Proof.AttnPoint

@[expose] public section

set_option maxRecDepth 16384

/-! The query gradient's window: at each point one block of its columns takes that point's block of keys. -/

noncomputable section

namespace Cert.KernelIdeal.Attn

open Cert.KernelIdeal Cert.KernelIdeal.Gen Cert.AttnMath
open Idealize.ShloMosaic Idealize.ShloMosaic.TcCoe Idealize.SL.Sem Idealize.ShloMosaic.Pointwise
open scoped BigOperators

section Put

variable {α : Type} (x : S1x256x8192.Idx → α) (b : Fin 4) (d : Fin 256) (i : Fin 2048) (o n : ℕ)

/-- The window's place of row `d` and column `i` of the columns' block `b`. -/
abbrev at7 (b : Fin 4) (d : Fin 256) (i : Fin 2048) : S1x256x8192.Idx := ix3 0 d ⟨b.val * 2048 + i.val, by omega⟩

/-- One head's `n` rows of 2048 columns. -/
abbrev rows3 (n : ℕ) : Shape := ⟨3, ![1, n, 2048]⟩

theorem put_in (w : (rows3 n).Idx → α) (r : Fin n) (h : d.val = o + r.val) :
    VecWindow.put x ![0, o, 2048 * b.val] (rows3 n).size w (at7 b d i) = w (ix3 0 r i) := by
  have h' : ∀ a, (![0, o, 2048 * b.val] : Fin 3 → ℕ) a ≤ (at7 b d i a).val
      ∧ (at7 b d i a).val < (![0, o, 2048 * b.val] : Fin 3 → ℕ) a + (rows3 n).size a := fun a => by
    fin_cases a
    · exact ⟨le_refl 0, Nat.one_pos⟩
    · show o ≤ d.val ∧ d.val < o + n; omega
    · show 2048 * b.val ≤ b.val * 2048 + i.val ∧ b.val * 2048 + i.val < 2048 * b.val + 2048; omega
  refine (dif_pos h').trans (congrArg w (funext fun a => Fin.ext ?_))
  fin_cases a
  · rfl
  · show d.val - o = r.val; omega
  · show b.val * 2048 + i.val - 2048 * b.val = i.val; omega

theorem put_out (b' : Fin 4) (w : (rows3 n).Idx → α) (h : b ≠ b' ∨ d.val < o ∨ o + n ≤ d.val) :
    VecWindow.put x ![0, o, 2048 * b'.val] (rows3 n).size w (at7 b d i) = x (at7 b d i) := by
  refine dif_neg fun h' => ?_
  have h1 : o ≤ d.val ∧ d.val < o + n := h' 1
  have h2 : 2048 * b'.val ≤ b.val * 2048 + i.val ∧ b.val * 2048 + i.val < 2048 * b'.val + 2048 := h' 2
  rcases h with h | h
  · exact h (Fin.ext (by omega))
  · omega

end Put

section Step

variable (i₀ : grid0.Coords) {ds : FVec Ideal S1408x2048 .f32} {kt : Vec Ideal S1x256x1408 .bf16} {x : Vec Ideal S1x256x8192 .f32}
  {dr : Fin 1408 → Fin 2048 → ℝ} {wr : Fin 1408 → Fin 192 → ℝ}

theorem dqStep_other (b : Fin 4) (hb : b ≠ i₀ 2) (d i) : dqStep i₀ ds kt x (at7 b d i) = x (at7 b d i) := by
  unfold dqStep
  split
  · exact (put_out _ b d i 192 64 (i₀ 2) _ (.inl hb)).trans (put_out _ b d i 0 192 (i₀ 2) _ (.inl hb))
  · exact put_out _ b d i 0 192 (i₀ 2) _ (.inl hb)

variable (hd : ∀ j i, ds (ix2 j i) = (dr j i : EReal)) (hk : ∀ d j, kt (ix3 0 d j) = (ext (wr j) d : EReal))
include hd hk

omit hd in
theorem rows (d : Fin 192) (j : Fin 1408) : ktRows kt (ix3 0 d j) = (wr j d : EReal) := by
  rw [ktRows_at, hk]
  exact congrArg _ (dif_pos d.isLt)

theorem dqStep_first (h0 : (i₀ 1).val = 0) (d i) :
    dqStep i₀ ds kt x (at7 (i₀ 2) d i) = (ext (fun d => ∑ j, wr j d * dr j i) d : EReal) := by
  unfold dqStep
  rw [if_pos h0]
  unfold ext
  split
  · next h =>
    refine (put_out _ (i₀ 2) d i 192 64 (i₀ 2) _ (.inr (.inl h))).trans ?_
    refine (put_in _ (i₀ 2) d i 0 192 _ ⟨d.val, h⟩ (Nat.zero_add _).symm).trans ?_
    exact pay4_at (wr := fun d j => wr j d) hd (rows hk) ⟨d.val, h⟩ i
  · next h =>
    refine (put_in _ (i₀ 2) d i 192 64 _ ⟨d.val - 192, by omega⟩ (by show d.val = 192 + (d.val - 192); omega)).trans ?_
    exact pay5_at _ i

theorem dqStep_later (h0 : (i₀ 1).val ≠ 0) (d i) {y : ℝ} (hy : x (at7 (i₀ 2) d i) = (y : EReal)) :
    dqStep i₀ ds kt x (at7 (i₀ 2) d i) = ((y + ext (fun d => ∑ j, wr j d * dr j i) d : ℝ) : EReal) := by
  unfold dqStep
  rw [if_neg h0]
  unfold ext
  split
  · next h =>
    refine (put_in _ (i₀ 2) d i 0 192 _ ⟨d.val, h⟩ (Nat.zero_add _).symm).trans ?_
    refine (pay6_at (wr := fun d j => wr j d) hd (rows hk) _ ⟨d.val, h⟩ i).trans ?_
    rw [EReal.coe_add]
    refine congrArg (· + _) (Eq.trans ?_ hy)
    refine congrArg x (funext fun a => Fin.ext ?_)
    fin_cases a
    · rfl
    · show 0 + 1 * d.val = d.val; omega
    · show 2048 * (i₀ 2).val + 1 * i.val = (i₀ 2).val * 2048 + i.val; omega
  · next h =>
    rw [add_zero]
    exact (put_out _ (i₀ 2) d i 0 192 (i₀ 2) _ (.inr (.inr (by omega)))).trans hy

end Step

variable {m : (ℓ : Loc nD τ sig) → Buf (Elt Ideal) ℓ} {c : Dev nD}
  {q : Fin 8192 → Fin 8 → Fin 192 → ℝ} {k : Fin 8448 → Fin 8 → Fin 192 → ℝ} {v : Fin 8448 → Fin 8 → Fin 128 → ℝ}
  {g : Fin 8192 → Fin 8 → Fin 128 → ℝ} {μ : Fin 8 → Fin 8192 → ℝ}

/-- What the block of keys `s` adds to the query gradient of head `h`. -/
def dqPart (q : Fin 8192 → Fin 8 → Fin 192 → ℝ) (k : Fin 8448 → Fin 8 → Fin 192 → ℝ) (v : Fin 8448 → Fin 8 → Fin 128 → ℝ)
    (g : Fin 8192 → Fin 8 → Fin 128 → ℝ) (h : Fin 8) (b : Fin 4) (d : Fin 256) (i : Fin 2048) (s : ℕ) : ℝ :=
  ext (fun d => ∑ j : Fin 1408, k ⟨s % 6 * 1408 + j.val, by omega⟩ h d
    * dscore q k v g h ⟨b.val * 2048 + i.val, by omega⟩ ⟨s % 6 * 1408 + j.val, by omega⟩) d

/-- How many blocks of keys the columns' block `b` holds after point `t`. -/
def done (t : ℕ) (b : Fin 4) : ℕ := if b.val ≤ t % 4 then t / 4 % 6 + 1 else t / 4 % 6

theorem part_eq (t : Fin cfg0.N) (b : Fin 4) (hb : b.val = t.val % 4) (d i) :
    ext (fun d => ∑ j, k (krow t j) (hd t) d * dscore q k v g (hd t) (qrow t i) (krow t j)) d = dqPart q k v g (hd t) b d i (t.val / 4 % 6) := by
  have e1 : qrow t i = ⟨b.val * 2048 + i.val, by omega⟩ := Fin.ext (by show t.val % 4 * 2048 + i.val = b.val * 2048 + i.val; omega)
  have e2 : ∀ j, krow t j = ⟨t.val / 4 % 6 % 6 * 1408 + j.val, by omega⟩ := fun j => Fin.ext (by
    show t.val / 4 % 6 * 1408 + j.val = t.val / 4 % 6 % 6 * 1408 + j.val; omega)
  simp only [dqPart, e1, e2]

theorem leaves7 (H : Reads m c q k v g μ) : ∀ (n : ℕ) (hn : n < cfg0.N) X, (rdat m c).Leaves 7 ⟨n, hn⟩ X → ∀ b d i, done n b ≠ 0 →
    X (at7 b d i) = ((∑ s ∈ Finset.range (done n b), dqPart q k v g (hd ⟨n, hn⟩) b d i s : ℝ) : EReal) := by
  intro n
  induction n with
  | zero =>
    rintro hn X ⟨Y, _, hX⟩ b d i hb
    rw [after7] at hX
    have c1 : (grid0.coords (⟨0, hn⟩ : Fin cfg0.N) 1).val = 0 := (coord1 ⟨0, hn⟩).trans (by norm_num)
    have c2 : (grid0.coords (⟨0, hn⟩ : Fin cfg0.N) 2).val = 0 := (coord2 ⟨0, hn⟩).trans (by norm_num)
    have b0 : b = grid0.coords (⟨0, hn⟩ : Fin cfg0.N) 2 := Fin.ext (by
      rw [c2]; by_contra h; exact hb (if_neg (by omega)))
    subst hX
    have hb' : b.val = 0 % 4 := by rw [b0]; exact c2
    have e := dqStep_first (grid0.coords ⟨0, hn⟩) (x := Y) (dscore_at H ⟨0, hn⟩) (H.keyT ⟨0, hn⟩) c1 d i
    rw [← b0, part_eq ⟨0, hn⟩ b hb'] at e
    rw [e]
    have : done 0 b = 1 := if_pos (by omega)
    rw [this, Finset.sum_range_one]
    simp only [Nat.zero_div, Nat.zero_mod]
  | succ n ih =>
    rintro hn X ⟨Y, hY, hX⟩ b d i hb
    rw [after7] at hX
    subst hX
    have c1 := coord1 (⟨n + 1, hn⟩ : Fin cfg0.N)
    have c2 := coord2 (⟨n + 1, hn⟩ : Fin cfg0.N)
    rw [(rdat m c).finds_of_pos ((cfg0.win 7).fetch_out rfl _) (Nat.succ_ne_zero n)] at hY
    -- what the window held before, of the same head
    have before : (n + 1) % 24 ≠ 0 → done n b ≠ 0 → Y (at7 b d i)
        = ((∑ s ∈ Finset.range (done n b), dqPart q k v g (hd ⟨n + 1, hn⟩) b d i s : ℝ) : EReal) := fun h0 hnz => by
      have e : hd ⟨n + 1, hn⟩ = hd ⟨n, by omega⟩ := Fin.ext (by show (n + 1) / 24 = n / 24; omega)
      rw [e]
      refine ih _ Y (hY.resolve_left fun hf => ?_) b d i hnz
      have := (flush0_7 _).1 hf
      have h' : n % 24 = 23 := this
      omega
    by_cases hbt : b.val = (n + 1) % 4
    · have b0 : b = grid0.coords (⟨n + 1, hn⟩ : Fin cfg0.N) 2 := Fin.ext (hbt.trans c2.symm)
      have hd1 : done (n + 1) b = (n + 1) / 4 % 6 + 1 := if_pos (by omega)
      by_cases hk : (n + 1) / 4 % 6 = 0
      · have e := dqStep_first (grid0.coords ⟨n + 1, hn⟩) (x := Y) (dscore_at H ⟨n + 1, hn⟩) (H.keyT ⟨n + 1, hn⟩) (c1.trans hk) d i
        rw [← b0, part_eq ⟨n + 1, hn⟩ b hbt] at e
        rw [e, hd1]
        dsimp only
        rw [hk, Finset.sum_range_one]
      · have hdn : done n b = (n + 1) / 4 % 6 := by unfold done; split <;> omega
        have y := before (by omega) (by omega)
        rw [b0] at y
        have e := dqStep_later (grid0.coords ⟨n + 1, hn⟩) (dscore_at H ⟨n + 1, hn⟩) (H.keyT ⟨n + 1, hn⟩) (by rw [c1]; exact hk) d i y
        rw [← b0, part_eq ⟨n + 1, hn⟩ b hbt, hdn] at e
        rw [e, hd1, Finset.sum_range_succ]
    · have e := dqStep_other (grid0.coords ⟨n + 1, hn⟩) (ds := dsAt m c ⟨n + 1, hn⟩) (kt := iblk m c 2 ⟨n + 1, hn⟩) (x := Y) b
        (fun h => hbt ((congrArg Fin.val h).trans c2)) d i
      have hdn : done n b = done (n + 1) b := by
        revert hb; unfold done; split <;> split <;> omega
      rw [e, ← hdn]
      refine before (fun h0 => ?_) (by rwa [hdn])
      refine hb ?_
      unfold done
      rw [if_neg (by omega)]; omega

/-- The query gradient's block, written back at a head's last point. -/
theorem dq_block (H : Reads m c q k v g μ) (t : Fin cfg0.N) (ht : t.val % 24 = 23) {X} (hX : (rdat m c).Leaves 7 t X) (d : Fin 256) (i : Fin 8192) :
    X (ix3 0 d i) = (ext (fun d => dquery q k v g (hd t) d i) d : EReal) := by
  have hdn : done t.val ⟨i.val / 2048, by omega⟩ = 6 := by
    unfold done
    rw [if_pos (by show i.val / 2048 ≤ t.val % 4; omega)]; omega
  have e := leaves7 H t.val t.isLt X hX ⟨i.val / 2048, by omega⟩ d ⟨i.val % 2048, by omega⟩ (by rw [hdn]; omega)
  have hi : (⟨i.val / 2048 * 2048 + i.val % 2048, by omega⟩ : Fin 8192) = i := Fin.ext (by show i.val / 2048 * 2048 + i.val % 2048 = i.val; omega)
  rw [hdn] at e
  simp only [at7, hi] at e
  rw [e]
  refine congrArg _ ?_
  simp only [dqPart, hi]
  unfold ext
  split
  · unfold dquery
    dsimp only
    rw [Fin.sum_univ_tiles 6 1408 rfl, Finset.sum_range]
    refine Finset.sum_congr rfl fun s _ => Finset.sum_congr rfl fun j _ => ?_
    have hs : s.val % 6 = s.val := Nat.mod_eq_of_lt s.isLt
    simp only [hs]
    exact mul_comm _ _
  · exact Finset.sum_const_zero

end Cert.KernelIdeal.Attn

end
-- ==== Proof.AttnHost.lean ====
module

public import proofs.«01_k».proof.Proof.Gen.KernelIdeal.Frame
public import proofs.«01_k».proof.Proof.AttnRef

@[expose] public section

set_option maxRecDepth 16384

/-! What the kernel's windows find in memory: the host operations before the call, read at an index. -/

noncomputable section

namespace Cert.KernelIdeal.Attn

open Cert.KernelIdeal Cert.KernelIdeal.Gen Cert.AttnMath
open Cert.ReferenceIdeal.Attn (sA mA eA sumA rowA pA sA_at pA_at eA_real max_low_at sitofp_zero)
open Idealize.ShloMosaic Idealize.ShloMosaic.TcCoe Idealize.SL.Sem Idealize.ShloMosaic.Pointwise Idealize.ShloMosaic.StableHlo
open scoped BigOperators

/-- The query by head, its rows filled up to 256. -/
def qhA (x0 : FVec Ideal S8192x8x192 .f32) : FVec Ideal S8x8192x256 .bf16 :=
  truncf .bf16 (pad S8x8192x256 ![0, 0, 0] ![0, 0, 64] ![0, 0, 0] (transpose S8x8192x192 [1, 0, 2] x0 transposes_S8192x8x192_S8x8192x192_1_0_2)
    (sitofp .f32 (constantI S_ 32 0#32)) pads_S8x8192x192_S8x8192x256_000_000_0640 h_S_) bitsLt_bf16_f32
/-- The key by head, its rows filled up to 256. -/
def khA (x1 : FVec Ideal S8448x8x192 .f32) : FVec Ideal S8x8448x256 .bf16 :=
  truncf .bf16 (pad S8x8448x256 ![0, 0, 0] ![0, 0, 64] ![0, 0, 0] (transpose S8x8448x192 [1, 0, 2] x1 transposes_S8448x8x192_S8x8448x192_1_0_2)
    (sitofp .f32 (constantI S_ 32 0#32)) pads_S8x8448x192_S8x8448x256_000_000_0640 h_S_) bitsLt_bf16_f32
/-- The transposed key. -/
def ktA (x1 : FVec Ideal S8448x8x192 .f32) : FVec Ideal S8x256x8448 .bf16 :=
  transpose S8x256x8448 [0, 2, 1] (khA x1) transposes_S8x8448x256_S8x256x8448_0_2_1
/-- The value by head. -/
def vhA (x2 : FVec Ideal S8448x8x128 .f32) : FVec Ideal S8x8448x128 .bf16 :=
  truncf .bf16 (transpose S8x8448x128 [1, 0, 2] x2 transposes_S8448x8x128_S8x8448x128_1_0_2) bitsLt_bf16_f32
open Cert.ReferenceIdeal in
/-- The greatest score of a query. -/
def topA (s : FVec Ideal S8x8192x8448 .f32) : FVec Ideal S8x8192 .f32 :=
  Host.reduce FloatOps.maximumf s (constant S_ .f32 0xFF800000#32) reducesTo_S8x8192x8448_S8x8192_d2 h_S_
/-- A shift plus the logarithm of a sum. -/
def logA (M Z : FVec Ideal S8x8192 .f32) : FVec Ideal S8x1x8192 .f32 :=
  transpose S8x1x8192 [0, 2, 1] (addf (broadcastInDim S8x8192x1 ![0, 1] bcast_S8x8192_S8x8192x1_0_1 M)
    (Host.log (broadcastInDim S8x8192x1 ![0, 1] bcast_S8x8192_S8x8192x1_0_1 Z))) transposes_S8x8192x1_S8x1x8192_0_2_1
/-- The exponentials of the scores less a shift. -/
def expA (s : FVec Ideal S8x8192x8448 .f32) (M : FVec Ideal S8x8192 .f32) : FVec Ideal S8x8192x8448 .f32 := Host.exp (subf s (rowA M))
/-- The log-sum of a query's scores. -/
def lseA (s : FVec Ideal S8x8192x8448 .f32) : FVec Ideal S8x1x8192 .f32 := logA (topA s) (sumA (expA s (topA s)))
/-- The attention's output. -/
def oA (x2 : FVec Ideal S8448x8x128 .f32) (p : FVec Ideal S8x8192x8448 .f32) : FVec Ideal S8192x8x128 .f32 :=
  transpose S8192x8x128 [2, 0, 1] (Host.dotGeneral dot_S8448x8x128_S8x8192x8448_S8x128x8192_0_2_2_1_1_0 none x2 p) transposes_S8x128x8192_S8192x8x128_2_0_1
/-- The gradient of the output, narrowed. -/
def gradA (x3 : FVec Ideal S8192x1024 .f32) : FVec Ideal S8192x1024 .bf16 := truncf .bf16 x3 bitsLt_bf16_f32
/-- The sum of the output times its gradient. -/
def deltaA (o : FVec Ideal S8192x8x128 .f32) (x3 : FVec Ideal S8192x1024 .f32) : FVec Ideal S8x1x8192 .f32 :=
  broadcastInDim S8x1x8192 ![0, 2] bcast_S8x8192_S8x1x8192_0_2 (transpose S8x8192 [1, 0]
    (Host.reduceAdd (mulf o (shapeCast _ x3 shapeCasts_S8192x1024_S8192x8x128)) (constant S_ .f32 0x00000000#32) reducesTo_S8192x8x128_S8192x8_d2 h_S_)
    transposes_S8192x8_S8x8192_1_0)

section
variable {q : Fin 8192 → Fin 8 → Fin 192 → ℝ} {k : Fin 8448 → Fin 8 → Fin 192 → ℝ} {v : Fin 8448 → Fin 8 → Fin 128 → ℝ}
  {g : Fin 8192 → Fin 8 → Fin 128 → ℝ}
variable {x0 : FVec Ideal S8192x8x192 .f32} {x1 : FVec Ideal S8448x8x192 .f32} {x2 : FVec Ideal S8448x8x128 .f32} {x3 : FVec Ideal S8192x1024 .f32}

theorem qhA_at (h0 : ∀ i h d, x0 (ix3 i h d) = (q i h d : EReal)) (h : Fin 8) (i : Fin 8192) (d : Fin 256) :
    qhA x0 (ix3 h i d) = if hd : d.val < 192 then (q i h ⟨d.val, hd⟩ : EReal) else 0 := by
  pointwise [qhA]
  simp only [h0, sitofp_zero]
  try rfl

theorem khA_at (h1 : ∀ j h d, x1 (ix3 j h d) = (k j h d : EReal)) (h : Fin 8) (j : Fin 8448) (d : Fin 256) :
    khA x1 (ix3 h j d) = if hd : d.val < 192 then (k j h ⟨d.val, hd⟩ : EReal) else 0 := by
  pointwise [khA]
  simp only [h1, sitofp_zero]
  try rfl

theorem ktA_at (h1 : ∀ j h d, x1 (ix3 j h d) = (k j h d : EReal)) (h : Fin 8) (d : Fin 256) (j : Fin 8448) :
    ktA x1 (ix3 h d j) = if hd : d.val < 192 then (k j h ⟨d.val, hd⟩ : EReal) else 0 := by
  rw [← khA_at h1]
  pointwise [ktA]

theorem vhA_at (h2 : ∀ j h e, x2 (ix3 j h e) = (v j h e : EReal)) (h : Fin 8) (j : Fin 8448) (e : Fin 128) :
    vhA x2 (ix3 h j e) = (v j h e : EReal) := by
  pointwise [vhA]
  simp only [h2]

theorem logA_at (M Z : FVec Ideal S8x8192 .f32) (h : Fin 8) (i : Fin 8192) :
    logA M Z (ix3 h 0 i) = M (ix2 h i) + Ideal.log (Z (ix2 h i)) := by
  pointwise [logA]

theorem topA_eq (s : FVec Ideal S8x8192x8448 .f32) : topA s = mA s := by
  funext j
  exact (max_low_at (topA s) j).symm

theorem expA_eq (s : FVec Ideal S8x8192x8448 .f32) : expA s (mA s) = eA s := by
  generalize hM : mA s = M
  rw [eA, hM, expA, rowA]

/-- The saved log-sum of a query's scores, at some shift. -/
theorem lseA_at {s : FVec Ideal S8x8192x8448 .f32} {σ : Fin 8 → Fin 8192 → Fin 8448 → ℝ} (hs : ∀ h i j, s (ix3 h i j) = (σ h i j : EReal)) (h : Fin 8) (i : Fin 8192) :
    ∃ μ : ℝ, lseA s (ix3 h 0 i) = ((Real.log (∑ j, Real.exp (σ h i j - μ)) + μ : ℝ) : EReal) := by
  obtain ⟨μ, hμ, -, hz⟩ := eA_real hs h i
  refine ⟨μ, ?_⟩
  rw [lseA, topA_eq, expA_eq, logA_at, hμ, hz, Ideal.log_coe, if_neg (not_le.mpr (sum_exp_pos (n := 8447) fun j => σ h i j - μ)), ← EReal.coe_add, add_comm]

/-- The saved row sum: the output times its gradient, which is the softmax times its gradient. -/
theorem deltaA_at {p : FVec Ideal S8x8192x8448 .f32} {π : Fin 8 → Fin 8192 → Fin 8448 → ℝ} (hp : ∀ h i j, p (ix3 h i j) = (π h i j : EReal))
    (h2 : ∀ j h e, x2 (ix3 j h e) = (v j h e : EReal)) (h3 : ∀ i h e, x3 (ix2 i ⟨h.val * 128 + e.val, by omega⟩) = (g i h e : EReal))
    (h : Fin 8) (i : Fin 8192) : deltaA (oA x2 p) x3 (ix3 h 0 i) = ((∑ j, π h i j * dprob v g h i j : ℝ) : EReal) := by
  pointwise [deltaA, oA]
  simp only [hp, h2, h3, ← EReal.coe_mul, ← coe_sum]
  refine congrArg _ ?_
  simp only [dprob, Finset.mul_sum, Finset.sum_mul]
  rw [Finset.sum_comm]
  exact Finset.sum_congr rfl fun j _ => Finset.sum_congr rfl fun e _ => by ring
end

end Cert.KernelIdeal.Attn

end
-- ==== Proof.AttnLaunch.lean ====
module

public import proofs.«01_k».proof.Proof.Gen.KernelIdeal.Frame
public import proofs.«01_k».proof.Proof.AttnHost

@[expose] public section

set_option maxRecDepth 16384

/-! The arrays the call's windows read, as the host operations before the call leave them. -/

noncomputable section

namespace Cert.KernelIdeal.Attn

open Cert.KernelIdeal Cert.KernelIdeal.Gen Cert.AttnMath
open Cert.ReferenceIdeal.Attn (sA mA eA sumA rowA pA sA_at pA_at eA_real max_low_at sitofp_zero)
open Idealize.ShloMosaic Idealize.ShloMosaic.TcCoe Idealize.SL.Sem Idealize.ShloMosaic.Pointwise Idealize.ShloMosaic.StableHlo
open scoped BigOperators

variable (m : (ℓ : Loc nD τ sig) → Buf (Elt Ideal) ℓ) (c : Dev nD)

theorem V_q : V m c main_v2 = qhA (m (c, main_arg0)) := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp <;> rfl
theorem V_k : V m c main_v5 = khA (m (c, main_arg1)) := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp <;> rfl
theorem V_kt : V m c main_v40 = ktA (m (c, main_arg1)) := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp <;> rfl
theorem V_v : V m c main_v7 = vhA (m (c, main_arg2)) := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp <;> rfl
theorem V_g : V m c main_v41 = gradA (m (c, main_arg3)) := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp <;> rfl
theorem V_lse : V m c main_v21 = lseA (sA (m (c, main_arg0)) (m (c, main_arg1))) := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp <;> rfl
theorem V_delta : V m c main_v39 = deltaA (oA (m (c, main_arg2)) (pA (eA (sA (m (c, main_arg0)) (m (c, main_arg1)))))) (m (c, main_arg3)) := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp <;> rfl

end Cert.KernelIdeal.Attn

end
-- ==== Proof.AttnArr.lean ====
module

public import proofs.«01_k».proof.Proof.AttnQuery
public import proofs.«01_k».proof.Proof.AttnLaunch

@[expose] public section

set_option maxRecDepth 16384

/-! The kernel's three arrays, and the run that ends with them. -/

noncomputable section

namespace Cert.KernelIdeal.Attn

open Cert.KernelIdeal Cert.KernelIdeal.Gen Cert.AttnMath
open Cert.ReferenceIdeal.Attn (qsA sA eA pA dpA dsA dqA dkA dvA sA_at pA_at dqA_at dkA_at dvA_at)
open Idealize.ShloMosaic Idealize.ShloMosaic.TcCoe Idealize.SL.Sem Idealize.ShloMosaic.Pointwise

/-- A row of 192 filled up with zeros, as an extended real. -/
theorem coe_ext (x : Fin 192 → ℝ) (d : Fin 256) : (if hd : d.val < 192 then (x ⟨d.val, hd⟩ : EReal) else 0) = (ext x d : EReal) := by
  unfold ext; split <;> rfl

variable (m : (ℓ : Loc nD τ sig) → Buf (Elt Ideal) ℓ) (c : Dev nD)

/-- The arguments hold these reals. -/
structure Args (q : Fin 8192 → Fin 8 → Fin 192 → ℝ) (k : Fin 8448 → Fin 8 → Fin 192 → ℝ) (v : Fin 8448 → Fin 8 → Fin 128 → ℝ)
    (g : Fin 8192 → Fin 8 → Fin 128 → ℝ) (x0 : FVec Ideal S8192x8x192 .f32) (x1 : FVec Ideal S8448x8x192 .f32)
    (x2 : FVec Ideal S8448x8x128 .f32) (x3 : FVec Ideal S8192x1024 .f32) : Prop where
  h0 : ∀ i h d, x0 (ix3 i h d) = (q i h d : EReal)
  h1 : ∀ j h d, x1 (ix3 j h d) = (k j h d : EReal)
  h2 : ∀ j h e, x2 (ix3 j h e) = (v j h e : EReal)
  h3 : ∀ i h e, x3 (ix2 i ⟨h.val * 128 + e.val, by omega⟩) = (g i h e : EReal)

/-- Arrays of reals are such arguments. -/
theorem args_of_real {x0 : FVec Ideal S8192x8x192 .f32} {x1 : FVec Ideal S8448x8x192 .f32} {x2 : FVec Ideal S8448x8x128 .f32} {x3 : FVec Ideal S8192x1024 .f32}
    (h0 : ∀ j, ∃ r : ℝ, x0 j = (r : EReal)) (h1 : ∀ j, ∃ r : ℝ, x1 j = (r : EReal)) (h2 : ∀ j, ∃ r : ℝ, x2 j = (r : EReal))
    (h3 : ∀ j, ∃ r : ℝ, x3 j = (r : EReal)) : ∃ q k v g, Args q k v g x0 x1 x2 x3 := by
  choose r0 e0 using h0
  choose r1 e1 using h1
  choose r2 e2 using h2
  choose r3 e3 using h3
  exact ⟨fun i h d => r0 (ix3 i h d), fun j h d => r1 (ix3 j h d), fun j h e => r2 (ix3 j h e),
    fun i h e => r3 (ix2 i ⟨h.val * 128 + e.val, by omega⟩), fun _ _ _ => e0 _, fun _ _ _ => e1 _, fun _ _ _ => e2 _, fun _ _ _ => e3 _⟩

theorem gradA_at (x3 : FVec Ideal S8192x1024 .f32) (i : Fin 8192) (j : Fin 1024) : gradA x3 (ix2 i j) = x3 (ix2 i j) := by
  pointwise [gradA]

variable {q : Fin 8192 → Fin 8 → Fin 192 → ℝ} {k : Fin 8448 → Fin 8 → Fin 192 → ℝ} {v : Fin 8448 → Fin 8 → Fin 128 → ℝ}
  {g : Fin 8192 → Fin 8 → Fin 128 → ℝ}
  (A : Args q k v g (m (c, main_arg0)) (m (c, main_arg1)) (m (c, main_arg2)) (m (c, main_arg3)))
include A

theorem reads : ∃ μ, Reads m c q k v g μ := by
  choose μ hμ using lseA_at (sA_at A.h0 A.h1)
  refine ⟨μ, ?_, ?_, ?_, ?_, ?_, ?_, ?_⟩
  · intro t i d
    rw [iblk_eq]
    exact (rblk0 _ _ _ _ _).trans ((congrFun (V_q m c) _).trans ((qhA_at A.h0 _ _ _).trans (coe_ext _ _)))
  · intro t j d
    rw [iblk_eq]
    exact (rblk1 _ _ _ _ _).trans ((congrFun (V_k m c) _).trans ((khA_at A.h1 _ _ _).trans (coe_ext _ _)))
  · intro t d j
    rw [iblk_eq]
    exact (rblk2 _ _ _ _ _).trans ((congrFun (V_kt m c) _).trans ((ktA_at A.h1 _ _ _).trans (coe_ext _ _)))
  · intro t j e
    rw [iblk_eq]
    exact (rblk3 _ _ _ _ _).trans ((congrFun (V_v m c) _).trans (vhA_at A.h2 _ _ _))
  · intro t i e
    rw [iblk_eq]
    exact (rblk4 _ _ _ _ _).trans ((congrFun (V_g m c) _).trans ((gradA_at _ _ _).trans (A.h3 _ _ _)))
  · intro t i
    rw [iblk_eq]
    exact (rblk5 _ _ _ _).trans ((congrFun (V_lse m c) _).trans (hμ _ _))
  · intro t i
    rw [iblk_eq]
    exact (rblk6 _ _ _ _).trans ((congrFun (V_delta m c) _).trans (deltaA_at (pA_at (sA_at A.h0 A.h1)) A.h2 A.h3 _ _))

omit A in
/-- What the reference computes of the gradient of the scores. -/
abbrev dsOf : FVec Ideal S8x8192x8448 .f32 :=
  dsA (dpA (m (c, main_arg2)) (m (c, main_arg3))) (eA (sA (m (c, main_arg0)) (m (c, main_arg1))))

/-- A run's three result arrays are the reference's. -/
theorem arrays {after : (w : Fin cfg0.W) → (t : Fin cfg0.N) → (cfg0.win w).block.Idx → Elt Ideal (cfg0.win w).elt}
    (hL : ∀ w u, (cfg0.win w).flush u = true → (rdat m c).Leaves w u (after w u)) :
    ((rdat m c).withAfter after).arrAt 7 cfg0.N = dqA (dsOf m c) (m (c, main_arg1))
    ∧ ((rdat m c).withAfter after).arrAt 8 cfg0.N = dkA (dsOf m c) (qsA (m (c, main_arg0)))
    ∧ ((rdat m c).withAfter after).arrAt 9 cfg0.N = dvA (pA (eA (sA (m (c, main_arg0)) (m (c, main_arg1))))) (m (c, main_arg3)) := by
  obtain ⟨μ, H⟩ := reads m c A
  refine ⟨?_, ?_, ?_⟩
  · refine Pipeline.Dat.arrAt_eq_of_covers _ 7 _ (by decide +kernel) fun t hf (y : S1x256x8192.Idx) => ?_
    have key : ∀ (d : Fin 256) (i : Fin 8192), after 7 t (ix3 0 d i)
        = dqA (dsOf m c) (m (c, main_arg1)) (((cfg0.win 7).blk t).view.emb (ix3 0 d i)) := fun d i => by
      rw [emb7]
      exact (dq_block H t ((flush0_7 t).1 hf) (hL 7 t hf) d i).trans
        ((dqA_at A.h0 A.h1 A.h2 A.h3 (hd t) d i).trans (coe_ext (fun d => dquery q k v g (hd t) d i) d)).symm
    obtain ⟨z, d, i, rfl⟩ : ∃ z d i, y = ix3 z d i := ⟨_, _, _, eq_ix3 y⟩
    obtain rfl : z = 0 := Fin.eq_zero z
    exact key d i
  · refine Pipeline.Dat.arrAt_eq_of_covers _ 8 _ (by decide +kernel) fun t hf (y : S1x1408x256.Idx) => ?_
    have key : ∀ (j : Fin 1408) (d : Fin 256), after 8 t (ix3 0 j d)
        = dkA (dsOf m c) (qsA (m (c, main_arg0))) (((cfg0.win 8).blk t).view.emb (ix3 0 j d)) := fun j d => by
      obtain ⟨Y, -, hX⟩ := hL 8 t hf
      rw [after8] at hX
      have ht := (flush0_8 t).1 hf
      rw [emb8, hX ht]
      exact (dk_block H t ht j d).trans
        ((dkA_at A.h0 A.h1 A.h2 A.h3 (hd t) (krow t j) d).trans (coe_ext (dkey q k v g (hd t) (krow t j)) d)).symm
    obtain ⟨z, j, d, rfl⟩ : ∃ z j d, y = ix3 z j d := ⟨_, _, _, eq_ix3 y⟩
    obtain rfl : z = 0 := Fin.eq_zero z
    exact key j d
  · refine Pipeline.Dat.arrAt_eq_of_covers _ 9 _ (by decide +kernel) fun t hf (y : S1x1408x128.Idx) => ?_
    have key : ∀ (j : Fin 1408) (e : Fin 128), after 9 t (ix3 0 j e)
        = dvA (pA (eA (sA (m (c, main_arg0)) (m (c, main_arg1))))) (m (c, main_arg3)) (((cfg0.win 9).blk t).view.emb (ix3 0 j e)) := fun j e => by
      obtain ⟨Y, -, hX⟩ := hL 9 t hf
      rw [after9] at hX
      have ht := (flush0_9 t).1 hf
      rw [emb9, hX ht]
      exact (dv_block H t ht j e).trans (dvA_at A.h0 A.h1 A.h2 A.h3 (hd t) (krow t j) e).symm
    obtain ⟨z, j, e, rfl⟩ : ∃ z j e, y = ix3 z j e := ⟨_, _, _, eq_ix3 y⟩
    obtain rfl : z = 0 := Fin.eq_zero z
    exact key j e

omit A in
/-- The run, its results named: every argument element being a real. -/
theorem run_value (ρ : Dev nD → PrngReg)
    (hA : ∀ c, ∃ q k v g, Args q k v g (m (c, main_arg0)) (m (c, main_arg1)) (m (c, main_arg2)) (m (c, main_arg3))) :
    θ_run defs (onTc (τ := τ) (main (F := Ideal))) ⟨m, fun _ => 0, ρ⟩ fun r => ∀ c : Dev nD,
      r.2.mem ((c.tc : Thread nD τ).loc main_v42_0) = dqA (dsOf m c) (m (c, main_arg1))
      ∧ r.2.mem ((c.tc : Thread nD τ).loc main_v42_1) = dkA (dsOf m c) (qsA (m (c, main_arg0)))
      ∧ r.2.mem ((c.tc : Thread nD τ).loc main_v42_2) = dvA (pA (eA (sA (m (c, main_arg0)) (m (c, main_arg1))))) (m (c, main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨q, k, v, g, A⟩ := hA c
    obtain ⟨after, hL, hM⟩ := Pipeline.RDat.FramePost.exists_exact h.1 c
    obtain ⟨e0, e1, e2⟩ := arrays m c A hL
    exact ⟨(hM 7).trans e0, (hM 8).trans e1, (hM 9).trans e2,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ)

end Cert.KernelIdeal.Attn

end
-- ==== Proof.AttnWord.lean ====
/- The frame of the program over the float words, taken from the run of the idealized program. -/
module

public import proofs.«01_k».proof.Defs
public import proofs.«01_k».proof.Proof.Gen.Kernel
public import proofs.«01_k».proof.Proof.AttnBody
public import Idealize.ShloMosaic.Adequacy
public import Idealize.ShloMosaic.Init
public import Idealize.ShloMosaic.Lib.Tactic.ProgEq

@[expose] public section

noncomputable section

namespace Cert.Kernel.Attn

open Idealize.ShloMosaic Idealize.SL.Sem

/-- Over the float words a named constant is the word it was written as. -/
@[reducible] def wordNamed : Named Bits where
  named _ _ {φ} bits := FloatOps.ofBits φ bits

/-- The frame of the idealized program's text over the float words. -/
def wordFrame : Prop :=
  letI := wordNamed
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The two programs are one text: over the float words the named constants are the kernel's literals. -/
theorem same : quiescent_Kernel = wordFrame := by sl_kernel_rfl

/-- The kernel ends with its arguments unchanged and every counter at zero. -/
theorem frame : quiescent_Kernel := same.mpr fun m ρ _ =>
  letI := wordNamed
  KernelIdeal.Attn.frame (F := Bits) m ρ

end Cert.Kernel.Attn

end
end
-- ==== Proof.FfnFinite.lean ====
module

public import proofs.«01_k».proof.Pre_finite_in
public import proofs.«01_k».proof.Pre_finite_da
public import proofs.«01_k».proof.Proof.AttnFinite

@[expose] public section

/-! What the two preconditions of the feed-forward calls say: every element is a real number. -/

noncomputable section

namespace Cert.Pre_finite_in

open Idealize.ShloMosaic
open Cert.Pre_finite (real_of_olt inf_eq)

instance facts : Facts where
  bcast_S_S8192x2048 := by decide
  bcast_S_S2048x11264 := by decide

variable {x0 : FVec Ideal S8192x2048 .f32} {x1 : FVec Ideal S2048x11264 .f32}

theorem real0 (h : (fn (F := Ideal) x0 x1).1 = fun _ => 1#1) (j) : ∃ r : ℝ, x0 j = (r : EReal) := real_of_olt inf_eq (congrFun h j)
theorem real1 (h : (fn (F := Ideal) x0 x1).2 = fun _ => 1#1) (j) : ∃ r : ℝ, x1 j = (r : EReal) := real_of_olt inf_eq (congrFun h j)

end Cert.Pre_finite_in

namespace Cert.Pre_finite_da

open Idealize.ShloMosaic
open Cert.Pre_finite (real_of_olt inf_eq)

instance facts : Facts where
  bcast_S_S8192x11264 := by decide
  bcast_S_S5632x2048 := by decide
  bcast_S_S8192x2048 := by decide

variable {x0 : FVec Ideal S8192x11264 .f32} {x1 : FVec Ideal S5632x2048 .f32} {x2 : FVec Ideal S8192x2048 .f32}

theorem real0 (h : (fn (F := Ideal) x0 x1 x2).1 = fun _ => 1#1) (j) : ∃ r : ℝ, x0 j = (r : EReal) := real_of_olt inf_eq (congrFun h j)
theorem real1 (h : (fn (F := Ideal) x0 x1 x2).2.1 = fun _ => 1#1) (j) : ∃ r : ℝ, x1 j = (r : EReal) := real_of_olt inf_eq (congrFun h j)
theorem real2 (h : (fn (F := Ideal) x0 x1 x2).2.2 = fun _ => 1#1) (j) : ∃ r : ℝ, x2 j = (r : EReal) := real_of_olt inf_eq (congrFun h j)

end Cert.Pre_finite_da

end
-- ==== Proof.FfnDh.lean ====
module

public import proofs.«01_k».proof.Proof.Gen.DhIdeal.Value
public import proofs.«01_k».proof.Proof.Gen.DhRefIdeal.Run
public import Idealize.ShloMosaic.Lib.Pipeline.ValueKit.Point
public import Idealize.ShloMosaic.Lib.Pipeline.ValueKit.Acc
public import Idealize.ShloMosaic.Lib.Pointwise

@[expose] public section

set_option maxRecDepth 16384

/-! The gradient of the feed-forward network's input: the kernel's blocked products summed over the column tiles are the reference's one product. -/

noncomputable section

namespace Cert.DhIdeal.Ffn

open Cert.DhIdeal Cert.DhIdeal.Gen
open Idealize.ShloMosaic Idealize.ShloMosaic.TcCoe Idealize.SL.Sem Idealize.ShloMosaic.Pointwise
open scoped BigOperators

theorem idx0 : ∀ t : Fin cfg0.N, win0_0.index t = ![0, t.val / 4, t.val % 4] := (by decide +kernel : ∀ t : Fin grid0.N, _)
theorem idx1 : ∀ t : Fin cfg0.N, win0_1.index t = ![1, t.val / 4, t.val % 4] := (by decide +kernel : ∀ t : Fin grid0.N, _)
theorem idx2 : ∀ t : Fin cfg0.N, win0_2.index t = ![t.val % 4, 0, 0] := (by decide +kernel : ∀ t : Fin grid0.N, _)
theorem idx3 : ∀ t : Fin cfg0.N, win0_3.index t = ![t.val % 4 + 4, 0, 0] := (by decide +kernel : ∀ t : Fin grid0.N, _)
theorem idx4 : ∀ t : Fin cfg0.N, win0_4.index t = ![t.val / 4, 0] := (by decide +kernel : ∀ t : Fin grid0.N, _)

/-- The row of the arrays under row `i` of a point's block. -/
def row (t : Fin cfg0.N) (i : Fin 512) : Fin 8192 := ⟨t.val / 4 * 512 + i.val, by have := t.isLt.trans_eq N_0; omega⟩
/-- The column of the whole product under column `k` of a point's first block, -/
def colG (t : Fin cfg0.N) (k : Fin 1408) : Fin 11264 := ⟨t.val % 4 * 1408 + k.val, by omega⟩
/-- and of its second block. -/
def colU (t : Fin cfg0.N) (k : Fin 1408) : Fin 11264 := ⟨5632 + (t.val % 4 * 1408 + k.val), by omega⟩

variable (m : (ℓ : Loc nD τ sig) → Buf (Elt Ideal) ℓ) (c : Dev nD)

/-- The gradient of the products, the two halves one above the other. -/
def halves (x : FVec Ideal S8192x11264 .f32) : FVec Ideal S2x8192x5632 .bf16 :=
  truncf .bf16 (transpose S2x8192x5632 [1, 0, 2] (shapeCast S8192x2x5632 x shapeCasts_S8192x11264_S8192x2x5632) transposes_S8192x2x5632_S2x8192x5632_1_0_2) bitsLt_bf16_f32
/-- The weights in eight groups of columns. -/
def groups (w : FVec Ideal S2048x11264 .f32) : FVec Ideal S8x2048x1408 .bf16 :=
  truncf .bf16 (transpose S8x2048x1408 [1, 0, 2] (shapeCast S2048x8x1408 w shapeCasts_S2048x11264_S2048x8x1408) transposes_S2048x8x1408_S8x2048x1408_1_0_2) bitsLt_bf16_f32

theorem V_halves : V m c main_v2 = halves (m (c, main_arg0)) := by
  show StableHlo.after hostOps0 (fun b => m (c, b)) main_v2 = _
  unfold halves
  after_results_simp <;> rfl
theorem V_groups : V m c main_v5 = groups (m (c, main_arg1)) := by
  show StableHlo.after hostOps0 (fun b => m (c, b)) main_v5 = _
  unfold groups
  after_results_simp <;> rfl

theorem halves_at (x : FVec Ideal S8192x11264 .f32) (s : Fin 2) (i : Fin 8192) (k : Fin 5632) :
    halves x (ix3 s i k) = x (ix2 i ⟨s.val * 5632 + k.val, by omega⟩) := by
  pointwise [halves]
theorem groups_at (w : FVec Ideal S2048x11264 .f32) (s : Fin 8) (d : Fin 2048) (k : Fin 1408) :
    groups w (ix3 s d k) = w (ix2 d ⟨s.val * 1408 + k.val, by omega⟩) := by
  pointwise [groups]

theorem emb0 (t : Fin cfg0.N) (i : Fin 512) (k : Fin 1408) : ((cfg0.win 0).blk t).view.emb (ix3 0 i k) = ix3 0 (row t i) ⟨t.val % 4 * 1408 + k.val, by omega⟩ := by
  blk_ext [idx0, row]
theorem emb1 (t : Fin cfg0.N) (i : Fin 512) (k : Fin 1408) : ((cfg0.win 1).blk t).view.emb (ix3 0 i k) = ix3 1 (row t i) ⟨t.val % 4 * 1408 + k.val, by omega⟩ := by
  blk_ext [idx1, row]
theorem emb2 (t : Fin cfg0.N) (d : Fin 2048) (k : Fin 1408) : ((cfg0.win 2).blk t).view.emb (ix3 0 d k) = ix3 ⟨t.val % 4, by omega⟩ d k := by
  blk_ext [idx2]
theorem emb3 (t : Fin cfg0.N) (d : Fin 2048) (k : Fin 1408) : ((cfg0.win 3).blk t).view.emb (ix3 0 d k) = ix3 ⟨t.val % 4 + 4, by omega⟩ d k := by
  blk_ext [idx3]
theorem emb4 (t : Fin cfg0.N) (i : Fin 512) (d : Fin 2048) : ((cfg0.win 4).blk t).view.emb (ix2 i d) = ix2 (row t i) d := by
  blk_ext [idx4, row]

theorem blk0 (t : Fin cfg0.N) (i : Fin 512) (k : Fin 1408) : iblk m c 0 t (ix3 0 i k) = m (c, main_arg0) (ix2 (row t i) (colG t k)) := by
  unfold iblk
  rw [View.read_apply, emb0]
  refine (congrFun (V_halves m c) _).trans ((halves_at _ _ _ _).trans (congrArg _ (congrArg _ (Fin.ext ?_))))
  simp [colG]
theorem blk1 (t : Fin cfg0.N) (i : Fin 512) (k : Fin 1408) : iblk m c 1 t (ix3 0 i k) = m (c, main_arg0) (ix2 (row t i) (colU t k)) := by
  unfold iblk
  rw [View.read_apply, emb1]
  refine (congrFun (V_halves m c) _).trans ((halves_at _ _ _ _).trans (congrArg _ (congrArg _ (Fin.ext ?_))))
  simp [colU]
theorem blk2 (t : Fin cfg0.N) (d : Fin 2048) (k : Fin 1408) : iblk m c 2 t (ix3 0 d k) = m (c, main_arg1) (ix2 d (colG t k)) := by
  unfold iblk
  rw [View.read_apply, emb2]
  refine (congrFun (V_groups m c) _).trans ((groups_at _ _ _ _).trans (congrArg _ (congrArg _ (Fin.ext ?_))))
  simp [colG]
theorem blk3 (t : Fin cfg0.N) (d : Fin 2048) (k : Fin 1408) : iblk m c 3 t (ix3 0 d k) = m (c, main_arg1) (ix2 d (colU t k)) := by
  unfold iblk
  rw [View.read_apply, emb3]
  refine (congrFun (V_groups m c) _).trans ((groups_at _ _ _ _).trans (congrArg _ (congrArg _ (Fin.ext ?_))))
  simp [colU]; omega

/-- The product of one row of the gradient with one row of the weights at one column. -/
def term (x : FVec Ideal S8192x11264 .f32) (w : FVec Ideal S2048x11264 .f32) (i : Fin 8192) (d : Fin 2048) (k : Fin 11264) : EReal := x (ix2 i k) * w (ix2 d k)

/-- What a point adds to its block. -/
def part (x : FVec Ideal S8192x11264 .f32) (w : FVec Ideal S2048x11264 .f32) (t : Fin cfg0.N) (y : S512x2048.Idx) : EReal :=
  (∑ k : Fin 1408, term x w (row t (y 0)) (y 1) (colG t k)) + ∑ k : Fin 1408, term x w (row t (y 0)) (y 1) (colU t k)

theorem zero_at (y : S512x2048.Idx) : k0_pay1 (F := Ideal) y = (0 : EReal) := by
  obtain ⟨i, d, rfl⟩ : ∃ i d, y = ix2 i d := ⟨_, _, eq_ix2 y⟩
  pointwise [k0_pay1]

theorem step_at (a : Vec Ideal S512x2048 .f32) (t : Fin cfg0.N) (y : S512x2048.Idx) :
    k0_pay3 (k0_pay2 a (iblk m c 0 t) (iblk m c 2 t)) (iblk m c 1 t) (iblk m c 3 t) y = a y + part (m (c, main_arg0)) (m (c, main_arg1)) t y := by
  obtain ⟨i, d, rfl⟩ : ∃ i d, y = ix2 i d := ⟨_, _, eq_ix2 y⟩
  pointwise [k0_pay3, k0_pay2]
  simp only [blk0, blk1, blk2, blk3]
  exact add_assoc _ _ _

/-- The scratch after a point that writes back: the four points' terms. -/
theorem scratch (t : Fin cfg0.N) (ht : t.val % 4 = 4 - 1) (y : S512x2048.Idx) :
    (outsAt0 m c t.val t.isLt).2 y
      = ∑ s : Fin 4, part (m (c, main_arg0)) (m (c, main_arg1)) ⟨4 * (t.val / 4) + s.val, Pipeline.run_point_lt_of_flush t ht s⟩ y := by
  rw [Pipeline.eq_sum_fin_of_reset_step_apply_of_flush (fun n h => (outsAt0 m c n h).2) 4 (fun _ => (0 : EReal)) (part (m (c, main_arg0)) (m (c, main_arg1)))
    (fun t h y => by rw [outsAt0_A m c t h (by omega)]; frame_out; rw [step_at, zero_at])
    (fun t h y => by
      by_cases h3 : t.val % 4 = 3
      · rw [outsAt0_C m c t h h3]; frame_out; rw [step_at]; exact congrArg (· + _) (congrFun (Memref.IsWhole.read_unread _ _) y)
      · rw [outsAt0_B m c t h h3]; frame_out; rw [step_at]; exact congrArg (· + _) (congrFun (Memref.IsWhole.read_unread _ _) y)) t ht y, zero_add]

/-- At a point that writes back the output block is the scratch. -/
theorem out_eq (t : Fin cfg0.N) (ht : t.val % 4 = 3) : (outsAt0 m c t.val t.isLt).1 = (outsAt0 m c t.val t.isLt).2 := by
  rw [outsAt0_C m c t (by omega) ht]
  frame_out

/-- A row of the whole product: the four column tiles of both halves are all the columns. -/
theorem whole (x : FVec Ideal S8192x11264 .f32) (w : FVec Ideal S2048x11264 .f32) (t : Fin cfg0.N) (ht : t.val % 4 = 4 - 1) (i : Fin 512) (d : Fin 2048) :
    ∑ s : Fin 4, part x w ⟨4 * (t.val / 4) + s.val, Pipeline.run_point_lt_of_flush t ht s⟩ (ix2 i d) = ∑ k : Fin 11264, term x w (row t i) d k := by
  unfold part
  rw [Finset.sum_add_distrib, Fin.sum_univ_add (a := 5632) (b := 5632)]
  congr 1
  all_goals
    refine Fin.sum_mul_add_congr fun s k h => ?_
    have hr : row ⟨4 * (t.val / 4) + s.val, Pipeline.run_point_lt_of_flush t ht s⟩ i = row t i := Fin.ext (by simp only [row]; omega)
    show term x w (row ⟨4 * (t.val / 4) + s.val, Pipeline.run_point_lt_of_flush t ht s⟩ i) d _ = _
    rw [hr]
    refine congrArg _ (Fin.ext ?_)
    simp only [colG, colU, Fin.val_castAdd, Fin.val_natAdd]
    omega

/-- The reference's product at an index. -/
theorem ref_at (x : FVec Ideal S8192x11264 .f32) (w : FVec Ideal S2048x11264 .f32) (i : Fin 8192) (d : Fin 2048) :
    Host.dotGeneral (F := Ideal) (φ₁ := .f32) (φ₂ := .f32) Cert.DhRefIdeal.dot_S8192x11264_S2048x11264_S8192x2048_1_1_0_0_n_n none x w (ix2 i d) = ∑ k : Fin 11264, term x w i d k := by
  pointwise
  rfl

/-- The kernel's array is the reference's. -/
theorem value : (dats m 0 c).arrAt 4 cfg0.N
    = (Host.dotGeneral (F := Ideal) (φ₁ := .f32) (φ₂ := .f32) Cert.DhRefIdeal.dot_S8192x11264_S2048x11264_S8192x2048_1_1_0_0_n_n none (m (c, main_arg0)) (m (c, main_arg1)) : FVec Ideal S8192x2048 .f32) := by
  refine Pipeline.Dat.arrAt_eq_of_covers _ 4 _ (by decide +kernel) fun t hf (y : S512x2048.Idx) => ?_
  have ht := (flush0_4 t).1 hf
  obtain ⟨i, d, rfl⟩ : ∃ i d, y = ix2 i d := ⟨_, _, eq_ix2 y⟩
  rw [emb4]
  show (dats m 0 c).after 4 t (ix2 i d) = _
  rw [after0_4, out_eq m c t ht, scratch m c t ht, whole _ _ t ht]
  exact (ref_at _ _ _ _).symm

end Cert.DhIdeal.Ffn

end
-- ==== Proof.FfnAct.lean ====
module

public import proofs.«01_k».proof.Proof.FfnDh
public import proofs.«01_k».proof.Proof.AttnMath
public import proofs.«01_k».proof.Proof.Gen.InRefIdeal.Run

@[expose] public section

set_option maxRecDepth 16384

/-! The feed-forward network's gated activation and its partial derivatives, as arrays and at one element. -/

noncomputable section

namespace Cert.FfnAct

open Cert.InRefIdeal Cert.InRefIdeal.Gen
open Idealize.ShloMosaic Idealize.ShloMosaic.Pointwise
open scoped BigOperators

/-- The two halves of the products, -/
def gate (p : FVec Ideal S8192x11264 .f32) : FVec Ideal S8192x5632 .f32 := extractStridedSlice S8192x5632 ![0, 0] p slices_S8192x11264_S8192x5632_0_0
def up (p : FVec Ideal S8192x11264 .f32) : FVec Ideal S8192x5632 .f32 := extractStridedSlice S8192x5632 ![0, 5632] p slices_S8192x11264_S8192x5632_0_5632
def ones : FVec Ideal S8192x5632 .f32 := broadcastInDim S8192x5632 ![] bcast_S_S8192x5632 (constant S_ .f32 0x3F800000#32)
/-- the logistic function of the first half, -/
def sigm (p : FVec Ideal S8192x11264 .f32) : FVec Ideal S8192x5632 .f32 := Host.divf ones (addf ones (Host.exp (Host.negf (gate p))))
/-- and the activation. -/
def hidden (p : FVec Ideal S8192x11264 .f32) : FVec Ideal S8192x5632 .f32 := mulf (mulf (gate p) (sigm p)) (up p)
/-- The gradients of the two halves from the activation's gradient. -/
def gradGate (e : FVec Ideal S8192x5632 .f32) (p : FVec Ideal S8192x11264 .f32) : FVec Ideal S8192x5632 .f32 :=
  addf (mulf (mulf e (up p)) (sigm p)) (mulf (mulf (gate p) (mulf e (up p))) (mulf (sigm p) (subf ones (sigm p))))
def gradUp (e : FVec Ideal S8192x5632 .f32) (p : FVec Ideal S8192x11264 .f32) : FVec Ideal S8192x5632 .f32 := mulf (mulf (gate p) (sigm p)) e
/-- The two partial derivatives, one above the other. -/
def partials (p : FVec Ideal S8192x11264 .f32) : FVec Ideal S2x8192x5632 .bf16 :=
  truncf .bf16 (concatenate S2x8192x5632 0
    [⟨S1x8192x5632, (broadcastInDim S1x8192x5632 ![1, 2] bcast_S8192x5632_S1x8192x5632_1_2 (gradGate ones p) : FVec Ideal S1x8192x5632 .f32)⟩,
     ⟨S1x8192x5632, (broadcastInDim S1x8192x5632 ![1, 2] bcast_S8192x5632_S1x8192x5632_1_2 (gradUp ones p) : FVec Ideal S1x8192x5632 .f32)⟩]
    concatenates_S1x8192x5632_S1x8192x5632_S2x8192x5632_d0) bitsLt_bf16_f32

/-- The columns of the two halves. -/
def colG (k : Fin 5632) : Fin 11264 := ⟨k.val, by omega⟩
def colU (k : Fin 5632) : Fin 11264 := ⟨5632 + k.val, by omega⟩

/-- The activation's values at one element. -/
def hid (u g : EReal) : EReal := g * Ideal.logistic g * u
def dGate (e u g : EReal) : EReal := e * u * Ideal.logistic g + g * (e * u) * (Ideal.logistic g * (1 - Ideal.logistic g))
def dUp (e g : EReal) : EReal := g * Ideal.logistic g * e

variable (p : FVec Ideal S8192x11264 .f32) (e : FVec Ideal S8192x5632 .f32) (i : Fin 8192) (k : Fin 5632)

theorem gate_at : gate p (ix2 i k) = p (ix2 i (colG k)) := by
  pointwise [gate]
  rfl
theorem up_at : up p (ix2 i k) = p (ix2 i (colU k)) := by
  pointwise [up]
  rfl
theorem ones_at : ones (ix2 i k) = (1 : EReal) := by
  pointwise [ones]
theorem sigm_at : sigm p (ix2 i k) = Ideal.logistic (p (ix2 i (colG k))) := by
  pointwise [sigm]
  simp only [ones_at, gate_at]
  rfl
theorem hidden_at : hidden p (ix2 i k) = hid (p (ix2 i (colU k))) (p (ix2 i (colG k))) := by
  pointwise [hidden]
  simp only [gate_at, up_at, sigm_at]
  rfl
theorem gradGate_at : gradGate e p (ix2 i k) = dGate (e (ix2 i k)) (p (ix2 i (colU k))) (p (ix2 i (colG k))) := by
  pointwise [gradGate]
  simp only [gate_at, up_at, sigm_at, ones_at]
  rfl
theorem gradUp_at : gradUp e p (ix2 i k) = dUp (e (ix2 i k)) (p (ix2 i (colG k))) := by
  pointwise [gradUp]
  simp only [gate_at, sigm_at]
  rfl
theorem partials_gate : partials p (ix3 0 i k) = dGate 1 (p (ix2 i (colU k))) (p (ix2 i (colG k))) := by
  pointwise [partials]
  rw [gradGate_at, ones_at]
theorem partials_up : partials p (ix3 1 i k) = dUp 1 (p (ix2 i (colG k))) := by
  pointwise [partials]
  rw [gradUp_at, ones_at]

/-- A sum of products of real numbers is a real number. -/
theorem sum_real {n : ℕ} (f g : Fin n → EReal) (hf : ∀ k, ∃ r : ℝ, f k = (r : EReal)) (hg : ∀ k, ∃ r : ℝ, g k = (r : EReal)) : ∃ r : ℝ, ∑ k, f k * g k = (r : EReal) := by
  choose a ha using hf
  choose b hb using hg
  exact ⟨∑ k, a k * b k, by simp only [ha, hb, ← EReal.coe_mul, Cert.AttnMath.coe_sum]⟩

/-- At a real number the logistic function is a real number. -/
theorem logistic_real (a : ℝ) : ∃ s : ℝ, Ideal.logistic (a : EReal) = (s : EReal) := ⟨_, Ideal.logistic_coe a⟩

/-- The derivative written as one product, at real numbers. -/
theorem dGate_one (a b : ℝ) : (b : EReal) * (Ideal.logistic a * (1 + a * (1 - Ideal.logistic a))) = dGate 1 b a := by
  obtain ⟨s, hs⟩ := logistic_real a
  rw [dGate, hs]
  norm_cast
  ring_nf
/-- The activation's gradient times the derivative, at real numbers. -/
theorem dGate_mul (e a b : ℝ) : (e : EReal) * dGate 1 b a = dGate e b a := by
  obtain ⟨s, hs⟩ := logistic_real a
  rw [dGate, dGate, hs]
  norm_cast
  ring_nf
theorem dUp_mul (e a : EReal) : e * dUp 1 a = dUp e a := by
  rw [dUp, dUp, mul_one, mul_comm]

end Cert.FfnAct

end
-- ==== Proof.FfnIn.lean ====
module

public import proofs.«01_k».proof.Proof.Gen.InIdeal.Value
public import proofs.«01_k».proof.Proof.FfnAct
public import Idealize.ShloMosaic.Lib.Pipeline.ValueKit.Tiles

@[expose] public section

set_option maxRecDepth 16384

/-! The feed-forward network's first product with its activation and partial derivatives. -/

noncomputable section

namespace Cert.InIdeal.Ffn

open Cert.InIdeal Cert.InIdeal.Gen Cert.FfnAct
open Cert.InRefIdeal (S8192x11264)
open Cert.DhIdeal.Ffn (groups groups_at)
open Idealize.ShloMosaic Idealize.ShloMosaic.TcCoe Idealize.SL.Sem Idealize.ShloMosaic.Pointwise
open scoped BigOperators

theorem idx0 : ∀ t : Fin cfg0.N, win0_0.index t = ![t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![t.val / 16 + 4, 0, 0] := (by decide +kernel : ∀ t : Fin grid0.N, _)
theorem idx3 : ∀ t : Fin cfg0.N, win0_3.index t = ![t.val % 16, t.val / 16] := (by decide +kernel : ∀ t : Fin grid0.N, _)
theorem idx4 : ∀ t : Fin cfg0.N, win0_4.index t = ![0, t.val % 16, t.val / 16] := (by decide +kernel : ∀ t : Fin grid0.N, _)

/-- The row and the hidden column of the arrays under a point's block. -/
def row (t : Fin cfg0.N) (i : Fin 512) : Fin 8192 := ⟨t.val % 16 * 512 + i.val, by omega⟩
def col (t : Fin cfg0.N) (k : Fin 1408) : Fin 5632 := ⟨t.val / 16 * 1408 + k.val, by have := t.isLt.trans_eq N_0; omega⟩

/-- The product of one row with one column at one place. -/
def term (h : FVec Ideal S8192x2048 .f32) (w : FVec Ideal S2048x11264 .f32) (i : Fin 8192) (j : Fin 11264) (d : Fin 2048) : EReal := h (ix2 i d) * w (ix2 d j)
/-- The reference's product. -/
def product (h : FVec Ideal S8192x2048 .f32) (w : FVec Ideal S2048x11264 .f32) : FVec Ideal S8192x11264 .f32 :=
  Host.dotGeneral (F := Ideal) (φ₁ := .f32) (φ₂ := .f32) Cert.InRefIdeal.dot_S8192x2048_S2048x11264_S8192x11264_1_0_0_1_n_n none h w
theorem product_at (h : FVec Ideal S8192x2048 .f32) (w : FVec Ideal S2048x11264 .f32) (i : Fin 8192) (j : Fin 11264) :
    product h w (ix2 i j) = ∑ d : Fin 2048, term h w i j d := by
  pointwise [product]
  rfl
theorem product_real (h : FVec Ideal S8192x2048 .f32) (w : FVec Ideal S2048x11264 .f32) (hh : ∀ j, ∃ r : ℝ, h j = (r : EReal)) (hw : ∀ j, ∃ r : ℝ, w j = (r : EReal))
    (i : Fin 8192) (j : Fin 11264) : ∃ r : ℝ, product h w (ix2 i j) = (r : EReal) := by
  rw [product_at]
  exact sum_real _ _ (fun d => hh _) (fun d => hw _)

variable (m : (ℓ : Loc nD τ sig) → Buf (Elt Ideal) ℓ) (c : Dev nD)

theorem V_rows : V m c main_v0 = (truncf .bf16 (m (c, main_arg0)) bitsLt_bf16_f32 : FVec Ideal S8192x2048 .bf16) := by
  show StableHlo.after hostOps0 (fun b => m (c, b)) main_v0 = _
  after_results_simp <;> rfl
theorem V_groups : V m c main_v3 = groups (m (c, main_arg1)) := by
  show StableHlo.after hostOps0 (fun b => m (c, b)) main_v3 = _
  unfold groups
  after_results_simp <;> rfl

theorem emb0 (t : Fin cfg0.N) (i : Fin 512) (d : Fin 2048) : ((cfg0.win 0).blk t).view.emb (ix2 i d) = ix2 (row t i) d := by
  blk_ext [idx0, row]
theorem emb1 (t : Fin cfg0.N) (d : Fin 2048) (k : Fin 1408) :
    ((cfg0.win 1).blk t).view.emb (ix3 0 d k) = ix3 ⟨t.val / 16, by have := t.isLt.trans_eq N_0; omega⟩ d k := by
  blk_ext [idx1]
theorem emb2 (t : Fin cfg0.N) (d : Fin 2048) (k : Fin 1408) :
    ((cfg0.win 2).blk t).view.emb (ix3 0 d k) = ix3 ⟨t.val / 16 + 4, by have := t.isLt.trans_eq N_0; omega⟩ d k := by
  blk_ext [idx2]
theorem emb3 (t : Fin cfg0.N) (i : Fin 512) (k : Fin 1408) : ((cfg0.win 3).blk t).view.emb (ix2 i k) = ix2 (row t i) (col t k) := by
  blk_ext [idx3, row, col]
theorem emb4 (t : Fin cfg0.N) (s : Fin 2) (i : Fin 512) (k : Fin 1408) : ((cfg0.win 4).blk t).view.emb (ix3 s i k) = ix3 s (row t i) (col t k) := by
  blk_ext [idx4, row, col]

theorem blk0 (t : Fin cfg0.N) (i : Fin 512) (d : Fin 2048) : iblk m c 0 t (ix2 i d) = m (c, main_arg0) (ix2 (row t i) d) := by
  unfold iblk
  rw [View.read_apply, emb0]
  exact congrFun (V_rows m c) _
theorem blk1 (t : Fin cfg0.N) (d : Fin 2048) (k : Fin 1408) : iblk m c 1 t (ix3 0 d k) = m (c, main_arg1) (ix2 d (colG (col t k))) := by
  unfold iblk
  rw [View.read_apply, emb1]
  exact (congrFun (V_groups m c) _).trans (groups_at _ _ _ _)
theorem blk2 (t : Fin cfg0.N) (d : Fin 2048) (k : Fin 1408) : iblk m c 2 t (ix3 0 d k) = m (c, main_arg1) (ix2 d (colU (col t k))) := by
  unfold iblk
  rw [View.read_apply, emb2]
  refine (congrFun (V_groups m c) _).trans ((groups_at _ _ _ _).trans (congrArg _ (congrArg _ (Fin.ext ?_))))
  simp only [colU, col]
  omega

/-- The products a point leaves in its two scratch arrays. -/
theorem gate_acc (t : Fin cfg0.N) (i : Fin 512) (k : Fin 1408) :
    k0_pay3 (k0_pay1 (F := Ideal)) (iblk m c 0 t) (iblk m c 1 t) (ix2 i k) = product (m (c, main_arg0)) (m (c, main_arg1)) (ix2 (row t i) (colG (col t k))) := by
  rw [product_at]
  pointwise [k0_pay3, k0_pay1]
  simp only [blk0, blk1]
  rfl
theorem up_acc (t : Fin cfg0.N) (i : Fin 512) (k : Fin 1408) :
    k0_pay4 (k0_pay2 (F := Ideal)) (iblk m c 0 t) (iblk m c 2 t) (ix2 i k) = product (m (c, main_arg0)) (m (c, main_arg1)) (ix2 (row t i) (colU (col t k))) := by
  rw [product_at]
  pointwise [k0_pay4, k0_pay2]
  simp only [blk0, blk2]
  rfl

theorem act_at (g u : Vec Ideal S512x1408 .f32) (i : Fin 512) (k : Fin 1408) : k0_pay7 g u (ix2 i k) = hid (u (ix2 i k)) (g (ix2 i k)) := by
  pointwise [k0_pay7, k0_pay6, k0_pay5]
  rfl
theorem dgate_at (g u : Vec Ideal S512x1408 .f32) (i : Fin 512) (k : Fin 1408) (hg : ∃ r : ℝ, g (ix2 i k) = (r : EReal)) (hu : ∃ r : ℝ, u (ix2 i k) = (r : EReal)) :
    k0_pay8 g u (ix3 0 i k) = dGate 1 (u (ix2 i k)) (g (ix2 i k)) := by
  obtain ⟨a, ha⟩ := hg
  obtain ⟨b, hb⟩ := hu
  pointwise [k0_pay8, k0_pay5]
  rw [ha, hb]
  exact dGate_one a b
theorem dup_at (g : Vec Ideal S512x1408 .f32) (i : Fin 512) (k : Fin 1408) : k0_pay9 g (ix3 0 i k) = dUp 1 (g (ix2 i k)) := by
  pointwise [k0_pay9, k0_pay6, k0_pay5]
  exact (mul_one _).symm

/-- A point's two output blocks. -/
theorem out3_at (t : Fin cfg0.N) (i : Fin 512) (k : Fin 1408) :
    (outsAt0 m c t).1 (ix2 i k) = hidden (product (m (c, main_arg0)) (m (c, main_arg1))) (ix2 (row t i) (col t k)) := by
  rw [hidden_at, ← gate_acc, ← up_acc, ← act_at]
  simp only [outsAt0]
  frame_out
theorem gate_piece (hh : ∀ j, ∃ r : ℝ, m (c, main_arg0) j = (r : EReal)) (hw : ∀ j, ∃ r : ℝ, m (c, main_arg1) j = (r : EReal))
    (t : Fin cfg0.N) (i : Fin 512) (k : Fin 1408) :
    k0_pay8 (k0_pay3 (k0_pay1 (F := Ideal)) (iblk m c 0 t) (iblk m c 1 t)) (k0_pay4 (k0_pay2 (F := Ideal)) (iblk m c 0 t) (iblk m c 2 t)) (ix3 0 i k)
      = partials (product (m (c, main_arg0)) (m (c, main_arg1))) (ix3 0 (row t i) (col t k)) := by
  rw [dgate_at _ _ _ _ (by rw [gate_acc]; exact product_real _ _ hh hw _ _) (by rw [up_acc]; exact product_real _ _ hh hw _ _), gate_acc, up_acc, partials_gate]
theorem up_piece (t : Fin cfg0.N) (i : Fin 512) (k : Fin 1408) :
    k0_pay9 (k0_pay3 (k0_pay1 (F := Ideal)) (iblk m c 0 t) (iblk m c 1 t)) (ix3 0 i k)
      = partials (product (m (c, main_arg0)) (m (c, main_arg1))) (ix3 1 (row t i) (col t k)) := by
  rw [dup_at, gate_acc, partials_up]
theorem out4_at (hh : ∀ j, ∃ r : ℝ, m (c, main_arg0) j = (r : EReal)) (hw : ∀ j, ∃ r : ℝ, m (c, main_arg1) j = (r : EReal))
    (t : Fin cfg0.N) (s : Fin 2) (i : Fin 512) (k : Fin 1408) :
    (outsAt0 m c t).2 (ix3 s i k) = partials (product (m (c, main_arg0)) (m (c, main_arg1))) (ix3 s (row t i) (col t k)) := by
  simp only [outsAt0]
  frame_out
  canon_tiles x h
  all_goals
    obtain ⟨z, i', k', rfl⟩ : ∃ z i' k', x = ix3 z i' k' := ⟨_, _, _, eq_ix3 x⟩
    obtain rfl : z = 0 := Subsingleton.elim _ _
    obtain rfl : i = i' := Fin.ext h1
    obtain rfl : k = k' := Fin.ext h2
  · obtain rfl : s = 1 := Fin.ext h0
    exact up_piece m c t i k
  · obtain rfl : s = 0 := Fin.ext h0
    exact gate_piece m c hh hw t i k

/-- The kernel's two arrays are the reference's. -/
theorem value_act : (dats m 0 c).arrAt 3 cfg0.N = (truncf .bf16 (hidden (product (m (c, main_arg0)) (m (c, main_arg1)))) bitsLt_bf16_f32 : FVec Ideal S8192x5632 .bf16) := by
  refine Pipeline.Dat.arrAt_eq_of_covers _ 3 _ (by decide +kernel) fun t hf (y : S512x1408.Idx) => ?_
  obtain ⟨i, k, rfl⟩ : ∃ i k, y = ix2 i k := ⟨_, _, eq_ix2 y⟩
  rw [emb3]
  show (dats m 0 c).after 3 t (ix2 i k) = _
  rw [after0_3, out3_at]
  rfl
theorem value_partials (hh : ∀ j, ∃ r : ℝ, m (c, main_arg0) j = (r : EReal)) (hw : ∀ j, ∃ r : ℝ, m (c, main_arg1) j = (r : EReal)) :
    (dats m 0 c).arrAt 4 cfg0.N = partials (product (m (c, main_arg0)) (m (c, main_arg1))) := by
  refine Pipeline.Dat.arrAt_eq_of_covers _ 4 _ (by decide +kernel) fun t hf (y : S2x512x1408.Idx) => ?_
  obtain ⟨s, i, k, rfl⟩ : ∃ s i k, y = ix3 s i k := ⟨_, _, _, eq_ix3 y⟩
  rw [emb4]
  show (dats m 0 c).after 4 t (ix3 s i k) = _
  rw [after0_4, out4_at m c hh hw]

end Cert.InIdeal.Ffn

end
-- ==== Proof.FfnOut.lean ====
module

public import proofs.«01_k».proof.Proof.Gen.OutIdeal.Value
public import proofs.«01_k».proof.Proof.Gen.OutRefIdeal.Run
public import Idealize.ShloMosaic.Lib.Pipeline.ValueKit.Point
public import Idealize.ShloMosaic.Lib.Pipeline.ValueKit.Acc
public import Idealize.ShloMosaic.Lib.Pointwise

@[expose] public section

set_option maxRecDepth 16384

/-! The feed-forward network's second product with the residual: the kernel's blocked products summed over the two halves of the hidden columns are the reference's one product. -/

noncomputable section

namespace Cert.OutIdeal.Ffn

open Cert.OutIdeal Cert.OutIdeal.Gen
open Idealize.ShloMosaic Idealize.ShloMosaic.TcCoe Idealize.SL.Sem Idealize.ShloMosaic.Pointwise
open scoped BigOperators

theorem idx0 : ∀ t : Fin cfg0.N, win0_0.index t = ![t.val / 4, t.val % 2] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![t.val / 4, t.val / 2 % 2] := (by decide +kernel : ∀ t : Fin grid0.N, _)
theorem idx3 : ∀ t : Fin cfg0.N, win0_3.index t = ![0, t.val / 2 % 2] := (by decide +kernel : ∀ t : Fin grid0.N, _)
theorem idx4 : ∀ t : Fin cfg0.N, win0_4.index t = ![t.val / 4, t.val / 2 % 2] := (by decide +kernel : ∀ t : Fin grid0.N, _)
theorem idx5 : ∀ t : Fin cfg0.N, win0_5.index t = ![t.val / 4, t.val / 2 % 2] := (by decide +kernel : ∀ t : Fin grid0.N, _)

/-- The row of the arrays under row `i` of a point's block, -/
def row (t : Fin cfg0.N) (i : Fin 1024) : Fin 8192 := ⟨t.val / 4 * 1024 + i.val, by have := t.isLt.trans_eq N_0; omega⟩
/-- the column of the result under column `d`, -/
def col (t : Fin cfg0.N) (d : Fin 1024) : Fin 2048 := ⟨t.val / 2 % 2 * 1024 + d.val, by omega⟩
/-- and the hidden column under column `k`. -/
def hid (t : Fin cfg0.N) (k : Fin 2816) : Fin 5632 := ⟨t.val % 2 * 2816 + k.val, by omega⟩

/-- One row's product at one hidden column. -/
def term (a : FVec Ideal S8192x5632 .f32) (w : FVec Ideal S5632x2048 .f32) (i : Fin 8192) (d : Fin 2048) (k : Fin 5632) : EReal := a (ix2 i k) * w (ix2 k d)
/-- What a point adds to its block. -/
def part (a : FVec Ideal S8192x5632 .f32) (w : FVec Ideal S5632x2048 .f32) (t : Fin cfg0.N) (y : S1024x1024.Idx) : EReal :=
  ∑ k : Fin 2816, term a w (row t (y 0)) (col t (y 1)) (hid t k)

/-- The two halves are all the hidden columns. -/
theorem whole (a : FVec Ideal S8192x5632 .f32) (w : FVec Ideal S5632x2048 .f32) (t : Fin cfg0.N) (ht : t.val % 2 = 2 - 1) (i d : Fin 1024) :
    ∑ s : Fin 2, part a w ⟨2 * (t.val / 2) + s.val, Pipeline.run_point_lt_of_flush t ht s⟩ (ix2 i d) = ∑ k : Fin 5632, term a w (row t i) (col t d) k := by
  refine Fin.sum_mul_add_congr fun s k h => ?_
  have hr : row ⟨2 * (t.val / 2) + s.val, Pipeline.run_point_lt_of_flush t ht s⟩ i = row t i := Fin.ext (by simp only [row]; omega)
  have hc : col ⟨2 * (t.val / 2) + s.val, Pipeline.run_point_lt_of_flush t ht s⟩ d = col t d := Fin.ext (by simp only [col]; omega)
  show term a w (row ⟨2 * (t.val / 2) + s.val, Pipeline.run_point_lt_of_flush t ht s⟩ i) (col ⟨2 * (t.val / 2) + s.val, Pipeline.run_point_lt_of_flush t ht s⟩ d) _ = _
  rw [hr, hc]
  refine congrArg _ (Fin.ext ?_)
  simp only [hid]
  omega

/-- The reference's product. -/
def product (a : FVec Ideal S8192x5632 .f32) (w : FVec Ideal S5632x2048 .f32) : FVec Ideal S8192x2048 .f32 :=
  Host.dotGeneral (F := Ideal) (φ₁ := .f32) (φ₂ := .f32) Cert.OutRefIdeal.dot_S8192x5632_S5632x2048_S8192x2048_1_0_0_1_n_n none a w
theorem product_at (a : FVec Ideal S8192x5632 .f32) (w : FVec Ideal S5632x2048 .f32) (i : Fin 8192) (d : Fin 2048) :
    product a w (ix2 i d) = ∑ k : Fin 5632, term a w i d k := by
  pointwise [product]
  rfl
/-- The residual and half the gated product, at an index. -/
def mix (x : FVec Ideal S8192x2048 .f32) (g : FVec Ideal S1x2048 .f32) (i : Fin 8192) (d : Fin 2048) (f : EReal) : EReal :=
  x (ix2 i d) + Scalar.ofBits (F := Ideal) .f32 0x3F000000#32 * g (ix2 0 d) * f
/-- The reference's first result: the residual and half the gated product. -/
def gated (f x : FVec Ideal S8192x2048 .f32) (g : FVec Ideal S1x2048 .f32) : FVec Ideal S8192x2048 .f32 :=
  addf x (mulf (broadcastInDim S8192x2048 ![0, 1] Cert.OutRefIdeal.Gen.bcast_S1x2048_S8192x2048_0_1
    (mulf (broadcastInDim S1x2048 ![] Cert.OutRefIdeal.Gen.bcast_S_S1x2048 (constant Cert.OutRefIdeal.S_ .f32 0x3F000000#32)) g)) f)
theorem gated_at (f x : FVec Ideal S8192x2048 .f32) (g : FVec Ideal S1x2048 .f32) (i : Fin 8192) (d : Fin 2048) :
    gated f x g (ix2 i d) = mix x g i d (f (ix2 i d)) := by
  pointwise [gated]
  rfl

variable (m : (ℓ : Loc nD τ sig) → Buf (Elt Ideal) ℓ) (c : Dev nD)

theorem V_hidden : V m c main_v0 = (truncf .bf16 (m (c, main_arg0)) bitsLt_bf16_f32 : FVec Ideal S8192x5632 .bf16) := by
  show StableHlo.after hostOps0 (fun b => m (c, b)) main_v0 = _
  after_results_simp <;> rfl
theorem V_weights : V m c main_v1 = (truncf .bf16 (m (c, main_arg1)) bitsLt_bf16_f32 : FVec Ideal S5632x2048 .bf16) := by
  show StableHlo.after hostOps0 (fun b => m (c, b)) main_v1 = _
  after_results_simp <;> rfl
theorem V_res : V m c main_arg2 = m (c, main_arg2) := by
  show StableHlo.after hostOps0 (fun b => m (c, b)) main_arg2 = _
  after_results_simp <;> rfl
theorem V_gate : V m c main_arg3 = m (c, main_arg3) := by
  show StableHlo.after hostOps0 (fun b => m (c, b)) main_arg3 = _
  after_results_simp <;> rfl

theorem emb0 (t : Fin cfg0.N) (i : Fin 1024) (k : Fin 2816) : ((cfg0.win 0).blk t).view.emb (ix2 i k) = ix2 (row t i) (hid t k) := by
  blk_ext [idx0, row, hid]
theorem emb1 (t : Fin cfg0.N) (k : Fin 2816) (d : Fin 1024) : ((cfg0.win 1).blk t).view.emb (ix2 k d) = ix2 (hid t k) (col t d) := by
  blk_ext [idx1, hid, col]
theorem emb2 (t : Fin cfg0.N) (i d : Fin 1024) : ((cfg0.win 2).blk t).view.emb (ix2 i d) = ix2 (row t i) (col t d) := by
  blk_ext [idx2, row, col]
theorem emb3 (t : Fin cfg0.N) (d : Fin 1024) : ((cfg0.win 3).blk t).view.emb (ix2 0 d) = ix2 0 (col t d) := by
  blk_ext [idx3, col]
theorem emb4 (t : Fin cfg0.N) (i d : Fin 1024) : ((cfg0.win 4).blk t).view.emb (ix2 i d) = ix2 (row t i) (col t d) := by
  blk_ext [idx4, row, col]
theorem emb5 (t : Fin cfg0.N) (i d : Fin 1024) : ((cfg0.win 5).blk t).view.emb (ix2 i d) = ix2 (row t i) (col t d) := by
  blk_ext [idx5, row, col]

theorem blk0 (t : Fin cfg0.N) (i : Fin 1024) (k : Fin 2816) : iblk m c 0 t (ix2 i k) = m (c, main_arg0) (ix2 (row t i) (hid t k)) := by
  unfold iblk
  rw [View.read_apply, emb0]
  exact congrFun (V_hidden m c) _
theorem blk1 (t : Fin cfg0.N) (k : Fin 2816) (d : Fin 1024) : iblk m c 1 t (ix2 k d) = m (c, main_arg1) (ix2 (hid t k) (col t d)) := by
  unfold iblk
  rw [View.read_apply, emb1]
  exact congrFun (V_weights m c) _
theorem blk2 (t : Fin cfg0.N) (i d : Fin 1024) : iblk m c 2 t (ix2 i d) = m (c, main_arg2) (ix2 (row t i) (col t d)) := by
  unfold iblk
  rw [View.read_apply, emb2]
  exact congrFun (V_res m c) _
theorem blk3 (t : Fin cfg0.N) (d : Fin 1024) : iblk m c 3 t (ix2 0 d) = m (c, main_arg3) (ix2 0 (col t d)) := by
  unfold iblk
  rw [View.read_apply, emb3]
  exact congrFun (V_gate m c) _

theorem zero_at (y : S1024x1024.Idx) : k0_pay1 (F := Ideal) y = (0 : EReal) := by
  obtain ⟨i, d, rfl⟩ : ∃ i d, y = ix2 i d := ⟨_, _, eq_ix2 y⟩
  pointwise [k0_pay1]

theorem step_at (a : Vec Ideal S1024x1024 .f32) (t : Fin cfg0.N) (y : S1024x1024.Idx) :
    k0_pay2 a (iblk m c 0 t) (iblk m c 1 t) y = a y + part (m (c, main_arg0)) (m (c, main_arg1)) t y := by
  obtain ⟨i, d, rfl⟩ : ∃ i d, y = ix2 i d := ⟨_, _, eq_ix2 y⟩
  pointwise [k0_pay2]
  simp only [blk0, blk1]
  rfl

/-- The scratch after a point that writes back is the reference's product there. -/
theorem scratch (t : Fin cfg0.N) (ht : t.val % 2 = 2 - 1) (i d : Fin 1024) :
    (outsAt0 m c t.val t.isLt).2.2 (ix2 i d) = product (m (c, main_arg0)) (m (c, main_arg1)) (ix2 (row t i) (col t d)) := by
  rw [product_at, ← whole _ _ t ht, Pipeline.eq_sum_fin_of_reset_step_apply_of_flush (fun n h => (outsAt0 m c n h).2.2) 2 (fun _ => (0 : EReal))
    (part (m (c, main_arg0)) (m (c, main_arg1)))
    (fun t h y => by rw [outsAt0_A m c t h (by omega)]; frame_out; rw [step_at, zero_at])
    (fun t h y => by rw [outsAt0_B m c t h (by omega)]; frame_out; rw [step_at]; exact congrArg (· + _) (congrFun (Memref.IsWhole.read_unread _ _) y)) t ht (ix2 i d), zero_add]

/-- At a point that writes back the two output blocks are the epilogue of the scratch. -/
theorem res_at (t : Fin cfg0.N) (ht : t.val % 2 = 1) (i d : Fin 1024) :
    (outsAt0 m c t.val t.isLt).1 (ix2 i d) = k0_pay3 (outsAt0 m c t.val t.isLt).2.2 (iblk m c 2 t) (iblk m c 3 t) (ix2 i d) := by
  rw [outsAt0_B m c t (by omega) ht]
  frame_out
theorem prod_at (t : Fin cfg0.N) (ht : t.val % 2 = 1) (i d : Fin 1024) :
    (outsAt0 m c t.val t.isLt).2.1 (ix2 i d) = (outsAt0 m c t.val t.isLt).2.2 (ix2 i d) := by
  rw [outsAt0_B m c t (by omega) ht]
  frame_out
  pointwise [k0_pay4]
theorem gate_at (f : Vec Ideal S1024x1024 .f32) (t : Fin cfg0.N) (i d : Fin 1024) :
    k0_pay3 f (iblk m c 2 t) (iblk m c 3 t) (ix2 i d)
      = mix (m (c, main_arg2)) (m (c, main_arg3)) (row t i) (col t d) (f (ix2 i d)) := by
  pointwise [k0_pay3]
  simp only [blk2, blk3]
  rfl

/-- The kernel's two arrays are the reference's. -/
theorem value_res : (dats m 0 c).arrAt 4 cfg0.N = gated (product (m (c, main_arg0)) (m (c, main_arg1))) (m (c, main_arg2)) (m (c, main_arg3)) := by
  refine Pipeline.Dat.arrAt_eq_of_covers _ 4 _ (by decide +kernel) fun t hf (y : S1024x1024.Idx) => ?_
  have ht := (flush0_4 t).1 hf
  obtain ⟨i, d, rfl⟩ : ∃ i d, y = ix2 i d := ⟨_, _, eq_ix2 y⟩
  rw [emb4]
  show (dats m 0 c).after 4 t (ix2 i d) = _
  rw [after0_4, res_at m c t ht, gate_at, scratch m c t ht, gated_at]
theorem value_prod : (dats m 0 c).arrAt 5 cfg0.N = (truncf .bf16 (product (m (c, main_arg0)) (m (c, main_arg1))) bitsLt_bf16_f32 : FVec Ideal S8192x2048 .bf16) := by
  refine Pipeline.Dat.arrAt_eq_of_covers _ 5 _ (by decide +kernel) fun t hf (y : S1024x1024.Idx) => ?_
  have ht := (flush0_5 t).1 hf
  obtain ⟨i, d, rfl⟩ : ∃ i d, y = ix2 i d := ⟨_, _, eq_ix2 y⟩
  rw [emb5]
  show (dats m 0 c).after 5 t (ix2 i d) = _
  rw [after0_5, prod_at m c t ht, scratch m c t ht]
  rfl

end Cert.OutIdeal.Ffn

end
-- ==== Proof.FfnDa.lean ====
module

public import proofs.«01_k».proof.Proof.Gen.DaIdeal.Value
public import proofs.«01_k».proof.Proof.Gen.DaRefIdeal.Run
public import proofs.«01_k».proof.Proof.FfnAct
public import Idealize.ShloMosaic.Lib.Pipeline.ValueKit.Tiles

@[expose] public section

set_option maxRecDepth 16384

/-! The gradient of the feed-forward network's first products: the hidden gradient times the two partial derivatives. -/

noncomputable section

namespace Cert.DaIdeal.Ffn

open Cert.DaIdeal Cert.DaIdeal.Gen Cert.FfnAct
open Cert.DhIdeal.Ffn (halves halves_at)
open Idealize.ShloMosaic Idealize.ShloMosaic.StableHlo Idealize.ShloMosaic.TcCoe Idealize.SL.Sem Idealize.ShloMosaic.Pointwise
open scoped BigOperators

theorem idx0 : ∀ t : Fin cfg0.N, win0_0.index t = ![t.val % 16, 0] := (by decide +kernel : ∀ t : Fin grid0.N, _)
theorem idx1 : ∀ t : Fin cfg0.N, win0_1.index t = ![t.val / 16, 0] := (by decide +kernel : ∀ t : Fin grid0.N, _)
theorem idx2 : ∀ t : Fin cfg0.N, win0_2.index t = ![0, t.val % 16, t.val / 16] := (by decide +kernel : ∀ t : Fin grid0.N, _)
theorem idx3 : ∀ t : Fin cfg0.N, win0_3.index t = ![0, t.val % 16, t.val / 16] := (by decide +kernel : ∀ t : Fin grid0.N, _)

/-- The row and the hidden column of the arrays under a point's block. -/
def row (t : Fin cfg0.N) (i : Fin 512) : Fin 8192 := ⟨t.val % 16 * 512 + i.val, by omega⟩
def col (t : Fin cfg0.N) (k : Fin 1408) : Fin 5632 := ⟨t.val / 16 * 1408 + k.val, by have := t.isLt.trans_eq N_0; omega⟩

/-- The product of one row of the gradient with one row of the weights at one place. -/
def term (e : FVec Ideal S8192x2048 .f32) (w : FVec Ideal S5632x2048 .f32) (i : Fin 8192) (k : Fin 5632) (d : Fin 2048) : EReal := e (ix2 i d) * w (ix2 k d)
/-- The reference's product, the gradient of the activation. -/
def product (e : FVec Ideal S8192x2048 .f32) (w : FVec Ideal S5632x2048 .f32) : FVec Ideal S8192x5632 .f32 :=
  Host.dotGeneral (F := Ideal) (φ₁ := .f32) (φ₂ := .f32) Cert.DaRefIdeal.dot_S8192x2048_S5632x2048_S8192x5632_1_1_0_0_n_n none e w
theorem product_at (e : FVec Ideal S8192x2048 .f32) (w : FVec Ideal S5632x2048 .f32) (i : Fin 8192) (k : Fin 5632) :
    product e w (ix2 i k) = ∑ d : Fin 2048, term e w i k d := by
  pointwise [product]
  rfl
theorem product_real (e : FVec Ideal S8192x2048 .f32) (w : FVec Ideal S5632x2048 .f32) (he : ∀ j, ∃ r : ℝ, e j = (r : EReal)) (hw : ∀ j, ∃ r : ℝ, w j = (r : EReal))
    (i : Fin 8192) (k : Fin 5632) : ∃ r : ℝ, product e w (ix2 i k) = (r : EReal) := by
  rw [product_at]
  exact sum_real _ _ (fun d => he _) (fun d => hw _)

/-- The reference's result: the two gradients side by side, then in halves. -/
def sides (e : FVec Ideal S8192x5632 .f32) (p : FVec Ideal S8192x11264 .f32) : FVec Ideal S8192x11264 .f32 :=
  concatenate S8192x11264 1 [⟨S8192x5632, gradGate e p⟩, ⟨S8192x5632, gradUp e p⟩] Cert.DaRefIdeal.Gen.concatenates_S8192x5632_S8192x5632_S8192x11264_d1
theorem sides_gate (e : FVec Ideal S8192x5632 .f32) (p : FVec Ideal S8192x11264 .f32) (i : Fin 8192) (k : Fin 5632) :
    halves (sides e p) (ix3 0 i k) = dGate (e (ix2 i k)) (p (ix2 i (FfnAct.colU k))) (p (ix2 i (FfnAct.colG k))) := by
  rw [halves_at, ← gradGate_at]
  pointwise [sides]
theorem sides_up (e : FVec Ideal S8192x5632 .f32) (p : FVec Ideal S8192x11264 .f32) (i : Fin 8192) (k : Fin 5632) :
    halves (sides e p) (ix3 1 i k) = dUp (e (ix2 i k)) (p (ix2 i (FfnAct.colG k))) := by
  rw [halves_at, ← gradUp_at]
  pointwise [sides]

variable (m : (ℓ : Loc nD τ sig) → Buf (Elt Ideal) ℓ) (c : Dev nD)

theorem V_grad : V m c main_v0 = (truncf .bf16 (m (c, main_arg2)) bitsLt_bf16_f32 : FVec Ideal S8192x2048 .bf16) := by
  simp only [V, hostOps0, hostOps0_1, hostOps0_2, hostOps0_3, hostOps0_4, List.flatten_cons, List.flatten_nil, List.append_nil, List.cons_append, List.nil_append,
    TRef.binary, TRef.unary, TRef.nullary, TRef.toBuf, TRef.ofBuf, cast_eq]
  after_results_simp <;> rfl
theorem V_weights : V m c main_v1 = (truncf .bf16 (m (c, main_arg1)) bitsLt_bf16_f32 : FVec Ideal S5632x2048 .bf16) := by
  simp only [V, hostOps0, hostOps0_1, hostOps0_2, hostOps0_3, hostOps0_4, List.flatten_cons, List.flatten_nil, List.append_nil, List.cons_append, List.nil_append,
    TRef.binary, TRef.unary, TRef.nullary, TRef.toBuf, TRef.ofBuf, cast_eq]
  after_results_simp <;> rfl
theorem V_partials : V m c main_v13 = partials (m (c, main_arg0)) := by
  simp only [V, hostOps0, hostOps0_1, hostOps0_2, hostOps0_3, hostOps0_4, List.flatten_cons, List.flatten_nil, List.append_nil, List.cons_append, List.nil_append,
    TRef.binary, TRef.unary, TRef.nullary, TRef.toBuf, TRef.ofBuf, cast_eq]
  after_results_simp <;> rfl

theorem emb0 (t : Fin cfg0.N) (i : Fin 512) (d : Fin 2048) : ((cfg0.win 0).blk t).view.emb (ix2 i d) = ix2 (row t i) d := by
  blk_ext [idx0, row]
theorem emb1 (t : Fin cfg0.N) (k : Fin 1408) (d : Fin 2048) : ((cfg0.win 1).blk t).view.emb (ix2 k d) = ix2 (col t k) d := by
  blk_ext [idx1, col]
theorem emb2 (t : Fin cfg0.N) (s : Fin 2) (i : Fin 512) (k : Fin 1408) : ((cfg0.win 2).blk t).view.emb (ix3 s i k) = ix3 s (row t i) (col t k) := by
  blk_ext [idx2, row, col]
theorem emb3 (t : Fin cfg0.N) (s : Fin 2) (i : Fin 512) (k : Fin 1408) : ((cfg0.win 3).blk t).view.emb (ix3 s i k) = ix3 s (row t i) (col t k) := by
  blk_ext [idx3, row, col]

theorem blk0 (t : Fin cfg0.N) (i : Fin 512) (d : Fin 2048) : iblk m c 0 t (ix2 i d) = m (c, main_arg2) (ix2 (row t i) d) := by
  unfold iblk
  rw [View.read_apply, emb0]
  exact congrFun (V_grad m c) _
theorem blk1 (t : Fin cfg0.N) (k : Fin 1408) (d : Fin 2048) : iblk m c 1 t (ix2 k d) = m (c, main_arg1) (ix2 (col t k) d) := by
  unfold iblk
  rw [View.read_apply, emb1]
  exact congrFun (V_weights m c) _
theorem blk2 (t : Fin cfg0.N) (s : Fin 2) (i : Fin 512) (k : Fin 1408) : iblk m c 2 t (ix3 s i k) = partials (m (c, main_arg0)) (ix3 s (row t i) (col t k)) := by
  unfold iblk
  rw [View.read_apply, emb2]
  exact congrFun (V_partials m c) _

/-- One element of a point's block: the products' sum times the partial derivative. -/
def entry (x : Vec Ideal S512x2048 .bf16) (w : Vec Ideal S1408x2048 .bf16) (p : Vec Ideal S2x512x1408 .bf16) (s : Fin 2) (i : Fin 512) (k : Fin 1408) : EReal :=
  (∑ d : Fin 2048, (x (ix2 i d) : EReal) * w (ix2 k d)) * p (ix3 s i k)

theorem out_at (t : Fin cfg0.N) (s : Fin 2) (i : Fin 512) (k : Fin 1408) :
    outsAt0 m c t (ix3 s i k) = entry (iblk m c 0 t) (iblk m c 1 t) (iblk m c 2 t) s i k := by
  simp only [outsAt0]
  frame_out
  canon_tiles x h using View.cover_of_tiledBy _ ![1, 512, 128] (by sl_kernel_rfl) _
  all_goals
    obtain ⟨z, i', b, rfl⟩ : ∃ z i' b, x = ix3 z i' b := ⟨_, _, _, eq_ix3 x⟩
    obtain rfl : z = 0 := Subsingleton.elim _ _
    obtain rfl : i = i' := Fin.ext h1
    have hb := b.isLt
  · obtain rfl : s = 1 := Fin.ext h0
    obtain ⟨hk, rfl⟩ : ∃ hk : 1024 + b.val < 1408, k = ⟨1024 + b.val, hk⟩ := ⟨by omega, Fin.ext h2⟩
    pointwise [entry, k0_pay3, k0_pay5, k0_pay6]
  · obtain rfl : s = 0 := Fin.ext h0
    obtain ⟨hk, rfl⟩ : ∃ hk : 1024 + b.val < 1408, k = ⟨1024 + b.val, hk⟩ := ⟨by omega, Fin.ext h2⟩
    pointwise [entry, k0_pay3, k0_pay4, k0_pay6]
  · obtain rfl : s = 1 := Fin.ext h0
    obtain ⟨hk, rfl⟩ : ∃ hk : 512 + b.val < 1408, k = ⟨512 + b.val, hk⟩ := ⟨by omega, Fin.ext h2⟩
    pointwise [entry, k0_pay2, k0_pay10, k0_pay6]
  · obtain rfl : s = 0 := Fin.ext h0
    obtain ⟨hk, rfl⟩ : ∃ hk : 512 + b.val < 1408, k = ⟨512 + b.val, hk⟩ := ⟨by omega, Fin.ext h2⟩
    pointwise [entry, k0_pay1, k0_pay11, k0_pay10, k0_pay6]
  · obtain rfl : s = 1 := Fin.ext h0
    obtain ⟨hk, rfl⟩ : ∃ hk : b.val < 1408, k = ⟨b.val, hk⟩ := ⟨by omega, Fin.ext h2⟩
    pointwise [entry, k0_pay9, k0_pay7, k0_pay6]
  · obtain rfl : s = 0 := Fin.ext h0
    obtain ⟨hk, rfl⟩ : ∃ hk : b.val < 1408, k = ⟨b.val, hk⟩ := ⟨by omega, Fin.ext h2⟩
    pointwise [entry, k0_pay8, k0_pay7, k0_pay6]

/-- The kernel's block is the reference's. -/
theorem entry_eq (hp : ∀ j, ∃ r : ℝ, m (c, main_arg0) j = (r : EReal)) (hw : ∀ j, ∃ r : ℝ, m (c, main_arg1) j = (r : EReal)) (he : ∀ j, ∃ r : ℝ, m (c, main_arg2) j = (r : EReal))
    (t : Fin cfg0.N) (s : Fin 2) (i : Fin 512) (k : Fin 1408) :
    entry (iblk m c 0 t) (iblk m c 1 t) (iblk m c 2 t) s i k = halves (sides (product (m (c, main_arg2)) (m (c, main_arg1))) (m (c, main_arg0))) (ix3 s (row t i) (col t k)) := by
  unfold entry
  simp only [blk0, blk1, blk2]
  refine (congrArg (· * partials (m (c, main_arg0)) (ix3 s (row t i) (col t k))) (product_at (m (c, main_arg2)) (m (c, main_arg1)) (row t i) (col t k)).symm).trans ?_
  obtain ⟨r, hr⟩ := product_real _ _ he hw (row t i) (col t k)
  obtain ⟨a, ha⟩ := hp (ix2 (row t i) (FfnAct.colG (col t k)))
  obtain ⟨b, hb⟩ := hp (ix2 (row t i) (FfnAct.colU (col t k)))
  match s with
  | 0 => rw [partials_gate, sides_gate, hr, ha, hb]; exact dGate_mul r a b
  | 1 => rw [partials_up, sides_up]; exact dUp_mul _ _

/-- The kernel's array is the reference's. -/
theorem value (hp : ∀ j, ∃ r : ℝ, m (c, main_arg0) j = (r : EReal)) (hw : ∀ j, ∃ r : ℝ, m (c, main_arg1) j = (r : EReal)) (he : ∀ j, ∃ r : ℝ, m (c, main_arg2) j = (r : EReal)) :
    (dats m 0 c).arrAt 3 cfg0.N = halves (sides (product (m (c, main_arg2)) (m (c, main_arg1))) (m (c, main_arg0))) := by
  refine Pipeline.Dat.arrAt_eq_of_covers _ 3 _ (by decide +kernel) fun t hf (y : S2x512x1408.Idx) => ?_
  obtain ⟨s, i, k, rfl⟩ : ∃ s i k, y = ix3 s i k := ⟨_, _, _, eq_ix3 y⟩
  rw [emb3]
  show (dats m 0 c).after 3 t (ix3 s i k) = _
  rw [after0_3, out_at, entry_eq m c hp hw he]

end Cert.DaIdeal.Ffn

end
-- ==== Proof.FfnDwout.lean ====
module

public import proofs.«01_k».proof.Proof.Gen.DwoutIdeal.Value
public import proofs.«01_k».proof.Proof.Gen.DwoutRefIdeal.Run
public import Idealize.ShloMosaic.Lib.Pipeline.ValueKit.Point
public import Idealize.ShloMosaic.Lib.Pipeline.ValueKit.Acc
public import Idealize.ShloMosaic.Lib.Pointwise

@[expose] public section

set_option maxRecDepth 16384

/-! The gradient of the feed-forward network's second weights: the kernel's blocked products summed over the row tiles are the reference's one product. -/

noncomputable section

namespace Cert.DwoutIdeal.Ffn

open Cert.DwoutIdeal Cert.DwoutIdeal.Gen
open Idealize.ShloMosaic Idealize.ShloMosaic.StableHlo Idealize.ShloMosaic.TcCoe Idealize.SL.Sem Idealize.ShloMosaic.Pointwise
open scoped BigOperators

/-- The row tile and the tile of hidden columns of a point. -/
def tile (t : Fin 32) : Fin 8 := ⟨t.val % 8, by omega⟩
def group (t : Fin 32) : Fin 4 := ⟨t.val / 8, by omega⟩
/-- The row of the arrays under row `k` of a tile, -/
def row (s : Fin 8) (k : Fin 1024) : Fin 8192 := ⟨s.val * 1024 + k.val, by omega⟩
/-- and the hidden column under column `b` of a tile. -/
def col (g : Fin 4) (b : Fin 1408) : Fin 5632 := ⟨g.val * 1408 + b.val, by omega⟩

/-- The gated activation of the first products. -/
def hidden (p : FVec Ideal S8192x11264 .f32) : FVec Ideal S8192x5632 .f32 :=
  let g : FVec Ideal S8192x5632 .f32 := extractStridedSlice S8192x5632 ![0, 0] p slices_S8192x11264_S8192x5632_0_0
  let one : FVec Ideal S8192x5632 .f32 := broadcastInDim S8192x5632 ![] bcast_S_S8192x5632 (constant S_ .f32 0x3F800000#32)
  mulf (mulf g (Host.divf one (addf one (Host.exp (Host.negf g))))) (extractStridedSlice S8192x5632 ![0, 5632] p slices_S8192x11264_S8192x5632_0_5632)

/-- The product of one hidden column with one column of the gradient at one row. -/
def term (a : FVec Ideal S8192x5632 .f32) (e : FVec Ideal S8192x2048 .f32) (j : Fin 5632) (d : Fin 2048) (k : Fin 8192) : EReal := a (ix2 k j) * e (ix2 k d)
/-- What a row tile adds to a block. -/
def part (a : FVec Ideal S8192x5632 .f32) (e : FVec Ideal S8192x2048 .f32) (s : Fin 8) (g : Fin 4) (y : S1408x2048.Idx) : EReal :=
  ∑ k : Fin 1024, term a e (col g (y 0)) (y 1) (row s k)

/-- The eight tiles are all the rows. -/
theorem whole (a : FVec Ideal S8192x5632 .f32) (e : FVec Ideal S8192x2048 .f32) (g : Fin 4) (b : Fin 1408) (d : Fin 2048) :
    ∑ s : Fin 8, part a e s g (ix2 b d) = ∑ k : Fin 8192, term a e (col g b) d k :=
  Fin.sum_mul_add_congr fun _ _ _ => rfl

/-- The parts of a run of eight points are the eight tiles' parts. -/
theorem parts (a : FVec Ideal S8192x5632 .f32) (e : FVec Ideal S8192x2048 .f32) (t : Fin 32) (hs : ∀ s : Fin 8, 8 * (t.val / 8) + s.val < 32) (b : Fin 1408) (d : Fin 2048) :
    ∑ s : Fin 8, part a e (tile ⟨8 * (t.val / 8) + s.val, hs s⟩) (group ⟨8 * (t.val / 8) + s.val, hs s⟩) (ix2 b d)
      = ∑ k : Fin 8192, term a e (col (group t) b) d k := by
  rw [← whole]
  refine Finset.sum_congr rfl fun s _ => ?_
  rw [show tile ⟨8 * (t.val / 8) + s.val, hs s⟩ = s from Fin.ext (by simp only [tile]; omega),
    show group ⟨8 * (t.val / 8) + s.val, hs s⟩ = group t from Fin.ext (by simp only [group]; omega)]

/-- The reference's product, its two axes exchanged. -/
def product (a : FVec Ideal S8192x5632 .f32) (e : FVec Ideal S8192x2048 .f32) : FVec Ideal S5632x2048 .f32 :=
  transpose S5632x2048 [1, 0] (Host.dotGeneral (F := Ideal) (φ₁ := .f32) (φ₂ := .f32) Cert.DwoutRefIdeal.dot_S8192x2048_S8192x5632_S2048x5632_0_0_1_1_n_n none e a)
    Cert.DwoutRefIdeal.Gen.transposes_S2048x5632_S5632x2048_1_0
theorem product_at (a : FVec Ideal S8192x5632 .f32) (e : FVec Ideal S8192x2048 .f32) (j : Fin 5632) (d : Fin 2048) :
    product a e (ix2 j d) = ∑ k : Fin 8192, term a e j d k := by
  pointwise [product]
  exact Finset.sum_congr rfl fun k _ => mul_comm (e (ix2 k d)) (a (ix2 k j))

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, 0] := (by decide +kernel : ∀ t : Fin grid0.N, _)

variable (m : (ℓ : Loc nD τ sig) → Buf (Elt Ideal) ℓ) (c : Dev nD)

theorem V_hidden : V m c main_v4 = (truncf .bf16 (hidden (m (c, main_arg0))) bitsLt_bf16_f32 : FVec Ideal S8192x5632 .bf16) := by
  simp only [V, hostOps0, hostOps0_1, hostOps0_2, List.flatten_cons, List.flatten_nil, List.append_nil, List.cons_append, List.nil_append,
    TRef.binary, TRef.unary, TRef.nullary, TRef.toBuf, TRef.ofBuf, cast_eq]
  after_results_simp <;> rfl
theorem V_grad : V m c main_v5 = (truncf .bf16 (m (c, main_arg1)) bitsLt_bf16_f32 : FVec Ideal S8192x2048 .bf16) := by
  simp only [V, hostOps0, hostOps0_1, hostOps0_2, List.flatten_cons, List.flatten_nil, List.append_nil, List.cons_append, List.nil_append,
    TRef.binary, TRef.unary, TRef.nullary, TRef.toBuf, TRef.ofBuf, cast_eq]
  after_results_simp <;> rfl

theorem emb0 (t : Fin cfg0.N) (k : Fin 1024) (b : Fin 1408) : ((cfg0.win 0).blk t).view.emb (ix2 k b) = ix2 (row (tile t) k) (col (group t) b) := by
  blk_ext [idx0, row, tile, col, group]
theorem emb1 (t : Fin cfg0.N) (k : Fin 1024) (d : Fin 2048) : ((cfg0.win 1).blk t).view.emb (ix2 k d) = ix2 (row (tile t) k) d := by
  blk_ext [idx1, row, tile]
theorem emb2 (t : Fin cfg0.N) (b : Fin 1408) (d : Fin 2048) : ((cfg0.win 2).blk t).view.emb (ix2 b d) = ix2 (col (group t) b) d := by
  blk_ext [idx2, col, group]

theorem blk0 (t : Fin cfg0.N) (k : Fin 1024) (b : Fin 1408) : iblk m c 0 t (ix2 k b) = hidden (m (c, main_arg0)) (ix2 (row (tile t) k) (col (group t) b)) := by
  unfold iblk
  rw [View.read_apply, emb0]
  exact congrFun (V_hidden m c) _
theorem blk1 (t : Fin cfg0.N) (k : Fin 1024) (d : Fin 2048) : iblk m c 1 t (ix2 k d) = m (c, main_arg1) (ix2 (row (tile t) k) d) := by
  unfold iblk
  rw [View.read_apply, emb1]
  exact congrFun (V_grad m c) _

theorem zero_at (y : S1408x2048.Idx) : k0_pay1 (F := Ideal) y = (0 : EReal) := by
  obtain ⟨b, d, rfl⟩ : ∃ b d, y = ix2 b d := ⟨_, _, eq_ix2 y⟩
  pointwise [k0_pay1]

theorem step_at (a : Vec Ideal S1408x2048 .f32) (t : Fin cfg0.N) (y : S1408x2048.Idx) :
    k0_pay2 a (iblk m c 0 t) (iblk m c 1 t) y = a y + part (hidden (m (c, main_arg0))) (m (c, main_arg1)) (tile t) (group t) y := by
  obtain ⟨b, d, rfl⟩ : ∃ b d, y = ix2 b d := ⟨_, _, eq_ix2 y⟩
  pointwise [k0_pay2]
  simp only [blk0, blk1]
  rfl

/-- The scratch after a point that writes back. -/
theorem scratch (t : Fin cfg0.N) (ht : t.val % 8 = 8 - 1) (b : Fin 1408) (d : Fin 2048) :
    (outsAt0 m c t.val t.isLt).2 (ix2 b d) = ∑ k : Fin 8192, term (hidden (m (c, main_arg0))) (m (c, main_arg1)) (col (group t) b) d k := by
  rw [Pipeline.eq_sum_fin_of_reset_step_apply_of_flush (fun n h => (outsAt0 m c n h).2) 8 (fun _ => (0 : EReal))
    (fun t : Fin cfg0.N => part (hidden (m (c, main_arg0))) (m (c, main_arg1)) (tile t) (group t))
    (fun t h y => by rw [outsAt0_A m c t h (by omega)]; frame_out; rw [step_at, zero_at])
    (fun t h y => by
      by_cases h7 : t.val % 8 = 7
      · rw [outsAt0_C m c t h h7]; frame_out; rw [step_at]; exact congrArg (· + _) (congrFun (Memref.IsWhole.read_unread _ _) y)
      · rw [outsAt0_B m c t h h7]; frame_out; rw [step_at]; exact congrArg (· + _) (congrFun (Memref.IsWhole.read_unread _ _) y)) t ht (ix2 b d), zero_add]
  exact parts _ _ t (Pipeline.run_point_lt_of_flush t ht) b d

/-- At a point that writes back the output block is the scratch. -/
theorem out_at (t : Fin cfg0.N) (ht : t.val % 8 = 7) (b : Fin 1408) (d : Fin 2048) :
    (outsAt0 m c t.val t.isLt).1 (ix2 b d) = (outsAt0 m c t.val t.isLt).2 (ix2 b d) := by
  rw [outsAt0_C m c t (by omega) ht]
  frame_out
  pointwise [k0_pay3]

/-- The kernel's array is the reference's. -/
theorem value : (dats m 0 c).arrAt 2 cfg0.N = (truncf .bf16 (product (hidden (m (c, main_arg0))) (m (c, main_arg1))) bitsLt_bf16_f32 : FVec Ideal S5632x2048 .bf16) := by
  refine Pipeline.Dat.arrAt_eq_of_covers _ 2 _ (by decide +kernel) fun t hf (y : S1408x2048.Idx) => ?_
  have ht := (flush0_2 t).1 hf
  obtain ⟨b, d, rfl⟩ : ∃ b d, y = ix2 b d := ⟨_, _, eq_ix2 y⟩
  rw [emb2]
  show (dats m 0 c).after 2 t (ix2 b d) = _
  rw [after0_2, out_at m c t ht, scratch m c t ht]
  exact (product_at _ _ _ _).symm

end Cert.DwoutIdeal.Ffn

end
-- ==== Proof.FfnDwoutAdd.lean ====
module

public import proofs.«01_k».proof.Proof.Gen.DwoutAddIdeal.Value
public import proofs.«01_k».proof.Proof.Gen.DwoutAddRefIdeal.Run
public import proofs.«01_k».proof.Proof.FfnDwout

@[expose] public section

set_option maxRecDepth 16384

/-! The gradient of the feed-forward network's second weights added to another: the kernel's blocked products summed over the row tiles, and the block added, are the reference's one product and sum. -/

noncomputable section

namespace Cert.DwoutAddIdeal.Ffn

open Cert.DwoutAddIdeal Cert.DwoutAddIdeal.Gen
open Idealize.ShloMosaic Idealize.ShloMosaic.StableHlo Idealize.ShloMosaic.TcCoe Idealize.SL.Sem Idealize.ShloMosaic.Pointwise
open Cert.DwoutIdeal.Ffn (tile group row col hidden term part parts product product_at)
open scoped BigOperators

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, 0] := (by decide +kernel : ∀ t : Fin grid0.N, _)
theorem idx3 : ∀ t : Fin cfg0.N, win0_3.index t = ![t.val / 8, 0] := (by decide +kernel : ∀ t : Fin grid0.N, _)

variable (m : (ℓ : Loc nD τ sig) → Buf (Elt Ideal) ℓ) (c : Dev nD)

theorem V_hidden : V m c main_v5 = (truncf .bf16 (hidden (m (c, main_arg0))) bitsLt_bf16_f32 : FVec Ideal S8192x5632 .bf16) := by
  simp only [V, hostOps0, hostOps0_1, hostOps0_2, List.flatten_cons, List.flatten_nil, List.append_nil, List.cons_append, List.nil_append,
    TRef.binary, TRef.unary, TRef.nullary, TRef.toBuf, TRef.ofBuf, cast_eq]
  after_results_simp <;> rfl
theorem V_grad : V m c main_v6 = (truncf .bf16 (m (c, main_arg1)) bitsLt_bf16_f32 : FVec Ideal S8192x2048 .bf16) := by
  simp only [V, hostOps0, hostOps0_1, hostOps0_2, List.flatten_cons, List.flatten_nil, List.append_nil, List.cons_append, List.nil_append,
    TRef.binary, TRef.unary, TRef.nullary, TRef.toBuf, TRef.ofBuf, cast_eq]
  after_results_simp <;> rfl

theorem V_add : V m c main_v0 = (truncf .bf16 (m (c, main_arg2)) bitsLt_bf16_f32 : FVec Ideal S5632x2048 .bf16) := by
  simp only [V, hostOps0, hostOps0_1, hostOps0_2, List.flatten_cons, List.flatten_nil, List.append_nil, List.cons_append, List.nil_append,
    TRef.binary, TRef.unary, TRef.nullary, TRef.toBuf, TRef.ofBuf, cast_eq]
  after_results_simp <;> rfl

theorem emb0 (t : Fin cfg0.N) (k : Fin 1024) (b : Fin 1408) : ((cfg0.win 0).blk t).view.emb (ix2 k b) = ix2 (row (tile t) k) (col (group t) b) := by
  blk_ext [idx0, row, tile, col, group]
theorem emb1 (t : Fin cfg0.N) (k : Fin 1024) (d : Fin 2048) : ((cfg0.win 1).blk t).view.emb (ix2 k d) = ix2 (row (tile t) k) d := by
  blk_ext [idx1, row, tile]
theorem emb2 (t : Fin cfg0.N) (b : Fin 1408) (d : Fin 2048) : ((cfg0.win 2).blk t).view.emb (ix2 b d) = ix2 (col (group t) b) d := by
  blk_ext [idx2, col, group]
theorem emb3 (t : Fin cfg0.N) (b : Fin 1408) (d : Fin 2048) : ((cfg0.win 3).blk t).view.emb (ix2 b d) = ix2 (col (group t) b) d := by
  blk_ext [idx3, col, group]

theorem blk0 (t : Fin cfg0.N) (k : Fin 1024) (b : Fin 1408) : iblk m c 0 t (ix2 k b) = hidden (m (c, main_arg0)) (ix2 (row (tile t) k) (col (group t) b)) := by
  unfold iblk
  rw [View.read_apply, emb0]
  exact congrFun (V_hidden m c) _
theorem blk1 (t : Fin cfg0.N) (k : Fin 1024) (d : Fin 2048) : iblk m c 1 t (ix2 k d) = m (c, main_arg1) (ix2 (row (tile t) k) d) := by
  unfold iblk
  rw [View.read_apply, emb1]
  exact congrFun (V_grad m c) _

theorem blk2 (t : Fin cfg0.N) (b : Fin 1408) (d : Fin 2048) : iblk m c 2 t (ix2 b d) = m (c, main_arg2) (ix2 (col (group t) b) d) := by
  unfold iblk
  rw [View.read_apply, emb2]
  exact congrFun (V_add m c) _

theorem zero_at (y : S1408x2048.Idx) : k0_pay1 (F := Ideal) y = (0 : EReal) := by
  obtain ⟨b, d, rfl⟩ : ∃ b d, y = ix2 b d := ⟨_, _, eq_ix2 y⟩
  pointwise [k0_pay1]

theorem step_at (a : Vec Ideal S1408x2048 .f32) (t : Fin cfg0.N) (y : S1408x2048.Idx) :
    k0_pay2 a (iblk m c 0 t) (iblk m c 1 t) y = a y + part (hidden (m (c, main_arg0))) (m (c, main_arg1)) (tile t) (group t) y := by
  obtain ⟨b, d, rfl⟩ : ∃ b d, y = ix2 b d := ⟨_, _, eq_ix2 y⟩
  pointwise [k0_pay2]
  simp only [blk0, blk1]
  rfl

/-- The scratch after a point that writes back. -/
theorem scratch (t : Fin cfg0.N) (ht : t.val % 8 = 8 - 1) (b : Fin 1408) (d : Fin 2048) :
    (outsAt0 m c t.val t.isLt).2 (ix2 b d) = ∑ k : Fin 8192, term (hidden (m (c, main_arg0))) (m (c, main_arg1)) (col (group t) b) d k := by
  rw [Pipeline.eq_sum_fin_of_reset_step_apply_of_flush (fun n h => (outsAt0 m c n h).2) 8 (fun _ => (0 : EReal))
    (fun t : Fin cfg0.N => part (hidden (m (c, main_arg0))) (m (c, main_arg1)) (tile t) (group t))
    (fun t h y => by rw [outsAt0_A m c t h (by omega)]; frame_out; rw [step_at, zero_at])
    (fun t h y => by
      by_cases h7 : t.val % 8 = 7
      · rw [outsAt0_C m c t h h7]; frame_out; rw [step_at]; exact congrArg (· + _) (congrFun (Memref.IsWhole.read_unread _ _) y)
      · rw [outsAt0_B m c t h h7]; frame_out; rw [step_at]; exact congrArg (· + _) (congrFun (Memref.IsWhole.read_unread _ _) y)) t ht (ix2 b d), zero_add]
  exact parts _ _ t (Pipeline.run_point_lt_of_flush t ht) b d

/-- One element of the sum of two arrays. -/
def plus (x : FVec Ideal S5632x2048 .f32) (j : Fin 5632) (d : Fin 2048) (f : EReal) : EReal := x (ix2 j d) + f

theorem last_at (f : Vec Ideal S1408x2048 .f32) (t : Fin cfg0.N) (b : Fin 1408) (d : Fin 2048) :
    k0_pay3 f (iblk m c 2 t) (ix2 b d) = plus (m (c, main_arg2)) (col (group t) b) d (f (ix2 b d)) := by
  pointwise [k0_pay3]
  rw [blk2]
  exact add_comm _ _

/-- At a point that writes back the output block is the scratch and the block added. -/
theorem out_at (t : Fin cfg0.N) (ht : t.val % 8 = 7) (b : Fin 1408) (d : Fin 2048) :
    (outsAt0 m c t.val t.isLt).1 (ix2 b d) = plus (m (c, main_arg2)) (col (group t) b) d ((outsAt0 m c t.val t.isLt).2 (ix2 b d)) := by
  rw [outsAt0_C m c t (by omega) ht]
  frame_out
  rw [last_at]

/-- The kernel's array is the reference's. -/
theorem value : (dats m 0 c).arrAt 3 cfg0.N
    = (truncf .bf16 (addf (m (c, main_arg2)) (product (hidden (m (c, main_arg0))) (m (c, main_arg1)))) bitsLt_bf16_f32 : FVec Ideal S5632x2048 .bf16) := by
  refine Pipeline.Dat.arrAt_eq_of_covers _ 3 _ (by decide +kernel) fun t hf (y : S1408x2048.Idx) => ?_
  have ht := (flush0_3 t).1 hf
  obtain ⟨b, d, rfl⟩ : ∃ b d, y = ix2 b d := ⟨_, _, eq_ix2 y⟩
  rw [emb3]
  show (dats m 0 c).after 3 t (ix2 b d) = _
  rw [after0_3, out_at m c t ht, scratch m c t ht, ← product_at]
  rfl

end Cert.DwoutAddIdeal.Ffn

end
-- ==== Proof.FfnDwin.lean ====
module

public import proofs.«01_k».proof.Proof.Gen.DwinIdeal.Value
public import proofs.«01_k».proof.Proof.Gen.DwinRefIdeal.Run
public import proofs.«01_k».proof.Proof.FfnDh

@[expose] public section

set_option maxRecDepth 16384

/-! The gradient of the feed-forward network's first weights: the kernel's blocked products summed over the row tiles are the reference's one product. -/

noncomputable section

namespace Cert.DwinIdeal.Ffn

open Cert.DwinIdeal Cert.DwinIdeal.Gen
open Cert.DhIdeal (S2048x11264)
open Cert.DhIdeal.Ffn (halves halves_at groups groups_at)
open Idealize.ShloMosaic Idealize.ShloMosaic.TcCoe Idealize.SL.Sem Idealize.ShloMosaic.Pointwise
open scoped BigOperators

/-- The row tile and the column group of a point. -/
def tile (t : Fin 64) : Fin 8 := ⟨t.val % 8, by omega⟩
def group (t : Fin 64) : Fin 8 := ⟨t.val / 8, by omega⟩
/-- The row of the arrays under row `k` of a tile, -/
def row (s : Fin 8) (k : Fin 1024) : Fin 8192 := ⟨s.val * 1024 + k.val, by omega⟩
/-- and the column of the products under column `b` of a group. -/
def col (g : Fin 8) (b : Fin 1408) : Fin 11264 := ⟨g.val * 1408 + b.val, by omega⟩

/-- The product of one column of the input with one column of the gradient at one row. -/
def term (h : FVec Ideal S8192x2048 .f32) (p : FVec Ideal S8192x11264 .f32) (d : Fin 2048) (j : Fin 11264) (k : Fin 8192) : EReal := h (ix2 k d) * p (ix2 k j)
/-- What a tile adds to a group's block. -/
def part (h : FVec Ideal S8192x2048 .f32) (p : FVec Ideal S8192x11264 .f32) (s g : Fin 8) (y : S2048x1408.Idx) : EReal :=
  ∑ k : Fin 1024, term h p (y 0) (col g (y 1)) (row s k)

/-- The eight tiles are all the rows. -/
theorem whole (h : FVec Ideal S8192x2048 .f32) (p : FVec Ideal S8192x11264 .f32) (g : Fin 8) (d : Fin 2048) (b : Fin 1408) :
    ∑ s : Fin 8, part h p s g (ix2 d b) = ∑ k : Fin 8192, term h p d (col g b) k :=
  Fin.sum_mul_add_congr fun _ _ _ => rfl

/-- The parts of a run of eight points are the eight tiles' parts. -/
theorem parts (h : FVec Ideal S8192x2048 .f32) (p : FVec Ideal S8192x11264 .f32) (t : Fin 64) (hs : ∀ s : Fin 8, 8 * (t.val / 8) + s.val < 64) (d : Fin 2048) (b : Fin 1408) :
    ∑ s : Fin 8, part h p (tile ⟨8 * (t.val / 8) + s.val, hs s⟩) (group ⟨8 * (t.val / 8) + s.val, hs s⟩) (ix2 d b)
      = ∑ k : Fin 8192, term h p d (col (group t) b) k := by
  rw [← whole]
  refine Finset.sum_congr rfl fun s _ => ?_
  rw [show tile ⟨8 * (t.val / 8) + s.val, hs s⟩ = s from Fin.ext (by simp only [tile]; omega),
    show group ⟨8 * (t.val / 8) + s.val, hs s⟩ = group t from Fin.ext (by simp only [group]; omega)]

/-- The reference's product, its two axes exchanged. -/
def product (h : FVec Ideal S8192x2048 .f32) (p : FVec Ideal S8192x11264 .f32) : FVec Ideal S2048x11264 .f32 :=
  transpose S2048x11264 [1, 0] (Host.dotGeneral (F := Ideal) (φ₁ := .f32) (φ₂ := .f32) Cert.DwinRefIdeal.dot_S8192x11264_S8192x2048_S11264x2048_0_0_1_1_n_n none p h)
    Cert.DwinRefIdeal.Gen.transposes_S11264x2048_S2048x11264_1_0
theorem product_at (h : FVec Ideal S8192x2048 .f32) (p : FVec Ideal S8192x11264 .f32) (d : Fin 2048) (j : Fin 11264) :
    product h p (ix2 d j) = ∑ k : Fin 8192, term h p d j k := by
  pointwise [product]
  exact Finset.sum_congr rfl fun k _ => mul_comm (p (ix2 k j)) (h (ix2 k d))

theorem idx0 : ∀ t : Fin cfg0.N, win0_0.index t = ![t.val % 8, 0] := (by decide +kernel : ∀ t : Fin grid0.N, _)
theorem idx1 : ∀ t : Fin cfg0.N, win0_1.index t = ![t.val / 8 / 4, t.val % 8, t.val / 8 % 4] := (by decide +kernel : ∀ t : Fin grid0.N, _)
theorem idx2 : ∀ t : Fin cfg0.N, win0_2.index t = ![t.val / 8, 0, 0] := (by decide +kernel : ∀ t : Fin grid0.N, _)

variable (m : (ℓ : Loc nD τ sig) → Buf (Elt Ideal) ℓ) (c : Dev nD)

theorem V_rows : V m c main_v0 = (truncf .bf16 (m (c, main_arg0)) bitsLt_bf16_f32 : FVec Ideal S8192x2048 .bf16) := by
  show StableHlo.after hostOps0 (fun b => m (c, b)) main_v0 = _
  after_results_simp <;> rfl
theorem V_halves : V m c main_v3 = halves (m (c, main_arg1)) := by
  show StableHlo.after hostOps0 (fun b => m (c, b)) main_v3 = _
  unfold halves
  after_results_simp <;> rfl

theorem emb0 (t : Fin cfg0.N) (k : Fin 1024) (d : Fin 2048) : ((cfg0.win 0).blk t).view.emb (ix2 k d) = ix2 (row (tile t) k) d := by
  blk_ext [idx0, row, tile]
theorem emb1 (t : Fin cfg0.N) (k : Fin 1024) (b : Fin 1408) : ((cfg0.win 1).blk t).view.emb (ix3 0 k b)
    = ix3 ⟨t.val / 8 / 4, by have := t.isLt.trans_eq N_0; omega⟩ (row (tile t) k) ⟨t.val / 8 % 4 * 1408 + b.val, by omega⟩ := by
  blk_ext [idx1, row, tile]
theorem emb2 (t : Fin cfg0.N) (d : Fin 2048) (b : Fin 1408) : ((cfg0.win 2).blk t).view.emb (ix3 0 d b) = ix3 (group t) d b := by
  blk_ext [idx2, group]

theorem blk0 (t : Fin cfg0.N) (k : Fin 1024) (d : Fin 2048) : iblk m c 0 t (ix2 k d) = m (c, main_arg0) (ix2 (row (tile t) k) d) := by
  unfold iblk
  rw [View.read_apply, emb0]
  exact congrFun (V_rows m c) _
theorem blk1 (t : Fin cfg0.N) (k : Fin 1024) (b : Fin 1408) : iblk m c 1 t (ix3 0 k b) = m (c, main_arg1) (ix2 (row (tile t) k) (col (group t) b)) := by
  unfold iblk
  rw [View.read_apply, emb1]
  refine (congrFun (V_halves m c) _).trans ((halves_at _ _ _ _).trans (congrArg _ (congrArg _ (Fin.ext ?_))))
  simp only [col, group]
  omega

theorem zero_at (y : S2048x1408.Idx) : k0_pay1 (F := Ideal) y = (0 : EReal) := by
  obtain ⟨d, b, rfl⟩ : ∃ d b, y = ix2 d b := ⟨_, _, eq_ix2 y⟩
  pointwise [k0_pay1]

theorem step_at (a : Vec Ideal S2048x1408 .f32) (t : Fin cfg0.N) (y : S2048x1408.Idx) :
    k0_pay2 a (iblk m c 0 t) (iblk m c 1 t) y = a y + part (m (c, main_arg0)) (m (c, main_arg1)) (tile t) (group t) y := by
  obtain ⟨d, b, rfl⟩ : ∃ d b, y = ix2 d b := ⟨_, _, eq_ix2 y⟩
  pointwise [k0_pay2]
  simp only [blk0, blk1]
  rfl

/-- The scratch after a point that writes back. -/
theorem scratch (t : Fin cfg0.N) (ht : t.val % 8 = 8 - 1) (d : Fin 2048) (b : Fin 1408) :
    (outsAt0 m c t.val t.isLt).2 (ix2 d b) = ∑ k : Fin 8192, term (m (c, main_arg0)) (m (c, main_arg1)) d (col (group t) b) k := by
  rw [Pipeline.eq_sum_fin_of_reset_step_apply_of_flush (fun n h => (outsAt0 m c n h).2) 8 (fun _ => (0 : EReal))
    (fun t : Fin cfg0.N => part (m (c, main_arg0)) (m (c, main_arg1)) (tile t) (group t))
    (fun t h y => by rw [outsAt0_A m c t h (by omega)]; frame_out; rw [step_at, zero_at])
    (fun t h y => by
      by_cases h7 : t.val % 8 = 7
      · rw [outsAt0_C m c t h h7]; frame_out; rw [step_at]; exact congrArg (· + _) (congrFun (Memref.IsWhole.read_unread _ _) y)
      · rw [outsAt0_B m c t h h7]; frame_out; rw [step_at]; exact congrArg (· + _) (congrFun (Memref.IsWhole.read_unread _ _) y)) t ht (ix2 d b), zero_add]
  exact parts _ _ t (Pipeline.run_point_lt_of_flush t ht) d b

/-- At a point that writes back the output block is the scratch. -/
theorem out_at (t : Fin cfg0.N) (ht : t.val % 8 = 7) (d : Fin 2048) (b : Fin 1408) :
    (outsAt0 m c t.val t.isLt).1 (ix3 0 d b) = (outsAt0 m c t.val t.isLt).2 (ix2 d b) := by
  rw [outsAt0_C m c t (by omega) ht]
  frame_out
  pointwise [k0_pay3]

/-- The kernel's array is the reference's. -/
theorem value : (dats m 0 c).arrAt 2 cfg0.N = groups (product (m (c, main_arg0)) (m (c, main_arg1))) := by
  refine Pipeline.Dat.arrAt_eq_of_covers _ 2 _ (by decide +kernel) fun t hf (y : S1x2048x1408.Idx) => ?_
  have ht := (flush0_2 t).1 hf
  obtain ⟨z, d, b, rfl⟩ : ∃ z d b, y = ix3 z d b := ⟨_, _, _, eq_ix3 y⟩
  obtain rfl : z = 0 := Subsingleton.elim _ _
  rw [emb2]
  show (dats m 0 c).after 2 t (ix3 0 d b) = _
  rw [after0_2, out_at m c t ht, scratch m c t ht, groups_at, product_at]
  rfl

end Cert.DwinIdeal.Ffn

end
-- ==== Proof.FfnDwinAdd.lean ====
module

public import proofs.«01_k».proof.Proof.Gen.DwinAddIdeal.Value
public import proofs.«01_k».proof.Proof.Gen.DwinAddRefIdeal.Run
public import proofs.«01_k».proof.Proof.FfnDwin

@[expose] public section

set_option maxRecDepth 16384

/-! The gradient of the feed-forward network's first weights added to another: the kernel's blocked products summed over the row tiles, and the block added, are the reference's one product and sum. -/

noncomputable section

namespace Cert.DwinAddIdeal.Ffn

open Cert.DwinAddIdeal Cert.DwinAddIdeal.Gen
open Cert.DhIdeal.Ffn (halves halves_at groups groups_at)
open Cert.DwinIdeal.Ffn (tile group row col term part parts product product_at)
open Idealize.ShloMosaic Idealize.ShloMosaic.TcCoe Idealize.SL.Sem Idealize.ShloMosaic.Pointwise
open scoped BigOperators

theorem idx0 : ∀ t : Fin cfg0.N, win0_0.index t = ![t.val % 8, 0] := (by decide +kernel : ∀ t : Fin grid0.N, _)
theorem idx1 : ∀ t : Fin cfg0.N, win0_1.index t = ![t.val / 8 / 4, t.val % 8, t.val / 8 % 4] := (by decide +kernel : ∀ t : Fin grid0.N, _)
theorem idx2 : ∀ t : Fin cfg0.N, win0_2.index t = ![t.val / 8, 0, 0] := (by decide +kernel : ∀ t : Fin grid0.N, _)
theorem idx3 : ∀ t : Fin cfg0.N, win0_3.index t = ![t.val / 8, 0, 0] := (by decide +kernel : ∀ t : Fin grid0.N, _)

variable (m : (ℓ : Loc nD τ sig) → Buf (Elt Ideal) ℓ) (c : Dev nD)

theorem V_rows : V m c main_v3 = (truncf .bf16 (m (c, main_arg0)) bitsLt_bf16_f32 : FVec Ideal S8192x2048 .bf16) := by
  show StableHlo.after hostOps0 (fun b => m (c, b)) main_v3 = _
  after_results_simp <;> rfl
theorem V_halves : V m c main_v6 = halves (m (c, main_arg1)) := by
  show StableHlo.after hostOps0 (fun b => m (c, b)) main_v6 = _
  unfold halves
  after_results_simp <;> rfl

theorem V_add : V m c main_v2 = groups (m (c, main_arg2)) := by
  show StableHlo.after hostOps0 (fun b => m (c, b)) main_v2 = _
  unfold groups
  after_results_simp <;> rfl

theorem emb0 (t : Fin cfg0.N) (k : Fin 1024) (d : Fin 2048) : ((cfg0.win 0).blk t).view.emb (ix2 k d) = ix2 (row (tile t) k) d := by
  blk_ext [idx0, row, tile]
theorem emb1 (t : Fin cfg0.N) (k : Fin 1024) (b : Fin 1408) : ((cfg0.win 1).blk t).view.emb (ix3 0 k b)
    = ix3 ⟨t.val / 8 / 4, by have := t.isLt.trans_eq N_0; omega⟩ (row (tile t) k) ⟨t.val / 8 % 4 * 1408 + b.val, by omega⟩ := by
  blk_ext [idx1, row, tile]
theorem emb2 (t : Fin cfg0.N) (d : Fin 2048) (b : Fin 1408) : ((cfg0.win 2).blk t).view.emb (ix3 0 d b) = ix3 (group t) d b := by
  blk_ext [idx2, group]
theorem emb3 (t : Fin cfg0.N) (d : Fin 2048) (b : Fin 1408) : ((cfg0.win 3).blk t).view.emb (ix3 0 d b) = ix3 (group t) d b := by
  blk_ext [idx3, group]

theorem blk0 (t : Fin cfg0.N) (k : Fin 1024) (d : Fin 2048) : iblk m c 0 t (ix2 k d) = m (c, main_arg0) (ix2 (row (tile t) k) d) := by
  unfold iblk
  rw [View.read_apply, emb0]
  exact congrFun (V_rows m c) _
theorem blk1 (t : Fin cfg0.N) (k : Fin 1024) (b : Fin 1408) : iblk m c 1 t (ix3 0 k b) = m (c, main_arg1) (ix2 (row (tile t) k) (col (group t) b)) := by
  unfold iblk
  rw [View.read_apply, emb1]
  refine (congrFun (V_halves m c) _).trans ((halves_at _ _ _ _).trans (congrArg _ (congrArg _ (Fin.ext ?_))))
  simp only [col, group]
  omega

theorem blk2 (t : Fin cfg0.N) (d : Fin 2048) (b : Fin 1408) : iblk m c 2 t (ix3 0 d b) = m (c, main_arg2) (ix2 d (col (group t) b)) := by
  unfold iblk
  rw [View.read_apply, emb2]
  exact (congrFun (V_add m c) _).trans (groups_at _ _ _ _)

theorem zero_at (y : S2048x1408.Idx) : k0_pay1 (F := Ideal) y = (0 : EReal) := by
  obtain ⟨d, b, rfl⟩ : ∃ d b, y = ix2 d b := ⟨_, _, eq_ix2 y⟩
  pointwise [k0_pay1]

theorem step_at (a : Vec Ideal S2048x1408 .f32) (t : Fin cfg0.N) (y : S2048x1408.Idx) :
    k0_pay2 a (iblk m c 0 t) (iblk m c 1 t) y = a y + part (m (c, main_arg0)) (m (c, main_arg1)) (tile t) (group t) y := by
  obtain ⟨d, b, rfl⟩ : ∃ d b, y = ix2 d b := ⟨_, _, eq_ix2 y⟩
  pointwise [k0_pay2]
  simp only [blk0, blk1]
  rfl

/-- The scratch after a point that writes back. -/
theorem scratch (t : Fin cfg0.N) (ht : t.val % 8 = 8 - 1) (d : Fin 2048) (b : Fin 1408) :
    (outsAt0 m c t.val t.isLt).2 (ix2 d b) = ∑ k : Fin 8192, term (m (c, main_arg0)) (m (c, main_arg1)) d (col (group t) b) k := by
  rw [Pipeline.eq_sum_fin_of_reset_step_apply_of_flush (fun n h => (outsAt0 m c n h).2) 8 (fun _ => (0 : EReal))
    (fun t : Fin cfg0.N => part (m (c, main_arg0)) (m (c, main_arg1)) (tile t) (group t))
    (fun t h y => by rw [outsAt0_A m c t h (by omega)]; frame_out; rw [step_at, zero_at])
    (fun t h y => by
      by_cases h7 : t.val % 8 = 7
      · rw [outsAt0_C m c t h h7]; frame_out; rw [step_at]; exact congrArg (· + _) (congrFun (Memref.IsWhole.read_unread _ _) y)
      · rw [outsAt0_B m c t h h7]; frame_out; rw [step_at]; exact congrArg (· + _) (congrFun (Memref.IsWhole.read_unread _ _) y)) t ht (ix2 d b), zero_add]
  exact parts _ _ t (Pipeline.run_point_lt_of_flush t ht) d b

/-- One element of the sum of two arrays. -/
def plus (x : FVec Ideal S2048x11264 .f32) (d : Fin 2048) (j : Fin 11264) (f : EReal) : EReal := x (ix2 d j) + f

theorem last_at (f : Vec Ideal S2048x1408 .f32) (t : Fin cfg0.N) (d : Fin 2048) (b : Fin 1408) :
    k0_pay3 f (iblk m c 2 t) (ix3 0 d b) = plus (m (c, main_arg2)) d (col (group t) b) (f (ix2 d b)) := by
  pointwise [k0_pay3]
  rw [blk2]
  exact add_comm _ _

/-- At a point that writes back the output block is the scratch and the block added. -/
theorem out_at (t : Fin cfg0.N) (ht : t.val % 8 = 7) (d : Fin 2048) (b : Fin 1408) :
    (outsAt0 m c t.val t.isLt).1 (ix3 0 d b) = plus (m (c, main_arg2)) d (col (group t) b) ((outsAt0 m c t.val t.isLt).2 (ix2 d b)) := by
  rw [outsAt0_C m c t (by omega) ht]
  frame_out
  rw [last_at]

/-- The kernel's array is the reference's. -/
theorem value : (dats m 0 c).arrAt 3 cfg0.N = groups (addf (m (c, main_arg2)) (product (m (c, main_arg0)) (m (c, main_arg1)))) := by
  refine Pipeline.Dat.arrAt_eq_of_covers _ 3 _ (by decide +kernel) fun t hf (y : S1x2048x1408.Idx) => ?_
  have ht := (flush0_3 t).1 hf
  obtain ⟨z, d, b, rfl⟩ : ∃ z d b, y = ix3 z d b := ⟨_, _, _, eq_ix3 y⟩
  obtain rfl : z = 0 := Subsingleton.elim _ _
  rw [emb3]
  show (dats m 0 c).after 3 t (ix3 0 d b) = _
  rw [after0_3, out_at m c t ht, scratch m c t ht, groups_at, ← product_at]
  rfl

end Cert.DwinAddIdeal.Ffn

end
-- ==== Proof.FfnClaims.lean ====
module

public import proofs.«01_k».proof.Defs
public import proofs.«01_k».proof.Proof.FfnFinite
public import proofs.«01_k».proof.Proof.FfnIn
public import proofs.«01_k».proof.Proof.FfnOut
public import proofs.«01_k».proof.Proof.FfnDa
public import proofs.«01_k».proof.Proof.FfnDwout
public import proofs.«01_k».proof.Proof.FfnDwoutAdd
public import proofs.«01_k».proof.Proof.FfnDh
public import proofs.«01_k».proof.Proof.FfnDwin
public import proofs.«01_k».proof.Proof.FfnDwinAdd
public import Idealize.ShloMosaic.Adequacy
public import Idealize.ShloMosaic.Init

@[expose] public section

/-! The equations of the feed-forward calls, and the ends of their references. -/

noncomputable section

namespace Cert.FfnClaims

open Cert Idealize.ShloMosaic Idealize.ShloMosaic.TcCoe Idealize.SL.Sem

theorem ends_in : quiescent_InRefIdeal := fun m ρ _ =>
  (θ_run InRefIdeal.defs _ _).mono (fun r h => ⟨fun c => (h c).2.2, sem_eq_zero_of_no_sems (by decide) r.2⟩) (InRefIdeal.Value.run m ρ)
theorem ends_out : quiescent_OutRefIdeal := fun m ρ _ =>
  (θ_run OutRefIdeal.defs _ _).mono (fun r h => ⟨fun c => (h c).2.2, sem_eq_zero_of_no_sems (by decide) r.2⟩) (OutRefIdeal.Value.run m ρ)
theorem ends_da : quiescent_DaRefIdeal := fun m ρ _ =>
  (θ_run DaRefIdeal.defs _ _).mono (fun r h => ⟨fun c => (h c).2, sem_eq_zero_of_no_sems (by decide) r.2⟩) (DaRefIdeal.Value.run m ρ)
theorem ends_dwout : quiescent_DwoutRefIdeal := fun m ρ _ =>
  (θ_run DwoutRefIdeal.defs _ _).mono (fun r h => ⟨fun c => (h c).2, sem_eq_zero_of_no_sems (by decide) r.2⟩) (DwoutRefIdeal.Value.run m ρ)
theorem ends_dwout_add : quiescent_DwoutAddRefIdeal := fun m ρ _ =>
  (θ_run DwoutAddRefIdeal.defs _ _).mono (fun r h => ⟨fun c => (h c).2, sem_eq_zero_of_no_sems (by decide) r.2⟩) (DwoutAddRefIdeal.Value.run m ρ)
theorem ends_dh : quiescent_DhRefIdeal := fun m ρ _ =>
  (θ_run DhRefIdeal.defs _ _).mono (fun r h => ⟨fun c => (h c).2, sem_eq_zero_of_no_sems (by decide) r.2⟩) (DhRefIdeal.Value.run m ρ)
theorem ends_dwin : quiescent_DwinRefIdeal := fun m ρ _ =>
  (θ_run DwinRefIdeal.defs _ _).mono (fun r h => ⟨fun c => (h c).2, sem_eq_zero_of_no_sems (by decide) r.2⟩) (DwinRefIdeal.Value.run m ρ)
theorem ends_dwin_add : quiescent_DwinAddRefIdeal := fun m ρ _ =>
  (θ_run DwinAddRefIdeal.defs _ _).mono (fun r h => ⟨fun c => (h c).2, sem_eq_zero_of_no_sems (by decide) r.2⟩) (DwinAddRefIdeal.Value.run m ρ)

/-- The first products and their activation; the partial derivatives are equal where the products are real. -/
theorem values_in : algebraic_InIdeal_InRefIdeal_pre_finite_in := fun m ρ m' ρ' hp ha =>
  ⟨_, _, (θ_run InIdeal.defs _ _).mono (fun _ h c => ⟨(h c).1.trans (InIdeal.Ffn.value_act m c),
      (h c).2.1.trans (InIdeal.Ffn.value_partials m c (Pre_finite_in.real0 (hp c).1) (Pre_finite_in.real1 (hp c).2)), (h c).2.2⟩) (InIdeal.Value.run_blocks m ρ),
    (θ_run InRefIdeal.defs _ _).mono (fun _ h c => by
      obtain ⟨h0, h1, hr⟩ := h c
      obtain ⟨a0, a1⟩ := ha c
      rw [a0, a1] at h0 h1
      exact ⟨h0, h1, hr⟩) (InRefIdeal.Value.run m' ρ')⟩

/-- The last product, alone and gated onto the residual. -/
theorem values_out : algebraic_OutIdeal_OutRefIdeal := fun m ρ m' ρ' _ ha =>
  ⟨_, _, (θ_run OutIdeal.defs _ _).mono (fun _ h c => ⟨(h c).1.trans (OutIdeal.Ffn.value_res m c), (h c).2.1.trans (OutIdeal.Ffn.value_prod m c), (h c).2.2⟩)
      (OutIdeal.Value.run_blocks m ρ),
    (θ_run OutRefIdeal.defs _ _).mono (fun _ h c => by
      obtain ⟨h0, h1, hr⟩ := h c
      obtain ⟨a0, a1, a2, a3⟩ := ha c
      rw [a0, a1, a2, a3] at h0
      rw [a0, a1] at h1
      exact ⟨h0, h1, hr⟩) (OutRefIdeal.Value.run m' ρ')⟩

/-- The gradient of the first products. -/
theorem values_da : algebraic_DaIdeal_DaRefIdeal_pre_finite_da := fun m ρ m' ρ' hp ha =>
  ⟨_, (θ_run DaIdeal.defs _ _).mono (fun _ h c => ⟨(h c).1.trans (DaIdeal.Ffn.value m c (Pre_finite_da.real0 (hp c).1) (Pre_finite_da.real1 (hp c).2.1)
      (Pre_finite_da.real2 (hp c).2.2)), (h c).2⟩) (DaIdeal.Value.run_blocks m ρ),
    (θ_run DaRefIdeal.defs _ _).mono (fun _ h c => by
      obtain ⟨h0, hr⟩ := h c
      obtain ⟨a0, a1, a2⟩ := ha c
      rw [a0, a1, a2] at h0
      exact ⟨h0, hr⟩) (DaRefIdeal.Value.run m' ρ')⟩

/-- The gradient of the last weights. -/
theorem values_dwout : algebraic_DwoutIdeal_DwoutRefIdeal := fun m ρ m' ρ' _ ha =>
  ⟨_, (θ_run DwoutIdeal.defs _ _).mono (fun _ h c => ⟨(h c).1.trans (DwoutIdeal.Ffn.value m c), (h c).2⟩) (DwoutIdeal.Value.run_blocks m ρ),
    (θ_run DwoutRefIdeal.defs _ _).mono (fun _ h c => by
      obtain ⟨h0, hr⟩ := h c
      obtain ⟨a0, a1⟩ := ha c
      rw [a0, a1] at h0
      exact ⟨h0, hr⟩) (DwoutRefIdeal.Value.run m' ρ')⟩

/-- The gradient of the last weights, added to another. -/
theorem values_dwout_add : algebraic_DwoutAddIdeal_DwoutAddRefIdeal := fun m ρ m' ρ' _ ha =>
  ⟨_, (θ_run DwoutAddIdeal.defs _ _).mono (fun _ h c => ⟨(h c).1.trans (DwoutAddIdeal.Ffn.value m c), (h c).2⟩) (DwoutAddIdeal.Value.run_blocks m ρ),
    (θ_run DwoutAddRefIdeal.defs _ _).mono (fun _ h c => by
      obtain ⟨h0, hr⟩ := h c
      obtain ⟨a0, a1, a2⟩ := ha c
      rw [a0, a1, a2] at h0
      exact ⟨h0, hr⟩) (DwoutAddRefIdeal.Value.run m' ρ')⟩

/-- The gradient of the normed input. -/
theorem values_dh : algebraic_DhIdeal_DhRefIdeal := fun m ρ m' ρ' _ ha =>
  ⟨_, (θ_run DhIdeal.defs _ _).mono (fun _ h c => ⟨(h c).1.trans (DhIdeal.Ffn.value m c), (h c).2⟩) (DhIdeal.Value.run_blocks m ρ),
    (θ_run DhRefIdeal.defs _ _).mono (fun _ h c => by
      obtain ⟨h0, hr⟩ := h c
      obtain ⟨a0, a1⟩ := ha c
      rw [a0, a1] at h0
      exact ⟨h0, hr⟩) (DhRefIdeal.Value.run m' ρ')⟩

/-- The gradient of the first weights. -/
theorem values_dwin : algebraic_DwinIdeal_DwinRefIdeal := fun m ρ m' ρ' _ ha =>
  ⟨_, (θ_run DwinIdeal.defs _ _).mono (fun _ h c => ⟨(h c).1.trans (DwinIdeal.Ffn.value m c), (h c).2⟩) (DwinIdeal.Value.run_blocks m ρ),
    (θ_run DwinRefIdeal.defs _ _).mono (fun _ h c => by
      obtain ⟨h0, hr⟩ := h c
      obtain ⟨a0, a1⟩ := ha c
      rw [a0, a1] at h0
      exact ⟨h0, hr⟩) (DwinRefIdeal.Value.run m' ρ')⟩

/-- The gradient of the first weights, added to another. -/
theorem values_dwin_add : algebraic_DwinAddIdeal_DwinAddRefIdeal := fun m ρ m' ρ' _ ha =>
  ⟨_, (θ_run DwinAddIdeal.defs _ _).mono (fun _ h c => ⟨(h c).1.trans (DwinAddIdeal.Ffn.value m c), (h c).2⟩) (DwinAddIdeal.Value.run_blocks m ρ),
    (θ_run DwinAddRefIdeal.defs _ _).mono (fun _ h c => by
      obtain ⟨h0, hr⟩ := h c
      obtain ⟨a0, a1, a2⟩ := ha c
      rw [a0, a1, a2] at h0
      exact ⟨h0, hr⟩) (DwinAddRefIdeal.Value.run m' ρ')⟩

end Cert.FfnClaims

end
-- ==== Proof.MixMm.lean ====
module

public import proofs.«01_k».proof.Proof.Gen.MixMmIdeal.Value
public import proofs.«01_k».proof.Proof.Gen.MixMmRefIdeal.Run
public import Idealize.ShloMosaic.Lib.Pipeline.ValueKit.Point
public import Idealize.ShloMosaic.Lib.Pointwise

@[expose] public section

set_option maxRecDepth 16384

/-! The mixer's combined projection: the kernel's blocks are those of the reference's one product. -/

noncomputable section

namespace Cert.MixMmIdeal.Mix

open Cert.MixMmIdeal Cert.MixMmIdeal.Gen
open Idealize.ShloMosaic Idealize.ShloMosaic.TcCoe Idealize.SL.Sem Idealize.ShloMosaic.Pointwise
open scoped BigOperators

theorem idx0 : ∀ t : Fin cfg0.N, win0_0.index t = ![t.val / 4, 0] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, t.val % 4] := (by decide +kernel : ∀ t : Fin grid0.N, _)

/-- The row of the arrays under row `i` of a point's block, -/
def row (t : Fin cfg0.N) (i : Fin 1024) : Fin 8192 := ⟨t.val / 4 * 1024 + i.val, by have := t.isLt.trans_eq N_0; omega⟩
/-- and the column of the result under column `d`. -/
def col (t : Fin cfg0.N) (d : Fin 1024) : Fin 4096 := ⟨t.val % 4 * 1024 + d.val, by omega⟩

/-- The reference's product. -/
def product (h : FVec Ideal S8192x2048 .f32) (w : FVec Ideal S2048x4096 .f32) : FVec Ideal S8192x4096 .f32 :=
  Host.dotGeneral (F := Ideal) (φ₁ := .f32) (φ₂ := .f32) Cert.MixMmRefIdeal.dot_S8192x2048_S2048x4096_S8192x4096_1_0_0_1_n_n none h w
theorem product_at (h : FVec Ideal S8192x2048 .f32) (w : FVec Ideal S2048x4096 .f32) (i : Fin 8192) (d : Fin 4096) :
    product h w (ix2 i d) = ∑ k : Fin 2048, h (ix2 i k) * w (ix2 k d) := by
  pointwise [product]

variable (m : (ℓ : Loc nD τ sig) → Buf (Elt Ideal) ℓ) (c : Dev nD)

theorem V_rows : V m c main_v0 = (truncf .bf16 (m (c, main_arg0)) bitsLt_bf16_f32 : FVec Ideal S8192x2048 .bf16) := by
  show StableHlo.after hostOps0 (fun b => m (c, b)) main_v0 = _
  after_results_simp <;> rfl
theorem V_weights : V m c main_v1 = (truncf .bf16 (m (c, main_arg1)) bitsLt_bf16_f32 : FVec Ideal S2048x4096 .bf16) := by
  show StableHlo.after hostOps0 (fun b => m (c, b)) main_v1 = _
  after_results_simp <;> rfl

theorem emb0 (t : Fin cfg0.N) (i : Fin 1024) (k : Fin 2048) : ((cfg0.win 0).blk t).view.emb (ix2 i k) = ix2 (row t i) k := by
  blk_ext [idx0, row]
theorem emb1 (t : Fin cfg0.N) (k : Fin 2048) (d : Fin 1024) : ((cfg0.win 1).blk t).view.emb (ix2 k d) = ix2 k (col t d) := by
  blk_ext [idx1, col]
theorem emb2 (t : Fin cfg0.N) (i d : Fin 1024) : ((cfg0.win 2).blk t).view.emb (ix2 i d) = ix2 (row t i) (col t d) := by
  blk_ext [idx2, row, col]

theorem blk0 (t : Fin cfg0.N) (i : Fin 1024) (k : Fin 2048) : iblk m c 0 t (ix2 i k) = m (c, main_arg0) (ix2 (row t i) k) := by
  unfold iblk
  rw [View.read_apply, emb0]
  exact congrFun (V_rows m c) _
theorem blk1 (t : Fin cfg0.N) (k : Fin 2048) (d : Fin 1024) : iblk m c 1 t (ix2 k d) = m (c, main_arg1) (ix2 k (col t d)) := by
  unfold iblk
  rw [View.read_apply, emb1]
  exact congrFun (V_weights m c) _

/-- A point's block of the product. -/
theorem out_at (t : Fin cfg0.N) (i d : Fin 1024) :
    outsAt0 m c t (ix2 i d) = product (m (c, main_arg0)) (m (c, main_arg1)) (ix2 (row t i) (col t d)) := by
  rw [product_at]
  simp only [outsAt0]
  frame_out
  pointwise [k0_pay2, k0_pay1]
  simp only [blk0, blk1]

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S1024x1024.Idx) => ?_
  obtain ⟨i, d, rfl⟩ : ∃ i d, y = ix2 i d := ⟨_, _, eq_ix2 y⟩
  rw [emb2]
  show (dats m 0 c).after 2 t (ix2 i d) = _
  rw [after0_2, out_at]

end Cert.MixMmIdeal.Mix

end
-- ==== Proof.MixDh.lean ====
module

public import proofs.«01_k».proof.Proof.Gen.MixDhIdeal.Value
public import proofs.«01_k».proof.Proof.Gen.MixDhRefIdeal.Run
public import Idealize.ShloMosaic.Lib.Pipeline.ValueKit.Point
public import Idealize.ShloMosaic.Lib.Pipeline.ValueKit.Acc
public import Idealize.ShloMosaic.Lib.Pointwise

@[expose] public section

set_option maxRecDepth 16384

/-! The gradient of the mixer's normed input: the kernel's blocked products summed over the two halves of the columns are the reference's one product. -/

noncomputable section

namespace Cert.MixDhIdeal.Mix

open Cert.MixDhIdeal Cert.MixDhIdeal.Gen
open Idealize.ShloMosaic Idealize.ShloMosaic.TcCoe Idealize.SL.Sem Idealize.ShloMosaic.Pointwise
open scoped BigOperators

theorem idx0 : ∀ t : Fin cfg0.N, win0_0.index t = ![t.val / 2, t.val % 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, 0] := (by decide +kernel : ∀ t : Fin grid0.N, _)

/-- The row of the arrays under row `i` of a point's block, -/
def row (t : Fin cfg0.N) (i : Fin 512) : Fin 8192 := ⟨t.val / 2 * 512 + i.val, by have := t.isLt.trans_eq N_0; omega⟩
/-- and the column of the gradient under column `k`. -/
def col (t : Fin cfg0.N) (k : Fin 2048) : Fin 4096 := ⟨t.val % 2 * 2048 + k.val, by omega⟩

/-- The product of one row of the gradient with one row of the weights at one column. -/
def term (e : FVec Ideal S8192x4096 .f32) (w : FVec Ideal S2048x4096 .f32) (i : Fin 8192) (d : Fin 2048) (k : Fin 4096) : EReal := e (ix2 i k) * w (ix2 d k)
/-- What a point adds to its block. -/
def part (e : FVec Ideal S8192x4096 .f32) (w : FVec Ideal S2048x4096 .f32) (t : Fin cfg0.N) (y : S512x2048.Idx) : EReal :=
  ∑ k : Fin 2048, term e w (row t (y 0)) (y 1) (col t k)

/-- The two halves are all the columns. -/
theorem whole (e : FVec Ideal S8192x4096 .f32) (w : FVec Ideal S2048x4096 .f32) (t : Fin cfg0.N) (ht : t.val % 2 = 2 - 1) (i : Fin 512) (d : Fin 2048) :
    ∑ s : Fin 2, part e w ⟨2 * (t.val / 2) + s.val, Pipeline.run_point_lt_of_flush t ht s⟩ (ix2 i d) = ∑ k : Fin 4096, term e w (row t i) d k := by
  refine Fin.sum_mul_add_congr fun s k _ => ?_
  have hr : row ⟨2 * (t.val / 2) + s.val, Pipeline.run_point_lt_of_flush t ht s⟩ i = row t i := Fin.ext (by simp only [row]; omega)
  show term e w (row ⟨2 * (t.val / 2) + s.val, Pipeline.run_point_lt_of_flush t ht s⟩ i) d _ = _
  rw [hr]
  refine congrArg _ (Fin.ext ?_)
  simp only [col]
  omega

/-- The reference's product. -/
def product (e : FVec Ideal S8192x4096 .f32) (w : FVec Ideal S2048x4096 .f32) : FVec Ideal S8192x2048 .f32 :=
  Host.dotGeneral (F := Ideal) (φ₁ := .f32) (φ₂ := .f32) Cert.MixDhRefIdeal.dot_S8192x4096_S2048x4096_S8192x2048_1_1_0_0_n_n none e w
theorem product_at (e : FVec Ideal S8192x4096 .f32) (w : FVec Ideal S2048x4096 .f32) (i : Fin 8192) (d : Fin 2048) :
    product e w (ix2 i d) = ∑ k : Fin 4096, term e w i d k := by
  pointwise [product]
  rfl

variable (m : (ℓ : Loc nD τ sig) → Buf (Elt Ideal) ℓ) (c : Dev nD)

theorem V_grad : V m c main_arg0 = m (c, main_arg0) := by
  show StableHlo.after hostOps0 (fun b => m (c, b)) main_arg0 = _
  after_results_simp <;> rfl
theorem V_weights : V m c main_v0 = (truncf .bf16 (m (c, main_arg1)) bitsLt_bf16_f32 : FVec Ideal S2048x4096 .bf16) := by
  show StableHlo.after hostOps0 (fun b => m (c, b)) main_v0 = _
  after_results_simp <;> rfl

theorem emb0 (t : Fin cfg0.N) (i : Fin 512) (k : Fin 2048) : ((cfg0.win 0).blk t).view.emb (ix2 i k) = ix2 (row t i) (col t k) := by
  blk_ext [idx0, row, col]
theorem emb1 (t : Fin cfg0.N) (d k : Fin 2048) : ((cfg0.win 1).blk t).view.emb (ix2 d k) = ix2 d (col t k) := by
  blk_ext [idx1, col]
theorem emb2 (t : Fin cfg0.N) (i : Fin 512) (d : Fin 2048) : ((cfg0.win 2).blk t).view.emb (ix2 i d) = ix2 (row t i) d := by
  blk_ext [idx2, row]

theorem blk0 (t : Fin cfg0.N) (i : Fin 512) (k : Fin 2048) : iblk m c 0 t (ix2 i k) = m (c, main_arg0) (ix2 (row t i) (col t k)) := by
  unfold iblk
  rw [View.read_apply, emb0]
  exact congrFun (V_grad m c) _
theorem blk1 (t : Fin cfg0.N) (d k : Fin 2048) : iblk m c 1 t (ix2 d k) = m (c, main_arg1) (ix2 d (col t k)) := by
  unfold iblk
  rw [View.read_apply, emb1]
  exact congrFun (V_weights m c) _

theorem zero_at (y : S512x2048.Idx) : k0_pay1 (F := Ideal) y = (0 : EReal) := by
  obtain ⟨i, d, rfl⟩ : ∃ i d, y = ix2 i d := ⟨_, _, eq_ix2 y⟩
  pointwise [k0_pay1]

theorem step_at (a : Vec Ideal S512x2048 .f32) (t : Fin cfg0.N) (y : S512x2048.Idx) :
    k0_pay2 a (iblk m c 0 t) (iblk m c 1 t) y = a y + part (m (c, main_arg0)) (m (c, main_arg1)) t y := by
  obtain ⟨i, d, rfl⟩ : ∃ i d, y = ix2 i d := ⟨_, _, eq_ix2 y⟩
  pointwise [k0_pay2]
  simp only [blk0, blk1]
  rfl

/-- The scratch after a point that writes back is the reference's product there. -/
theorem scratch (t : Fin cfg0.N) (ht : t.val % 2 = 2 - 1) (i : Fin 512) (d : Fin 2048) :
    (outsAt0 m c t.val t.isLt).2 (ix2 i d) = product (m (c, main_arg0)) (m (c, main_arg1)) (ix2 (row t i) d) := by
  rw [product_at, ← whole _ _ t ht, Pipeline.eq_sum_fin_of_reset_step_apply_of_flush (fun n h => (outsAt0 m c n h).2) 2 (fun _ => (0 : EReal))
    (part (m (c, main_arg0)) (m (c, main_arg1)))
    (fun t h y => by rw [outsAt0_A m c t h (by omega)]; frame_out; rw [step_at, zero_at])
    (fun t h y => by rw [outsAt0_B m c t h (by omega)]; frame_out; rw [step_at]; exact congrArg (· + _) (congrFun (Memref.IsWhole.read_unread _ _) y)) t ht (ix2 i d), zero_add]

/-- At a point that writes back the output block is the scratch. -/
theorem out_eq (t : Fin cfg0.N) (ht : t.val % 2 = 1) : (outsAt0 m c t.val t.isLt).1 = (outsAt0 m c t.val t.isLt).2 := by
  rw [outsAt0_B m c t (by omega) ht]
  frame_out

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S512x2048.Idx) => ?_
  have ht := (flush0_2 t).1 hf
  obtain ⟨i, d, rfl⟩ : ∃ i d, y = ix2 i d := ⟨_, _, eq_ix2 y⟩
  rw [emb2]
  show (dats m 0 c).after 2 t (ix2 i d) = _
  rw [after0_2, out_eq m c t ht, scratch m c t ht]

end Cert.MixDhIdeal.Mix

end
-- ==== Proof.MixDw.lean ====
module

public import proofs.«01_k».proof.Proof.Gen.MixDwIdeal.Value
public import proofs.«01_k».proof.Proof.Gen.MixDwRefIdeal.Run
public import Idealize.ShloMosaic.Lib.Pipeline.ValueKit.Point
public import Idealize.ShloMosaic.Lib.Pipeline.ValueKit.Acc
public import Idealize.ShloMosaic.Lib.Pointwise

@[expose] public section

set_option maxRecDepth 16384

/-! The gradient of the mixer's input weights: the kernel's blocked products summed over the row tiles are the reference's one product. -/

noncomputable section

namespace Cert.MixDwIdeal.Mix

open Cert.MixDwIdeal Cert.MixDwIdeal.Gen
open Idealize.ShloMosaic Idealize.ShloMosaic.TcCoe Idealize.SL.Sem Idealize.ShloMosaic.Pointwise
open scoped BigOperators

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

/-- The row of the arrays under row `k` of a point's block, -/
def row (t : Fin cfg0.N) (k : Fin 1024) : Fin 8192 := ⟨t.val % 8 * 1024 + k.val, by omega⟩
/-- and the column of the gradient under column `b`. -/
def col (t : Fin cfg0.N) (b : Fin 1024) : Fin 4096 := ⟨t.val / 8 * 1024 + b.val, by have := t.isLt.trans_eq N_0; omega⟩

/-- The product of one column of the input with one column of the gradient at one row. -/
def term (h : FVec Ideal S8192x2048 .f32) (e : FVec Ideal S8192x4096 .f32) (j : Fin 2048) (d : Fin 4096) (k : Fin 8192) : EReal := h (ix2 k j) * e (ix2 k d)
/-- What a point adds to its block. -/
def part (h : FVec Ideal S8192x2048 .f32) (e : FVec Ideal S8192x4096 .f32) (t : Fin cfg0.N) (y : S2048x1024.Idx) : EReal :=
  ∑ k : Fin 1024, term h e (y 0) (col t (y 1)) (row t k)

/-- The eight tiles are all the rows. -/
theorem whole (h : FVec Ideal S8192x2048 .f32) (e : FVec Ideal S8192x4096 .f32) (t : Fin cfg0.N) (ht : t.val % 8 = 8 - 1) (j : Fin 2048) (d : Fin 1024) :
    ∑ s : Fin 8, part h e ⟨8 * (t.val / 8) + s.val, Pipeline.run_point_lt_of_flush t ht s⟩ (ix2 j d) = ∑ k : Fin 8192, term h e j (col t d) k := by
  refine Fin.sum_mul_add_congr fun s k _ => ?_
  have hc : col ⟨8 * (t.val / 8) + s.val, Pipeline.run_point_lt_of_flush t ht s⟩ d = col t d := Fin.ext (by simp only [col]; omega)
  show term h e j (col ⟨8 * (t.val / 8) + s.val, Pipeline.run_point_lt_of_flush t ht s⟩ d) _ = _
  rw [hc]
  refine congrArg _ (Fin.ext ?_)
  simp only [row]
  omega

/-- The reference's product, its two axes exchanged. -/
def product (h : FVec Ideal S8192x2048 .f32) (e : FVec Ideal S8192x4096 .f32) : FVec Ideal S2048x4096 .f32 :=
  transpose S2048x4096 [1, 0] (Host.dotGeneral (F := Ideal) (φ₁ := .f32) (φ₂ := .f32) Cert.MixDwRefIdeal.dot_S8192x4096_S8192x2048_S4096x2048_0_0_1_1_n_n none e h)
    Cert.MixDwRefIdeal.Gen.transposes_S4096x2048_S2048x4096_1_0
theorem product_at (h : FVec Ideal S8192x2048 .f32) (e : FVec Ideal S8192x4096 .f32) (j : Fin 2048) (d : Fin 4096) :
    product h e (ix2 j d) = ∑ k : Fin 8192, term h e j d k := by
  pointwise [product]
  exact Finset.sum_congr rfl fun k _ => mul_comm (e (ix2 k d)) (h (ix2 k j))

variable (m : (ℓ : Loc nD τ sig) → Buf (Elt Ideal) ℓ) (c : Dev nD)

theorem V_rows : V m c main_v0 = (truncf .bf16 (m (c, main_arg0)) bitsLt_bf16_f32 : FVec Ideal S8192x2048 .bf16) := by
  show StableHlo.after hostOps0 (fun b => m (c, b)) main_v0 = _
  after_results_simp <;> rfl
theorem V_grad : V m c main_arg1 = m (c, main_arg1) := by
  show StableHlo.after hostOps0 (fun b => m (c, b)) main_arg1 = _
  after_results_simp <;> rfl

theorem emb0 (t : Fin cfg0.N) (k : Fin 1024) (j : Fin 2048) : ((cfg0.win 0).blk t).view.emb (ix2 k j) = ix2 (row t k) j := by
  blk_ext [idx0, row]
theorem emb1 (t : Fin cfg0.N) (k d : Fin 1024) : ((cfg0.win 1).blk t).view.emb (ix2 k d) = ix2 (row t k) (col t d) := by
  blk_ext [idx1, row, col]
theorem emb2 (t : Fin cfg0.N) (j : Fin 2048) (d : Fin 1024) : ((cfg0.win 2).blk t).view.emb (ix2 j d) = ix2 j (col t d) := by
  blk_ext [idx2, col]

theorem blk0 (t : Fin cfg0.N) (k : Fin 1024) (j : Fin 2048) : iblk m c 0 t (ix2 k j) = m (c, main_arg0) (ix2 (row t k) j) := by
  unfold iblk
  rw [View.read_apply, emb0]
  exact congrFun (V_rows m c) _
theorem blk1 (t : Fin cfg0.N) (k d : Fin 1024) : iblk m c 1 t (ix2 k d) = m (c, main_arg1) (ix2 (row t k) (col t d)) := by
  unfold iblk
  rw [View.read_apply, emb1]
  exact congrFun (V_grad m c) _

theorem zero_at (y : S2048x1024.Idx) : k0_pay1 (F := Ideal) y = (0 : EReal) := by
  obtain ⟨j, d, rfl⟩ : ∃ j d, y = ix2 j d := ⟨_, _, eq_ix2 y⟩
  pointwise [k0_pay1]

theorem step_at (a : Vec Ideal S2048x1024 .f32) (t : Fin cfg0.N) (y : S2048x1024.Idx) :
    k0_pay2 a (iblk m c 0 t) (iblk m c 1 t) y = a y + part (m (c, main_arg0)) (m (c, main_arg1)) t y := by
  obtain ⟨j, d, rfl⟩ : ∃ j d, y = ix2 j d := ⟨_, _, eq_ix2 y⟩
  pointwise [k0_pay2]
  simp only [blk0, blk1]
  rfl

/-- The scratch after a point that writes back is the reference's product there. -/
theorem scratch (t : Fin cfg0.N) (ht : t.val % 8 = 8 - 1) (j : Fin 2048) (d : Fin 1024) :
    (outsAt0 m c t.val t.isLt).2 (ix2 j d) = product (m (c, main_arg0)) (m (c, main_arg1)) (ix2 j (col t d)) := by
  rw [product_at, ← whole _ _ t ht, Pipeline.eq_sum_fin_of_reset_step_apply_of_flush (fun n h => (outsAt0 m c n h).2) 8 (fun _ => (0 : EReal))
    (part (m (c, main_arg0)) (m (c, main_arg1)))
    (fun t h y => by rw [outsAt0_A m c t h (by omega)]; frame_out; rw [step_at, zero_at])
    (fun t h y => by
      by_cases h7 : t.val % 8 = 7
      · rw [outsAt0_C m c t h h7]; frame_out; rw [step_at]; exact congrArg (· + _) (congrFun (Memref.IsWhole.read_unread _ _) y)
      · rw [outsAt0_B m c t h h7]; frame_out; rw [step_at]; exact congrArg (· + _) (congrFun (Memref.IsWhole.read_unread _ _) y)) t ht (ix2 j d), zero_add]

/-- At a point that writes back the output block is the scratch. -/
theorem out_at (t : Fin cfg0.N) (ht : t.val % 8 = 7) (j : Fin 2048) (d : Fin 1024) :
    (outsAt0 m c t.val t.isLt).1 (ix2 j d) = (outsAt0 m c t.val t.isLt).2 (ix2 j d) := by
  rw [outsAt0_C m c t (by omega) ht]
  frame_out
  pointwise [k0_pay3]

/-- The kernel's array is the reference's. -/
theorem value : (dats m 0 c).arrAt 2 cfg0.N = (truncf .bf16 (product (m (c, main_arg0)) (m (c, main_arg1))) bitsLt_bf16_f32 : FVec Ideal S2048x4096 .bf16) := by
  refine Pipeline.Dat.arrAt_eq_of_covers _ 2 _ (by decide +kernel) fun t hf (y : S2048x1024.Idx) => ?_
  have ht := (flush0_2 t).1 hf
  obtain ⟨j, d, rfl⟩ : ∃ j d, y = ix2 j d := ⟨_, _, eq_ix2 y⟩
  rw [emb2]
  show (dats m 0 c).after 2 t (ix2 j d) = _
  rw [after0_2, out_at m c t ht, scratch m c t ht]
  rfl

end Cert.MixDwIdeal.Mix

end
-- ==== Proof.MixoMm.lean ====
module

public import proofs.«01_k».proof.Proof.Gen.MixoMmIdeal.Value
public import proofs.«01_k».proof.Proof.Gen.MixoMmRefIdeal.Run
public import Idealize.ShloMosaic.Lib.Pipeline.ValueKit.Point
public import Idealize.ShloMosaic.Lib.Pointwise

@[expose] public section

set_option maxRecDepth 16384

/-! The mixer's output projection with the residual: the kernel's blocks are those of the reference's one product, alone and gated. -/

noncomputable section

namespace Cert.MixoMmIdeal.Mix

open Cert.MixoMmIdeal Cert.MixoMmIdeal.Gen
open Idealize.ShloMosaic Idealize.ShloMosaic.TcCoe Idealize.SL.Sem Idealize.ShloMosaic.Pointwise
open scoped BigOperators

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)
theorem idx3 : ∀ t : Fin cfg0.N, win0_3.index t = ![0, t.val % 2] := (by decide +kernel : ∀ t : Fin grid0.N, _)
theorem idx4 : ∀ t : Fin cfg0.N, win0_4.index t = ![t.val / 2, t.val % 2] := (by decide +kernel : ∀ t : Fin grid0.N, _)
theorem idx5 : ∀ t : Fin cfg0.N, win0_5.index t = ![t.val / 2, t.val % 2] := (by decide +kernel : ∀ t : Fin grid0.N, _)

/-- The row of the arrays under row `i` of a point's block, -/
def row (t : Fin cfg0.N) (i : Fin 1024) : Fin 8192 := ⟨t.val / 2 * 1024 + i.val, by have := t.isLt.trans_eq N_0; omega⟩
/-- and the column of the result under column `d`. -/
def col (t : Fin cfg0.N) (d : Fin 1024) : Fin 2048 := ⟨t.val % 2 * 1024 + d.val, by omega⟩

/-- The reference's product. -/
def product (a : FVec Ideal S8192x2048 .f32) (w : FVec Ideal S2048x2048 .f32) : FVec Ideal S8192x2048 .f32 :=
  Host.dotGeneral (F := Ideal) (φ₁ := .f32) (φ₂ := .f32) Cert.MixoMmRefIdeal.dot_S8192x2048_S2048x2048_S8192x2048_1_0_0_1_n_n none a w
theorem product_at (a : FVec Ideal S8192x2048 .f32) (w : FVec Ideal S2048x2048 .f32) (i : Fin 8192) (d : Fin 2048) :
    product a w (ix2 i d) = ∑ k : Fin 2048, a (ix2 i k) * w (ix2 k d) := by
  pointwise [product]
/-- The residual and the gated product, at an index. -/
def mix (x : FVec Ideal S8192x2048 .f32) (g : FVec Ideal S1x2048 .f32) (i : Fin 8192) (d : Fin 2048) (f : EReal) : EReal := x (ix2 i d) + g (ix2 0 d) * f
/-- The reference's first result: the residual and the gated product. -/
def gated (f x : FVec Ideal S8192x2048 .f32) (g : FVec Ideal S1x2048 .f32) : FVec Ideal S8192x2048 .f32 :=
  addf x (mulf (broadcastInDim S8192x2048 ![0, 1] Cert.MixoMmRefIdeal.Gen.bcast_S1x2048_S8192x2048_0_1 g) f)
theorem gated_at (f x : FVec Ideal S8192x2048 .f32) (g : FVec Ideal S1x2048 .f32) (i : Fin 8192) (d : Fin 2048) :
    gated f x g (ix2 i d) = mix x g i d (f (ix2 i d)) := by
  pointwise [gated]
  rfl

variable (m : (ℓ : Loc nD τ sig) → Buf (Elt Ideal) ℓ) (c : Dev nD)

theorem V_outputs : V m c main_v0 = (truncf .bf16 (m (c, main_arg0)) bitsLt_bf16_f32 : FVec Ideal S8192x2048 .bf16) := by
  show StableHlo.after hostOps0 (fun b => m (c, b)) main_v0 = _
  after_results_simp <;> rfl
theorem V_weights : V m c main_v1 = (truncf .bf16 (m (c, main_arg1)) bitsLt_bf16_f32 : FVec Ideal S2048x2048 .bf16) := by
  show StableHlo.after hostOps0 (fun b => m (c, b)) main_v1 = _
  after_results_simp <;> rfl
theorem V_res : V m c main_arg2 = m (c, main_arg2) := by
  show StableHlo.after hostOps0 (fun b => m (c, b)) main_arg2 = _
  after_results_simp <;> rfl
theorem V_gate : V m c main_arg3 = m (c, main_arg3) := by
  show StableHlo.after hostOps0 (fun b => m (c, b)) main_arg3 = _
  after_results_simp <;> rfl

theorem emb0 (t : Fin cfg0.N) (i : Fin 1024) (k : Fin 2048) : ((cfg0.win 0).blk t).view.emb (ix2 i k) = ix2 (row t i) k := by
  blk_ext [idx0, row]
theorem emb1 (t : Fin cfg0.N) (k : Fin 2048) (d : Fin 1024) : ((cfg0.win 1).blk t).view.emb (ix2 k d) = ix2 k (col t d) := by
  blk_ext [idx1, col]
theorem emb2 (t : Fin cfg0.N) (i d : Fin 1024) : ((cfg0.win 2).blk t).view.emb (ix2 i d) = ix2 (row t i) (col t d) := by
  blk_ext [idx2, row, col]
theorem emb3 (t : Fin cfg0.N) (d : Fin 1024) : ((cfg0.win 3).blk t).view.emb (ix2 0 d) = ix2 0 (col t d) := by
  blk_ext [idx3, col]
theorem emb4 (t : Fin cfg0.N) (i d : Fin 1024) : ((cfg0.win 4).blk t).view.emb (ix2 i d) = ix2 (row t i) (col t d) := by
  blk_ext [idx4, row, col]
theorem emb5 (t : Fin cfg0.N) (i d : Fin 1024) : ((cfg0.win 5).blk t).view.emb (ix2 i d) = ix2 (row t i) (col t d) := by
  blk_ext [idx5, row, col]

theorem blk0 (t : Fin cfg0.N) (i : Fin 1024) (k : Fin 2048) : iblk m c 0 t (ix2 i k) = m (c, main_arg0) (ix2 (row t i) k) := by
  unfold iblk
  rw [View.read_apply, emb0]
  exact congrFun (V_outputs m c) _
theorem blk1 (t : Fin cfg0.N) (k : Fin 2048) (d : Fin 1024) : iblk m c 1 t (ix2 k d) = m (c, main_arg1) (ix2 k (col t d)) := by
  unfold iblk
  rw [View.read_apply, emb1]
  exact congrFun (V_weights m c) _
theorem blk2 (t : Fin cfg0.N) (i d : Fin 1024) : iblk m c 2 t (ix2 i d) = m (c, main_arg2) (ix2 (row t i) (col t d)) := by
  unfold iblk
  rw [View.read_apply, emb2]
  exact congrFun (V_res m c) _
theorem blk3 (t : Fin cfg0.N) (d : Fin 1024) : iblk m c 3 t (ix2 0 d) = m (c, main_arg3) (ix2 0 (col t d)) := by
  unfold iblk
  rw [View.read_apply, emb3]
  exact congrFun (V_gate m c) _

/-- The product a point leaves in its scratch. -/
theorem acc_at (t : Fin cfg0.N) (i d : Fin 1024) :
    k0_pay2 (k0_pay1 (F := Ideal)) (iblk m c 0 t) (iblk m c 1 t) (ix2 i d) = product (m (c, main_arg0)) (m (c, main_arg1)) (ix2 (row t i) (col t d)) := by
  rw [product_at]
  pointwise [k0_pay2, k0_pay1]
  simp only [blk0, blk1]
theorem gate_at (f : Vec Ideal S1024x1024 .f32) (t : Fin cfg0.N) (i d : Fin 1024) :
    k0_pay3 f (iblk m c 2 t) (iblk m c 3 t) (ix2 i d) = mix (m (c, main_arg2)) (m (c, main_arg3)) (row t i) (col t d) (f (ix2 i d)) := by
  pointwise [k0_pay3]
  simp only [blk2, blk3]
  rfl

/-- A point's two output blocks. -/
theorem res_at (t : Fin cfg0.N) (i d : Fin 1024) :
    (outsAt0 m c t).1 (ix2 i d) = gated (product (m (c, main_arg0)) (m (c, main_arg1))) (m (c, main_arg2)) (m (c, main_arg3)) (ix2 (row t i) (col t d)) := by
  rw [gated_at, ← acc_at, ← gate_at]
  simp only [outsAt0]
  frame_out
theorem prod_at (t : Fin cfg0.N) (i d : Fin 1024) :
    (outsAt0 m c t).2 (ix2 i d) = product (m (c, main_arg0)) (m (c, main_arg1)) (ix2 (row t i) (col t d)) := by
  rw [← acc_at]
  simp only [outsAt0]
  frame_out
  pointwise [k0_pay4]

/-- The kernel's two arrays are the reference's. -/
theorem value_res : (dats m 0 c).arrAt 4 cfg0.N = gated (product (m (c, main_arg0)) (m (c, main_arg1))) (m (c, main_arg2)) (m (c, main_arg3)) := by
  refine Pipeline.Dat.arrAt_eq_of_covers _ 4 _ (by decide +kernel) fun t hf (y : S1024x1024.Idx) => ?_
  obtain ⟨i, d, rfl⟩ : ∃ i d, y = ix2 i d := ⟨_, _, eq_ix2 y⟩
  rw [emb4]
  show (dats m 0 c).after 4 t (ix2 i d) = _
  rw [after0_4, res_at]
theorem value_prod : (dats m 0 c).arrAt 5 cfg0.N = (truncf .bf16 (product (m (c, main_arg0)) (m (c, main_arg1))) bitsLt_bf16_f32 : FVec Ideal S8192x2048 .bf16) := by
  refine Pipeline.Dat.arrAt_eq_of_covers _ 5 _ (by decide +kernel) fun t hf (y : S1024x1024.Idx) => ?_
  obtain ⟨i, d, rfl⟩ : ∃ i d, y = ix2 i d := ⟨_, _, eq_ix2 y⟩
  rw [emb5]
  show (dats m 0 c).after 5 t (ix2 i d) = _
  rw [after0_5, prod_at]
  rfl

end Cert.MixoMmIdeal.Mix

end
-- ==== Proof.MixoDa.lean ====
module

public import proofs.«01_k».proof.Proof.Gen.MixoDaIdeal.Value
public import proofs.«01_k».proof.Proof.Gen.MixoDaRefIdeal.Run
public import Idealize.ShloMosaic.Lib.Pipeline.ValueKit.Point
public import Idealize.ShloMosaic.Lib.Pointwise

@[expose] public section

set_option maxRecDepth 16384

/-! The gradient of the mixer's outputs: the kernel's blocks are those of the reference's one product. -/

noncomputable section

namespace Cert.MixoDaIdeal.Mix

open Cert.MixoDaIdeal Cert.MixoDaIdeal.Gen
open Idealize.ShloMosaic Idealize.ShloMosaic.TcCoe Idealize.SL.Sem Idealize.ShloMosaic.Pointwise
open scoped BigOperators

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

/-- The row of the arrays under row `i` of a point's block, -/
def row (t : Fin cfg0.N) (i : Fin 1024) : Fin 8192 := ⟨t.val / 2 * 1024 + i.val, by have := t.isLt.trans_eq N_0; omega⟩
/-- and the column of the result under column `d`. -/
def col (t : Fin cfg0.N) (d : Fin 1024) : Fin 2048 := ⟨t.val % 2 * 1024 + d.val, by omega⟩

/-- The reference's product. -/
def product (e : FVec Ideal S8192x2048 .f32) (w : FVec Ideal S2048x2048 .f32) : FVec Ideal S8192x2048 .f32 :=
  Host.dotGeneral (F := Ideal) (φ₁ := .f32) (φ₂ := .f32) Cert.MixoDaRefIdeal.dot_S8192x2048_S2048x2048_S8192x2048_1_1_0_0_n_n none e w
theorem product_at (e : FVec Ideal S8192x2048 .f32) (w : FVec Ideal S2048x2048 .f32) (i : Fin 8192) (d : Fin 2048) :
    product e w (ix2 i d) = ∑ k : Fin 2048, e (ix2 i k) * w (ix2 d k) := by
  pointwise [product]

variable (m : (ℓ : Loc nD τ sig) → Buf (Elt Ideal) ℓ) (c : Dev nD)

theorem V_grad : V m c main_v0 = (truncf .bf16 (m (c, main_arg0)) bitsLt_bf16_f32 : FVec Ideal S8192x2048 .bf16) := by
  show StableHlo.after hostOps0 (fun b => m (c, b)) main_v0 = _
  after_results_simp <;> rfl
theorem V_weights : V m c main_v1 = (truncf .bf16 (m (c, main_arg1)) bitsLt_bf16_f32 : FVec Ideal S2048x2048 .bf16) := by
  show StableHlo.after hostOps0 (fun b => m (c, b)) main_v1 = _
  after_results_simp <;> rfl

theorem emb0 (t : Fin cfg0.N) (i : Fin 1024) (k : Fin 2048) : ((cfg0.win 0).blk t).view.emb (ix2 i k) = ix2 (row t i) k := by
  blk_ext [idx0, row]
theorem emb1 (t : Fin cfg0.N) (d : Fin 1024) (k : Fin 2048) : ((cfg0.win 1).blk t).view.emb (ix2 d k) = ix2 (col t d) k := by
  blk_ext [idx1, col]
theorem emb2 (t : Fin cfg0.N) (i d : Fin 1024) : ((cfg0.win 2).blk t).view.emb (ix2 i d) = ix2 (row t i) (col t d) := by
  blk_ext [idx2, row, col]

theorem blk0 (t : Fin cfg0.N) (i : Fin 1024) (k : Fin 2048) : iblk m c 0 t (ix2 i k) = m (c, main_arg0) (ix2 (row t i) k) := by
  unfold iblk
  rw [View.read_apply, emb0]
  exact congrFun (V_grad m c) _
theorem blk1 (t : Fin cfg0.N) (d : Fin 1024) (k : Fin 2048) : iblk m c 1 t (ix2 d k) = m (c, main_arg1) (ix2 (col t d) k) := by
  unfold iblk
  rw [View.read_apply, emb1]
  exact congrFun (V_weights m c) _

/-- A point's block of the product. -/
theorem out_at (t : Fin cfg0.N) (i d : Fin 1024) :
    outsAt0 m c t (ix2 i d) = product (m (c, main_arg0)) (m (c, main_arg1)) (ix2 (row t i) (col t d)) := by
  rw [product_at]
  simp only [outsAt0]
  frame_out
  pointwise [k0_pay3, k0_pay2, k0_pay1]
  simp only [blk0, blk1]

/-- The kernel's array is the reference's. -/
theorem value : (dats m 0 c).arrAt 2 cfg0.N = (truncf .bf16 (product (m (c, main_arg0)) (m (c, main_arg1))) bitsLt_bf16_f32 : FVec Ideal S8192x2048 .bf16) := by
  refine Pipeline.Dat.arrAt_eq_of_covers _ 2 _ (by decide +kernel) fun t hf (y : S1024x1024.Idx) => ?_
  obtain ⟨i, d, rfl⟩ : ∃ i d, y = ix2 i d := ⟨_, _, eq_ix2 y⟩
  rw [emb2]
  show (dats m 0 c).after 2 t (ix2 i d) = _
  rw [after0_2, out_at]
  rfl

end Cert.MixoDaIdeal.Mix

end
-- ==== Proof.MixoDw.lean ====
module

public import proofs.«01_k».proof.Proof.Gen.MixoDwIdeal.Value
public import proofs.«01_k».proof.Proof.Gen.MixoDwRefIdeal.Run
public import Idealize.ShloMosaic.Lib.Pipeline.ValueKit.Point
public import Idealize.ShloMosaic.Lib.Pipeline.ValueKit.Acc
public import Idealize.ShloMosaic.Lib.Pointwise

@[expose] public section

set_option maxRecDepth 16384

/-! The gradient of the mixer's output weights: the kernel's blocked products summed over the row tiles are the reference's one product. -/

noncomputable section

namespace Cert.MixoDwIdeal.Mix

open Cert.MixoDwIdeal Cert.MixoDwIdeal.Gen
open Idealize.ShloMosaic Idealize.ShloMosaic.TcCoe Idealize.SL.Sem Idealize.ShloMosaic.Pointwise
open scoped BigOperators

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, 0] := (by decide +kernel : ∀ t : Fin grid0.N, _)

/-- The row of the arrays under row `k` of a point's block, -/
def row (t : Fin cfg0.N) (k : Fin 1024) : Fin 8192 := ⟨t.val % 8 * 1024 + k.val, by omega⟩
/-- and the column of the mixer's outputs under column `b`. -/
def col (t : Fin cfg0.N) (b : Fin 1024) : Fin 2048 := ⟨t.val / 8 * 1024 + b.val, by have := t.isLt.trans_eq N_0; omega⟩

/-- The product of one column of the outputs with one column of the gradient at one row. -/
def term (a e : FVec Ideal S8192x2048 .f32) (j d : Fin 2048) (k : Fin 8192) : EReal := a (ix2 k j) * e (ix2 k d)
/-- What a point adds to its block. -/
def part (a e : FVec Ideal S8192x2048 .f32) (t : Fin cfg0.N) (y : S1024x2048.Idx) : EReal :=
  ∑ k : Fin 1024, term a e (col t (y 0)) (y 1) (row t k)

/-- The eight tiles are all the rows. -/
theorem whole (a e : FVec Ideal S8192x2048 .f32) (t : Fin cfg0.N) (ht : t.val % 8 = 8 - 1) (j : Fin 1024) (d : Fin 2048) :
    ∑ s : Fin 8, part a e ⟨8 * (t.val / 8) + s.val, Pipeline.run_point_lt_of_flush t ht s⟩ (ix2 j d) = ∑ k : Fin 8192, term a e (col t j) d k := by
  refine Fin.sum_mul_add_congr fun s k _ => ?_
  have hc : col ⟨8 * (t.val / 8) + s.val, Pipeline.run_point_lt_of_flush t ht s⟩ j = col t j := Fin.ext (by simp only [col]; omega)
  show term a e (col ⟨8 * (t.val / 8) + s.val, Pipeline.run_point_lt_of_flush t ht s⟩ j) d _ = _
  rw [hc]
  refine congrArg _ (Fin.ext ?_)
  simp only [row]
  omega

/-- The reference's product, its two axes exchanged. -/
def product (a e : FVec Ideal S8192x2048 .f32) : FVec Ideal S2048x2048 .f32 :=
  transpose S2048x2048 [1, 0] (Host.dotGeneral (F := Ideal) (φ₁ := .f32) (φ₂ := .f32) Cert.MixoDwRefIdeal.dot_S8192x2048_S8192x2048_S2048x2048_0_0_1_1_n_n none e a)
    Cert.MixoDwRefIdeal.Gen.transposes_S2048x2048_S2048x2048_1_0
theorem product_at (a e : FVec Ideal S8192x2048 .f32) (j d : Fin 2048) :
    product a e (ix2 j d) = ∑ k : Fin 8192, term a e j d k := by
  pointwise [product]
  exact Finset.sum_congr rfl fun k _ => mul_comm (e (ix2 k d)) (a (ix2 k j))

variable (m : (ℓ : Loc nD τ sig) → Buf (Elt Ideal) ℓ) (c : Dev nD)

theorem V_out : V m c main_v0 = (truncf .bf16 (m (c, main_arg0)) bitsLt_bf16_f32 : FVec Ideal S8192x2048 .bf16) := by
  show StableHlo.after hostOps0 (fun b => m (c, b)) main_v0 = _
  after_results_simp <;> rfl
theorem V_grad : V m c main_v1 = (truncf .bf16 (m (c, main_arg1)) bitsLt_bf16_f32 : FVec Ideal S8192x2048 .bf16) := by
  show StableHlo.after hostOps0 (fun b => m (c, b)) main_v1 = _
  after_results_simp <;> rfl

theorem emb0 (t : Fin cfg0.N) (k j : Fin 1024) : ((cfg0.win 0).blk t).view.emb (ix2 k j) = ix2 (row t k) (col t j) := by
  blk_ext [idx0, row, col]
theorem emb1 (t : Fin cfg0.N) (k : Fin 1024) (d : Fin 2048) : ((cfg0.win 1).blk t).view.emb (ix2 k d) = ix2 (row t k) d := by
  blk_ext [idx1, row]
theorem emb2 (t : Fin cfg0.N) (j : Fin 1024) (d : Fin 2048) : ((cfg0.win 2).blk t).view.emb (ix2 j d) = ix2 (col t j) d := by
  blk_ext [idx2, col]

theorem blk0 (t : Fin cfg0.N) (k j : Fin 1024) : iblk m c 0 t (ix2 k j) = m (c, main_arg0) (ix2 (row t k) (col t j)) := by
  unfold iblk
  rw [View.read_apply, emb0]
  exact congrFun (V_out m c) _
theorem blk1 (t : Fin cfg0.N) (k : Fin 1024) (d : Fin 2048) : iblk m c 1 t (ix2 k d) = m (c, main_arg1) (ix2 (row t k) d) := by
  unfold iblk
  rw [View.read_apply, emb1]
  exact congrFun (V_grad m c) _

theorem zero_at (y : S1024x2048.Idx) : k0_pay1 (F := Ideal) y = (0 : EReal) := by
  obtain ⟨j, d, rfl⟩ : ∃ j d, y = ix2 j d := ⟨_, _, eq_ix2 y⟩
  pointwise [k0_pay1]

theorem step_at (a : Vec Ideal S1024x2048 .f32) (t : Fin cfg0.N) (y : S1024x2048.Idx) :
    k0_pay2 a (iblk m c 0 t) (iblk m c 1 t) y = a y + part (m (c, main_arg0)) (m (c, main_arg1)) t y := by
  obtain ⟨j, d, rfl⟩ : ∃ j d, y = ix2 j d := ⟨_, _, eq_ix2 y⟩
  pointwise [k0_pay2]
  simp only [blk0, blk1]
  rfl

/-- The scratch after a point that writes back is the reference's product there. -/
theorem scratch (t : Fin cfg0.N) (ht : t.val % 8 = 8 - 1) (j : Fin 1024) (d : Fin 2048) :
    (outsAt0 m c t.val t.isLt).2 (ix2 j d) = product (m (c, main_arg0)) (m (c, main_arg1)) (ix2 (col t j) d) := by
  rw [product_at, ← whole _ _ t ht, Pipeline.eq_sum_fin_of_reset_step_apply_of_flush (fun n h => (outsAt0 m c n h).2) 8 (fun _ => (0 : EReal))
    (part (m (c, main_arg0)) (m (c, main_arg1)))
    (fun t h y => by rw [outsAt0_A m c t h (by omega)]; frame_out; rw [step_at, zero_at])
    (fun t h y => by
      by_cases h7 : t.val % 8 = 7
      · rw [outsAt0_C m c t h h7]; frame_out; rw [step_at]; exact congrArg (· + _) (congrFun (Memref.IsWhole.read_unread _ _) y)
      · rw [outsAt0_B m c t h h7]; frame_out; rw [step_at]; exact congrArg (· + _) (congrFun (Memref.IsWhole.read_unread _ _) y)) t ht (ix2 j d), zero_add]

/-- At a point that writes back the output block is the scratch. -/
theorem out_at (t : Fin cfg0.N) (ht : t.val % 8 = 7) (j : Fin 1024) (d : Fin 2048) :
    (outsAt0 m c t.val t.isLt).1 (ix2 j d) = (outsAt0 m c t.val t.isLt).2 (ix2 j d) := by
  rw [outsAt0_C m c t (by omega) ht]
  frame_out
  pointwise [k0_pay3]

/-- The kernel's array is the reference's. -/
theorem value : (dats m 0 c).arrAt 2 cfg0.N = (truncf .bf16 (product (m (c, main_arg0)) (m (c, main_arg1))) bitsLt_bf16_f32 : FVec Ideal S2048x2048 .bf16) := by
  refine Pipeline.Dat.arrAt_eq_of_covers _ 2 _ (by decide +kernel) fun t hf (y : S1024x2048.Idx) => ?_
  have ht := (flush0_2 t).1 hf
  obtain ⟨j, d, rfl⟩ : ∃ j d, y = ix2 j d := ⟨_, _, eq_ix2 y⟩
  rw [emb2]
  show (dats m 0 c).after 2 t (ix2 j d) = _
  rw [after0_2, out_at m c t ht, scratch m c t ht]
  rfl

end Cert.MixoDwIdeal.Mix

end
-- ==== Proof.MixClaims.lean ====
module

public import proofs.«01_k».proof.Defs
public import proofs.«01_k».proof.Proof.MixMm
public import proofs.«01_k».proof.Proof.MixDh
public import proofs.«01_k».proof.Proof.MixDw
public import proofs.«01_k».proof.Proof.MixoMm
public import proofs.«01_k».proof.Proof.MixoDa
public import proofs.«01_k».proof.Proof.MixoDw
public import Idealize.ShloMosaic.Adequacy
public import Idealize.ShloMosaic.Init

@[expose] public section

/-! The equations of the mixer's projections, and the ends of their references. -/

noncomputable section

namespace Cert.MixClaims

open Cert Idealize.ShloMosaic Idealize.ShloMosaic.TcCoe Idealize.SL.Sem

theorem ends_mm : quiescent_MixMmRefIdeal := fun m ρ _ =>
  (θ_run MixMmRefIdeal.defs _ _).mono (fun r h => ⟨fun c => (h c).2, sem_eq_zero_of_no_sems (by decide) r.2⟩) (MixMmRefIdeal.Value.run m ρ)
theorem ends_dh : quiescent_MixDhRefIdeal := fun m ρ _ =>
  (θ_run MixDhRefIdeal.defs _ _).mono (fun r h => ⟨fun c => (h c).2, sem_eq_zero_of_no_sems (by decide) r.2⟩) (MixDhRefIdeal.Value.run m ρ)
theorem ends_dw : quiescent_MixDwRefIdeal := fun m ρ _ =>
  (θ_run MixDwRefIdeal.defs _ _).mono (fun r h => ⟨fun c => (h c).2, sem_eq_zero_of_no_sems (by decide) r.2⟩) (MixDwRefIdeal.Value.run m ρ)
theorem ends_out : quiescent_MixoMmRefIdeal := fun m ρ _ =>
  (θ_run MixoMmRefIdeal.defs _ _).mono (fun r h => ⟨fun c => (h c).2.2, sem_eq_zero_of_no_sems (by decide) r.2⟩) (MixoMmRefIdeal.Value.run m ρ)
theorem ends_out_da : quiescent_MixoDaRefIdeal := fun m ρ _ =>
  (θ_run MixoDaRefIdeal.defs _ _).mono (fun r h => ⟨fun c => (h c).2, sem_eq_zero_of_no_sems (by decide) r.2⟩) (MixoDaRefIdeal.Value.run m ρ)
theorem ends_out_dw : quiescent_MixoDwRefIdeal := fun m ρ _ =>
  (θ_run MixoDwRefIdeal.defs _ _).mono (fun r h => ⟨fun c => (h c).2, sem_eq_zero_of_no_sems (by decide) r.2⟩) (MixoDwRefIdeal.Value.run m ρ)

/-- The combined projection. -/
theorem values_mm : algebraic_MixMmIdeal_MixMmRefIdeal := fun m ρ m' ρ' _ ha =>
  ⟨_, (θ_run MixMmIdeal.defs _ _).mono (fun _ h c => ⟨(h c).1.trans (MixMmIdeal.Mix.value m c), (h c).2⟩) (MixMmIdeal.Value.run_blocks m ρ),
    (θ_run MixMmRefIdeal.defs _ _).mono (fun _ h c => by
      obtain ⟨h0, hr⟩ := h c
      obtain ⟨a0, a1⟩ := ha c
      rw [a0, a1] at h0
      exact ⟨h0, hr⟩) (MixMmRefIdeal.Value.run m' ρ')⟩

/-- The gradient of the normed input. -/
theorem values_dh : algebraic_MixDhIdeal_MixDhRefIdeal := fun m ρ m' ρ' _ ha =>
  ⟨_, (θ_run MixDhIdeal.defs _ _).mono (fun _ h c => ⟨(h c).1.trans (MixDhIdeal.Mix.value m c), (h c).2⟩) (MixDhIdeal.Value.run_blocks m ρ),
    (θ_run MixDhRefIdeal.defs _ _).mono (fun _ h c => by
      obtain ⟨h0, hr⟩ := h c
      obtain ⟨a0, a1⟩ := ha c
      rw [a0, a1] at h0
      exact ⟨h0, hr⟩) (MixDhRefIdeal.Value.run m' ρ')⟩

/-- The gradient of the input weights. -/
theorem values_dw : algebraic_MixDwIdeal_MixDwRefIdeal := fun m ρ m' ρ' _ ha =>
  ⟨_, (θ_run MixDwIdeal.defs _ _).mono (fun _ h c => ⟨(h c).1.trans (MixDwIdeal.Mix.value m c), (h c).2⟩) (MixDwIdeal.Value.run_blocks m ρ),
    (θ_run MixDwRefIdeal.defs _ _).mono (fun _ h c => by
      obtain ⟨h0, hr⟩ := h c
      obtain ⟨a0, a1⟩ := ha c
      rw [a0, a1] at h0
      exact ⟨h0, hr⟩) (MixDwRefIdeal.Value.run m' ρ')⟩

/-- The output projection, alone and gated onto the residual. -/
theorem values_out : algebraic_MixoMmIdeal_MixoMmRefIdeal := fun m ρ m' ρ' _ ha =>
  ⟨_, _, (θ_run MixoMmIdeal.defs _ _).mono (fun _ h c => ⟨(h c).1.trans (MixoMmIdeal.Mix.value_res m c), (h c).2.1.trans (MixoMmIdeal.Mix.value_prod m c), (h c).2.2⟩)
      (MixoMmIdeal.Value.run_blocks m ρ),
    (θ_run MixoMmRefIdeal.defs _ _).mono (fun _ h c => by
      obtain ⟨h0, h1, hr⟩ := h c
      obtain ⟨a0, a1, a2, a3⟩ := ha c
      rw [a0, a1, a2, a3] at h0
      rw [a0, a1] at h1
      exact ⟨h0, h1, hr⟩) (MixoMmRefIdeal.Value.run m' ρ')⟩

/-- The gradient of the mixer's outputs. -/
theorem values_out_da : algebraic_MixoDaIdeal_MixoDaRefIdeal := fun m ρ m' ρ' _ ha =>
  ⟨_, (θ_run MixoDaIdeal.defs _ _).mono (fun _ h c => ⟨(h c).1.trans (MixoDaIdeal.Mix.value m c), (h c).2⟩) (MixoDaIdeal.Value.run_blocks m ρ),
    (θ_run MixoDaRefIdeal.defs _ _).mono (fun _ h c => by
      obtain ⟨h0, hr⟩ := h c
      obtain ⟨a0, a1⟩ := ha c
      rw [a0, a1] at h0
      exact ⟨h0, hr⟩) (MixoDaRefIdeal.Value.run m' ρ')⟩

/-- The gradient of the output weights. -/
theorem values_out_dw : algebraic_MixoDwIdeal_MixoDwRefIdeal := fun m ρ m' ρ' _ ha =>
  ⟨_, (θ_run MixoDwIdeal.defs _ _).mono (fun _ h c => ⟨(h c).1.trans (MixoDwIdeal.Mix.value m c), (h c).2⟩) (MixoDwIdeal.Value.run_blocks m ρ),
    (θ_run MixoDwRefIdeal.defs _ _).mono (fun _ h c => by
      obtain ⟨h0, hr⟩ := h c
      obtain ⟨a0, a1⟩ := ha c
      rw [a0, a1] at h0
      exact ⟨h0, hr⟩) (MixoDwRefIdeal.Value.run m' ρ')⟩

end Cert.MixClaims

end
-- ==== Proof.UqMm.lean ====
module

public import proofs.«01_k».proof.Proof.Gen.UqMmIdeal.Value
public import proofs.«01_k».proof.Proof.Gen.UqMmRefIdeal.Run
public import Idealize.ShloMosaic.Lib.Pipeline.ValueKit.Point
public import Idealize.ShloMosaic.Lib.Pointwise

@[expose] public section

set_option maxRecDepth 16384

/-! The query's projection from its compressed form: the kernel's blocks are those of the reference's one product. -/

noncomputable section

namespace Cert.UqMmIdeal.Up

open Cert.UqMmIdeal Cert.UqMmIdeal.Gen
open Idealize.ShloMosaic Idealize.ShloMosaic.TcCoe Idealize.SL.Sem Idealize.ShloMosaic.Pointwise
open scoped BigOperators

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The row of the arrays under row `i` of a point's block, -/
def row (t : Fin cfg0.N) (i : Fin 1024) : Fin 8192 := ⟨t.val / 2 * 1024 + i.val, by have := t.isLt.trans_eq N_0; omega⟩
/-- and the column of the result under column `d`. -/
def col (t : Fin cfg0.N) (d : Fin 768) : Fin 1536 := ⟨t.val % 2 * 768 + d.val, by omega⟩

/-- The reference's product. -/
def product (h : FVec Ideal S8192x512 .f32) (w : FVec Ideal S512x1536 .f32) : FVec Ideal S8192x1536 .f32 :=
  Host.dotGeneral (F := Ideal) (φ₁ := .f32) (φ₂ := .f32) Cert.UqMmRefIdeal.dot_S8192x512_S512x1536_S8192x1536_1_0_0_1_n_n none h w
theorem product_at (h : FVec Ideal S8192x512 .f32) (w : FVec Ideal S512x1536 .f32) (i : Fin 8192) (d : Fin 1536) :
    product h w (ix2 i d) = ∑ k : Fin 512, h (ix2 i k) * w (ix2 k d) := by
  pointwise [product]

variable (m : (ℓ : Loc nD τ sig) → Buf (Elt Ideal) ℓ) (c : Dev nD)

theorem V_rows : V m c main_v0 = (truncf .bf16 (m (c, main_arg0)) bitsLt_bf16_f32 : FVec Ideal S8192x512 .bf16) := by
  show StableHlo.after hostOps0 (fun b => m (c, b)) main_v0 = _
  after_results_simp <;> rfl
theorem V_weights : V m c main_v1 = (truncf .bf16 (m (c, main_arg1)) bitsLt_bf16_f32 : FVec Ideal S512x1536 .bf16) := by
  show StableHlo.after hostOps0 (fun b => m (c, b)) main_v1 = _
  after_results_simp <;> rfl

theorem emb0 (t : Fin cfg0.N) (i : Fin 1024) (k : Fin 512) : ((cfg0.win 0).blk t).view.emb (ix2 i k) = ix2 (row t i) k := by
  blk_ext [idx0, row]
theorem emb1 (t : Fin cfg0.N) (k : Fin 512) (d : Fin 768) : ((cfg0.win 1).blk t).view.emb (ix2 k d) = ix2 k (col t d) := by
  blk_ext [idx1, col]
theorem emb2 (t : Fin cfg0.N) (i : Fin 1024) (d : Fin 768) : ((cfg0.win 2).blk t).view.emb (ix2 i d) = ix2 (row t i) (col t d) := by
  blk_ext [idx2, row, col]

theorem blk0 (t : Fin cfg0.N) (i : Fin 1024) (k : Fin 512) : iblk m c 0 t (ix2 i k) = m (c, main_arg0) (ix2 (row t i) k) := by
  unfold iblk
  rw [View.read_apply, emb0]
  exact congrFun (V_rows m c) _
theorem blk1 (t : Fin cfg0.N) (k : Fin 512) (d : Fin 768) : iblk m c 1 t (ix2 k d) = m (c, main_arg1) (ix2 k (col t d)) := by
  unfold iblk
  rw [View.read_apply, emb1]
  exact congrFun (V_weights m c) _

/-- A point's block of the product. -/
theorem out_at (t : Fin cfg0.N) (i : Fin 1024) (d : Fin 768) :
    outsAt0 m c t (ix2 i d) = product (m (c, main_arg0)) (m (c, main_arg1)) (ix2 (row t i) (col t d)) := by
  rw [product_at]
  simp only [outsAt0]
  frame_out
  pointwise [k0_pay2, k0_pay1]
  simp only [blk0, blk1]

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S1024x768.Idx) => ?_
  obtain ⟨i, d, rfl⟩ : ∃ i d, y = ix2 i d := ⟨_, _, eq_ix2 y⟩
  rw [emb2]
  show (dats m 0 c).after 2 t (ix2 i d) = _
  rw [after0_2, out_at]

end Cert.UqMmIdeal.Up

end
-- ==== Proof.UqDh.lean ====
module

public import proofs.«01_k».proof.Proof.Gen.UqDhIdeal.Value
public import proofs.«01_k».proof.Proof.Gen.UqDhRefIdeal.Run
public import Idealize.ShloMosaic.Lib.Pipeline.ValueKit.Point
public import Idealize.ShloMosaic.Lib.Pointwise

@[expose] public section

set_option maxRecDepth 16384

/-! The gradient of the compressed query: the kernel's row blocks are those of the reference's one product. -/

noncomputable section

namespace Cert.UqDhIdeal.Up

open Cert.UqDhIdeal Cert.UqDhIdeal.Gen
open Idealize.ShloMosaic Idealize.ShloMosaic.TcCoe Idealize.SL.Sem Idealize.ShloMosaic.Pointwise
open scoped BigOperators

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The row of the arrays under row `i` of a point's block. -/
def row (t : Fin cfg0.N) (i : Fin 512) : Fin 8192 := ⟨t.val * 512 + i.val, by have := t.isLt.trans_eq N_0; omega⟩

/-- The reference's product. -/
def product (e : FVec Ideal S8192x1536 .f32) (w : FVec Ideal S512x1536 .f32) : FVec Ideal S8192x512 .f32 :=
  Host.dotGeneral (F := Ideal) (φ₁ := .f32) (φ₂ := .f32) Cert.UqDhRefIdeal.dot_S8192x1536_S512x1536_S8192x512_1_1_0_0_n_n none e w
theorem product_at (e : FVec Ideal S8192x1536 .f32) (w : FVec Ideal S512x1536 .f32) (i : Fin 8192) (d : Fin 512) :
    product e w (ix2 i d) = ∑ k : Fin 1536, e (ix2 i k) * w (ix2 d k) := by
  pointwise [product]

variable (m : (ℓ : Loc nD τ sig) → Buf (Elt Ideal) ℓ) (c : Dev nD)

theorem V_grad : V m c main_arg0 = m (c, main_arg0) := by
  show StableHlo.after hostOps0 (fun b => m (c, b)) main_arg0 = _
  after_results_simp <;> rfl
theorem V_weights : V m c main_v0 = (truncf .bf16 (m (c, main_arg1)) bitsLt_bf16_f32 : FVec Ideal S512x1536 .bf16) := by
  show StableHlo.after hostOps0 (fun b => m (c, b)) main_v0 = _
  after_results_simp <;> rfl

theorem emb0 (t : Fin cfg0.N) (i : Fin 512) (k : Fin 1536) : ((cfg0.win 0).blk t).view.emb (ix2 i k) = ix2 (row t i) k := by
  blk_ext [idx0, row]
theorem emb1 (t : Fin cfg0.N) (d : Fin 512) (k : Fin 1536) : ((cfg0.win 1).blk t).view.emb (ix2 d k) = ix2 d k := by
  blk_ext [idx1]
theorem emb2 (t : Fin cfg0.N) (i d : Fin 512) : ((cfg0.win 2).blk t).view.emb (ix2 i d) = ix2 (row t i) d := by
  blk_ext [idx2, row]

theorem blk0 (t : Fin cfg0.N) (i : Fin 512) (k : Fin 1536) : iblk m c 0 t (ix2 i k) = m (c, main_arg0) (ix2 (row t i) k) := by
  unfold iblk
  rw [View.read_apply, emb0]
  exact congrFun (V_grad m c) _
theorem blk1 (t : Fin cfg0.N) (d : Fin 512) (k : Fin 1536) : iblk m c 1 t (ix2 d k) = m (c, main_arg1) (ix2 d k) := by
  unfold iblk
  rw [View.read_apply, emb1]
  exact congrFun (V_weights m c) _

/-- A point's block of the product. -/
theorem out_at (t : Fin cfg0.N) (i d : Fin 512) :
    outsAt0 m c t (ix2 i d) = product (m (c, main_arg0)) (m (c, main_arg1)) (ix2 (row t i) d) := by
  rw [product_at]
  simp only [outsAt0]
  frame_out
  pointwise [k0_pay2, k0_pay1]
  simp only [blk0, blk1]

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S512x512.Idx) => ?_
  obtain ⟨i, d, rfl⟩ : ∃ i d, y = ix2 i d := ⟨_, _, eq_ix2 y⟩
  rw [emb2]
  show (dats m 0 c).after 2 t (ix2 i d) = _
  rw [after0_2, out_at]

end Cert.UqDhIdeal.Up

end
-- ==== Proof.UqDw.lean ====
module

public import proofs.«01_k».proof.Proof.Gen.UqDwIdeal.Value
public import proofs.«01_k».proof.Proof.Gen.UqDwRefIdeal.Run
public import Idealize.ShloMosaic.Lib.Pipeline.ValueKit.Point
public import Idealize.ShloMosaic.Lib.Pipeline.ValueKit.Acc
public import Idealize.ShloMosaic.Lib.Pointwise

@[expose] public section

set_option maxRecDepth 16384

/-! The gradient of the weights of the query's projection: the kernel's blocked products summed over the row tiles are the reference's one product. -/

noncomputable section

namespace Cert.UqDwIdeal.Up

open Cert.UqDwIdeal Cert.UqDwIdeal.Gen
open Idealize.ShloMosaic Idealize.ShloMosaic.TcCoe Idealize.SL.Sem Idealize.ShloMosaic.Pointwise
open scoped BigOperators

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

/-- The row of the arrays under row `k` of a point's block, -/
def row (t : Fin cfg0.N) (k : Fin 1024) : Fin 8192 := ⟨t.val % 8 * 1024 + k.val, by omega⟩
/-- and the column of the gradient under column `b`. -/
def col (t : Fin cfg0.N) (b : Fin 768) : Fin 1536 := ⟨t.val / 8 * 768 + b.val, by have := t.isLt.trans_eq N_0; omega⟩

/-- The product of one column of the input with one column of the gradient at one row. -/
def term (h : FVec Ideal S8192x512 .f32) (e : FVec Ideal S8192x1536 .f32) (j : Fin 512) (d : Fin 1536) (k : Fin 8192) : EReal := h (ix2 k j) * e (ix2 k d)
/-- What a point adds to its block. -/
def part (h : FVec Ideal S8192x512 .f32) (e : FVec Ideal S8192x1536 .f32) (t : Fin cfg0.N) (y : S512x768.Idx) : EReal :=
  ∑ k : Fin 1024, term h e (y 0) (col t (y 1)) (row t k)

/-- The eight tiles are all the rows. -/
theorem whole (h : FVec Ideal S8192x512 .f32) (e : FVec Ideal S8192x1536 .f32) (t : Fin cfg0.N) (ht : t.val % 8 = 8 - 1) (j : Fin 512) (d : Fin 768) :
    ∑ s : Fin 8, part h e ⟨8 * (t.val / 8) + s.val, Pipeline.run_point_lt_of_flush t ht s⟩ (ix2 j d) = ∑ k : Fin 8192, term h e j (col t d) k := by
  refine Fin.sum_mul_add_congr fun s k _ => ?_
  have hc : col ⟨8 * (t.val / 8) + s.val, Pipeline.run_point_lt_of_flush t ht s⟩ d = col t d := Fin.ext (by simp only [col]; omega)
  show term h e j (col ⟨8 * (t.val / 8) + s.val, Pipeline.run_point_lt_of_flush t ht s⟩ d) _ = _
  rw [hc]
  refine congrArg _ (Fin.ext ?_)
  simp only [row]
  omega

/-- The reference's product, its two axes exchanged. -/
def product (h : FVec Ideal S8192x512 .f32) (e : FVec Ideal S8192x1536 .f32) : FVec Ideal S512x1536 .f32 :=
  transpose S512x1536 [1, 0] (Host.dotGeneral (F := Ideal) (φ₁ := .f32) (φ₂ := .f32) Cert.UqDwRefIdeal.dot_S8192x1536_S8192x512_S1536x512_0_0_1_1_n_n none e h)
    Cert.UqDwRefIdeal.Gen.transposes_S1536x512_S512x1536_1_0
theorem product_at (h : FVec Ideal S8192x512 .f32) (e : FVec Ideal S8192x1536 .f32) (j : Fin 512) (d : Fin 1536) :
    product h e (ix2 j d) = ∑ k : Fin 8192, term h e j d k := by
  pointwise [product]
  exact Finset.sum_congr rfl fun k _ => mul_comm (e (ix2 k d)) (h (ix2 k j))

variable (m : (ℓ : Loc nD τ sig) → Buf (Elt Ideal) ℓ) (c : Dev nD)

theorem V_rows : V m c main_v0 = (truncf .bf16 (m (c, main_arg0)) bitsLt_bf16_f32 : FVec Ideal S8192x512 .bf16) := by
  show StableHlo.after hostOps0 (fun b => m (c, b)) main_v0 = _
  after_results_simp <;> rfl
theorem V_grad : V m c main_arg1 = m (c, main_arg1) := by
  show StableHlo.after hostOps0 (fun b => m (c, b)) main_arg1 = _
  after_results_simp <;> rfl

theorem emb0 (t : Fin cfg0.N) (k : Fin 1024) (j : Fin 512) : ((cfg0.win 0).blk t).view.emb (ix2 k j) = ix2 (row t k) j := by
  blk_ext [idx0, row]
theorem emb1 (t : Fin cfg0.N) (k : Fin 1024) (d : Fin 768) : ((cfg0.win 1).blk t).view.emb (ix2 k d) = ix2 (row t k) (col t d) := by
  blk_ext [idx1, row, col]
theorem emb2 (t : Fin cfg0.N) (j : Fin 512) (d : Fin 768) : ((cfg0.win 2).blk t).view.emb (ix2 j d) = ix2 j (col t d) := by
  blk_ext [idx2, col]

theorem blk0 (t : Fin cfg0.N) (k : Fin 1024) (j : Fin 512) : iblk m c 0 t (ix2 k j) = m (c, main_arg0) (ix2 (row t k) j) := by
  unfold iblk
  rw [View.read_apply, emb0]
  exact congrFun (V_rows m c) _
theorem blk1 (t : Fin cfg0.N) (k : Fin 1024) (d : Fin 768) : iblk m c 1 t (ix2 k d) = m (c, main_arg1) (ix2 (row t k) (col t d)) := by
  unfold iblk
  rw [View.read_apply, emb1]
  exact congrFun (V_grad m c) _

theorem zero_at (y : S512x768.Idx) : k0_pay1 (F := Ideal) y = (0 : EReal) := by
  obtain ⟨j, d, rfl⟩ : ∃ j d, y = ix2 j d := ⟨_, _, eq_ix2 y⟩
  pointwise [k0_pay1]

theorem step_at (a : Vec Ideal S512x768 .f32) (t : Fin cfg0.N) (y : S512x768.Idx) :
    k0_pay2 a (iblk m c 0 t) (iblk m c 1 t) y = a y + part (m (c, main_arg0)) (m (c, main_arg1)) t y := by
  obtain ⟨j, d, rfl⟩ : ∃ j d, y = ix2 j d := ⟨_, _, eq_ix2 y⟩
  pointwise [k0_pay2]
  simp only [blk0, blk1]
  rfl

/-- The scratch after a point that writes back is the reference's product there. -/
theorem scratch (t : Fin cfg0.N) (ht : t.val % 8 = 8 - 1) (j : Fin 512) (d : Fin 768) :
    (outsAt0 m c t.val t.isLt).2 (ix2 j d) = product (m (c, main_arg0)) (m (c, main_arg1)) (ix2 j (col t d)) := by
  rw [product_at, ← whole _ _ t ht, Pipeline.eq_sum_fin_of_reset_step_apply_of_flush (fun n h => (outsAt0 m c n h).2) 8 (fun _ => (0 : EReal))
    (part (m (c, main_arg0)) (m (c, main_arg1)))
    (fun t h y => by rw [outsAt0_A m c t h (by omega)]; frame_out; rw [step_at, zero_at])
    (fun t h y => by
      by_cases h7 : t.val % 8 = 7
      · rw [outsAt0_C m c t h h7]; frame_out; rw [step_at]; exact congrArg (· + _) (congrFun (Memref.IsWhole.read_unread _ _) y)
      · rw [outsAt0_B m c t h h7]; frame_out; rw [step_at]; exact congrArg (· + _) (congrFun (Memref.IsWhole.read_unread _ _) y)) t ht (ix2 j d), zero_add]

/-- At a point that writes back the output block is the scratch. -/
theorem out_at (t : Fin cfg0.N) (ht : t.val % 8 = 7) (j : Fin 512) (d : Fin 768) :
    (outsAt0 m c t.val t.isLt).1 (ix2 j d) = (outsAt0 m c t.val t.isLt).2 (ix2 j d) := by
  rw [outsAt0_C m c t (by omega) ht]
  frame_out
  pointwise [k0_pay3]

/-- The kernel's array is the reference's. -/
theorem value : (dats m 0 c).arrAt 2 cfg0.N = (truncf .bf16 (product (m (c, main_arg0)) (m (c, main_arg1))) bitsLt_bf16_f32 : FVec Ideal S512x1536 .bf16) := by
  refine Pipeline.Dat.arrAt_eq_of_covers _ 2 _ (by decide +kernel) fun t hf (y : S512x768.Idx) => ?_
  have ht := (flush0_2 t).1 hf
  obtain ⟨j, d, rfl⟩ : ∃ j d, y = ix2 j d := ⟨_, _, eq_ix2 y⟩
  rw [emb2]
  show (dats m 0 c).after 2 t (ix2 j d) = _
  rw [after0_2, out_at m c t ht, scratch m c t ht]
  rfl

end Cert.UqDwIdeal.Up

end
-- ==== Proof.UkvMm.lean ====
module

public import proofs.«01_k».proof.Proof.Gen.UkvMmIdeal.Value
public import proofs.«01_k».proof.Proof.Gen.UkvMmRefIdeal.Run
public import Idealize.ShloMosaic.Lib.Pipeline.ValueKit.Point
public import Idealize.ShloMosaic.Lib.Pointwise

@[expose] public section

set_option maxRecDepth 16384

/-! The projection of the keys and values from their compressed form: the kernel's blocks are those of the reference's one product. -/

noncomputable section

namespace Cert.UkvMmIdeal.Up

open Cert.UkvMmIdeal Cert.UkvMmIdeal.Gen
open Idealize.ShloMosaic Idealize.ShloMosaic.TcCoe Idealize.SL.Sem Idealize.ShloMosaic.Pointwise
open scoped BigOperators

theorem idx0 : ∀ t : Fin cfg0.N, win0_0.index t = ![t.val / 2, 0] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![t.val / 2, t.val % 2] := (by decide +kernel : ∀ t : Fin grid0.N, _)

/-- The row of the arrays under row `i` of a point's block, -/
def row (t : Fin cfg0.N) (i : Fin 1024) : Fin 8192 := ⟨t.val / 2 * 1024 + i.val, by have := t.isLt.trans_eq N_0; omega⟩
/-- and the column of the result under column `d`. -/
def col (t : Fin cfg0.N) (d : Fin 1024) : Fin 2048 := ⟨t.val % 2 * 1024 + d.val, by omega⟩

/-- The reference's product. -/
def product (h : FVec Ideal S8192x256 .f32) (w : FVec Ideal S256x2048 .f32) : FVec Ideal S8192x2048 .f32 :=
  Host.dotGeneral (F := Ideal) (φ₁ := .f32) (φ₂ := .f32) Cert.UkvMmRefIdeal.dot_S8192x256_S256x2048_S8192x2048_1_0_0_1_n_n none h w
theorem product_at (h : FVec Ideal S8192x256 .f32) (w : FVec Ideal S256x2048 .f32) (i : Fin 8192) (d : Fin 2048) :
    product h w (ix2 i d) = ∑ k : Fin 256, h (ix2 i k) * w (ix2 k d) := by
  pointwise [product]

variable (m : (ℓ : Loc nD τ sig) → Buf (Elt Ideal) ℓ) (c : Dev nD)

theorem V_rows : V m c main_v0 = (truncf .bf16 (m (c, main_arg0)) bitsLt_bf16_f32 : FVec Ideal S8192x256 .bf16) := by
  show StableHlo.after hostOps0 (fun b => m (c, b)) main_v0 = _
  after_results_simp <;> rfl
theorem V_weights : V m c main_v1 = (truncf .bf16 (m (c, main_arg1)) bitsLt_bf16_f32 : FVec Ideal S256x2048 .bf16) := by
  show StableHlo.after hostOps0 (fun b => m (c, b)) main_v1 = _
  after_results_simp <;> rfl

theorem emb0 (t : Fin cfg0.N) (i : Fin 1024) (k : Fin 256) : ((cfg0.win 0).blk t).view.emb (ix2 i k) = ix2 (row t i) k := by
  blk_ext [idx0, row]
theorem emb1 (t : Fin cfg0.N) (k : Fin 256) (d : Fin 1024) : ((cfg0.win 1).blk t).view.emb (ix2 k d) = ix2 k (col t d) := by
  blk_ext [idx1, col]
theorem emb2 (t : Fin cfg0.N) (i d : Fin 1024) : ((cfg0.win 2).blk t).view.emb (ix2 i d) = ix2 (row t i) (col t d) := by
  blk_ext [idx2, row, col]

theorem blk0 (t : Fin cfg0.N) (i : Fin 1024) (k : Fin 256) : iblk m c 0 t (ix2 i k) = m (c, main_arg0) (ix2 (row t i) k) := by
  unfold iblk
  rw [View.read_apply, emb0]
  exact congrFun (V_rows m c) _
theorem blk1 (t : Fin cfg0.N) (k : Fin 256) (d : Fin 1024) : iblk m c 1 t (ix2 k d) = m (c, main_arg1) (ix2 k (col t d)) := by
  unfold iblk
  rw [View.read_apply, emb1]
  exact congrFun (V_weights m c) _

/-- A point's block of the product. -/
theorem out_at (t : Fin cfg0.N) (i d : Fin 1024) :
    outsAt0 m c t (ix2 i d) = product (m (c, main_arg0)) (m (c, main_arg1)) (ix2 (row t i) (col t d)) := by
  rw [product_at]
  simp only [outsAt0]
  frame_out
  pointwise [k0_pay2, k0_pay1]
  simp only [blk0, blk1]

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S1024x1024.Idx) => ?_
  obtain ⟨i, d, rfl⟩ : ∃ i d, y = ix2 i d := ⟨_, _, eq_ix2 y⟩
  rw [emb2]
  show (dats m 0 c).after 2 t (ix2 i d) = _
  rw [after0_2, out_at]

end Cert.UkvMmIdeal.Up

end
-- ==== Proof.UkvDh.lean ====
module

public import proofs.«01_k».proof.Proof.Gen.UkvDhIdeal.Value
public import proofs.«01_k».proof.Proof.Gen.UkvDhRefIdeal.Run
public import Idealize.ShloMosaic.Lib.Pipeline.ValueKit.Point
public import Idealize.ShloMosaic.Lib.Pointwise

@[expose] public section

set_option maxRecDepth 16384

/-! The gradient of the compressed keys and values: the kernel's row blocks are those of the reference's one product. -/

noncomputable section

namespace Cert.UkvDhIdeal.Up

open Cert.UkvDhIdeal Cert.UkvDhIdeal.Gen
open Idealize.ShloMosaic Idealize.ShloMosaic.TcCoe Idealize.SL.Sem Idealize.ShloMosaic.Pointwise
open scoped BigOperators

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The row of the arrays under row `i` of a point's block. -/
def row (t : Fin cfg0.N) (i : Fin 512) : Fin 8192 := ⟨t.val * 512 + i.val, by have := t.isLt.trans_eq N_0; omega⟩

/-- The reference's product. -/
def product (e : FVec Ideal S8192x2048 .f32) (w : FVec Ideal S256x2048 .f32) : FVec Ideal S8192x256 .f32 :=
  Host.dotGeneral (F := Ideal) (φ₁ := .f32) (φ₂ := .f32) Cert.UkvDhRefIdeal.dot_S8192x2048_S256x2048_S8192x256_1_1_0_0_n_n none e w
theorem product_at (e : FVec Ideal S8192x2048 .f32) (w : FVec Ideal S256x2048 .f32) (i : Fin 8192) (d : Fin 256) :
    product e w (ix2 i d) = ∑ k : Fin 2048, e (ix2 i k) * w (ix2 d k) := by
  pointwise [product]

variable (m : (ℓ : Loc nD τ sig) → Buf (Elt Ideal) ℓ) (c : Dev nD)

theorem V_grad : V m c main_arg0 = m (c, main_arg0) := by
  show StableHlo.after hostOps0 (fun b => m (c, b)) main_arg0 = _
  after_results_simp <;> rfl
theorem V_weights : V m c main_v0 = (truncf .bf16 (m (c, main_arg1)) bitsLt_bf16_f32 : FVec Ideal S256x2048 .bf16) := by
  show StableHlo.after hostOps0 (fun b => m (c, b)) main_v0 = _
  after_results_simp <;> rfl

theorem emb0 (t : Fin cfg0.N) (i : Fin 512) (k : Fin 2048) : ((cfg0.win 0).blk t).view.emb (ix2 i k) = ix2 (row t i) k := by
  blk_ext [idx0, row]
theorem emb1 (t : Fin cfg0.N) (d : Fin 256) (k : Fin 2048) : ((cfg0.win 1).blk t).view.emb (ix2 d k) = ix2 d k := by
  blk_ext [idx1]
theorem emb2 (t : Fin cfg0.N) (i : Fin 512) (d : Fin 256) : ((cfg0.win 2).blk t).view.emb (ix2 i d) = ix2 (row t i) d := by
  blk_ext [idx2, row]

theorem blk0 (t : Fin cfg0.N) (i : Fin 512) (k : Fin 2048) : iblk m c 0 t (ix2 i k) = m (c, main_arg0) (ix2 (row t i) k) := by
  unfold iblk
  rw [View.read_apply, emb0]
  exact congrFun (V_grad m c) _
theorem blk1 (t : Fin cfg0.N) (d : Fin 256) (k : Fin 2048) : iblk m c 1 t (ix2 d k) = m (c, main_arg1) (ix2 d k) := by
  unfold iblk
  rw [View.read_apply, emb1]
  exact congrFun (V_weights m c) _

/-- A point's block of the product. -/
theorem out_at (t : Fin cfg0.N) (i : Fin 512) (d : Fin 256) :
    outsAt0 m c t (ix2 i d) = product (m (c, main_arg0)) (m (c, main_arg1)) (ix2 (row t i) d) := by
  rw [product_at]
  simp only [outsAt0]
  frame_out
  pointwise [k0_pay2, k0_pay1]
  simp only [blk0, blk1]

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S512x256.Idx) => ?_
  obtain ⟨i, d, rfl⟩ : ∃ i d, y = ix2 i d := ⟨_, _, eq_ix2 y⟩
  rw [emb2]
  show (dats m 0 c).after 2 t (ix2 i d) = _
  rw [after0_2, out_at]

end Cert.UkvDhIdeal.Up

end
-- ==== Proof.UkvDw.lean ====
module

public import proofs.«01_k».proof.Proof.Gen.UkvDwIdeal.Value
public import proofs.«01_k».proof.Proof.Gen.UkvDwRefIdeal.Run
public import Idealize.ShloMosaic.Lib.Pipeline.ValueKit.Point
public import Idealize.ShloMosaic.Lib.Pipeline.ValueKit.Acc
public import Idealize.ShloMosaic.Lib.Pointwise

@[expose] public section

set_option maxRecDepth 16384

/-! The gradient of the weights of the keys' and values' projection: the kernel's blocked products summed over the row tiles are the reference's one product. -/

noncomputable section

namespace Cert.UkvDwIdeal.Up

open Cert.UkvDwIdeal Cert.UkvDwIdeal.Gen
open Idealize.ShloMosaic Idealize.ShloMosaic.TcCoe Idealize.SL.Sem Idealize.ShloMosaic.Pointwise
open scoped BigOperators

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

/-- The row of the arrays under row `k` of a point's block, -/
def row (t : Fin cfg0.N) (k : Fin 1024) : Fin 8192 := ⟨t.val % 8 * 1024 + k.val, by omega⟩
/-- and the column of the gradient under column `b`. -/
def col (t : Fin cfg0.N) (b : Fin 1024) : Fin 2048 := ⟨t.val / 8 * 1024 + b.val, by have := t.isLt.trans_eq N_0; omega⟩

/-- The product of one column of the input with one column of the gradient at one row. -/
def term (h : FVec Ideal S8192x256 .f32) (e : FVec Ideal S8192x2048 .f32) (j : Fin 256) (d : Fin 2048) (k : Fin 8192) : EReal := h (ix2 k j) * e (ix2 k d)
/-- What a point adds to its block. -/
def part (h : FVec Ideal S8192x256 .f32) (e : FVec Ideal S8192x2048 .f32) (t : Fin cfg0.N) (y : S256x1024.Idx) : EReal :=
  ∑ k : Fin 1024, term h e (y 0) (col t (y 1)) (row t k)

/-- The eight tiles are all the rows. -/
theorem whole (h : FVec Ideal S8192x256 .f32) (e : FVec Ideal S8192x2048 .f32) (t : Fin cfg0.N) (ht : t.val % 8 = 8 - 1) (j : Fin 256) (d : Fin 1024) :
    ∑ s : Fin 8, part h e ⟨8 * (t.val / 8) + s.val, Pipeline.run_point_lt_of_flush t ht s⟩ (ix2 j d) = ∑ k : Fin 8192, term h e j (col t d) k := by
  refine Fin.sum_mul_add_congr fun s k _ => ?_
  have hc : col ⟨8 * (t.val / 8) + s.val, Pipeline.run_point_lt_of_flush t ht s⟩ d = col t d := Fin.ext (by simp only [col]; omega)
  show term h e j (col ⟨8 * (t.val / 8) + s.val, Pipeline.run_point_lt_of_flush t ht s⟩ d) _ = _
  rw [hc]
  refine congrArg _ (Fin.ext ?_)
  simp only [row]
  omega

/-- The reference's product, its two axes exchanged. -/
def product (h : FVec Ideal S8192x256 .f32) (e : FVec Ideal S8192x2048 .f32) : FVec Ideal S256x2048 .f32 :=
  transpose S256x2048 [1, 0] (Host.dotGeneral (F := Ideal) (φ₁ := .f32) (φ₂ := .f32) Cert.UkvDwRefIdeal.dot_S8192x2048_S8192x256_S2048x256_0_0_1_1_n_n none e h)
    Cert.UkvDwRefIdeal.Gen.transposes_S2048x256_S256x2048_1_0
theorem product_at (h : FVec Ideal S8192x256 .f32) (e : FVec Ideal S8192x2048 .f32) (j : Fin 256) (d : Fin 2048) :
    product h e (ix2 j d) = ∑ k : Fin 8192, term h e j d k := by
  pointwise [product]
  exact Finset.sum_congr rfl fun k _ => mul_comm (e (ix2 k d)) (h (ix2 k j))

variable (m : (ℓ : Loc nD τ sig) → Buf (Elt Ideal) ℓ) (c : Dev nD)

theorem V_rows : V m c main_v0 = (truncf .bf16 (m (c, main_arg0)) bitsLt_bf16_f32 : FVec Ideal S8192x256 .bf16) := by
  show StableHlo.after hostOps0 (fun b => m (c, b)) main_v0 = _
  after_results_simp <;> rfl
theorem V_grad : V m c main_arg1 = m (c, main_arg1) := by
  show StableHlo.after hostOps0 (fun b => m (c, b)) main_arg1 = _
  after_results_simp <;> rfl

theorem emb0 (t : Fin cfg0.N) (k : Fin 1024) (j : Fin 256) : ((cfg0.win 0).blk t).view.emb (ix2 k j) = ix2 (row t k) j := by
  blk_ext [idx0, row]
theorem emb1 (t : Fin cfg0.N) (k d : Fin 1024) : ((cfg0.win 1).blk t).view.emb (ix2 k d) = ix2 (row t k) (col t d) := by
  blk_ext [idx1, row, col]
theorem emb2 (t : Fin cfg0.N) (j : Fin 256) (d : Fin 1024) : ((cfg0.win 2).blk t).view.emb (ix2 j d) = ix2 j (col t d) := by
  blk_ext [idx2, col]

theorem blk0 (t : Fin cfg0.N) (k : Fin 1024) (j : Fin 256) : iblk m c 0 t (ix2 k j) = m (c, main_arg0) (ix2 (row t k) j) := by
  unfold iblk
  rw [View.read_apply, emb0]
  exact congrFun (V_rows m c) _
theorem blk1 (t : Fin cfg0.N) (k d : Fin 1024) : iblk m c 1 t (ix2 k d) = m (c, main_arg1) (ix2 (row t k) (col t d)) := by
  unfold iblk
  rw [View.read_apply, emb1]
  exact congrFun (V_grad m c) _

theorem zero_at (y : S256x1024.Idx) : k0_pay1 (F := Ideal) y = (0 : EReal) := by
  obtain ⟨j, d, rfl⟩ : ∃ j d, y = ix2 j d := ⟨_, _, eq_ix2 y⟩
  pointwise [k0_pay1]

theorem step_at (a : Vec Ideal S256x1024 .f32) (t : Fin cfg0.N) (y : S256x1024.Idx) :
    k0_pay2 a (iblk m c 0 t) (iblk m c 1 t) y = a y + part (m (c, main_arg0)) (m (c, main_arg1)) t y := by
  obtain ⟨j, d, rfl⟩ : ∃ j d, y = ix2 j d := ⟨_, _, eq_ix2 y⟩
  pointwise [k0_pay2]
  simp only [blk0, blk1]
  rfl

/-- The scratch after a point that writes back is the reference's product there. -/
theorem scratch (t : Fin cfg0.N) (ht : t.val % 8 = 8 - 1) (j : Fin 256) (d : Fin 1024) :
    (outsAt0 m c t.val t.isLt).2 (ix2 j d) = product (m (c, main_arg0)) (m (c, main_arg1)) (ix2 j (col t d)) := by
  rw [product_at, ← whole _ _ t ht, Pipeline.eq_sum_fin_of_reset_step_apply_of_flush (fun n h => (outsAt0 m c n h).2) 8 (fun _ => (0 : EReal))
    (part (m (c, main_arg0)) (m (c, main_arg1)))
    (fun t h y => by rw [outsAt0_A m c t h (by omega)]; frame_out; rw [step_at, zero_at])
    (fun t h y => by
      by_cases h7 : t.val % 8 = 7
      · rw [outsAt0_C m c t h h7]; frame_out; rw [step_at]; exact congrArg (· + _) (congrFun (Memref.IsWhole.read_unread _ _) y)
      · rw [outsAt0_B m c t h h7]; frame_out; rw [step_at]; exact congrArg (· + _) (congrFun (Memref.IsWhole.read_unread _ _) y)) t ht (ix2 j d), zero_add]

/-- At a point that writes back the output block is the scratch. -/
theorem out_at (t : Fin cfg0.N) (ht : t.val % 8 = 7) (j : Fin 256) (d : Fin 1024) :
    (outsAt0 m c t.val t.isLt).1 (ix2 j d) = (outsAt0 m c t.val t.isLt).2 (ix2 j d) := by
  rw [outsAt0_C m c t (by omega) ht]
  frame_out
  pointwise [k0_pay3]

/-- The kernel's array is the reference's. -/
theorem value : (dats m 0 c).arrAt 2 cfg0.N = (truncf .bf16 (product (m (c, main_arg0)) (m (c, main_arg1))) bitsLt_bf16_f32 : FVec Ideal S256x2048 .bf16) := by
  refine Pipeline.Dat.arrAt_eq_of_covers _ 2 _ (by decide +kernel) fun t hf (y : S256x1024.Idx) => ?_
  have ht := (flush0_2 t).1 hf
  obtain ⟨j, d, rfl⟩ : ∃ j d, y = ix2 j d := ⟨_, _, eq_ix2 y⟩
  rw [emb2]
  show (dats m 0 c).after 2 t (ix2 j d) = _
  rw [after0_2, out_at m c t ht, scratch m c t ht]
  rfl

end Cert.UkvDwIdeal.Up

end
-- ==== Proof.UpClaims.lean ====
module

public import proofs.«01_k».proof.Defs
public import proofs.«01_k».proof.Proof.UqMm
public import proofs.«01_k».proof.Proof.UqDh
public import proofs.«01_k».proof.Proof.UqDw
public import proofs.«01_k».proof.Proof.UkvMm
public import proofs.«01_k».proof.Proof.UkvDh
public import proofs.«01_k».proof.Proof.UkvDw
public import Idealize.ShloMosaic.Adequacy
public import Idealize.ShloMosaic.Init

@[expose] public section

/-! The equations of the attention's up-projections, and the ends of their references. -/

noncomputable section

namespace Cert.UpClaims

open Cert Idealize.ShloMosaic Idealize.ShloMosaic.TcCoe Idealize.SL.Sem

theorem ends_q_mm : quiescent_UqMmRefIdeal := fun m ρ _ =>
  (θ_run UqMmRefIdeal.defs _ _).mono (fun r h => ⟨fun c => (h c).2, sem_eq_zero_of_no_sems (by decide) r.2⟩) (UqMmRefIdeal.Value.run m ρ)
theorem ends_q_dh : quiescent_UqDhRefIdeal := fun m ρ _ =>
  (θ_run UqDhRefIdeal.defs _ _).mono (fun r h => ⟨fun c => (h c).2, sem_eq_zero_of_no_sems (by decide) r.2⟩) (UqDhRefIdeal.Value.run m ρ)
theorem ends_q_dw : quiescent_UqDwRefIdeal := fun m ρ _ =>
  (θ_run UqDwRefIdeal.defs _ _).mono (fun r h => ⟨fun c => (h c).2, sem_eq_zero_of_no_sems (by decide) r.2⟩) (UqDwRefIdeal.Value.run m ρ)
theorem ends_kv_mm : quiescent_UkvMmRefIdeal := fun m ρ _ =>
  (θ_run UkvMmRefIdeal.defs _ _).mono (fun r h => ⟨fun c => (h c).2, sem_eq_zero_of_no_sems (by decide) r.2⟩) (UkvMmRefIdeal.Value.run m ρ)
theorem ends_kv_dh : quiescent_UkvDhRefIdeal := fun m ρ _ =>
  (θ_run UkvDhRefIdeal.defs _ _).mono (fun r h => ⟨fun c => (h c).2, sem_eq_zero_of_no_sems (by decide) r.2⟩) (UkvDhRefIdeal.Value.run m ρ)
theorem ends_kv_dw : quiescent_UkvDwRefIdeal := fun m ρ _ =>
  (θ_run UkvDwRefIdeal.defs _ _).mono (fun r h => ⟨fun c => (h c).2, sem_eq_zero_of_no_sems (by decide) r.2⟩) (UkvDwRefIdeal.Value.run m ρ)

/-- The query's projection. -/
theorem values_q_mm : algebraic_UqMmIdeal_UqMmRefIdeal := fun m ρ m' ρ' _ ha =>
  ⟨_, (θ_run UqMmIdeal.defs _ _).mono (fun _ h c => ⟨(h c).1.trans (UqMmIdeal.Up.value m c), (h c).2⟩) (UqMmIdeal.Value.run_blocks m ρ),
    (θ_run UqMmRefIdeal.defs _ _).mono (fun _ h c => by
      obtain ⟨h0, hr⟩ := h c
      obtain ⟨a0, a1⟩ := ha c
      rw [a0, a1] at h0
      exact ⟨h0, hr⟩) (UqMmRefIdeal.Value.run m' ρ')⟩

/-- The gradient of the compressed query. -/
theorem values_q_dh : algebraic_UqDhIdeal_UqDhRefIdeal := fun m ρ m' ρ' _ ha =>
  ⟨_, (θ_run UqDhIdeal.defs _ _).mono (fun _ h c => ⟨(h c).1.trans (UqDhIdeal.Up.value m c), (h c).2⟩) (UqDhIdeal.Value.run_blocks m ρ),
    (θ_run UqDhRefIdeal.defs _ _).mono (fun _ h c => by
      obtain ⟨h0, hr⟩ := h c
      obtain ⟨a0, a1⟩ := ha c
      rw [a0, a1] at h0
      exact ⟨h0, hr⟩) (UqDhRefIdeal.Value.run m' ρ')⟩

/-- The gradient of the weights of the query's projection. -/
theorem values_q_dw : algebraic_UqDwIdeal_UqDwRefIdeal := fun m ρ m' ρ' _ ha =>
  ⟨_, (θ_run UqDwIdeal.defs _ _).mono (fun _ h c => ⟨(h c).1.trans (UqDwIdeal.Up.value m c), (h c).2⟩) (UqDwIdeal.Value.run_blocks m ρ),
    (θ_run UqDwRefIdeal.defs _ _).mono (fun _ h c => by
      obtain ⟨h0, hr⟩ := h c
      obtain ⟨a0, a1⟩ := ha c
      rw [a0, a1] at h0
      exact ⟨h0, hr⟩) (UqDwRefIdeal.Value.run m' ρ')⟩

/-- The projection of the keys and values. -/
theorem values_kv_mm : algebraic_UkvMmIdeal_UkvMmRefIdeal := fun m ρ m' ρ' _ ha =>
  ⟨_, (θ_run UkvMmIdeal.defs _ _).mono (fun _ h c => ⟨(h c).1.trans (UkvMmIdeal.Up.value m c), (h c).2⟩) (UkvMmIdeal.Value.run_blocks m ρ),
    (θ_run UkvMmRefIdeal.defs _ _).mono (fun _ h c => by
      obtain ⟨h0, hr⟩ := h c
      obtain ⟨a0, a1⟩ := ha c
      rw [a0, a1] at h0
      exact ⟨h0, hr⟩) (UkvMmRefIdeal.Value.run m' ρ')⟩

/-- The gradient of the compressed keys and values. -/
theorem values_kv_dh : algebraic_UkvDhIdeal_UkvDhRefIdeal := fun m ρ m' ρ' _ ha =>
  ⟨_, (θ_run UkvDhIdeal.defs _ _).mono (fun _ h c => ⟨(h c).1.trans (UkvDhIdeal.Up.value m c), (h c).2⟩) (UkvDhIdeal.Value.run_blocks m ρ),
    (θ_run UkvDhRefIdeal.defs _ _).mono (fun _ h c => by
      obtain ⟨h0, hr⟩ := h c
      obtain ⟨a0, a1⟩ := ha c
      rw [a0, a1] at h0
      exact ⟨h0, hr⟩) (UkvDhRefIdeal.Value.run m' ρ')⟩

/-- The gradient of the weights of the keys' and values' projection. -/
theorem values_kv_dw : algebraic_UkvDwIdeal_UkvDwRefIdeal := fun m ρ m' ρ' _ ha =>
  ⟨_, (θ_run UkvDwIdeal.defs _ _).mono (fun _ h c => ⟨(h c).1.trans (UkvDwIdeal.Up.value m c), (h c).2⟩) (UkvDwIdeal.Value.run_blocks m ρ),
    (θ_run UkvDwRefIdeal.defs _ _).mono (fun _ h c => by
      obtain ⟨h0, hr⟩ := h c
      obtain ⟨a0, a1⟩ := ha c
      rw [a0, a1] at h0
      exact ⟨h0, hr⟩) (UkvDwRefIdeal.Value.run m' ρ')⟩

end Cert.UpClaims

end
-- ==== Proof.CtxFinite.lean ====
module

public import proofs.«01_k».proof.Pre_finite_ctx_in
public import proofs.«01_k».proof.Pre_finite_ctx_da
public import proofs.«01_k».proof.Proof.AttnFinite

@[expose] public section

/-! What the two preconditions of the feed-forward calls over the context tokens say: every element is a real number. -/

noncomputable section

namespace Cert.Pre_finite_ctx_in

open Idealize.ShloMosaic
open Cert.Pre_finite (real_of_olt inf_eq)

instance facts : Facts where
  bcast_S_S256x2048 := by decide
  bcast_S_S2048x11264 := by decide

variable {x0 : FVec Ideal S256x2048 .f32} {x1 : FVec Ideal S2048x11264 .f32}

theorem real0 (h : (fn (F := Ideal) x0 x1).1 = fun _ => 1#1) (j) : ∃ r : ℝ, x0 j = (r : EReal) := real_of_olt inf_eq (congrFun h j)
theorem real1 (h : (fn (F := Ideal) x0 x1).2 = fun _ => 1#1) (j) : ∃ r : ℝ, x1 j = (r : EReal) := real_of_olt inf_eq (congrFun h j)

end Cert.Pre_finite_ctx_in

namespace Cert.Pre_finite_ctx_da

open Idealize.ShloMosaic
open Cert.Pre_finite (real_of_olt inf_eq)

instance facts : Facts where
  bcast_S_S256x11264 := by decide
  bcast_S_S5632x2048 := by decide
  bcast_S_S256x2048 := by decide

variable {x0 : FVec Ideal S256x11264 .f32} {x1 : FVec Ideal S5632x2048 .f32} {x2 : FVec Ideal S256x2048 .f32}

theorem real0 (h : (fn (F := Ideal) x0 x1 x2).1 = fun _ => 1#1) (j) : ∃ r : ℝ, x0 j = (r : EReal) := real_of_olt inf_eq (congrFun h j)
theorem real1 (h : (fn (F := Ideal) x0 x1 x2).2.1 = fun _ => 1#1) (j) : ∃ r : ℝ, x1 j = (r : EReal) := real_of_olt inf_eq (congrFun h j)
theorem real2 (h : (fn (F := Ideal) x0 x1 x2).2.2 = fun _ => 1#1) (j) : ∃ r : ℝ, x2 j = (r : EReal) := real_of_olt inf_eq (congrFun h j)

end Cert.Pre_finite_ctx_da

end
-- ==== Proof.CtxAct.lean ====
module

public import proofs.«01_k».proof.Proof.FfnAct
public import proofs.«01_k».proof.Proof.Gen.CtxInRefIdeal.Run

@[expose] public section

set_option maxRecDepth 16384

/-! The gated activation and its partial derivatives over the context tokens. -/

noncomputable section

namespace Cert.CtxAct

open Cert.CtxInRefIdeal Cert.CtxInRefIdeal.Gen
open Cert.FfnAct (colG colU hid dGate dUp)
open Idealize.ShloMosaic Idealize.ShloMosaic.Pointwise
open scoped BigOperators

/-- The two halves of the products, -/
def gate (p : FVec Ideal S256x11264 .f32) : FVec Ideal S256x5632 .f32 := extractStridedSlice S256x5632 ![0, 0] p slices_S256x11264_S256x5632_0_0
def up (p : FVec Ideal S256x11264 .f32) : FVec Ideal S256x5632 .f32 := extractStridedSlice S256x5632 ![0, 5632] p slices_S256x11264_S256x5632_0_5632
def ones : FVec Ideal S256x5632 .f32 := broadcastInDim S256x5632 ![] bcast_S_S256x5632 (constant S_ .f32 0x3F800000#32)
/-- the logistic function of the first half, -/
def sigm (p : FVec Ideal S256x11264 .f32) : FVec Ideal S256x5632 .f32 := Host.divf ones (addf ones (Host.exp (Host.negf (gate p))))
/-- and the activation. -/
def hidden (p : FVec Ideal S256x11264 .f32) : FVec Ideal S256x5632 .f32 := mulf (mulf (gate p) (sigm p)) (up p)
/-- The gradients of the two halves from the activation's gradient. -/
def gradGate (e : FVec Ideal S256x5632 .f32) (p : FVec Ideal S256x11264 .f32) : FVec Ideal S256x5632 .f32 :=
  addf (mulf (mulf e (up p)) (sigm p)) (mulf (mulf (gate p) (mulf e (up p))) (mulf (sigm p) (subf ones (sigm p))))
def gradUp (e : FVec Ideal S256x5632 .f32) (p : FVec Ideal S256x11264 .f32) : FVec Ideal S256x5632 .f32 := mulf (mulf (gate p) (sigm p)) e
/-- The two partial derivatives, one above the other. -/
def partials (p : FVec Ideal S256x11264 .f32) : FVec Ideal S2x256x5632 .bf16 :=
  truncf .bf16 (concatenate S2x256x5632 0
    [⟨S1x256x5632, (broadcastInDim S1x256x5632 ![1, 2] bcast_S256x5632_S1x256x5632_1_2 (gradGate ones p) : FVec Ideal S1x256x5632 .f32)⟩,
     ⟨S1x256x5632, (broadcastInDim S1x256x5632 ![1, 2] bcast_S256x5632_S1x256x5632_1_2 (gradUp ones p) : FVec Ideal S1x256x5632 .f32)⟩]
    concatenates_S1x256x5632_S1x256x5632_S2x256x5632_d0) bitsLt_bf16_f32

variable (p : FVec Ideal S256x11264 .f32) (e : FVec Ideal S256x5632 .f32) (i : Fin 256) (k : Fin 5632)

theorem gate_at : gate p (ix2 i k) = p (ix2 i (colG k)) := by
  pointwise [gate]
  rfl
theorem up_at : up p (ix2 i k) = p (ix2 i (colU k)) := by
  pointwise [up]
  rfl
theorem ones_at : ones (ix2 i k) = (1 : EReal) := by
  pointwise [ones]
theorem sigm_at : sigm p (ix2 i k) = Ideal.logistic (p (ix2 i (colG k))) := by
  pointwise [sigm]
  simp only [ones_at, gate_at]
  rfl
theorem hidden_at : hidden p (ix2 i k) = hid (p (ix2 i (colU k))) (p (ix2 i (colG k))) := by
  pointwise [hidden]
  simp only [gate_at, up_at, sigm_at]
  rfl
theorem gradGate_at : gradGate e p (ix2 i k) = dGate (e (ix2 i k)) (p (ix2 i (colU k))) (p (ix2 i (colG k))) := by
  pointwise [gradGate]
  simp only [gate_at, up_at, sigm_at, ones_at]
  rfl
theorem gradUp_at : gradUp e p (ix2 i k) = dUp (e (ix2 i k)) (p (ix2 i (colG k))) := by
  pointwise [gradUp]
  simp only [gate_at, sigm_at]
  rfl
theorem partials_gate : partials p (ix3 0 i k) = dGate 1 (p (ix2 i (colU k))) (p (ix2 i (colG k))) := by
  pointwise [partials]
  rw [gradGate_at, ones_at]
theorem partials_up : partials p (ix3 1 i k) = dUp 1 (p (ix2 i (colG k))) := by
  pointwise [partials]
  rw [gradUp_at, ones_at]

end Cert.CtxAct

end
-- ==== Proof.CtxIn.lean ====
module

public import proofs.«01_k».proof.Proof.Gen.CtxInIdeal.Value
public import proofs.«01_k».proof.Proof.CtxAct
public import Idealize.ShloMosaic.Lib.Pipeline.ValueKit.Tiles

@[expose] public section

set_option maxRecDepth 16384

/-! Over the context tokens, the feed-forward network's first product with its activation and partial derivatives. -/

noncomputable section

namespace Cert.CtxInIdeal.Ffn

open Cert.CtxInIdeal Cert.CtxInIdeal.Gen Cert.CtxAct
open Cert.FfnAct (sum_real dGate_one colG colU hid dGate dUp)
open Cert.CtxInRefIdeal (S256x11264)
open Cert.DhIdeal.Ffn (groups groups_at)
open Idealize.ShloMosaic Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val + 4, 0, 0] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, 0, t.val] := (by decide +kernel : ∀ t : Fin grid0.N, _)

/-- The hidden column of the arrays under a point's block. -/
def col (t : Fin cfg0.N) (k : Fin 1408) : Fin 5632 := ⟨t.val * 1408 + k.val, by have := t.isLt.trans_eq N_0; omega⟩

/-- The product of one row with one column at one place. -/
def term (h : FVec Ideal S256x2048 .f32) (w : FVec Ideal S2048x11264 .f32) (i : Fin 256) (j : Fin 11264) (d : Fin 2048) : EReal := h (ix2 i d) * w (ix2 d j)
/-- The reference's product. -/
def product (h : FVec Ideal S256x2048 .f32) (w : FVec Ideal S2048x11264 .f32) : FVec Ideal S256x11264 .f32 :=
  Host.dotGeneral (F := Ideal) (φ₁ := .f32) (φ₂ := .f32) Cert.CtxInRefIdeal.dot_S256x2048_S2048x11264_S256x11264_1_0_0_1_n_n none h w
theorem product_at (h : FVec Ideal S256x2048 .f32) (w : FVec Ideal S2048x11264 .f32) (i : Fin 256) (j : Fin 11264) :
    product h w (ix2 i j) = ∑ d : Fin 2048, term h w i j d := by
  pointwise [product]
  rfl
theorem product_real (h : FVec Ideal S256x2048 .f32) (w : FVec Ideal S2048x11264 .f32) (hh : ∀ j, ∃ r : ℝ, h j = (r : EReal)) (hw : ∀ j, ∃ r : ℝ, w j = (r : EReal))
    (i : Fin 256) (j : Fin 11264) : ∃ r : ℝ, product h w (ix2 i j) = (r : EReal) := by
  rw [product_at]
  exact sum_real _ _ (fun d => hh _) (fun d => hw _)

variable (m : (ℓ : Loc nD τ sig) → Buf (Elt Ideal) ℓ) (c : Dev nD)

theorem V_rows : V m c main_v0 = (truncf .bf16 (m (c, main_arg0)) bitsLt_bf16_f32 : FVec Ideal S256x2048 .bf16) := by
  show StableHlo.after hostOps0 (fun b => m (c, b)) main_v0 = _
  after_results_simp <;> rfl
theorem V_groups : V m c main_v3 = groups (m (c, main_arg1)) := by
  show StableHlo.after hostOps0 (fun b => m (c, b)) main_v3 = _
  unfold groups
  after_results_simp <;> rfl

theorem emb0 (t : Fin cfg0.N) (i : Fin 256) (d : Fin 2048) : ((cfg0.win 0).blk t).view.emb (ix2 i d) = ix2 i d := by
  blk_ext [idx0]
theorem emb1 (t : Fin cfg0.N) (d : Fin 2048) (k : Fin 1408) :
    ((cfg0.win 1).blk t).view.emb (ix3 0 d k) = ix3 ⟨t.val, by have := t.isLt.trans_eq N_0; omega⟩ d k := by
  blk_ext [idx1]
theorem emb2 (t : Fin cfg0.N) (d : Fin 2048) (k : Fin 1408) :
    ((cfg0.win 2).blk t).view.emb (ix3 0 d k) = ix3 ⟨t.val + 4, by have := t.isLt.trans_eq N_0; omega⟩ d k := by
  blk_ext [idx2]
theorem emb3 (t : Fin cfg0.N) (i : Fin 256) (k : Fin 1408) : ((cfg0.win 3).blk t).view.emb (ix2 i k) = ix2 i (col t k) := by
  blk_ext [idx3, col]
theorem emb4 (t : Fin cfg0.N) (s : Fin 2) (i : Fin 256) (k : Fin 1408) : ((cfg0.win 4).blk t).view.emb (ix3 s i k) = ix3 s i (col t k) := by
  blk_ext [idx4, col]

theorem blk0 (t : Fin cfg0.N) (i : Fin 256) (d : Fin 2048) : iblk m c 0 t (ix2 i d) = m (c, main_arg0) (ix2 i d) := by
  unfold iblk
  rw [View.read_apply, emb0]
  exact congrFun (V_rows m c) _
theorem blk1 (t : Fin cfg0.N) (d : Fin 2048) (k : Fin 1408) : iblk m c 1 t (ix3 0 d k) = m (c, main_arg1) (ix2 d (colG (col t k))) := by
  unfold iblk
  rw [View.read_apply, emb1]
  exact (congrFun (V_groups m c) _).trans (groups_at _ _ _ _)
theorem blk2 (t : Fin cfg0.N) (d : Fin 2048) (k : Fin 1408) : iblk m c 2 t (ix3 0 d k) = m (c, main_arg1) (ix2 d (colU (col t k))) := by
  unfold iblk
  rw [View.read_apply, emb2]
  refine (congrFun (V_groups m c) _).trans ((groups_at _ _ _ _).trans (congrArg _ (congrArg _ (Fin.ext ?_))))
  simp only [colU, col]
  omega

/-- The products a point leaves in its two scratch arrays. -/
theorem gate_acc (t : Fin cfg0.N) (i : Fin 256) (k : Fin 1408) :
    k0_pay3 (k0_pay1 (F := Ideal)) (iblk m c 0 t) (iblk m c 1 t) (ix2 i k) = product (m (c, main_arg0)) (m (c, main_arg1)) (ix2 i (colG (col t k))) := by
  rw [product_at]
  pointwise [k0_pay3, k0_pay1]
  simp only [blk0, blk1]
  rfl
theorem up_acc (t : Fin cfg0.N) (i : Fin 256) (k : Fin 1408) :
    k0_pay4 (k0_pay2 (F := Ideal)) (iblk m c 0 t) (iblk m c 2 t) (ix2 i k) = product (m (c, main_arg0)) (m (c, main_arg1)) (ix2 i (colU (col t k))) := by
  rw [product_at]
  pointwise [k0_pay4, k0_pay2]
  simp only [blk0, blk2]
  rfl

theorem act_at (g u : Vec Ideal S256x1408 .f32) (i : Fin 256) (k : Fin 1408) : k0_pay7 g u (ix2 i k) = hid (u (ix2 i k)) (g (ix2 i k)) := by
  pointwise [k0_pay7, k0_pay6, k0_pay5]
  rfl
theorem dgate_at (g u : Vec Ideal S256x1408 .f32) (i : Fin 256) (k : Fin 1408) (hg : ∃ r : ℝ, g (ix2 i k) = (r : EReal)) (hu : ∃ r : ℝ, u (ix2 i k) = (r : EReal)) :
    k0_pay8 g u (ix3 0 i k) = dGate 1 (u (ix2 i k)) (g (ix2 i k)) := by
  obtain ⟨a, ha⟩ := hg
  obtain ⟨b, hb⟩ := hu
  pointwise [k0_pay8, k0_pay5]
  rw [ha, hb]
  exact dGate_one a b
theorem dup_at (g : Vec Ideal S256x1408 .f32) (i : Fin 256) (k : Fin 1408) : k0_pay9 g (ix3 0 i k) = dUp 1 (g (ix2 i k)) := by
  pointwise [k0_pay9, k0_pay6, k0_pay5]
  exact (mul_one _).symm

/-- A point's two output blocks. -/
theorem out3_at (t : Fin cfg0.N) (i : Fin 256) (k : Fin 1408) :
    (outsAt0 m c t).1 (ix2 i k) = hidden (product (m (c, main_arg0)) (m (c, main_arg1))) (ix2 i (col t k)) := by
  rw [hidden_at, ← gate_acc, ← up_acc, ← act_at]
  simp only [outsAt0]
  frame_out
theorem gate_piece (hh : ∀ j, ∃ r : ℝ, m (c, main_arg0) j = (r : EReal)) (hw : ∀ j, ∃ r : ℝ, m (c, main_arg1) j = (r : EReal))
    (t : Fin cfg0.N) (i : Fin 256) (k : Fin 1408) :
    k0_pay8 (k0_pay3 (k0_pay1 (F := Ideal)) (iblk m c 0 t) (iblk m c 1 t)) (k0_pay4 (k0_pay2 (F := Ideal)) (iblk m c 0 t) (iblk m c 2 t)) (ix3 0 i k)
      = partials (product (m (c, main_arg0)) (m (c, main_arg1))) (ix3 0 i (col t k)) := by
  rw [dgate_at _ _ _ _ (by rw [gate_acc]; exact product_real _ _ hh hw _ _) (by rw [up_acc]; exact product_real _ _ hh hw _ _), gate_acc, up_acc, partials_gate]
theorem up_piece (t : Fin cfg0.N) (i : Fin 256) (k : Fin 1408) :
    k0_pay9 (k0_pay3 (k0_pay1 (F := Ideal)) (iblk m c 0 t) (iblk m c 1 t)) (ix3 0 i k)
      = partials (product (m (c, main_arg0)) (m (c, main_arg1))) (ix3 1 i (col t k)) := by
  rw [dup_at, gate_acc, partials_up]
theorem out4_at (hh : ∀ j, ∃ r : ℝ, m (c, main_arg0) j = (r : EReal)) (hw : ∀ j, ∃ r : ℝ, m (c, main_arg1) j = (r : EReal))
    (t : Fin cfg0.N) (s : Fin 2) (i : Fin 256) (k : Fin 1408) :
    (outsAt0 m c t).2 (ix3 s i k) = partials (product (m (c, main_arg0)) (m (c, main_arg1))) (ix3 s i (col t k)) := by
  simp only [outsAt0]
  frame_out
  canon_tiles x h
  all_goals
    obtain ⟨z, i', k', rfl⟩ : ∃ z i' k', x = ix3 z i' k' := ⟨_, _, _, eq_ix3 x⟩
    obtain rfl : z = 0 := Subsingleton.elim _ _
    obtain rfl : i = i' := Fin.ext h1
    obtain rfl : k = k' := Fin.ext h2
  · obtain rfl : s = 1 := Fin.ext h0
    exact up_piece m c t i k
  · obtain rfl : s = 0 := Fin.ext h0
    exact gate_piece m c hh hw t i k

/-- The kernel's two arrays are the reference's. -/
theorem value_act : (dats m 0 c).arrAt 3 cfg0.N = (truncf .bf16 (hidden (product (m (c, main_arg0)) (m (c, main_arg1)))) bitsLt_bf16_f32 : FVec Ideal S256x5632 .bf16) := by
  refine Pipeline.Dat.arrAt_eq_of_covers _ 3 _ (by decide +kernel) fun t hf (y : S256x1408.Idx) => ?_
  obtain ⟨i, k, rfl⟩ : ∃ i k, y = ix2 i k := ⟨_, _, eq_ix2 y⟩
  rw [emb3]
  show (dats m 0 c).after 3 t (ix2 i k) = _
  rw [after0_3, out3_at]
  rfl
theorem value_partials (hh : ∀ j, ∃ r : ℝ, m (c, main_arg0) j = (r : EReal)) (hw : ∀ j, ∃ r : ℝ, m (c, main_arg1) j = (r : EReal)) :
    (dats m 0 c).arrAt 4 cfg0.N = partials (product (m (c, main_arg0)) (m (c, main_arg1))) := by
  refine Pipeline.Dat.arrAt_eq_of_covers _ 4 _ (by decide +kernel) fun t hf (y : S2x256x1408.Idx) => ?_
  obtain ⟨s, i, k, rfl⟩ : ∃ s i k, y = ix3 s i k := ⟨_, _, _, eq_ix3 y⟩
  rw [emb4]
  show (dats m 0 c).after 4 t (ix3 s i k) = _
  rw [after0_4, out4_at m c hh hw]

end Cert.CtxInIdeal.Ffn

end
-- ==== Proof.CtxOut.lean ====
module

public import proofs.«01_k».proof.Proof.Gen.CtxOutIdeal.Value
public import proofs.«01_k».proof.Proof.Gen.CtxOutRefIdeal.Run
public import Idealize.ShloMosaic.Lib.Pipeline.ValueKit.Point
public import Idealize.ShloMosaic.Lib.Pipeline.ValueKit.Acc
public import Idealize.ShloMosaic.Lib.Pointwise

@[expose] public section

set_option maxRecDepth 16384

/-! Over the context tokens, the feed-forward network's second product with the residual: the kernel's blocked products summed over the two halves of the hidden columns are the reference's one product. -/

noncomputable section

namespace Cert.CtxOutIdeal.Ffn

open Cert.CtxOutIdeal Cert.CtxOutIdeal.Gen
open Idealize.ShloMosaic Idealize.ShloMosaic.TcCoe Idealize.SL.Sem Idealize.ShloMosaic.Pointwise
open scoped BigOperators

theorem idx0 : ∀ t : Fin cfg0.N, win0_0.index t = ![0, t.val % 2] := (by decide +kernel : ∀ t : Fin grid0.N, _)
theorem idx1 : ∀ t : Fin cfg0.N, win0_1.index t = ![t.val % 2, t.val / 2 % 2] := (by decide +kernel : ∀ t : Fin grid0.N, _)
theorem idx2 : ∀ t : Fin cfg0.N, win0_2.index t = ![0, t.val / 2 % 2] := (by decide +kernel : ∀ t : Fin grid0.N, _)
theorem idx3 : ∀ t : Fin cfg0.N, win0_3.index t = ![0, t.val / 2 % 2] := (by decide +kernel : ∀ t : Fin grid0.N, _)
theorem idx4 : ∀ t : Fin cfg0.N, win0_4.index t = ![0, t.val / 2 % 2] := (by decide +kernel : ∀ t : Fin grid0.N, _)
theorem idx5 : ∀ t : Fin cfg0.N, win0_5.index t = ![0, t.val / 2 % 2] := (by decide +kernel : ∀ t : Fin grid0.N, _)

/-- The column of the result under column `d` -/
def col (t : Fin cfg0.N) (d : Fin 1024) : Fin 2048 := ⟨t.val / 2 % 2 * 1024 + d.val, by omega⟩
/-- and the hidden column under column `k`. -/
def hid (t : Fin cfg0.N) (k : Fin 2816) : Fin 5632 := ⟨t.val % 2 * 2816 + k.val, by omega⟩

/-- One row's product at one hidden column. -/
def term (a : FVec Ideal S256x5632 .f32) (w : FVec Ideal S5632x2048 .f32) (i : Fin 256) (d : Fin 2048) (k : Fin 5632) : EReal := a (ix2 i k) * w (ix2 k d)
/-- What a point adds to its block. -/
def part (a : FVec Ideal S256x5632 .f32) (w : FVec Ideal S5632x2048 .f32) (t : Fin cfg0.N) (y : S256x1024.Idx) : EReal :=
  ∑ k : Fin 2816, term a w (y 0) (col t (y 1)) (hid t k)

/-- The two halves are all the hidden columns. -/
theorem whole (a : FVec Ideal S256x5632 .f32) (w : FVec Ideal S5632x2048 .f32) (t : Fin cfg0.N) (ht : t.val % 2 = 2 - 1) (i : Fin 256) (d : Fin 1024) :
    ∑ s : Fin 2, part a w ⟨2 * (t.val / 2) + s.val, Pipeline.run_point_lt_of_flush t ht s⟩ (ix2 i d) = ∑ k : Fin 5632, term a w i (col t d) k := by
  refine Fin.sum_mul_add_congr fun s k h => ?_
  have hc : col ⟨2 * (t.val / 2) + s.val, Pipeline.run_point_lt_of_flush t ht s⟩ d = col t d := Fin.ext (by simp only [col]; omega)
  show term a w i (col ⟨2 * (t.val / 2) + s.val, Pipeline.run_point_lt_of_flush t ht s⟩ d) _ = _
  rw [hc]
  refine congrArg _ (Fin.ext ?_)
  simp only [hid]
  omega

/-- The reference's product. -/
def product (a : FVec Ideal S256x5632 .f32) (w : FVec Ideal S5632x2048 .f32) : FVec Ideal S256x2048 .f32 :=
  Host.dotGeneral (F := Ideal) (φ₁ := .f32) (φ₂ := .f32) Cert.CtxOutRefIdeal.dot_S256x5632_S5632x2048_S256x2048_1_0_0_1_n_n none a w
theorem product_at (a : FVec Ideal S256x5632 .f32) (w : FVec Ideal S5632x2048 .f32) (i : Fin 256) (d : Fin 2048) :
    product a w (ix2 i d) = ∑ k : Fin 5632, term a w i d k := by
  pointwise [product]
  rfl
/-- The residual and half the gated product, at an index. -/
def mix (x : FVec Ideal S256x2048 .f32) (g : FVec Ideal S1x2048 .f32) (i : Fin 256) (d : Fin 2048) (f : EReal) : EReal :=
  x (ix2 i d) + Scalar.ofBits (F := Ideal) .f32 0x3F000000#32 * g (ix2 0 d) * f
/-- The reference's first result: the residual and half the gated product. -/
def gated (f x : FVec Ideal S256x2048 .f32) (g : FVec Ideal S1x2048 .f32) : FVec Ideal S256x2048 .f32 :=
  addf x (mulf (broadcastInDim S256x2048 ![0, 1] Cert.CtxOutRefIdeal.Gen.bcast_S1x2048_S256x2048_0_1
    (mulf (broadcastInDim S1x2048 ![] Cert.CtxOutRefIdeal.Gen.bcast_S_S1x2048 (constant Cert.CtxOutRefIdeal.S_ .f32 0x3F000000#32)) g)) f)
theorem gated_at (f x : FVec Ideal S256x2048 .f32) (g : FVec Ideal S1x2048 .f32) (i : Fin 256) (d : Fin 2048) :
    gated f x g (ix2 i d) = mix x g i d (f (ix2 i d)) := by
  pointwise [gated]
  rfl

variable (m : (ℓ : Loc nD τ sig) → Buf (Elt Ideal) ℓ) (c : Dev nD)

theorem V_hidden : V m c main_v0 = (truncf .bf16 (m (c, main_arg0)) bitsLt_bf16_f32 : FVec Ideal S256x5632 .bf16) := by
  show StableHlo.after hostOps0 (fun b => m (c, b)) main_v0 = _
  after_results_simp <;> rfl
theorem V_weights : V m c main_v1 = (truncf .bf16 (m (c, main_arg1)) bitsLt_bf16_f32 : FVec Ideal S5632x2048 .bf16) := by
  show StableHlo.after hostOps0 (fun b => m (c, b)) main_v1 = _
  after_results_simp <;> rfl
theorem V_res : V m c main_arg2 = m (c, main_arg2) := by
  show StableHlo.after hostOps0 (fun b => m (c, b)) main_arg2 = _
  after_results_simp <;> rfl
theorem V_gate : V m c main_arg3 = m (c, main_arg3) := by
  show StableHlo.after hostOps0 (fun b => m (c, b)) main_arg3 = _
  after_results_simp <;> rfl

theorem emb0 (t : Fin cfg0.N) (i : Fin 256) (k : Fin 2816) : ((cfg0.win 0).blk t).view.emb (ix2 i k) = ix2 i (hid t k) := by
  blk_ext [idx0, hid]
theorem emb1 (t : Fin cfg0.N) (k : Fin 2816) (d : Fin 1024) : ((cfg0.win 1).blk t).view.emb (ix2 k d) = ix2 (hid t k) (col t d) := by
  blk_ext [idx1, hid, col]
theorem emb2 (t : Fin cfg0.N) (i : Fin 256) (d : Fin 1024) : ((cfg0.win 2).blk t).view.emb (ix2 i d) = ix2 i (col t d) := by
  blk_ext [idx2, col]
theorem emb3 (t : Fin cfg0.N) (d : Fin 1024) : ((cfg0.win 3).blk t).view.emb (ix2 0 d) = ix2 0 (col t d) := by
  blk_ext [idx3, col]
theorem emb4 (t : Fin cfg0.N) (i : Fin 256) (d : Fin 1024) : ((cfg0.win 4).blk t).view.emb (ix2 i d) = ix2 i (col t d) := by
  blk_ext [idx4, col]
theorem emb5 (t : Fin cfg0.N) (i : Fin 256) (d : Fin 1024) : ((cfg0.win 5).blk t).view.emb (ix2 i d) = ix2 i (col t d) := by
  blk_ext [idx5, col]

theorem blk0 (t : Fin cfg0.N) (i : Fin 256) (k : Fin 2816) : iblk m c 0 t (ix2 i k) = m (c, main_arg0) (ix2 i (hid t k)) := by
  unfold iblk
  rw [View.read_apply, emb0]
  exact congrFun (V_hidden m c) _
theorem blk1 (t : Fin cfg0.N) (k : Fin 2816) (d : Fin 1024) : iblk m c 1 t (ix2 k d) = m (c, main_arg1) (ix2 (hid t k) (col t d)) := by
  unfold iblk
  rw [View.read_apply, emb1]
  exact congrFun (V_weights m c) _
theorem blk2 (t : Fin cfg0.N) (i : Fin 256) (d : Fin 1024) : iblk m c 2 t (ix2 i d) = m (c, main_arg2) (ix2 i (col t d)) := by
  unfold iblk
  rw [View.read_apply, emb2]
  exact congrFun (V_res m c) _
theorem blk3 (t : Fin cfg0.N) (d : Fin 1024) : iblk m c 3 t (ix2 0 d) = m (c, main_arg3) (ix2 0 (col t d)) := by
  unfold iblk
  rw [View.read_apply, emb3]
  exact congrFun (V_gate m c) _

theorem zero_at (y : S256x1024.Idx) : k0_pay1 (F := Ideal) y = (0 : EReal) := by
  obtain ⟨i, d, rfl⟩ : ∃ i d, y = ix2 i d := ⟨_, _, eq_ix2 y⟩
  pointwise [k0_pay1]

theorem step_at (a : Vec Ideal S256x1024 .f32) (t : Fin cfg0.N) (y : S256x1024.Idx) :
    k0_pay2 a (iblk m c 0 t) (iblk m c 1 t) y = a y + part (m (c, main_arg0)) (m (c, main_arg1)) t y := by
  obtain ⟨i, d, rfl⟩ : ∃ i d, y = ix2 i d := ⟨_, _, eq_ix2 y⟩
  pointwise [k0_pay2]
  simp only [blk0, blk1]
  rfl

/-- The scratch after a point that writes back is the reference's product there. -/
theorem scratch (t : Fin cfg0.N) (ht : t.val % 2 = 2 - 1) (i : Fin 256) (d : Fin 1024) :
    (outsAt0 m c t.val t.isLt).2.2 (ix2 i d) = product (m (c, main_arg0)) (m (c, main_arg1)) (ix2 i (col t d)) := by
  rw [product_at, ← whole _ _ t ht, Pipeline.eq_sum_fin_of_reset_step_apply_of_flush (fun n h => (outsAt0 m c n h).2.2) 2 (fun _ => (0 : EReal))
    (part (m (c, main_arg0)) (m (c, main_arg1)))
    (fun t h y => by rw [outsAt0_A m c t h (by omega)]; frame_out; rw [step_at, zero_at])
    (fun t h y => by rw [outsAt0_B m c t h (by omega)]; frame_out; rw [step_at]; exact congrArg (· + _) (congrFun (Memref.IsWhole.read_unread _ _) y)) t ht (ix2 i d), zero_add]

/-- At a point that writes back the two output blocks are the epilogue of the scratch. -/
theorem res_at (t : Fin cfg0.N) (ht : t.val % 2 = 1) (i : Fin 256) (d : Fin 1024) :
    (outsAt0 m c t.val t.isLt).1 (ix2 i d) = k0_pay3 (outsAt0 m c t.val t.isLt).2.2 (iblk m c 2 t) (iblk m c 3 t) (ix2 i d) := by
  rw [outsAt0_B m c t (by omega) ht]
  frame_out
theorem prod_at (t : Fin cfg0.N) (ht : t.val % 2 = 1) (i : Fin 256) (d : Fin 1024) :
    (outsAt0 m c t.val t.isLt).2.1 (ix2 i d) = (outsAt0 m c t.val t.isLt).2.2 (ix2 i d) := by
  rw [outsAt0_B m c t (by omega) ht]
  frame_out
  pointwise [k0_pay4]
theorem gate_at (f : Vec Ideal S256x1024 .f32) (t : Fin cfg0.N) (i : Fin 256) (d : Fin 1024) :
    k0_pay3 f (iblk m c 2 t) (iblk m c 3 t) (ix2 i d)
      = mix (m (c, main_arg2)) (m (c, main_arg3)) i (col t d) (f (ix2 i d)) := by
  pointwise [k0_pay3]
  simp only [blk2, blk3]
  rfl

/-- The kernel's two arrays are the reference's. -/
theorem value_res : (dats m 0 c).arrAt 4 cfg0.N = gated (product (m (c, main_arg0)) (m (c, main_arg1))) (m (c, main_arg2)) (m (c, main_arg3)) := by
  refine Pipeline.Dat.arrAt_eq_of_covers _ 4 _ (by decide +kernel) fun t hf (y : S256x1024.Idx) => ?_
  have ht := (flush0_4 t).1 hf
  obtain ⟨i, d, rfl⟩ : ∃ i d, y = ix2 i d := ⟨_, _, eq_ix2 y⟩
  rw [emb4]
  show (dats m 0 c).after 4 t (ix2 i d) = _
  rw [after0_4, res_at m c t ht, gate_at, scratch m c t ht, gated_at]
theorem value_prod : (dats m 0 c).arrAt 5 cfg0.N = (truncf .bf16 (product (m (c, main_arg0)) (m (c, main_arg1))) bitsLt_bf16_f32 : FVec Ideal S256x2048 .bf16) := by
  refine Pipeline.Dat.arrAt_eq_of_covers _ 5 _ (by decide +kernel) fun t hf (y : S256x1024.Idx) => ?_
  have ht := (flush0_5 t).1 hf
  obtain ⟨i, d, rfl⟩ : ∃ i d, y = ix2 i d := ⟨_, _, eq_ix2 y⟩
  rw [emb5]
  show (dats m 0 c).after 5 t (ix2 i d) = _
  rw [after0_5, prod_at m c t ht, scratch m c t ht]
  rfl

end Cert.CtxOutIdeal.Ffn

end
-- ==== Proof.CtxDh.lean ====
module

public import proofs.«01_k».proof.Proof.Gen.CtxDhIdeal.Value
public import proofs.«01_k».proof.Proof.Gen.CtxDhRefIdeal.Run
public import proofs.«01_k».proof.Proof.FfnDh
public import Idealize.ShloMosaic.Lib.Pipeline.ValueKit.Point
public import Idealize.ShloMosaic.Lib.Pipeline.ValueKit.Acc
public import Idealize.ShloMosaic.Lib.Pointwise

@[expose] public section

set_option maxRecDepth 16384

/-! Over the context tokens, the gradient of the feed-forward network's input: the kernel's blocked products summed over the column tiles are the reference's one product. -/

noncomputable section

namespace Cert.CtxDhIdeal.Ffn

open Cert.CtxDhIdeal Cert.CtxDhIdeal.Gen
open Cert.DhIdeal.Ffn (groups groups_at)
open Idealize.ShloMosaic Idealize.ShloMosaic.TcCoe Idealize.SL.Sem Idealize.ShloMosaic.Pointwise
open scoped BigOperators

theorem idx0 : ∀ t : Fin cfg0.N, win0_0.index t = ![0, 0, t.val % 4] := (by decide +kernel : ∀ t : Fin grid0.N, _)
theorem idx1 : ∀ t : Fin cfg0.N, win0_1.index t = ![1, 0, t.val % 4] := (by decide +kernel : ∀ t : Fin grid0.N, _)
theorem idx2 : ∀ t : Fin cfg0.N, win0_2.index t = ![t.val % 4, 0, 0] := (by decide +kernel : ∀ t : Fin grid0.N, _)
theorem idx3 : ∀ t : Fin cfg0.N, win0_3.index t = ![t.val % 4 + 4, 0, 0] := (by decide +kernel : ∀ t : Fin grid0.N, _)
theorem idx4 : ∀ t : Fin cfg0.N, win0_4.index t = ![0, 0] := (by decide +kernel : ∀ t : Fin grid0.N, _)

/-- The column of the whole product under column `k` of a point's first block, -/
def colG (t : Fin cfg0.N) (k : Fin 1408) : Fin 11264 := ⟨t.val % 4 * 1408 + k.val, by omega⟩
/-- and of its second block. -/
def colU (t : Fin cfg0.N) (k : Fin 1408) : Fin 11264 := ⟨5632 + (t.val % 4 * 1408 + k.val), by omega⟩

variable (m : (ℓ : Loc nD τ sig) → Buf (Elt Ideal) ℓ) (c : Dev nD)

/-- The gradient of the products, the two halves one above the other. -/
def halves (x : FVec Ideal S256x11264 .f32) : FVec Ideal S2x256x5632 .bf16 :=
  truncf .bf16 (transpose S2x256x5632 [1, 0, 2] (shapeCast S256x2x5632 x shapeCasts_S256x11264_S256x2x5632) transposes_S256x2x5632_S2x256x5632_1_0_2) bitsLt_bf16_f32
theorem V_halves : V m c main_v2 = halves (m (c, main_arg0)) := by
  show StableHlo.after hostOps0 (fun b => m (c, b)) main_v2 = _
  unfold halves
  after_results_simp <;> rfl
theorem V_groups : V m c main_v5 = groups (m (c, main_arg1)) := by
  show StableHlo.after hostOps0 (fun b => m (c, b)) main_v5 = _
  unfold groups
  after_results_simp <;> rfl

theorem halves_at (x : FVec Ideal S256x11264 .f32) (s : Fin 2) (i : Fin 256) (k : Fin 5632) :
    halves x (ix3 s i k) = x (ix2 i ⟨s.val * 5632 + k.val, by omega⟩) := by
  pointwise [halves]
theorem emb0 (t : Fin cfg0.N) (i : Fin 256) (k : Fin 1408) : ((cfg0.win 0).blk t).view.emb (ix3 0 i k) = ix3 0 i ⟨t.val % 4 * 1408 + k.val, by omega⟩ := by
  blk_ext [idx0]
theorem emb1 (t : Fin cfg0.N) (i : Fin 256) (k : Fin 1408) : ((cfg0.win 1).blk t).view.emb (ix3 0 i k) = ix3 1 i ⟨t.val % 4 * 1408 + k.val, by omega⟩ := by
  blk_ext [idx1]
theorem emb2 (t : Fin cfg0.N) (d : Fin 2048) (k : Fin 1408) : ((cfg0.win 2).blk t).view.emb (ix3 0 d k) = ix3 ⟨t.val % 4, by omega⟩ d k := by
  blk_ext [idx2]
theorem emb3 (t : Fin cfg0.N) (d : Fin 2048) (k : Fin 1408) : ((cfg0.win 3).blk t).view.emb (ix3 0 d k) = ix3 ⟨t.val % 4 + 4, by omega⟩ d k := by
  blk_ext [idx3]
theorem emb4 (t : Fin cfg0.N) (i : Fin 256) (d : Fin 2048) : ((cfg0.win 4).blk t).view.emb (ix2 i d) = ix2 i d := by
  blk_ext [idx4]

theorem blk0 (t : Fin cfg0.N) (i : Fin 256) (k : Fin 1408) : iblk m c 0 t (ix3 0 i k) = m (c, main_arg0) (ix2 i (colG t k)) := by
  unfold iblk
  rw [View.read_apply, emb0]
  refine (congrFun (V_halves m c) _).trans ((halves_at _ _ _ _).trans (congrArg _ (congrArg _ (Fin.ext ?_))))
  simp [colG]
theorem blk1 (t : Fin cfg0.N) (i : Fin 256) (k : Fin 1408) : iblk m c 1 t (ix3 0 i k) = m (c, main_arg0) (ix2 i (colU t k)) := by
  unfold iblk
  rw [View.read_apply, emb1]
  refine (congrFun (V_halves m c) _).trans ((halves_at _ _ _ _).trans (congrArg _ (congrArg _ (Fin.ext ?_))))
  simp [colU]
theorem blk2 (t : Fin cfg0.N) (d : Fin 2048) (k : Fin 1408) : iblk m c 2 t (ix3 0 d k) = m (c, main_arg1) (ix2 d (colG t k)) := by
  unfold iblk
  rw [View.read_apply, emb2]
  refine (congrFun (V_groups m c) _).trans ((groups_at _ _ _ _).trans (congrArg _ (congrArg _ (Fin.ext ?_))))
  simp [colG]
theorem blk3 (t : Fin cfg0.N) (d : Fin 2048) (k : Fin 1408) : iblk m c 3 t (ix3 0 d k) = m (c, main_arg1) (ix2 d (colU t k)) := by
  unfold iblk
  rw [View.read_apply, emb3]
  refine (congrFun (V_groups m c) _).trans ((groups_at _ _ _ _).trans (congrArg _ (congrArg _ (Fin.ext ?_))))
  simp [colU]; omega

/-- The product of one row of the gradient with one row of the weights at one column. -/
def term (x : FVec Ideal S256x11264 .f32) (w : FVec Ideal S2048x11264 .f32) (i : Fin 256) (d : Fin 2048) (k : Fin 11264) : EReal := x (ix2 i k) * w (ix2 d k)

/-- What a point adds to its block. -/
def part (x : FVec Ideal S256x11264 .f32) (w : FVec Ideal S2048x11264 .f32) (t : Fin cfg0.N) (y : S256x2048.Idx) : EReal :=
  (∑ k : Fin 1408, term x w (y 0) (y 1) (colG t k)) + ∑ k : Fin 1408, term x w (y 0) (y 1) (colU t k)

theorem zero_at (y : S256x2048.Idx) : k0_pay1 (F := Ideal) y = (0 : EReal) := by
  obtain ⟨i, d, rfl⟩ : ∃ i d, y = ix2 i d := ⟨_, _, eq_ix2 y⟩
  pointwise [k0_pay1]

theorem step_at (a : Vec Ideal S256x2048 .f32) (t : Fin cfg0.N) (y : S256x2048.Idx) :
    k0_pay3 (k0_pay2 a (iblk m c 0 t) (iblk m c 2 t)) (iblk m c 1 t) (iblk m c 3 t) y = a y + part (m (c, main_arg0)) (m (c, main_arg1)) t y := by
  obtain ⟨i, d, rfl⟩ : ∃ i d, y = ix2 i d := ⟨_, _, eq_ix2 y⟩
  pointwise [k0_pay3, k0_pay2]
  simp only [blk0, blk1, blk2, blk3]
  exact add_assoc _ _ _

/-- The scratch after a point that writes back: the four points' terms. -/
theorem scratch (t : Fin cfg0.N) (ht : t.val % 4 = 4 - 1) (y : S256x2048.Idx) :
    (outsAt0 m c t.val t.isLt).2 y
      = ∑ s : Fin 4, part (m (c, main_arg0)) (m (c, main_arg1)) ⟨4 * (t.val / 4) + s.val, Pipeline.run_point_lt_of_flush t ht s⟩ y := by
  rw [Pipeline.eq_sum_fin_of_reset_step_apply_of_flush (fun n h => (outsAt0 m c n h).2) 4 (fun _ => (0 : EReal)) (part (m (c, main_arg0)) (m (c, main_arg1)))
    (fun t h y => by rw [outsAt0_A m c t h (by omega)]; frame_out; rw [step_at, zero_at])
    (fun t h y => by
      by_cases h3 : t.val % 4 = 3
      · rw [outsAt0_C m c t h h3]; frame_out; rw [step_at]; exact congrArg (· + _) (congrFun (Memref.IsWhole.read_unread _ _) y)
      · rw [outsAt0_B m c t h h3]; frame_out; rw [step_at]; exact congrArg (· + _) (congrFun (Memref.IsWhole.read_unread _ _) y)) t ht y, zero_add]

/-- At a point that writes back the output block is the scratch. -/
theorem out_eq (t : Fin cfg0.N) (ht : t.val % 4 = 3) : (outsAt0 m c t.val t.isLt).1 = (outsAt0 m c t.val t.isLt).2 := by
  rw [outsAt0_C m c t (by omega) ht]
  frame_out

/-- A row of the whole product: the four column tiles of both halves are all the columns. -/
theorem whole (x : FVec Ideal S256x11264 .f32) (w : FVec Ideal S2048x11264 .f32) (t : Fin cfg0.N) (ht : t.val % 4 = 4 - 1) (i : Fin 256) (d : Fin 2048) :
    ∑ s : Fin 4, part x w ⟨4 * (t.val / 4) + s.val, Pipeline.run_point_lt_of_flush t ht s⟩ (ix2 i d) = ∑ k : Fin 11264, term x w i d k := by
  unfold part
  rw [Finset.sum_add_distrib, Fin.sum_univ_add (a := 5632) (b := 5632)]
  congr 1
  all_goals
    refine Fin.sum_mul_add_congr fun s k h => ?_
    refine congrArg _ (Fin.ext ?_)
    simp only [colG, colU, Fin.val_castAdd, Fin.val_natAdd]
    omega

/-- The reference's product at an index. -/
theorem ref_at (x : FVec Ideal S256x11264 .f32) (w : FVec Ideal S2048x11264 .f32) (i : Fin 256) (d : Fin 2048) :
    Host.dotGeneral (F := Ideal) (φ₁ := .f32) (φ₂ := .f32) Cert.CtxDhRefIdeal.dot_S256x11264_S2048x11264_S256x2048_1_1_0_0_n_n none x w (ix2 i d) = ∑ k : Fin 11264, term x w i d k := by
  pointwise
  rfl

/-- The kernel's array is the reference's. -/
theorem value : (dats m 0 c).arrAt 4 cfg0.N
    = (Host.dotGeneral (F := Ideal) (φ₁ := .f32) (φ₂ := .f32) Cert.CtxDhRefIdeal.dot_S256x11264_S2048x11264_S256x2048_1_1_0_0_n_n none (m (c, main_arg0)) (m (c, main_arg1)) : FVec Ideal S256x2048 .f32) := by
  refine Pipeline.Dat.arrAt_eq_of_covers _ 4 _ (by decide +kernel) fun t hf (y : S256x2048.Idx) => ?_
  have ht := (flush0_4 t).1 hf
  obtain ⟨i, d, rfl⟩ : ∃ i d, y = ix2 i d := ⟨_, _, eq_ix2 y⟩
  rw [emb4]
  show (dats m 0 c).after 4 t (ix2 i d) = _
  rw [after0_4, out_eq m c t ht, scratch m c t ht, whole _ _ t ht]
  exact (ref_at _ _ _ _).symm

end Cert.CtxDhIdeal.Ffn

end
-- ==== Proof.CtxDa.lean ====
module

public import proofs.«01_k».proof.Proof.Gen.CtxDaIdeal.Value
public import proofs.«01_k».proof.Proof.Gen.CtxDaRefIdeal.Run
public import proofs.«01_k».proof.Proof.CtxAct
public import proofs.«01_k».proof.Proof.CtxDh
public import Idealize.ShloMosaic.Lib.Pipeline.ValueKit.Tiles

@[expose] public section

set_option maxRecDepth 16384

/-! Over the context tokens, the gradient of the feed-forward network's first products: the hidden gradient times the two partial derivatives. -/

noncomputable section

namespace Cert.CtxDaIdeal.Ffn

open Cert.CtxDaIdeal Cert.CtxDaIdeal.Gen Cert.CtxAct
open Cert.FfnAct (sum_real dGate_mul dUp_mul dGate dUp)
open Cert.CtxDhIdeal.Ffn (halves halves_at)
open Idealize.ShloMosaic Idealize.ShloMosaic.StableHlo Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0, t.val] := (by decide +kernel : ∀ t : Fin grid0.N, _)
theorem idx3 : ∀ t : Fin cfg0.N, win0_3.index t = ![0, 0, t.val] := (by decide +kernel : ∀ t : Fin grid0.N, _)

/-- The hidden column of the arrays under a point's block. -/
def col (t : Fin cfg0.N) (k : Fin 1408) : Fin 5632 := ⟨t.val * 1408 + k.val, by have := t.isLt.trans_eq N_0; omega⟩

/-- The product of one row of the gradient with one row of the weights at one place. -/
def term (e : FVec Ideal S256x2048 .f32) (w : FVec Ideal S5632x2048 .f32) (i : Fin 256) (k : Fin 5632) (d : Fin 2048) : EReal := e (ix2 i d) * w (ix2 k d)
/-- The reference's product, the gradient of the activation. -/
def product (e : FVec Ideal S256x2048 .f32) (w : FVec Ideal S5632x2048 .f32) : FVec Ideal S256x5632 .f32 :=
  Host.dotGeneral (F := Ideal) (φ₁ := .f32) (φ₂ := .f32) Cert.CtxDaRefIdeal.dot_S256x2048_S5632x2048_S256x5632_1_1_0_0_n_n none e w
theorem product_at (e : FVec Ideal S256x2048 .f32) (w : FVec Ideal S5632x2048 .f32) (i : Fin 256) (k : Fin 5632) :
    product e w (ix2 i k) = ∑ d : Fin 2048, term e w i k d := by
  pointwise [product]
  rfl
theorem product_real (e : FVec Ideal S256x2048 .f32) (w : FVec Ideal S5632x2048 .f32) (he : ∀ j, ∃ r : ℝ, e j = (r : EReal)) (hw : ∀ j, ∃ r : ℝ, w j = (r : EReal))
    (i : Fin 256) (k : Fin 5632) : ∃ r : ℝ, product e w (ix2 i k) = (r : EReal) := by
  rw [product_at]
  exact sum_real _ _ (fun d => he _) (fun d => hw _)

/-- The reference's result: the two gradients side by side, then in halves. -/
def sides (e : FVec Ideal S256x5632 .f32) (p : FVec Ideal S256x11264 .f32) : FVec Ideal S256x11264 .f32 :=
  concatenate S256x11264 1 [⟨S256x5632, gradGate e p⟩, ⟨S256x5632, gradUp e p⟩] Cert.CtxDaRefIdeal.Gen.concatenates_S256x5632_S256x5632_S256x11264_d1
theorem sides_gate (e : FVec Ideal S256x5632 .f32) (p : FVec Ideal S256x11264 .f32) (i : Fin 256) (k : Fin 5632) :
    halves (sides e p) (ix3 0 i k) = dGate (e (ix2 i k)) (p (ix2 i (FfnAct.colU k))) (p (ix2 i (FfnAct.colG k))) := by
  rw [halves_at, ← gradGate_at]
  pointwise [sides]
theorem sides_up (e : FVec Ideal S256x5632 .f32) (p : FVec Ideal S256x11264 .f32) (i : Fin 256) (k : Fin 5632) :
    halves (sides e p) (ix3 1 i k) = dUp (e (ix2 i k)) (p (ix2 i (FfnAct.colG k))) := by
  rw [halves_at, ← gradUp_at]
  pointwise [sides]

variable (m : (ℓ : Loc nD τ sig) → Buf (Elt Ideal) ℓ) (c : Dev nD)

theorem V_grad : V m c main_v0 = (truncf .bf16 (m (c, main_arg2)) bitsLt_bf16_f32 : FVec Ideal S256x2048 .bf16) := by
  simp only [V, hostOps0, hostOps0_1, hostOps0_2, hostOps0_3, hostOps0_4, List.flatten_cons, List.flatten_nil, List.append_nil, List.cons_append, List.nil_append,
    TRef.binary, TRef.unary, TRef.nullary, TRef.toBuf, TRef.ofBuf, cast_eq]
  after_results_simp <;> rfl
theorem V_weights : V m c main_v1 = (truncf .bf16 (m (c, main_arg1)) bitsLt_bf16_f32 : FVec Ideal S5632x2048 .bf16) := by
  simp only [V, hostOps0, hostOps0_1, hostOps0_2, hostOps0_3, hostOps0_4, List.flatten_cons, List.flatten_nil, List.append_nil, List.cons_append, List.nil_append,
    TRef.binary, TRef.unary, TRef.nullary, TRef.toBuf, TRef.ofBuf, cast_eq]
  after_results_simp <;> rfl
theorem V_partials : V m c main_v13 = partials (m (c, main_arg0)) := by
  simp only [V, hostOps0, hostOps0_1, hostOps0_2, hostOps0_3, hostOps0_4, List.flatten_cons, List.flatten_nil, List.append_nil, List.cons_append, List.nil_append,
    TRef.binary, TRef.unary, TRef.nullary, TRef.toBuf, TRef.ofBuf, cast_eq]
  after_results_simp <;> rfl

theorem emb0 (t : Fin cfg0.N) (i : Fin 256) (d : Fin 2048) : ((cfg0.win 0).blk t).view.emb (ix2 i d) = ix2 i d := by
  blk_ext [idx0]
theorem emb1 (t : Fin cfg0.N) (k : Fin 1408) (d : Fin 2048) : ((cfg0.win 1).blk t).view.emb (ix2 k d) = ix2 (col t k) d := by
  blk_ext [idx1, col]
theorem emb2 (t : Fin cfg0.N) (s : Fin 2) (i : Fin 256) (k : Fin 1408) : ((cfg0.win 2).blk t).view.emb (ix3 s i k) = ix3 s i (col t k) := by
  blk_ext [idx2, col]
theorem emb3 (t : Fin cfg0.N) (s : Fin 2) (i : Fin 256) (k : Fin 1408) : ((cfg0.win 3).blk t).view.emb (ix3 s i k) = ix3 s i (col t k) := by
  blk_ext [idx3, col]

theorem blk0 (t : Fin cfg0.N) (i : Fin 256) (d : Fin 2048) : iblk m c 0 t (ix2 i d) = m (c, main_arg2) (ix2 i d) := by
  unfold iblk
  rw [View.read_apply, emb0]
  exact congrFun (V_grad m c) _
theorem blk1 (t : Fin cfg0.N) (k : Fin 1408) (d : Fin 2048) : iblk m c 1 t (ix2 k d) = m (c, main_arg1) (ix2 (col t k) d) := by
  unfold iblk
  rw [View.read_apply, emb1]
  exact congrFun (V_weights m c) _
theorem blk2 (t : Fin cfg0.N) (s : Fin 2) (i : Fin 256) (k : Fin 1408) : iblk m c 2 t (ix3 s i k) = partials (m (c, main_arg0)) (ix3 s i (col t k)) := by
  unfold iblk
  rw [View.read_apply, emb2]
  exact congrFun (V_partials m c) _

/-- One element of a point's block: the products' sum times the partial derivative. -/
def entry (x : Vec Ideal S256x2048 .bf16) (w : Vec Ideal S1408x2048 .bf16) (p : Vec Ideal S2x256x1408 .bf16) (s : Fin 2) (i : Fin 256) (k : Fin 1408) : EReal :=
  (∑ d : Fin 2048, (x (ix2 i d) : EReal) * w (ix2 k d)) * p (ix3 s i k)

theorem out_at (t : Fin cfg0.N) (s : Fin 2) (i : Fin 256) (k : Fin 1408) :
    outsAt0 m c t (ix3 s i k) = entry (iblk m c 0 t) (iblk m c 1 t) (iblk m c 2 t) s i k := by
  simp only [outsAt0]
  frame_out
  canon_tiles x h using View.cover_of_tiledBy _ ![1, 256, 128] (by sl_kernel_rfl) _
  all_goals
    obtain ⟨z, i', b, rfl⟩ : ∃ z i' b, x = ix3 z i' b := ⟨_, _, _, eq_ix3 x⟩
    obtain rfl : z = 0 := Subsingleton.elim _ _
    obtain rfl : i = i' := Fin.ext h1
    have hb := b.isLt
  · obtain rfl : s = 1 := Fin.ext h0
    obtain ⟨hk, rfl⟩ : ∃ hk : 1024 + b.val < 1408, k = ⟨1024 + b.val, hk⟩ := ⟨by omega, Fin.ext h2⟩
    pointwise [entry, k0_pay3, k0_pay5, k0_pay6]
  · obtain rfl : s = 0 := Fin.ext h0
    obtain ⟨hk, rfl⟩ : ∃ hk : 1024 + b.val < 1408, k = ⟨1024 + b.val, hk⟩ := ⟨by omega, Fin.ext h2⟩
    pointwise [entry, k0_pay3, k0_pay4, k0_pay6]
  · obtain rfl : s = 1 := Fin.ext h0
    obtain ⟨hk, rfl⟩ : ∃ hk : 512 + b.val < 1408, k = ⟨512 + b.val, hk⟩ := ⟨by omega, Fin.ext h2⟩
    pointwise [entry, k0_pay2, k0_pay10, k0_pay6]
  · obtain rfl : s = 0 := Fin.ext h0
    obtain ⟨hk, rfl⟩ : ∃ hk : 512 + b.val < 1408, k = ⟨512 + b.val, hk⟩ := ⟨by omega, Fin.ext h2⟩
    pointwise [entry, k0_pay1, k0_pay11, k0_pay10, k0_pay6]
  · obtain rfl : s = 1 := Fin.ext h0
    obtain ⟨hk, rfl⟩ : ∃ hk : b.val < 1408, k = ⟨b.val, hk⟩ := ⟨by omega, Fin.ext h2⟩
    pointwise [entry, k0_pay9, k0_pay7, k0_pay6]
  · obtain rfl : s = 0 := Fin.ext h0
    obtain ⟨hk, rfl⟩ : ∃ hk : b.val < 1408, k = ⟨b.val, hk⟩ := ⟨by omega, Fin.ext h2⟩
    pointwise [entry, k0_pay8, k0_pay7, k0_pay6]

/-- The kernel's block is the reference's. -/
theorem entry_eq (hp : ∀ j, ∃ r : ℝ, m (c, main_arg0) j = (r : EReal)) (hw : ∀ j, ∃ r : ℝ, m (c, main_arg1) j = (r : EReal)) (he : ∀ j, ∃ r : ℝ, m (c, main_arg2) j = (r : EReal))
    (t : Fin cfg0.N) (s : Fin 2) (i : Fin 256) (k : Fin 1408) :
    entry (iblk m c 0 t) (iblk m c 1 t) (iblk m c 2 t) s i k = halves (sides (product (m (c, main_arg2)) (m (c, main_arg1))) (m (c, main_arg0))) (ix3 s i (col t k)) := by
  unfold entry
  simp only [blk0, blk1, blk2]
  refine (congrArg (· * partials (m (c, main_arg0)) (ix3 s i (col t k))) (product_at (m (c, main_arg2)) (m (c, main_arg1)) i (col t k)).symm).trans ?_
  obtain ⟨r, hr⟩ := product_real _ _ he hw i (col t k)
  obtain ⟨a, ha⟩ := hp (ix2 i (FfnAct.colG (col t k)))
  obtain ⟨b, hb⟩ := hp (ix2 i (FfnAct.colU (col t k)))
  match s with
  | 0 => rw [partials_gate, sides_gate, hr, ha, hb]; exact dGate_mul r a b
  | 1 => rw [partials_up, sides_up]; exact dUp_mul _ _

/-- The kernel's array is the reference's. -/
theorem value (hp : ∀ j, ∃ r : ℝ, m (c, main_arg0) j = (r : EReal)) (hw : ∀ j, ∃ r : ℝ, m (c, main_arg1) j = (r : EReal)) (he : ∀ j, ∃ r : ℝ, m (c, main_arg2) j = (r : EReal)) :
    (dats m 0 c).arrAt 3 cfg0.N = halves (sides (product (m (c, main_arg2)) (m (c, main_arg1))) (m (c, main_arg0))) := by
  refine Pipeline.Dat.arrAt_eq_of_covers _ 3 _ (by decide +kernel) fun t hf (y : S2x256x1408.Idx) => ?_
  obtain ⟨s, i, k, rfl⟩ : ∃ s i k, y = ix3 s i k := ⟨_, _, _, eq_ix3 y⟩
  rw [emb3]
  show (dats m 0 c).after 3 t (ix3 s i k) = _
  rw [after0_3, out_at, entry_eq m c hp hw he]

end Cert.CtxDaIdeal.Ffn

end
-- ==== Proof.CtxDwout.lean ====
module

public import proofs.«01_k».proof.Proof.Gen.CtxDwoutIdeal.Value
public import proofs.«01_k».proof.Proof.Gen.CtxDwoutRefIdeal.Run
public import proofs.«01_k».proof.Proof.CtxAct

@[expose] public section

set_option maxRecDepth 16384

/-! Over the context tokens, the gradient of the feed-forward network's second weights: one product for each group of hidden columns. -/

noncomputable section

namespace Cert.CtxDwoutIdeal.Ffn

open Cert.CtxDwoutIdeal Cert.CtxDwoutIdeal.Gen
open Cert.CtxAct (hidden)
open Idealize.ShloMosaic Idealize.ShloMosaic.StableHlo Idealize.ShloMosaic.TcCoe Idealize.SL.Sem Idealize.ShloMosaic.Pointwise
open scoped BigOperators

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The hidden column under column `b` of a point's block. -/
def col (t : Fin cfg0.N) (b : Fin 1408) : Fin 5632 := ⟨t.val * 1408 + b.val, by have := t.isLt.trans_eq N_0; omega⟩

/-- The reference's product, its two axes exchanged. -/
def product (a : FVec Ideal S256x5632 .f32) (e : FVec Ideal S256x2048 .f32) : FVec Ideal S5632x2048 .f32 :=
  transpose S5632x2048 [1, 0] (Host.dotGeneral (F := Ideal) (φ₁ := .f32) (φ₂ := .f32) Cert.CtxDwoutRefIdeal.dot_S256x2048_S256x5632_S2048x5632_0_0_1_1_n_n none e a)
    Cert.CtxDwoutRefIdeal.Gen.transposes_S2048x5632_S5632x2048_1_0
theorem product_at (a : FVec Ideal S256x5632 .f32) (e : FVec Ideal S256x2048 .f32) (j : Fin 5632) (d : Fin 2048) :
    product a e (ix2 j d) = ∑ k : Fin 256, a (ix2 k j) * e (ix2 k d) := by
  pointwise [product]
  exact Finset.sum_congr rfl fun k _ => mul_comm (e (ix2 k d)) (a (ix2 k j))

variable (m : (ℓ : Loc nD τ sig) → Buf (Elt Ideal) ℓ) (c : Dev nD)

theorem V_hidden : V m c main_v4 = (truncf .bf16 (hidden (m (c, main_arg0))) bitsLt_bf16_f32 : FVec Ideal S256x5632 .bf16) := by
  simp only [V, hostOps0, hostOps0_1, hostOps0_2, List.flatten_cons, List.flatten_nil, List.append_nil, List.cons_append, List.nil_append,
    TRef.binary, TRef.unary, TRef.nullary, TRef.toBuf, TRef.ofBuf, cast_eq]
  after_results_simp <;> rfl
theorem V_grad : V m c main_v5 = (truncf .bf16 (m (c, main_arg1)) bitsLt_bf16_f32 : FVec Ideal S256x2048 .bf16) := by
  simp only [V, hostOps0, hostOps0_1, hostOps0_2, List.flatten_cons, List.flatten_nil, List.append_nil, List.cons_append, List.nil_append,
    TRef.binary, TRef.unary, TRef.nullary, TRef.toBuf, TRef.ofBuf, cast_eq]
  after_results_simp <;> rfl

theorem emb0 (t : Fin cfg0.N) (k : Fin 256) (b : Fin 1408) : ((cfg0.win 0).blk t).view.emb (ix2 k b) = ix2 k (col t b) := by
  blk_ext [idx0, col]
theorem emb1 (t : Fin cfg0.N) (k : Fin 256) (d : Fin 2048) : ((cfg0.win 1).blk t).view.emb (ix2 k d) = ix2 k d := by
  blk_ext [idx1]
theorem emb2 (t : Fin cfg0.N) (b : Fin 1408) (d : Fin 2048) : ((cfg0.win 2).blk t).view.emb (ix2 b d) = ix2 (col t b) d := by
  blk_ext [idx2, col]

theorem blk0 (t : Fin cfg0.N) (k : Fin 256) (b : Fin 1408) : iblk m c 0 t (ix2 k b) = hidden (m (c, main_arg0)) (ix2 k (col t b)) := by
  unfold iblk
  rw [View.read_apply, emb0]
  exact congrFun (V_hidden m c) _
theorem blk1 (t : Fin cfg0.N) (k : Fin 256) (d : Fin 2048) : iblk m c 1 t (ix2 k d) = m (c, main_arg1) (ix2 k d) := by
  unfold iblk
  rw [View.read_apply, emb1]
  exact congrFun (V_grad m c) _

/-- A point's block of the product. -/
theorem out_at (t : Fin cfg0.N) (b : Fin 1408) (d : Fin 2048) :
    outsAt0 m c t (ix2 b d) = product (hidden (m (c, main_arg0))) (m (c, main_arg1)) (ix2 (col t b) d) := by
  rw [product_at]
  simp only [outsAt0]
  frame_out
  pointwise [k0_pay3, k0_pay2, k0_pay1]
  simp only [blk0, blk1]

/-- The kernel's array is the reference's. -/
theorem value : (dats m 0 c).arrAt 2 cfg0.N = (truncf .bf16 (product (hidden (m (c, main_arg0))) (m (c, main_arg1))) bitsLt_bf16_f32 : FVec Ideal S5632x2048 .bf16) := by
  refine Pipeline.Dat.arrAt_eq_of_covers _ 2 _ (by decide +kernel) fun t hf (y : S1408x2048.Idx) => ?_
  obtain ⟨b, d, rfl⟩ : ∃ b d, y = ix2 b d := ⟨_, _, eq_ix2 y⟩
  rw [emb2]
  show (dats m 0 c).after 2 t (ix2 b d) = _
  rw [after0_2, out_at]
  rfl

end Cert.CtxDwoutIdeal.Ffn

end
-- ==== Proof.CtxDwin.lean ====
module

public import proofs.«01_k».proof.Proof.Gen.CtxDwinIdeal.Value
public import proofs.«01_k».proof.Proof.Gen.CtxDwinRefIdeal.Run
public import proofs.«01_k».proof.Proof.CtxDh

@[expose] public section

set_option maxRecDepth 16384

/-! Over the context tokens, the gradient of the feed-forward network's first weights: one product for each column group. -/

noncomputable section

namespace Cert.CtxDwinIdeal.Ffn

open Cert.CtxDwinIdeal Cert.CtxDwinIdeal.Gen
open Cert.DhIdeal (S2048x11264)
open Cert.DhIdeal.Ffn (groups groups_at)
open Cert.CtxDhIdeal.Ffn (halves halves_at)
open Idealize.ShloMosaic Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx1 : ∀ t : Fin cfg0.N, win0_1.index t = ![t.val / 4, 0, t.val % 4] := (by decide +kernel : ∀ t : Fin grid0.N, _)
theorem idx2 : ∀ t : Fin cfg0.N, win0_2.index t = ![t.val, 0, 0] := (by decide +kernel : ∀ t : Fin grid0.N, _)

/-- The column group of a point, -/
def group (t : Fin cfg0.N) : Fin 8 := ⟨t.val, t.isLt.trans_eq N_0⟩
/-- and the column of the products under column `b` of it. -/
def col (g : Fin 8) (b : Fin 1408) : Fin 11264 := ⟨g.val * 1408 + b.val, by omega⟩

/-- The reference's product, its two axes exchanged. -/
def product (h : FVec Ideal S256x2048 .f32) (p : FVec Ideal S256x11264 .f32) : FVec Ideal S2048x11264 .f32 :=
  transpose S2048x11264 [1, 0] (Host.dotGeneral (F := Ideal) (φ₁ := .f32) (φ₂ := .f32) Cert.CtxDwinRefIdeal.dot_S256x11264_S256x2048_S11264x2048_0_0_1_1_n_n none p h)
    Cert.CtxDwinRefIdeal.Gen.transposes_S11264x2048_S2048x11264_1_0
theorem product_at (h : FVec Ideal S256x2048 .f32) (p : FVec Ideal S256x11264 .f32) (d : Fin 2048) (j : Fin 11264) :
    product h p (ix2 d j) = ∑ k : Fin 256, h (ix2 k d) * p (ix2 k j) := by
  pointwise [product]
  exact Finset.sum_congr rfl fun k _ => mul_comm (p (ix2 k j)) (h (ix2 k d))

variable (m : (ℓ : Loc nD τ sig) → Buf (Elt Ideal) ℓ) (c : Dev nD)

theorem V_rows : V m c main_v0 = (truncf .bf16 (m (c, main_arg0)) bitsLt_bf16_f32 : FVec Ideal S256x2048 .bf16) := by
  show StableHlo.after hostOps0 (fun b => m (c, b)) main_v0 = _
  after_results_simp <;> rfl
theorem V_halves : V m c main_v3 = halves (m (c, main_arg1)) := by
  show StableHlo.after hostOps0 (fun b => m (c, b)) main_v3 = _
  unfold halves
  after_results_simp <;> rfl

theorem emb0 (t : Fin cfg0.N) (k : Fin 256) (d : Fin 2048) : ((cfg0.win 0).blk t).view.emb (ix2 k d) = ix2 k d := by
  blk_ext [idx0]
theorem emb1 (t : Fin cfg0.N) (k : Fin 256) (b : Fin 1408) : ((cfg0.win 1).blk t).view.emb (ix3 0 k b)
    = ix3 ⟨t.val / 4, by have := t.isLt.trans_eq N_0; omega⟩ k ⟨t.val % 4 * 1408 + b.val, by omega⟩ := by
  blk_ext [idx1]
theorem emb2 (t : Fin cfg0.N) (d : Fin 2048) (b : Fin 1408) : ((cfg0.win 2).blk t).view.emb (ix3 0 d b) = ix3 (group t) d b := by
  blk_ext [idx2, group]

theorem blk0 (t : Fin cfg0.N) (k : Fin 256) (d : Fin 2048) : iblk m c 0 t (ix2 k d) = m (c, main_arg0) (ix2 k d) := by
  unfold iblk
  rw [View.read_apply, emb0]
  exact congrFun (V_rows m c) _
theorem blk1 (t : Fin cfg0.N) (k : Fin 256) (b : Fin 1408) : iblk m c 1 t (ix3 0 k b) = m (c, main_arg1) (ix2 k (col (group t) b)) := by
  unfold iblk
  rw [View.read_apply, emb1]
  refine (congrFun (V_halves m c) _).trans ((halves_at _ _ _ _).trans (congrArg _ (congrArg _ (Fin.ext ?_))))
  simp only [col, group]
  omega

/-- A point's block of the product. -/
theorem out_at (t : Fin cfg0.N) (d : Fin 2048) (b : Fin 1408) :
    outsAt0 m c t (ix3 0 d b) = product (m (c, main_arg0)) (m (c, main_arg1)) (ix2 d (col (group t) b)) := by
  rw [product_at]
  simp only [outsAt0]
  frame_out
  pointwise [k0_pay3, k0_pay2, k0_pay1]
  simp only [blk0, blk1]

/-- The kernel's array is the reference's. -/
theorem value : (dats m 0 c).arrAt 2 cfg0.N = groups (product (m (c, main_arg0)) (m (c, main_arg1))) := by
  refine Pipeline.Dat.arrAt_eq_of_covers _ 2 _ (by decide +kernel) fun t hf (y : S1x2048x1408.Idx) => ?_
  obtain ⟨z, d, b, rfl⟩ : ∃ z d b, y = ix3 z d b := ⟨_, _, _, eq_ix3 y⟩
  obtain rfl : z = 0 := Subsingleton.elim _ _
  rw [emb2]
  show (dats m 0 c).after 2 t (ix3 0 d b) = _
  rw [after0_2, out_at, groups_at]
  rfl

end Cert.CtxDwinIdeal.Ffn

end
-- ==== Proof.MixcMm.lean ====
module

public import proofs.«01_k».proof.Proof.Gen.MixcMmIdeal.Value
public import proofs.«01_k».proof.Proof.Gen.MixcMmRefIdeal.Run
public import Idealize.ShloMosaic.Lib.Pipeline.ValueKit.Point
public import Idealize.ShloMosaic.Lib.Pointwise

@[expose] public section

set_option maxRecDepth 16384

/-! The mixer's combined projection of the context tokens: the kernel's blocks are those of the reference's one product. -/

noncomputable section

namespace Cert.MixcMmIdeal.Mix

open Cert.MixcMmIdeal Cert.MixcMmIdeal.Gen
open Idealize.ShloMosaic Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The column of the result under column `d` of a point's block. -/
def col (t : Fin cfg0.N) (d : Fin 1024) : Fin 4096 := ⟨t.val * 1024 + d.val, by have := t.isLt.trans_eq N_0; omega⟩

/-- The reference's product. -/
def product (h : FVec Ideal S256x2048 .f32) (w : FVec Ideal S2048x4096 .f32) : FVec Ideal S256x4096 .f32 :=
  Host.dotGeneral (F := Ideal) (φ₁ := .f32) (φ₂ := .f32) Cert.MixcMmRefIdeal.dot_S256x2048_S2048x4096_S256x4096_1_0_0_1_n_n none h w
theorem product_at (h : FVec Ideal S256x2048 .f32) (w : FVec Ideal S2048x4096 .f32) (i : Fin 256) (d : Fin 4096) :
    product h w (ix2 i d) = ∑ k : Fin 2048, h (ix2 i k) * w (ix2 k d) := by
  pointwise [product]

variable (m : (ℓ : Loc nD τ sig) → Buf (Elt Ideal) ℓ) (c : Dev nD)

theorem V_rows : V m c main_v0 = (truncf .bf16 (m (c, main_arg0)) bitsLt_bf16_f32 : FVec Ideal S256x2048 .bf16) := by
  show StableHlo.after hostOps0 (fun b => m (c, b)) main_v0 = _
  after_results_simp <;> rfl
theorem V_weights : V m c main_v1 = (truncf .bf16 (m (c, main_arg1)) bitsLt_bf16_f32 : FVec Ideal S2048x4096 .bf16) := by
  show StableHlo.after hostOps0 (fun b => m (c, b)) main_v1 = _
  after_results_simp <;> rfl

theorem emb0 (t : Fin cfg0.N) (i : Fin 256) (k : Fin 2048) : ((cfg0.win 0).blk t).view.emb (ix2 i k) = ix2 i k := by
  blk_ext [idx0]
theorem emb1 (t : Fin cfg0.N) (k : Fin 2048) (d : Fin 1024) : ((cfg0.win 1).blk t).view.emb (ix2 k d) = ix2 k (col t d) := by
  blk_ext [idx1, col]
theorem emb2 (t : Fin cfg0.N) (i : Fin 256) (d : Fin 1024) : ((cfg0.win 2).blk t).view.emb (ix2 i d) = ix2 i (col t d) := by
  blk_ext [idx2, col]

theorem blk0 (t : Fin cfg0.N) (i : Fin 256) (k : Fin 2048) : iblk m c 0 t (ix2 i k) = m (c, main_arg0) (ix2 i k) := by
  unfold iblk
  rw [View.read_apply, emb0]
  exact congrFun (V_rows m c) _
theorem blk1 (t : Fin cfg0.N) (k : Fin 2048) (d : Fin 1024) : iblk m c 1 t (ix2 k d) = m (c, main_arg1) (ix2 k (col t d)) := by
  unfold iblk
  rw [View.read_apply, emb1]
  exact congrFun (V_weights m c) _

/-- A point's block of the product. -/
theorem out_at (t : Fin cfg0.N) (i : Fin 256) (d : Fin 1024) :
    outsAt0 m c t (ix2 i d) = product (m (c, main_arg0)) (m (c, main_arg1)) (ix2 i (col t d)) := by
  rw [product_at]
  simp only [outsAt0]
  frame_out
  pointwise [k0_pay2, k0_pay1]
  simp only [blk0, blk1]

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S256x1024.Idx) => ?_
  obtain ⟨i, d, rfl⟩ : ∃ i d, y = ix2 i d := ⟨_, _, eq_ix2 y⟩
  rw [emb2]
  show (dats m 0 c).after 2 t (ix2 i d) = _
  rw [after0_2, out_at]

end Cert.MixcMmIdeal.Mix

end
-- ==== Proof.MixcDh.lean ====
module

public import proofs.«01_k».proof.Proof.Gen.MixcDhIdeal.Value
public import proofs.«01_k».proof.Proof.Gen.MixcDhRefIdeal.Run
public import Idealize.ShloMosaic.Lib.Pipeline.ValueKit.Point
public import Idealize.ShloMosaic.Lib.Pipeline.ValueKit.Acc
public import Idealize.ShloMosaic.Lib.Pointwise

@[expose] public section

set_option maxRecDepth 16384

/-! The gradient of the mixer's normed context: the kernel's blocked products summed over the two halves of the columns are the reference's one product. -/

noncomputable section

namespace Cert.MixcDhIdeal.Mix

open Cert.MixcDhIdeal Cert.MixcDhIdeal.Gen
open Idealize.ShloMosaic Idealize.ShloMosaic.TcCoe Idealize.SL.Sem Idealize.ShloMosaic.Pointwise
open scoped BigOperators

theorem idx0 : ∀ t : Fin cfg0.N, win0_0.index t = ![0, t.val % 2] := (by decide +kernel : ∀ t : Fin grid0.N, _)
theorem idx1 : ∀ t : Fin cfg0.N, win0_1.index t = ![0, t.val % 2] := (by decide +kernel : ∀ t : Fin grid0.N, _)
theorem idx2 : ∀ t : Fin cfg0.N, win0_2.index t = ![0, 0] := (by decide +kernel : ∀ t : Fin grid0.N, _)

/-- The column of the gradient under column `k` of a point's block. -/
def col (t : Fin cfg0.N) (k : Fin 2048) : Fin 4096 := ⟨t.val % 2 * 2048 + k.val, by omega⟩

/-- The product of one row of the gradient with one row of the weights at one column. -/
def term (e : FVec Ideal S256x4096 .f32) (w : FVec Ideal S2048x4096 .f32) (i : Fin 256) (d : Fin 2048) (k : Fin 4096) : EReal := e (ix2 i k) * w (ix2 d k)
/-- What a point adds to its block. -/
def part (e : FVec Ideal S256x4096 .f32) (w : FVec Ideal S2048x4096 .f32) (t : Fin cfg0.N) (y : S256x2048.Idx) : EReal :=
  ∑ k : Fin 2048, term e w (y 0) (y 1) (col t k)

/-- The two halves are all the columns. -/
theorem whole (e : FVec Ideal S256x4096 .f32) (w : FVec Ideal S2048x4096 .f32) (t : Fin cfg0.N) (ht : t.val % 2 = 2 - 1) (i : Fin 256) (d : Fin 2048) :
    ∑ s : Fin 2, part e w ⟨2 * (t.val / 2) + s.val, Pipeline.run_point_lt_of_flush t ht s⟩ (ix2 i d) = ∑ k : Fin 4096, term e w i d k := by
  refine Fin.sum_mul_add_congr fun s k _ => ?_
  refine congrArg _ (Fin.ext ?_)
  simp only [col]
  omega

/-- The reference's product. -/
def product (e : FVec Ideal S256x4096 .f32) (w : FVec Ideal S2048x4096 .f32) : FVec Ideal S256x2048 .f32 :=
  Host.dotGeneral (F := Ideal) (φ₁ := .f32) (φ₂ := .f32) Cert.MixcDhRefIdeal.dot_S256x4096_S2048x4096_S256x2048_1_1_0_0_n_n none e w
theorem product_at (e : FVec Ideal S256x4096 .f32) (w : FVec Ideal S2048x4096 .f32) (i : Fin 256) (d : Fin 2048) :
    product e w (ix2 i d) = ∑ k : Fin 4096, term e w i d k := by
  pointwise [product]
  rfl

variable (m : (ℓ : Loc nD τ sig) → Buf (Elt Ideal) ℓ) (c : Dev nD)

theorem V_grad : V m c main_arg0 = m (c, main_arg0) := by
  show StableHlo.after hostOps0 (fun b => m (c, b)) main_arg0 = _
  after_results_simp <;> rfl
theorem V_weights : V m c main_v0 = (truncf .bf16 (m (c, main_arg1)) bitsLt_bf16_f32 : FVec Ideal S2048x4096 .bf16) := by
  show StableHlo.after hostOps0 (fun b => m (c, b)) main_v0 = _
  after_results_simp <;> rfl

theorem emb0 (t : Fin cfg0.N) (i : Fin 256) (k : Fin 2048) : ((cfg0.win 0).blk t).view.emb (ix2 i k) = ix2 i (col t k) := by
  blk_ext [idx0, col]
theorem emb1 (t : Fin cfg0.N) (d k : Fin 2048) : ((cfg0.win 1).blk t).view.emb (ix2 d k) = ix2 d (col t k) := by
  blk_ext [idx1, col]
theorem emb2 (t : Fin cfg0.N) (i : Fin 256) (d : Fin 2048) : ((cfg0.win 2).blk t).view.emb (ix2 i d) = ix2 i d := by
  blk_ext [idx2]

theorem blk0 (t : Fin cfg0.N) (i : Fin 256) (k : Fin 2048) : iblk m c 0 t (ix2 i k) = m (c, main_arg0) (ix2 i (col t k)) := by
  unfold iblk
  rw [View.read_apply, emb0]
  exact congrFun (V_grad m c) _
theorem blk1 (t : Fin cfg0.N) (d k : Fin 2048) : iblk m c 1 t (ix2 d k) = m (c, main_arg1) (ix2 d (col t k)) := by
  unfold iblk
  rw [View.read_apply, emb1]
  exact congrFun (V_weights m c) _

theorem zero_at (y : S256x2048.Idx) : k0_pay1 (F := Ideal) y = (0 : EReal) := by
  obtain ⟨i, d, rfl⟩ : ∃ i d, y = ix2 i d := ⟨_, _, eq_ix2 y⟩
  pointwise [k0_pay1]

theorem step_at (a : Vec Ideal S256x2048 .f32) (t : Fin cfg0.N) (y : S256x2048.Idx) :
    k0_pay2 a (iblk m c 0 t) (iblk m c 1 t) y = a y + part (m (c, main_arg0)) (m (c, main_arg1)) t y := by
  obtain ⟨i, d, rfl⟩ : ∃ i d, y = ix2 i d := ⟨_, _, eq_ix2 y⟩
  pointwise [k0_pay2]
  simp only [blk0, blk1]
  rfl

/-- The scratch after a point that writes back is the reference's product there. -/
theorem scratch (t : Fin cfg0.N) (ht : t.val % 2 = 2 - 1) (i : Fin 256) (d : Fin 2048) :
    (outsAt0 m c t.val t.isLt).2 (ix2 i d) = product (m (c, main_arg0)) (m (c, main_arg1)) (ix2 i d) := by
  rw [product_at, ← whole _ _ t ht, Pipeline.eq_sum_fin_of_reset_step_apply_of_flush (fun n h => (outsAt0 m c n h).2) 2 (fun _ => (0 : EReal))
    (part (m (c, main_arg0)) (m (c, main_arg1)))
    (fun t h y => by rw [outsAt0_A m c t h (by omega)]; frame_out; rw [step_at, zero_at])
    (fun t h y => by rw [outsAt0_B m c t h (by omega)]; frame_out; rw [step_at]; exact congrArg (· + _) (congrFun (Memref.IsWhole.read_unread _ _) y)) t ht (ix2 i d), zero_add]

/-- At a point that writes back the output block is the scratch. -/
theorem out_eq (t : Fin cfg0.N) (ht : t.val % 2 = 1) : (outsAt0 m c t.val t.isLt).1 = (outsAt0 m c t.val t.isLt).2 := by
  rw [outsAt0_B m c t (by omega) ht]
  frame_out

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S256x2048.Idx) => ?_
  have ht := (flush0_2 t).1 hf
  obtain ⟨i, d, rfl⟩ : ∃ i d, y = ix2 i d := ⟨_, _, eq_ix2 y⟩
  rw [emb2]
  show (dats m 0 c).after 2 t (ix2 i d) = _
  rw [after0_2, out_eq m c t ht, scratch m c t ht]

end Cert.MixcDhIdeal.Mix

end
-- ==== Proof.MixcDw.lean ====
module

public import proofs.«01_k».proof.Proof.Gen.MixcDwIdeal.Value
public import proofs.«01_k».proof.Proof.Gen.MixcDwRefIdeal.Run
public import Idealize.ShloMosaic.Lib.Pipeline.ValueKit.Point
public import Idealize.ShloMosaic.Lib.Pointwise

@[expose] public section

set_option maxRecDepth 16384

/-! The gradient of the mixer's input weights over the context tokens: one product for each column block. -/

noncomputable section

namespace Cert.MixcDwIdeal.Mix

open Cert.MixcDwIdeal Cert.MixcDwIdeal.Gen
open Idealize.ShloMosaic Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The column of the gradient under column `b` of a point's block. -/
def col (t : Fin cfg0.N) (b : Fin 1024) : Fin 4096 := ⟨t.val * 1024 + b.val, by have := t.isLt.trans_eq N_0; omega⟩

/-- The reference's product, its two axes exchanged. -/
def product (h : FVec Ideal S256x2048 .f32) (e : FVec Ideal S256x4096 .f32) : FVec Ideal S2048x4096 .f32 :=
  transpose S2048x4096 [1, 0] (Host.dotGeneral (F := Ideal) (φ₁ := .f32) (φ₂ := .f32) Cert.MixcDwRefIdeal.dot_S256x4096_S256x2048_S4096x2048_0_0_1_1_n_n none e h)
    Cert.MixcDwRefIdeal.Gen.transposes_S4096x2048_S2048x4096_1_0
theorem product_at (h : FVec Ideal S256x2048 .f32) (e : FVec Ideal S256x4096 .f32) (j : Fin 2048) (d : Fin 4096) :
    product h e (ix2 j d) = ∑ k : Fin 256, h (ix2 k j) * e (ix2 k d) := by
  pointwise [product]
  exact Finset.sum_congr rfl fun k _ => mul_comm (e (ix2 k d)) (h (ix2 k j))

variable (m : (ℓ : Loc nD τ sig) → Buf (Elt Ideal) ℓ) (c : Dev nD)

theorem V_rows : V m c main_v0 = (truncf .bf16 (m (c, main_arg0)) bitsLt_bf16_f32 : FVec Ideal S256x2048 .bf16) := by
  show StableHlo.after hostOps0 (fun b => m (c, b)) main_v0 = _
  after_results_simp <;> rfl
theorem V_grad : V m c main_arg1 = m (c, main_arg1) := by
  show StableHlo.after hostOps0 (fun b => m (c, b)) main_arg1 = _
  after_results_simp <;> rfl

theorem emb0 (t : Fin cfg0.N) (k : Fin 256) (j : Fin 2048) : ((cfg0.win 0).blk t).view.emb (ix2 k j) = ix2 k j := by
  blk_ext [idx0]
theorem emb1 (t : Fin cfg0.N) (k : Fin 256) (d : Fin 1024) : ((cfg0.win 1).blk t).view.emb (ix2 k d) = ix2 k (col t d) := by
  blk_ext [idx1, col]
theorem emb2 (t : Fin cfg0.N) (j : Fin 2048) (d : Fin 1024) : ((cfg0.win 2).blk t).view.emb (ix2 j d) = ix2 j (col t d) := by
  blk_ext [idx2, col]

theorem blk0 (t : Fin cfg0.N) (k : Fin 256) (j : Fin 2048) : iblk m c 0 t (ix2 k j) = m (c, main_arg0) (ix2 k j) := by
  unfold iblk
  rw [View.read_apply, emb0]
  exact congrFun (V_rows m c) _
theorem blk1 (t : Fin cfg0.N) (k : Fin 256) (d : Fin 1024) : iblk m c 1 t (ix2 k d) = m (c, main_arg1) (ix2 k (col t d)) := by
  unfold iblk
  rw [View.read_apply, emb1]
  exact congrFun (V_grad m c) _

/-- A point's block of the product. -/
theorem out_at (t : Fin cfg0.N) (j : Fin 2048) (d : Fin 1024) :
    outsAt0 m c t (ix2 j d) = product (m (c, main_arg0)) (m (c, main_arg1)) (ix2 j (col t d)) := by
  rw [product_at]
  simp only [outsAt0]
  frame_out
  pointwise [k0_pay3, k0_pay2, k0_pay1]
  simp only [blk0, blk1]

/-- The kernel's array is the reference's. -/
theorem value : (dats m 0 c).arrAt 2 cfg0.N = (truncf .bf16 (product (m (c, main_arg0)) (m (c, main_arg1))) bitsLt_bf16_f32 : FVec Ideal S2048x4096 .bf16) := by
  refine Pipeline.Dat.arrAt_eq_of_covers _ 2 _ (by decide +kernel) fun t hf (y : S2048x1024.Idx) => ?_
  obtain ⟨j, d, rfl⟩ : ∃ j d, y = ix2 j d := ⟨_, _, eq_ix2 y⟩
  rw [emb2]
  show (dats m 0 c).after 2 t (ix2 j d) = _
  rw [after0_2, out_at]
  rfl

end Cert.MixcDwIdeal.Mix

end
-- ==== Proof.UkvcMm.lean ====
module

public import proofs.«01_k».proof.Proof.Gen.UkvcMmIdeal.Value
public import proofs.«01_k».proof.Proof.Gen.UkvcMmRefIdeal.Run
public import Idealize.ShloMosaic.Lib.Pipeline.ValueKit.Point
public import Idealize.ShloMosaic.Lib.Pointwise

@[expose] public section

set_option maxRecDepth 16384

/-! The projection of the context tokens' keys and values from their compressed form: the kernel's column blocks are those of the reference's one product. -/

noncomputable section

namespace Cert.UkvcMmIdeal.Up

open Cert.UkvcMmIdeal Cert.UkvcMmIdeal.Gen
open Idealize.ShloMosaic Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The column of the result under column `d` of a point's block. -/
def col (t : Fin cfg0.N) (d : Fin 1024) : Fin 2048 := ⟨t.val * 1024 + d.val, by have := t.isLt.trans_eq N_0; omega⟩

/-- The reference's product. -/
def product (h : FVec Ideal S256x256 .f32) (w : FVec Ideal S256x2048 .f32) : FVec Ideal S256x2048 .f32 :=
  Host.dotGeneral (F := Ideal) (φ₁ := .f32) (φ₂ := .f32) Cert.UkvcMmRefIdeal.dot_S256x256_S256x2048_S256x2048_1_0_0_1_n_n none h w
theorem product_at (h : FVec Ideal S256x256 .f32) (w : FVec Ideal S256x2048 .f32) (i : Fin 256) (d : Fin 2048) :
    product h w (ix2 i d) = ∑ k : Fin 256, h (ix2 i k) * w (ix2 k d) := by
  pointwise [product]

variable (m : (ℓ : Loc nD τ sig) → Buf (Elt Ideal) ℓ) (c : Dev nD)

theorem V_rows : V m c main_v0 = (truncf .bf16 (m (c, main_arg0)) bitsLt_bf16_f32 : FVec Ideal S256x256 .bf16) := by
  show StableHlo.after hostOps0 (fun b => m (c, b)) main_v0 = _
  after_results_simp <;> rfl
theorem V_weights : V m c main_v1 = (truncf .bf16 (m (c, main_arg1)) bitsLt_bf16_f32 : FVec Ideal S256x2048 .bf16) := by
  show StableHlo.after hostOps0 (fun b => m (c, b)) main_v1 = _
  after_results_simp <;> rfl

theorem emb0 (t : Fin cfg0.N) (i : Fin 256) (k : Fin 256) : ((cfg0.win 0).blk t).view.emb (ix2 i k) = ix2 i k := by
  blk_ext [idx0]
theorem emb1 (t : Fin cfg0.N) (k : Fin 256) (d : Fin 1024) : ((cfg0.win 1).blk t).view.emb (ix2 k d) = ix2 k (col t d) := by
  blk_ext [idx1, col]
theorem emb2 (t : Fin cfg0.N) (i : Fin 256) (d : Fin 1024) : ((cfg0.win 2).blk t).view.emb (ix2 i d) = ix2 i (col t d) := by
  blk_ext [idx2, col]

theorem blk0 (t : Fin cfg0.N) (i : Fin 256) (k : Fin 256) : iblk m c 0 t (ix2 i k) = m (c, main_arg0) (ix2 i k) := by
  unfold iblk
  rw [View.read_apply, emb0]
  exact congrFun (V_rows m c) _
theorem blk1 (t : Fin cfg0.N) (k : Fin 256) (d : Fin 1024) : iblk m c 1 t (ix2 k d) = m (c, main_arg1) (ix2 k (col t d)) := by
  unfold iblk
  rw [View.read_apply, emb1]
  exact congrFun (V_weights m c) _

/-- A point's block of the product. -/
theorem out_at (t : Fin cfg0.N) (i : Fin 256) (d : Fin 1024) :
    outsAt0 m c t (ix2 i d) = product (m (c, main_arg0)) (m (c, main_arg1)) (ix2 i (col t d)) := by
  rw [product_at]
  simp only [outsAt0]
  frame_out
  pointwise [k0_pay2, k0_pay1]
  simp only [blk0, blk1]

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S256x1024.Idx) => ?_
  obtain ⟨i, d, rfl⟩ : ∃ i d, y = ix2 i d := ⟨_, _, eq_ix2 y⟩
  rw [emb2]
  show (dats m 0 c).after 2 t (ix2 i d) = _
  rw [after0_2, out_at]

end Cert.UkvcMmIdeal.Up

end
-- ==== Proof.UkvcDh.lean ====
module

public import proofs.«01_k».proof.Proof.Gen.UkvcDhIdeal.Value
public import proofs.«01_k».proof.Proof.Gen.UkvcDhRefIdeal.Run
public import Idealize.ShloMosaic.Lib.Pipeline.ValueKit.Point
public import Idealize.ShloMosaic.Lib.Pointwise

@[expose] public section

set_option maxRecDepth 16384

/-! The gradient of the context tokens' compressed keys and values: the kernel's one block is the reference's product. -/

noncomputable section

namespace Cert.UkvcDhIdeal.Up

open Cert.UkvcDhIdeal Cert.UkvcDhIdeal.Gen
open Idealize.ShloMosaic Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)

/-- The reference's product. -/
def product (e : FVec Ideal S256x2048 .f32) (w : FVec Ideal S256x2048 .f32) : FVec Ideal S256x256 .f32 :=
  Host.dotGeneral (F := Ideal) (φ₁ := .f32) (φ₂ := .f32) Cert.UkvcDhRefIdeal.dot_S256x2048_S256x2048_S256x256_1_1_0_0_n_n none e w
theorem product_at (e : FVec Ideal S256x2048 .f32) (w : FVec Ideal S256x2048 .f32) (i : Fin 256) (d : Fin 256) :
    product e w (ix2 i d) = ∑ k : Fin 2048, e (ix2 i k) * w (ix2 d k) := by
  pointwise [product]

variable (m : (ℓ : Loc nD τ sig) → Buf (Elt Ideal) ℓ) (c : Dev nD)

theorem V_grad : V m c main_arg0 = m (c, main_arg0) := by
  show StableHlo.after hostOps0 (fun b => m (c, b)) main_arg0 = _
  after_results_simp <;> rfl
theorem V_weights : V m c main_v0 = (truncf .bf16 (m (c, main_arg1)) bitsLt_bf16_f32 : FVec Ideal S256x2048 .bf16) := by
  show StableHlo.after hostOps0 (fun b => m (c, b)) main_v0 = _
  after_results_simp <;> rfl

theorem emb0 (t : Fin cfg0.N) (i : Fin 256) (k : Fin 2048) : ((cfg0.win 0).blk t).view.emb (ix2 i k) = ix2 i k := by
  blk_ext [idx0]
theorem emb1 (t : Fin cfg0.N) (d : Fin 256) (k : Fin 2048) : ((cfg0.win 1).blk t).view.emb (ix2 d k) = ix2 d k := by
  blk_ext [idx1]
theorem emb2 (t : Fin cfg0.N) (i : Fin 256) (d : Fin 256) : ((cfg0.win 2).blk t).view.emb (ix2 i d) = ix2 i d := by
  blk_ext [idx2]

theorem blk0 (t : Fin cfg0.N) (i : Fin 256) (k : Fin 2048) : iblk m c 0 t (ix2 i k) = m (c, main_arg0) (ix2 i k) := by
  unfold iblk
  rw [View.read_apply, emb0]
  exact congrFun (V_grad m c) _
theorem blk1 (t : Fin cfg0.N) (d : Fin 256) (k : Fin 2048) : iblk m c 1 t (ix2 d k) = m (c, main_arg1) (ix2 d k) := by
  unfold iblk
  rw [View.read_apply, emb1]
  exact congrFun (V_weights m c) _

/-- A point's block of the product. -/
theorem out_at (t : Fin cfg0.N) (i : Fin 256) (d : Fin 256) :
    outsAt0 m c t (ix2 i d) = product (m (c, main_arg0)) (m (c, main_arg1)) (ix2 i d) := by
  rw [product_at]
  simp only [outsAt0]
  frame_out
  pointwise [k0_pay2, k0_pay1]
  simp only [blk0, blk1]

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S256x256.Idx) => ?_
  obtain ⟨i, d, rfl⟩ : ∃ i d, y = ix2 i d := ⟨_, _, eq_ix2 y⟩
  rw [emb2]
  show (dats m 0 c).after 2 t (ix2 i d) = _
  rw [after0_2, out_at]

end Cert.UkvcDhIdeal.Up

end
-- ==== Proof.UkvcDw.lean ====
module

public import proofs.«01_k».proof.Proof.Gen.UkvcDwIdeal.Value
public import proofs.«01_k».proof.Proof.Gen.UkvcDwRefIdeal.Run
public import Idealize.ShloMosaic.Lib.Pipeline.ValueKit.Point
public import Idealize.ShloMosaic.Lib.Pointwise

@[expose] public section

set_option maxRecDepth 16384

/-! The gradient of the weights that give the context tokens' keys and values: one product for each column block. -/

noncomputable section

namespace Cert.UkvcDwIdeal.Up

open Cert.UkvcDwIdeal Cert.UkvcDwIdeal.Gen
open Idealize.ShloMosaic Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The column of the gradient under column `b` of a point's block. -/
def col (t : Fin cfg0.N) (b : Fin 1024) : Fin 2048 := ⟨t.val * 1024 + b.val, by have := t.isLt.trans_eq N_0; omega⟩

/-- The reference's product, its two axes exchanged. -/
def product (h : FVec Ideal S256x256 .f32) (e : FVec Ideal S256x2048 .f32) : FVec Ideal S256x2048 .f32 :=
  transpose S256x2048 [1, 0] (Host.dotGeneral (F := Ideal) (φ₁ := .f32) (φ₂ := .f32) Cert.UkvcDwRefIdeal.dot_S256x2048_S256x256_S2048x256_0_0_1_1_n_n none e h)
    Cert.UkvcDwRefIdeal.Gen.transposes_S2048x256_S256x2048_1_0
theorem product_at (h : FVec Ideal S256x256 .f32) (e : FVec Ideal S256x2048 .f32) (j : Fin 256) (d : Fin 2048) :
    product h e (ix2 j d) = ∑ k : Fin 256, h (ix2 k j) * e (ix2 k d) := by
  pointwise [product]
  exact Finset.sum_congr rfl fun k _ => mul_comm (e (ix2 k d)) (h (ix2 k j))

variable (m : (ℓ : Loc nD τ sig) → Buf (Elt Ideal) ℓ) (c : Dev nD)

theorem V_rows : V m c main_v0 = (truncf .bf16 (m (c, main_arg0)) bitsLt_bf16_f32 : FVec Ideal S256x256 .bf16) := by
  show StableHlo.after hostOps0 (fun b => m (c, b)) main_v0 = _
  after_results_simp <;> rfl
theorem V_grad : V m c main_arg1 = m (c, main_arg1) := by
  show StableHlo.after hostOps0 (fun b => m (c, b)) main_arg1 = _
  after_results_simp <;> rfl

theorem emb0 (t : Fin cfg0.N) (k : Fin 256) (j : Fin 256) : ((cfg0.win 0).blk t).view.emb (ix2 k j) = ix2 k j := by
  blk_ext [idx0]
theorem emb1 (t : Fin cfg0.N) (k : Fin 256) (d : Fin 1024) : ((cfg0.win 1).blk t).view.emb (ix2 k d) = ix2 k (col t d) := by
  blk_ext [idx1, col]
theorem emb2 (t : Fin cfg0.N) (j : Fin 256) (d : Fin 1024) : ((cfg0.win 2).blk t).view.emb (ix2 j d) = ix2 j (col t d) := by
  blk_ext [idx2, col]

theorem blk0 (t : Fin cfg0.N) (k : Fin 256) (j : Fin 256) : iblk m c 0 t (ix2 k j) = m (c, main_arg0) (ix2 k j) := by
  unfold iblk
  rw [View.read_apply, emb0]
  exact congrFun (V_rows m c) _
theorem blk1 (t : Fin cfg0.N) (k : Fin 256) (d : Fin 1024) : iblk m c 1 t (ix2 k d) = m (c, main_arg1) (ix2 k (col t d)) := by
  unfold iblk
  rw [View.read_apply, emb1]
  exact congrFun (V_grad m c) _

/-- A point's block of the product. -/
theorem out_at (t : Fin cfg0.N) (j : Fin 256) (d : Fin 1024) :
    outsAt0 m c t (ix2 j d) = product (m (c, main_arg0)) (m (c, main_arg1)) (ix2 j (col t d)) := by
  rw [product_at]
  simp only [outsAt0]
  frame_out
  pointwise [k0_pay3, k0_pay2, k0_pay1]
  simp only [blk0, blk1]

/-- The kernel's array is the reference's. -/
theorem value : (dats m 0 c).arrAt 2 cfg0.N = (truncf .bf16 (product (m (c, main_arg0)) (m (c, main_arg1))) bitsLt_bf16_f32 : FVec Ideal S256x2048 .bf16) := by
  refine Pipeline.Dat.arrAt_eq_of_covers _ 2 _ (by decide +kernel) fun t hf (y : S256x1024.Idx) => ?_
  obtain ⟨j, d, rfl⟩ : ∃ j d, y = ix2 j d := ⟨_, _, eq_ix2 y⟩
  rw [emb2]
  show (dats m 0 c).after 2 t (ix2 j d) = _
  rw [after0_2, out_at]
  rfl

end Cert.UkvcDwIdeal.Up

end
-- ==== Proof.CtxClaims.lean ====
module

public import proofs.«01_k».proof.Defs
public import proofs.«01_k».proof.Proof.CtxFinite
public import proofs.«01_k».proof.Proof.CtxIn
public import proofs.«01_k».proof.Proof.CtxOut
public import proofs.«01_k».proof.Proof.CtxDa
public import proofs.«01_k».proof.Proof.CtxDwout
public import proofs.«01_k».proof.Proof.CtxDh
public import proofs.«01_k».proof.Proof.CtxDwin
public import proofs.«01_k».proof.Proof.MixcMm
public import proofs.«01_k».proof.Proof.MixcDh
public import proofs.«01_k».proof.Proof.MixcDw
public import proofs.«01_k».proof.Proof.UkvcMm
public import proofs.«01_k».proof.Proof.UkvcDh
public import proofs.«01_k».proof.Proof.UkvcDw
public import Idealize.ShloMosaic.Adequacy
public import Idealize.ShloMosaic.Init

@[expose] public section

/-! The equations of the feed-forward calls and of the two projections over the context tokens, and the ends of their references. -/

noncomputable section

namespace Cert.CtxClaims

open Cert Idealize.ShloMosaic Idealize.ShloMosaic.TcCoe Idealize.SL.Sem

theorem ends_in : quiescent_CtxInRefIdeal := fun m ρ _ =>
  (θ_run CtxInRefIdeal.defs _ _).mono (fun r h => ⟨fun c => (h c).2.2, sem_eq_zero_of_no_sems (by decide) r.2⟩) (CtxInRefIdeal.Value.run m ρ)
theorem ends_out : quiescent_CtxOutRefIdeal := fun m ρ _ =>
  (θ_run CtxOutRefIdeal.defs _ _).mono (fun r h => ⟨fun c => (h c).2.2, sem_eq_zero_of_no_sems (by decide) r.2⟩) (CtxOutRefIdeal.Value.run m ρ)
theorem ends_da : quiescent_CtxDaRefIdeal := fun m ρ _ =>
  (θ_run CtxDaRefIdeal.defs _ _).mono (fun r h => ⟨fun c => (h c).2, sem_eq_zero_of_no_sems (by decide) r.2⟩) (CtxDaRefIdeal.Value.run m ρ)
theorem ends_dwout : quiescent_CtxDwoutRefIdeal := fun m ρ _ =>
  (θ_run CtxDwoutRefIdeal.defs _ _).mono (fun r h => ⟨fun c => (h c).2, sem_eq_zero_of_no_sems (by decide) r.2⟩) (CtxDwoutRefIdeal.Value.run m ρ)
theorem ends_dh : quiescent_CtxDhRefIdeal := fun m ρ _ =>
  (θ_run CtxDhRefIdeal.defs _ _).mono (fun r h => ⟨fun c => (h c).2, sem_eq_zero_of_no_sems (by decide) r.2⟩) (CtxDhRefIdeal.Value.run m ρ)
theorem ends_dwin : quiescent_CtxDwinRefIdeal := fun m ρ _ =>
  (θ_run CtxDwinRefIdeal.defs _ _).mono (fun r h => ⟨fun c => (h c).2, sem_eq_zero_of_no_sems (by decide) r.2⟩) (CtxDwinRefIdeal.Value.run m ρ)
theorem ends_mix_mm : quiescent_MixcMmRefIdeal := fun m ρ _ =>
  (θ_run MixcMmRefIdeal.defs _ _).mono (fun r h => ⟨fun c => (h c).2, sem_eq_zero_of_no_sems (by decide) r.2⟩) (MixcMmRefIdeal.Value.run m ρ)
theorem ends_mix_dh : quiescent_MixcDhRefIdeal := fun m ρ _ =>
  (θ_run MixcDhRefIdeal.defs _ _).mono (fun r h => ⟨fun c => (h c).2, sem_eq_zero_of_no_sems (by decide) r.2⟩) (MixcDhRefIdeal.Value.run m ρ)
theorem ends_mix_dw : quiescent_MixcDwRefIdeal := fun m ρ _ =>
  (θ_run MixcDwRefIdeal.defs _ _).mono (fun r h => ⟨fun c => (h c).2, sem_eq_zero_of_no_sems (by decide) r.2⟩) (MixcDwRefIdeal.Value.run m ρ)
theorem ends_kv_mm : quiescent_UkvcMmRefIdeal := fun m ρ _ =>
  (θ_run UkvcMmRefIdeal.defs _ _).mono (fun r h => ⟨fun c => (h c).2, sem_eq_zero_of_no_sems (by decide) r.2⟩) (UkvcMmRefIdeal.Value.run m ρ)
theorem ends_kv_dh : quiescent_UkvcDhRefIdeal := fun m ρ _ =>
  (θ_run UkvcDhRefIdeal.defs _ _).mono (fun r h => ⟨fun c => (h c).2, sem_eq_zero_of_no_sems (by decide) r.2⟩) (UkvcDhRefIdeal.Value.run m ρ)
theorem ends_kv_dw : quiescent_UkvcDwRefIdeal := fun m ρ _ =>
  (θ_run UkvcDwRefIdeal.defs _ _).mono (fun r h => ⟨fun c => (h c).2, sem_eq_zero_of_no_sems (by decide) r.2⟩) (UkvcDwRefIdeal.Value.run m ρ)

/-- The first products and their activation; the partial derivatives are equal where the products are real. -/
theorem values_in : algebraic_CtxInIdeal_CtxInRefIdeal_pre_finite_ctx_in := fun m ρ m' ρ' hp ha =>
  ⟨_, _, (θ_run CtxInIdeal.defs _ _).mono (fun _ h c => ⟨(h c).1.trans (CtxInIdeal.Ffn.value_act m c),
      (h c).2.1.trans (CtxInIdeal.Ffn.value_partials m c (Pre_finite_ctx_in.real0 (hp c).1) (Pre_finite_ctx_in.real1 (hp c).2)), (h c).2.2⟩) (CtxInIdeal.Value.run_blocks m ρ),
    (θ_run CtxInRefIdeal.defs _ _).mono (fun _ h c => by
      obtain ⟨h0, h1, hr⟩ := h c
      obtain ⟨a0, a1⟩ := ha c
      rw [a0, a1] at h0 h1
      exact ⟨h0, h1, hr⟩) (CtxInRefIdeal.Value.run m' ρ')⟩

/-- The last product, alone and gated onto the residual. -/
theorem values_out : algebraic_CtxOutIdeal_CtxOutRefIdeal := fun m ρ m' ρ' _ ha =>
  ⟨_, _, (θ_run CtxOutIdeal.defs _ _).mono (fun _ h c => ⟨(h c).1.trans (CtxOutIdeal.Ffn.value_res m c), (h c).2.1.trans (CtxOutIdeal.Ffn.value_prod m c), (h c).2.2⟩)
      (CtxOutIdeal.Value.run_blocks m ρ),
    (θ_run CtxOutRefIdeal.defs _ _).mono (fun _ h c => by
      obtain ⟨h0, h1, hr⟩ := h c
      obtain ⟨a0, a1, a2, a3⟩ := ha c
      rw [a0, a1, a2, a3] at h0
      rw [a0, a1] at h1
      exact ⟨h0, h1, hr⟩) (CtxOutRefIdeal.Value.run m' ρ')⟩

/-- The gradient of the first products. -/
theorem values_da : algebraic_CtxDaIdeal_CtxDaRefIdeal_pre_finite_ctx_da := fun m ρ m' ρ' hp ha =>
  ⟨_, (θ_run CtxDaIdeal.defs _ _).mono (fun _ h c => ⟨(h c).1.trans (CtxDaIdeal.Ffn.value m c (Pre_finite_ctx_da.real0 (hp c).1) (Pre_finite_ctx_da.real1 (hp c).2.1)
      (Pre_finite_ctx_da.real2 (hp c).2.2)), (h c).2⟩) (CtxDaIdeal.Value.run_blocks m ρ),
    (θ_run CtxDaRefIdeal.defs _ _).mono (fun _ h c => by
      obtain ⟨h0, hr⟩ := h c
      obtain ⟨a0, a1, a2⟩ := ha c
      rw [a0, a1, a2] at h0
      exact ⟨h0, hr⟩) (CtxDaRefIdeal.Value.run m' ρ')⟩

/-- The gradient of the last weights. -/
theorem values_dwout : algebraic_CtxDwoutIdeal_CtxDwoutRefIdeal := fun m ρ m' ρ' _ ha =>
  ⟨_, (θ_run CtxDwoutIdeal.defs _ _).mono (fun _ h c => ⟨(h c).1.trans (CtxDwoutIdeal.Ffn.value m c), (h c).2⟩) (CtxDwoutIdeal.Value.run_blocks m ρ),
    (θ_run CtxDwoutRefIdeal.defs _ _).mono (fun _ h c => by
      obtain ⟨h0, hr⟩ := h c
      obtain ⟨a0, a1⟩ := ha c
      rw [a0, a1] at h0
      exact ⟨h0, hr⟩) (CtxDwoutRefIdeal.Value.run m' ρ')⟩

/-- The gradient of the normed input. -/
theorem values_dh : algebraic_CtxDhIdeal_CtxDhRefIdeal := fun m ρ m' ρ' _ ha =>
  ⟨_, (θ_run CtxDhIdeal.defs _ _).mono (fun _ h c => ⟨(h c).1.trans (CtxDhIdeal.Ffn.value m c), (h c).2⟩) (CtxDhIdeal.Value.run_blocks m ρ),
    (θ_run CtxDhRefIdeal.defs _ _).mono (fun _ h c => by
      obtain ⟨h0, hr⟩ := h c
      obtain ⟨a0, a1⟩ := ha c
      rw [a0, a1] at h0
      exact ⟨h0, hr⟩) (CtxDhRefIdeal.Value.run m' ρ')⟩

/-- The gradient of the first weights. -/
theorem values_dwin : algebraic_CtxDwinIdeal_CtxDwinRefIdeal := fun m ρ m' ρ' _ ha =>
  ⟨_, (θ_run CtxDwinIdeal.defs _ _).mono (fun _ h c => ⟨(h c).1.trans (CtxDwinIdeal.Ffn.value m c), (h c).2⟩) (CtxDwinIdeal.Value.run_blocks m ρ),
    (θ_run CtxDwinRefIdeal.defs _ _).mono (fun _ h c => by
      obtain ⟨h0, hr⟩ := h c
      obtain ⟨a0, a1⟩ := ha c
      rw [a0, a1] at h0
      exact ⟨h0, hr⟩) (CtxDwinRefIdeal.Value.run m' ρ')⟩

/-- The combined projection. -/
theorem values_mix_mm : algebraic_MixcMmIdeal_MixcMmRefIdeal := fun m ρ m' ρ' _ ha =>
  ⟨_, (θ_run MixcMmIdeal.defs _ _).mono (fun _ h c => ⟨(h c).1.trans (MixcMmIdeal.Mix.value m c), (h c).2⟩) (MixcMmIdeal.Value.run_blocks m ρ),
    (θ_run MixcMmRefIdeal.defs _ _).mono (fun _ h c => by
      obtain ⟨h0, hr⟩ := h c
      obtain ⟨a0, a1⟩ := ha c
      rw [a0, a1] at h0
      exact ⟨h0, hr⟩) (MixcMmRefIdeal.Value.run m' ρ')⟩

/-- The gradient of the normed input. -/
theorem values_mix_dh : algebraic_MixcDhIdeal_MixcDhRefIdeal := fun m ρ m' ρ' _ ha =>
  ⟨_, (θ_run MixcDhIdeal.defs _ _).mono (fun _ h c => ⟨(h c).1.trans (MixcDhIdeal.Mix.value m c), (h c).2⟩) (MixcDhIdeal.Value.run_blocks m ρ),
    (θ_run MixcDhRefIdeal.defs _ _).mono (fun _ h c => by
      obtain ⟨h0, hr⟩ := h c
      obtain ⟨a0, a1⟩ := ha c
      rw [a0, a1] at h0
      exact ⟨h0, hr⟩) (MixcDhRefIdeal.Value.run m' ρ')⟩

/-- The gradient of the input weights. -/
theorem values_mix_dw : algebraic_MixcDwIdeal_MixcDwRefIdeal := fun m ρ m' ρ' _ ha =>
  ⟨_, (θ_run MixcDwIdeal.defs _ _).mono (fun _ h c => ⟨(h c).1.trans (MixcDwIdeal.Mix.value m c), (h c).2⟩) (MixcDwIdeal.Value.run_blocks m ρ),
    (θ_run MixcDwRefIdeal.defs _ _).mono (fun _ h c => by
      obtain ⟨h0, hr⟩ := h c
      obtain ⟨a0, a1⟩ := ha c
      rw [a0, a1] at h0
      exact ⟨h0, hr⟩) (MixcDwRefIdeal.Value.run m' ρ')⟩

/-- The projection of the keys and values. -/
theorem values_kv_mm : algebraic_UkvcMmIdeal_UkvcMmRefIdeal := fun m ρ m' ρ' _ ha =>
  ⟨_, (θ_run UkvcMmIdeal.defs _ _).mono (fun _ h c => ⟨(h c).1.trans (UkvcMmIdeal.Up.value m c), (h c).2⟩) (UkvcMmIdeal.Value.run_blocks m ρ),
    (θ_run UkvcMmRefIdeal.defs _ _).mono (fun _ h c => by
      obtain ⟨h0, hr⟩ := h c
      obtain ⟨a0, a1⟩ := ha c
      rw [a0, a1] at h0
      exact ⟨h0, hr⟩) (UkvcMmRefIdeal.Value.run m' ρ')⟩

/-- The gradient of the compressed keys and values. -/
theorem values_kv_dh : algebraic_UkvcDhIdeal_UkvcDhRefIdeal := fun m ρ m' ρ' _ ha =>
  ⟨_, (θ_run UkvcDhIdeal.defs _ _).mono (fun _ h c => ⟨(h c).1.trans (UkvcDhIdeal.Up.value m c), (h c).2⟩) (UkvcDhIdeal.Value.run_blocks m ρ),
    (θ_run UkvcDhRefIdeal.defs _ _).mono (fun _ h c => by
      obtain ⟨h0, hr⟩ := h c
      obtain ⟨a0, a1⟩ := ha c
      rw [a0, a1] at h0
      exact ⟨h0, hr⟩) (UkvcDhRefIdeal.Value.run m' ρ')⟩

/-- The gradient of the weights of the keys and values. -/
theorem values_kv_dw : algebraic_UkvcDwIdeal_UkvcDwRefIdeal := fun m ρ m' ρ' _ ha =>
  ⟨_, (θ_run UkvcDwIdeal.defs _ _).mono (fun _ h c => ⟨(h c).1.trans (UkvcDwIdeal.Up.value m c), (h c).2⟩) (UkvcDwIdeal.Value.run_blocks m ρ),
    (θ_run UkvcDwRefIdeal.defs _ _).mono (fun _ h c => by
      obtain ⟨h0, hr⟩ := h c
      obtain ⟨a0, a1⟩ := ha c
      rw [a0, a1] at h0
      exact ⟨h0, hr⟩) (UkvcDwRefIdeal.Value.run m' ρ')⟩

end Cert.CtxClaims

end
-- ==== Proof.AdaMm.lean ====
module

public import proofs.«01_k».proof.Proof.Gen.AdaMmIdeal.Value
public import proofs.«01_k».proof.Proof.Gen.AdaMmRefIdeal.Run
public import Idealize.ShloMosaic.Lib.Pipeline.ValueKit.Point
public import Idealize.ShloMosaic.Lib.Pointwise

@[expose] public section

set_option maxRecDepth 16384

/-! The product that the modulation comes from: the kernel's column blocks are those of the reference's one product. -/

noncomputable section

namespace Cert.AdaMmIdeal.Ada

open Cert.AdaMmIdeal Cert.AdaMmIdeal.Gen
open Idealize.ShloMosaic Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The column of the result under column `d` of a point's block. -/
def col (t : Fin cfg0.N) (d : Fin 768) : Fin 2304 := ⟨t.val * 768 + d.val, by have := t.isLt.trans_eq N_0; omega⟩

/-- The reference's product. -/
def product (h : FVec Ideal S16x2048 .f32) (w : FVec Ideal S2048x2304 .f32) : FVec Ideal S16x2304 .f32 :=
  Host.dotGeneral (F := Ideal) (φ₁ := .f32) (φ₂ := .f32) Cert.AdaMmRefIdeal.dot_S16x2048_S2048x2304_S16x2304_1_0_0_1_n_n none h w
theorem product_at (h : FVec Ideal S16x2048 .f32) (w : FVec Ideal S2048x2304 .f32) (i : Fin 16) (d : Fin 2304) :
    product h w (ix2 i d) = ∑ k : Fin 2048, h (ix2 i k) * w (ix2 k d) := by
  pointwise [product]

variable (m : (ℓ : Loc nD τ sig) → Buf (Elt Ideal) ℓ) (c : Dev nD)

theorem V_rows : V m c main_arg0 = m (c, main_arg0) := rfl
theorem V_weights : V m c main_arg1 = m (c, main_arg1) := rfl

theorem emb0 (t : Fin cfg0.N) (i : Fin 16) (k : Fin 2048) : ((cfg0.win 0).blk t).view.emb (ix2 i k) = ix2 i k := by
  blk_ext [idx0]
theorem emb1 (t : Fin cfg0.N) (k : Fin 2048) (d : Fin 768) : ((cfg0.win 1).blk t).view.emb (ix2 k d) = ix2 k (col t d) := by
  blk_ext [idx1, col]
theorem emb2 (t : Fin cfg0.N) (i : Fin 16) (d : Fin 768) : ((cfg0.win 2).blk t).view.emb (ix2 i d) = ix2 i (col t d) := by
  blk_ext [idx2, col]

theorem blk0 (t : Fin cfg0.N) (i : Fin 16) (k : Fin 2048) : iblk m c 0 t (ix2 i k) = m (c, main_arg0) (ix2 i k) := by
  unfold iblk
  rw [View.read_apply, emb0]
  exact congrFun (V_rows m c) _
theorem blk1 (t : Fin cfg0.N) (k : Fin 2048) (d : Fin 768) : iblk m c 1 t (ix2 k d) = m (c, main_arg1) (ix2 k (col t d)) := by
  unfold iblk
  rw [View.read_apply, emb1]
  exact congrFun (V_weights m c) _

/-- A point's block of the product. -/
theorem out_at (t : Fin cfg0.N) (i : Fin 16) (d : Fin 768) :
    outsAt0 m c t (ix2 i d) = product (m (c, main_arg0)) (m (c, main_arg1)) (ix2 i (col t d)) := by
  rw [product_at]
  simp only [outsAt0]
  frame_out
  pointwise [k0_pay2, k0_pay1]
  simp only [blk0, blk1]

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S16x768.Idx) => ?_
  obtain ⟨i, d, rfl⟩ : ∃ i d, y = ix2 i d := ⟨_, _, eq_ix2 y⟩
  rw [emb2]
  show (dats m 0 c).after 2 t (ix2 i d) = _
  rw [after0_2, out_at]

end Cert.AdaMmIdeal.Ada

end
-- ==== Proof.AdaDa.lean ====
module

public import proofs.«01_k».proof.Proof.Gen.AdaDaIdeal.Value
public import proofs.«01_k».proof.Proof.Gen.AdaDaRefIdeal.Run
public import Idealize.ShloMosaic.Lib.Pipeline.ValueKit.Point
public import Idealize.ShloMosaic.Lib.Pipeline.ValueKit.Acc
public import Idealize.ShloMosaic.Lib.Pointwise

@[expose] public section

set_option maxRecDepth 16384

/-! The gradient of the rows that the modulation comes from: three column parts in one accumulator. -/

noncomputable section

namespace Cert.AdaDaIdeal.Ada

open Cert.AdaDaIdeal Cert.AdaDaIdeal.Gen
open Idealize.ShloMosaic Idealize.ShloMosaic.TcCoe Idealize.SL.Sem Idealize.ShloMosaic.Pointwise
open scoped BigOperators

theorem idx0 : ∀ t : Fin cfg0.N, win0_0.index t = ![0, t.val % 3] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![0, 0] := (by decide +kernel : ∀ t : Fin grid0.N, _)

/-- The column of the gradient under column `k` of a point's block. -/
def col (t : Fin cfg0.N) (k : Fin 768) : Fin 2304 := ⟨t.val % 3 * 768 + k.val, by omega⟩

/-- The product of one row of the gradient with one row of the weights at one column. -/
def term (e : FVec Ideal S16x2304 .f32) (w : FVec Ideal S2048x2304 .f32) (i : Fin 16) (d : Fin 2048) (k : Fin 2304) : EReal := e (ix2 i k) * w (ix2 d k)
/-- What a point adds to its block. -/
def part (e : FVec Ideal S16x2304 .f32) (w : FVec Ideal S2048x2304 .f32) (t : Fin cfg0.N) (y : S16x2048.Idx) : EReal :=
  ∑ k : Fin 768, term e w (y 0) (y 1) (col t k)

/-- The three parts are all the columns. -/
theorem whole (e : FVec Ideal S16x2304 .f32) (w : FVec Ideal S2048x2304 .f32) (t : Fin cfg0.N) (ht : t.val % 3 = 3 - 1) (i : Fin 16) (d : Fin 2048) :
    ∑ s : Fin 3, part e w ⟨3 * (t.val / 3) + s.val, Pipeline.run_point_lt_of_flush t ht s⟩ (ix2 i d) = ∑ k : Fin 2304, term e w i d k := by
  refine Fin.sum_mul_add_congr fun s k _ => ?_
  refine congrArg _ (Fin.ext ?_)
  simp only [col]
  omega

/-- The reference's product. -/
def product (e : FVec Ideal S16x2304 .f32) (w : FVec Ideal S2048x2304 .f32) : FVec Ideal S16x2048 .f32 :=
  Host.dotGeneral (F := Ideal) (φ₁ := .f32) (φ₂ := .f32) Cert.AdaDaRefIdeal.dot_S16x2304_S2048x2304_S16x2048_1_1_0_0_n_n none e w
theorem product_at (e : FVec Ideal S16x2304 .f32) (w : FVec Ideal S2048x2304 .f32) (i : Fin 16) (d : Fin 2048) :
    product e w (ix2 i d) = ∑ k : Fin 2304, term e w i d k := by
  pointwise [product]
  rfl

variable (m : (ℓ : Loc nD τ sig) → Buf (Elt Ideal) ℓ) (c : Dev nD)

theorem V_grad : V m c main_arg0 = m (c, main_arg0) := rfl
theorem V_weights : V m c main_arg1 = m (c, main_arg1) := rfl

theorem emb0 (t : Fin cfg0.N) (i : Fin 16) (k : Fin 768) : ((cfg0.win 0).blk t).view.emb (ix2 i k) = ix2 i (col t k) := by
  blk_ext [idx0, col]
theorem emb1 (t : Fin cfg0.N) (d : Fin 2048) (k : Fin 768) : ((cfg0.win 1).blk t).view.emb (ix2 d k) = ix2 d (col t k) := by
  blk_ext [idx1, col]
theorem emb2 (t : Fin cfg0.N) (i : Fin 16) (d : Fin 2048) : ((cfg0.win 2).blk t).view.emb (ix2 i d) = ix2 i d := by
  blk_ext [idx2]

theorem blk0 (t : Fin cfg0.N) (i : Fin 16) (k : Fin 768) : iblk m c 0 t (ix2 i k) = m (c, main_arg0) (ix2 i (col t k)) := by
  unfold iblk
  rw [View.read_apply, emb0]
  exact congrFun (V_grad m c) _
theorem blk1 (t : Fin cfg0.N) (d : Fin 2048) (k : Fin 768) : iblk m c 1 t (ix2 d k) = m (c, main_arg1) (ix2 d (col t k)) := by
  unfold iblk
  rw [View.read_apply, emb1]
  exact congrFun (V_weights m c) _

theorem zero_at (y : S16x2048.Idx) : k0_pay1 (F := Ideal) y = (0 : EReal) := by
  obtain ⟨i, d, rfl⟩ : ∃ i d, y = ix2 i d := ⟨_, _, eq_ix2 y⟩
  pointwise [k0_pay1]

theorem step_at (a : Vec Ideal S16x2048 .f32) (t : Fin cfg0.N) (y : S16x2048.Idx) :
    k0_pay2 a (iblk m c 0 t) (iblk m c 1 t) y = a y + part (m (c, main_arg0)) (m (c, main_arg1)) t y := by
  obtain ⟨i, d, rfl⟩ : ∃ i d, y = ix2 i d := ⟨_, _, eq_ix2 y⟩
  pointwise [k0_pay2]
  simp only [blk0, blk1]
  rfl

/-- The scratch after a point that writes back is the reference's product there. -/
theorem scratch (t : Fin cfg0.N) (ht : t.val % 3 = 3 - 1) (i : Fin 16) (d : Fin 2048) :
    (outsAt0 m c t.val t.isLt).2 (ix2 i d) = product (m (c, main_arg0)) (m (c, main_arg1)) (ix2 i d) := by
  rw [product_at, ← whole _ _ t ht, Pipeline.eq_sum_fin_of_reset_step_apply_of_flush (fun n h => (outsAt0 m c n h).2) 3 (fun _ => (0 : EReal))
    (part (m (c, main_arg0)) (m (c, main_arg1)))
    (fun t h y => by rw [outsAt0_A m c t h (by omega)]; frame_out; rw [step_at, zero_at])
    (fun t h y => by
      by_cases h2 : t.val % 3 = 2
      · rw [outsAt0_C m c t h h2]; frame_out; rw [step_at]; exact congrArg (· + _) (congrFun (Memref.IsWhole.read_unread _ _) y)
      · rw [outsAt0_B m c t h h2]; frame_out; rw [step_at]; exact congrArg (· + _) (congrFun (Memref.IsWhole.read_unread _ _) y)) t ht (ix2 i d), zero_add]

/-- At a point that writes back the output block is the scratch. -/
theorem out_eq (t : Fin cfg0.N) (ht : t.val % 3 = 2) : (outsAt0 m c t.val t.isLt).1 = (outsAt0 m c t.val t.isLt).2 := by
  rw [outsAt0_C m c t (by omega) ht]
  frame_out

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S16x2048.Idx) => ?_
  have ht := (flush0_2 t).1 hf
  obtain ⟨i, d, rfl⟩ : ∃ i d, y = ix2 i d := ⟨_, _, eq_ix2 y⟩
  rw [emb2]
  show (dats m 0 c).after 2 t (ix2 i d) = _
  rw [after0_2, out_eq m c t ht, scratch m c t ht]

end Cert.AdaDaIdeal.Ada

end
-- ==== Proof.AdaDw.lean ====
module

public import proofs.«01_k».proof.Proof.Gen.AdaDwIdeal.Value
public import proofs.«01_k».proof.Proof.Gen.AdaDwRefIdeal.Run
public import Idealize.ShloMosaic.Lib.Pipeline.ValueKit.Point
public import Idealize.ShloMosaic.Lib.Pointwise

@[expose] public section

set_option maxRecDepth 16384

/-! The gradient of the weights that the modulation comes from: one product for each block. -/

noncomputable section

namespace Cert.AdaDwIdeal.Ada

open Cert.AdaDwIdeal Cert.AdaDwIdeal.Gen
open Idealize.ShloMosaic Idealize.ShloMosaic.TcCoe Idealize.SL.Sem Idealize.ShloMosaic.Pointwise
open scoped BigOperators

theorem idx0 : ∀ t : Fin cfg0.N, win0_0.index t = ![0, t.val / 3] := (by decide +kernel : ∀ t : Fin grid0.N, _)
theorem idx1 : ∀ t : Fin cfg0.N, win0_1.index t = ![0, t.val % 3] := (by decide +kernel : ∀ t : Fin grid0.N, _)
theorem idx2 : ∀ t : Fin cfg0.N, win0_2.index t = ![t.val / 3, t.val % 3] := (by decide +kernel : ∀ t : Fin grid0.N, _)

/-- The row of the result under row `a` of a point's block, -/
def row (t : Fin cfg0.N) (a : Fin 1024) : Fin 2048 := ⟨t.val / 3 * 1024 + a.val, by have := t.isLt.trans_eq N_0; omega⟩
/-- and the column under column `b`. -/
def col (t : Fin cfg0.N) (b : Fin 768) : Fin 2304 := ⟨t.val % 3 * 768 + b.val, by omega⟩

/-- The reference's product, its two axes exchanged. -/
def product (h : FVec Ideal S16x2048 .f32) (e : FVec Ideal S16x2304 .f32) : FVec Ideal S2048x2304 .f32 :=
  transpose S2048x2304 [1, 0] (Host.dotGeneral (F := Ideal) (φ₁ := .f32) (φ₂ := .f32) Cert.AdaDwRefIdeal.dot_S16x2304_S16x2048_S2304x2048_0_0_1_1_n_n none e h)
    Cert.AdaDwRefIdeal.Gen.transposes_S2304x2048_S2048x2304_1_0
theorem product_at (h : FVec Ideal S16x2048 .f32) (e : FVec Ideal S16x2304 .f32) (j : Fin 2048) (d : Fin 2304) :
    product h e (ix2 j d) = ∑ k : Fin 16, h (ix2 k j) * e (ix2 k d) := by
  pointwise [product]
  exact Finset.sum_congr rfl fun k _ => mul_comm (e (ix2 k d)) (h (ix2 k j))

variable (m : (ℓ : Loc nD τ sig) → Buf (Elt Ideal) ℓ) (c : Dev nD)

theorem V_rows : V m c main_arg0 = m (c, main_arg0) := rfl
theorem V_grad : V m c main_arg1 = m (c, main_arg1) := rfl

theorem emb0 (t : Fin cfg0.N) (k : Fin 16) (j : Fin 1024) : ((cfg0.win 0).blk t).view.emb (ix2 k j) = ix2 k (row t j) := by
  blk_ext [idx0, row]
theorem emb1 (t : Fin cfg0.N) (k : Fin 16) (d : Fin 768) : ((cfg0.win 1).blk t).view.emb (ix2 k d) = ix2 k (col t d) := by
  blk_ext [idx1, col]
theorem emb2 (t : Fin cfg0.N) (j : Fin 1024) (d : Fin 768) : ((cfg0.win 2).blk t).view.emb (ix2 j d) = ix2 (row t j) (col t d) := by
  blk_ext [idx2, row, col]

theorem blk0 (t : Fin cfg0.N) (k : Fin 16) (j : Fin 1024) : iblk m c 0 t (ix2 k j) = m (c, main_arg0) (ix2 k (row t j)) := by
  unfold iblk
  rw [View.read_apply, emb0]
  exact congrFun (V_rows m c) _
theorem blk1 (t : Fin cfg0.N) (k : Fin 16) (d : Fin 768) : iblk m c 1 t (ix2 k d) = m (c, main_arg1) (ix2 k (col t d)) := by
  unfold iblk
  rw [View.read_apply, emb1]
  exact congrFun (V_grad m c) _

/-- A point's block of the product. -/
theorem out_at (t : Fin cfg0.N) (j : Fin 1024) (d : Fin 768) :
    outsAt0 m c t (ix2 j d) = product (m (c, main_arg0)) (m (c, main_arg1)) (ix2 (row t j) (col t d)) := by
  rw [product_at]
  simp only [outsAt0]
  frame_out
  pointwise [k0_pay2, k0_pay1]
  simp only [blk0, blk1]

/-- The kernel's array is the reference's. -/
theorem value : (dats m 0 c).arrAt 2 cfg0.N = product (m (c, main_arg0)) (m (c, main_arg1)) := by
  refine Pipeline.Dat.arrAt_eq_of_covers _ 2 _ (by decide +kernel) fun t hf (y : S1024x768.Idx) => ?_
  obtain ⟨j, d, rfl⟩ : ∃ j d, y = ix2 j d := ⟨_, _, eq_ix2 y⟩
  rw [emb2]
  show (dats m 0 c).after 2 t (ix2 j d) = _
  rw [after0_2, out_at]

end Cert.AdaDwIdeal.Ada

end
-- ==== Proof.AdaClaims.lean ====
module

public import proofs.«01_k».proof.Defs
public import proofs.«01_k».proof.Proof.AdaMm
public import proofs.«01_k».proof.Proof.AdaDa
public import proofs.«01_k».proof.Proof.AdaDw
public import Idealize.ShloMosaic.Adequacy
public import Idealize.ShloMosaic.Init

@[expose] public section

/-! The equations of the product that the modulation comes from, and the ends of its references. -/

noncomputable section

namespace Cert.AdaClaims

open Cert Idealize.ShloMosaic Idealize.ShloMosaic.TcCoe Idealize.SL.Sem

theorem ends_mm : quiescent_AdaMmRefIdeal := fun m ρ _ =>
  (θ_run AdaMmRefIdeal.defs _ _).mono (fun r h => ⟨fun c => (h c).2, sem_eq_zero_of_no_sems (by decide) r.2⟩) (AdaMmRefIdeal.Value.run m ρ)
theorem ends_da : quiescent_AdaDaRefIdeal := fun m ρ _ =>
  (θ_run AdaDaRefIdeal.defs _ _).mono (fun r h => ⟨fun c => (h c).2, sem_eq_zero_of_no_sems (by decide) r.2⟩) (AdaDaRefIdeal.Value.run m ρ)
theorem ends_dw : quiescent_AdaDwRefIdeal := fun m ρ _ =>
  (θ_run AdaDwRefIdeal.defs _ _).mono (fun r h => ⟨fun c => (h c).2, sem_eq_zero_of_no_sems (by decide) r.2⟩) (AdaDwRefIdeal.Value.run m ρ)

/-- The product. -/
theorem values_mm : algebraic_AdaMmIdeal_AdaMmRefIdeal := fun m ρ m' ρ' _ ha =>
  ⟨_, (θ_run AdaMmIdeal.defs _ _).mono (fun _ h c => ⟨(h c).1.trans (AdaMmIdeal.Ada.value m c), (h c).2⟩) (AdaMmIdeal.Value.run_blocks m ρ),
    (θ_run AdaMmRefIdeal.defs _ _).mono (fun _ h c => by
      obtain ⟨h0, hr⟩ := h c
      obtain ⟨a0, a1⟩ := ha c
      rw [a0, a1] at h0
      exact ⟨h0, hr⟩) (AdaMmRefIdeal.Value.run m' ρ')⟩

/-- The gradient of its rows. -/
theorem values_da : algebraic_AdaDaIdeal_AdaDaRefIdeal := fun m ρ m' ρ' _ ha =>
  ⟨_, (θ_run AdaDaIdeal.defs _ _).mono (fun _ h c => ⟨(h c).1.trans (AdaDaIdeal.Ada.value m c), (h c).2⟩) (AdaDaIdeal.Value.run_blocks m ρ),
    (θ_run AdaDaRefIdeal.defs _ _).mono (fun _ h c => by
      obtain ⟨h0, hr⟩ := h c
      obtain ⟨a0, a1⟩ := ha c
      rw [a0, a1] at h0
      exact ⟨h0, hr⟩) (AdaDaRefIdeal.Value.run m' ρ')⟩

/-- The gradient of its weights. -/
theorem values_dw : algebraic_AdaDwIdeal_AdaDwRefIdeal := fun m ρ m' ρ' _ ha =>
  ⟨_, (θ_run AdaDwIdeal.defs _ _).mono (fun _ h c => ⟨(h c).1.trans (AdaDwIdeal.Ada.value m c), (h c).2⟩) (AdaDwIdeal.Value.run_blocks m ρ),
    (θ_run AdaDwRefIdeal.defs _ _).mono (fun _ h c => by
      obtain ⟨h0, hr⟩ := h c
      obtain ⟨a0, a1⟩ := ha c
      rw [a0, a1] at h0
      exact ⟨h0, hr⟩) (AdaDwRefIdeal.Value.run m' ρ')⟩

end Cert.AdaClaims

end
-- ==== Proof.RowNorm.lean ====
module

public import proofs.«01_k».proof.Proof.Gen.NormIdeal.Value
public import proofs.«01_k».proof.Proof.Gen.NormRefIdeal.Run
public import Idealize.ShloMosaic.Lib.Pipeline.ValueKit.Point
public import Idealize.ShloMosaic.Lib.Pointwise

@[expose] public section

set_option maxRecDepth 16384

/-! The norm with the modulation: the kernel's row blocks are those of the reference's one array. -/

noncomputable section

namespace Cert.NormIdeal.Row

open Cert.NormIdeal Cert.NormIdeal.Gen
open Idealize.ShloMosaic Idealize.ShloMosaic.TcCoe Idealize.SL.Sem Idealize.ShloMosaic.Pointwise
open scoped BigOperators

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)

/-- The row of the arrays under row `i` of a point's block. -/
def row (t : Fin cfg0.N) (i : Fin 512) : Fin 8192 := ⟨t.val * 512 + i.val, by have := t.isLt.trans_eq N_0; omega⟩

/-- The reference's rows over their root mean squares. -/
def unit (x : FVec Ideal S8192x2048 .f32) : FVec Ideal S8192x2048 .f32 :=
  mulf x (broadcastInDim S8192x2048 ![0, 1] Cert.NormRefIdeal.Gen.bcast_S8192x1_S8192x2048_0_1 (Host.rsqrt (addf
    (Host.divf (broadcastInDim Cert.NormRefIdeal.S8192x1 ![0] Cert.NormRefIdeal.Gen.bcast_S8192_S8192x1_0
      (Host.reduceAdd (mulf x x) (constant Cert.NormRefIdeal.S_ .f32 0x00000000#32) Cert.NormRefIdeal.Gen.reducesTo_S8192x2048_S8192_d1 Cert.NormRefIdeal.Gen.h_S_))
      (broadcastInDim Cert.NormRefIdeal.S8192x1 ![] Cert.NormRefIdeal.Gen.bcast_S_S8192x1 (constant Cert.NormRefIdeal.S_ .f32 0x45000000#32)))
    (broadcastInDim Cert.NormRefIdeal.S8192x1 ![] Cert.NormRefIdeal.Gen.bcast_S_S8192x1 (constant Cert.NormRefIdeal.S_ .f32 0x358637BD#32)))))
/-- The reference's result. -/
def result (x : FVec Ideal S8192x2048 .f32) (g sc sh : FVec Ideal S1x2048 .f32) : FVec Ideal S8192x2048 .bf16 :=
  truncf .bf16 (addf (mulf (mulf (unit x) (broadcastInDim S8192x2048 ![0, 1] Cert.NormRefIdeal.Gen.bcast_S1x2048_S8192x2048_0_1 g))
    (broadcastInDim S8192x2048 ![0, 1] Cert.NormRefIdeal.Gen.bcast_S1x2048_S8192x2048_0_1
      (addf (broadcastInDim S1x2048 ![] Cert.NormRefIdeal.Gen.bcast_S_S1x2048 (constant Cert.NormRefIdeal.S_ .f32 0x3F800000#32)) sc)))
    (broadcastInDim S8192x2048 ![0, 1] Cert.NormRefIdeal.Gen.bcast_S1x2048_S8192x2048_0_1 sh)) bitsLt_bf16_f32

variable (m : (ℓ : Loc nD τ sig) → Buf (Elt Ideal) ℓ) (c : Dev nD)

theorem V_rows : V m c main_arg0 = m (c, main_arg0) := rfl
theorem V_weight : V m c main_arg1 = m (c, main_arg1) := rfl
theorem V_scale : V m c main_arg2 = m (c, main_arg2) := rfl
theorem V_shift : V m c main_arg3 = m (c, main_arg3) := rfl

theorem emb0 (t : Fin cfg0.N) (i : Fin 512) (d : Fin 2048) : ((cfg0.win 0).blk t).view.emb (ix2 i d) = ix2 (row t i) d := by
  blk_ext [idx0, row]
theorem emb1 (t : Fin cfg0.N) (d : Fin 2048) : ((cfg0.win 1).blk t).view.emb (ix2 0 d) = ix2 0 d := by
  blk_ext [idx1]
theorem emb2 (t : Fin cfg0.N) (d : Fin 2048) : ((cfg0.win 2).blk t).view.emb (ix2 0 d) = ix2 0 d := by
  blk_ext [idx2]
theorem emb3 (t : Fin cfg0.N) (d : Fin 2048) : ((cfg0.win 3).blk t).view.emb (ix2 0 d) = ix2 0 d := by
  blk_ext [idx3]
theorem emb4 (t : Fin cfg0.N) (i : Fin 512) (d : Fin 2048) : ((cfg0.win 4).blk t).view.emb (ix2 i d) = ix2 (row t i) d := by
  blk_ext [idx4, row]

theorem blk0 (t : Fin cfg0.N) (i : Fin 512) (d : Fin 2048) : iblk m c 0 t (ix2 i d) = m (c, main_arg0) (ix2 (row t i) d) := by
  unfold iblk
  rw [View.read_apply, emb0]
  exact congrFun (V_rows m c) _
theorem blk1 (t : Fin cfg0.N) (d : Fin 2048) : iblk m c 1 t (ix2 0 d) = m (c, main_arg1) (ix2 0 d) := by
  unfold iblk
  rw [View.read_apply, emb1]
  exact congrFun (V_weight m c) _
theorem blk2 (t : Fin cfg0.N) (d : Fin 2048) : iblk m c 2 t (ix2 0 d) = m (c, main_arg2) (ix2 0 d) := by
  unfold iblk
  rw [View.read_apply, emb2]
  exact congrFun (V_scale m c) _
theorem blk3 (t : Fin cfg0.N) (d : Fin 2048) : iblk m c 3 t (ix2 0 d) = m (c, main_arg3) (ix2 0 d) := by
  unfold iblk
  rw [View.read_apply, emb3]
  exact congrFun (V_shift m c) _

/-- A point's block of the kernel is the reference's. -/
theorem pay_at (t : Fin cfg0.N) (i : Fin 512) (d : Fin 2048) :
    k0_pay1 (iblk m c 0 t) (iblk m c 1 t) (iblk m c 2 t) (iblk m c 3 t) (ix2 i d)
      = result (m (c, main_arg0)) (m (c, main_arg1)) (m (c, main_arg2)) (m (c, main_arg3)) (ix2 (row t i) d) := by
  pointwise [k0_pay1, result, unit]
  simp only [blk0, blk1, blk2, blk3]
theorem out_at (t : Fin cfg0.N) (i : Fin 512) (d : Fin 2048) :
    out0_4 (iblk m c 0 t) (iblk m c 1 t) (iblk m c 2 t) (iblk m c 3 t) (ix2 i d)
      = result (m (c, main_arg0)) (m (c, main_arg1)) (m (c, main_arg2)) (m (c, main_arg3)) (ix2 (row t i) d) := by
  rw [← pay_at]
  simp only [out0_4]
  frame_out

/-- The kernel's array is the reference's. -/
theorem value : (dats m 0 c).arrAt 4 cfg0.N = result (m (c, main_arg0)) (m (c, main_arg1)) (m (c, main_arg2)) (m (c, main_arg3)) := by
  refine Pipeline.Dat.arrAt_eq_of_covers _ 4 _ (by decide +kernel) fun t hf (y : S512x2048.Idx) => ?_
  obtain ⟨i, d, rfl⟩ : ∃ i d, y = ix2 i d := ⟨_, _, eq_ix2 y⟩
  rw [emb4]
  show (dats m 0 c).after 4 t (ix2 i d) = _
  rw [after0_4, out_at]

end Cert.NormIdeal.Row

end
-- ==== Proof.AttnOnline.lean ====
module

public import proofs.«01_k».proof.Proof.AttnMath

@[expose] public section

/-! The softmax of a row of scores taken tile by tile: a shift, the sum of the exponentials so far and the weighted sum of the values so far. -/

noncomputable section

namespace Cert.AttnMath

open Idealize.ShloMosaic
open scoped BigOperators

/-- A nonnegative real times a finite sum of extended reals. -/
theorem real_mul_sum {ι : Type*} (s : Finset ι) (f : ι → EReal) {a : ℝ} (ha : 0 ≤ a) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (by exact_mod_cast ha) (EReal.coe_ne_top a), ih]

/-- The exponential of a score less a shift, both still to be scaled. -/
def weight (s μ : ℝ) : ℝ := Real.exp ((s - μ) * (Real.sqrt 192)⁻¹)

theorem weight_pos (s μ : ℝ) : 0 < weight s μ := Real.exp_pos _

theorem weight_shift (s μ μ' : ℝ) : weight μ μ' * weight s μ = weight s μ' := by
  unfold weight
  rw [← Real.exp_add]
  congr 1
  ring

/-- The same in base 2. -/
theorem rpow_weight (s μ x : ℝ) (hx : x = (s - μ) * ((Real.sqrt 192)⁻¹ * (Real.log 2)⁻¹)) : Real.rpow 2 x = weight s μ := by
  have h2 : Real.log 2 ≠ 0 := (Real.log_pos one_lt_two).ne'
  show (2 : ℝ) ^ x = _
  rw [Real.rpow_def_of_pos two_pos, hx, weight]
  congr 1
  field_simp

/-- The sums over the first `n` keys at the shift `μ`: `l` of the exponentials, `a` of the values they weigh. -/
structure Column (s : ℕ → ℝ) (v : Fin 128 → ℕ → EReal) (n : ℕ) (μ : ℝ) (l : EReal) (a : Fin 128 → EReal) : Prop where
  sum : l = ((∑ j ∈ Finset.range n, weight (s j) μ : ℝ) : EReal)
  acc : ∀ e, a e = ∑ j ∈ Finset.range n, v e j * (weight (s j) μ : EReal)

variable {s : ℕ → ℝ} {v : Fin 128 → ℕ → EReal} {n : ℕ} {μ : ℝ} {l l' : EReal} {a a' : Fin 128 → EReal}

/-- Before the first key both sums are empty. -/
theorem Column.start (μ : ℝ) (hl : l = 0) (ha : ∀ e, a e = 0) : Column s v 0 μ l a :=
  ⟨by rw [hl]; simp, fun e => by rw [ha]; simp⟩

/-- A tile of keys moves the shift and adds its terms. -/
theorem Column.step {T : ℕ} (h : Column s v n μ l a) (μ' : ℝ)
    (hl : l' = (weight μ μ' : EReal) * l + ((∑ j : Fin T, weight (s (n + j.val)) μ' : ℝ) : EReal))
    (ha : ∀ e, a' e = (weight μ μ' : EReal) * a e + ∑ j : Fin T, v e (n + j.val) * (weight (s (n + j.val)) μ' : EReal)) :
    Column s v (n + T) μ' l' a' := by
  refine ⟨?_, fun e => ?_⟩
  · rw [hl, h.sum, ← EReal.coe_mul, ← EReal.coe_add, Finset.sum_range_add, Finset.mul_sum, Finset.sum_range (n := T)]
    simp only [weight_shift]
  · rw [ha, h.acc, Finset.sum_range_add, Finset.sum_range (n := T), real_mul_sum _ _ (weight_pos μ μ').le]
    refine congrArg (· + _) (Finset.sum_congr rfl fun j _ => ?_)
    rw [mul_left_comm, ← EReal.coe_mul, weight_shift]

/-- The logarithm of the sum of exponentials does not depend on the shift. -/
theorem log_sum_shift {n : ℕ} (σ : Fin (n + 1) → ℝ) (μ : ℝ) : Real.log (∑ j, Real.exp (σ j - μ)) + μ = Real.log (∑ j, Real.exp (σ j)) := by
  simp only [Real.exp_sub, ← Finset.sum_div]
  rw [Real.log_div (sum_exp_pos σ).ne' (Real.exp_pos μ).ne', Real.log_exp]
  ring

section
variable {σ : Fin 8448 → ℝ} (hs : ∀ j : Fin 8448, s j.val * (Real.sqrt 192)⁻¹ = σ j)
include hs

theorem weight_eq (j : Fin 8448) : weight (s j.val) μ = Real.exp (σ j - μ * (Real.sqrt 192)⁻¹) := by
  rw [weight, sub_mul, hs]

theorem Column.sum_eq (h : Column s v 8448 μ l a) : l = ((∑ j, Real.exp (σ j - μ * (Real.sqrt 192)⁻¹) : ℝ) : EReal) := by
  rw [h.sum, Finset.sum_range]
  simp only [weight_eq hs]

/-- After the last key the quotient is the softmax's weighted sum, -/
theorem Column.div (h : Column s v 8448 μ l a) (e : Fin 128) :
    Ideal.div (a e) l = ∑ j : Fin 8448, v e j.val * (soft (n := 8447) σ j : EReal) := by
  have hZ : 0 < ∑ j, Real.exp (σ j - μ * (Real.sqrt 192)⁻¹) := sum_exp_pos (n := 8447) fun j => σ j - μ * (Real.sqrt 192)⁻¹
  rw [h.sum_eq hs, h.acc, Ideal.div_coe hZ.ne', mul_comm, real_mul_sum _ _ (by positivity), Finset.sum_range]
  refine Finset.sum_congr rfl fun j _ => ?_
  rw [mul_left_comm, ← EReal.coe_mul, weight_eq hs, one_div_mul_eq_div, ← soft_shift (n := 8447) σ (μ * (Real.sqrt 192)⁻¹) j]

/-- and the shift plus the logarithm is that of the whole sum. -/
theorem Column.log (h : Column s v 8448 μ l a) :
    (μ : EReal) * (((Real.sqrt 192)⁻¹ : ℝ) : EReal) + Ideal.log l = ((Real.log (∑ j, Real.exp (σ j)) : ℝ) : EReal) := by
  have hZ : 0 < ∑ j, Real.exp (σ j - μ * (Real.sqrt 192)⁻¹) := sum_exp_pos (n := 8447) fun j => σ j - μ * (Real.sqrt 192)⁻¹
  rw [h.sum_eq hs, Ideal.log_coe, if_neg (not_le.mpr hZ), ← EReal.coe_mul, ← EReal.coe_add, add_comm, log_sum_shift (n := 8447)]
end

end Cert.AttnMath

end
-- ==== Proof.RowGate.lean ====
module

public import proofs.«01_k».proof.Proof.Gen.GateIdeal.Value
public import proofs.«01_k».proof.Proof.Gen.GateRefIdeal.Run
public import proofs.«01_k».proof.Proof.AttnOnline
public import Idealize.ShloMosaic.Lib.Pipeline.ValueKit.Point
public import Idealize.ShloMosaic.Lib.Pointwise

@[expose] public section

set_option maxRecDepth 16384

/-! The gradients of a half gated sum: the kernel's row blocks are those of the reference's one array, and the halved
sums of its row blocks add up to half of the reference's sum. -/

noncomputable section

namespace Cert.GateIdeal.Row

open Cert.GateIdeal Cert.GateIdeal.Gen
open Idealize.ShloMosaic Idealize.ShloMosaic.TcCoe Idealize.SL.Sem Idealize.ShloMosaic.Pointwise
open scoped BigOperators

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)

/-- The row of the arrays under row `i` of a point's block. -/
def row (t : Fin cfg0.N) (i : Fin 512) : Fin 8192 := ⟨t.val * 512 + i.val, by have := t.isLt.trans_eq N_0; omega⟩

/-- The literal one half. -/
def half : EReal := Ideal.ofBits .f32 0x3F000000#32
theorem half_eq : half = (((1 : ℝ) / 2 : ℝ) : EReal) := by
  simp [half, Ideal.ofBits, Ideal.ieee, -EReal.coe_mul]
  norm_num
theorem half_mul_sum {ι : Type*} (s : Finset ι) (f : ι → EReal) : half * ∑ i ∈ s, f i = ∑ i ∈ s, half * f i := by
  rw [half_eq]
  exact Cert.AttnMath.real_mul_sum s f (by norm_num)

/-- The product of one row of the gradient with the same row of the values at one column. -/
def term (e f : FVec Ideal S8192x2048 .f32) (d : Fin 2048) (k : Fin 8192) : EReal := e (ix2 k d) * f (ix2 k d)
/-- What a point adds to its block. -/
def part (e f : FVec Ideal S8192x2048 .f32) (t : Fin cfg0.N) (y : S1x2048.Idx) : EReal :=
  half * ∑ k : Fin 512, term e f (y 1) (row t k)

/-- The sixteen parts are half the sum of all the rows. -/
theorem whole (e f : FVec Ideal S8192x2048 .f32) (t : Fin cfg0.N) (ht : t.val % 16 = 16 - 1) (d : Fin 2048) :
    ∑ s : Fin 16, part e f ⟨16 * (t.val / 16) + s.val, Pipeline.run_point_lt_of_flush t ht s⟩ (ix2 0 d) = half * ∑ k : Fin 8192, term e f d k := by
  simp only [part]
  rw [← half_mul_sum]
  refine congrArg _ (Fin.sum_mul_add_congr fun s k _ => ?_)
  refine congrArg _ (Fin.ext ?_)
  have := t.isLt.trans_eq N_0
  simp only [row]
  omega

/-- The reference's gradient of the values. -/
def scaled (e : FVec Ideal S8192x2048 .f32) (g : FVec Ideal S1x2048 .f32) : FVec Ideal S8192x2048 .bf16 :=
  truncf .bf16 (mulf (broadcastInDim S8192x2048 ![0, 1] Cert.GateRefIdeal.Gen.bcast_S1x2048_S8192x2048_0_1
    (mulf (broadcastInDim S1x2048 ![] Cert.GateRefIdeal.Gen.bcast_S_S1x2048 (constant Cert.GateRefIdeal.S_ .f32 0x3F000000#32)) g)) e) bitsLt_bf16_f32
/-- The reference's gradient of the gate. -/
def total (e f : FVec Ideal S8192x2048 .f32) : FVec Ideal S1x2048 .f32 :=
  mulf (broadcastInDim S1x2048 ![] Cert.GateRefIdeal.Gen.bcast_S_S1x2048 (constant Cert.GateRefIdeal.S_ .f32 0x3F000000#32))
    (shapeCast S1x2048 (Host.reduceAdd (mulf e f) (constant Cert.GateRefIdeal.S_ .f32 0x00000000#32)
      Cert.GateRefIdeal.Gen.reducesTo_S8192x2048_S2048_d0 Cert.GateRefIdeal.Gen.h_S_) Cert.GateRefIdeal.Gen.shapeCasts_S2048_S1x2048)
theorem total_at (e f : FVec Ideal S8192x2048 .f32) (d : Fin 2048) : total e f (ix2 0 d) = half * ∑ k : Fin 8192, term e f d k := by
  pointwise [total]
  rfl

variable (m : (ℓ : Loc nD τ sig) → Buf (Elt Ideal) ℓ) (c : Dev nD)

theorem V_grad : V m c main_arg0 = m (c, main_arg0) := by
  show StableHlo.after hostOps0 (fun b => m (c, b)) main_arg0 = _
  after_results_simp <;> rfl
theorem V_values : V m c main_v0 = (truncf .bf16 (m (c, main_arg1)) bitsLt_bf16_f32 : FVec Ideal S8192x2048 .bf16) := by
  show StableHlo.after hostOps0 (fun b => m (c, b)) main_v0 = _
  after_results_simp <;> rfl
theorem V_gate : V m c main_arg2 = m (c, main_arg2) := by
  show StableHlo.after hostOps0 (fun b => m (c, b)) main_arg2 = _
  after_results_simp <;> rfl

theorem emb0 (t : Fin cfg0.N) (i : Fin 512) (d : Fin 2048) : ((cfg0.win 0).blk t).view.emb (ix2 i d) = ix2 (row t i) d := by
  blk_ext [idx0, row]
theorem emb1 (t : Fin cfg0.N) (i : Fin 512) (d : Fin 2048) : ((cfg0.win 1).blk t).view.emb (ix2 i d) = ix2 (row t i) d := by
  blk_ext [idx1, row]
theorem emb2 (t : Fin cfg0.N) (d : Fin 2048) : ((cfg0.win 2).blk t).view.emb (ix2 0 d) = ix2 0 d := by
  blk_ext [idx2]
theorem emb3 (t : Fin cfg0.N) (i : Fin 512) (d : Fin 2048) : ((cfg0.win 3).blk t).view.emb (ix2 i d) = ix2 (row t i) d := by
  blk_ext [idx3, row]
theorem emb4 (t : Fin cfg0.N) (d : Fin 2048) : ((cfg0.win 4).blk t).view.emb (ix2 0 d) = ix2 0 d := by
  blk_ext [idx4]

theorem blk0 (t : Fin cfg0.N) (i : Fin 512) (d : Fin 2048) : iblk m c 0 t (ix2 i d) = m (c, main_arg0) (ix2 (row t i) d) := by
  unfold iblk
  rw [View.read_apply, emb0]
  exact congrFun (V_grad m c) _
theorem blk1 (t : Fin cfg0.N) (i : Fin 512) (d : Fin 2048) : iblk m c 1 t (ix2 i d) = m (c, main_arg1) (ix2 (row t i) d) := by
  unfold iblk
  rw [View.read_apply, emb1]
  exact congrFun (V_values m c) _
theorem blk2 (t : Fin cfg0.N) (d : Fin 2048) : iblk m c 2 t (ix2 0 d) = m (c, main_arg2) (ix2 0 d) := by
  unfold iblk
  rw [View.read_apply, emb2]
  exact congrFun (V_gate m c) _

theorem zero_at (y : S1x2048.Idx) : k0_pay2 (F := Ideal) y = (0 : EReal) := by
  obtain ⟨i, d, rfl⟩ : ∃ i d, y = ix2 i d := ⟨_, _, eq_ix2 y⟩
  pointwise [k0_pay2]

theorem step_at (a : Vec Ideal S1x2048 .f32) (t : Fin cfg0.N) (y : S1x2048.Idx) :
    k0_pay3 (iblk m c 0 t) a (iblk m c 1 t) y = a y + part (m (c, main_arg0)) (m (c, main_arg1)) t y := by
  obtain ⟨i, d, rfl⟩ : ∃ i d, y = ix2 i d := ⟨_, _, eq_ix2 y⟩
  obtain rfl : i = 0 := Fin.ext (by omega)
  pointwise [k0_pay3]
  simp only [blk0, blk1]
  rfl

theorem scaled_at (t : Fin cfg0.N) (i : Fin 512) (d : Fin 2048) :
    k0_pay1 (iblk m c 0 t) (iblk m c 2 t) (ix2 i d) = scaled (m (c, main_arg0)) (m (c, main_arg2)) (ix2 (row t i) d) := by
  pointwise [k0_pay1, scaled]
  simp only [blk0, blk2]

/-- A point's block of the gradient of the values, -/
theorem rows_at (t : Fin cfg0.N) (i : Fin 512) (d : Fin 2048) :
    (outsAt0 m c t.val t.isLt).1 (ix2 i d) = scaled (m (c, main_arg0)) (m (c, main_arg2)) (ix2 (row t i) d) := by
  rw [← scaled_at]
  by_cases h : t.val % 16 = 0
  · rw [outsAt0_A m c t h]; frame_out
  · rw [outsAt0_B m c t h]; frame_out
/-- and the block of the gradient of the gate after the point that writes it back. -/
theorem total_of (t : Fin cfg0.N) (ht : t.val % 16 = 16 - 1) (d : Fin 2048) :
    (outsAt0 m c t.val t.isLt).2 (ix2 0 d) = total (m (c, main_arg0)) (m (c, main_arg1)) (ix2 0 d) := by
  rw [total_at, ← whole _ _ t ht, Pipeline.eq_sum_fin_of_reset_step_apply_of_flush (fun n h => (outsAt0 m c n h).2) 16 (fun _ => (0 : EReal))
    (part (m (c, main_arg0)) (m (c, main_arg1)))
    (fun t h y => by rw [outsAt0_A m c t h]; frame_out; rw [step_at, zero_at])
    (fun t h y => by rw [outsAt0_B m c t h]; frame_out; rw [step_at]) t ht (ix2 0 d), zero_add]

/-- The kernel's two arrays are the reference's. -/
theorem value_rows : (dats m 0 c).arrAt 3 cfg0.N = scaled (m (c, main_arg0)) (m (c, main_arg2)) := by
  refine Pipeline.Dat.arrAt_eq_of_covers _ 3 _ (by decide +kernel) fun t hf (y : S512x2048.Idx) => ?_
  obtain ⟨i, d, rfl⟩ : ∃ i d, y = ix2 i d := ⟨_, _, eq_ix2 y⟩
  rw [emb3]
  show (dats m 0 c).after 3 t (ix2 i d) = _
  rw [after0_3, rows_at]
theorem value_total : (dats m 0 c).arrAt 4 cfg0.N = total (m (c, main_arg0)) (m (c, main_arg1)) := by
  refine Pipeline.Dat.arrAt_eq_of_covers _ 4 _ (by decide +kernel) fun t hf (y : S1x2048.Idx) => ?_
  have ht := (flush0_4 t).1 hf
  obtain ⟨i, d, rfl⟩ : ∃ i d, y = ix2 i d := ⟨_, _, eq_ix2 y⟩
  obtain rfl : i = 0 := Fin.ext (by omega)
  rw [emb4]
  show (dats m 0 c).after 4 t (ix2 0 d) = _
  rw [after0_4, total_of m c t ht]

end Cert.GateIdeal.Row

end
-- ==== Proof.RowGateMix.lean ====
module

public import proofs.«01_k».proof.Proof.Gen.GateMixIdeal.Value
public import proofs.«01_k».proof.Proof.Gen.GateMixRefIdeal.Run
public import Idealize.ShloMosaic.Lib.Pipeline.ValueKit.Point
public import Idealize.ShloMosaic.Lib.Pointwise

@[expose] public section

set_option maxRecDepth 16384

/-! The gradients of a gated sum: the kernel's row blocks are those of the reference's one array, and the
sums of its row blocks add up to the reference's sum. -/

noncomputable section

namespace Cert.GateMixIdeal.Row

open Cert.GateMixIdeal Cert.GateMixIdeal.Gen
open Idealize.ShloMosaic Idealize.ShloMosaic.TcCoe Idealize.SL.Sem Idealize.ShloMosaic.Pointwise
open scoped BigOperators

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)

/-- The row of the arrays under row `i` of a point's block. -/
def row (t : Fin cfg0.N) (i : Fin 512) : Fin 8192 := ⟨t.val * 512 + i.val, by have := t.isLt.trans_eq N_0; omega⟩

/-- The product of one row of the gradient with the same row of the values at one column. -/
def term (e f : FVec Ideal S8192x2048 .f32) (d : Fin 2048) (k : Fin 8192) : EReal := e (ix2 k d) * f (ix2 k d)
/-- What a point adds to its block. -/
def part (e f : FVec Ideal S8192x2048 .f32) (t : Fin cfg0.N) (y : S1x2048.Idx) : EReal :=
  ∑ k : Fin 512, term e f (y 1) (row t k)

/-- The sixteen parts are the sum of all the rows. -/
theorem whole (e f : FVec Ideal S8192x2048 .f32) (t : Fin cfg0.N) (ht : t.val % 16 = 16 - 1) (d : Fin 2048) :
    ∑ s : Fin 16, part e f ⟨16 * (t.val / 16) + s.val, Pipeline.run_point_lt_of_flush t ht s⟩ (ix2 0 d) = ∑ k : Fin 8192, term e f d k := by
  refine Fin.sum_mul_add_congr fun s k _ => ?_
  refine congrArg _ (Fin.ext ?_)
  have := t.isLt.trans_eq N_0
  simp only [row]
  omega

/-- The reference's gradient of the values. -/
def scaled (e : FVec Ideal S8192x2048 .f32) (g : FVec Ideal S1x2048 .f32) : FVec Ideal S8192x2048 .bf16 :=
  truncf .bf16 (mulf (broadcastInDim S8192x2048 ![0, 1] Cert.GateMixRefIdeal.Gen.bcast_S1x2048_S8192x2048_0_1 g) e) bitsLt_bf16_f32
/-- The reference's gradient of the gate. -/
def total (e f : FVec Ideal S8192x2048 .f32) : FVec Ideal S1x2048 .f32 :=
  shapeCast S1x2048 (Host.reduceAdd (mulf e f) (constant Cert.GateMixRefIdeal.S_ .f32 0x00000000#32)
    Cert.GateMixRefIdeal.Gen.reducesTo_S8192x2048_S2048_d0 Cert.GateMixRefIdeal.Gen.h_S_) Cert.GateMixRefIdeal.Gen.shapeCasts_S2048_S1x2048
theorem total_at (e f : FVec Ideal S8192x2048 .f32) (d : Fin 2048) : total e f (ix2 0 d) = ∑ k : Fin 8192, term e f d k := by
  pointwise [total]
  rfl

variable (m : (ℓ : Loc nD τ sig) → Buf (Elt Ideal) ℓ) (c : Dev nD)

theorem V_grad : V m c main_arg0 = m (c, main_arg0) := by
  show StableHlo.after hostOps0 (fun b => m (c, b)) main_arg0 = _
  after_results_simp <;> rfl
theorem V_values : V m c main_v0 = (truncf .bf16 (m (c, main_arg1)) bitsLt_bf16_f32 : FVec Ideal S8192x2048 .bf16) := by
  show StableHlo.after hostOps0 (fun b => m (c, b)) main_v0 = _
  after_results_simp <;> rfl
theorem V_gate : V m c main_arg2 = m (c, main_arg2) := by
  show StableHlo.after hostOps0 (fun b => m (c, b)) main_arg2 = _
  after_results_simp <;> rfl

theorem emb0 (t : Fin cfg0.N) (i : Fin 512) (d : Fin 2048) : ((cfg0.win 0).blk t).view.emb (ix2 i d) = ix2 (row t i) d := by
  blk_ext [idx0, row]
theorem emb1 (t : Fin cfg0.N) (i : Fin 512) (d : Fin 2048) : ((cfg0.win 1).blk t).view.emb (ix2 i d) = ix2 (row t i) d := by
  blk_ext [idx1, row]
theorem emb2 (t : Fin cfg0.N) (d : Fin 2048) : ((cfg0.win 2).blk t).view.emb (ix2 0 d) = ix2 0 d := by
  blk_ext [idx2]
theorem emb3 (t : Fin cfg0.N) (i : Fin 512) (d : Fin 2048) : ((cfg0.win 3).blk t).view.emb (ix2 i d) = ix2 (row t i) d := by
  blk_ext [idx3, row]
theorem emb4 (t : Fin cfg0.N) (d : Fin 2048) : ((cfg0.win 4).blk t).view.emb (ix2 0 d) = ix2 0 d := by
  blk_ext [idx4]

theorem blk0 (t : Fin cfg0.N) (i : Fin 512) (d : Fin 2048) : iblk m c 0 t (ix2 i d) = m (c, main_arg0) (ix2 (row t i) d) := by
  unfold iblk
  rw [View.read_apply, emb0]
  exact congrFun (V_grad m c) _
theorem blk1 (t : Fin cfg0.N) (i : Fin 512) (d : Fin 2048) : iblk m c 1 t (ix2 i d) = m (c, main_arg1) (ix2 (row t i) d) := by
  unfold iblk
  rw [View.read_apply, emb1]
  exact congrFun (V_values m c) _
theorem blk2 (t : Fin cfg0.N) (d : Fin 2048) : iblk m c 2 t (ix2 0 d) = m (c, main_arg2) (ix2 0 d) := by
  unfold iblk
  rw [View.read_apply, emb2]
  exact congrFun (V_gate m c) _

theorem zero_at (y : S1x2048.Idx) : k0_pay2 (F := Ideal) y = (0 : EReal) := by
  obtain ⟨i, d, rfl⟩ : ∃ i d, y = ix2 i d := ⟨_, _, eq_ix2 y⟩
  pointwise [k0_pay2]

theorem step_at (a : Vec Ideal S1x2048 .f32) (t : Fin cfg0.N) (y : S1x2048.Idx) :
    k0_pay3 (iblk m c 0 t) a (iblk m c 1 t) y = a y + part (m (c, main_arg0)) (m (c, main_arg1)) t y := by
  obtain ⟨i, d, rfl⟩ : ∃ i d, y = ix2 i d := ⟨_, _, eq_ix2 y⟩
  obtain rfl : i = 0 := Fin.ext (by omega)
  pointwise [k0_pay3]
  simp only [blk0, blk1]
  rfl

theorem scaled_at (t : Fin cfg0.N) (i : Fin 512) (d : Fin 2048) :
    k0_pay1 (iblk m c 0 t) (iblk m c 2 t) (ix2 i d) = scaled (m (c, main_arg0)) (m (c, main_arg2)) (ix2 (row t i) d) := by
  pointwise [k0_pay1, scaled]
  simp only [blk0, blk2]

/-- A point's block of the gradient of the values, -/
theorem rows_at (t : Fin cfg0.N) (i : Fin 512) (d : Fin 2048) :
    (outsAt0 m c t.val t.isLt).1 (ix2 i d) = scaled (m (c, main_arg0)) (m (c, main_arg2)) (ix2 (row t i) d) := by
  rw [← scaled_at]
  by_cases h : t.val % 16 = 0
  · rw [outsAt0_A m c t h]; frame_out
  · rw [outsAt0_B m c t h]; frame_out
/-- and the block of the gradient of the gate after the point that writes it back. -/
theorem total_of (t : Fin cfg0.N) (ht : t.val % 16 = 16 - 1) (d : Fin 2048) :
    (outsAt0 m c t.val t.isLt).2 (ix2 0 d) = total (m (c, main_arg0)) (m (c, main_arg1)) (ix2 0 d) := by
  rw [total_at, ← whole _ _ t ht, Pipeline.eq_sum_fin_of_reset_step_apply_of_flush (fun n h => (outsAt0 m c n h).2) 16 (fun _ => (0 : EReal))
    (part (m (c, main_arg0)) (m (c, main_arg1)))
    (fun t h y => by rw [outsAt0_A m c t h]; frame_out; rw [step_at, zero_at])
    (fun t h y => by rw [outsAt0_B m c t h]; frame_out; rw [step_at]) t ht (ix2 0 d), zero_add]

/-- The kernel's two arrays are the reference's. -/
theorem value_rows : (dats m 0 c).arrAt 3 cfg0.N = scaled (m (c, main_arg0)) (m (c, main_arg2)) := by
  refine Pipeline.Dat.arrAt_eq_of_covers _ 3 _ (by decide +kernel) fun t hf (y : S512x2048.Idx) => ?_
  obtain ⟨i, d, rfl⟩ : ∃ i d, y = ix2 i d := ⟨_, _, eq_ix2 y⟩
  rw [emb3]
  show (dats m 0 c).after 3 t (ix2 i d) = _
  rw [after0_3, rows_at]
theorem value_total : (dats m 0 c).arrAt 4 cfg0.N = total (m (c, main_arg0)) (m (c, main_arg1)) := by
  refine Pipeline.Dat.arrAt_eq_of_covers _ 4 _ (by decide +kernel) fun t hf (y : S1x2048.Idx) => ?_
  have ht := (flush0_4 t).1 hf
  obtain ⟨i, d, rfl⟩ : ∃ i d, y = ix2 i d := ⟨_, _, eq_ix2 y⟩
  obtain rfl : i = 0 := Fin.ext (by omega)
  rw [emb4]
  show (dats m 0 c).after 4 t (ix2 0 d) = _
  rw [after0_4, total_of m c t ht]

end Cert.GateMixIdeal.Row

end
-- ==== Proof.RowDelta.lean ====
module

public import proofs.«01_k».proof.Proof.Gen.DeltaIdeal.Value
public import proofs.«01_k».proof.Proof.Gen.DeltaRefIdeal.Run
public import Idealize.ShloMosaic.Lib.Pipeline.ValueKit.Point
public import Idealize.ShloMosaic.Lib.Pointwise

@[expose] public section

set_option maxRecDepth 16384

/-! The correction of the softmax's gradient: the kernel's blocks, one head and one row tile each, are those of the reference's sums. -/

noncomputable section

namespace Cert.DeltaIdeal.Row

open Cert.DeltaIdeal Cert.DeltaIdeal.Gen
open Idealize.ShloMosaic Idealize.ShloMosaic.TcCoe Idealize.SL.Sem Idealize.ShloMosaic.Pointwise
open scoped BigOperators

theorem idx0 : ∀ t : Fin cfg0.N, win0_0.index t = ![t.val % 8, t.val / 8] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![t.val / 8, 0, t.val % 8] := (by decide +kernel : ∀ t : Fin grid0.N, _)

/-- A point's head, -/
def head (t : Fin cfg0.N) : Fin 8 := ⟨t.val / 8, by have := t.isLt.trans_eq N_0; omega⟩
/-- the row of the arrays under row `i` of its block -/
def row (t : Fin cfg0.N) (i : Fin 1024) : Fin 8192 := ⟨t.val % 8 * 1024 + i.val, by omega⟩
/-- and the column of a head under column `e`. -/
def col (h : Fin 8) (e : Fin 128) : Fin 1024 := ⟨h.val * 128 + e.val, by omega⟩

/-- The reference's sums. -/
def sums (o g : FVec Ideal S8192x1024 .f32) : FVec Ideal S8x1x8192 .f32 :=
  broadcastInDim S8x1x8192 ![0, 2] Cert.DeltaRefIdeal.Gen.bcast_S8x8192_S8x1x8192_0_2 (transpose Cert.DeltaRefIdeal.S8x8192 [1, 0]
    (Host.reduceAdd (shapeCast Cert.DeltaRefIdeal.S8192x8x128 (mulf o g) Cert.DeltaRefIdeal.Gen.shapeCasts_S8192x1024_S8192x8x128)
      (constant Cert.DeltaRefIdeal.S_ .f32 0x00000000#32) Cert.DeltaRefIdeal.Gen.reducesTo_S8192x8x128_S8192x8_d2 Cert.DeltaRefIdeal.Gen.h_S_)
    Cert.DeltaRefIdeal.Gen.transposes_S8192x8_S8x8192_1_0)
theorem sums_at (o g : FVec Ideal S8192x1024 .f32) (h : Fin 8) (i : Fin 8192) :
    sums o g (ix3 h 0 i) = ∑ e : Fin 128, o (ix2 i (col h e)) * g (ix2 i (col h e)) := by
  pointwise [sums]
  rfl

variable (m : (ℓ : Loc nD τ sig) → Buf (Elt Ideal) ℓ) (c : Dev nD)

theorem V_outputs : V m c main_v0 = (truncf .bf16 (m (c, main_arg0)) bitsLt_bf16_f32 : FVec Ideal S8192x1024 .bf16) := by
  show StableHlo.after hostOps0 (fun b => m (c, b)) main_v0 = _
  after_results_simp <;> rfl
theorem V_grad : V m c main_v1 = (truncf .bf16 (m (c, main_arg1)) bitsLt_bf16_f32 : FVec Ideal S8192x1024 .bf16) := by
  show StableHlo.after hostOps0 (fun b => m (c, b)) main_v1 = _
  after_results_simp <;> rfl

theorem emb0 (t : Fin cfg0.N) (i : Fin 1024) (e : Fin 128) : ((cfg0.win 0).blk t).view.emb (ix2 i e) = ix2 (row t i) (col (head t) e) := by
  blk_ext [idx0, row, col, head]
theorem emb1 (t : Fin cfg0.N) (i : Fin 1024) (e : Fin 128) : ((cfg0.win 1).blk t).view.emb (ix2 i e) = ix2 (row t i) (col (head t) e) := by
  blk_ext [idx1, row, col, head]
theorem emb2 (t : Fin cfg0.N) (i : Fin 1024) : ((cfg0.win 2).blk t).view.emb (ix3 0 0 i) = ix3 (head t) 0 (row t i) := by
  blk_ext [idx2, row, head]

theorem blk0 (t : Fin cfg0.N) (i : Fin 1024) (e : Fin 128) : iblk m c 0 t (ix2 i e) = m (c, main_arg0) (ix2 (row t i) (col (head t) e)) := by
  unfold iblk
  rw [View.read_apply, emb0]
  exact congrFun (V_outputs m c) _
theorem blk1 (t : Fin cfg0.N) (i : Fin 1024) (e : Fin 128) : iblk m c 1 t (ix2 i e) = m (c, main_arg1) (ix2 (row t i) (col (head t) e)) := by
  unfold iblk
  rw [View.read_apply, emb1]
  exact congrFun (V_grad m c) _

/-- A point's block of the kernel is the reference's. -/
theorem pay_at (t : Fin cfg0.N) (i : Fin 1024) :
    k0_pay1 (iblk m c 0 t) (iblk m c 1 t) (ix3 0 0 i) = sums (m (c, main_arg0)) (m (c, main_arg1)) (ix3 (head t) 0 (row t i)) := by
  rw [sums_at]
  pointwise [k0_pay1]
  simp only [blk0, blk1]
theorem out_at (t : Fin cfg0.N) (i : Fin 1024) :
    out0_2 (iblk m c 0 t) (iblk m c 1 t) (ix3 0 0 i) = sums (m (c, main_arg0)) (m (c, main_arg1)) (ix3 (head t) 0 (row t i)) := by
  rw [← pay_at]
  simp only [out0_2]
  frame_out

/-- The kernel's array is the reference's. -/
theorem value : (dats m 0 c).arrAt 2 cfg0.N = sums (m (c, main_arg0)) (m (c, main_arg1)) := by
  refine Pipeline.Dat.arrAt_eq_of_covers _ 2 _ (by decide +kernel) fun t hf (y : S1x1x1024.Idx) => ?_
  obtain ⟨a, b, i, rfl⟩ : ∃ a b i, y = ix3 a b i := ⟨_, _, _, eq_ix3 y⟩
  obtain rfl : a = 0 := Fin.ext (by omega)
  obtain rfl : b = 0 := Fin.ext (by omega)
  rw [emb2]
  show (dats m 0 c).after 2 t (ix3 0 0 i) = _
  rw [after0_2, out_at]

end Cert.DeltaIdeal.Row

end
-- ==== Proof.RowClaims.lean ====
module

public import proofs.«01_k».proof.Defs
public import proofs.«01_k».proof.Proof.RowNorm
public import proofs.«01_k».proof.Proof.RowGate
public import proofs.«01_k».proof.Proof.RowGateMix
public import proofs.«01_k».proof.Proof.RowDelta
public import Idealize.ShloMosaic.Adequacy
public import Idealize.ShloMosaic.Init

@[expose] public section

/-! The equations of the calls that go over the rows with no product: the norm with the modulation, the gradients of the
gated sums and the attention's correction; and the ends of their references. -/

noncomputable section

namespace Cert.RowClaims

open Cert Idealize.ShloMosaic Idealize.ShloMosaic.TcCoe Idealize.SL.Sem

theorem ends_norm : quiescent_NormRefIdeal := fun m ρ _ =>
  (θ_run NormRefIdeal.defs _ _).mono (fun r h => ⟨fun c => (h c).2, sem_eq_zero_of_no_sems (by decide) r.2⟩) (NormRefIdeal.Value.run m ρ)
theorem ends_gate : quiescent_GateRefIdeal := fun m ρ _ =>
  (θ_run GateRefIdeal.defs _ _).mono (fun r h => ⟨fun c => (h c).2.2, sem_eq_zero_of_no_sems (by decide) r.2⟩) (GateRefIdeal.Value.run m ρ)
theorem ends_gate_mix : quiescent_GateMixRefIdeal := fun m ρ _ =>
  (θ_run GateMixRefIdeal.defs _ _).mono (fun r h => ⟨fun c => (h c).2.2, sem_eq_zero_of_no_sems (by decide) r.2⟩) (GateMixRefIdeal.Value.run m ρ)
theorem ends_delta : quiescent_DeltaRefIdeal := fun m ρ _ =>
  (θ_run DeltaRefIdeal.defs _ _).mono (fun r h => ⟨fun c => (h c).2, sem_eq_zero_of_no_sems (by decide) r.2⟩) (DeltaRefIdeal.Value.run m ρ)

/-- The norm with the modulation. -/
theorem values_norm : algebraic_NormIdeal_NormRefIdeal := fun m ρ m' ρ' _ ha =>
  ⟨_, (θ_run NormIdeal.defs _ _).mono (fun _ h c => ⟨(h c).1.trans (NormIdeal.Row.value m c), (h c).2⟩) (NormIdeal.Value.run_blocks m ρ),
    (θ_run NormRefIdeal.defs _ _).mono (fun _ h c => by
      obtain ⟨h0, hr⟩ := h c
      obtain ⟨a0, a1, a2, a3⟩ := ha c
      rw [a0, a1, a2, a3] at h0
      exact ⟨h0, hr⟩) (NormRefIdeal.Value.run m' ρ')⟩

/-- The gradients of the half gated sum. -/
theorem values_gate : algebraic_GateIdeal_GateRefIdeal := fun m ρ m' ρ' _ ha =>
  ⟨_, _, (θ_run GateIdeal.defs _ _).mono (fun _ h c => ⟨(h c).1.trans (GateIdeal.Row.value_rows m c), (h c).2.1.trans (GateIdeal.Row.value_total m c), (h c).2.2⟩)
      (GateIdeal.Value.run_blocks m ρ),
    (θ_run GateRefIdeal.defs _ _).mono (fun _ h c => by
      obtain ⟨h0, h1, hr⟩ := h c
      obtain ⟨a0, a1, a2⟩ := ha c
      rw [a0, a2] at h0
      rw [a0, a1] at h1
      exact ⟨h0, h1, hr⟩) (GateRefIdeal.Value.run m' ρ')⟩

/-- The gradients of the gated sum. -/
theorem values_gate_mix : algebraic_GateMixIdeal_GateMixRefIdeal := fun m ρ m' ρ' _ ha =>
  ⟨_, _, (θ_run GateMixIdeal.defs _ _).mono (fun _ h c => ⟨(h c).1.trans (GateMixIdeal.Row.value_rows m c), (h c).2.1.trans (GateMixIdeal.Row.value_total m c), (h c).2.2⟩)
      (GateMixIdeal.Value.run_blocks m ρ),
    (θ_run GateMixRefIdeal.defs _ _).mono (fun _ h c => by
      obtain ⟨h0, h1, hr⟩ := h c
      obtain ⟨a0, a1, a2⟩ := ha c
      rw [a0, a2] at h0
      rw [a0, a1] at h1
      exact ⟨h0, h1, hr⟩) (GateMixRefIdeal.Value.run m' ρ')⟩

/-- The correction of the softmax's gradient. -/
theorem values_delta : algebraic_DeltaIdeal_DeltaRefIdeal := fun m ρ m' ρ' _ ha =>
  ⟨_, (θ_run DeltaIdeal.defs _ _).mono (fun _ h c => ⟨(h c).1.trans (DeltaIdeal.Row.value m c), (h c).2⟩) (DeltaIdeal.Value.run_blocks m ρ),
    (θ_run DeltaRefIdeal.defs _ _).mono (fun _ h c => by
      obtain ⟨h0, hr⟩ := h c
      obtain ⟨a0, a1⟩ := ha c
      rw [a0, a1] at h0
      exact ⟨h0, hr⟩) (DeltaRefIdeal.Value.run m' ρ')⟩

end Cert.RowClaims

end
-- ==== Proof.StepNormBwd.lean ====
module

public import proofs.«01_k».proof.Proof.Gen.NormBwdIdeal.Value
public import proofs.«01_k».proof.Proof.Gen.NormBwdRefIdeal.Run
public import Idealize.ShloMosaic.Lib.Pipeline.ValueKit.Point
public import Idealize.ShloMosaic.Lib.Pointwise

@[expose] public section

set_option maxRecDepth 16384

/-! The gradients of the norm with the modulation: the kernel's row blocks of the rows' gradient are those of the
reference's one array, and the sums of its row blocks add up to the reference's three sums. -/

noncomputable section

namespace Cert.NormBwdIdeal.Step

open Cert.NormBwdIdeal Cert.NormBwdIdeal.Gen
open Idealize.ShloMosaic Idealize.ShloMosaic.TcCoe Idealize.SL.Sem Idealize.ShloMosaic.Pointwise
open scoped BigOperators

theorem idx0 : ∀ t : Fin cfg0.N, win0_0.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

/-- The row of the arrays under row `i` of a point's block. -/
def row (t : Fin cfg0.N) (i : Fin 256) : Fin 8192 := ⟨t.val * 256 + i.val, by have := t.isLt.trans_eq N_0; omega⟩

/-- The sum down one column of a point's rows. -/
def part (f : FVec Ideal S8192x2048 .f32) (t : Fin cfg0.N) (y : S1x2048.Idx) : EReal := ∑ k : Fin 256, f (ix2 (row t k) (y 1))
theorem part_at (f : FVec Ideal S8192x2048 .f32) (t : Fin cfg0.N) (d : Fin 2048) :
    part f t (ix2 0 d) = ∑ k : Fin 256, f (ix2 (row t k) d) := rfl

/-- The thirty-two parts are the sum of all the rows. -/
theorem whole (f : FVec Ideal S8192x2048 .f32) (t : Fin cfg0.N) (ht : t.val % 32 = 32 - 1) (d : Fin 2048) :
    ∑ s : Fin 32, part f ⟨32 * (t.val / 32) + s.val, Pipeline.run_point_lt_of_flush t ht s⟩ (ix2 0 d) = ∑ k : Fin 8192, f (ix2 k d) := by
  refine Fin.sum_mul_add_congr fun s k _ => ?_
  refine congrArg _ (congrArg (fun r => ix2 r d) (Fin.ext ?_))
  have := t.isLt.trans_eq N_0
  simp only [row]
  omega

/-- The reference's sum down the columns. -/
def total (f : FVec Ideal S8192x2048 .f32) : FVec Ideal S1x2048 .f32 :=
  shapeCast S1x2048 (Host.reduceAdd f (constant Cert.NormBwdRefIdeal.S_ .f32 0x00000000#32) Cert.NormBwdRefIdeal.Gen.reducesTo_S8192x2048_S2048_d0 Cert.NormBwdRefIdeal.Gen.h_S_) Cert.NormBwdRefIdeal.Gen.shapeCasts_S2048_S1x2048
theorem total_at (f : FVec Ideal S8192x2048 .f32) (d : Fin 2048) : total f (ix2 0 d) = ∑ k : Fin 8192, f (ix2 k d) := by
  pointwise [total]

/-- The rows' mean squares with the constant added, and their inverse roots, one for each row, -/
def meanSq (x : FVec Ideal S8192x2048 .f32) : FVec Ideal Cert.NormBwdRefIdeal.S8192x1 .f32 :=
  addf (Host.divf (broadcastInDim Cert.NormBwdRefIdeal.S8192x1 ![0] Cert.NormBwdRefIdeal.Gen.bcast_S8192_S8192x1_0
      (Host.reduceAdd (mulf x x) (constant Cert.NormBwdRefIdeal.S_ .f32 0x00000000#32) Cert.NormBwdRefIdeal.Gen.reducesTo_S8192x2048_S8192_d1 Cert.NormBwdRefIdeal.Gen.h_S_))
      (broadcastInDim Cert.NormBwdRefIdeal.S8192x1 ![] Cert.NormBwdRefIdeal.Gen.bcast_S_S8192x1 (constant Cert.NormBwdRefIdeal.S_ .f32 0x45000000#32)))
    (broadcastInDim Cert.NormBwdRefIdeal.S8192x1 ![] Cert.NormBwdRefIdeal.Gen.bcast_S_S8192x1 (constant Cert.NormBwdRefIdeal.S_ .f32 0x358637BD#32))
def inv (x : FVec Ideal S8192x2048 .f32) : FVec Ideal Cert.NormBwdRefIdeal.S8192x1 .f32 := Host.rsqrt (meanSq x)
/-- the rows over their root mean squares, -/
def unit (x : FVec Ideal S8192x2048 .f32) : FVec Ideal S8192x2048 .f32 :=
  mulf x (broadcastInDim S8192x2048 ![0, 1] Cert.NormBwdRefIdeal.Gen.bcast_S8192x1_S8192x2048_0_1 (inv x))
/-- the given gradient with the scale, and with the weight. -/
def scaled (e : FVec Ideal S8192x2048 .f32) (sc : FVec Ideal S1x2048 .f32) : FVec Ideal S8192x2048 .f32 :=
  mulf (shapeCast S8192x2048 e Cert.NormBwdRefIdeal.Gen.shapeCasts_S8192x2048_S8192x2048) (broadcastInDim S8192x2048 ![0, 1] Cert.NormBwdRefIdeal.Gen.bcast_S1x2048_S8192x2048_0_1
    (addf (broadcastInDim S1x2048 ![] Cert.NormBwdRefIdeal.Gen.bcast_S_S1x2048 (constant Cert.NormBwdRefIdeal.S_ .f32 0x3F800000#32)) sc))
def weighed (e : FVec Ideal S8192x2048 .f32) (g sc : FVec Ideal S1x2048 .f32) : FVec Ideal S8192x2048 .f32 :=
  mulf (scaled e sc) (broadcastInDim S8192x2048 ![0, 1] Cert.NormBwdRefIdeal.Gen.bcast_S1x2048_S8192x2048_0_1 g)
/-- The gradient of the rows' mean squares, one for each element. -/
def slope (x e : FVec Ideal S8192x2048 .f32) (g sc : FVec Ideal S1x2048 .f32) : FVec Ideal S8192x2048 .f32 :=
  broadcastInDim S8192x2048 ![0] Cert.NormBwdRefIdeal.Gen.bcast_S8192_S8192x2048_0 (Host.reduceAdd
    (Host.divf (mulf (shapeCast Cert.NormBwdRefIdeal.S8192x1 (Host.reduceAdd (mulf x (weighed e g sc)) (constant Cert.NormBwdRefIdeal.S_ .f32 0x00000000#32) Cert.NormBwdRefIdeal.Gen.reducesTo_S8192x2048_S8192_d1 Cert.NormBwdRefIdeal.Gen.h_S_) Cert.NormBwdRefIdeal.Gen.shapeCasts_S8192_S8192x1)
      (mulf (broadcastInDim Cert.NormBwdRefIdeal.S8192x1 ![] Cert.NormBwdRefIdeal.Gen.bcast_S_S8192x1 (constant Cert.NormBwdRefIdeal.S_ .f32 0xBF000000#32)) (Host.divf (inv x) (meanSq x))))
      (broadcastInDim Cert.NormBwdRefIdeal.S8192x1 ![] Cert.NormBwdRefIdeal.Gen.bcast_S_S8192x1 (constant Cert.NormBwdRefIdeal.S_ .f32 0x45000000#32)))
    (constant Cert.NormBwdRefIdeal.S_ .f32 0x00000000#32) Cert.NormBwdRefIdeal.Gen.reducesTo_S8192x1_S8192_d1 Cert.NormBwdRefIdeal.Gen.h_S_)
/-- The reference's gradient of the rows, -/
def gradRows (x e r : FVec Ideal S8192x2048 .f32) (g sc : FVec Ideal S1x2048 .f32) : FVec Ideal S8192x2048 .f32 :=
  addf (addf (addf r (mulf (weighed e g sc) (broadcastInDim S8192x2048 ![0, 1] Cert.NormBwdRefIdeal.Gen.bcast_S8192x1_S8192x2048_0_1 (inv x)))) (mulf x (slope x e g sc)))
    (mulf (slope x e g sc) x)
/-- and the arrays its gradients of the weight and of the scale sum. -/
def termWeight (x e : FVec Ideal S8192x2048 .f32) (sc : FVec Ideal S1x2048 .f32) : FVec Ideal S8192x2048 .f32 := mulf (unit x) (scaled e sc)
def termScale (x e : FVec Ideal S8192x2048 .f32) (g : FVec Ideal S1x2048 .f32) : FVec Ideal S8192x2048 .f32 :=
  mulf (mulf (unit x) (broadcastInDim S8192x2048 ![0, 1] Cert.NormBwdRefIdeal.Gen.bcast_S1x2048_S8192x2048_0_1 g)) (shapeCast S8192x2048 e Cert.NormBwdRefIdeal.Gen.shapeCasts_S8192x2048_S8192x2048)

variable (m : (ℓ : Loc nD τ sig) → Buf (Elt Ideal) ℓ) (c : Dev nD)

theorem V_rows : V m c main_arg0 = m (c, main_arg0) := rfl
theorem V_weight : V m c main_arg1 = m (c, main_arg1) := rfl
theorem V_scale : V m c main_arg2 = m (c, main_arg2) := rfl
theorem V_grad : V m c main_arg4 = m (c, main_arg4) := rfl
theorem V_rest : V m c main_arg5 = m (c, main_arg5) := rfl

theorem emb0 (t : Fin cfg0.N) (i : Fin 256) (d : Fin 2048) : ((cfg0.win 0).blk t).view.emb (ix2 i d) = ix2 (row t i) d := by
  blk_ext [idx0, row]
theorem blk0 (t : Fin cfg0.N) (i : Fin 256) (d : Fin 2048) : iblk m c 0 t (ix2 i d) = m (c, main_arg0) (ix2 (row t i) d) := by
  unfold iblk
  rw [View.read_apply, emb0]
  exact congrFun (V_rows m c) _
theorem emb4 (t : Fin cfg0.N) (i : Fin 256) (d : Fin 2048) : ((cfg0.win 4).blk t).view.emb (ix2 i d) = ix2 (row t i) d := by
  blk_ext [idx4, row]
theorem blk4 (t : Fin cfg0.N) (i : Fin 256) (d : Fin 2048) : iblk m c 4 t (ix2 i d) = m (c, main_arg4) (ix2 (row t i) d) := by
  unfold iblk
  rw [View.read_apply, emb4]
  exact congrFun (V_grad m c) _
theorem emb5 (t : Fin cfg0.N) (i : Fin 256) (d : Fin 2048) : ((cfg0.win 5).blk t).view.emb (ix2 i d) = ix2 (row t i) d := by
  blk_ext [idx5, row]
theorem blk5 (t : Fin cfg0.N) (i : Fin 256) (d : Fin 2048) : iblk m c 5 t (ix2 i d) = m (c, main_arg5) (ix2 (row t i) d) := by
  unfold iblk
  rw [View.read_apply, emb5]
  exact congrFun (V_rest m c) _
theorem emb6 (t : Fin cfg0.N) (i : Fin 256) (d : Fin 2048) : ((cfg0.win 6).blk t).view.emb (ix2 i d) = ix2 (row t i) d := by
  blk_ext [idx6, row]
theorem emb1 (t : Fin cfg0.N) (d : Fin 2048) : ((cfg0.win 1).blk t).view.emb (ix2 0 d) = ix2 0 d := by
  blk_ext [idx1]
theorem blk1 (t : Fin cfg0.N) (d : Fin 2048) : iblk m c 1 t (ix2 0 d) = m (c, main_arg1) (ix2 0 d) := by
  unfold iblk
  rw [View.read_apply, emb1]
  exact congrFun (V_weight m c) _
theorem emb2 (t : Fin cfg0.N) (d : Fin 2048) : ((cfg0.win 2).blk t).view.emb (ix2 0 d) = ix2 0 d := by
  blk_ext [idx2]
theorem blk2 (t : Fin cfg0.N) (d : Fin 2048) : iblk m c 2 t (ix2 0 d) = m (c, main_arg2) (ix2 0 d) := by
  unfold iblk
  rw [View.read_apply, emb2]
  exact congrFun (V_scale m c) _
theorem emb7 (t : Fin cfg0.N) (d : Fin 2048) : ((cfg0.win 7).blk t).view.emb (ix2 0 d) = ix2 0 d := by
  blk_ext [idx7]
theorem emb8 (t : Fin cfg0.N) (d : Fin 2048) : ((cfg0.win 8).blk t).view.emb (ix2 0 d) = ix2 0 d := by
  blk_ext [idx8]
theorem emb9 (t : Fin cfg0.N) (d : Fin 2048) : ((cfg0.win 9).blk t).view.emb (ix2 0 d) = ix2 0 d := by
  blk_ext [idx9]

theorem zero7 (y : S1x2048.Idx) : k0_pay2 (F := Ideal) y = (0 : EReal) := by
  obtain ⟨i, d, rfl⟩ : ∃ i d, y = ix2 i d := ⟨_, _, eq_ix2 y⟩
  pointwise [k0_pay2]
theorem zero8 (y : S1x2048.Idx) : k0_pay3 (F := Ideal) y = (0 : EReal) := zero7 y
theorem zero9 (y : S1x2048.Idx) : k0_pay4 (F := Ideal) y = (0 : EReal) := zero7 y

theorem step7 (a : Vec Ideal S1x2048 .f32) (t : Fin cfg0.N) (y : S1x2048.Idx) :
    k0_pay5 (k0_pay15 (iblk m c 0 t) (iblk m c 2 t) (iblk m c 4 t)) a y
      = a y + part (termWeight (m (c, main_arg0)) (m (c, main_arg4)) (m (c, main_arg2))) t y := by
  obtain ⟨i, d, rfl⟩ : ∃ i d, y = ix2 i d := ⟨_, _, eq_ix2 y⟩
  obtain rfl : i = 0 := Fin.ext (by omega)
  rw [part_at]
  pointwise [k0_pay5, k0_pay15, k0_pay14, k0_pay11, k0_pay10, k0_pay9, k0_pay8, termWeight, unit, scaled, inv, meanSq]
  simp only [blk0, blk2, blk4]
theorem step8 (a : Vec Ideal S1x2048 .f32) (t : Fin cfg0.N) (y : S1x2048.Idx) :
    k0_pay6 (k0_pay13 (iblk m c 0 t) (iblk m c 1 t) (iblk m c 4 t)) a y
      = a y + part (termScale (m (c, main_arg0)) (m (c, main_arg4)) (m (c, main_arg1))) t y := by
  obtain ⟨i, d, rfl⟩ : ∃ i d, y = ix2 i d := ⟨_, _, eq_ix2 y⟩
  obtain rfl : i = 0 := Fin.ext (by omega)
  rw [part_at]
  pointwise [k0_pay6, k0_pay13, k0_pay11, k0_pay10, k0_pay9, k0_pay8, termScale, unit, inv, meanSq]
  simp only [blk0, blk1, blk4]
theorem step9 (a : Vec Ideal S1x2048 .f32) (t : Fin cfg0.N) (y : S1x2048.Idx) :
    k0_pay7 (k0_pay12 (iblk m c 4 t)) a y = a y + part (m (c, main_arg4)) t y := by
  obtain ⟨i, d, rfl⟩ : ∃ i d, y = ix2 i d := ⟨_, _, eq_ix2 y⟩
  obtain rfl : i = 0 := Fin.ext (by omega)
  rw [part_at]
  pointwise [k0_pay7, k0_pay12]
  simp only [blk4]

/-- The order of the four summands is of no account. -/
theorem four (a b e f : EReal) : a + b + e + f = f + a + b + e := by
  rw [add_comm f a, add_right_comm a f b, add_right_comm _ f e]

theorem pay_at (t : Fin cfg0.N) (i : Fin 256) (d : Fin 2048) :
    k0_pay1 (iblk m c 0 t) (k0_pay17 (iblk m c 0 t) (iblk m c 1 t) (iblk m c 2 t) (iblk m c 4 t))
        (k0_pay18 (iblk m c 0 t) (iblk m c 1 t) (iblk m c 2 t) (iblk m c 4 t)) (k0_pay19 (F := Ideal)) (iblk m c 5 t) (ix2 i d)
      = gradRows (m (c, main_arg0)) (m (c, main_arg4)) (m (c, main_arg5)) (m (c, main_arg1)) (m (c, main_arg2)) (ix2 (row t i) d) := by
  pointwise [k0_pay1, k0_pay17, k0_pay18, k0_pay19, k0_pay16, k0_pay14, k0_pay11, k0_pay9, k0_pay8, gradRows, slope, weighed, scaled, inv, meanSq]
  simp only [blk0, blk1, blk2, blk4, blk5]
  exact four _ _ _ _

/-- A point's block of the gradient of the rows, -/
theorem rows_at (t : Fin cfg0.N) (i : Fin 256) (d : Fin 2048) :
    (outsAt0 m c t.val t.isLt).1 (ix2 i d)
      = gradRows (m (c, main_arg0)) (m (c, main_arg4)) (m (c, main_arg5)) (m (c, main_arg1)) (m (c, main_arg2)) (ix2 (row t i) d) := by
  rw [← pay_at]
  by_cases h : t.val % 32 = 0
  · rw [outsAt0_A m c t h]; frame_out
  · rw [outsAt0_B m c t h]; frame_out
/-- The block of the gradient of the weight after the point that writes it back. -/
theorem total7 (t : Fin cfg0.N) (ht : t.val % 32 = 32 - 1) (d : Fin 2048) :
    (outsAt0 m c t.val t.isLt).2.1 (ix2 0 d) = total (termWeight (m (c, main_arg0)) (m (c, main_arg4)) (m (c, main_arg2))) (ix2 0 d) := by
  rw [total_at, ← whole _ t ht, Pipeline.eq_sum_fin_of_reset_step_apply_of_flush (fun n h => (outsAt0 m c n h).2.1) 32 (fun _ => (0 : EReal))
    (part (termWeight (m (c, main_arg0)) (m (c, main_arg4)) (m (c, main_arg2))))
    (fun t h y => by rw [outsAt0_A m c t h]; frame_out; rw [step7, zero7])
    (fun t h y => by rw [outsAt0_B m c t h]; frame_out; rw [step7]) t ht (ix2 0 d), zero_add]
/-- The block of the gradient of the scale after the point that writes it back. -/
theorem total8 (t : Fin cfg0.N) (ht : t.val % 32 = 32 - 1) (d : Fin 2048) :
    (outsAt0 m c t.val t.isLt).2.2.1 (ix2 0 d) = total (termScale (m (c, main_arg0)) (m (c, main_arg4)) (m (c, main_arg1))) (ix2 0 d) := by
  rw [total_at, ← whole _ t ht, Pipeline.eq_sum_fin_of_reset_step_apply_of_flush (fun n h => (outsAt0 m c n h).2.2.1) 32 (fun _ => (0 : EReal))
    (part (termScale (m (c, main_arg0)) (m (c, main_arg4)) (m (c, main_arg1))))
    (fun t h y => by rw [outsAt0_A m c t h]; frame_out; rw [step8, zero8])
    (fun t h y => by rw [outsAt0_B m c t h]; frame_out; rw [step8]) t ht (ix2 0 d), zero_add]
/-- The block of the gradient of the shift after the point that writes it back. -/
theorem total9 (t : Fin cfg0.N) (ht : t.val % 32 = 32 - 1) (d : Fin 2048) :
    (outsAt0 m c t.val t.isLt).2.2.2 (ix2 0 d) = total (m (c, main_arg4)) (ix2 0 d) := by
  rw [total_at, ← whole _ t ht, Pipeline.eq_sum_fin_of_reset_step_apply_of_flush (fun n h => (outsAt0 m c n h).2.2.2) 32 (fun _ => (0 : EReal))
    (part (m (c, main_arg4)))
    (fun t h y => by rw [outsAt0_A m c t h]; frame_out; rw [step9, zero9])
    (fun t h y => by rw [outsAt0_B m c t h]; frame_out; rw [step9]) t ht (ix2 0 d), zero_add]

/-- The kernel's four arrays are the reference's. -/
theorem value6 : (dats m 0 c).arrAt 6 cfg0.N
    = gradRows (m (c, main_arg0)) (m (c, main_arg4)) (m (c, main_arg5)) (m (c, main_arg1)) (m (c, main_arg2)) := by
  refine Pipeline.Dat.arrAt_eq_of_covers _ 6 _ (by decide +kernel) fun t hf (y : S256x2048.Idx) => ?_
  obtain ⟨i, d, rfl⟩ : ∃ i d, y = ix2 i d := ⟨_, _, eq_ix2 y⟩
  rw [emb6]
  show (dats m 0 c).after 6 t (ix2 i d) = _
  rw [after0_6, rows_at]
theorem value7 : (dats m 0 c).arrAt 7 cfg0.N = total (termWeight (m (c, main_arg0)) (m (c, main_arg4)) (m (c, main_arg2))) := by
  refine Pipeline.Dat.arrAt_eq_of_covers _ 7 _ (by decide +kernel) fun t hf (y : S1x2048.Idx) => ?_
  have ht := (flush0_7 t).1 hf
  obtain ⟨i, d, rfl⟩ : ∃ i d, y = ix2 i d := ⟨_, _, eq_ix2 y⟩
  obtain rfl : i = 0 := Fin.ext (by omega)
  rw [emb7]
  show (dats m 0 c).after 7 t (ix2 0 d) = _
  rw [after0_7, total7 m c t ht]
theorem value8 : (dats m 0 c).arrAt 8 cfg0.N = total (termScale (m (c, main_arg0)) (m (c, main_arg4)) (m (c, main_arg1))) := by
  refine Pipeline.Dat.arrAt_eq_of_covers _ 8 _ (by decide +kernel) fun t hf (y : S1x2048.Idx) => ?_
  have ht := (flush0_8 t).1 hf
  obtain ⟨i, d, rfl⟩ : ∃ i d, y = ix2 i d := ⟨_, _, eq_ix2 y⟩
  obtain rfl : i = 0 := Fin.ext (by omega)
  rw [emb8]
  show (dats m 0 c).after 8 t (ix2 0 d) = _
  rw [after0_8, total8 m c t ht]
theorem value9 : (dats m 0 c).arrAt 9 cfg0.N = total (m (c, main_arg4)) := by
  refine Pipeline.Dat.arrAt_eq_of_covers _ 9 _ (by decide +kernel) fun t hf (y : S1x2048.Idx) => ?_
  have ht := (flush0_9 t).1 hf
  obtain ⟨i, d, rfl⟩ : ∃ i d, y = ix2 i d := ⟨_, _, eq_ix2 y⟩
  obtain rfl : i = 0 := Fin.ext (by omega)
  rw [emb9]
  show (dats m 0 c).after 9 t (ix2 0 d) = _
  rw [after0_9, total9 m c t ht]

end Cert.NormBwdIdeal.Step

end
-- ==== Proof.StepRetOut.lean ====
module

public import proofs.«01_k».proof.Proof.Gen.RetOutIdeal.Value
public import proofs.«01_k».proof.Proof.Gen.RetOutRefIdeal.Run
public import Idealize.ShloMosaic.Lib.Pipeline.ValueKit.Point
public import Idealize.ShloMosaic.Lib.Pointwise

@[expose] public section

set_option maxRecDepth 16384

/-! The retention's output: the kernel's blocks, one head and one row tile each, are those of the reference's array. -/

noncomputable section

namespace Cert.RetOutIdeal.Step

open Cert.RetOutIdeal Cert.RetOutIdeal.Gen
open Idealize.ShloMosaic Idealize.ShloMosaic.TcCoe Idealize.SL.Sem Idealize.ShloMosaic.Pointwise
open scoped BigOperators

theorem idx0 : ∀ t : Fin cfg0.N, win0_0.index t = ![t.val / 8, t.val % 8, 0] := (by decide +kernel : ∀ t : Fin grid0.N, _)
theorem idx1 : ∀ t : Fin cfg0.N, win0_1.index t = ![t.val / 8, t.val % 8, 0] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![t.val % 8, t.val / 8] := (by decide +kernel : ∀ t : Fin grid0.N, _)

/-- A point's head, -/
def head (t : Fin cfg0.N) : Fin 8 := ⟨t.val / 8, by have := t.isLt.trans_eq N_0; omega⟩
/-- the row of the arrays under row `i` of its block -/
def row (t : Fin cfg0.N) (i : Fin 1024) : Fin 8192 := ⟨t.val % 8 * 1024 + i.val, by omega⟩
/-- and the column of a head under column `e`. -/
def col (h : Fin 8) (e : Fin 128) : Fin 1024 := ⟨h.val * 128 + e.val, by omega⟩

/-- The sum of the two directions less its mean over a head's columns, -/
def centred (y z : FVec Ideal S8x8192x128 .f32) : FVec Ideal S8x8192x128 .f32 :=
  subf (addf y z) (broadcastInDim S8x8192x128 ![0, 1, 2] Cert.RetOutRefIdeal.Gen.bcast_S8x8192x1_S8x8192x128_0_1_2
    (Host.divf (broadcastInDim Cert.RetOutRefIdeal.S8x8192x1 ![0, 1] Cert.RetOutRefIdeal.Gen.bcast_S8x8192_S8x8192x1_0_1
      (Host.reduceAdd (addf y z) (constant Cert.RetOutRefIdeal.S_ .f32 0x00000000#32) Cert.RetOutRefIdeal.Gen.reducesTo_S8x8192x128_S8x8192_d2 Cert.RetOutRefIdeal.Gen.h_S_))
      (broadcastInDim Cert.RetOutRefIdeal.S8x8192x1 ![] Cert.RetOutRefIdeal.Gen.bcast_S_S8x8192x1 (constant Cert.RetOutRefIdeal.S_ .f32 0x43000000#32))))
/-- and the variance with the constant added. -/
def spread (y z : FVec Ideal S8x8192x128 .f32) : FVec Ideal Cert.RetOutRefIdeal.S8x8192x1 .f32 :=
  addf (Host.divf (broadcastInDim Cert.RetOutRefIdeal.S8x8192x1 ![0, 1] Cert.RetOutRefIdeal.Gen.bcast_S8x8192_S8x8192x1_0_1
      (Host.reduceAdd (mulf (centred y z) (centred y z)) (constant Cert.RetOutRefIdeal.S_ .f32 0x00000000#32) Cert.RetOutRefIdeal.Gen.reducesTo_S8x8192x128_S8x8192_d2 Cert.RetOutRefIdeal.Gen.h_S_))
      (broadcastInDim Cert.RetOutRefIdeal.S8x8192x1 ![] Cert.RetOutRefIdeal.Gen.bcast_S_S8x8192x1 (constant Cert.RetOutRefIdeal.S_ .f32 0x43000000#32)))
    (broadcastInDim Cert.RetOutRefIdeal.S8x8192x1 ![] Cert.RetOutRefIdeal.Gen.bcast_S_S8x8192x1 (constant Cert.RetOutRefIdeal.S_ .f32 0x3727C5AC#32))
/-- The heads side by side, -/
def flat (f : FVec Ideal S8x8192x128 .f32) : FVec Ideal S8192x1024 .f32 :=
  shapeCast S8192x1024 (transpose Cert.RetOutRefIdeal.S8192x8x128 [1, 0, 2] f Cert.RetOutRefIdeal.Gen.transposes_S8x8192x128_S8192x8x128_1_0_2) Cert.RetOutRefIdeal.Gen.shapeCasts_S8192x8x128_S8192x1024
theorem flat_at (f : FVec Ideal S8x8192x128 .f32) (i : Fin 8192) (h : Fin 8) (e : Fin 128) : flat f (ix2 i (col h e)) = f (ix3 h i e) := by
  pointwise [flat]
  refine congrArg f ?_
  blk_ext [col]
/-- and the logistic function of the gate. -/
def sigm (g : FVec Ideal S8192x1024 .f32) : FVec Ideal S8192x1024 .f32 :=
  Host.divf (broadcastInDim S8192x1024 ![] Cert.RetOutRefIdeal.Gen.bcast_S_S8192x1024 (constant Cert.RetOutRefIdeal.S_ .f32 0x3F800000#32))
    (addf (broadcastInDim S8192x1024 ![] Cert.RetOutRefIdeal.Gen.bcast_S_S8192x1024 (constant Cert.RetOutRefIdeal.S_ .f32 0x3F800000#32)) (Host.exp (Host.negf g)))
theorem sigm_at (g : FVec Ideal S8192x1024 .f32) (i : Fin 8192) (d : Fin 1024) : sigm g (ix2 i d) = Ideal.logistic (g (ix2 i d)) := by
  pointwise [sigm]
  rfl
/-- The normed sum. -/
def normed (y z : FVec Ideal S8x8192x128 .f32) : FVec Ideal S8x8192x128 .f32 :=
  mulf (centred y z) (broadcastInDim S8x8192x128 ![0, 1, 2] Cert.RetOutRefIdeal.Gen.bcast_S8x8192x1_S8x8192x128_0_1_2 (Host.rsqrt (spread y z)))
/-- The reference's result. -/
def result (y z : FVec Ideal S8x8192x128 .f32) (g : FVec Ideal S8192x1024 .f32) : FVec Ideal S8192x1024 .bf16 :=
  truncf .bf16 (mulf (mulf g (sigm g)) (flat (normed y z))) bitsLt_bf16_f32

variable (m : (ℓ : Loc nD τ sig) → Buf (Elt Ideal) ℓ) (c : Dev nD)

theorem V_forth : V m c main_arg0 = m (c, main_arg0) := rfl
theorem V_back : V m c main_arg1 = m (c, main_arg1) := rfl
theorem V_gate : V m c main_arg2 = m (c, main_arg2) := rfl

theorem emb0 (t : Fin cfg0.N) (i : Fin 1024) (e : Fin 128) : ((cfg0.win 0).blk t).view.emb (ix3 0 i e) = ix3 (head t) (row t i) e := by
  blk_ext [idx0, head, row]
theorem blk0 (t : Fin cfg0.N) (i : Fin 1024) (e : Fin 128) : iblk m c 0 t (ix3 0 i e) = m (c, main_arg0) (ix3 (head t) (row t i) e) := by
  unfold iblk
  rw [View.read_apply, emb0]
  exact congrFun (V_forth m c) _
theorem emb1 (t : Fin cfg0.N) (i : Fin 1024) (e : Fin 128) : ((cfg0.win 1).blk t).view.emb (ix3 0 i e) = ix3 (head t) (row t i) e := by
  blk_ext [idx1, head, row]
theorem blk1 (t : Fin cfg0.N) (i : Fin 1024) (e : Fin 128) : iblk m c 1 t (ix3 0 i e) = m (c, main_arg1) (ix3 (head t) (row t i) e) := by
  unfold iblk
  rw [View.read_apply, emb1]
  exact congrFun (V_back m c) _
theorem emb2 (t : Fin cfg0.N) (i : Fin 1024) (e : Fin 128) : ((cfg0.win 2).blk t).view.emb (ix2 i e) = ix2 (row t i) (col (head t) e) := by
  blk_ext [idx2, head, row, col]
theorem blk2 (t : Fin cfg0.N) (i : Fin 1024) (e : Fin 128) : iblk m c 2 t (ix2 i e) = m (c, main_arg2) (ix2 (row t i) (col (head t) e)) := by
  unfold iblk
  rw [View.read_apply, emb2]
  exact congrFun (V_gate m c) _
theorem emb3 (t : Fin cfg0.N) (i : Fin 1024) (e : Fin 128) : ((cfg0.win 3).blk t).view.emb (ix2 i e) = ix2 (row t i) (col (head t) e) := by
  blk_ext [idx3, head, row, col]

/-- A point's block of the kernel is the reference's. -/
theorem pay_at (t : Fin cfg0.N) (i : Fin 1024) (e : Fin 128) :
    k0_pay1 (iblk m c 0 t) (iblk m c 1 t) (iblk m c 2 t) (ix2 i e) = result (m (c, main_arg0)) (m (c, main_arg1)) (m (c, main_arg2)) (ix2 (row t i) (col (head t) e)) := by
  pointwise [k0_pay1, result]
  simp only [flat_at, sigm_at]
  pointwise [normed, spread, centred]
  simp only [blk0, blk1, blk2]
theorem out_at (t : Fin cfg0.N) (i : Fin 1024) (e : Fin 128) :
    out0_3 (iblk m c 0 t) (iblk m c 1 t) (iblk m c 2 t) (ix2 i e) = result (m (c, main_arg0)) (m (c, main_arg1)) (m (c, main_arg2)) (ix2 (row t i) (col (head t) e)) := by
  rw [← pay_at]
  simp only [out0_3]
  frame_out

/-- The kernel's array is the reference's. -/
theorem value : (dats m 0 c).arrAt 3 cfg0.N = result (m (c, main_arg0)) (m (c, main_arg1)) (m (c, main_arg2)) := by
  refine Pipeline.Dat.arrAt_eq_of_covers _ 3 _ (by decide +kernel) fun t hf (y : S1024x128.Idx) => ?_
  obtain ⟨i, e, rfl⟩ : ∃ i e, y = ix2 i e := ⟨_, _, eq_ix2 y⟩
  rw [emb3]
  show (dats m 0 c).after 3 t (ix2 i e) = _
  rw [after0_3, out_at]

end Cert.RetOutIdeal.Step

end
-- ==== Proof.StepRetDout.lean ====
module

public import proofs.«01_k».proof.Proof.Gen.RetDoutIdeal.Value
public import proofs.«01_k».proof.Proof.Gen.RetDoutRefIdeal.Run
public import Idealize.ShloMosaic.Lib.Pipeline.ValueKit.Point
public import Idealize.ShloMosaic.Lib.Pointwise

@[expose] public section

set_option maxRecDepth 16384

/-! The gradient of the retention's output: the kernel's blocks, one head and one row tile each, are those of the
reference's two arrays. -/

noncomputable section

namespace Cert.RetDoutIdeal.Step

open Cert.RetDoutIdeal Cert.RetDoutIdeal.Gen
open Idealize.ShloMosaic Idealize.ShloMosaic.TcCoe Idealize.SL.Sem Idealize.ShloMosaic.Pointwise
open scoped BigOperators

theorem idx0 : ∀ t : Fin cfg0.N, win0_0.index t = ![t.val / 8, t.val % 8, 0] := (by decide +kernel : ∀ t : Fin grid0.N, _)
theorem idx1 : ∀ t : Fin cfg0.N, win0_1.index t = ![t.val / 8, t.val % 8, 0] := (by decide +kernel : ∀ t : Fin grid0.N, _)
theorem idx4 : ∀ t : Fin cfg0.N, win0_4.index t = ![t.val / 8, t.val % 8, 0] := (by decide +kernel : ∀ t : Fin grid0.N, _)
theorem idx2 : ∀ t : Fin cfg0.N, win0_2.index t = ![t.val % 8, t.val / 8] := (by decide +kernel : ∀ t : Fin grid0.N, _)
theorem idx3 : ∀ t : Fin cfg0.N, win0_3.index t = ![t.val % 8, t.val / 8] := (by decide +kernel : ∀ t : Fin grid0.N, _)
theorem idx5 : ∀ t : Fin cfg0.N, win0_5.index t = ![t.val % 8, t.val / 8] := (by decide +kernel : ∀ t : Fin grid0.N, _)

/-- A point's head, -/
def head (t : Fin cfg0.N) : Fin 8 := ⟨t.val / 8, by have := t.isLt.trans_eq N_0; omega⟩
/-- the row of the arrays under row `i` of its block -/
def row (t : Fin cfg0.N) (i : Fin 1024) : Fin 8192 := ⟨t.val % 8 * 1024 + i.val, by omega⟩
/-- and the column of a head under column `e`. -/
def col (h : Fin 8) (e : Fin 128) : Fin 1024 := ⟨h.val * 128 + e.val, by omega⟩

/-- The sum of the two directions less its mean over a head's columns, -/
def centred (y z : FVec Ideal S8x8192x128 .f32) : FVec Ideal S8x8192x128 .f32 :=
  subf (addf y z) (broadcastInDim S8x8192x128 ![0, 1, 2] Cert.RetDoutRefIdeal.Gen.bcast_S8x8192x1_S8x8192x128_0_1_2
    (Host.divf (broadcastInDim Cert.RetDoutRefIdeal.S8x8192x1 ![0, 1] Cert.RetDoutRefIdeal.Gen.bcast_S8x8192_S8x8192x1_0_1
      (Host.reduceAdd (addf y z) (constant Cert.RetDoutRefIdeal.S_ .f32 0x00000000#32) Cert.RetDoutRefIdeal.Gen.reducesTo_S8x8192x128_S8x8192_d2 Cert.RetDoutRefIdeal.Gen.h_S_))
      (broadcastInDim Cert.RetDoutRefIdeal.S8x8192x1 ![] Cert.RetDoutRefIdeal.Gen.bcast_S_S8x8192x1 (constant Cert.RetDoutRefIdeal.S_ .f32 0x43000000#32))))
/-- and the variance with the constant added. -/
def spread (y z : FVec Ideal S8x8192x128 .f32) : FVec Ideal Cert.RetDoutRefIdeal.S8x8192x1 .f32 :=
  addf (Host.divf (broadcastInDim Cert.RetDoutRefIdeal.S8x8192x1 ![0, 1] Cert.RetDoutRefIdeal.Gen.bcast_S8x8192_S8x8192x1_0_1
      (Host.reduceAdd (mulf (centred y z) (centred y z)) (constant Cert.RetDoutRefIdeal.S_ .f32 0x00000000#32) Cert.RetDoutRefIdeal.Gen.reducesTo_S8x8192x128_S8x8192_d2 Cert.RetDoutRefIdeal.Gen.h_S_))
      (broadcastInDim Cert.RetDoutRefIdeal.S8x8192x1 ![] Cert.RetDoutRefIdeal.Gen.bcast_S_S8x8192x1 (constant Cert.RetDoutRefIdeal.S_ .f32 0x43000000#32)))
    (broadcastInDim Cert.RetDoutRefIdeal.S8x8192x1 ![] Cert.RetDoutRefIdeal.Gen.bcast_S_S8x8192x1 (constant Cert.RetDoutRefIdeal.S_ .f32 0x3727C5AC#32))
/-- The heads side by side, -/
def flat (f : FVec Ideal S8x8192x128 .f32) : FVec Ideal S8192x1024 .f32 :=
  shapeCast S8192x1024 (transpose Cert.RetDoutRefIdeal.S8192x8x128 [1, 0, 2] f Cert.RetDoutRefIdeal.Gen.transposes_S8x8192x128_S8192x8x128_1_0_2) Cert.RetDoutRefIdeal.Gen.shapeCasts_S8192x8x128_S8192x1024
theorem flat_at (f : FVec Ideal S8x8192x128 .f32) (i : Fin 8192) (h : Fin 8) (e : Fin 128) : flat f (ix2 i (col h e)) = f (ix3 h i e) := by
  pointwise [flat]
  refine congrArg f ?_
  blk_ext [col]
/-- and the logistic function of the gate. -/
def sigm (g : FVec Ideal S8192x1024 .f32) : FVec Ideal S8192x1024 .f32 :=
  Host.divf (broadcastInDim S8192x1024 ![] Cert.RetDoutRefIdeal.Gen.bcast_S_S8192x1024 (constant Cert.RetDoutRefIdeal.S_ .f32 0x3F800000#32))
    (addf (broadcastInDim S8192x1024 ![] Cert.RetDoutRefIdeal.Gen.bcast_S_S8192x1024 (constant Cert.RetDoutRefIdeal.S_ .f32 0x3F800000#32)) (Host.exp (Host.negf g)))
theorem sigm_at (g : FVec Ideal S8192x1024 .f32) (i : Fin 8192) (d : Fin 1024) : sigm g (ix2 i d) = Ideal.logistic (g (ix2 i d)) := by
  pointwise [sigm]
  rfl
/-- The normed sum. -/
def normed (y z : FVec Ideal S8x8192x128 .f32) : FVec Ideal S8x8192x128 .f32 :=
  mulf (centred y z) (broadcastInDim S8x8192x128 ![0, 1, 2] Cert.RetDoutRefIdeal.Gen.bcast_S8x8192x1_S8x8192x128_0_1_2 (Host.rsqrt (spread y z)))

/-- A gradient of the heads side by side, one head after another. -/
def split (f : FVec Ideal S8192x1024 .f32) : FVec Ideal S8x8192x128 .f32 :=
  transpose S8x8192x128 [1, 0, 2] (shapeCast Cert.RetDoutRefIdeal.S8192x8x128 f Cert.RetDoutRefIdeal.Gen.shapeCasts_S8192x1024_S8192x8x128) Cert.RetDoutRefIdeal.Gen.transposes_S8192x8x128_S8x8192x128_1_0_2
theorem split_at (f : FVec Ideal S8192x1024 .f32) (h : Fin 8) (i : Fin 8192) (e : Fin 128) : split f (ix3 h i e) = f (ix2 i (col h e)) := by
  pointwise [split]
  rfl
/-- The gradient of the normed sum, -/
def gradNormed (g d : FVec Ideal S8192x1024 .f32) : FVec Ideal S8x8192x128 .f32 := split (mulf (mulf g (sigm g)) d)
theorem gradNormed_at (g d : FVec Ideal S8192x1024 .f32) (h : Fin 8) (i : Fin 8192) (e : Fin 128) :
    gradNormed g d (ix3 h i e) = g (ix2 i (col h e)) * Ideal.logistic (g (ix2 i (col h e))) * d (ix2 i (col h e)) := by
  unfold gradNormed
  rw [split_at, ← sigm_at]
  rfl
/-- of the centred sum through the product, -/
def direct (y z : FVec Ideal S8x8192x128 .f32) (g d : FVec Ideal S8192x1024 .f32) : FVec Ideal S8x8192x128 .f32 :=
  mulf (gradNormed g d) (broadcastInDim S8x8192x128 ![0, 1, 2] Cert.RetDoutRefIdeal.Gen.bcast_S8x8192x1_S8x8192x128_0_1_2 (Host.rsqrt (spread y z)))
/-- and through the variance. -/
def through (y z : FVec Ideal S8x8192x128 .f32) (g d : FVec Ideal S8192x1024 .f32) : FVec Ideal S8x8192x128 .f32 :=
  mulf (broadcastInDim S8x8192x128 ![0, 1] Cert.RetDoutRefIdeal.Gen.bcast_S8x8192_S8x8192x128_0_1
      (Host.reduceAdd (Host.divf (mulf (shapeCast Cert.RetDoutRefIdeal.S8x8192x1 (Host.reduceAdd (mulf (centred y z) (gradNormed g d)) (constant Cert.RetDoutRefIdeal.S_ .f32 0x00000000#32) Cert.RetDoutRefIdeal.Gen.reducesTo_S8x8192x128_S8x8192_d2 Cert.RetDoutRefIdeal.Gen.h_S_) Cert.RetDoutRefIdeal.Gen.shapeCasts_S8x8192_S8x8192x1)
        (mulf (broadcastInDim Cert.RetDoutRefIdeal.S8x8192x1 ![] Cert.RetDoutRefIdeal.Gen.bcast_S_S8x8192x1 (constant Cert.RetDoutRefIdeal.S_ .f32 0xBF000000#32))
          (Host.divf (Host.rsqrt (spread y z)) (spread y z))))
        (broadcastInDim Cert.RetDoutRefIdeal.S8x8192x1 ![] Cert.RetDoutRefIdeal.Gen.bcast_S_S8x8192x1 (constant Cert.RetDoutRefIdeal.S_ .f32 0x43000000#32))) (constant Cert.RetDoutRefIdeal.S_ .f32 0x00000000#32) Cert.RetDoutRefIdeal.Gen.reducesTo_S8x8192x1_S8x8192_d2 Cert.RetDoutRefIdeal.Gen.h_S_))
    (mulf (broadcastInDim S8x8192x128 ![] Cert.RetDoutRefIdeal.Gen.bcast_S_S8x8192x128 (constant Cert.RetDoutRefIdeal.S_ .f32 0x40000000#32)) (centred y z))
/-- The reference's gradient of the sum, -/
def gradSum (y z : FVec Ideal S8x8192x128 .f32) (g d : FVec Ideal S8192x1024 .f32) : FVec Ideal S8x8192x128 .f32 :=
  addf (addf (direct y z g d) (through y z g d)) (broadcastInDim S8x8192x128 ![0, 1] Cert.RetDoutRefIdeal.Gen.bcast_S8x8192_S8x8192x128_0_1
    (Host.reduceAdd (Host.divf (addf (shapeCast Cert.RetDoutRefIdeal.S8x8192x1 (Host.reduceAdd (Host.negf (direct y z g d)) (constant Cert.RetDoutRefIdeal.S_ .f32 0x00000000#32) Cert.RetDoutRefIdeal.Gen.reducesTo_S8x8192x128_S8x8192_d2 Cert.RetDoutRefIdeal.Gen.h_S_) Cert.RetDoutRefIdeal.Gen.shapeCasts_S8x8192_S8x8192x1)
        (shapeCast Cert.RetDoutRefIdeal.S8x8192x1 (Host.reduceAdd (Host.negf (through y z g d)) (constant Cert.RetDoutRefIdeal.S_ .f32 0x00000000#32) Cert.RetDoutRefIdeal.Gen.reducesTo_S8x8192x128_S8x8192_d2 Cert.RetDoutRefIdeal.Gen.h_S_) Cert.RetDoutRefIdeal.Gen.shapeCasts_S8x8192_S8x8192x1))
      (broadcastInDim Cert.RetDoutRefIdeal.S8x8192x1 ![] Cert.RetDoutRefIdeal.Gen.bcast_S_S8x8192x1 (constant Cert.RetDoutRefIdeal.S_ .f32 0x43000000#32))) (constant Cert.RetDoutRefIdeal.S_ .f32 0x00000000#32) Cert.RetDoutRefIdeal.Gen.reducesTo_S8x8192x1_S8x8192_d2 Cert.RetDoutRefIdeal.Gen.h_S_))
/-- and of the gate. -/
def gradGate (y z : FVec Ideal S8x8192x128 .f32) (g d : FVec Ideal S8192x1024 .f32) : FVec Ideal S8192x1024 .f32 :=
  addf (mulf (mulf d (flat (normed y z))) (sigm g)) (mulf (mulf g (mulf d (flat (normed y z))))
    (mulf (sigm g) (subf (broadcastInDim S8192x1024 ![] Cert.RetDoutRefIdeal.Gen.bcast_S_S8192x1024 (constant Cert.RetDoutRefIdeal.S_ .f32 0x3F800000#32)) (sigm g))))

variable (m : (ℓ : Loc nD τ sig) → Buf (Elt Ideal) ℓ) (c : Dev nD)

theorem V_forth : V m c main_arg0 = m (c, main_arg0) := by
  show StableHlo.after hostOps0 (fun b => m (c, b)) main_arg0 = _
  after_results_simp <;> rfl
theorem V_back : V m c main_arg1 = m (c, main_arg1) := by
  show StableHlo.after hostOps0 (fun b => m (c, b)) main_arg1 = _
  after_results_simp <;> rfl
theorem V_gate : V m c main_arg2 = m (c, main_arg2) := by
  show StableHlo.after hostOps0 (fun b => m (c, b)) main_arg2 = _
  after_results_simp <;> rfl
theorem V_grad : V m c main_v0 = (truncf .bf16 (m (c, main_arg3)) bitsLt_bf16_f32 : FVec Ideal S8192x1024 .bf16) := by
  show StableHlo.after hostOps0 (fun b => m (c, b)) main_v0 = _
  after_results_simp <;> rfl

theorem emb0 (t : Fin cfg0.N) (i : Fin 1024) (e : Fin 128) : ((cfg0.win 0).blk t).view.emb (ix3 0 i e) = ix3 (head t) (row t i) e := by
  blk_ext [idx0, head, row]
theorem blk0 (t : Fin cfg0.N) (i : Fin 1024) (e : Fin 128) : iblk m c 0 t (ix3 0 i e) = m (c, main_arg0) (ix3 (head t) (row t i) e) := by
  unfold iblk
  rw [View.read_apply, emb0]
  exact congrFun (V_forth m c) _
theorem emb1 (t : Fin cfg0.N) (i : Fin 1024) (e : Fin 128) : ((cfg0.win 1).blk t).view.emb (ix3 0 i e) = ix3 (head t) (row t i) e := by
  blk_ext [idx1, head, row]
theorem blk1 (t : Fin cfg0.N) (i : Fin 1024) (e : Fin 128) : iblk m c 1 t (ix3 0 i e) = m (c, main_arg1) (ix3 (head t) (row t i) e) := by
  unfold iblk
  rw [View.read_apply, emb1]
  exact congrFun (V_back m c) _
theorem emb2 (t : Fin cfg0.N) (i : Fin 1024) (e : Fin 128) : ((cfg0.win 2).blk t).view.emb (ix2 i e) = ix2 (row t i) (col (head t) e) := by
  blk_ext [idx2, head, row, col]
theorem blk2 (t : Fin cfg0.N) (i : Fin 1024) (e : Fin 128) : iblk m c 2 t (ix2 i e) = m (c, main_arg2) (ix2 (row t i) (col (head t) e)) := by
  unfold iblk
  rw [View.read_apply, emb2]
  exact congrFun (V_gate m c) _
theorem emb3 (t : Fin cfg0.N) (i : Fin 1024) (e : Fin 128) : ((cfg0.win 3).blk t).view.emb (ix2 i e) = ix2 (row t i) (col (head t) e) := by
  blk_ext [idx3, head, row, col]
theorem blk3 (t : Fin cfg0.N) (i : Fin 1024) (e : Fin 128) : iblk m c 3 t (ix2 i e) = m (c, main_arg3) (ix2 (row t i) (col (head t) e)) := by
  unfold iblk
  rw [View.read_apply, emb3]
  exact congrFun (V_grad m c) _
theorem emb4 (t : Fin cfg0.N) (i : Fin 1024) (e : Fin 128) : ((cfg0.win 4).blk t).view.emb (ix3 0 i e) = ix3 (head t) (row t i) e := by
  blk_ext [idx4, head, row]
theorem emb5 (t : Fin cfg0.N) (i : Fin 1024) (e : Fin 128) : ((cfg0.win 5).blk t).view.emb (ix2 i e) = ix2 (row t i) (col (head t) e) := by
  blk_ext [idx5, head, row, col]

theorem pay5 (t : Fin cfg0.N) (i : Fin 1024) (e : Fin 128) :
    k0_pay1 (iblk m c 2 t) (k0_pay7 (iblk m c 2 t)) (k0_pay8 (iblk m c 2 t)) (k0_pay15 (iblk m c 0 t) (iblk m c 1 t) (iblk m c 3 t)) (ix2 i e)
      = gradGate (m (c, main_arg0)) (m (c, main_arg1)) (m (c, main_arg2)) (m (c, main_arg3)) (ix2 (row t i) (col (head t) e)) := by
  pointwise [k0_pay1, k0_pay7, k0_pay8, k0_pay15, k0_pay13, k0_pay11, k0_pay10, k0_pay9, k0_pay5, k0_pay4, k0_pay3, gradGate]
  simp only [flat_at, sigm_at]
  pointwise [normed, spread, centred]
  simp only [blk0, blk1, blk2, blk3]
theorem pay4 (t : Fin cfg0.N) (i : Fin 1024) (e : Fin 128) :
    k0_pay2 (k0_pay6 (iblk m c 0 t) (iblk m c 1 t)) (k0_pay11 (iblk m c 0 t) (iblk m c 1 t)) (k0_pay12 (iblk m c 0 t) (iblk m c 1 t)) (k0_pay14 (iblk m c 2 t) (iblk m c 3 t)) (k0_pay16 (iblk m c 0 t) (iblk m c 1 t) (iblk m c 2 t) (iblk m c 3 t)) (ix3 0 i e)
      = gradSum (m (c, main_arg0)) (m (c, main_arg1)) (m (c, main_arg2)) (m (c, main_arg3)) (ix3 (head t) (row t i) e) := by
  pointwise [k0_pay2, k0_pay6, k0_pay16, k0_pay14, k0_pay13, k0_pay12, k0_pay11, k0_pay10, k0_pay9, k0_pay7, k0_pay5, k0_pay4, k0_pay3, gradSum, direct, through, spread, centred]
  simp only [gradNormed_at, blk0, blk1, blk2, blk3, zero_sub]
theorem out4 (t : Fin cfg0.N) (i : Fin 1024) (e : Fin 128) :
    out0_4 (iblk m c 0 t) (iblk m c 1 t) (iblk m c 2 t) (iblk m c 3 t) (ix3 0 i e) = gradSum (m (c, main_arg0)) (m (c, main_arg1)) (m (c, main_arg2)) (m (c, main_arg3)) (ix3 (head t) (row t i) e) := by
  rw [← pay4]
  simp only [out0_4]
  frame_out
theorem out5 (t : Fin cfg0.N) (i : Fin 1024) (e : Fin 128) :
    out0_5 (iblk m c 0 t) (iblk m c 1 t) (iblk m c 2 t) (iblk m c 3 t) (ix2 i e) = gradGate (m (c, main_arg0)) (m (c, main_arg1)) (m (c, main_arg2)) (m (c, main_arg3)) (ix2 (row t i) (col (head t) e)) := by
  rw [← pay5]
  simp only [out0_5]
  frame_out

/-- The kernel's two arrays are the reference's. -/
theorem value4 : (dats m 0 c).arrAt 4 cfg0.N = gradSum (m (c, main_arg0)) (m (c, main_arg1)) (m (c, main_arg2)) (m (c, main_arg3)) := by
  refine Pipeline.Dat.arrAt_eq_of_covers _ 4 _ (by decide +kernel) fun t hf (y : S1x1024x128.Idx) => ?_
  obtain ⟨a, i, e, rfl⟩ : ∃ a i e, y = ix3 a i e := ⟨_, _, _, eq_ix3 y⟩
  obtain rfl : a = 0 := Fin.ext (by omega)
  rw [emb4]
  show (dats m 0 c).after 4 t (ix3 0 i e) = _
  rw [after0_4, out4]
theorem value5 : (dats m 0 c).arrAt 5 cfg0.N = gradGate (m (c, main_arg0)) (m (c, main_arg1)) (m (c, main_arg2)) (m (c, main_arg3)) := by
  refine Pipeline.Dat.arrAt_eq_of_covers _ 5 _ (by decide +kernel) fun t hf (y : S1024x128.Idx) => ?_
  obtain ⟨i, e, rfl⟩ : ∃ i e, y = ix2 i e := ⟨_, _, eq_ix2 y⟩
  rw [emb5]
  show (dats m 0 c).after 5 t (ix2 i e) = _
  rw [after0_5, out5]

end Cert.RetDoutIdeal.Step

end
-- ==== Proof.StepAdam.lean ====
module

public import proofs.«01_k».proof.Proof.Gen.AdamIdeal.Value
public import proofs.«01_k».proof.Proof.Gen.AdamRefIdeal.Run
public import Idealize.ShloMosaic.Lib.Pipeline.ValueKit.Point
public import Idealize.ShloMosaic.Lib.Pointwise

@[expose] public section

set_option maxRecDepth 16384

/-! A step of the optimiser: the kernel's row blocks are those of the reference's arrays. The kernel adds the eight
parts of the gradient one after another, the reference sums them. -/

noncomputable section

namespace Cert.AdamIdeal.Step

open Cert.AdamIdeal Cert.AdamIdeal.Gen
open Idealize.ShloMosaic Idealize.ShloMosaic.TcCoe Idealize.SL.Sem Idealize.ShloMosaic.Pointwise
open scoped BigOperators

theorem idx0 : ∀ t : Fin cfg0.N, win0_0.index t = ![0, t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)

/-- The row of the arrays under row `i` of a point's block. -/
def row (t : Fin cfg0.N) (i : Fin 256) : Fin 2048 := ⟨t.val * 256 + i.val, by have := t.isLt.trans_eq N_0; omega⟩

/-- The reference's gradient, -/
def grad (g : FVec Ideal Cert.AdamRefIdeal.S8x2048x1408 .f32) : FVec Ideal S2048x1408 .f32 :=
  Host.reduceAdd g (constant Cert.AdamRefIdeal.S_ .f32 0x00000000#32) Cert.AdamRefIdeal.Gen.reducesTo_S8x2048x1408_S2048x1408_d0 Cert.AdamRefIdeal.Gen.h_S_
/-- its two moments -/
def first (g : FVec Ideal Cert.AdamRefIdeal.S8x2048x1408 .f32) (u : FVec Ideal S2048x1408 .f32) : FVec Ideal S2048x1408 .f32 :=
  addf (mulf (broadcastInDim S2048x1408 ![] Cert.AdamRefIdeal.Gen.bcast_S_S2048x1408 (constant Cert.AdamRefIdeal.S_ .f32 0x3F666666#32)) u)
    (mulf (broadcastInDim S2048x1408 ![] Cert.AdamRefIdeal.Gen.bcast_S_S2048x1408 (constant Cert.AdamRefIdeal.S_ .f32 0x3DCCCCCD#32)) (grad g))
def second (g : FVec Ideal Cert.AdamRefIdeal.S8x2048x1408 .f32) (v : FVec Ideal S2048x1408 .f32) : FVec Ideal S2048x1408 .f32 :=
  addf (mulf (broadcastInDim S2048x1408 ![] Cert.AdamRefIdeal.Gen.bcast_S_S2048x1408 (constant Cert.AdamRefIdeal.S_ .f32 0x3F7FBE77#32)) v)
    (mulf (broadcastInDim S2048x1408 ![] Cert.AdamRefIdeal.Gen.bcast_S_S2048x1408 (constant Cert.AdamRefIdeal.S_ .f32 0x3A83126F#32)) (mulf (grad g) (grad g)))
/-- and its step. -/
def delta (g : FVec Ideal Cert.AdamRefIdeal.S8x2048x1408 .f32) (w u v : FVec Ideal S2048x1408 .f32) : FVec Ideal S2048x1408 .f32 :=
  mulf (broadcastInDim S2048x1408 ![] Cert.AdamRefIdeal.Gen.bcast_S_S2048x1408 (constant Cert.AdamRefIdeal.S_ .f32 0xBA83126F#32))
    (addf (Host.divf (Host.divf (first g u) (broadcastInDim S2048x1408 ![] Cert.AdamRefIdeal.Gen.bcast_S_S2048x1408 (constant Cert.AdamRefIdeal.S_ .f32 0x3F26BD02#32)))
        (addf (Host.sqrt (Host.divf (second g v) (broadcastInDim S2048x1408 ![] Cert.AdamRefIdeal.Gen.bcast_S_S2048x1408 (constant Cert.AdamRefIdeal.S_ .f32 0x3C231ACC#32))))
          (broadcastInDim S2048x1408 ![] Cert.AdamRefIdeal.Gen.bcast_S_S2048x1408 (constant Cert.AdamRefIdeal.S_ .f32 0x322BCC77#32))))
      (mulf (broadcastInDim S2048x1408 ![] Cert.AdamRefIdeal.Gen.bcast_S_S2048x1408 (constant Cert.AdamRefIdeal.S_ .f32 0x3C23D70A#32)) w))
theorem grad_at (g : FVec Ideal Cert.AdamRefIdeal.S8x2048x1408 .f32) (i : Fin 2048) (d : Fin 1408) : grad g (ix2 i d) = ∑ k : Fin 8, g (ix3 k i d) := by
  pointwise [grad]

variable (m : (ℓ : Loc nD τ sig) → Buf (Elt Ideal) ℓ) (c : Dev nD)

theorem V_grad : V m c main_v0 = (truncf .bf16 (m (c, main_arg0)) bitsLt_bf16_f32 : FVec Ideal S8x2048x1408 .bf16) := by
  show StableHlo.after hostOps0 (fun b => m (c, b)) main_v0 = _
  after_results_simp <;> rfl
theorem V_weights : V m c main_arg1 = m (c, main_arg1) := by
  show StableHlo.after hostOps0 (fun b => m (c, b)) main_arg1 = _
  after_results_simp <;> rfl
theorem V_first : V m c main_arg2 = m (c, main_arg2) := by
  show StableHlo.after hostOps0 (fun b => m (c, b)) main_arg2 = _
  after_results_simp <;> rfl
theorem V_second : V m c main_arg3 = m (c, main_arg3) := by
  show StableHlo.after hostOps0 (fun b => m (c, b)) main_arg3 = _
  after_results_simp <;> rfl

theorem emb0 (t : Fin cfg0.N) (k : Fin 8) (i : Fin 256) (d : Fin 1408) : ((cfg0.win 0).blk t).view.emb (ix3 k i d) = ix3 k (row t i) d := by
  blk_ext [idx0, row]
theorem blk0 (t : Fin cfg0.N) (k : Fin 8) (i : Fin 256) (d : Fin 1408) : iblk m c 0 t (ix3 k i d) = m (c, main_arg0) (ix3 k (row t i) d) := by
  unfold iblk
  rw [View.read_apply, emb0]
  exact congrFun (V_grad m c) _
theorem emb1 (t : Fin cfg0.N) (i : Fin 256) (d : Fin 1408) : ((cfg0.win 1).blk t).view.emb (ix2 i d) = ix2 (row t i) d := by
  blk_ext [idx1, row]
theorem blk1 (t : Fin cfg0.N) (i : Fin 256) (d : Fin 1408) : iblk m c 1 t (ix2 i d) = m (c, main_arg1) (ix2 (row t i) d) := by
  unfold iblk
  rw [View.read_apply, emb1]
  exact congrFun (V_weights m c) _
theorem emb2 (t : Fin cfg0.N) (i : Fin 256) (d : Fin 1408) : ((cfg0.win 2).blk t).view.emb (ix2 i d) = ix2 (row t i) d := by
  blk_ext [idx2, row]
theorem blk2 (t : Fin cfg0.N) (i : Fin 256) (d : Fin 1408) : iblk m c 2 t (ix2 i d) = m (c, main_arg2) (ix2 (row t i) d) := by
  unfold iblk
  rw [View.read_apply, emb2]
  exact congrFun (V_first m c) _
theorem emb3 (t : Fin cfg0.N) (i : Fin 256) (d : Fin 1408) : ((cfg0.win 3).blk t).view.emb (ix2 i d) = ix2 (row t i) d := by
  blk_ext [idx3, row]
theorem blk3 (t : Fin cfg0.N) (i : Fin 256) (d : Fin 1408) : iblk m c 3 t (ix2 i d) = m (c, main_arg3) (ix2 (row t i) d) := by
  unfold iblk
  rw [View.read_apply, emb3]
  exact congrFun (V_second m c) _
theorem emb4 (t : Fin cfg0.N) (i : Fin 256) (d : Fin 1408) : ((cfg0.win 4).blk t).view.emb (ix2 i d) = ix2 (row t i) d := by
  blk_ext [idx4, row]
theorem emb5 (t : Fin cfg0.N) (i : Fin 256) (d : Fin 1408) : ((cfg0.win 5).blk t).view.emb (ix2 i d) = ix2 (row t i) d := by
  blk_ext [idx5, row]
theorem emb6 (t : Fin cfg0.N) (i : Fin 256) (d : Fin 1408) : ((cfg0.win 6).blk t).view.emb (ix2 i d) = ix2 (row t i) d := by
  blk_ext [idx6, row]
theorem emb7 (t : Fin cfg0.N) (i : Fin 256) (d : Fin 1408) : ((cfg0.win 7).blk t).view.emb (ix2 i d) = ix2 (row t i) d := by
  blk_ext [idx7, row]

/-- The eight parts of a point's block, one after another, are the reference's sum. -/
theorem grad_of (t : Fin cfg0.N) (i : Fin 256) (d : Fin 1408) :
    k0_pay5 (iblk m c 0 t) (iblk m c 1 t) (iblk m c 2 t) (iblk m c 3 t) (ix2 i d) = grad (m (c, main_arg0)) (ix2 (row t i) d) := by
  rw [grad_at]
  simp only [← blk0]
  generalize iblk m c 0 t = x
  pointwise [k0_pay5, k0_pay4]
  simp only [Fin.sum_univ_eight]

theorem out4 (t : Fin cfg0.N) (i : Fin 256) (d : Fin 1408) :
    out0_4 (iblk m c 0 t) (iblk m c 1 t) (iblk m c 2 t) (iblk m c 3 t) (ix2 i d) = grad (m (c, main_arg0)) (ix2 (row t i) d) := by
  rw [← grad_of]
  simp only [out0_4]
  frame_out
theorem pay6 (t : Fin cfg0.N) (i : Fin 256) (d : Fin 1408) :
    k0_pay1 (k0_pay5 (iblk m c 0 t) (iblk m c 1 t) (iblk m c 2 t) (iblk m c 3 t)) (iblk m c 2 t) (Scalar.ofBits .f32 0x3F666666#32) (ix2 i d)
      = first (m (c, main_arg0)) (m (c, main_arg2)) (ix2 (row t i) d) := by
  pointwise [k0_pay1, first]
  simp only [grad_of, blk1, blk2, blk3]
theorem out6 (t : Fin cfg0.N) (i : Fin 256) (d : Fin 1408) :
    out0_6 (iblk m c 0 t) (iblk m c 1 t) (iblk m c 2 t) (iblk m c 3 t) (ix2 i d) = first (m (c, main_arg0)) (m (c, main_arg2)) (ix2 (row t i) d) := by
  rw [← pay6]
  simp only [out0_6]
  frame_out
theorem pay7 (t : Fin cfg0.N) (i : Fin 256) (d : Fin 1408) :
    k0_pay2 (k0_pay5 (iblk m c 0 t) (iblk m c 1 t) (iblk m c 2 t) (iblk m c 3 t)) (iblk m c 3 t) (ix2 i d)
      = second (m (c, main_arg0)) (m (c, main_arg3)) (ix2 (row t i) d) := by
  pointwise [k0_pay2, second]
  simp only [grad_of, blk1, blk2, blk3]
theorem out7 (t : Fin cfg0.N) (i : Fin 256) (d : Fin 1408) :
    out0_7 (iblk m c 0 t) (iblk m c 1 t) (iblk m c 2 t) (iblk m c 3 t) (ix2 i d) = second (m (c, main_arg0)) (m (c, main_arg3)) (ix2 (row t i) d) := by
  rw [← pay7]
  simp only [out0_7]
  frame_out
theorem pay5 (t : Fin cfg0.N) (i : Fin 256) (d : Fin 1408) :
    k0_pay3 (k0_pay5 (iblk m c 0 t) (iblk m c 1 t) (iblk m c 2 t) (iblk m c 3 t)) (iblk m c 2 t) (Scalar.ofBits .f32 0x3F666666#32) (iblk m c 3 t) (iblk m c 1 t) (ix2 i d)
      = delta (m (c, main_arg0)) (m (c, main_arg1)) (m (c, main_arg2)) (m (c, main_arg3)) (ix2 (row t i) d) := by
  pointwise [k0_pay3, k0_pay1, k0_pay2, delta, first, second]
  simp only [grad_of, blk1, blk2, blk3]
theorem out5 (t : Fin cfg0.N) (i : Fin 256) (d : Fin 1408) :
    out0_5 (iblk m c 0 t) (iblk m c 1 t) (iblk m c 2 t) (iblk m c 3 t) (ix2 i d) = delta (m (c, main_arg0)) (m (c, main_arg1)) (m (c, main_arg2)) (m (c, main_arg3)) (ix2 (row t i) d) := by
  rw [← pay5]
  simp only [out0_5]
  frame_out

/-- The kernel's four arrays are the reference's. -/
theorem value4 : (dats m 0 c).arrAt 4 cfg0.N = grad (m (c, main_arg0)) := by
  refine Pipeline.Dat.arrAt_eq_of_covers _ 4 _ (by decide +kernel) fun t hf (y : S256x1408.Idx) => ?_
  obtain ⟨i, d, rfl⟩ : ∃ i d, y = ix2 i d := ⟨_, _, eq_ix2 y⟩
  rw [emb4]
  show (dats m 0 c).after 4 t (ix2 i d) = _
  rw [after0_4, out4]
theorem value5 : (dats m 0 c).arrAt 5 cfg0.N = delta (m (c, main_arg0)) (m (c, main_arg1)) (m (c, main_arg2)) (m (c, main_arg3)) := by
  refine Pipeline.Dat.arrAt_eq_of_covers _ 5 _ (by decide +kernel) fun t hf (y : S256x1408.Idx) => ?_
  obtain ⟨i, d, rfl⟩ : ∃ i d, y = ix2 i d := ⟨_, _, eq_ix2 y⟩
  rw [emb5]
  show (dats m 0 c).after 5 t (ix2 i d) = _
  rw [after0_5, out5]
theorem value6 : (dats m 0 c).arrAt 6 cfg0.N = first (m (c, main_arg0)) (m (c, main_arg2)) := by
  refine Pipeline.Dat.arrAt_eq_of_covers _ 6 _ (by decide +kernel) fun t hf (y : S256x1408.Idx) => ?_
  obtain ⟨i, d, rfl⟩ : ∃ i d, y = ix2 i d := ⟨_, _, eq_ix2 y⟩
  rw [emb6]
  show (dats m 0 c).after 6 t (ix2 i d) = _
  rw [after0_6, out6]
theorem value7 : (dats m 0 c).arrAt 7 cfg0.N = second (m (c, main_arg0)) (m (c, main_arg3)) := by
  refine Pipeline.Dat.arrAt_eq_of_covers _ 7 _ (by decide +kernel) fun t hf (y : S256x1408.Idx) => ?_
  obtain ⟨i, d, rfl⟩ : ∃ i d, y = ix2 i d := ⟨_, _, eq_ix2 y⟩
  rw [emb7]
  show (dats m 0 c).after 7 t (ix2 i d) = _
  rw [after0_7, out7]

end Cert.AdamIdeal.Step

end
-- ==== Proof.StepClaims.lean ====
module

public import proofs.«01_k».proof.Defs
public import proofs.«01_k».proof.Proof.StepNormBwd
public import proofs.«01_k».proof.Proof.StepRetOut
public import proofs.«01_k».proof.Proof.StepRetDout
public import proofs.«01_k».proof.Proof.StepAdam
public import Idealize.ShloMosaic.Adequacy
public import Idealize.ShloMosaic.Init

@[expose] public section

/-! The equations of four further calls that go over the rows with no product: the gradients of the norm with the modulation,
the retention's output and its gradient, and a step of the optimiser; and the ends of their references. -/

noncomputable section

namespace Cert.StepClaims

open Cert Idealize.ShloMosaic Idealize.ShloMosaic.TcCoe Idealize.SL.Sem

theorem ends_norm_bwd : quiescent_NormBwdRefIdeal := fun m ρ _ =>
  (θ_run NormBwdRefIdeal.defs _ _).mono (fun r h => ⟨fun c => (h c).2.2.2.2, sem_eq_zero_of_no_sems (by decide) r.2⟩) (NormBwdRefIdeal.Value.run m ρ)
theorem ends_ret_out : quiescent_RetOutRefIdeal := fun m ρ _ =>
  (θ_run RetOutRefIdeal.defs _ _).mono (fun r h => ⟨fun c => (h c).2, sem_eq_zero_of_no_sems (by decide) r.2⟩) (RetOutRefIdeal.Value.run m ρ)
theorem ends_ret_dout : quiescent_RetDoutRefIdeal := fun m ρ _ =>
  (θ_run RetDoutRefIdeal.defs _ _).mono (fun r h => ⟨fun c => (h c).2.2, sem_eq_zero_of_no_sems (by decide) r.2⟩) (RetDoutRefIdeal.Value.run m ρ)
theorem ends_adam : quiescent_AdamRefIdeal := fun m ρ _ =>
  (θ_run AdamRefIdeal.defs _ _).mono (fun r h => ⟨fun c => (h c).2.2.2.2, sem_eq_zero_of_no_sems (by decide) r.2⟩) (AdamRefIdeal.Value.run m ρ)

/-- The gradients of the norm with the modulation. -/
theorem values_norm_bwd : algebraic_NormBwdIdeal_NormBwdRefIdeal := fun m ρ m' ρ' _ ha =>
  ⟨_, _, _, _, (θ_run NormBwdIdeal.defs _ _).mono (fun _ h c => ⟨(h c).1.trans (NormBwdIdeal.Step.value6 m c), (h c).2.1.trans (NormBwdIdeal.Step.value7 m c), (h c).2.2.1.trans (NormBwdIdeal.Step.value8 m c), (h c).2.2.2.1.trans (NormBwdIdeal.Step.value9 m c), (h c).2.2.2.2⟩)
      (NormBwdIdeal.Value.run_blocks m ρ),
    (θ_run NormBwdRefIdeal.defs _ _).mono (fun _ h c => by
      obtain ⟨h0, h1, h2, h3, hr⟩ := h c
      obtain ⟨a0, a1, a2, _, a4, a5⟩ := ha c
      unfold NormBwdRefIdeal.Value.res_main_v48 at h0
      rw [a0, a1, a2, a4, a5] at h0
      rw [a0, a2, a4] at h1
      rw [a0, a1, a4] at h2
      rw [a4] at h3
      exact ⟨h0, h1, h2, h3, hr⟩) (NormBwdRefIdeal.Value.run m' ρ')⟩

/-- The retention's output. -/
theorem values_ret_out : algebraic_RetOutIdeal_RetOutRefIdeal := fun m ρ m' ρ' _ ha =>
  ⟨_, (θ_run RetOutIdeal.defs _ _).mono (fun _ h c => ⟨(h c).1.trans (RetOutIdeal.Step.value m c), (h c).2⟩)
      (RetOutIdeal.Value.run_blocks m ρ),
    (θ_run RetOutRefIdeal.defs _ _).mono (fun _ h c => by
      obtain ⟨h0, hr⟩ := h c
      obtain ⟨a0, a1, a2⟩ := ha c
      rw [a0, a1, a2] at h0
      exact ⟨h0, hr⟩) (RetOutRefIdeal.Value.run m' ρ')⟩

/-- The gradient of the retention's output. -/
theorem values_ret_dout : algebraic_RetDoutIdeal_RetDoutRefIdeal := fun m ρ m' ρ' _ ha =>
  ⟨_, _, (θ_run RetDoutIdeal.defs _ _).mono (fun _ h c => ⟨(h c).1.trans (RetDoutIdeal.Step.value4 m c), (h c).2.1.trans (RetDoutIdeal.Step.value5 m c), (h c).2.2⟩)
      (RetDoutIdeal.Value.run_blocks m ρ),
    (θ_run RetDoutRefIdeal.defs _ _).mono (fun _ h c => by
      obtain ⟨h0, h1, hr⟩ := h c
      obtain ⟨a0, a1, a2, a3⟩ := ha c
      unfold RetDoutRefIdeal.Value.res_main_v56 at h0
      rw [a0, a1, a2, a3] at h0
      unfold RetDoutRefIdeal.Value.res_main_v32 at h1
      rw [a0, a1, a2, a3] at h1
      exact ⟨h0, h1, hr⟩) (RetDoutRefIdeal.Value.run m' ρ')⟩

/-- A step of the optimiser. -/
theorem values_adam : algebraic_AdamIdeal_AdamRefIdeal := fun m ρ m' ρ' _ ha =>
  ⟨_, _, _, _, (θ_run AdamIdeal.defs _ _).mono (fun _ h c => ⟨(h c).1.trans (AdamIdeal.Step.value4 m c), (h c).2.1.trans (AdamIdeal.Step.value5 m c), (h c).2.2.1.trans (AdamIdeal.Step.value6 m c), (h c).2.2.2.1.trans (AdamIdeal.Step.value7 m c), (h c).2.2.2.2⟩)
      (AdamIdeal.Value.run_blocks m ρ),
    (θ_run AdamRefIdeal.defs _ _).mono (fun _ h c => by
      obtain ⟨h0, h1, h2, h3, hr⟩ := h c
      obtain ⟨a0, a1, a2, a3⟩ := ha c
      rw [a0] at h0
      rw [a0, a1, a2, a3] at h1
      rw [a0, a2] at h2
      rw [a0, a3] at h3
      exact ⟨h0, h1, h2, h3, hr⟩) (AdamRefIdeal.Value.run m' ρ')⟩

end Cert.StepClaims

end
-- ==== Proof.HeadNorm.lean ====
module

public import proofs.«01_k».proof.Proof.Gen.CtxNormIdeal.Value
public import proofs.«01_k».proof.Proof.Gen.CtxNormRefIdeal.Run
public import Idealize.ShloMosaic.Lib.Pipeline.ValueKit.Point
public import Idealize.ShloMosaic.Lib.Pointwise

@[expose] public section

set_option maxRecDepth 16384

/-! Over the context tokens, the norm with the modulation: the kernel's one block is the reference's array. -/

noncomputable section

namespace Cert.CtxNormIdeal.Head

open Cert.CtxNormIdeal Cert.CtxNormIdeal.Gen
open Idealize.ShloMosaic Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

/-- The reference's rows over their root mean squares. -/
def unit (x : FVec Ideal S256x2048 .f32) : FVec Ideal S256x2048 .f32 :=
  mulf x (broadcastInDim S256x2048 ![0, 1] Cert.CtxNormRefIdeal.Gen.bcast_S256x1_S256x2048_0_1 (Host.rsqrt (addf
    (Host.divf (broadcastInDim Cert.CtxNormRefIdeal.S256x1 ![0] Cert.CtxNormRefIdeal.Gen.bcast_S256_S256x1_0
      (Host.reduceAdd (mulf x x) (constant Cert.CtxNormRefIdeal.S_ .f32 0x00000000#32) Cert.CtxNormRefIdeal.Gen.reducesTo_S256x2048_S256_d1 Cert.CtxNormRefIdeal.Gen.h_S_))
      (broadcastInDim Cert.CtxNormRefIdeal.S256x1 ![] Cert.CtxNormRefIdeal.Gen.bcast_S_S256x1 (constant Cert.CtxNormRefIdeal.S_ .f32 0x45000000#32)))
    (broadcastInDim Cert.CtxNormRefIdeal.S256x1 ![] Cert.CtxNormRefIdeal.Gen.bcast_S_S256x1 (constant Cert.CtxNormRefIdeal.S_ .f32 0x358637BD#32)))))
/-- The reference's result. -/
def result (x : FVec Ideal S256x2048 .f32) (g sc sh : FVec Ideal S1x2048 .f32) : FVec Ideal S256x2048 .bf16 :=
  truncf .bf16 (addf (mulf (mulf (unit x) (broadcastInDim S256x2048 ![0, 1] Cert.CtxNormRefIdeal.Gen.bcast_S1x2048_S256x2048_0_1 g))
    (broadcastInDim S256x2048 ![0, 1] Cert.CtxNormRefIdeal.Gen.bcast_S1x2048_S256x2048_0_1
      (addf (broadcastInDim S1x2048 ![] Cert.CtxNormRefIdeal.Gen.bcast_S_S1x2048 (constant Cert.CtxNormRefIdeal.S_ .f32 0x3F800000#32)) sc)))
    (broadcastInDim S256x2048 ![0, 1] Cert.CtxNormRefIdeal.Gen.bcast_S1x2048_S256x2048_0_1 sh)) bitsLt_bf16_f32

variable (m : (ℓ : Loc nD τ sig) → Buf (Elt Ideal) ℓ) (c : Dev nD)

theorem V_rows : V m c main_arg0 = m (c, main_arg0) := rfl
theorem V_weight : V m c main_arg1 = m (c, main_arg1) := rfl
theorem V_scale : V m c main_arg2 = m (c, main_arg2) := rfl
theorem V_shift : V m c main_arg3 = m (c, main_arg3) := rfl

theorem emb0 (t : Fin cfg0.N) (i : Fin 256) (d : Fin 2048) : ((cfg0.win 0).blk t).view.emb (ix2 i d) = ix2 i d := by
  blk_ext [idx0]
theorem emb1 (t : Fin cfg0.N) (d : Fin 2048) : ((cfg0.win 1).blk t).view.emb (ix2 0 d) = ix2 0 d := by
  blk_ext [idx1]
theorem emb2 (t : Fin cfg0.N) (d : Fin 2048) : ((cfg0.win 2).blk t).view.emb (ix2 0 d) = ix2 0 d := by
  blk_ext [idx2]
theorem emb3 (t : Fin cfg0.N) (d : Fin 2048) : ((cfg0.win 3).blk t).view.emb (ix2 0 d) = ix2 0 d := by
  blk_ext [idx3]
theorem emb4 (t : Fin cfg0.N) (i : Fin 256) (d : Fin 2048) : ((cfg0.win 4).blk t).view.emb (ix2 i d) = ix2 i d := by
  blk_ext [idx4]

theorem blk0 (t : Fin cfg0.N) (i : Fin 256) (d : Fin 2048) : iblk m c 0 t (ix2 i d) = m (c, main_arg0) (ix2 i d) := by
  unfold iblk
  rw [View.read_apply, emb0]
  exact congrFun (V_rows m c) _
theorem blk1 (t : Fin cfg0.N) (d : Fin 2048) : iblk m c 1 t (ix2 0 d) = m (c, main_arg1) (ix2 0 d) := by
  unfold iblk
  rw [View.read_apply, emb1]
  exact congrFun (V_weight m c) _
theorem blk2 (t : Fin cfg0.N) (d : Fin 2048) : iblk m c 2 t (ix2 0 d) = m (c, main_arg2) (ix2 0 d) := by
  unfold iblk
  rw [View.read_apply, emb2]
  exact congrFun (V_scale m c) _
theorem blk3 (t : Fin cfg0.N) (d : Fin 2048) : iblk m c 3 t (ix2 0 d) = m (c, main_arg3) (ix2 0 d) := by
  unfold iblk
  rw [View.read_apply, emb3]
  exact congrFun (V_shift m c) _

/-- The kernel's block is the reference's. -/
theorem pay_at (t : Fin cfg0.N) (i : Fin 256) (d : Fin 2048) :
    k0_pay1 (iblk m c 0 t) (iblk m c 1 t) (iblk m c 2 t) (iblk m c 3 t) (ix2 i d)
      = result (m (c, main_arg0)) (m (c, main_arg1)) (m (c, main_arg2)) (m (c, main_arg3)) (ix2 i d) := by
  pointwise [k0_pay1, result, unit]
  simp only [blk0, blk1, blk2, blk3]
theorem out_at (t : Fin cfg0.N) (i : Fin 256) (d : Fin 2048) :
    out0_4 (iblk m c 0 t) (iblk m c 1 t) (iblk m c 2 t) (iblk m c 3 t) (ix2 i d)
      = result (m (c, main_arg0)) (m (c, main_arg1)) (m (c, main_arg2)) (m (c, main_arg3)) (ix2 i d) := by
  rw [← pay_at m c t]
  simp only [out0_4]
  frame_out

/-- The kernel's array is the reference's. -/
theorem value : (dats m 0 c).arrAt 4 cfg0.N = result (m (c, main_arg0)) (m (c, main_arg1)) (m (c, main_arg2)) (m (c, main_arg3)) := by
  refine Pipeline.Dat.arrAt_eq_of_covers _ 4 _ (by decide +kernel) fun t hf (y : S256x2048.Idx) => ?_
  obtain ⟨i, d, rfl⟩ : ∃ i d, y = ix2 i d := ⟨_, _, eq_ix2 y⟩
  rw [emb4]
  show (dats m 0 c).after 4 t (ix2 i d) = _
  rw [after0_4, out_at]

end Cert.CtxNormIdeal.Head

end
-- ==== Proof.HeadGate.lean ====
module

public import proofs.«01_k».proof.Proof.Gen.CtxGateIdeal.Value
public import proofs.«01_k».proof.Proof.Gen.CtxGateRefIdeal.Run
public import Idealize.ShloMosaic.Lib.Pipeline.ValueKit.Point
public import Idealize.ShloMosaic.Lib.Pointwise

@[expose] public section

set_option maxRecDepth 16384

/-! Over the context tokens, the gradients of a half gated sum: the kernel's two blocks are the reference's arrays. -/

noncomputable section

namespace Cert.CtxGateIdeal.Head

open Cert.CtxGateIdeal Cert.CtxGateIdeal.Gen
open Idealize.ShloMosaic Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)

/-- The literal one half. -/
def half : EReal := Ideal.ofBits .f32 0x3F000000#32
/-- The product of one row of the gradient with the same row of the values at one column. -/
def term (e f : FVec Ideal S256x2048 .f32) (d : Fin 2048) (k : Fin 256) : EReal := e (ix2 k d) * f (ix2 k d)
/-- The reference's gradient of the values. -/
def scaled (e : FVec Ideal S256x2048 .f32) (g : FVec Ideal S1x2048 .f32) : FVec Ideal S256x2048 .bf16 :=
  truncf .bf16 (mulf (broadcastInDim S256x2048 ![0, 1] Cert.CtxGateRefIdeal.Gen.bcast_S1x2048_S256x2048_0_1
    (mulf (broadcastInDim S1x2048 ![] Cert.CtxGateRefIdeal.Gen.bcast_S_S1x2048 (constant Cert.CtxGateRefIdeal.S_ .f32 0x3F000000#32)) g)) e) bitsLt_bf16_f32
/-- The reference's gradient of the gate. -/
def total (e f : FVec Ideal S256x2048 .f32) : FVec Ideal S1x2048 .f32 :=
  mulf (broadcastInDim S1x2048 ![] Cert.CtxGateRefIdeal.Gen.bcast_S_S1x2048 (constant Cert.CtxGateRefIdeal.S_ .f32 0x3F000000#32))
    (shapeCast S1x2048 (Host.reduceAdd (mulf e f) (constant Cert.CtxGateRefIdeal.S_ .f32 0x00000000#32)
      Cert.CtxGateRefIdeal.Gen.reducesTo_S256x2048_S2048_d0 Cert.CtxGateRefIdeal.Gen.h_S_) Cert.CtxGateRefIdeal.Gen.shapeCasts_S2048_S1x2048)
theorem total_at (e f : FVec Ideal S256x2048 .f32) (d : Fin 2048) : total e f (ix2 0 d) = half * ∑ k : Fin 256, term e f d k := by
  pointwise [total]
  rfl

variable (m : (ℓ : Loc nD τ sig) → Buf (Elt Ideal) ℓ) (c : Dev nD)

theorem V_grad : V m c main_arg0 = m (c, main_arg0) := by
  show StableHlo.after hostOps0 (fun b => m (c, b)) main_arg0 = _
  after_results_simp <;> rfl
theorem V_values : V m c main_v0 = (truncf .bf16 (m (c, main_arg1)) bitsLt_bf16_f32 : FVec Ideal S256x2048 .bf16) := by
  show StableHlo.after hostOps0 (fun b => m (c, b)) main_v0 = _
  after_results_simp <;> rfl
theorem V_gate : V m c main_arg2 = m (c, main_arg2) := by
  show StableHlo.after hostOps0 (fun b => m (c, b)) main_arg2 = _
  after_results_simp <;> rfl

theorem emb0 (t : Fin cfg0.N) (i : Fin 256) (d : Fin 2048) : ((cfg0.win 0).blk t).view.emb (ix2 i d) = ix2 i d := by
  blk_ext [idx0]
theorem emb1 (t : Fin cfg0.N) (i : Fin 256) (d : Fin 2048) : ((cfg0.win 1).blk t).view.emb (ix2 i d) = ix2 i d := by
  blk_ext [idx1]
theorem emb2 (t : Fin cfg0.N) (d : Fin 2048) : ((cfg0.win 2).blk t).view.emb (ix2 0 d) = ix2 0 d := by
  blk_ext [idx2]
theorem emb3 (t : Fin cfg0.N) (i : Fin 256) (d : Fin 2048) : ((cfg0.win 3).blk t).view.emb (ix2 i d) = ix2 i d := by
  blk_ext [idx3]
theorem emb4 (t : Fin cfg0.N) (d : Fin 2048) : ((cfg0.win 4).blk t).view.emb (ix2 0 d) = ix2 0 d := by
  blk_ext [idx4]

theorem blk0 (t : Fin cfg0.N) (i : Fin 256) (d : Fin 2048) : iblk m c 0 t (ix2 i d) = m (c, main_arg0) (ix2 i d) := by
  unfold iblk
  rw [View.read_apply, emb0]
  exact congrFun (V_grad m c) _
theorem blk1 (t : Fin cfg0.N) (i : Fin 256) (d : Fin 2048) : iblk m c 1 t (ix2 i d) = m (c, main_arg1) (ix2 i d) := by
  unfold iblk
  rw [View.read_apply, emb1]
  exact congrFun (V_values m c) _
theorem blk2 (t : Fin cfg0.N) (d : Fin 2048) : iblk m c 2 t (ix2 0 d) = m (c, main_arg2) (ix2 0 d) := by
  unfold iblk
  rw [View.read_apply, emb2]
  exact congrFun (V_gate m c) _

theorem zero_at (y : S1x2048.Idx) : k0_pay2 (F := Ideal) y = (0 : EReal) := by
  obtain ⟨i, d, rfl⟩ : ∃ i d, y = ix2 i d := ⟨_, _, eq_ix2 y⟩
  pointwise [k0_pay2]

theorem step_at (a : Vec Ideal S1x2048 .f32) (t : Fin cfg0.N) (d : Fin 2048) :
    k0_pay3 (iblk m c 0 t) a (iblk m c 1 t) (ix2 0 d) = a (ix2 0 d) + half * ∑ k : Fin 256, term (m (c, main_arg0)) (m (c, main_arg1)) d k := by
  pointwise [k0_pay3]
  simp only [blk0, blk1]
  rfl

theorem scaled_at (t : Fin cfg0.N) (i : Fin 256) (d : Fin 2048) :
    k0_pay1 (iblk m c 0 t) (iblk m c 2 t) (ix2 i d) = scaled (m (c, main_arg0)) (m (c, main_arg2)) (ix2 i d) := by
  pointwise [k0_pay1, scaled]
  simp only [blk0, blk2]

/-- The block of the gradient of the values, -/
theorem rows_at (t : Fin cfg0.N) (i : Fin 256) (d : Fin 2048) :
    (outsAt0 m c t).1 (ix2 i d) = scaled (m (c, main_arg0)) (m (c, main_arg2)) (ix2 i d) := by
  rw [← scaled_at m c t]
  simp only [outsAt0]
  frame_out
/-- and that of the gradient of the gate. -/
theorem total_of (t : Fin cfg0.N) (d : Fin 2048) :
    (outsAt0 m c t).2 (ix2 0 d) = total (m (c, main_arg0)) (m (c, main_arg1)) (ix2 0 d) := by
  simp only [outsAt0]
  frame_out
  rw [total_at, step_at, zero_at, zero_add]

/-- The kernel's two arrays are the reference's. -/
theorem value_rows : (dats m 0 c).arrAt 3 cfg0.N = scaled (m (c, main_arg0)) (m (c, main_arg2)) := by
  refine Pipeline.Dat.arrAt_eq_of_covers _ 3 _ (by decide +kernel) fun t hf (y : S256x2048.Idx) => ?_
  obtain ⟨i, d, rfl⟩ : ∃ i d, y = ix2 i d := ⟨_, _, eq_ix2 y⟩
  rw [emb3]
  show (dats m 0 c).after 3 t (ix2 i d) = _
  rw [after0_3, rows_at]
theorem value_total : (dats m 0 c).arrAt 4 cfg0.N = total (m (c, main_arg0)) (m (c, main_arg1)) := by
  refine Pipeline.Dat.arrAt_eq_of_covers _ 4 _ (by decide +kernel) fun t hf (y : S1x2048.Idx) => ?_
  obtain ⟨i, d, rfl⟩ : ∃ i d, y = ix2 i d := ⟨_, _, eq_ix2 y⟩
  obtain rfl : i = 0 := Fin.ext (by omega)
  rw [emb4]
  show (dats m 0 c).after 4 t (ix2 0 d) = _
  rw [after0_4, total_of]

end Cert.CtxGateIdeal.Head

end
-- ==== Proof.HeadNormBwd.lean ====
module

public import proofs.«01_k».proof.Proof.Gen.CtxNormBwdIdeal.Value
public import proofs.«01_k».proof.Proof.Gen.CtxNormBwdRefIdeal.Run
public import Idealize.ShloMosaic.Lib.Pipeline.ValueKit.Point
public import Idealize.ShloMosaic.Lib.Pointwise

@[expose] public section

set_option maxRecDepth 16384

/-! Over the context tokens, the gradients of the norm with the modulation: the kernel's four blocks are the reference's arrays. -/

noncomputable section

namespace Cert.CtxNormBwdIdeal.Head

open Cert.CtxNormBwdIdeal Cert.CtxNormBwdIdeal.Gen
open Idealize.ShloMosaic Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)

/-- The reference's sum down the columns. -/
def total (f : FVec Ideal S256x2048 .f32) : FVec Ideal S1x2048 .f32 :=
  shapeCast S1x2048 (Host.reduceAdd f (constant Cert.CtxNormBwdRefIdeal.S_ .f32 0x00000000#32) Cert.CtxNormBwdRefIdeal.Gen.reducesTo_S256x2048_S2048_d0 Cert.CtxNormBwdRefIdeal.Gen.h_S_) Cert.CtxNormBwdRefIdeal.Gen.shapeCasts_S2048_S1x2048
theorem total_at (f : FVec Ideal S256x2048 .f32) (d : Fin 2048) : total f (ix2 0 d) = ∑ k : Fin 256, f (ix2 k d) := by
  pointwise [total]

/-- The rows' mean squares with the constant added, and their inverse roots, one for each row, -/
def meanSq (x : FVec Ideal S256x2048 .f32) : FVec Ideal Cert.CtxNormBwdRefIdeal.S256x1 .f32 :=
  addf (Host.divf (broadcastInDim Cert.CtxNormBwdRefIdeal.S256x1 ![0] Cert.CtxNormBwdRefIdeal.Gen.bcast_S256_S256x1_0
      (Host.reduceAdd (mulf x x) (constant Cert.CtxNormBwdRefIdeal.S_ .f32 0x00000000#32) Cert.CtxNormBwdRefIdeal.Gen.reducesTo_S256x2048_S256_d1 Cert.CtxNormBwdRefIdeal.Gen.h_S_))
      (broadcastInDim Cert.CtxNormBwdRefIdeal.S256x1 ![] Cert.CtxNormBwdRefIdeal.Gen.bcast_S_S256x1 (constant Cert.CtxNormBwdRefIdeal.S_ .f32 0x45000000#32)))
    (broadcastInDim Cert.CtxNormBwdRefIdeal.S256x1 ![] Cert.CtxNormBwdRefIdeal.Gen.bcast_S_S256x1 (constant Cert.CtxNormBwdRefIdeal.S_ .f32 0x358637BD#32))
def inv (x : FVec Ideal S256x2048 .f32) : FVec Ideal Cert.CtxNormBwdRefIdeal.S256x1 .f32 := Host.rsqrt (meanSq x)
/-- the rows over their root mean squares, -/
def unit (x : FVec Ideal S256x2048 .f32) : FVec Ideal S256x2048 .f32 :=
  mulf x (broadcastInDim S256x2048 ![0, 1] Cert.CtxNormBwdRefIdeal.Gen.bcast_S256x1_S256x2048_0_1 (inv x))
/-- the given gradient with the scale, and with the weight. -/
def scaled (e : FVec Ideal S256x2048 .f32) (sc : FVec Ideal S1x2048 .f32) : FVec Ideal S256x2048 .f32 :=
  mulf (shapeCast S256x2048 e Cert.CtxNormBwdRefIdeal.Gen.shapeCasts_S256x2048_S256x2048) (broadcastInDim S256x2048 ![0, 1] Cert.CtxNormBwdRefIdeal.Gen.bcast_S1x2048_S256x2048_0_1
    (addf (broadcastInDim S1x2048 ![] Cert.CtxNormBwdRefIdeal.Gen.bcast_S_S1x2048 (constant Cert.CtxNormBwdRefIdeal.S_ .f32 0x3F800000#32)) sc))
def weighed (e : FVec Ideal S256x2048 .f32) (g sc : FVec Ideal S1x2048 .f32) : FVec Ideal S256x2048 .f32 :=
  mulf (scaled e sc) (broadcastInDim S256x2048 ![0, 1] Cert.CtxNormBwdRefIdeal.Gen.bcast_S1x2048_S256x2048_0_1 g)
/-- The gradient of the rows' mean squares, one for each element. -/
def slope (x e : FVec Ideal S256x2048 .f32) (g sc : FVec Ideal S1x2048 .f32) : FVec Ideal S256x2048 .f32 :=
  broadcastInDim S256x2048 ![0] Cert.CtxNormBwdRefIdeal.Gen.bcast_S256_S256x2048_0 (Host.reduceAdd
    (Host.divf (mulf (shapeCast Cert.CtxNormBwdRefIdeal.S256x1 (Host.reduceAdd (mulf x (weighed e g sc)) (constant Cert.CtxNormBwdRefIdeal.S_ .f32 0x00000000#32) Cert.CtxNormBwdRefIdeal.Gen.reducesTo_S256x2048_S256_d1 Cert.CtxNormBwdRefIdeal.Gen.h_S_) Cert.CtxNormBwdRefIdeal.Gen.shapeCasts_S256_S256x1)
      (mulf (broadcastInDim Cert.CtxNormBwdRefIdeal.S256x1 ![] Cert.CtxNormBwdRefIdeal.Gen.bcast_S_S256x1 (constant Cert.CtxNormBwdRefIdeal.S_ .f32 0xBF000000#32)) (Host.divf (inv x) (meanSq x))))
      (broadcastInDim Cert.CtxNormBwdRefIdeal.S256x1 ![] Cert.CtxNormBwdRefIdeal.Gen.bcast_S_S256x1 (constant Cert.CtxNormBwdRefIdeal.S_ .f32 0x45000000#32)))
    (constant Cert.CtxNormBwdRefIdeal.S_ .f32 0x00000000#32) Cert.CtxNormBwdRefIdeal.Gen.reducesTo_S256x1_S256_d1 Cert.CtxNormBwdRefIdeal.Gen.h_S_)
/-- The reference's gradient of the rows, -/
def gradRows (x e r : FVec Ideal S256x2048 .f32) (g sc : FVec Ideal S1x2048 .f32) : FVec Ideal S256x2048 .f32 :=
  addf (addf (addf r (mulf (weighed e g sc) (broadcastInDim S256x2048 ![0, 1] Cert.CtxNormBwdRefIdeal.Gen.bcast_S256x1_S256x2048_0_1 (inv x)))) (mulf x (slope x e g sc)))
    (mulf (slope x e g sc) x)
/-- and the arrays its gradients of the weight and of the scale sum. -/
def termWeight (x e : FVec Ideal S256x2048 .f32) (sc : FVec Ideal S1x2048 .f32) : FVec Ideal S256x2048 .f32 := mulf (unit x) (scaled e sc)
def termScale (x e : FVec Ideal S256x2048 .f32) (g : FVec Ideal S1x2048 .f32) : FVec Ideal S256x2048 .f32 :=
  mulf (mulf (unit x) (broadcastInDim S256x2048 ![0, 1] Cert.CtxNormBwdRefIdeal.Gen.bcast_S1x2048_S256x2048_0_1 g)) (shapeCast S256x2048 e Cert.CtxNormBwdRefIdeal.Gen.shapeCasts_S256x2048_S256x2048)

variable (m : (ℓ : Loc nD τ sig) → Buf (Elt Ideal) ℓ) (c : Dev nD)

theorem V_rows : V m c main_arg0 = m (c, main_arg0) := rfl
theorem V_weight : V m c main_arg1 = m (c, main_arg1) := rfl
theorem V_scale : V m c main_arg2 = m (c, main_arg2) := rfl
theorem V_grad : V m c main_arg4 = m (c, main_arg4) := rfl
theorem V_rest : V m c main_arg5 = m (c, main_arg5) := rfl

theorem emb0 (t : Fin cfg0.N) (i : Fin 256) (d : Fin 2048) : ((cfg0.win 0).blk t).view.emb (ix2 i d) = ix2 i d := by
  blk_ext [idx0]
theorem blk0 (t : Fin cfg0.N) (i : Fin 256) (d : Fin 2048) : iblk m c 0 t (ix2 i d) = m (c, main_arg0) (ix2 i d) := by
  unfold iblk
  rw [View.read_apply, emb0]
  exact congrFun (V_rows m c) _
theorem emb4 (t : Fin cfg0.N) (i : Fin 256) (d : Fin 2048) : ((cfg0.win 4).blk t).view.emb (ix2 i d) = ix2 i d := by
  blk_ext [idx4]
theorem blk4 (t : Fin cfg0.N) (i : Fin 256) (d : Fin 2048) : iblk m c 4 t (ix2 i d) = m (c, main_arg4) (ix2 i d) := by
  unfold iblk
  rw [View.read_apply, emb4]
  exact congrFun (V_grad m c) _
theorem emb5 (t : Fin cfg0.N) (i : Fin 256) (d : Fin 2048) : ((cfg0.win 5).blk t).view.emb (ix2 i d) = ix2 i d := by
  blk_ext [idx5]
theorem blk5 (t : Fin cfg0.N) (i : Fin 256) (d : Fin 2048) : iblk m c 5 t (ix2 i d) = m (c, main_arg5) (ix2 i d) := by
  unfold iblk
  rw [View.read_apply, emb5]
  exact congrFun (V_rest m c) _
theorem emb6 (t : Fin cfg0.N) (i : Fin 256) (d : Fin 2048) : ((cfg0.win 6).blk t).view.emb (ix2 i d) = ix2 i d := by
  blk_ext [idx6]
theorem emb1 (t : Fin cfg0.N) (d : Fin 2048) : ((cfg0.win 1).blk t).view.emb (ix2 0 d) = ix2 0 d := by
  blk_ext [idx1]
theorem blk1 (t : Fin cfg0.N) (d : Fin 2048) : iblk m c 1 t (ix2 0 d) = m (c, main_arg1) (ix2 0 d) := by
  unfold iblk
  rw [View.read_apply, emb1]
  exact congrFun (V_weight m c) _
theorem emb2 (t : Fin cfg0.N) (d : Fin 2048) : ((cfg0.win 2).blk t).view.emb (ix2 0 d) = ix2 0 d := by
  blk_ext [idx2]
theorem blk2 (t : Fin cfg0.N) (d : Fin 2048) : iblk m c 2 t (ix2 0 d) = m (c, main_arg2) (ix2 0 d) := by
  unfold iblk
  rw [View.read_apply, emb2]
  exact congrFun (V_scale m c) _
theorem emb7 (t : Fin cfg0.N) (d : Fin 2048) : ((cfg0.win 7).blk t).view.emb (ix2 0 d) = ix2 0 d := by
  blk_ext [idx7]
theorem emb8 (t : Fin cfg0.N) (d : Fin 2048) : ((cfg0.win 8).blk t).view.emb (ix2 0 d) = ix2 0 d := by
  blk_ext [idx8]
theorem emb9 (t : Fin cfg0.N) (d : Fin 2048) : ((cfg0.win 9).blk t).view.emb (ix2 0 d) = ix2 0 d := by
  blk_ext [idx9]

theorem zero7 (y : S1x2048.Idx) : k0_pay2 (F := Ideal) y = (0 : EReal) := by
  obtain ⟨i, d, rfl⟩ : ∃ i d, y = ix2 i d := ⟨_, _, eq_ix2 y⟩
  pointwise [k0_pay2]
theorem zero8 (y : S1x2048.Idx) : k0_pay3 (F := Ideal) y = (0 : EReal) := zero7 y
theorem zero9 (y : S1x2048.Idx) : k0_pay4 (F := Ideal) y = (0 : EReal) := zero7 y

theorem step7 (a : Vec Ideal S1x2048 .f32) (t : Fin cfg0.N) (y : S1x2048.Idx) :
    k0_pay5 (k0_pay15 (iblk m c 0 t) (iblk m c 2 t) (iblk m c 4 t)) a y
      = a y + total (termWeight (m (c, main_arg0)) (m (c, main_arg4)) (m (c, main_arg2))) y := by
  obtain ⟨i, d, rfl⟩ : ∃ i d, y = ix2 i d := ⟨_, _, eq_ix2 y⟩
  obtain rfl : i = 0 := Fin.ext (by omega)
  rw [total_at]
  pointwise [k0_pay5, k0_pay15, k0_pay14, k0_pay11, k0_pay10, k0_pay9, k0_pay8, termWeight, unit, scaled, inv, meanSq]
  simp only [blk0, blk2, blk4]
theorem step8 (a : Vec Ideal S1x2048 .f32) (t : Fin cfg0.N) (y : S1x2048.Idx) :
    k0_pay6 (k0_pay13 (iblk m c 0 t) (iblk m c 1 t) (iblk m c 4 t)) a y
      = a y + total (termScale (m (c, main_arg0)) (m (c, main_arg4)) (m (c, main_arg1))) y := by
  obtain ⟨i, d, rfl⟩ : ∃ i d, y = ix2 i d := ⟨_, _, eq_ix2 y⟩
  obtain rfl : i = 0 := Fin.ext (by omega)
  rw [total_at]
  pointwise [k0_pay6, k0_pay13, k0_pay11, k0_pay10, k0_pay9, k0_pay8, termScale, unit, inv, meanSq]
  simp only [blk0, blk1, blk4]
theorem step9 (a : Vec Ideal S1x2048 .f32) (t : Fin cfg0.N) (y : S1x2048.Idx) :
    k0_pay7 (k0_pay12 (iblk m c 4 t)) a y = a y + total (m (c, main_arg4)) y := by
  obtain ⟨i, d, rfl⟩ : ∃ i d, y = ix2 i d := ⟨_, _, eq_ix2 y⟩
  obtain rfl : i = 0 := Fin.ext (by omega)
  rw [total_at]
  pointwise [k0_pay7, k0_pay12]
  simp only [blk4]

/-- The order of the four summands is of no account. -/
theorem four (a b e f : EReal) : a + b + e + f = f + a + b + e := by
  rw [add_comm f a, add_right_comm a f b, add_right_comm _ f e]

theorem pay_at (t : Fin cfg0.N) (i : Fin 256) (d : Fin 2048) :
    k0_pay1 (iblk m c 0 t) (k0_pay17 (iblk m c 0 t) (iblk m c 1 t) (iblk m c 2 t) (iblk m c 4 t))
        (k0_pay18 (iblk m c 0 t) (iblk m c 1 t) (iblk m c 2 t) (iblk m c 4 t)) (k0_pay19 (F := Ideal)) (iblk m c 5 t) (ix2 i d)
      = gradRows (m (c, main_arg0)) (m (c, main_arg4)) (m (c, main_arg5)) (m (c, main_arg1)) (m (c, main_arg2)) (ix2 i d) := by
  pointwise [k0_pay1, k0_pay17, k0_pay18, k0_pay19, k0_pay16, k0_pay14, k0_pay11, k0_pay9, k0_pay8, gradRows, slope, weighed, scaled, inv, meanSq]
  simp only [blk0, blk1, blk2, blk4, blk5]
  exact four _ _ _ _

/-- The block of the gradient of the rows, -/
theorem rows_at (t : Fin cfg0.N) (i : Fin 256) (d : Fin 2048) :
    (outsAt0 m c t).1 (ix2 i d)
      = gradRows (m (c, main_arg0)) (m (c, main_arg4)) (m (c, main_arg5)) (m (c, main_arg1)) (m (c, main_arg2)) (ix2 i d) := by
  rw [← pay_at m c t]
  simp only [outsAt0]
  frame_out
/-- of the weight, -/
theorem total7 (t : Fin cfg0.N) (d : Fin 2048) :
    (outsAt0 m c t).2.1 (ix2 0 d) = total (termWeight (m (c, main_arg0)) (m (c, main_arg4)) (m (c, main_arg2))) (ix2 0 d) := by
  simp only [outsAt0]
  frame_out
  rw [step7, zero7, zero_add]
/-- of the scale, -/
theorem total8 (t : Fin cfg0.N) (d : Fin 2048) :
    (outsAt0 m c t).2.2.1 (ix2 0 d) = total (termScale (m (c, main_arg0)) (m (c, main_arg4)) (m (c, main_arg1))) (ix2 0 d) := by
  simp only [outsAt0]
  frame_out
  rw [step8, zero8, zero_add]
/-- and of the shift. -/
theorem total9 (t : Fin cfg0.N) (d : Fin 2048) :
    (outsAt0 m c t).2.2.2 (ix2 0 d) = total (m (c, main_arg4)) (ix2 0 d) := by
  simp only [outsAt0]
  frame_out
  rw [step9, zero9, zero_add]

/-- The kernel's four arrays are the reference's. -/
theorem value6 : (dats m 0 c).arrAt 6 cfg0.N
    = gradRows (m (c, main_arg0)) (m (c, main_arg4)) (m (c, main_arg5)) (m (c, main_arg1)) (m (c, main_arg2)) := by
  refine Pipeline.Dat.arrAt_eq_of_covers _ 6 _ (by decide +kernel) fun t hf (y : S256x2048.Idx) => ?_
  obtain ⟨i, d, rfl⟩ : ∃ i d, y = ix2 i d := ⟨_, _, eq_ix2 y⟩
  rw [emb6]
  show (dats m 0 c).after 6 t (ix2 i d) = _
  rw [after0_6, rows_at]
theorem value7 : (dats m 0 c).arrAt 7 cfg0.N = total (termWeight (m (c, main_arg0)) (m (c, main_arg4)) (m (c, main_arg2))) := by
  refine Pipeline.Dat.arrAt_eq_of_covers _ 7 _ (by decide +kernel) fun t hf (y : S1x2048.Idx) => ?_
  obtain ⟨i, d, rfl⟩ : ∃ i d, y = ix2 i d := ⟨_, _, eq_ix2 y⟩
  obtain rfl : i = 0 := Fin.ext (by omega)
  rw [emb7]
  show (dats m 0 c).after 7 t (ix2 0 d) = _
  rw [after0_7, total7]
theorem value8 : (dats m 0 c).arrAt 8 cfg0.N = total (termScale (m (c, main_arg0)) (m (c, main_arg4)) (m (c, main_arg1))) := by
  refine Pipeline.Dat.arrAt_eq_of_covers _ 8 _ (by decide +kernel) fun t hf (y : S1x2048.Idx) => ?_
  obtain ⟨i, d, rfl⟩ : ∃ i d, y = ix2 i d := ⟨_, _, eq_ix2 y⟩
  obtain rfl : i = 0 := Fin.ext (by omega)
  rw [emb8]
  show (dats m 0 c).after 8 t (ix2 0 d) = _
  rw [after0_8, total8]
theorem value9 : (dats m 0 c).arrAt 9 cfg0.N = total (m (c, main_arg4)) := by
  refine Pipeline.Dat.arrAt_eq_of_covers _ 9 _ (by decide +kernel) fun t hf (y : S1x2048.Idx) => ?_
  obtain ⟨i, d, rfl⟩ : ∃ i d, y = ix2 i d := ⟨_, _, eq_ix2 y⟩
  obtain rfl : i = 0 := Fin.ext (by omega)
  rw [emb9]
  show (dats m 0 c).after 9 t (ix2 0 d) = _
  rw [after0_9, total9]

end Cert.CtxNormBwdIdeal.Head

end
-- ==== Proof.HeadMixNormBwd.lean ====
module

public import proofs.«01_k».proof.Proof.Gen.MixcNormBwdIdeal.Value
public import proofs.«01_k».proof.Proof.Gen.MixcNormBwdRefIdeal.Run
public import Idealize.ShloMosaic.Lib.Pipeline.ValueKit.Point
public import Idealize.ShloMosaic.Lib.Pointwise

@[expose] public section

set_option maxRecDepth 16384

/-! Over the context tokens, the gradients of the norm with the modulation of the mixer, which adds no residual: the kernel's four blocks are the reference's arrays. -/

noncomputable section

namespace Cert.MixcNormBwdIdeal.Head

open Cert.MixcNormBwdIdeal Cert.MixcNormBwdIdeal.Gen
open Idealize.ShloMosaic Idealize.ShloMosaic.TcCoe Idealize.SL.Sem Idealize.ShloMosaic.Pointwise
open scoped BigOperators

theorem idx0 : ∀ t : Fin cfg0.N, win0_0.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)

/-- The reference's sum down the columns. -/
def total (f : FVec Ideal S256x2048 .f32) : FVec Ideal S1x2048 .f32 :=
  shapeCast S1x2048 (Host.reduceAdd f (constant Cert.MixcNormBwdRefIdeal.S_ .f32 0x00000000#32) Cert.MixcNormBwdRefIdeal.Gen.reducesTo_S256x2048_S2048_d0 Cert.MixcNormBwdRefIdeal.Gen.h_S_) Cert.MixcNormBwdRefIdeal.Gen.shapeCasts_S2048_S1x2048
theorem total_at (f : FVec Ideal S256x2048 .f32) (d : Fin 2048) : total f (ix2 0 d) = ∑ k : Fin 256, f (ix2 k d) := by
  pointwise [total]

/-- The rows' mean squares with the constant added, and their inverse roots, one for each row, -/
def meanSq (x : FVec Ideal S256x2048 .f32) : FVec Ideal Cert.MixcNormBwdRefIdeal.S256x1 .f32 :=
  addf (Host.divf (broadcastInDim Cert.MixcNormBwdRefIdeal.S256x1 ![0] Cert.MixcNormBwdRefIdeal.Gen.bcast_S256_S256x1_0
      (Host.reduceAdd (mulf x x) (constant Cert.MixcNormBwdRefIdeal.S_ .f32 0x00000000#32) Cert.MixcNormBwdRefIdeal.Gen.reducesTo_S256x2048_S256_d1 Cert.MixcNormBwdRefIdeal.Gen.h_S_))
      (broadcastInDim Cert.MixcNormBwdRefIdeal.S256x1 ![] Cert.MixcNormBwdRefIdeal.Gen.bcast_S_S256x1 (constant Cert.MixcNormBwdRefIdeal.S_ .f32 0x45000000#32)))
    (broadcastInDim Cert.MixcNormBwdRefIdeal.S256x1 ![] Cert.MixcNormBwdRefIdeal.Gen.bcast_S_S256x1 (constant Cert.MixcNormBwdRefIdeal.S_ .f32 0x358637BD#32))
def inv (x : FVec Ideal S256x2048 .f32) : FVec Ideal Cert.MixcNormBwdRefIdeal.S256x1 .f32 := Host.rsqrt (meanSq x)
/-- the rows over their root mean squares, -/
def unit (x : FVec Ideal S256x2048 .f32) : FVec Ideal S256x2048 .f32 :=
  mulf x (broadcastInDim S256x2048 ![0, 1] Cert.MixcNormBwdRefIdeal.Gen.bcast_S256x1_S256x2048_0_1 (inv x))
/-- the given gradient with the scale, and with the weight. -/
def scaled (e : FVec Ideal S256x2048 .f32) (sc : FVec Ideal S1x2048 .f32) : FVec Ideal S256x2048 .f32 :=
  mulf (shapeCast S256x2048 e Cert.MixcNormBwdRefIdeal.Gen.shapeCasts_S256x2048_S256x2048) (broadcastInDim S256x2048 ![0, 1] Cert.MixcNormBwdRefIdeal.Gen.bcast_S1x2048_S256x2048_0_1
    (addf (broadcastInDim S1x2048 ![] Cert.MixcNormBwdRefIdeal.Gen.bcast_S_S1x2048 (constant Cert.MixcNormBwdRefIdeal.S_ .f32 0x3F800000#32)) sc))
def weighed (e : FVec Ideal S256x2048 .f32) (g sc : FVec Ideal S1x2048 .f32) : FVec Ideal S256x2048 .f32 :=
  mulf (scaled e sc) (broadcastInDim S256x2048 ![0, 1] Cert.MixcNormBwdRefIdeal.Gen.bcast_S1x2048_S256x2048_0_1 g)
/-- The gradient of the rows' mean squares, one for each element. -/
def slope (x e : FVec Ideal S256x2048 .f32) (g sc : FVec Ideal S1x2048 .f32) : FVec Ideal S256x2048 .f32 :=
  broadcastInDim S256x2048 ![0] Cert.MixcNormBwdRefIdeal.Gen.bcast_S256_S256x2048_0 (Host.reduceAdd
    (Host.divf (mulf (shapeCast Cert.MixcNormBwdRefIdeal.S256x1 (Host.reduceAdd (mulf x (weighed e g sc)) (constant Cert.MixcNormBwdRefIdeal.S_ .f32 0x00000000#32) Cert.MixcNormBwdRefIdeal.Gen.reducesTo_S256x2048_S256_d1 Cert.MixcNormBwdRefIdeal.Gen.h_S_) Cert.MixcNormBwdRefIdeal.Gen.shapeCasts_S256_S256x1)
      (mulf (broadcastInDim Cert.MixcNormBwdRefIdeal.S256x1 ![] Cert.MixcNormBwdRefIdeal.Gen.bcast_S_S256x1 (constant Cert.MixcNormBwdRefIdeal.S_ .f32 0xBF000000#32)) (Host.divf (inv x) (meanSq x))))
      (broadcastInDim Cert.MixcNormBwdRefIdeal.S256x1 ![] Cert.MixcNormBwdRefIdeal.Gen.bcast_S_S256x1 (constant Cert.MixcNormBwdRefIdeal.S_ .f32 0x45000000#32)))
    (constant Cert.MixcNormBwdRefIdeal.S_ .f32 0x00000000#32) Cert.MixcNormBwdRefIdeal.Gen.reducesTo_S256x1_S256_d1 Cert.MixcNormBwdRefIdeal.Gen.h_S_)
/-- The reference's gradient of the rows, -/
def gradRows (x e : FVec Ideal S256x2048 .f32) (g sc : FVec Ideal S1x2048 .f32) : FVec Ideal S256x2048 .f32 :=
  addf (addf (mulf (weighed e g sc) (broadcastInDim S256x2048 ![0, 1] Cert.MixcNormBwdRefIdeal.Gen.bcast_S256x1_S256x2048_0_1 (inv x))) (mulf x (slope x e g sc)))
    (mulf (slope x e g sc) x)
/-- and the arrays its gradients of the weight and of the scale sum. -/
def termWeight (x e : FVec Ideal S256x2048 .f32) (sc : FVec Ideal S1x2048 .f32) : FVec Ideal S256x2048 .f32 := mulf (unit x) (scaled e sc)
def termScale (x e : FVec Ideal S256x2048 .f32) (g : FVec Ideal S1x2048 .f32) : FVec Ideal S256x2048 .f32 :=
  mulf (mulf (unit x) (broadcastInDim S256x2048 ![0, 1] Cert.MixcNormBwdRefIdeal.Gen.bcast_S1x2048_S256x2048_0_1 g)) (shapeCast S256x2048 e Cert.MixcNormBwdRefIdeal.Gen.shapeCasts_S256x2048_S256x2048)

variable (m : (ℓ : Loc nD τ sig) → Buf (Elt Ideal) ℓ) (c : Dev nD)

theorem V_rows : V m c main_arg0 = m (c, main_arg0) := rfl
theorem V_weight : V m c main_arg1 = m (c, main_arg1) := rfl
theorem V_scale : V m c main_arg2 = m (c, main_arg2) := rfl
theorem V_grad : V m c main_arg4 = m (c, main_arg4) := rfl

theorem emb0 (t : Fin cfg0.N) (i : Fin 256) (d : Fin 2048) : ((cfg0.win 0).blk t).view.emb (ix2 i d) = ix2 i d := by
  blk_ext [idx0]
theorem blk0 (t : Fin cfg0.N) (i : Fin 256) (d : Fin 2048) : iblk m c 0 t (ix2 i d) = m (c, main_arg0) (ix2 i d) := by
  unfold iblk
  rw [View.read_apply, emb0]
  exact congrFun (V_rows m c) _
theorem emb4 (t : Fin cfg0.N) (i : Fin 256) (d : Fin 2048) : ((cfg0.win 4).blk t).view.emb (ix2 i d) = ix2 i d := by
  blk_ext [idx4]
theorem blk4 (t : Fin cfg0.N) (i : Fin 256) (d : Fin 2048) : iblk m c 4 t (ix2 i d) = m (c, main_arg4) (ix2 i d) := by
  unfold iblk
  rw [View.read_apply, emb4]
  exact congrFun (V_grad m c) _
theorem emb5 (t : Fin cfg0.N) (i : Fin 256) (d : Fin 2048) : ((cfg0.win 5).blk t).view.emb (ix2 i d) = ix2 i d := by
  blk_ext [idx5]
theorem emb1 (t : Fin cfg0.N) (d : Fin 2048) : ((cfg0.win 1).blk t).view.emb (ix2 0 d) = ix2 0 d := by
  blk_ext [idx1]
theorem blk1 (t : Fin cfg0.N) (d : Fin 2048) : iblk m c 1 t (ix2 0 d) = m (c, main_arg1) (ix2 0 d) := by
  unfold iblk
  rw [View.read_apply, emb1]
  exact congrFun (V_weight m c) _
theorem emb2 (t : Fin cfg0.N) (d : Fin 2048) : ((cfg0.win 2).blk t).view.emb (ix2 0 d) = ix2 0 d := by
  blk_ext [idx2]
theorem blk2 (t : Fin cfg0.N) (d : Fin 2048) : iblk m c 2 t (ix2 0 d) = m (c, main_arg2) (ix2 0 d) := by
  unfold iblk
  rw [View.read_apply, emb2]
  exact congrFun (V_scale m c) _
theorem emb6 (t : Fin cfg0.N) (d : Fin 2048) : ((cfg0.win 6).blk t).view.emb (ix2 0 d) = ix2 0 d := by
  blk_ext [idx6]
theorem emb7 (t : Fin cfg0.N) (d : Fin 2048) : ((cfg0.win 7).blk t).view.emb (ix2 0 d) = ix2 0 d := by
  blk_ext [idx7]
theorem emb8 (t : Fin cfg0.N) (d : Fin 2048) : ((cfg0.win 8).blk t).view.emb (ix2 0 d) = ix2 0 d := by
  blk_ext [idx8]

theorem zero7 (y : S1x2048.Idx) : k0_pay2 (F := Ideal) y = (0 : EReal) := by
  obtain ⟨i, d, rfl⟩ : ∃ i d, y = ix2 i d := ⟨_, _, eq_ix2 y⟩
  pointwise [k0_pay2]
theorem zero8 (y : S1x2048.Idx) : k0_pay3 (F := Ideal) y = (0 : EReal) := zero7 y
theorem zero9 (y : S1x2048.Idx) : k0_pay4 (F := Ideal) y = (0 : EReal) := zero7 y

theorem step7 (a : Vec Ideal S1x2048 .f32) (t : Fin cfg0.N) (y : S1x2048.Idx) :
    k0_pay5 (k0_pay15 (iblk m c 0 t) (iblk m c 2 t) (iblk m c 4 t)) a y
      = a y + total (termWeight (m (c, main_arg0)) (m (c, main_arg4)) (m (c, main_arg2))) y := by
  obtain ⟨i, d, rfl⟩ : ∃ i d, y = ix2 i d := ⟨_, _, eq_ix2 y⟩
  obtain rfl : i = 0 := Fin.ext (by omega)
  rw [total_at]
  pointwise [k0_pay5, k0_pay15, k0_pay14, k0_pay11, k0_pay10, k0_pay9, k0_pay8, termWeight, unit, scaled, inv, meanSq]
  simp only [blk0, blk2, blk4]
theorem step8 (a : Vec Ideal S1x2048 .f32) (t : Fin cfg0.N) (y : S1x2048.Idx) :
    k0_pay6 (k0_pay13 (iblk m c 0 t) (iblk m c 1 t) (iblk m c 4 t)) a y
      = a y + total (termScale (m (c, main_arg0)) (m (c, main_arg4)) (m (c, main_arg1))) y := by
  obtain ⟨i, d, rfl⟩ : ∃ i d, y = ix2 i d := ⟨_, _, eq_ix2 y⟩
  obtain rfl : i = 0 := Fin.ext (by omega)
  rw [total_at]
  pointwise [k0_pay6, k0_pay13, k0_pay11, k0_pay10, k0_pay9, k0_pay8, termScale, unit, inv, meanSq]
  simp only [blk0, blk1, blk4]
theorem step9 (a : Vec Ideal S1x2048 .f32) (t : Fin cfg0.N) (y : S1x2048.Idx) :
    k0_pay7 (k0_pay12 (iblk m c 4 t)) a y = a y + total (m (c, main_arg4)) y := by
  obtain ⟨i, d, rfl⟩ : ∃ i d, y = ix2 i d := ⟨_, _, eq_ix2 y⟩
  obtain rfl : i = 0 := Fin.ext (by omega)
  rw [total_at]
  pointwise [k0_pay7, k0_pay12]
  simp only [blk4]

theorem pay_at (t : Fin cfg0.N) (i : Fin 256) (d : Fin 2048) :
    k0_pay1 (iblk m c 0 t) (k0_pay17 (iblk m c 0 t) (iblk m c 1 t) (iblk m c 2 t) (iblk m c 4 t))
        (k0_pay18 (iblk m c 0 t) (iblk m c 1 t) (iblk m c 2 t) (iblk m c 4 t)) (k0_pay19 (F := Ideal)) (ix2 i d)
      = gradRows (m (c, main_arg0)) (m (c, main_arg4)) (m (c, main_arg1)) (m (c, main_arg2)) (ix2 i d) := by
  pointwise [k0_pay1, k0_pay17, k0_pay18, k0_pay19, k0_pay16, k0_pay14, k0_pay11, k0_pay9, k0_pay8, gradRows, slope, weighed, scaled, inv, meanSq]
  simp only [blk0, blk1, blk2, blk4]

/-- The block of the gradient of the rows, -/
theorem rows_at (t : Fin cfg0.N) (i : Fin 256) (d : Fin 2048) :
    (outsAt0 m c t).1 (ix2 i d)
      = gradRows (m (c, main_arg0)) (m (c, main_arg4)) (m (c, main_arg1)) (m (c, main_arg2)) (ix2 i d) := by
  rw [← pay_at m c t]
  simp only [outsAt0]
  frame_out
/-- of the weight, -/
theorem total7 (t : Fin cfg0.N) (d : Fin 2048) :
    (outsAt0 m c t).2.1 (ix2 0 d) = total (termWeight (m (c, main_arg0)) (m (c, main_arg4)) (m (c, main_arg2))) (ix2 0 d) := by
  simp only [outsAt0]
  frame_out
  rw [step7, zero7, zero_add]
/-- of the scale, -/
theorem total8 (t : Fin cfg0.N) (d : Fin 2048) :
    (outsAt0 m c t).2.2.1 (ix2 0 d) = total (termScale (m (c, main_arg0)) (m (c, main_arg4)) (m (c, main_arg1))) (ix2 0 d) := by
  simp only [outsAt0]
  frame_out
  rw [step8, zero8, zero_add]
/-- and of the shift. -/
theorem total9 (t : Fin cfg0.N) (d : Fin 2048) :
    (outsAt0 m c t).2.2.2 (ix2 0 d) = total (m (c, main_arg4)) (ix2 0 d) := by
  simp only [outsAt0]
  frame_out
  rw [step9, zero9, zero_add]

/-- The kernel's four arrays are the reference's. -/
theorem value5 : (dats m 0 c).arrAt 5 cfg0.N
    = gradRows (m (c, main_arg0)) (m (c, main_arg4)) (m (c, main_arg1)) (m (c, main_arg2)) := by
  refine Pipeline.Dat.arrAt_eq_of_covers _ 5 _ (by decide +kernel) fun t hf (y : S256x2048.Idx) => ?_
  obtain ⟨i, d, rfl⟩ : ∃ i d, y = ix2 i d := ⟨_, _, eq_ix2 y⟩
  rw [emb5]
  show (dats m 0 c).after 5 t (ix2 i d) = _
  rw [after0_5, rows_at]
theorem value6 : (dats m 0 c).arrAt 6 cfg0.N = total (termWeight (m (c, main_arg0)) (m (c, main_arg4)) (m (c, main_arg2))) := by
  refine Pipeline.Dat.arrAt_eq_of_covers _ 6 _ (by decide +kernel) fun t hf (y : S1x2048.Idx) => ?_
  obtain ⟨i, d, rfl⟩ : ∃ i d, y = ix2 i d := ⟨_, _, eq_ix2 y⟩
  obtain rfl : i = 0 := Fin.ext (by omega)
  rw [emb6]
  show (dats m 0 c).after 6 t (ix2 0 d) = _
  rw [after0_6, total7]
theorem value7 : (dats m 0 c).arrAt 7 cfg0.N = total (termScale (m (c, main_arg0)) (m (c, main_arg4)) (m (c, main_arg1))) := by
  refine Pipeline.Dat.arrAt_eq_of_covers _ 7 _ (by decide +kernel) fun t hf (y : S1x2048.Idx) => ?_
  obtain ⟨i, d, rfl⟩ : ∃ i d, y = ix2 i d := ⟨_, _, eq_ix2 y⟩
  obtain rfl : i = 0 := Fin.ext (by omega)
  rw [emb7]
  show (dats m 0 c).after 7 t (ix2 0 d) = _
  rw [after0_7, total8]
theorem value8 : (dats m 0 c).arrAt 8 cfg0.N = total (m (c, main_arg4)) := by
  refine Pipeline.Dat.arrAt_eq_of_covers _ 8 _ (by decide +kernel) fun t hf (y : S1x2048.Idx) => ?_
  obtain ⟨i, d, rfl⟩ : ∃ i d, y = ix2 i d := ⟨_, _, eq_ix2 y⟩
  obtain rfl : i = 0 := Fin.ext (by omega)
  rw [emb8]
  show (dats m 0 c).after 8 t (ix2 0 d) = _
  rw [after0_8, total9]

end Cert.MixcNormBwdIdeal.Head

end
-- ==== Proof.HeadLoss.lean ====
module

public import proofs.«01_k».proof.Proof.Gen.LossIdeal.Value
public import proofs.«01_k».proof.Proof.Gen.LossRefIdeal.Run
public import Idealize.ShloMosaic.Lib.Pipeline.ValueKit.Point
public import Idealize.ShloMosaic.Lib.Pointwise

@[expose] public section

set_option maxRecDepth 16384

/-! The loss at the end of the network, half the mean square of the normed rows' distances to their targets, for each 256 rows, with
its gradients: the kernel's row blocks of the losses and of the rows' gradient are those of the reference's arrays, and the sums of
its row blocks add up to the reference's gradient of the weight. -/

noncomputable section

namespace Cert.LossIdeal.Head

open Cert.LossIdeal Cert.LossIdeal.Gen
open Idealize.ShloMosaic Idealize.ShloMosaic.TcCoe Idealize.SL.Sem Idealize.ShloMosaic.Pointwise
open scoped BigOperators

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![0, 0] := (by decide +kernel : ∀ t : Fin grid0.N, _)

/-- The row of the arrays under row `i` of a point's block. -/
def row (t : Fin cfg0.N) (i : Fin 256) : Fin 8192 := ⟨t.val * 256 + i.val, by have := t.isLt.trans_eq N_0; omega⟩

/-- The sum down one column of a point's rows. -/
def part (f : FVec Ideal S8192x2048 .f32) (t : Fin cfg0.N) (y : S1x2048.Idx) : EReal := ∑ k : Fin 256, f (ix2 (row t k) (y 1))
theorem part_at (f : FVec Ideal S8192x2048 .f32) (t : Fin cfg0.N) (d : Fin 2048) :
    part f t (ix2 0 d) = ∑ k : Fin 256, f (ix2 (row t k) d) := rfl

/-- The thirty-two parts are the sum of all the rows. -/
theorem whole (f : FVec Ideal S8192x2048 .f32) (t : Fin cfg0.N) (ht : t.val % 32 = 32 - 1) (d : Fin 2048) :
    ∑ s : Fin 32, part f ⟨32 * (t.val / 32) + s.val, Pipeline.run_point_lt_of_flush t ht s⟩ (ix2 0 d) = ∑ k : Fin 8192, f (ix2 k d) := by
  refine Fin.sum_mul_add_congr fun s k _ => ?_
  refine congrArg _ (congrArg (fun r => ix2 r d) (Fin.ext ?_))
  have := t.isLt.trans_eq N_0
  simp only [row]
  omega

/-- The reference's sum down the columns. -/
def total (f : FVec Ideal S8192x2048 .f32) : FVec Ideal S1x2048 .f32 :=
  shapeCast S1x2048 (Host.reduceAdd f (constant Cert.LossRefIdeal.S_ .f32 0x00000000#32) Cert.LossRefIdeal.Gen.reducesTo_S8192x2048_S2048_d0 Cert.LossRefIdeal.Gen.h_S_) Cert.LossRefIdeal.Gen.shapeCasts_S2048_S1x2048
theorem total_at (f : FVec Ideal S8192x2048 .f32) (d : Fin 2048) : total f (ix2 0 d) = ∑ k : Fin 8192, f (ix2 k d) := by
  pointwise [total]

/-- The rows' mean squares with the constant added, and their inverse roots, one for each row, -/
def meanSq (x : FVec Ideal S8192x2048 .f32) : FVec Ideal Cert.LossRefIdeal.S8192x1 .f32 :=
  addf (Host.divf (broadcastInDim Cert.LossRefIdeal.S8192x1 ![0] Cert.LossRefIdeal.Gen.bcast_S8192_S8192x1_0
      (Host.reduceAdd (mulf x x) (constant Cert.LossRefIdeal.S_ .f32 0x00000000#32) Cert.LossRefIdeal.Gen.reducesTo_S8192x2048_S8192_d1 Cert.LossRefIdeal.Gen.h_S_))
      (broadcastInDim Cert.LossRefIdeal.S8192x1 ![] Cert.LossRefIdeal.Gen.bcast_S_S8192x1 (constant Cert.LossRefIdeal.S_ .f32 0x45000000#32)))
    (broadcastInDim Cert.LossRefIdeal.S8192x1 ![] Cert.LossRefIdeal.Gen.bcast_S_S8192x1 (constant Cert.LossRefIdeal.S_ .f32 0x358637BD#32))
def inv (x : FVec Ideal S8192x2048 .f32) : FVec Ideal Cert.LossRefIdeal.S8192x1 .f32 := Host.rsqrt (meanSq x)
/-- the rows over their root mean squares, -/
def unit (x : FVec Ideal S8192x2048 .f32) : FVec Ideal S8192x2048 .f32 :=
  mulf x (broadcastInDim S8192x2048 ![0, 1] Cert.LossRefIdeal.Gen.bcast_S8192x1_S8192x2048_0_1 (inv x))
/-- the distances to the targets, -/
def err (x y : FVec Ideal S8192x2048 .f32) (g : FVec Ideal S1x2048 .f32) : FVec Ideal S8192x2048 .f32 := subf (mulf (unit x) (broadcastInDim S8192x2048 ![0, 1] Cert.LossRefIdeal.Gen.bcast_S1x2048_S8192x2048_0_1 g)) y
/-- and the gradient of the losses by these distances. -/
def slopeErr (x y : FVec Ideal S8192x2048 .f32) (g : FVec Ideal S1x2048 .f32) : FVec Ideal S8192x2048 .f32 :=
  mulf (broadcastInDim S8192x2048 ![0] Cert.LossRefIdeal.Gen.bcast_S8192_S8192x2048_0
      (Host.divf (broadcastInDim Cert.LossRefIdeal.S8192 ![] Cert.LossRefIdeal.Gen.bcast_S_S8192 (mulf (constant Cert.LossRefIdeal.S_ .f32 0x3F000000#32) (constant Cert.LossRefIdeal.S_ .f32 0x3F800000#32)))
        (broadcastInDim Cert.LossRefIdeal.S8192 ![] Cert.LossRefIdeal.Gen.bcast_S_S8192 (constant Cert.LossRefIdeal.S_ .f32 0x45000000#32))))
    (mulf (broadcastInDim S8192x2048 ![] Cert.LossRefIdeal.Gen.bcast_S_S8192x2048 (constant Cert.LossRefIdeal.S_ .f32 0x40000000#32)) (err x y g))
def weighed (x y : FVec Ideal S8192x2048 .f32) (g : FVec Ideal S1x2048 .f32) : FVec Ideal S8192x2048 .f32 := mulf (slopeErr x y g) (broadcastInDim S8192x2048 ![0, 1] Cert.LossRefIdeal.Gen.bcast_S1x2048_S8192x2048_0_1 g)
/-- The gradient of the rows' mean squares, one for each element. -/
def slope (x y : FVec Ideal S8192x2048 .f32) (g : FVec Ideal S1x2048 .f32) : FVec Ideal S8192x2048 .f32 :=
  broadcastInDim S8192x2048 ![0] Cert.LossRefIdeal.Gen.bcast_S8192_S8192x2048_0 (Host.reduceAdd
    (Host.divf (mulf (shapeCast Cert.LossRefIdeal.S8192x1 (Host.reduceAdd (mulf x (weighed x y g)) (constant Cert.LossRefIdeal.S_ .f32 0x00000000#32) Cert.LossRefIdeal.Gen.reducesTo_S8192x2048_S8192_d1 Cert.LossRefIdeal.Gen.h_S_) Cert.LossRefIdeal.Gen.shapeCasts_S8192_S8192x1)
      (mulf (broadcastInDim Cert.LossRefIdeal.S8192x1 ![] Cert.LossRefIdeal.Gen.bcast_S_S8192x1 (constant Cert.LossRefIdeal.S_ .f32 0xBF000000#32)) (Host.divf (inv x) (meanSq x))))
      (broadcastInDim Cert.LossRefIdeal.S8192x1 ![] Cert.LossRefIdeal.Gen.bcast_S_S8192x1 (constant Cert.LossRefIdeal.S_ .f32 0x45000000#32)))
    (constant Cert.LossRefIdeal.S_ .f32 0x00000000#32) Cert.LossRefIdeal.Gen.reducesTo_S8192x1_S8192_d1 Cert.LossRefIdeal.Gen.h_S_)
/-- The reference's gradient of the rows, -/
def gradRows (x y : FVec Ideal S8192x2048 .f32) (g : FVec Ideal S1x2048 .f32) : FVec Ideal S8192x2048 .f32 :=
  addf (addf (mulf (weighed x y g) (broadcastInDim S8192x2048 ![0, 1] Cert.LossRefIdeal.Gen.bcast_S8192x1_S8192x2048_0_1 (inv x))) (mulf x (slope x y g)))
    (mulf (slope x y g) x)
/-- the array its gradient of the weight sums, -/
def termWeight (x y : FVec Ideal S8192x2048 .f32) (g : FVec Ideal S1x2048 .f32) : FVec Ideal S8192x2048 .f32 := mulf (unit x) (slopeErr x y g)
/-- the rows' mean square distances, -/
def tokens (x y : FVec Ideal S8192x2048 .f32) (g : FVec Ideal S1x2048 .f32) : FVec Ideal Cert.LossRefIdeal.S8192 .f32 :=
  Host.divf (Host.reduceAdd (mulf (err x y g) (err x y g)) (constant Cert.LossRefIdeal.S_ .f32 0x00000000#32) Cert.LossRefIdeal.Gen.reducesTo_S8192x2048_S8192_d1 Cert.LossRefIdeal.Gen.h_S_)
    (broadcastInDim Cert.LossRefIdeal.S8192 ![] Cert.LossRefIdeal.Gen.bcast_S_S8192 (constant Cert.LossRefIdeal.S_ .f32 0x45000000#32))
/-- and half their sums, one for each 256 rows. -/
def losses (f : FVec Ideal Cert.LossRefIdeal.S8192 .f32) : FVec Ideal S32x1x128 .f32 :=
  broadcastInDim S32x1x128 ![0, 1, 2] Cert.LossRefIdeal.Gen.bcast_S32x1x1_S32x1x128_0_1_2 (broadcastInDim Cert.LossRefIdeal.S32x1x1 ![0] Cert.LossRefIdeal.Gen.bcast_S32_S32x1x1_0
    (mulf (broadcastInDim Cert.LossRefIdeal.S32 ![] Cert.LossRefIdeal.Gen.bcast_S_S32 (constant Cert.LossRefIdeal.S_ .f32 0x3F000000#32))
      (Host.reduceAdd (shapeCast Cert.LossRefIdeal.S32x256 f Cert.LossRefIdeal.Gen.shapeCasts_S8192_S32x256) (constant Cert.LossRefIdeal.S_ .f32 0x00000000#32) Cert.LossRefIdeal.Gen.reducesTo_S32x256_S32_d1 Cert.LossRefIdeal.Gen.h_S_)))

variable (m : (ℓ : Loc nD τ sig) → Buf (Elt Ideal) ℓ) (c : Dev nD)

/-- The place of a point's loss among the losses. -/
def tile (t : Fin cfg0.N) : Fin 32 := ⟨t.val, t.isLt.trans_eq N_0⟩

theorem V_rows : V m c main_arg0 = m (c, main_arg0) := rfl
theorem V_weight : V m c main_arg1 = m (c, main_arg1) := rfl
theorem V_target : V m c main_arg2 = m (c, main_arg2) := rfl

theorem emb0 (t : Fin cfg0.N) (i : Fin 256) (d : Fin 2048) : ((cfg0.win 0).blk t).view.emb (ix2 i d) = ix2 (row t i) d := by
  blk_ext [idx0, row]
theorem emb1 (t : Fin cfg0.N) (d : Fin 2048) : ((cfg0.win 1).blk t).view.emb (ix2 0 d) = ix2 0 d := by
  blk_ext [idx1]
theorem emb2 (t : Fin cfg0.N) (i : Fin 256) (d : Fin 2048) : ((cfg0.win 2).blk t).view.emb (ix2 i d) = ix2 (row t i) d := by
  blk_ext [idx2, row]
theorem emb3 (t : Fin cfg0.N) (d : Fin 128) : ((cfg0.win 3).blk t).view.emb (ix3 0 0 d) = ix3 (tile t) 0 d := by
  blk_ext [idx3, tile]
theorem emb4 (t : Fin cfg0.N) (i : Fin 256) (d : Fin 2048) : ((cfg0.win 4).blk t).view.emb (ix2 i d) = ix2 (row t i) d := by
  blk_ext [idx4, row]
theorem emb5 (t : Fin cfg0.N) (d : Fin 2048) : ((cfg0.win 5).blk t).view.emb (ix2 0 d) = ix2 0 d := by
  blk_ext [idx5]

theorem blk0 (t : Fin cfg0.N) (i : Fin 256) (d : Fin 2048) : iblk m c 0 t (ix2 i d) = m (c, main_arg0) (ix2 (row t i) d) := by
  unfold iblk
  rw [View.read_apply, emb0]
  exact congrFun (V_rows m c) _
theorem blk1 (t : Fin cfg0.N) (d : Fin 2048) : iblk m c 1 t (ix2 0 d) = m (c, main_arg1) (ix2 0 d) := by
  unfold iblk
  rw [View.read_apply, emb1]
  exact congrFun (V_weight m c) _
theorem blk2 (t : Fin cfg0.N) (i : Fin 256) (d : Fin 2048) : iblk m c 2 t (ix2 i d) = m (c, main_arg2) (ix2 (row t i) d) := by
  unfold iblk
  rw [View.read_apply, emb2]
  exact congrFun (V_target m c) _

/-- The literal two, and a row's share of the loss. -/
theorem two_eq : Ideal.ofBits .f32 0x40000000#32 = ((2 : ℝ) : EReal) := by
  simp [Ideal.ofBits, Ideal.ieee, -EReal.coe_mul]
  norm_num
theorem share : ∃ a : ℝ, Ideal.div (Ideal.ofBits .f32 0x3F000000#32) (Ideal.ofBits .f32 0x45000000#32) = (a : EReal) := by
  have h1 : Ideal.ofBits .f32 0x3F000000#32 = (((1 : ℝ) / 2 : ℝ) : EReal) := by
    simp [Ideal.ofBits, Ideal.ieee, -EReal.coe_mul]
    norm_num
  have h2 : Ideal.ofBits .f32 0x45000000#32 = ((2048 : ℝ) : EReal) := by
    simp [Ideal.ofBits, Ideal.ieee, -EReal.coe_mul]
    norm_num
  rw [h1, h2, Ideal.div_coe (by norm_num), ← EReal.coe_mul]
  exact ⟨_, rfl⟩

/-- Of a real factor, twice is the sum of two. -/
theorem twice (a : ℝ) (e : EReal) : e * (a : EReal) + (a : EReal) * e = (a : EReal) * (((2 : ℝ) : EReal) * e) := by
  rw [mul_comm e, ← mul_assoc, ← EReal.coe_mul, mul_comm a 2]
  induction e with
  | coe e => rw [← EReal.coe_mul, ← EReal.coe_mul, ← EReal.coe_add]; congr 1; ring
  | bot =>
    rcases lt_trichotomy a 0 with h | h | h
    · rw [EReal.coe_mul_bot_of_neg h, EReal.coe_mul_bot_of_neg (by linarith)]; rfl
    · subst h; simp
    · rw [EReal.coe_mul_bot_of_pos h, EReal.coe_mul_bot_of_pos (by linarith)]; rfl
  | top =>
    rcases lt_trichotomy a 0 with h | h | h
    · rw [EReal.coe_mul_top_of_neg h, EReal.coe_mul_top_of_neg (by linarith)]; rfl
    · subst h; simp
    · rw [EReal.coe_mul_top_of_pos h, EReal.coe_mul_top_of_pos (by linarith)]; rfl

theorem err_at (t : Fin cfg0.N) (i : Fin 256) (d : Fin 2048) :
    k0_pay10 (iblk m c 0 t) (iblk m c 1 t) (iblk m c 2 t) (ix2 i d) = err (m (c, main_arg0)) (m (c, main_arg2)) (m (c, main_arg1)) (ix2 (row t i) d) := by
  pointwise [k0_pay10, k0_pay9, k0_pay7, k0_pay6, err, unit, inv, meanSq]
  simp only [blk0, blk1, blk2]
theorem slopeErr_at (t : Fin cfg0.N) (i : Fin 256) (d : Fin 2048) :
    k0_pay1 (k0_pay10 (iblk m c 0 t) (iblk m c 1 t) (iblk m c 2 t)) (k0_pay12 (F := Ideal)) (ix2 i d) = slopeErr (m (c, main_arg0)) (m (c, main_arg2)) (m (c, main_arg1)) (ix2 (row t i) d) := by
  pointwise [k0_pay1, k0_pay12, slopeErr]
  simp only [err_at, Finset.univ_unique, Finset.sum_singleton]
  obtain ⟨a, ha⟩ := share
  rw [ha, two_eq]
  exact twice a _

theorem zero5 (y : S1x2048.Idx) : k0_pay4 (F := Ideal) y = (0 : EReal) := by
  obtain ⟨i, d, rfl⟩ : ∃ i d, y = ix2 i d := ⟨_, _, eq_ix2 y⟩
  pointwise [k0_pay4]
theorem step5 (a : Vec Ideal S1x2048 .f32) (t : Fin cfg0.N) (y : S1x2048.Idx) :
    k0_pay5 (k0_pay9 (iblk m c 0 t)) (k0_pay10 (iblk m c 0 t) (iblk m c 1 t) (iblk m c 2 t)) (k0_pay12 (F := Ideal)) a y = a y + part (termWeight (m (c, main_arg0)) (m (c, main_arg2)) (m (c, main_arg1))) t y := by
  obtain ⟨i, d, rfl⟩ : ∃ i d, y = ix2 i d := ⟨_, _, eq_ix2 y⟩
  obtain rfl : i = 0 := Fin.ext (by omega)
  rw [part_at]
  pointwise [k0_pay5, k0_pay9, k0_pay7, k0_pay6, termWeight, unit, inv, meanSq]
  simp only [slopeErr_at, blk0]

theorem pay_at (t : Fin cfg0.N) (i : Fin 256) (d : Fin 2048) :
    k0_pay2 (iblk m c 0 t) (iblk m c 1 t) (k0_pay7 (iblk m c 0 t)) (k0_pay8 (iblk m c 0 t)) (k0_pay10 (iblk m c 0 t) (iblk m c 1 t) (iblk m c 2 t)) (k0_pay12 (F := Ideal)) (ix2 i d)
      = gradRows (m (c, main_arg0)) (m (c, main_arg2)) (m (c, main_arg1)) (ix2 (row t i) d) := by
  pointwise [k0_pay2, k0_pay7, k0_pay8, k0_pay6, gradRows, slope, weighed, inv, meanSq]
  simp only [slopeErr_at, blk0, blk1]

theorem losses_at (f : FVec Ideal Cert.LossRefIdeal.S8192 .f32) (t : Fin cfg0.N) (d : Fin 128) :
    losses f (ix3 (tile t) 0 d) = Ideal.ofBits .f32 0x3F000000#32 * ∑ i : Fin 256, f (ix1 (row t i)) := by
  pointwise [losses]
  rfl
theorem loss_at (t : Fin cfg0.N) (d : Fin 128) :
    k0_pay3 (k0_pay11 (iblk m c 0 t) (iblk m c 1 t) (iblk m c 2 t)) (ix3 0 0 d) = losses (tokens (m (c, main_arg0)) (m (c, main_arg2)) (m (c, main_arg1))) (ix3 (tile t) 0 d) := by
  rw [losses_at]
  pointwise [k0_pay3, k0_pay11, tokens]
  simp only [err_at]

/-- A point's block of the losses, -/
theorem part_losses (t : Fin cfg0.N) (d : Fin 128) :
    (outsAt0 m c t.val t.isLt).1 (ix3 0 0 d) = losses (tokens (m (c, main_arg0)) (m (c, main_arg2)) (m (c, main_arg1))) (ix3 (tile t) 0 d) := by
  rw [← loss_at m c t]
  by_cases h : t.val % 32 = 0
  · rw [outsAt0_A m c t h]; frame_out
  · rw [outsAt0_B m c t h]; frame_out
/-- and of the gradient of the rows, -/
theorem rows_at (t : Fin cfg0.N) (i : Fin 256) (d : Fin 2048) :
    (outsAt0 m c t.val t.isLt).2.1 (ix2 i d) = gradRows (m (c, main_arg0)) (m (c, main_arg2)) (m (c, main_arg1)) (ix2 (row t i) d) := by
  rw [← pay_at m c t]
  by_cases h : t.val % 32 = 0
  · rw [outsAt0_A m c t h]; frame_out
  · rw [outsAt0_B m c t h]; frame_out
/-- and the block of the gradient of the weight after the point that writes it back. -/
theorem total5 (t : Fin cfg0.N) (ht : t.val % 32 = 32 - 1) (d : Fin 2048) :
    (outsAt0 m c t.val t.isLt).2.2 (ix2 0 d) = total (termWeight (m (c, main_arg0)) (m (c, main_arg2)) (m (c, main_arg1))) (ix2 0 d) := by
  rw [total_at, ← whole _ t ht, Pipeline.eq_sum_fin_of_reset_step_apply_of_flush (fun n h => (outsAt0 m c n h).2.2) 32 (fun _ => (0 : EReal))
    (part (termWeight (m (c, main_arg0)) (m (c, main_arg2)) (m (c, main_arg1))))
    (fun t h y => by rw [outsAt0_A m c t h]; frame_out; rw [step5, zero5])
    (fun t h y => by rw [outsAt0_B m c t h]; frame_out; rw [step5]) t ht (ix2 0 d), zero_add]

/-- The kernel's three arrays are the reference's. -/
theorem value3 : (dats m 0 c).arrAt 3 cfg0.N = losses (tokens (m (c, main_arg0)) (m (c, main_arg2)) (m (c, main_arg1))) := by
  refine Pipeline.Dat.arrAt_eq_of_covers _ 3 _ (by decide +kernel) fun t hf (y : S1x1x128.Idx) => ?_
  obtain ⟨i, j, d, rfl⟩ : ∃ i j d, y = ix3 i j d := ⟨_, _, _, eq_ix3 y⟩
  obtain rfl : i = 0 := Fin.ext (by omega)
  obtain rfl : j = 0 := Fin.ext (by omega)
  rw [emb3]
  show (dats m 0 c).after 3 t (ix3 0 0 d) = _
  rw [after0_3, part_losses]
theorem value4 : (dats m 0 c).arrAt 4 cfg0.N = gradRows (m (c, main_arg0)) (m (c, main_arg2)) (m (c, main_arg1)) := by
  refine Pipeline.Dat.arrAt_eq_of_covers _ 4 _ (by decide +kernel) fun t hf (y : S256x2048.Idx) => ?_
  obtain ⟨i, d, rfl⟩ : ∃ i d, y = ix2 i d := ⟨_, _, eq_ix2 y⟩
  rw [emb4]
  show (dats m 0 c).after 4 t (ix2 i d) = _
  rw [after0_4, rows_at]
theorem value5 : (dats m 0 c).arrAt 5 cfg0.N = total (termWeight (m (c, main_arg0)) (m (c, main_arg2)) (m (c, main_arg1))) := by
  refine Pipeline.Dat.arrAt_eq_of_covers _ 5 _ (by decide +kernel) fun t hf (y : S1x2048.Idx) => ?_
  have ht := (flush0_5 t).1 hf
  obtain ⟨i, d, rfl⟩ : ∃ i d, y = ix2 i d := ⟨_, _, eq_ix2 y⟩
  obtain rfl : i = 0 := Fin.ext (by omega)
  rw [emb5]
  show (dats m 0 c).after 5 t (ix2 0 d) = _
  rw [after0_5, total5 m c t ht]

end Cert.LossIdeal.Head

end
-- ==== Proof.HeadClaims.lean ====
module

public import proofs.«01_k».proof.Defs
public import proofs.«01_k».proof.Proof.HeadNorm
public import proofs.«01_k».proof.Proof.HeadGate
public import proofs.«01_k».proof.Proof.HeadNormBwd
public import proofs.«01_k».proof.Proof.HeadMixNormBwd
public import proofs.«01_k».proof.Proof.HeadLoss
public import Idealize.ShloMosaic.Adequacy
public import Idealize.ShloMosaic.Init

@[expose] public section

/-! The equations of the calls that go over the context tokens with no product, the norm, the gate's gradient and the norm's
gradients, and of the loss with its gradients; and the ends of their references. -/

noncomputable section

namespace Cert.HeadClaims

open Cert Idealize.ShloMosaic Idealize.ShloMosaic.TcCoe Idealize.SL.Sem

theorem ends_ctx_norm : quiescent_CtxNormRefIdeal := fun m ρ _ =>
  (θ_run CtxNormRefIdeal.defs _ _).mono (fun r h => ⟨fun c => (h c).2, sem_eq_zero_of_no_sems (by decide) r.2⟩) (CtxNormRefIdeal.Value.run m ρ)
theorem ends_ctx_gate : quiescent_CtxGateRefIdeal := fun m ρ _ =>
  (θ_run CtxGateRefIdeal.defs _ _).mono (fun r h => ⟨fun c => (h c).2.2, sem_eq_zero_of_no_sems (by decide) r.2⟩) (CtxGateRefIdeal.Value.run m ρ)
theorem ends_ctx_norm_bwd : quiescent_CtxNormBwdRefIdeal := fun m ρ _ =>
  (θ_run CtxNormBwdRefIdeal.defs _ _).mono (fun r h => ⟨fun c => (h c).2.2.2.2, sem_eq_zero_of_no_sems (by decide) r.2⟩) (CtxNormBwdRefIdeal.Value.run m ρ)
theorem ends_mixc_norm_bwd : quiescent_MixcNormBwdRefIdeal := fun m ρ _ =>
  (θ_run MixcNormBwdRefIdeal.defs _ _).mono (fun r h => ⟨fun c => (h c).2.2.2.2, sem_eq_zero_of_no_sems (by decide) r.2⟩) (MixcNormBwdRefIdeal.Value.run m ρ)
theorem ends_loss : quiescent_LossRefIdeal := fun m ρ _ =>
  (θ_run LossRefIdeal.defs _ _).mono (fun r h => ⟨fun c => (h c).2.2.2, sem_eq_zero_of_no_sems (by decide) r.2⟩) (LossRefIdeal.Value.run m ρ)

/-- Over the context tokens, the norm with the modulation. -/
theorem values_ctx_norm : algebraic_CtxNormIdeal_CtxNormRefIdeal := fun m ρ m' ρ' _ ha =>
  ⟨_, (θ_run CtxNormIdeal.defs _ _).mono (fun _ h c => ⟨(h c).1.trans (CtxNormIdeal.Head.value m c), (h c).2⟩)
      (CtxNormIdeal.Value.run_blocks m ρ),
    (θ_run CtxNormRefIdeal.defs _ _).mono (fun _ h c => by
      obtain ⟨h0, hr⟩ := h c
      obtain ⟨a0, a1, a2, a3⟩ := ha c
      rw [a0, a1, a2, a3] at h0
      exact ⟨h0, hr⟩) (CtxNormRefIdeal.Value.run m' ρ')⟩

/-- The gradients of their half gated sum. -/
theorem values_ctx_gate : algebraic_CtxGateIdeal_CtxGateRefIdeal := fun m ρ m' ρ' _ ha =>
  ⟨_, _, (θ_run CtxGateIdeal.defs _ _).mono (fun _ h c => ⟨(h c).1.trans (CtxGateIdeal.Head.value_rows m c), (h c).2.1.trans (CtxGateIdeal.Head.value_total m c), (h c).2.2⟩)
      (CtxGateIdeal.Value.run_blocks m ρ),
    (θ_run CtxGateRefIdeal.defs _ _).mono (fun _ h c => by
      obtain ⟨h0, h1, hr⟩ := h c
      obtain ⟨a0, a1, a2⟩ := ha c
      rw [a0, a2] at h0
      rw [a0, a1] at h1
      exact ⟨h0, h1, hr⟩) (CtxGateRefIdeal.Value.run m' ρ')⟩

/-- The gradients of their norm. -/
theorem values_ctx_norm_bwd : algebraic_CtxNormBwdIdeal_CtxNormBwdRefIdeal := fun m ρ m' ρ' _ ha =>
  ⟨_, _, _, _, (θ_run CtxNormBwdIdeal.defs _ _).mono (fun _ h c => ⟨(h c).1.trans (CtxNormBwdIdeal.Head.value6 m c), (h c).2.1.trans (CtxNormBwdIdeal.Head.value7 m c), (h c).2.2.1.trans (CtxNormBwdIdeal.Head.value8 m c), (h c).2.2.2.1.trans (CtxNormBwdIdeal.Head.value9 m c), (h c).2.2.2.2⟩)
      (CtxNormBwdIdeal.Value.run_blocks m ρ),
    (θ_run CtxNormBwdRefIdeal.defs _ _).mono (fun _ h c => by
      obtain ⟨h0, h1, h2, h3, hr⟩ := h c
      obtain ⟨a0, a1, a2, _, a4, a5⟩ := ha c
      unfold CtxNormBwdRefIdeal.Value.res_main_v48 at h0
      rw [a0, a1, a2, a4, a5] at h0
      rw [a0, a2, a4] at h1
      rw [a0, a1, a4] at h2
      rw [a4] at h3
      exact ⟨h0, h1, h2, h3, hr⟩) (CtxNormBwdRefIdeal.Value.run m' ρ')⟩

/-- The gradients of their norm in the mixer. -/
theorem values_mixc_norm_bwd : algebraic_MixcNormBwdIdeal_MixcNormBwdRefIdeal := fun m ρ m' ρ' _ ha =>
  ⟨_, _, _, _, (θ_run MixcNormBwdIdeal.defs _ _).mono (fun _ h c => ⟨(h c).1.trans (MixcNormBwdIdeal.Head.value5 m c), (h c).2.1.trans (MixcNormBwdIdeal.Head.value6 m c), (h c).2.2.1.trans (MixcNormBwdIdeal.Head.value7 m c), (h c).2.2.2.1.trans (MixcNormBwdIdeal.Head.value8 m c), (h c).2.2.2.2⟩)
      (MixcNormBwdIdeal.Value.run_blocks m ρ),
    (θ_run MixcNormBwdRefIdeal.defs _ _).mono (fun _ h c => by
      obtain ⟨h0, h1, h2, h3, hr⟩ := h c
      obtain ⟨a0, a1, a2, _, a4⟩ := ha c
      unfold MixcNormBwdRefIdeal.Value.res_main_v47 at h0
      rw [a0, a1, a2, a4] at h0
      rw [a0, a2, a4] at h1
      rw [a0, a1, a4] at h2
      rw [a4] at h3
      exact ⟨h0, h1, h2, h3, hr⟩) (MixcNormBwdRefIdeal.Value.run m' ρ')⟩

/-- The loss with its gradients. -/
theorem values_loss : algebraic_LossIdeal_LossRefIdeal := fun m ρ m' ρ' _ ha =>
  ⟨_, _, _, (θ_run LossIdeal.defs _ _).mono (fun _ h c => ⟨(h c).1.trans (LossIdeal.Head.value3 m c), (h c).2.1.trans (LossIdeal.Head.value4 m c), (h c).2.2.1.trans (LossIdeal.Head.value5 m c), (h c).2.2.2⟩)
      (LossIdeal.Value.run_blocks m ρ),
    (θ_run LossRefIdeal.defs _ _).mono (fun _ h c => by
      obtain ⟨h0, h1, h2, hr⟩ := h c
      obtain ⟨a0, a1, a2⟩ := ha c
      rw [a0, a1, a2] at h0
      unfold LossRefIdeal.Value.res_main_v69 at h1
      rw [a0, a1, a2] at h1
      rw [a0, a1, a2] at h2
      exact ⟨h0, h1, h2, hr⟩) (LossRefIdeal.Value.run m' ρ')⟩

end Cert.HeadClaims

end
-- ==== Proof.FwdPay.lean ====
module

public import proofs.«01_k».proof.Proof.Gen.FwdIdeal.Value
public import proofs.«01_k».proof.Proof.AttnOnline
public import proofs.«01_k».proof.Proof.AttnRef
public import Idealize.ShloMosaic.Lib.Pipeline.ValueKit.Point
public import Idealize.ShloMosaic.Lib.Pipeline.ValueKit.Acc
public import Idealize.ShloMosaic.Lib.Pointwise
public import Idealize.ShloMosaic.PureOps.Ideal.Laws

@[expose] public section

set_option maxRecDepth 16384

/-! What the body of the attention's forward pass computes from its blocks, one query's column at a time. -/

noncomputable section

namespace Cert.FwdIdeal.Attn

open Cert.FwdIdeal Cert.FwdIdeal.Gen Cert.AttnMath
open Cert.ReferenceIdeal.Attn (low_eq)
open Idealize.ShloMosaic Idealize.ShloMosaic.TcCoe Idealize.SL.Sem Idealize.ShloMosaic.Pointwise
open scoped BigOperators

theorem scale_log2e_eq : Named.named (F := Ideal) κ "scale_log2e" (φ := .f32) 0x3DD53B95#32 = (((Real.sqrt 192)⁻¹ * (Real.log 2)⁻¹ : ℝ) : EReal) := rfl
theorem scale_eq : Named.named (F := Ideal) κ "scale" (φ := .f32) 0x3D93CD3A#32 = (((Real.sqrt 192)⁻¹ : ℝ) : EReal) := rfl

variable {q : Vec Ideal S1x2048x256 .bf16} {k : Vec Ideal S1x1408x256 .bf16} {v : Vec Ideal S1x128x1408 .bf16}
  {M l : Vec Ideal S1x2048 .f32} {a : Vec Ideal S128x2048 .f32}

theorem pay10_at {qr : Fin 2048 → Fin 256 → ℝ} {kr : Fin 1408 → Fin 256 → ℝ} (hq : ∀ i d, q (ix3 0 i d) = (qr i d : EReal))
    (hk : ∀ j d, k (ix3 0 j d) = (kr j d : EReal)) (j : Fin 1408) (i : Fin 2048) : k0_pay10 q k (ix2 j i) = ((∑ d, kr j d * qr i d : ℝ) : EReal) := by
  pointwise [k0_pay10]
  simp only [hq, hk, ← EReal.coe_mul, ← coe_sum]

theorem pay7_real (i : Fin 2048) : ∃ μ : ℝ, k0_pay7 (F := Ideal) (ix2 0 i) = (μ : EReal) := by
  have h : k0_pay7 (F := Ideal) (ix2 0 i) = Ideal.ofBits .f32 0xF149F2CA#32 := by pointwise [k0_pay7]
  rw [h]
  refine ⟨_, by simp [Ideal.ofBits, Ideal.ieee, -EReal.coe_mul]; rfl⟩
theorem pay8_at (i : Fin 2048) : k0_pay8 (F := Ideal) (ix2 0 i) = (0 : EReal) := by
  pointwise [k0_pay8]
theorem pay9_at (e : Fin 128) (i : Fin 2048) : k0_pay9 (F := Ideal) (ix2 e i) = (0 : EReal) := by
  pointwise [k0_pay9]

section
variable {i : Fin 2048} {σ : Fin 1408 → ℝ} {μ : ℝ} (hs : ∀ j, k0_pay10 q k (ix2 j i) = (σ j : EReal)) (hm : M (ix2 0 i) = (μ : EReal))
include hs

include hm in
/-- The greater of the shift so far and the tile's greatest score is a real. -/
theorem pay12_real : ∃ μ' : ℝ, k0_pay12 q M k (ix2 0 i) = (μ' : EReal) := by
  generalize hS : k0_pay10 q k = S at hs
  haveI : Nonempty (Fin (S1408x2048.size 0)) := ⟨⟨0, by decide⟩⟩
  have h : ∃ r : ℝ, (Finset.univ : Finset (Fin (S1408x2048.size 0))).fold max (⊥ : EReal) (S ∘ reduces_S1408x2048_S2048.lift (ix1 i)) = (r : EReal) :=
    fold_max_real _ fun x => ⟨σ x, (congrArg S (funext fun b => by fin_cases b <;> rfl)).trans (hs x)⟩
  obtain ⟨r, hr⟩ := h
  refine ⟨max μ r, ?_⟩
  have e : k0_pay12 q M k (ix2 0 i) = max (M (ix2 0 i)) (multiReduction .maximumf [0] S2048 S 0xFF800000#32 reduces_S1408x2048_S2048 (.inl rfl) rfl (ix1 i)) := by
    unfold k0_pay12
    rw [hS]
    generalize multiReduction .maximumf [0] S2048 S 0xFF800000#32 reduces_S1408x2048_S2048 (.inl rfl) rfl = R
    pointwise
  have hR := (Ideal.multiReduction_maximumf_single (a := 0) S 0xFF800000#32 reduces_S1408x2048_S2048 (.inl rfl) rfl (ix1 i)).trans
    ((congrArg (fun b => (Finset.univ : Finset (Fin (S1408x2048.size 0))).fold max b (S ∘ reduces_S1408x2048_S2048.lift (ix1 i))) low_eq).trans hr)
  rw [e, hm]
  exact (congrArg (max (μ : EReal)) hR).trans EReal.coe_strictMono.monotone.map_max.symm

variable {μ' : ℝ} (hm' : k0_pay12 q M k (ix2 0 i) = (μ' : EReal))
include hm'

theorem pay13_at (j : Fin 1408) : k0_pay13 q M k (k0_pay11 q k) (ix2 j i) = (weight (σ j) μ' : EReal) := by
  pointwise [k0_pay13, k0_pay11]
  rw [hs, hm', scale_log2e_eq, ← EReal.coe_mul, ← EReal.coe_mul, ← EReal.coe_sub]
  exact (Ideal.exp2_coe _).trans (congrArg _ (rpow_weight _ _ _ (by ring)))

theorem pay14_at : k0_pay14 q M k (k0_pay11 q k) (ix2 0 i) = ((∑ j, weight (σ j) μ' : ℝ) : EReal) := by
  pointwise [k0_pay14]
  simp only [pay13_at hs hm', ← coe_sum]

theorem pay15_at (j : Fin 1408) : k0_pay15 q M k (k0_pay11 q k) (ix2 j i) = (weight (σ j) μ' : EReal) := by
  refine Eq.trans ?_ (pay13_at hs hm' j)
  pointwise [k0_pay15]

omit hs in
include hm in
theorem pay1_at : k0_pay1 (k0_pay16 q M k) (ix2 0 i) = (weight μ μ' : EReal) := by
  pointwise [k0_pay1, k0_pay16]
  rw [hm, hm', scale_log2e_eq, ← EReal.coe_sub, ← EReal.coe_mul]
  exact (Ideal.exp2_coe _).trans (congrArg _ (rpow_weight _ _ _ rfl))
end

theorem pay2_at (P x : FVec Ideal S1x2048 .f32) (i : Fin 2048) : k0_pay2 P x l (ix2 0 i) = k0_pay1 x (ix2 0 i) * l (ix2 0 i) + P (ix2 0 i) := by
  pointwise [k0_pay2]
theorem pay3_at (x : FVec Ideal S1x2048 .f32) (p : Vec Ideal S1408x2048 .bf16) (e : Fin 128) (i : Fin 2048) :
    k0_pay3 x a v p (ix2 e i) = k0_pay1 x (ix2 0 i) * a (ix2 e i) + ∑ j, v (ix3 0 e j) * p (ix2 j i) := by
  pointwise [k0_pay3]

theorem pay5_at (i : Fin 2048) (e : Fin 128) : k0_pay5 a l (ix2 i e) = Ideal.div (a (ix2 e i)) (l (ix2 0 i)) := by
  pointwise [k0_pay5]
theorem pay6_at (i : Fin 2048) : k0_pay6 M l (ix3 0 0 i) = M (ix2 0 i) * (((Real.sqrt 192)⁻¹ : ℝ) : EReal) + Ideal.log (l (ix2 0 i)) := by
  pointwise [k0_pay6]
  rw [scale_eq]

/-- The scratch of one query's column holds the sums over its first `n` keys. -/
def Holds (s : ℕ → ℝ) (w : Fin 128 → ℕ → EReal) (n : ℕ) (M l : Vec Ideal S1x2048 .f32) (a : Vec Ideal S128x2048 .f32) (i : Fin 2048) : Prop :=
  ∃ μ : ℝ, M (ix2 0 i) = (μ : EReal) ∧ Column s w n μ (l (ix2 0 i)) fun e => a (ix2 e i)

theorem holds_start (s : ℕ → ℝ) (w : Fin 128 → ℕ → EReal) (i : Fin 2048) : Holds s w 0 (k0_pay7 (F := Ideal)) (k0_pay8 (F := Ideal)) (k0_pay9 (F := Ideal)) i := by
  obtain ⟨μ, hμ⟩ := pay7_real i
  exact ⟨μ, hμ, Column.start μ (pay8_at i) fun e => pay9_at e i⟩

/-- One tile of keys. -/
theorem holds_step {s : ℕ → ℝ} {w : Fin 128 → ℕ → EReal} {n : ℕ} {i : Fin 2048} (h : Holds s w n M l a i)
    (hs : ∀ j : Fin 1408, k0_pay10 q k (ix2 j i) = (s (n + j.val) : EReal)) (hv : ∀ e (j : Fin 1408), v (ix3 0 e j) = w e (n + j.val)) :
    Holds s w (n + 1408) (k0_pay4 (k0_pay12 q M k)) (k0_pay2 (k0_pay14 q M k (k0_pay11 q k)) (k0_pay16 q M k) l)
      (k0_pay3 (k0_pay16 q M k) a v (k0_pay15 q M k (k0_pay11 q k))) i := by
  obtain ⟨μ, hm, hc⟩ := h
  obtain ⟨μ', hm'⟩ := pay12_real hs hm
  refine ⟨μ', ?_, hc.step μ' ?_ fun e => ?_⟩
  · rw [← hm']
    pointwise [k0_pay4]
  · rw [pay2_at, pay1_at hm hm', pay14_at hs hm']
  · rw [pay3_at, pay1_at hm hm']
    simp only [pay15_at hs hm', hv]

end Cert.FwdIdeal.Attn

end
-- ==== Proof.FwdOut.lean ====
module

public import proofs.«01_k».proof.Proof.FwdPay
public import proofs.«01_k».proof.Proof.AttnArr
public import proofs.«01_k».proof.Proof.Gen.FwdRefIdeal.Run

@[expose] public section

set_option maxRecDepth 16384

/-! The attention's forward pass: the output and the log-sums the kernel writes are the reference's. -/

noncomputable section

namespace Cert.FwdIdeal.Attn

open Cert.FwdIdeal Cert.FwdIdeal.Gen Cert.AttnMath
open Cert.KernelIdeal.Attn (qhA khA qhA_at khA_at ext coe_ext sum_ext lseA lseA_at oA)
open Cert.ReferenceIdeal.Attn (sA eA pA sA_at pA_at)
open Idealize.ShloMosaic Idealize.ShloMosaic.TcCoe Idealize.SL.Sem Idealize.ShloMosaic.Pointwise Idealize.ShloMosaic.StableHlo
open scoped BigOperators

theorem idx0 : ∀ t : Fin cfg0.N, win0_0.index t = ![t.val / 24, t.val / 6 % 4, 0] := (by decide +kernel : ∀ t : Fin grid0.N, _)
theorem idx1 : ∀ t : Fin cfg0.N, win0_1.index t = ![t.val / 24, t.val % 6, 0] := (by decide +kernel : ∀ t : Fin grid0.N, _)
theorem idx2 : ∀ t : Fin cfg0.N, win0_2.index t = ![t.val / 24, 0, t.val % 6] := (by decide +kernel : ∀ t : Fin grid0.N, _)
theorem idx3 : ∀ t : Fin cfg0.N, win0_3.index t = ![t.val / 6 % 4, t.val / 24] := (by decide +kernel : ∀ t : Fin grid0.N, _)
theorem idx4 : ∀ t : Fin cfg0.N, win0_4.index t = ![t.val / 24, 0, t.val / 6 % 4] := (by decide +kernel : ∀ t : Fin grid0.N, _)

/-- The head of a point. -/
def hd (t : Fin cfg0.N) : Fin 8 := ⟨t.val / 24, by have := t.isLt.trans_eq N_0; omega⟩
/-- The query under row `i` of a point's block. -/
def qrow (t : Fin cfg0.N) (i : Fin 2048) : Fin 8192 := ⟨t.val / 6 % 4 * 2048 + i.val, by omega⟩
/-- The key under row `j` of a point's block. -/
def krow (t : Fin cfg0.N) (j : Fin 1408) : Fin 8448 := ⟨t.val % 6 * 1408 + j.val, by omega⟩

theorem emb0 (t : Fin cfg0.N) (i : Fin 2048) (d : Fin 256) : ((cfg0.win 0).blk t).view.emb (ix3 0 i d) = ix3 (hd t) (qrow t i) d := by
  blk_ext [idx0, hd, qrow]
theorem emb1 (t : Fin cfg0.N) (j : Fin 1408) (d : Fin 256) : ((cfg0.win 1).blk t).view.emb (ix3 0 j d) = ix3 (hd t) (krow t j) d := by
  blk_ext [idx1, hd, krow]
theorem emb2 (t : Fin cfg0.N) (e : Fin 128) (j : Fin 1408) : ((cfg0.win 2).blk t).view.emb (ix3 0 e j) = ix3 (hd t) e (krow t j) := by
  blk_ext [idx2, hd, krow]
theorem emb3 (t : Fin cfg0.N) (i : Fin 2048) (e : Fin 128) : ((cfg0.win 3).blk t).view.emb (ix2 i e) = ix2 (qrow t i) (⟨(hd t).val * 128 + e.val, by omega⟩ : Fin 1024) := by
  blk_ext [idx3, hd, qrow]
theorem emb4 (t : Fin cfg0.N) (i : Fin 2048) : ((cfg0.win 4).blk t).view.emb (ix3 0 0 i) = ix3 (hd t) 0 (qrow t i) := by
  blk_ext [idx4, hd, qrow]

variable (m : (ℓ : Loc nD τ sig) → Buf (Elt Ideal) ℓ) (c : Dev nD)

/-- The value by head, its two axes exchanged. -/
def vtA (x2 : FVec Ideal S8448x8x128 .f32) : FVec Ideal S8x128x8448 .bf16 :=
  truncf .bf16 (transpose S8x128x8448 [1, 2, 0] x2 transposes_S8448x8x128_S8x128x8448_1_2_0) bitsLt_bf16_f32

theorem V_q : V m c main_v2 = qhA (m (c, main_arg0)) := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp <;> rfl
theorem V_k : V m c main_v5 = khA (m (c, main_arg1)) := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp <;> rfl
theorem V_v : V m c main_v7 = vtA (m (c, main_arg2)) := by
  simp only [V, hostOps0, hostOps0_1, hostOps0_2, hostOps0_3, hostOps0_4, List.flatten_cons, List.flatten_nil, List.append_nil, List.cons_append, List.nil_append,
    TRef.binary, TRef.unary, TRef.toBuf, TRef.ofBuf, cast_eq]
  after_results_simp <;> rfl

theorem vtA_at (x2 : FVec Ideal S8448x8x128 .f32) (h : Fin 8) (e : Fin 128) (j : Fin 8448) : vtA x2 (ix3 h e j) = x2 (ix3 j h e) := by
  pointwise [vtA]

/-- A score before it is scaled. -/
def raw (q : Fin 8192 → Fin 8 → Fin 192 → ℝ) (k : Fin 8448 → Fin 8 → Fin 192 → ℝ) (h : Fin 8) (i : Fin 8192) (j : Fin 8448) : ℝ := ∑ d, k j h d * q i h d

theorem raw_scaled (q : Fin 8192 → Fin 8 → Fin 192 → ℝ) (k : Fin 8448 → Fin 8 → Fin 192 → ℝ) (h : Fin 8) (i : Fin 8192) (j : Fin 8448) :
    raw q k h i j * (Real.sqrt 192)⁻¹ = score q k h i j := by
  rw [raw, score, Finset.sum_mul]
  exact Finset.sum_congr rfl fun d _ => by rw [div_eq_mul_inv]; ring

/-- A key's number, the keys counted on past the last one. -/
def onNat {α : Type*} [Zero α] (f : Fin 8448 → α) (j : ℕ) : α := if h : j < 8448 then f ⟨j, h⟩ else 0

theorem onNat_val {α : Type*} [Zero α] (f : Fin 8448 → α) (j : Fin 8448) : onNat f j.val = f j := dif_pos j.isLt

section
variable {q : Fin 8192 → Fin 8 → Fin 192 → ℝ} {k : Fin 8448 → Fin 8 → Fin 192 → ℝ}
  (h0 : ∀ i h d, m (c, main_arg0) (ix3 i h d) = (q i h d : EReal)) (h1 : ∀ j h d, m (c, main_arg1) (ix3 j h d) = (k j h d : EReal))

include h0 in
theorem blk0 (t : Fin cfg0.N) (i : Fin 2048) (d : Fin 256) : iblk m c 0 t (ix3 0 i d) = (ext (q (qrow t i) (hd t)) d : EReal) := by
  unfold iblk
  rw [View.read_apply, emb0]
  exact (congrFun (V_q m c) _).trans ((qhA_at h0 _ _ _).trans (coe_ext _ _))
include h1 in
theorem blk1 (t : Fin cfg0.N) (j : Fin 1408) (d : Fin 256) : iblk m c 1 t (ix3 0 j d) = (ext (k (krow t j) (hd t)) d : EReal) := by
  unfold iblk
  rw [View.read_apply, emb1]
  exact (congrFun (V_k m c) _).trans ((khA_at h1 _ _ _).trans (coe_ext _ _))
theorem blk2 (t : Fin cfg0.N) (e : Fin 128) (j : Fin 1408) : iblk m c 2 t (ix3 0 e j) = m (c, main_arg2) (ix3 (krow t j) (hd t) e) := by
  unfold iblk
  rw [View.read_apply, emb2]
  exact (congrFun (V_v m c) _).trans (vtA_at _ _ _ _)

/-- The value of head `h`, the keys counted. -/
def vals (h : Fin 8) (e : Fin 128) : ℕ → EReal := onNat fun j => (m (c, main_arg2) (ix3 j h e) : EReal)

include h0 h1 in
theorem tile (t : Fin cfg0.N) (j : Fin 1408) (i : Fin 2048) :
    k0_pay10 (iblk m c 0 t) (iblk m c 1 t) (ix2 j i) = ((onNat (raw q k (hd t) (qrow t i)) (t.val % 6 * 1408 + j.val) : ℝ) : EReal) := by
  rw [show t.val % 6 * 1408 + j.val = (krow t j).val from rfl, onNat_val,
    pay10_at (qr := fun i => ext (q (qrow t i) (hd t))) (kr := fun j => ext (k (krow t j) (hd t))) (blk0 m c h0 t) (blk1 m c h1 t), sum_ext, raw]
  refine congrArg _ (Finset.sum_congr rfl fun d _ => ?_)
  rw [show ext (q (qrow t i) (hd t)) ⟨d.val, by omega⟩ = q (qrow t i) (hd t) d from dif_pos d.isLt]

theorem tile_v (t : Fin cfg0.N) (e : Fin 128) (j : Fin 1408) : iblk m c 2 t (ix3 0 e j) = vals m c (hd t) e (t.val % 6 * 1408 + j.val) := by
  rw [show t.val % 6 * 1408 + j.val = (krow t j).val from rfl, vals, onNat_val]
  exact blk2 m c t e j

/-- The scratch after a point: the sums over the keys of its tile and the tiles before it. -/
def After (q : Fin 8192 → Fin 8 → Fin 192 → ℝ) (k : Fin 8448 → Fin 8 → Fin 192 → ℝ) (t : Fin cfg0.N) : Prop :=
  ∀ i : Fin 2048, Holds (onNat (raw q k (hd t) (qrow t i))) (vals m c (hd t)) ((t.val % 6 + 1) * 1408)
    (outsAt0 m c t.val t.isLt).2.2.1 (outsAt0 m c t.val t.isLt).2.2.2.1 (outsAt0 m c t.val t.isLt).2.2.2.2 i

include h0 h1 in
theorem after_first (t : Fin cfg0.N) (h : t.val % 6 = 0) : After m c q k t := fun i => by
  have H := holds_step (holds_start (onNat (raw q k (hd t) (qrow t i))) (vals m c (hd t)) i)
    (q := iblk m c 0 t) (k := iblk m c 1 t) (v := iblk m c 2 t)
    (fun j => by rw [tile m c h0 h1, h, Nat.zero_mul]) (fun e j => by rw [tile_v, h, Nat.zero_mul])
  rw [h, outsAt0_A m c t h (by omega)]
  frame_out
  exact H

theorem read0 (x : Vec Ideal S1x2048 .f32) : View.read (Elt Ideal) (View.whole cc0_scratch0) ((Memref.isWhole_whole cc0_scratch0).unread x) = x := Memref.IsWhole.read_unread _ _
theorem read1 (x : Vec Ideal S1x2048 .f32) : View.read (Elt Ideal) (View.whole cc0_scratch1) ((Memref.isWhole_whole cc0_scratch1).unread x) = x := Memref.IsWhole.read_unread _ _
theorem read2 (x : Vec Ideal S128x2048 .f32) : View.read (Elt Ideal) (View.whole cc0_scratch2) ((Memref.isWhole_whole cc0_scratch2).unread x) = x := Memref.IsWhole.read_unread _ _

include h0 h1 in
theorem after_next (t : Fin cfg0.N) (h : ¬t.val % 6 = 0) (H : After m c q k ⟨t.val - 1, Nat.lt_of_le_of_lt (Nat.sub_le _ _) t.isLt⟩) : After m c q k t := fun i => by
  have e : hd ⟨t.val - 1, Nat.lt_of_le_of_lt (Nat.sub_le _ _) t.isLt⟩ = hd t := Fin.ext (by simp only [hd]; omega)
  have e' : qrow ⟨t.val - 1, Nat.lt_of_le_of_lt (Nat.sub_le _ _) t.isLt⟩ i = qrow t i := Fin.ext (by simp only [qrow]; omega)
  have n : ((t.val - 1) % 6 + 1) * 1408 = t.val % 6 * 1408 := by omega
  have G := H i
  rw [e, e'] at G
  replace G := holds_step G (q := iblk m c 0 t) (k := iblk m c 1 t) (v := iblk m c 2 t)
    (fun j => by rw [tile m c h0 h1, n]) (fun e j => by rw [tile_v, n])
  rw [show ((t.val - 1) % 6 + 1) * 1408 + 1408 = (t.val % 6 + 1) * 1408 by omega] at G
  by_cases h5 : t.val % 6 = 5
  · rw [outsAt0_C m c t h h5]
    generalize outsAt0 m c (t.val - 1) _ = p at G ⊢
    frame_out
    rw [read0, read1, read2]
    exact G
  · rw [outsAt0_B m c t h h5]
    generalize outsAt0 m c (t.val - 1) _ = p at G ⊢
    frame_out
    rw [read0, read1, read2]
    exact G

include h0 h1 in
theorem after_all (n : ℕ) (h : n < cfg0.N) : After m c q k ⟨n, h⟩ := by
  induction n with
  | zero => exact after_first m c h0 h1 ⟨0, h⟩ rfl
  | succ n ih =>
    by_cases hn : (n + 1) % 6 = 0
    · exact after_first m c h0 h1 ⟨n + 1, h⟩ hn
    · exact after_next m c h0 h1 ⟨n + 1, h⟩ hn (ih (Nat.lt_of_succ_lt h))

/-- At a point that writes back the output is the quotient of the scratch's two sums, -/
theorem out_eq (t : Fin cfg0.N) (ht : t.val % 6 = 5) :
    (outsAt0 m c t.val t.isLt).1 = k0_pay5 (outsAt0 m c t.val t.isLt).2.2.2.2 (outsAt0 m c t.val t.isLt).2.2.2.1 := by
  rw [outsAt0_C m c t (by omega) ht]
  generalize outsAt0 m c (t.val - 1) _ = p
  frame_out

/-- and the log-sum is that of the scratch's shift and sum. -/
theorem lse_eq (t : Fin cfg0.N) (ht : t.val % 6 = 5) :
    (outsAt0 m c t.val t.isLt).2.1 = k0_pay6 (outsAt0 m c t.val t.isLt).2.2.1 (outsAt0 m c t.val t.isLt).2.2.2.1 := by
  rw [outsAt0_C m c t (by omega) ht]
  generalize outsAt0 m c (t.val - 1) _ = p
  frame_out

include h0 h1 in
/-- The scratch's column at a point that writes back: the sums over all keys. -/
theorem whole (t : Fin cfg0.N) (ht : t.val % 6 = 5) (i : Fin 2048) : Holds (onNat (raw q k (hd t) (qrow t i))) (vals m c (hd t)) 8448
    (outsAt0 m c t.val t.isLt).2.2.1 (outsAt0 m c t.val t.isLt).2.2.2.1 (outsAt0 m c t.val t.isLt).2.2.2.2 i := by
  have H := after_all m c h0 h1 t.val t.isLt i
  rw [ht] at H
  exact H

theorem scaled (h : Fin 8) (i : Fin 8192) (j : Fin 8448) : onNat (raw q k h i) j.val * (Real.sqrt 192)⁻¹ = score q k h i j := by
  rw [onNat_val, raw_scaled]

/-- A column of head `h`'s values, weighed. -/
def attended (x2 : FVec Ideal S8448x8x128 .f32) (h : Fin 8) (e : Fin 128) (p : Fin 8448 → ℝ) : EReal := ∑ j : Fin 8448, x2 (ix3 j h e) * (p j : EReal)

include h0 h1 in
theorem out_at (t : Fin cfg0.N) (ht : t.val % 6 = 5) (i : Fin 2048) (e : Fin 128) :
    (outsAt0 m c t.val t.isLt).1 (ix2 i e)
      = attended (m (c, main_arg2)) (hd t) e (soft (n := 8447) (score q k (hd t) (qrow t i))) := by
  obtain ⟨μ, -, hc⟩ := whole m c h0 h1 t ht i
  rw [out_eq m c t ht, pay5_at]
  refine (hc.div (scaled (hd t) (qrow t i)) e).trans (Finset.sum_congr rfl fun j _ => ?_)
  rw [vals, onNat_val]

include h0 h1 in
theorem lse_at (t : Fin cfg0.N) (ht : t.val % 6 = 5) (i : Fin 2048) :
    (outsAt0 m c t.val t.isLt).2.1 (ix3 0 0 i) = ((Real.log (∑ j, Real.exp (score q k (hd t) (qrow t i) j)) : ℝ) : EReal) := by
  obtain ⟨μ, hm, hc⟩ := whole m c h0 h1 t ht i
  rw [lse_eq m c t ht, pay6_at, hm]
  exact hc.log (scaled (hd t) (qrow t i))

/-! ## The reference -/

/-- The output as the reference returns it. -/
def outA (x2 : FVec Ideal S8448x8x128 .f32) (p : FVec Ideal Cert.ReferenceIdeal.S8x8192x8448 .f32) : FVec Ideal S8192x1024 .bf16 :=
  truncf .bf16 (shapeCast S8192x1024 (oA x2 p) Cert.FwdRefIdeal.Gen.shapeCasts_S8192x8x128_S8192x1024) bitsLt_bf16_f32

theorem outA_at (x2 : FVec Ideal S8448x8x128 .f32) {p : FVec Ideal Cert.ReferenceIdeal.S8x8192x8448 .f32} {π : Fin 8 → Fin 8192 → Fin 8448 → ℝ}
    (hp : ∀ h i j, p (ix3 h i j) = (π h i j : EReal)) (i : Fin 8192) (h : Fin 8) (e : Fin 128) :
    outA x2 p (ix2 i (⟨h.val * 128 + e.val, by omega⟩ : Fin 1024)) = attended x2 h e (π h i) := by
  pointwise [outA, oA, attended]
  simp only [hp]

/-- The output array is the reference's. -/
theorem value_out (r0 : ∀ y, ∃ r : ℝ, m (c, main_arg0) y = (r : EReal)) (r1 : ∀ y, ∃ r : ℝ, m (c, main_arg1) y = (r : EReal)) :
    (dats m 0 c).arrAt 3 cfg0.N = outA (m (c, main_arg2)) (pA (eA (sA (m (c, main_arg0)) (m (c, main_arg1))))) := by
  choose q hq using r0
  choose k hk using r1
  refine Pipeline.Dat.arrAt_eq_of_covers _ 3 _ (by decide +kernel) fun t hf (y : S2048x128.Idx) => ?_
  have ht := (flush0_3 t).1 hf
  obtain ⟨i, e, rfl⟩ : ∃ i e, y = ix2 i e := ⟨_, _, eq_ix2 y⟩
  rw [emb3]
  show (dats m 0 c).after 3 t (ix2 i e) = _
  rw [after0_3, out_at m c (q := fun i h d => q (ix3 i h d)) (k := fun j h d => k (ix3 j h d)) (fun _ _ _ => hq _) (fun _ _ _ => hk _) t ht]
  exact (outA_at _ (pA_at (sA_at (q := fun i h d => q (ix3 i h d)) (k := fun j h d => k (ix3 j h d)) (fun _ _ _ => hq _) (fun _ _ _ => hk _))) _ _ _).symm

/-- The array of log-sums is the reference's. -/
theorem value_lse (r0 : ∀ y, ∃ r : ℝ, m (c, main_arg0) y = (r : EReal)) (r1 : ∀ y, ∃ r : ℝ, m (c, main_arg1) y = (r : EReal)) :
    (dats m 0 c).arrAt 4 cfg0.N = lseA (sA (m (c, main_arg0)) (m (c, main_arg1))) := by
  choose q hq using r0
  choose k hk using r1
  refine Pipeline.Dat.arrAt_eq_of_covers _ 4 _ (by decide +kernel) fun t hf (y : S1x1x2048.Idx) => ?_
  have ht := (flush0_4 t).1 hf
  obtain ⟨z, w, i, rfl⟩ : ∃ z w i, y = ix3 z w i := ⟨_, _, _, eq_ix3 y⟩
  obtain rfl : z = 0 := Fin.eq_zero z
  obtain rfl : w = 0 := Fin.eq_zero w
  rw [emb4]
  show (dats m 0 c).after 4 t (ix3 0 0 i) = _
  obtain ⟨μ, hμ⟩ := lseA_at (sA_at (q := fun i h d => q (ix3 i h d)) (k := fun j h d => k (ix3 j h d)) (fun _ _ _ => hq _) (fun _ _ _ => hk _)) (hd t) (qrow t i)
  rw [after0_4, lse_at m c (q := fun i h d => q (ix3 i h d)) (k := fun j h d => k (ix3 j h d)) (fun _ _ _ => hq _) (fun _ _ _ => hk _) t ht, ← log_sum_shift (n := 8447) _ μ]
  exact hμ.symm

end

end Cert.FwdIdeal.Attn

end
-- ==== Proof.FwdClaims.lean ====
module

public import proofs.«01_k».proof.Defs
public import proofs.«01_k».proof.Proof.AttnFinite
public import proofs.«01_k».proof.Proof.FwdOut
public import Idealize.ShloMosaic.Adequacy
public import Idealize.ShloMosaic.Init

@[expose] public section

/-! The claims of the attention's forward pass. -/

noncomputable section

namespace Cert.Pre_finite_qk

open Idealize.ShloMosaic
open Cert.Pre_finite (real_of_olt inf_eq)

instance facts : Facts where
  bcast_S_S8192x8x192 := by decide
  bcast_S_S8448x8x192 := by decide

variable {x0 : FVec Ideal S8192x8x192 .f32} {x1 : FVec Ideal S8448x8x192 .f32} {x2 : FVec Ideal S8448x8x128 .f32}

theorem real0 (h : (fn (F := Ideal) x0 x1 x2).1 = fun _ => 1#1) (j) : ∃ r : ℝ, x0 j = (r : EReal) := real_of_olt inf_eq (congrFun h j)
theorem real1 (h : (fn (F := Ideal) x0 x1 x2).2 = fun _ => 1#1) (j) : ∃ r : ℝ, x1 j = (r : EReal) := real_of_olt inf_eq (congrFun h j)

end Cert.Pre_finite_qk

namespace Cert.FwdClaims

open Idealize.ShloMosaic Idealize.ShloMosaic.TcCoe Idealize.SL.Sem
open Cert.KernelIdeal.Attn (lseA)
open Cert.ReferenceIdeal.Attn (sA eA pA)

/-- The kernel's constants are the words of the numbers that name them. -/
theorem preserves : preserves_Fwd_FwdIdeal :=
  ⟨IdealRules.named_const.statement Cert.FwdIdeal.κ "scale_log2e" .f32 0x3DD53B95#32 (((Real.sqrt 192)⁻¹ * (Real.log 2)⁻¹ : ℝ) : EReal) rfl,
    IdealRules.named_const.statement Cert.FwdIdeal.κ "scale" .f32 0x3D93CD3A#32 (((Real.sqrt 192)⁻¹ : ℝ) : EReal) rfl⟩

/-- The reference ends with its arguments unchanged and every counter at zero. -/
theorem ends : quiescent_FwdRefIdeal := fun m ρ _ =>
  (θ_run FwdRefIdeal.defs _ _).mono (fun r h => ⟨fun c => (h c).2.2, sem_eq_zero_of_no_sems (by decide) r.2⟩) (FwdRefIdeal.Value.run m ρ)

open Cert.FwdRefIdeal in
/-- The reference's run, its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = FwdIdeal.Attn.outA (m ((c.tc : Thread nD τ).loc main_arg2))
          (pA (eA (sA (m ((c.tc : Thread nD τ).loc main_arg0)) (m ((c.tc : Thread nD τ).loc main_arg1)))))
      ∧ r.2.mem ((c.tc : Thread nD τ).loc main_v13) = lseA (sA (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1, (h c).2.1, (h c).2.2⟩) (FwdRefIdeal.Value.run m ρ)

/-- The output and the log-sums are the reference's where the queries and the keys are real. -/
theorem values : algebraic_FwdIdeal_FwdRefIdeal_pre_finite_qk := fun m ρ m' ρ' hp ha =>
  ⟨_, _, (θ_run FwdIdeal.defs _ _).mono (fun _ h c => ⟨(h c).1.trans (FwdIdeal.Attn.value_out m c (Pre_finite_qk.real0 (hp c).1) (Pre_finite_qk.real1 (hp c).2)),
      (h c).2.1.trans (FwdIdeal.Attn.value_lse m c (Pre_finite_qk.real0 (hp c).1) (Pre_finite_qk.real1 (hp c).2)), (h c).2.2⟩) (FwdIdeal.Value.run_blocks m ρ),
    (θ_run FwdRefIdeal.defs _ _).mono (fun _ h c => by
      obtain ⟨h0, h1, hr⟩ := h c
      obtain ⟨a0, a1, a2⟩ := ha c
      rw [a0, a1, a2] at h0
      rw [a0, a1] at h1
      exact ⟨h0, h1, hr⟩) (run_named m' ρ')⟩

end Cert.FwdClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.In.Frame
public import proofs.«01_k».proof.Proof.Gen.Out.Frame
public import proofs.«01_k».proof.Proof.Gen.Da.Frame
public import proofs.«01_k».proof.Proof.Gen.Dwout.Frame
public import proofs.«01_k».proof.Proof.Gen.DwoutAdd.Frame
public import proofs.«01_k».proof.Proof.Gen.Dh.Frame
public import proofs.«01_k».proof.Proof.Gen.Dwin.Frame
public import proofs.«01_k».proof.Proof.Gen.DwinAdd.Frame
public import proofs.«01_k».proof.Proof.Gen.MixMm.Frame
public import proofs.«01_k».proof.Proof.Gen.MixDh.Frame
public import proofs.«01_k».proof.Proof.Gen.MixDw.Frame
public import proofs.«01_k».proof.Proof.Gen.MixoMm.Frame
public import proofs.«01_k».proof.Proof.Gen.MixoDa.Frame
public import proofs.«01_k».proof.Proof.Gen.MixoDw.Frame
public import proofs.«01_k».proof.Proof.Gen.UqMm.Frame
public import proofs.«01_k».proof.Proof.Gen.UqDh.Frame
public import proofs.«01_k».proof.Proof.Gen.UqDw.Frame
public import proofs.«01_k».proof.Proof.Gen.UkvMm.Frame
public import proofs.«01_k».proof.Proof.Gen.UkvDh.Frame
public import proofs.«01_k».proof.Proof.Gen.UkvDw.Frame
public import proofs.«01_k».proof.Proof.Gen.CtxIn.Frame
public import proofs.«01_k».proof.Proof.Gen.CtxOut.Frame
public import proofs.«01_k».proof.Proof.Gen.CtxDa.Frame
public import proofs.«01_k».proof.Proof.Gen.CtxDwout.Frame
public import proofs.«01_k».proof.Proof.Gen.CtxDh.Frame
public import proofs.«01_k».proof.Proof.Gen.CtxDwin.Frame
public import proofs.«01_k».proof.Proof.Gen.MixcMm.Frame
public import proofs.«01_k».proof.Proof.Gen.MixcDh.Frame
public import proofs.«01_k».proof.Proof.Gen.MixcDw.Frame
public import proofs.«01_k».proof.Proof.Gen.UkvcMm.Frame
public import proofs.«01_k».proof.Proof.Gen.UkvcDh.Frame
public import proofs.«01_k».proof.Proof.Gen.UkvcDw.Frame
public import proofs.«01_k».proof.Proof.Gen.AdaMm.Frame
public import proofs.«01_k».proof.Proof.Gen.AdaDa.Frame
public import proofs.«01_k».proof.Proof.Gen.AdaDw.Frame
public import proofs.«01_k».proof.Proof.Gen.Norm.Frame
public import proofs.«01_k».proof.Proof.Gen.Gate.Frame
public import proofs.«01_k».proof.Proof.Gen.GateMix.Frame
public import proofs.«01_k».proof.Proof.Gen.Delta.Frame
public import proofs.«01_k».proof.Proof.Gen.NormBwd.Frame
public import proofs.«01_k».proof.Proof.Gen.RetOut.Frame
public import proofs.«01_k».proof.Proof.Gen.RetDout.Frame
public import proofs.«01_k».proof.Proof.Gen.Adam.Frame
public import proofs.«01_k».proof.Proof.Gen.CtxNorm.Frame
public import proofs.«01_k».proof.Proof.Gen.CtxGate.Frame
public import proofs.«01_k».proof.Proof.Gen.CtxNormBwd.Frame
public import proofs.«01_k».proof.Proof.Gen.MixcNormBwd.Frame
public import proofs.«01_k».proof.Proof.Gen.Loss.Frame
public import proofs.«01_k».proof.Proof.Gen.Fwd.Frame
public import proofs.«01_k».proof.Proof.Gen.FwdIdeal.Value
public import proofs.«01_k».proof.Proof.Gen.FwdRefIdeal.Run
public import proofs.«01_k».proof.Proof.AttnRef
public import proofs.«01_k».proof.Proof.AttnFinite
public import proofs.«01_k».proof.Proof.AttnArr
public import proofs.«01_k».proof.Proof.AttnWord
public import proofs.«01_k».proof.Proof.FfnClaims
public import proofs.«01_k».proof.Proof.MixClaims
public import proofs.«01_k».proof.Proof.UpClaims
public import proofs.«01_k».proof.Proof.CtxClaims
public import proofs.«01_k».proof.Proof.AdaClaims
public import proofs.«01_k».proof.Proof.RowClaims
public import proofs.«01_k».proof.Proof.StepClaims
public import proofs.«01_k».proof.Proof.HeadClaims
public import proofs.«01_k».proof.Proof.FwdClaims
public import Idealize.ShloMosaic.Adequacy
public import Idealize.ShloMosaic.Init

@[expose] public section

noncomputable section

namespace Cert.Proof

open Idealize.ShloMosaic Idealize.ShloMosaic.TcCoe Idealize.SL.Sem Cert.Kernel

/-- The kernel's constants are the words of the numbers that name them. -/
theorem preserves : preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "scale_log2e" .f32 0x3DD53B95#32 (((Real.sqrt 192)⁻¹ * (Real.log 2)⁻¹ : ℝ) : EReal) rfl,
    IdealRules.named_const.statement Cert.KernelIdeal.κ "scale" .f32 0x3D93CD3A#32 (((Real.sqrt 192)⁻¹ : ℝ) : EReal) rfl⟩

/-- The arguments under the precondition are arrays of reals. -/
theorem reals {m : (ℓ : Loc KernelIdeal.nD KernelIdeal.τ KernelIdeal.sig) → Buf (Elt Ideal) ℓ} (h : Pre_KernelIdeal_finite m) (c : Dev KernelIdeal.nD) :
    ∃ q k v g, KernelIdeal.Attn.Args q k v g (m (c, KernelIdeal.main_arg0)) (m (c, KernelIdeal.main_arg1)) (m (c, KernelIdeal.main_arg2))
      (m (c, KernelIdeal.main_arg3)) :=
  KernelIdeal.Attn.args_of_real (Pre_finite.real0 (h c).1) (Pre_finite.real1 (h c).2.1) (Pre_finite.real2 (h c).2.2.1) (Pre_finite.real3 (h c).2.2.2)

/-- The kernel's three gradients are the reference's. -/
theorem values : algebraic_KernelIdeal_ReferenceIdeal_pre_finite := fun m ρ m' ρ' hp ha =>
  ⟨_, _, _, KernelIdeal.Attn.run_value m ρ (reals hp),
    (θ_run ReferenceIdeal.defs _ _).mono (fun r h c => by
      obtain ⟨h0, h1, h2, hr⟩ := h c
      obtain ⟨a0, a1, a2, a3⟩ := ha c
      rw [a0, a1, a2, a3] at h0
      rw [a0, a1, a2, a3] at h1
      rw [a0, a1, a3] at h2
      exact ⟨h0, h1, h2, hr⟩) (ReferenceIdeal.Attn.run_named m' ρ')⟩

/-- The reference ends with its arguments unchanged and every counter at zero. -/
theorem reference_frame : quiescent_ReferenceIdeal := fun m ρ _ =>
  (θ_run ReferenceIdeal.defs _ _).mono (fun r h => ⟨fun c => (h c).2.2.2, sem_eq_zero_of_no_sems (by decide) r.2⟩) (ReferenceIdeal.Attn.run_named m ρ)

theorem claim : Cert.Claim := ⟨Cert.Kernel.Gen.facts, Cert.KernelIdeal.Gen.facts, Cert.ReferenceIdeal.Gen.facts,
  Cert.In.Gen.facts, Cert.InIdeal.Gen.facts, Cert.InRefIdeal.Gen.facts,
  Cert.Out.Gen.facts, Cert.OutIdeal.Gen.facts, Cert.OutRefIdeal.Gen.facts,
  Cert.Da.Gen.facts, Cert.DaIdeal.Gen.facts, Cert.DaRefIdeal.Gen.facts,
  Cert.Dwout.Gen.facts, Cert.DwoutIdeal.Gen.facts, Cert.DwoutRefIdeal.Gen.facts,
  Cert.DwoutAdd.Gen.facts, Cert.DwoutAddIdeal.Gen.facts, Cert.DwoutAddRefIdeal.Gen.facts,
  Cert.Dh.Gen.facts, Cert.DhIdeal.Gen.facts, Cert.DhRefIdeal.Gen.facts,
  Cert.Dwin.Gen.facts, Cert.DwinIdeal.Gen.facts, Cert.DwinRefIdeal.Gen.facts,
  Cert.DwinAdd.Gen.facts, Cert.DwinAddIdeal.Gen.facts, Cert.DwinAddRefIdeal.Gen.facts,
  Cert.MixMm.Gen.facts, Cert.MixMmIdeal.Gen.facts, Cert.MixMmRefIdeal.Gen.facts,
  Cert.MixDh.Gen.facts, Cert.MixDhIdeal.Gen.facts, Cert.MixDhRefIdeal.Gen.facts,
  Cert.MixDw.Gen.facts, Cert.MixDwIdeal.Gen.facts, Cert.MixDwRefIdeal.Gen.facts,
  Cert.MixoMm.Gen.facts, Cert.MixoMmIdeal.Gen.facts, Cert.MixoMmRefIdeal.Gen.facts,
  Cert.MixoDa.Gen.facts, Cert.MixoDaIdeal.Gen.facts, Cert.MixoDaRefIdeal.Gen.facts,
  Cert.MixoDw.Gen.facts, Cert.MixoDwIdeal.Gen.facts, Cert.MixoDwRefIdeal.Gen.facts,
  Cert.UqMm.Gen.facts, Cert.UqMmIdeal.Gen.facts, Cert.UqMmRefIdeal.Gen.facts,
  Cert.UqDh.Gen.facts, Cert.UqDhIdeal.Gen.facts, Cert.UqDhRefIdeal.Gen.facts,
  Cert.UqDw.Gen.facts, Cert.UqDwIdeal.Gen.facts, Cert.UqDwRefIdeal.Gen.facts,
  Cert.UkvMm.Gen.facts, Cert.UkvMmIdeal.Gen.facts, Cert.UkvMmRefIdeal.Gen.facts,
  Cert.UkvDh.Gen.facts, Cert.UkvDhIdeal.Gen.facts, Cert.UkvDhRefIdeal.Gen.facts,
  Cert.UkvDw.Gen.facts, Cert.UkvDwIdeal.Gen.facts, Cert.UkvDwRefIdeal.Gen.facts,
  Cert.CtxIn.Gen.facts, Cert.CtxInIdeal.Gen.facts, Cert.CtxInRefIdeal.Gen.facts,
  Cert.CtxOut.Gen.facts, Cert.CtxOutIdeal.Gen.facts, Cert.CtxOutRefIdeal.Gen.facts,
  Cert.CtxDa.Gen.facts, Cert.CtxDaIdeal.Gen.facts, Cert.CtxDaRefIdeal.Gen.facts,
  Cert.CtxDwout.Gen.facts, Cert.CtxDwoutIdeal.Gen.facts, Cert.CtxDwoutRefIdeal.Gen.facts,
  Cert.CtxDh.Gen.facts, Cert.CtxDhIdeal.Gen.facts, Cert.CtxDhRefIdeal.Gen.facts,
  Cert.CtxDwin.Gen.facts, Cert.CtxDwinIdeal.Gen.facts, Cert.CtxDwinRefIdeal.Gen.facts,
  Cert.MixcMm.Gen.facts, Cert.MixcMmIdeal.Gen.facts, Cert.MixcMmRefIdeal.Gen.facts,
  Cert.MixcDh.Gen.facts, Cert.MixcDhIdeal.Gen.facts, Cert.MixcDhRefIdeal.Gen.facts,
  Cert.MixcDw.Gen.facts, Cert.MixcDwIdeal.Gen.facts, Cert.MixcDwRefIdeal.Gen.facts,
  Cert.UkvcMm.Gen.facts, Cert.UkvcMmIdeal.Gen.facts, Cert.UkvcMmRefIdeal.Gen.facts,
  Cert.UkvcDh.Gen.facts, Cert.UkvcDhIdeal.Gen.facts, Cert.UkvcDhRefIdeal.Gen.facts,
  Cert.UkvcDw.Gen.facts, Cert.UkvcDwIdeal.Gen.facts, Cert.UkvcDwRefIdeal.Gen.facts,
  Cert.AdaMm.Gen.facts, Cert.AdaMmIdeal.Gen.facts, Cert.AdaMmRefIdeal.Gen.facts,
  Cert.AdaDa.Gen.facts, Cert.AdaDaIdeal.Gen.facts, Cert.AdaDaRefIdeal.Gen.facts,
  Cert.AdaDw.Gen.facts, Cert.AdaDwIdeal.Gen.facts, Cert.AdaDwRefIdeal.Gen.facts,
  Cert.Norm.Gen.facts, Cert.NormIdeal.Gen.facts, Cert.NormRefIdeal.Gen.facts,
  Cert.Gate.Gen.facts, Cert.GateIdeal.Gen.facts, Cert.GateRefIdeal.Gen.facts,
  Cert.GateMix.Gen.facts, Cert.GateMixIdeal.Gen.facts, Cert.GateMixRefIdeal.Gen.facts,
  Cert.Delta.Gen.facts, Cert.DeltaIdeal.Gen.facts, Cert.DeltaRefIdeal.Gen.facts,
  Cert.NormBwd.Gen.facts, Cert.NormBwdIdeal.Gen.facts, Cert.NormBwdRefIdeal.Gen.facts,
  Cert.RetOut.Gen.facts, Cert.RetOutIdeal.Gen.facts, Cert.RetOutRefIdeal.Gen.facts,
  Cert.RetDout.Gen.facts, Cert.RetDoutIdeal.Gen.facts, Cert.RetDoutRefIdeal.Gen.facts,
  Cert.Adam.Gen.facts, Cert.AdamIdeal.Gen.facts, Cert.AdamRefIdeal.Gen.facts,
  Cert.CtxNorm.Gen.facts, Cert.CtxNormIdeal.Gen.facts, Cert.CtxNormRefIdeal.Gen.facts,
  Cert.CtxGate.Gen.facts, Cert.CtxGateIdeal.Gen.facts, Cert.CtxGateRefIdeal.Gen.facts,
  Cert.CtxNormBwd.Gen.facts, Cert.CtxNormBwdIdeal.Gen.facts, Cert.CtxNormBwdRefIdeal.Gen.facts,
  Cert.MixcNormBwd.Gen.facts, Cert.MixcNormBwdIdeal.Gen.facts, Cert.MixcNormBwdRefIdeal.Gen.facts,
  Cert.Loss.Gen.facts, Cert.LossIdeal.Gen.facts, Cert.LossRefIdeal.Gen.facts,
  Cert.Fwd.Gen.facts, Cert.FwdIdeal.Gen.facts, Cert.FwdRefIdeal.Gen.facts,
  Cert.Pre_finite.facts, Cert.Pre_finite_in.facts, Cert.Pre_finite_da.facts, Cert.Pre_finite_ctx_in.facts, Cert.Pre_finite_ctx_da.facts, Cert.Pre_finite_qk.facts,
  Kernel.Attn.frame, fun m ρ _ => KernelIdeal.Attn.frame m ρ, fun m ρ _ => KernelIdeal.Attn.frame m ρ, reference_frame, fun m ρ _ => reference_frame m ρ trivial,
  fun m ρ _ => In.Gen.frame m ρ, fun m ρ _ => InIdeal.Gen.frame m ρ, fun m ρ _ => InIdeal.Gen.frame m ρ, FfnClaims.ends_in, fun m ρ _ => FfnClaims.ends_in m ρ trivial,
  fun m ρ _ => Out.Gen.frame m ρ, fun m ρ _ => OutIdeal.Gen.frame m ρ, FfnClaims.ends_out,
  fun m ρ _ => Da.Gen.frame m ρ, fun m ρ _ => DaIdeal.Gen.frame m ρ, fun m ρ _ => DaIdeal.Gen.frame m ρ, FfnClaims.ends_da, fun m ρ _ => FfnClaims.ends_da m ρ trivial,
  fun m ρ _ => Dwout.Gen.frame m ρ, fun m ρ _ => DwoutIdeal.Gen.frame m ρ, FfnClaims.ends_dwout,
  fun m ρ _ => DwoutAdd.Gen.frame m ρ, fun m ρ _ => DwoutAddIdeal.Gen.frame m ρ, FfnClaims.ends_dwout_add,
  fun m ρ _ => Dh.Gen.frame m ρ, fun m ρ _ => DhIdeal.Gen.frame m ρ, FfnClaims.ends_dh,
  fun m ρ _ => Dwin.Gen.frame m ρ, fun m ρ _ => DwinIdeal.Gen.frame m ρ, FfnClaims.ends_dwin,
  fun m ρ _ => DwinAdd.Gen.frame m ρ, fun m ρ _ => DwinAddIdeal.Gen.frame m ρ, FfnClaims.ends_dwin_add,
  fun m ρ _ => MixMm.Gen.frame m ρ, fun m ρ _ => MixMmIdeal.Gen.frame m ρ, MixClaims.ends_mm,
  fun m ρ _ => MixDh.Gen.frame m ρ, fun m ρ _ => MixDhIdeal.Gen.frame m ρ, MixClaims.ends_dh,
  fun m ρ _ => MixDw.Gen.frame m ρ, fun m ρ _ => MixDwIdeal.Gen.frame m ρ, MixClaims.ends_dw,
  fun m ρ _ => MixoMm.Gen.frame m ρ, fun m ρ _ => MixoMmIdeal.Gen.frame m ρ, MixClaims.ends_out,
  fun m ρ _ => MixoDa.Gen.frame m ρ, fun m ρ _ => MixoDaIdeal.Gen.frame m ρ, MixClaims.ends_out_da,
  fun m ρ _ => MixoDw.Gen.frame m ρ, fun m ρ _ => MixoDwIdeal.Gen.frame m ρ, MixClaims.ends_out_dw,
  fun m ρ _ => UqMm.Gen.frame m ρ, fun m ρ _ => UqMmIdeal.Gen.frame m ρ, UpClaims.ends_q_mm,
  fun m ρ _ => UqDh.Gen.frame m ρ, fun m ρ _ => UqDhIdeal.Gen.frame m ρ, UpClaims.ends_q_dh,
  fun m ρ _ => UqDw.Gen.frame m ρ, fun m ρ _ => UqDwIdeal.Gen.frame m ρ, UpClaims.ends_q_dw,
  fun m ρ _ => UkvMm.Gen.frame m ρ, fun m ρ _ => UkvMmIdeal.Gen.frame m ρ, UpClaims.ends_kv_mm,
  fun m ρ _ => UkvDh.Gen.frame m ρ, fun m ρ _ => UkvDhIdeal.Gen.frame m ρ, UpClaims.ends_kv_dh,
  fun m ρ _ => UkvDw.Gen.frame m ρ, fun m ρ _ => UkvDwIdeal.Gen.frame m ρ, UpClaims.ends_kv_dw,
  fun m ρ _ => CtxIn.Gen.frame m ρ, fun m ρ _ => CtxInIdeal.Gen.frame m ρ, fun m ρ _ => CtxInIdeal.Gen.frame m ρ, CtxClaims.ends_in, fun m ρ _ => CtxClaims.ends_in m ρ trivial,
  fun m ρ _ => CtxOut.Gen.frame m ρ, fun m ρ _ => CtxOutIdeal.Gen.frame m ρ, CtxClaims.ends_out,
  fun m ρ _ => CtxDa.Gen.frame m ρ, fun m ρ _ => CtxDaIdeal.Gen.frame m ρ, fun m ρ _ => CtxDaIdeal.Gen.frame m ρ, CtxClaims.ends_da, fun m ρ _ => CtxClaims.ends_da m ρ trivial,
  fun m ρ _ => CtxDwout.Gen.frame m ρ, fun m ρ _ => CtxDwoutIdeal.Gen.frame m ρ, CtxClaims.ends_dwout,
  fun m ρ _ => CtxDh.Gen.frame m ρ, fun m ρ _ => CtxDhIdeal.Gen.frame m ρ, CtxClaims.ends_dh,
  fun m ρ _ => CtxDwin.Gen.frame m ρ, fun m ρ _ => CtxDwinIdeal.Gen.frame m ρ, CtxClaims.ends_dwin,
  fun m ρ _ => MixcMm.Gen.frame m ρ, fun m ρ _ => MixcMmIdeal.Gen.frame m ρ, CtxClaims.ends_mix_mm,
  fun m ρ _ => MixcDh.Gen.frame m ρ, fun m ρ _ => MixcDhIdeal.Gen.frame m ρ, CtxClaims.ends_mix_dh,
  fun m ρ _ => MixcDw.Gen.frame m ρ, fun m ρ _ => MixcDwIdeal.Gen.frame m ρ, CtxClaims.ends_mix_dw,
  fun m ρ _ => UkvcMm.Gen.frame m ρ, fun m ρ _ => UkvcMmIdeal.Gen.frame m ρ, CtxClaims.ends_kv_mm,
  fun m ρ _ => UkvcDh.Gen.frame m ρ, fun m ρ _ => UkvcDhIdeal.Gen.frame m ρ, CtxClaims.ends_kv_dh,
  fun m ρ _ => UkvcDw.Gen.frame m ρ, fun m ρ _ => UkvcDwIdeal.Gen.frame m ρ, CtxClaims.ends_kv_dw,
  fun m ρ _ => AdaMm.Gen.frame m ρ, fun m ρ _ => AdaMmIdeal.Gen.frame m ρ, AdaClaims.ends_mm,
  fun m ρ _ => AdaDa.Gen.frame m ρ, fun m ρ _ => AdaDaIdeal.Gen.frame m ρ, AdaClaims.ends_da,
  fun m ρ _ => AdaDw.Gen.frame m ρ, fun m ρ _ => AdaDwIdeal.Gen.frame m ρ, AdaClaims.ends_dw,
  fun m ρ _ => Norm.Gen.frame m ρ, fun m ρ _ => NormIdeal.Gen.frame m ρ, RowClaims.ends_norm,
  fun m ρ _ => Gate.Gen.frame m ρ, fun m ρ _ => GateIdeal.Gen.frame m ρ, RowClaims.ends_gate,
  fun m ρ _ => GateMix.Gen.frame m ρ, fun m ρ _ => GateMixIdeal.Gen.frame m ρ, RowClaims.ends_gate_mix,
  fun m ρ _ => Delta.Gen.frame m ρ, fun m ρ _ => DeltaIdeal.Gen.frame m ρ, RowClaims.ends_delta,
  fun m ρ _ => NormBwd.Gen.frame m ρ, fun m ρ _ => NormBwdIdeal.Gen.frame m ρ, StepClaims.ends_norm_bwd,
  fun m ρ _ => RetOut.Gen.frame m ρ, fun m ρ _ => RetOutIdeal.Gen.frame m ρ, StepClaims.ends_ret_out,
  fun m ρ _ => RetDout.Gen.frame m ρ, fun m ρ _ => RetDoutIdeal.Gen.frame m ρ, StepClaims.ends_ret_dout,
  fun m ρ _ => Adam.Gen.frame m ρ, fun m ρ _ => AdamIdeal.Gen.frame m ρ, StepClaims.ends_adam,
  fun m ρ _ => CtxNorm.Gen.frame m ρ, fun m ρ _ => CtxNormIdeal.Gen.frame m ρ, HeadClaims.ends_ctx_norm,
  fun m ρ _ => CtxGate.Gen.frame m ρ, fun m ρ _ => CtxGateIdeal.Gen.frame m ρ, HeadClaims.ends_ctx_gate,
  fun m ρ _ => CtxNormBwd.Gen.frame m ρ, fun m ρ _ => CtxNormBwdIdeal.Gen.frame m ρ, HeadClaims.ends_ctx_norm_bwd,
  fun m ρ _ => MixcNormBwd.Gen.frame m ρ, fun m ρ _ => MixcNormBwdIdeal.Gen.frame m ρ, HeadClaims.ends_mixc_norm_bwd,
  fun m ρ _ => Loss.Gen.frame m ρ, fun m ρ _ => LossIdeal.Gen.frame m ρ, HeadClaims.ends_loss,
  fun m ρ _ => Fwd.Gen.frame m ρ, fun m ρ _ => FwdIdeal.Gen.frame m ρ, fun m ρ _ => FwdIdeal.Gen.frame m ρ, FwdClaims.ends, fun m ρ _ => FwdClaims.ends m ρ trivial,
  preserves, values,
  trivial, FfnClaims.values_in, trivial, FfnClaims.values_out,
  trivial, FfnClaims.values_da, trivial, FfnClaims.values_dwout,
  trivial, FfnClaims.values_dwout_add, trivial, FfnClaims.values_dh,
  trivial, FfnClaims.values_dwin, trivial, FfnClaims.values_dwin_add,
  trivial, MixClaims.values_mm, trivial, MixClaims.values_dh,
  trivial, MixClaims.values_dw, trivial, MixClaims.values_out,
  trivial, MixClaims.values_out_da, trivial, MixClaims.values_out_dw,
  trivial, UpClaims.values_q_mm, trivial, UpClaims.values_q_dh,
  trivial, UpClaims.values_q_dw, trivial, UpClaims.values_kv_mm,
  trivial, UpClaims.values_kv_dh, trivial, UpClaims.values_kv_dw,
  trivial, CtxClaims.values_in,
  trivial, CtxClaims.values_out,
  trivial, CtxClaims.values_da,
  trivial, CtxClaims.values_dwout,
  trivial, CtxClaims.values_dh,
  trivial, CtxClaims.values_dwin,
  trivial, CtxClaims.values_mix_mm,
  trivial, CtxClaims.values_mix_dh,
  trivial, CtxClaims.values_mix_dw,
  trivial, CtxClaims.values_kv_mm,
  trivial, CtxClaims.values_kv_dh,
  trivial, CtxClaims.values_kv_dw,
  trivial, AdaClaims.values_mm,
  trivial, AdaClaims.values_da,
  trivial, AdaClaims.values_dw,
  trivial, RowClaims.values_norm,
  trivial, RowClaims.values_gate,
  trivial, RowClaims.values_gate_mix,
  trivial, RowClaims.values_delta,
  trivial, StepClaims.values_norm_bwd,
  trivial, StepClaims.values_ret_out,
  trivial, StepClaims.values_ret_dout,
  trivial, StepClaims.values_adam,
  trivial, HeadClaims.values_ctx_norm,
  trivial, HeadClaims.values_ctx_gate,
  trivial, HeadClaims.values_ctx_norm_bwd,
  trivial, HeadClaims.values_mixc_norm_bwd,
  trivial, HeadClaims.values_loss,
  FwdClaims.preserves, FwdClaims.values⟩

end Cert.Proof

end
